-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_segments : Cert.Pre_sorted_segments.Facts) (hPre_well_formed : Cert.Pre_well_formed.Facts),
    quiescent_Kernel (hKernel := hKernel) (hPre_sorted_segments := hPre_sorted_segments)
    ∧ quiescent_KernelIdeal (hKernelIdeal := hKernelIdeal) (hPre_sorted_segments := hPre_sorted_segments)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_sorted_segments.lean ====
abbrev S3x32768x2048 : Shape := ⟨3, ![3, 32768, 2048]⟩
abbrev S3x16x32768 : Shape := ⟨3, ![3, 16, 32768]⟩
abbrev S3x2x32768x128 : Shape := ⟨4, ![3, 2, 32768, 128]⟩
abbrev S3x2x128x32768 : Shape := ⟨4, ![3, 2, 128, 32768]⟩
abbrev S3x2x1x128 : Shape := ⟨4, ![3, 2, 1, 128]⟩
abbrev S3x32768 : Shape := ⟨2, ![3, 32768]⟩
abbrev S3x32767 : Shape := ⟨2, ![3, 32767]⟩

class Facts : Prop where
  slices_S3x32768_S3x32767_0_1 : S3x32768.Slices ![0, 1] S3x32767
  slices_S3x32768_S3x32767_0_0 : S3x32768.Slices ![0, 0] S3x32767

variable [Facts]

def fn {F : FTy → Type} [FloatOps F] (main_arg0 : FVec F S3x32768x2048 .fp8e4m3) (main_arg1 : FVec F S3x16x32768 .f32) (main_arg2 : FVec F S3x2x32768x128 .fp8e4m3) (main_arg3 : FVec F S3x2x32768x128 .f32) (main_arg4 : FVec F S3x2x128x32768 .fp8e4m3) (main_arg5 : FVec F S3x2x1x128 .f32) (main_arg6 : IVec S3x32768 32) (main_arg7 : IVec S3x32768 1) : IVec S3x32767 1 :=
  let main_v0 : IVec S3x32767 32 := (extractStridedSlice S3x32767 ![0, 1] · slices_S3x32768_S3x32767_0_1) main_arg6
  let main_v1 : IVec S3x32767 32 := (extractStridedSlice S3x32767 ![0, 0] · slices_S3x32768_S3x32767_0_0) main_arg6
  let main_v2 : IVec S3x32767 1 := cmpi .sge main_v0 main_v1
  main_v2
-- ==== Pre_well_formed.lean ====
abbrev S3x32768x2048 : Shape := ⟨3, ![3, 32768, 2048]⟩
abbrev S3x16x32768 : Shape := ⟨3, ![3, 16, 32768]⟩
abbrev S3x2x32768x128 : Shape := ⟨4, ![3, 2, 32768, 128]⟩
abbrev S3x2x128x32768 : Shape := ⟨4, ![3, 2, 128, 32768]⟩
abbrev S3x2x1x128 : Shape := ⟨4, ![3, 2, 1, 128]⟩
abbrev S3x32768 : Shape := ⟨2, ![3, 32768]⟩
abbrev S3x32767 : Shape := ⟨2, ![3, 32767]⟩
abbrev S_ : Shape := ⟨0, ![]⟩
abbrev S3x2x32768x1 : Shape := ⟨4, ![3, 2, 32768, 1]⟩

class Facts : Prop where
  slices_S3x32768_S3x32767_0_1 : S3x32768.Slices ![0, 1] S3x32767
  slices_S3x32768_S3x32767_0_0 : S3x32768.Slices ![0, 0] S3x32767
  bcast_S_S3x32768 : S_.BroadcastsInDim S3x32768 (![] : Fin 0 → Fin S3x32768.rank)
  bcast_S_S3x16x32768 : S_.BroadcastsInDim S3x16x32768 (![] : Fin 0 → Fin S3x16x32768.rank)
  slices_S3x2x32768x128_S3x2x32768x1_0_0_0_0 : S3x2x32768x128.Slices ![0, 0, 0, 0] S3x2x32768x1
  bcast_S3x2x32768x1_S3x2x32768x128_0_1_2_3 : S3x2x32768x1.BroadcastsInDim S3x2x32768x128 (![0, 1, 2, 3] : Fin 4 → Fin S3x2x32768x128.rank)

variable [Facts]

def fn_part1 {F : FTy → Type} [FloatOps F] (main_arg3 : FVec F S3x2x32768x128 .f32) (main_v2 : IVec S3x32767 1) (main_v7 : IVec S3x32768 1) (main_v15 : IVec S3x32767 1) (main_v17 : IVec S3x16x32768 1) (main_v19 : IVec S3x16x32768 1) : IVec S3x32767 1 × IVec S3x32768 1 × IVec S3x32767 1 × IVec S3x16x32768 1 × IVec S3x2x32768x128 1 :=
  let main_v20 : IVec S3x16x32768 1 := andi main_v17 main_v19
  let main_v21 : FVec F S3x2x32768x1 .f32 := (extractStridedSlice S3x2x32768x1 ![0, 0, 0, 0] · slices_S3x2x32768x128_S3x2x32768x1_0_0_0_0) main_arg3
  let main_v22 : FVec F S3x2x32768x128 .f32 := broadcastInDim S3x2x32768x128 ![0, 1, 2, 3] bcast_S3x2x32768x1_S3x2x32768x128_0_1_2_3 main_v21
  let main_v23 : IVec S3x2x32768x128 1 := cmpf .oeq main_arg3 main_v22
  (main_v2, main_v7, main_v15, main_v20, main_v23)

def fn {F : FTy → Type} [FloatOps F] (main_arg0 : FVec F S3x32768x2048 .fp8e4m3) (main_arg1 : FVec F S3x16x32768 .f32) (main_arg2 : FVec F S3x2x32768x128 .fp8e4m3) (main_arg3 : FVec F S3x2x32768x128 .f32) (main_arg4 : FVec F S3x2x128x32768 .fp8e4m3) (main_arg5 : FVec F S3x2x1x128 .f32) (main_arg6 : IVec S3x32768 32) (main_arg7 : IVec S3x32768 1) : IVec S3x32767 1 × IVec S3x32768 1 × IVec S3x32767 1 × IVec S3x16x32768 1 × IVec S3x2x32768x128 1 :=
  let main_v0 : IVec S3x32767 32 := (extractStridedSlice S3x32767 ![0, 1] · slices_S3x32768_S3x32767_0_1) main_arg6
  let main_v1 : IVec S3x32767 32 := (extractStridedSlice S3x32767 ![0, 0] · slices_S3x32768_S3x32767_0_0) main_arg6
  let main_v2 : IVec S3x32767 1 := cmpi .sge main_v0 main_v1
  let main_c : IVec S_ 32 := constantI S_ 32 0#32
  let main_v3 : IVec S3x32768 32 := broadcastInDim S3x32768 ![] bcast_S_S3x32768 main_c
  let main_v4 : IVec S3x32768 1 := cmpi .sge main_arg6 main_v3
  let main_c_0 : IVec S_ 32 := constantI S_ 32 8#32
  let main_v5 : IVec S3x32768 32 := broadcastInDim S3x32768 ![] bcast_S_S3x32768 main_c_0
  let main_v6 : IVec S3x32768 1 := cmpi .slt main_arg6 main_v5
  let main_v7 : IVec S3x32768 1 := andi main_v4 main_v6
  let main_v8 : IVec S3x32767 1 := (extractStridedSlice S3x32767 ![0, 1] · slices_S3x32768_S3x32767_0_1) main_arg7
  let main_v9 : IVec S3x32767 1 := noti main_v8
  let main_v10 : IVec S3x32767 1 := (extractStridedSlice S3x32767 ![0, 0] · slices_S3x32768_S3x32767_0_0) main_arg7
  let main_v11 : IVec S3x32767 1 := ori main_v9 main_v10
  let main_v12 : IVec S3x32767 32 := (extractStridedSlice S3x32767 ![0, 1] · slices_S3x32768_S3x32767_0_1) main_arg6
  let main_v13 : IVec S3x32767 32 := (extractStridedSlice S3x32767 ![0, 0] · slices_S3x32768_S3x32767_0_0) main_arg6
  let main_v14 : IVec S3x32767 1 := cmpi .ne main_v12 main_v13
  let main_v15 : IVec S3x32767 1 := ori main_v11 main_v14
  let main_cst : FVec F S_ .f32 := constant S_ .f32 0x00000000#32
  let main_v16 : FVec F S3x16x32768 .f32 := broadcastInDim S3x16x32768 ![] bcast_S_S3x16x32768 main_cst
  let main_v17 : IVec S3x16x32768 1 := cmpf .ogt main_arg1 main_v16
  let main_cst_1 : FVec F S_ .f32 := constant S_ .f32 0x7F800000#32
  let main_v18 : FVec F S3x16x32768 .f32 := broadcastInDim S3x16x32768 ![] bcast_S_S3x16x32768 main_cst_1
  let main_v19 : IVec S3x16x32768 1 := cmpf .olt main_arg1 main_v18
  fn_part1 (F := F) main_arg3 main_v2 main_v7 main_v15 main_v17 main_v19
-- ==== Kernel.lean ====
abbrev S3x32768x2048 : Shape := ⟨3, ![3, 32768, 2048]⟩
abbrev S3x16x32768 : Shape := ⟨3, ![3, 16, 32768]⟩
abbrev S3x2x32768x128 : Shape := ⟨4, ![3, 2, 32768, 128]⟩
abbrev S3x2x128x32768 : Shape := ⟨4, ![3, 2, 128, 32768]⟩
abbrev S3x2x1x128 : Shape := ⟨4, ![3, 2, 1, 128]⟩
abbrev S3x32768 : Shape := ⟨2, ![3, 32768]⟩
abbrev S8 : Shape := ⟨1, ![8]⟩
abbrev S3x1x32768 : Shape := ⟨3, ![3, 1, 32768]⟩
abbrev S1x8x1 : Shape := ⟨3, ![1, 8, 1]⟩
abbrev S3x8x32768 : Shape := ⟨3, ![3, 8, 32768]⟩
abbrev S_ : Shape := ⟨0, ![]⟩
abbrev S3x8 : Shape := ⟨2, ![3, 8]⟩
abbrev S3x8x1 : Shape := ⟨3, ![3, 8, 1]⟩
abbrev S32768 : Shape := ⟨1, ![32768]⟩
abbrev S1x32768 : Shape := ⟨2, ![1, 32768]⟩
abbrev S3x128x256 : Shape := ⟨3, ![3, 128, 256]⟩
abbrev S3x128x1 : Shape := ⟨3, ![3, 128, 1]⟩
abbrev S3x128 : Shape := ⟨2, ![3, 128]⟩
abbrev S3x128x4 : Shape := ⟨3, ![3, 128, 4]⟩
abbrev S1x256x1024 : Shape := ⟨3, ![1, 256, 1024]⟩
abbrev S1x8x256 : Shape := ⟨3, ![1, 8, 256]⟩
abbrev S1x1x32768x128 : Shape := ⟨4, ![1, 1, 32768, 128]⟩
abbrev S1x1x128x32768 : Shape := ⟨4, ![1, 1, 128, 32768]⟩
abbrev S1x1x1x128 : Shape := ⟨4, ![1, 1, 1, 128]⟩
abbrev S1x1x256 : Shape := ⟨3, ![1, 1, 256]⟩
abbrev S32768x256 : Shape := ⟨2, ![32768, 256]⟩
abbrev S1x1x1 : Shape := ⟨3, ![1, 1, 1]⟩
abbrev S1x256 : Shape := ⟨2, ![1, 256]⟩
abbrev S1x256x128 : Shape := ⟨3, ![1, 256, 128]⟩
abbrev S256x128 : Shape := ⟨2, ![256, 128]⟩
abbrev S8x256 : Shape := ⟨2, ![8, 256]⟩
abbrev S1x1x256x128 : Shape := ⟨4, ![1, 1, 256, 128]⟩
abbrev S256x256 : Shape := ⟨2, ![256, 256]⟩
abbrev S32x8x256 : Shape := ⟨3, ![32, 8, 256]⟩
abbrev S1x1x1024x128 : Shape := ⟨4, ![1, 1, 1024, 128]⟩
abbrev S1024x128 : Shape := ⟨2, ![1024, 128]⟩
abbrev S1024x256 : Shape := ⟨2, ![1024, 256]⟩
abbrev S128x8x256 : Shape := ⟨3, ![128, 8, 256]⟩
abbrev S256 : Shape := ⟨1, ![256]⟩
abbrev S128x256 : Shape := ⟨2, ![128, 256]⟩
abbrev S1x1x128x1024 : Shape := ⟨4, ![1, 1, 128, 1024]⟩
abbrev S128x1024 : Shape := ⟨2, ![128, 1024]⟩
abbrev S1x1x128x256 : Shape := ⟨4, ![1, 1, 128, 256]⟩
abbrev S1x128 : Shape := ⟨2, ![1, 128]⟩
abbrev S128x1 : Shape := ⟨2, ![128, 1]⟩

abbrev nBuf : Space → Nat
  | .hbm => 155
  | .vmem => 17
  | .smem => 1
  | _ => 0

abbrev hbmTy0_0 (i : Nat) : BufTy := match i % 128 with
  | 0 => ⟨S3x32768x2048, .fp8e4m3⟩
  | 1 => ⟨S3x16x32768, .f32⟩
  | 2 => ⟨S3x2x32768x128, .fp8e4m3⟩
  | 3 => ⟨S3x2x32768x128, .f32⟩
  | 4 => ⟨S3x2x128x32768, .fp8e4m3⟩
  | 5 => ⟨S3x2x1x128, .f32⟩
  | 6 => ⟨S3x32768, .i32⟩
  | 7 => ⟨S3x32768, .i1⟩
  | 8 => ⟨S8, .i32⟩
  | 9 => ⟨S3x1x32768, .i32⟩
  | 10 => ⟨S1x8x1, .i32⟩
  | 11 => ⟨S3x8x32768, .i32⟩
  | 12 => ⟨S3x8x32768, .i32⟩
  | 13 => ⟨S3x8x32768, .i1⟩
  | 14 => ⟨S3x1x32768, .i32⟩
  | 15 => ⟨S1x8x1, .i32⟩
  | 16 => ⟨S3x8x32768, .i32⟩
  | 17 => ⟨S3x8x32768, .i32⟩
  | 18 => ⟨S3x8x32768, .i1⟩
  | 19 => ⟨S3x8x32768, .i32⟩
  | 20 => ⟨S_, .i32⟩
  | 21 => ⟨S3x8, .i32⟩
  | 22 => ⟨S3x1x32768, .i1⟩
  | 23 => ⟨S3x8x32768, .i1⟩
  | 24 => ⟨S3x8x32768, .i1⟩
  | 25 => ⟨S3x8x32768, .i32⟩
  | 26 => ⟨S_, .i32⟩
  | 27 => ⟨S3x8, .i32⟩
  | 28 => ⟨S3x8, .i32⟩
  | 29 => ⟨S3x8x1, .i32⟩
  | 30 => ⟨S_, .i32⟩
  | 31 => ⟨S_, .i32⟩
  | 32 => ⟨S3x8x32768, .i32⟩
  | 33 => ⟨S3x8x32768, .i32⟩
  | 34 => ⟨S3x8x32768, .i32⟩
  | 35 => ⟨S_, .i32⟩
  | 36 => ⟨S3x32768, .i32⟩
  | 37 => ⟨S3x8x1, .i32⟩
  | 38 => ⟨S_, .i32⟩
  | 39 => ⟨S3x8x1, .i32⟩
  | 40 => ⟨S3x8x1, .i32⟩
  | 41 => ⟨S_, .i32⟩
  | 42 => ⟨S_, .i32⟩
  | 43 => ⟨S3x8x32768, .i32⟩
  | 44 => ⟨S3x8x32768, .i32⟩
  | 45 => ⟨S3x8x32768, .i32⟩
  | 46 => ⟨S_, .i32⟩
  | 47 => ⟨S3x32768, .i32⟩
  | 48 => ⟨S32768, .i32⟩
  | 49 => ⟨S1x32768, .i32⟩
  | 50 => ⟨S3x32768, .i32⟩
  | 51 => ⟨S3x32768, .i32⟩
  | 52 => ⟨S3x128x256, .i32⟩
  | 53 => ⟨S3x128x256, .i32⟩
  | 54 => ⟨S3x128x1, .i32⟩
  | 55 => ⟨S3x128, .i32⟩
  | 56 => ⟨S_, .i32⟩
  | 57 => ⟨S_, .i32⟩
  | 58 => ⟨S3x128, .i32⟩
  | 59 => ⟨S3x128, .i32⟩
  | 60 => ⟨S3x128, .i32⟩
  | 61 => ⟨S_, .i32⟩
  | 62 => ⟨S3x128, .i32⟩
  | 63 => ⟨S3x128, .i1⟩
  | 64 => ⟨S3x128, .i32⟩
  | 65 => ⟨S3x128, .i32⟩
  | 66 => ⟨S_, .i32⟩
  | 67 => ⟨S3x128, .i32⟩
  | 68 => ⟨S3x128, .i1⟩
  | 69 => ⟨S3x128, .i1⟩
  | 70 => ⟨S_, .i32⟩
  | 71 => ⟨S3x128, .i32⟩
  | 72 => ⟨S3x128, .i32⟩
  | 73 => ⟨S3x128, .i32⟩
  | 74 => ⟨S3x128x1, .i32⟩
  | 75 => ⟨S3x128, .i32⟩
  | 76 => ⟨S_, .i32⟩
  | 77 => ⟨S_, .i32⟩
  | 78 => ⟨S3x128, .i32⟩
  | 79 => ⟨S3x128, .i32⟩
  | 80 => ⟨S3x128, .i32⟩
  | 81 => ⟨S_, .i32⟩
  | 82 => ⟨S3x128, .i32⟩
  | 83 => ⟨S3x128, .i1⟩
  | 84 => ⟨S3x128, .i32⟩
  | 85 => ⟨S3x128, .i32⟩
  | 86 => ⟨S_, .i32⟩
  | 87 => ⟨S3x128, .i32⟩
  | 88 => ⟨S3x128, .i1⟩
  | 89 => ⟨S3x128, .i1⟩
  | 90 => ⟨S_, .i32⟩
  | 91 => ⟨S3x128, .i32⟩
  | 92 => ⟨S3x128, .i32⟩
  | 93 => ⟨S3x128, .i32⟩
  | 94 => ⟨S_, .i32⟩
  | 95 => ⟨S3x128, .i32⟩
  | 96 => ⟨S3x128, .i32⟩
  | 97 => ⟨S3x128x1, .i32⟩
  | 98 => ⟨S3x128, .i32⟩
  | 99 => ⟨S_, .i32⟩
  | 100 => ⟨S3x128, .i32⟩
  | 101 => ⟨S3x128, .i32⟩
  | 102 => ⟨S_, .i32⟩
  | 103 => ⟨S3x128, .i32⟩
  | 104 => ⟨S3x128, .i32⟩
  | 105 => ⟨S_, .i32⟩
  | 106 => ⟨S_, .i32⟩
  | 107 => ⟨S3x128, .i32⟩
  | 108 => ⟨S3x128, .i32⟩
  | 109 => ⟨S3x128, .i32⟩
  | 110 => ⟨S_, .i32⟩
  | 111 => ⟨S3x128, .i32⟩
  | 112 => ⟨S3x128, .i1⟩
  | 113 => ⟨S3x128, .i32⟩
  | 114 => ⟨S3x128, .i32⟩
  | 115 => ⟨S_, .i32⟩
  | 116 => ⟨S3x128, .i32⟩
  | 117 => ⟨S3x128, .i1⟩
  | 118 => ⟨S3x128, .i1⟩
  | 119 => ⟨S_, .i32⟩
  | 120 => ⟨S3x128, .i32⟩
  | 121 => ⟨S3x128, .i32⟩
  | 122 => ⟨S3x128, .i32⟩
  | 123 => ⟨S_, .i32⟩
  | 124 => ⟨S3x128, .i32⟩
  | 125 => ⟨S_, .i32⟩
  | 126 => ⟨S3x128, .i32⟩
  | 127 => ⟨S3x128, .i32⟩
  | _ => ⟨S3x32768x2048, .fp8e4m3⟩

abbrev hbmTy0_1 (i : Nat) : BufTy := match i % 128 with
  | 0 => ⟨S_, .i32⟩
  | 1 => ⟨S_, .i32⟩
  | 2 => ⟨S3x128, .i32⟩
  | 3 => ⟨S3x128, .i32⟩
  | 4 => ⟨S3x128, .i32⟩
  | 5 => ⟨S_, .i32⟩
  | 6 => ⟨S3x128, .i32⟩
  | 7 => ⟨S3x128, .i1⟩
  | 8 => ⟨S3x128, .i32⟩
  | 9 => ⟨S3x128, .i32⟩
  | 10 => ⟨S_, .i32⟩
  | 11 => ⟨S3x128, .i32⟩
  | 12 => ⟨S3x128, .i1⟩
  | 13 => ⟨S3x128, .i1⟩
  | 14 => ⟨S_, .i32⟩
  | 15 => ⟨S3x128, .i32⟩
  | 16 => ⟨S3x128, .i32⟩
  | 17 => ⟨S3x128, .i32⟩
  | 18 => ⟨S3x128, .i32⟩
  | 19 => ⟨S3x128, .i32⟩
  | 20 => ⟨S3x128x1, .i32⟩
  | 21 => ⟨S3x128x1, .i32⟩
  | 22 => ⟨S3x128x1, .i32⟩
  | 23 => ⟨S3x128x1, .i32⟩
  | 24 => ⟨S3x1x32768, .i32⟩
  | 25 => ⟨S3x1x32768, .i32⟩
  | 26 => ⟨S3x32768x2048, .bf16⟩
  | _ => ⟨S3x32768x2048, .fp8e4m3⟩

abbrev hbmTy (i : Nat) : BufTy := match i / 128 with
  | 0 => hbmTy0_0 i
  | 1 => hbmTy0_1 i
  | _ => ⟨S3x32768x2048, .fp8e4m3⟩

abbrev bufTy : (tb : Table) → Fin (tcTables nBuf tb) → BufTy
  | .hbm, ⟨i, _⟩ => hbmTy i
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x8x256, .f32⟩
  | .local _ .vmem, ⟨3, _⟩ => ⟨S1x8x256, .f32⟩
  | .local _ .vmem, ⟨4, _⟩ => ⟨S1x1x32768x128, .fp8e4m3⟩
  | .local _ .vmem, ⟨5, _⟩ => ⟨S1x1x32768x128, .fp8e4m3⟩
  | .local _ .vmem, ⟨6, _⟩ => ⟨S1x1x32768x128, .f32⟩
  | .local _ .vmem, ⟨7, _⟩ => ⟨S1x1x128x32768, .fp8e4m3⟩
  | .local _ .vmem, ⟨8, _⟩ => ⟨S1x1x1x128, .f32⟩
  | .local _ .vmem, ⟨9, _⟩ => ⟨S1x1x1x128, .f32⟩
  | .local _ .vmem, ⟨10, _⟩ => ⟨S1x1x256, .i32⟩
  | .local _ .vmem, ⟨11, _⟩ => ⟨S1x1x256, .i32⟩
  | .local _ .vmem, ⟨12, _⟩ => ⟨S1x1x256, .i32⟩
  | .local _ .vmem, ⟨13, _⟩ => ⟨S1x1x256, .i32⟩
  | .local _ .vmem, ⟨14, _⟩ => ⟨S1x256x1024, .bf16⟩
  | .local _ .vmem, ⟨15, _⟩ => ⟨S1x256x1024, .bf16⟩
  | .local _ .vmem, ⟨16, _⟩ => ⟨S32768x256, .f32⟩
  | .local _ .smem, ⟨0, _⟩ => ⟨S3x128x4, .i32⟩
  | _, _ => ⟨S3x32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_7 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v38 : Ref sig .tc := ⟨.hbm, 93, rfl⟩
abbrev main_c_8 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_c_9 : Ref sig .tc := ⟨.hbm, 99, rfl⟩
abbrev main_v43 : Ref sig .tc := ⟨.hbm, 100, rfl⟩
abbrev main_v44 : Ref sig .tc := ⟨.hbm, 101, rfl⟩
abbrev main_c_10 : Ref sig .tc := ⟨.hbm, 102, rfl⟩
abbrev main_v45 : Ref sig .tc := ⟨.hbm, 103, rfl⟩
abbrev main_v46 : Ref sig .tc := ⟨.hbm, 104, rfl⟩
abbrev main_c_11 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v47 : Ref sig .tc := ⟨.hbm, 122, rfl⟩
abbrev main_c_12 : Ref sig .tc := ⟨.hbm, 123, rfl⟩
abbrev main_v48 : Ref sig .tc := ⟨.hbm, 124, rfl⟩
abbrev main_c_13 : Ref sig .tc := ⟨.hbm, 125, rfl⟩
abbrev main_v49 : Ref sig .tc := ⟨.hbm, 126, rfl⟩
abbrev main_v50 : Ref sig .tc := ⟨.hbm, 127, rfl⟩
abbrev main_c_14 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_c : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_0 : Ref sig .tc := ⟨.hbm, 142, rfl⟩
abbrev main_call5_v12 : Ref sig .tc := ⟨.hbm, 143, rfl⟩
abbrev main_call5_v13 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v58 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![3, 2, 128], ![false, false, false]⟩

abbrev pre0 : Pipeline.Prefetch sig := ⟨1, ![main_v58.idx], fun | 0 => main_v58.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v0 : Index := Scalar.indexCast arg0
  let arg2 : BitVec 32 := BitVec.ofNat 32 (i 2).val
  let v1 : Index := Scalar.indexCast arg2
  let c0 : Index := 0#32
  ![v0.toNat, v1.toNat, 0]
def k0_off2 (i : grid0.Coords) : Fin 3 → Nat :=
  let arg0 : BitVec 32 := BitVec.ofNat 32 (i 0).val
  let v3 : Index := Scalar.indexCast arg0
  let arg2 : BitVec 32 := BitVec.ofNat 32 (i 2).val
  let v4 : Index := Scalar.indexCast arg2
  let c1 : Index := 1#32
  ![v3.toNat, v4.toNat, 1]
def k0_off3 (i : grid0.Coords) : Fin 3 → Nat :=
  let arg0 : BitVec 32 := BitVec.ofNat 32 (i 0).val
  let v6 : Index := Scalar.indexCast arg0
  let arg2 : BitVec 32 := BitVec.ofNat 32 (i 2).val
  let v7 : Index := Scalar.indexCast arg2
  let c2 : Index := 2#32
  ![v6.toNat, v7.toNat, 2]
def k0_off4 (i : grid0.Coords) : Fin 3 → Nat :=
  let arg0 : BitVec 32 := BitVec.ofNat 32 (i 0).val
  let v9 : Index := Scalar.indexCast arg0
  let arg2 : BitVec 32 := BitVec.ofNat 32 (i 2).val
  let v10 : Index := Scalar.indexCast arg2
  let c3 : Index := 3#32
  ![v9.toNat, v10.toNat, 3]
@[reducible] def k0_t1_loop (v2 : BitVec 32) (v8 : BitVec 32) : Scf.Loop 32 :=
  let v24 : BitVec 32 := Scalar.subi v8 v2
  let c1_i32 : BitVec 32 := 1#32
  let v26 : BitVec 32 := Scalar.divsi v24 c1_i32
  let v27 : BitVec 32 := Scalar.muli v26 c1_i32
  let v28 : BitVec 32 := Scalar.addi v2 v27
  let c1_i32_13 : BitVec 32 := 1#32
  ⟨v2, v28, c1_i32_13⟩

def k0_mult1 (v2 : BitVec 32) (v8 : BitVec 32) (k0_t1 : Fin (k0_t1_loop v2 v8).trips) : BitVec 32 :=
  let c1_i32_13 : BitVec 32 := 1#32
  let arg14 : BitVec 32 := Scf.iv v2 c1_i32_13 k0_t1
  let c256_i32 : BitVec 32 := 256#32
  let v889 : BitVec 32 := Scalar.muli arg14 c256_i32
  v889
def k0_off5 (v2 : BitVec 32) (v8 : BitVec 32) (k0_t1 : Fin (k0_t1_loop v2 v8).trips) : Fin 4 → Nat :=
  let c0_439 : Index := 0#32
  let c0_440 : Index := 0#32
  let c1_i32_13 : BitVec 32 := 1#32
  let arg14 : BitVec 32 := Scf.iv v2 c1_i32_13 k0_t1
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off6 (v2 : BitVec 32) (v8 : BitVec 32) (k0_t1 : Fin (k0_t1_loop v2 v8).trips) : Fin 2 → Nat :=
  let c1_i32_13 : BitVec 32 := 1#32
  let arg14 : BitVec 32 := Scf.iv v2 c1_i32_13 k0_t1
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t2_loop (v2 : BitVec 32) (v8 : BitVec 32) : Scf.Loop 32 :=
  let v24 : BitVec 32 := Scalar.subi v8 v2
  let c1_i32 : BitVec 32 := 1#32
  let v26 : BitVec 32 := Scalar.divsi v24 c1_i32
  let v27 : BitVec 32 := Scalar.muli v26 c1_i32
  let v28 : BitVec 32 := Scalar.addi v2 v27
  let v25 : BitVec 32 := Scalar.addi v2 v24
  let c1_i32_14 : BitVec 32 := 1#32
  ⟨v28, v25, c1_i32_14⟩
def k0_mult2 (v2 : BitVec 32) (v8 : BitVec 32) (k0_t2 : Fin (k0_t2_loop v2 v8).trips) : BitVec 32 :=
  let v24 : BitVec 32 := Scalar.subi v8 v2
  let c1_i32 : BitVec 32 := 1#32
  let v26 : BitVec 32 := Scalar.divsi v24 c1_i32
  let v27 : BitVec 32 := Scalar.muli v26 c1_i32
  let v28 : BitVec 32 := Scalar.addi v2 v27
  let c1_i32_14 : BitVec 32 := 1#32
  let arg14 : BitVec 32 := Scf.iv v28 c1_i32_14 k0_t2
  let c256_i32 : BitVec 32 := 256#32
  let v889 : BitVec 32 := Scalar.muli arg14 c256_i32
  v889
def k0_off7 (v2 : BitVec 32) (v8 : BitVec 32) (k0_t2 : Fin (k0_t2_loop v2 v8).trips) : Fin 4 → Nat :=
  let c0_439 : Index := 0#32
  let c0_440 : Index := 0#32
  let v24 : BitVec 32 := Scalar.subi v8 v2
  let c1_i32 : BitVec 32 := 1#32
  let v26 : BitVec 32 := Scalar.divsi v24 c1_i32
  let v27 : BitVec 32 := Scalar.muli v26 c1_i32
  let v28 : BitVec 32 := Scalar.addi v2 v27
  let c1_i32_14 : BitVec 32 := 1#32
  let arg14 : BitVec 32 := Scf.iv v28 c1_i32_14 k0_t2
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off8 (v2 : BitVec 32) (v8 : BitVec 32) (k0_t2 : Fin (k0_t2_loop v2 v8).trips) : Fin 2 → Nat :=
  let v24 : BitVec 32 := Scalar.subi v8 v2
  let c1_i32 : BitVec 32 := 1#32
  let v26 : BitVec 32 := Scalar.divsi v24 c1_i32
  let v27 : BitVec 32 := Scalar.muli v26 c1_i32
  let v28 : BitVec 32 := Scalar.addi v2 v27
  let c1_i32_14 : BitVec 32 := 1#32
  let arg14 : BitVec 32 := Scf.iv v28 c1_i32_14 k0_t2
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t3_loop (v8 : BitVec 32) (v11 : BitVec 32) : Scf.Loop 32 :=
  let c0_i32_20 : BitVec 32 := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_22 : BitVec 32 := 1#32
  ⟨c0_i32_20, v53, c1_i32_22⟩

def k0_mult3 (v8 : BitVec 32) (v11 : BitVec 32) (k0_t3 : Fin (k0_t3_loop v8 v11).trips) : BitVec 32 :=
  let c0_i32_20 : BitVec 32 := 0#32
  let c1_i32_22 : BitVec 32 := 1#32
  let arg14 : BitVec 32 := Scf.iv c0_i32_20 c1_i32_22 k0_t3
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off9 (v8 : BitVec 32) (v11 : BitVec 32) (k0_t3 : Fin (k0_t3_loop v8 v11).trips) : Fin 4 → Nat :=
  let c0_440 : Index := 0#32
  let c0_441 : Index := 0#32
  let c0_i32_20 : BitVec 32 := 0#32
  let c1_i32_22 : BitVec 32 := 1#32
  let arg14 : BitVec 32 := Scf.iv c0_i32_20 c1_i32_22 k0_t3
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off10 (v8 : BitVec 32) (v11 : BitVec 32) (k0_t3 : Fin (k0_t3_loop v8 v11).trips) : Fin 2 → Nat :=
  let c0_i32_20 : BitVec 32 := 0#32
  let c1_i32_22 : BitVec 32 := 1#32
  let arg14 : BitVec 32 := Scf.iv c0_i32_20 c1_i32_22 k0_t3
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t4_loop (v8 : BitVec 32) (v11 : BitVec 32) : Scf.Loop 32 :=
  let c0_i32_20 : BitVec 32 := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let v50 : BitVec 32 := Scalar.addi c0_i32_20 v49
  let c1_i32_23 : BitVec 32 := 1#32
  ⟨v53, v50, c1_i32_23⟩
def k0_mult4 (v8 : BitVec 32) (v11 : BitVec 32) (k0_t4 : Fin (k0_t4_loop v8 v11).trips) : BitVec 32 :=
  let c0_i32_20 : BitVec 32 := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg14 : BitVec 32 := Scf.iv v53 c1_i32_23 k0_t4
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off11 (v8 : BitVec 32) (v11 : BitVec 32) (k0_t4 : Fin (k0_t4_loop v8 v11).trips) : Fin 4 → Nat :=
  let c0_440 : Index := 0#32
  let c0_441 : Index := 0#32
  let c0_i32_20 : BitVec 32 := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg14 : BitVec 32 := Scf.iv v53 c1_i32_23 k0_t4
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off12 (v8 : BitVec 32) (v11 : BitVec 32) (k0_t4 : Fin (k0_t4_loop v8 v11).trips) : Fin 2 → Nat :=
  let c0_i32_20 : BitVec 32 := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg14 : BitVec 32 := Scf.iv v53 c1_i32_23 k0_t4
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t5_loop (v8 : BitVec 32) (v11 : BitVec 32) : Scf.Loop 32 :=
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let v58 : BitVec 32 := Scalar.subi v11 v57
  let c1_i32_25 : BitVec 32 := 1#32
  let v60 : BitVec 32 := Scalar.divsi v58 c1_i32_25
  let v61 : BitVec 32 := Scalar.muli v60 c1_i32_25
  let v62 : BitVec 32 := Scalar.addi v57 v61
  let c1_i32_26 : BitVec 32 := 1#32
  ⟨v57, v62, c1_i32_26⟩
def k0_mult5 (v8 : BitVec 32) (v11 : BitVec 32) (k0_t5 : Fin (k0_t5_loop v8 v11).trips) : BitVec 32 :=
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let c1_i32_26 : BitVec 32 := 1#32
  let arg14 : BitVec 32 := Scf.iv v57 c1_i32_26 k0_t5
  let c256_i32 : BitVec 32 := 256#32
  let v889 : BitVec 32 := Scalar.muli arg14 c256_i32
  v889
def k0_off13 (v8 : BitVec 32) (v11 : BitVec 32) (k0_t5 : Fin (k0_t5_loop v8 v11).trips) : Fin 4 → Nat :=
  let c0_439 : Index := 0#32
  let c0_440 : Index := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let c1_i32_26 : BitVec 32 := 1#32
  let arg14 : BitVec 32 := Scf.iv v57 c1_i32_26 k0_t5
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off14 (v8 : BitVec 32) (v11 : BitVec 32) (k0_t5 : Fin (k0_t5_loop v8 v11).trips) : Fin 2 → Nat :=
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let c1_i32_26 : BitVec 32 := 1#32
  let arg14 : BitVec 32 := Scf.iv v57 c1_i32_26 k0_t5
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t6_loop (v8 : BitVec 32) (v11 : BitVec 32) : Scf.Loop 32 :=
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let v58 : BitVec 32 := Scalar.subi v11 v57
  let c1_i32_25 : BitVec 32 := 1#32
  let v60 : BitVec 32 := Scalar.divsi v58 c1_i32_25
  let v61 : BitVec 32 := Scalar.muli v60 c1_i32_25
  let v62 : BitVec 32 := Scalar.addi v57 v61
  let v59 : BitVec 32 := Scalar.addi v57 v58
  let c1_i32_27 : BitVec 32 := 1#32
  ⟨v62, v59, c1_i32_27⟩
def k0_mult6 (v8 : BitVec 32) (v11 : BitVec 32) (k0_t6 : Fin (k0_t6_loop v8 v11).trips) : BitVec 32 :=
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let v58 : BitVec 32 := Scalar.subi v11 v57
  let c1_i32_25 : BitVec 32 := 1#32
  let v60 : BitVec 32 := Scalar.divsi v58 c1_i32_25
  let v61 : BitVec 32 := Scalar.muli v60 c1_i32_25
  let v62 : BitVec 32 := Scalar.addi v57 v61
  let c1_i32_27 : BitVec 32 := 1#32
  let arg14 : BitVec 32 := Scf.iv v62 c1_i32_27 k0_t6
  let c256_i32 : BitVec 32 := 256#32
  let v889 : BitVec 32 := Scalar.muli arg14 c256_i32
  v889
def k0_off15 (v8 : BitVec 32) (v11 : BitVec 32) (k0_t6 : Fin (k0_t6_loop v8 v11).trips) : Fin 4 → Nat :=
  let c0_439 : Index := 0#32
  let c0_440 : Index := 0#32
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let v58 : BitVec 32 := Scalar.subi v11 v57
  let c1_i32_25 : BitVec 32 := 1#32
  let v60 : BitVec 32 := Scalar.divsi v58 c1_i32_25
  let v61 : BitVec 32 := Scalar.muli v60 c1_i32_25
  let v62 : BitVec 32 := Scalar.addi v57 v61
  let c1_i32_27 : BitVec 32 := 1#32
  let arg14 : BitVec 32 := Scf.iv v62 c1_i32_27 k0_t6
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off16 (v8 : BitVec 32) (v11 : BitVec 32) (k0_t6 : Fin (k0_t6_loop v8 v11).trips) : Fin 2 → Nat :=
  let v31 : BitVec 32 := Scalar.subi v11 v8
  let c0_i32 : BitVec 32 := 0#32
  let v33 : BitVec 1 := Scalar.cmpi .sgt v31 c0_i32
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c4_i32 : BitVec 32 := 4#32
  let c0_i32_16 : BitVec 32 := 0#32
  let v38 : BitVec 1 := Scalar.cmpi .sgt c4_i32 c0_i32_16
  let v39 : BitVec 32 := Scalar.extui v38
  let c0_i32_17 : BitVec 32 := 0#32
  let v40 : BitVec 1 := Scalar.cmpi .slt c4_i32 c0_i32_17
  let v41 : BitVec 32 := Scalar.extui v40
  let v42 : BitVec 32 := Scalar.subi v39 v41
  let v43 : BitVec 1 := Scalar.cmpi .ne v37 v42
  let v44 : BitVec 32 := Scalar.remsi v31 c4_i32
  let c0_i32_18 : BitVec 32 := 0#32
  let v45 : BitVec 1 := Scalar.cmpi .ne v44 c0_i32_18
  let v46 : BitVec 1 := Scalar.andi v43 v45
  let v32 : BitVec 32 := Scalar.divsi v31 c4_i32
  let c1_i32_19 : BitVec 32 := 1#32
  let v47 : BitVec 32 := Scalar.subi v32 c1_i32_19
  let v48 : BitVec 32 := Scalar.select v46 v47 v32
  let c4_i32_24 : BitVec 32 := 4#32
  let v56 : BitVec 32 := Scalar.muli v48 c4_i32_24
  let v57 : BitVec 32 := Scalar.addi v8 v56
  let v58 : BitVec 32 := Scalar.subi v11 v57
  let c1_i32_25 : BitVec 32 := 1#32
  let v60 : BitVec 32 := Scalar.divsi v58 c1_i32_25
  let v61 : BitVec 32 := Scalar.muli v60 c1_i32_25
  let v62 : BitVec 32 := Scalar.addi v57 v61
  let c1_i32_27 : BitVec 32 := 1#32
  let arg14 : BitVec 32 := Scf.iv v62 c1_i32_27 k0_t6
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t7_loop (v5 : BitVec 32) (v11 : BitVec 32) : Scf.Loop 32 :=
  let v65 : BitVec 32 := Scalar.subi v5 v11
  let c1_i32_28 : BitVec 32 := 1#32
  let v67 : BitVec 32 := Scalar.divsi v65 c1_i32_28
  let v68 : BitVec 32 := Scalar.muli v67 c1_i32_28
  let v69 : BitVec 32 := Scalar.addi v11 v68
  let c1_i32_29 : BitVec 32 := 1#32
  ⟨v11, v69, c1_i32_29⟩
def k0_mult7 (v5 : BitVec 32) (v11 : BitVec 32) (k0_t7 : Fin (k0_t7_loop v5 v11).trips) : BitVec 32 :=
  let c1_i32_29 : BitVec 32 := 1#32
  let arg14 : BitVec 32 := Scf.iv v11 c1_i32_29 k0_t7
  let c256_i32 : BitVec 32 := 256#32
  let v889 : BitVec 32 := Scalar.muli arg14 c256_i32
  v889
def k0_off17 (v5 : BitVec 32) (v11 : BitVec 32) (k0_t7 : Fin (k0_t7_loop v5 v11).trips) : Fin 4 → Nat :=
  let c0_439 : Index := 0#32
  let c0_440 : Index := 0#32
  let c1_i32_29 : BitVec 32 := 1#32
  let arg14 : BitVec 32 := Scf.iv v11 c1_i32_29 k0_t7
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off18 (v5 : BitVec 32) (v11 : BitVec 32) (k0_t7 : Fin (k0_t7_loop v5 v11).trips) : Fin 2 → Nat :=
  let c1_i32_29 : BitVec 32 := 1#32
  let arg14 : BitVec 32 := Scf.iv v11 c1_i32_29 k0_t7
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t8_loop (v5 : BitVec 32) (v11 : BitVec 32) : Scf.Loop 32 :=
  let v65 : BitVec 32 := Scalar.subi v5 v11
  let c1_i32_28 : BitVec 32 := 1#32
  let v67 : BitVec 32 := Scalar.divsi v65 c1_i32_28
  let v68 : BitVec 32 := Scalar.muli v67 c1_i32_28
  let v69 : BitVec 32 := Scalar.addi v11 v68
  let v66 : BitVec 32 := Scalar.addi v11 v65
  let c1_i32_30 : BitVec 32 := 1#32
  ⟨v69, v66, c1_i32_30⟩
def k0_mult8 (v5 : BitVec 32) (v11 : BitVec 32) (k0_t8 : Fin (k0_t8_loop v5 v11).trips) : BitVec 32 :=
  let v65 : BitVec 32 := Scalar.subi v5 v11
  let c1_i32_28 : BitVec 32 := 1#32
  let v67 : BitVec 32 := Scalar.divsi v65 c1_i32_28
  let v68 : BitVec 32 := Scalar.muli v67 c1_i32_28
  let v69 : BitVec 32 := Scalar.addi v11 v68
  let c1_i32_30 : BitVec 32 := 1#32
  let arg14 : BitVec 32 := Scf.iv v69 c1_i32_30 k0_t8
  let c256_i32 : BitVec 32 := 256#32
  let v889 : BitVec 32 := Scalar.muli arg14 c256_i32
  v889
def k0_off19 (v5 : BitVec 32) (v11 : BitVec 32) (k0_t8 : Fin (k0_t8_loop v5 v11).trips) : Fin 4 → Nat :=
  let c0_439 : Index := 0#32
  let c0_440 : Index := 0#32
  let v65 : BitVec 32 := Scalar.subi v5 v11
  let c1_i32_28 : BitVec 32 := 1#32
  let v67 : BitVec 32 := Scalar.divsi v65 c1_i32_28
  let v68 : BitVec 32 := Scalar.muli v67 c1_i32_28
  let v69 : BitVec 32 := Scalar.addi v11 v68
  let c1_i32_30 : BitVec 32 := 1#32
  let arg14 : BitVec 32 := Scf.iv v69 c1_i32_30 k0_t8
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off20 (v5 : BitVec 32) (v11 : BitVec 32) (k0_t8 : Fin (k0_t8_loop v5 v11).trips) : Fin 2 → Nat :=
  let v65 : BitVec 32 := Scalar.subi v5 v11
  let c1_i32_28 : BitVec 32 := 1#32
  let v67 : BitVec 32 := Scalar.divsi v65 c1_i32_28
  let v68 : BitVec 32 := Scalar.muli v67 c1_i32_28
  let v69 : BitVec 32 := Scalar.addi v11 v68
  let c1_i32_30 : BitVec 32 := 1#32
  let arg14 : BitVec 32 := Scf.iv v69 c1_i32_30 k0_t8
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t9_loop (v2 : BitVec 32) (v5 : BitVec 32) : Scf.Loop 32 :=
  let c0_i32_41 : BitVec 32 := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let v94 : BitVec 32 := Scalar.subi v93 c0_i32_41
  let c1_i32_42 : BitVec 32 := 1#32
  let v96 : BitVec 32 := Scalar.divsi v94 c1_i32_42
  let v97 : BitVec 32 := Scalar.muli v96 c1_i32_42
  let v98 : BitVec 32 := Scalar.addi c0_i32_41 v97
  let c1_i32_43 : BitVec 32 := 1#32
  ⟨c0_i32_41, v98, c1_i32_43⟩

def k0_mult9 (v2 : BitVec 32) (v5 : BitVec 32) (k0_t9 : Fin (k0_t9_loop v2 v5).trips) : BitVec 32 :=
  let c0_i32_41 : BitVec 32 := 0#32
  let c1_i32_43 : BitVec 32 := 1#32
  let arg14 : BitVec 32 := Scf.iv c0_i32_41 c1_i32_43 k0_t9
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off21 (v2 : BitVec 32) (v5 : BitVec 32) (k0_t9 : Fin (k0_t9_loop v2 v5).trips) : Fin 2 → Nat :=
  let c0_i32_41 : BitVec 32 := 0#32
  let c1_i32_43 : BitVec 32 := 1#32
  let arg14 : BitVec 32 := Scf.iv c0_i32_41 c1_i32_43 k0_t9
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off22 (v2 : BitVec 32) (v5 : BitVec 32) (k0_t9 : Fin (k0_t9_loop v2 v5).trips) : Fin 4 → Nat :=
  let c0_444 : Index := 0#32
  let c0_445 : Index := 0#32
  let c0_446 : Index := 0#32
  let c0_i32_41 : BitVec 32 := 0#32
  let c1_i32_43 : BitVec 32 := 1#32
  let arg14 : BitVec 32 := Scf.iv c0_i32_41 c1_i32_43 k0_t9
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t10_loop (v2 : BitVec 32) (v5 : BitVec 32) : Scf.Loop 32 :=
  let c0_i32_41 : BitVec 32 := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let v94 : BitVec 32 := Scalar.subi v93 c0_i32_41
  let c1_i32_42 : BitVec 32 := 1#32
  let v96 : BitVec 32 := Scalar.divsi v94 c1_i32_42
  let v97 : BitVec 32 := Scalar.muli v96 c1_i32_42
  let v98 : BitVec 32 := Scalar.addi c0_i32_41 v97
  let v95 : BitVec 32 := Scalar.addi c0_i32_41 v94
  let c1_i32_44 : BitVec 32 := 1#32
  ⟨v98, v95, c1_i32_44⟩
def k0_mult10 (v2 : BitVec 32) (v5 : BitVec 32) (k0_t10 : Fin (k0_t10_loop v2 v5).trips) : BitVec 32 :=
  let c0_i32_41 : BitVec 32 := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let v94 : BitVec 32 := Scalar.subi v93 c0_i32_41
  let c1_i32_42 : BitVec 32 := 1#32
  let v96 : BitVec 32 := Scalar.divsi v94 c1_i32_42
  let v97 : BitVec 32 := Scalar.muli v96 c1_i32_42
  let v98 : BitVec 32 := Scalar.addi c0_i32_41 v97
  let c1_i32_44 : BitVec 32 := 1#32
  let arg14 : BitVec 32 := Scf.iv v98 c1_i32_44 k0_t10
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off23 (v2 : BitVec 32) (v5 : BitVec 32) (k0_t10 : Fin (k0_t10_loop v2 v5).trips) : Fin 2 → Nat :=
  let c0_i32_41 : BitVec 32 := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let v94 : BitVec 32 := Scalar.subi v93 c0_i32_41
  let c1_i32_42 : BitVec 32 := 1#32
  let v96 : BitVec 32 := Scalar.divsi v94 c1_i32_42
  let v97 : BitVec 32 := Scalar.muli v96 c1_i32_42
  let v98 : BitVec 32 := Scalar.addi c0_i32_41 v97
  let c1_i32_44 : BitVec 32 := 1#32
  let arg14 : BitVec 32 := Scf.iv v98 c1_i32_44 k0_t10
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off24 (v2 : BitVec 32) (v5 : BitVec 32) (k0_t10 : Fin (k0_t10_loop v2 v5).trips) : Fin 4 → Nat :=
  let c0_444 : Index := 0#32
  let c0_445 : Index := 0#32
  let c0_446 : Index := 0#32
  let c0_i32_41 : BitVec 32 := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let v94 : BitVec 32 := Scalar.subi v93 c0_i32_41
  let c1_i32_42 : BitVec 32 := 1#32
  let v96 : BitVec 32 := Scalar.divsi v94 c1_i32_42
  let v97 : BitVec 32 := Scalar.muli v96 c1_i32_42
  let v98 : BitVec 32 := Scalar.addi c0_i32_41 v97
  let c1_i32_44 : BitVec 32 := 1#32
  let arg14 : BitVec 32 := Scf.iv v98 c1_i32_44 k0_t10
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t11_loop (v2 : BitVec 32) (v5 : BitVec 32) : Scf.Loop 32 :=
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let v103 : BitVec 32 := Scalar.subi v5 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_47 : BitVec 32 := 1#32
  ⟨v102, v107, c1_i32_47⟩
def k0_mult11 (v2 : BitVec 32) (v5 : BitVec 32) (k0_t11 : Fin (k0_t11_loop v2 v5).trips) : BitVec 32 :=
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let c1_i32_47 : BitVec 32 := 1#32
  let arg14 : BitVec 32 := Scf.iv v102 c1_i32_47 k0_t11
  let c256_i32 : BitVec 32 := 256#32
  let v889 : BitVec 32 := Scalar.muli arg14 c256_i32
  v889
def k0_off25 (v2 : BitVec 32) (v5 : BitVec 32) (k0_t11 : Fin (k0_t11_loop v2 v5).trips) : Fin 2 → Nat :=
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let c1_i32_47 : BitVec 32 := 1#32
  let arg14 : BitVec 32 := Scf.iv v102 c1_i32_47 k0_t11
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off26 (v2 : BitVec 32) (v5 : BitVec 32) (k0_t11 : Fin (k0_t11_loop v2 v5).trips) : Fin 4 → Nat :=
  let c0_443 : Index := 0#32
  let c0_444 : Index := 0#32
  let c0_445 : Index := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let c1_i32_47 : BitVec 32 := 1#32
  let arg14 : BitVec 32 := Scf.iv v102 c1_i32_47 k0_t11
  let c256_i32 : BitVec 32 := 256#32
  let v889 : BitVec 32 := Scalar.muli arg14 c256_i32
  let v890 : BitVec 32 := v889
  let v906 : Index := Scalar.indexCast v890
  ![0, 0, 0, v906.toNat]
@[reducible] def k0_t12_loop (v2 : BitVec 32) (v5 : BitVec 32) : Scf.Loop 32 :=
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let v103 : BitVec 32 := Scalar.subi v5 v102
  let c1_i32_46 : BitVec 32 := 1#32
  let v105 : BitVec 32 := Scalar.divsi v103 c1_i32_46
  let v106 : BitVec 32 := Scalar.muli v105 c1_i32_46
  let v107 : BitVec 32 := Scalar.addi v102 v106
  let v104 : BitVec 32 := Scalar.addi v102 v103
  let c1_i32_48 : BitVec 32 := 1#32
  ⟨v107, v104, c1_i32_48⟩
def k0_mult12 (v2 : BitVec 32) (v5 : BitVec 32) (k0_t12 : Fin (k0_t12_loop v2 v5).trips) : BitVec 32 :=
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let v103 : BitVec 32 := Scalar.subi v5 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg14 : BitVec 32 := Scf.iv v107 c1_i32_48 k0_t12
  let c256_i32 : BitVec 32 := 256#32
  let v889 : BitVec 32 := Scalar.muli arg14 c256_i32
  v889
def k0_off27 (v2 : BitVec 32) (v5 : BitVec 32) (k0_t12 : Fin (k0_t12_loop v2 v5).trips) : Fin 2 → Nat :=
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let v103 : BitVec 32 := Scalar.subi v5 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg14 : BitVec 32 := Scf.iv v107 c1_i32_48 k0_t12
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off28 (v2 : BitVec 32) (v5 : BitVec 32) (k0_t12 : Fin (k0_t12_loop v2 v5).trips) : Fin 4 → Nat :=
  let c0_443 : Index := 0#32
  let c0_444 : Index := 0#32
  let c0_445 : Index := 0#32
  let v76 : BitVec 32 := Scalar.subi v5 v2
  let c0_i32_35 : BitVec 32 := 0#32
  let v78 : BitVec 1 := Scalar.cmpi .sgt v76 c0_i32_35
  let v79 : BitVec 32 := Scalar.extui v78
  let c0_i32_36 : BitVec 32 := 0#32
  let v80 : BitVec 1 := Scalar.cmpi .slt v76 c0_i32_36
  let v81 : BitVec 32 := Scalar.extui v80
  let v82 : BitVec 32 := Scalar.subi v79 v81
  let c4_i32_34 : BitVec 32 := 4#32
  let c0_i32_37 : BitVec 32 := 0#32
  let v83 : BitVec 1 := Scalar.cmpi .sgt c4_i32_34 c0_i32_37
  let v84 : BitVec 32 := Scalar.extui v83
  let c0_i32_38 : BitVec 32 := 0#32
  let v85 : BitVec 1 := Scalar.cmpi .slt c4_i32_34 c0_i32_38
  let v86 : BitVec 32 := Scalar.extui v85
  let v87 : BitVec 32 := Scalar.subi v84 v86
  let v88 : BitVec 1 := Scalar.cmpi .ne v82 v87
  let v89 : BitVec 32 := Scalar.remsi v76 c4_i32_34
  let c0_i32_39 : BitVec 32 := 0#32
  let v90 : BitVec 1 := Scalar.cmpi .ne v89 c0_i32_39
  let v91 : BitVec 1 := Scalar.andi v88 v90
  let v77 : BitVec 32 := Scalar.divsi v76 c4_i32_34
  let c1_i32_40 : BitVec 32 := 1#32
  let v92 : BitVec 32 := Scalar.subi v77 c1_i32_40
  let v93 : BitVec 32 := Scalar.select v91 v92 v77
  let c4_i32_45 : BitVec 32 := 4#32
  let v101 : BitVec 32 := Scalar.muli v93 c4_i32_45
  let v102 : BitVec 32 := Scalar.addi v2 v101
  let v103 : BitVec 32 := Scalar.subi v5 v102
  let c1_i32_46 : BitVec 32 := 1#32
  let v105 : BitVec 32 := Scalar.divsi v103 c1_i32_46
  let v106 : BitVec 32 := Scalar.muli v105 c1_i32_46
  let v107 : BitVec 32 := Scalar.addi v102 v106
  let c1_i32_48 : BitVec 32 := 1#32
  let arg14 : BitVec 32 := Scf.iv v107 c1_i32_48 k0_t12
  let c256_i32 : BitVec 32 := 256#32
  let v889 : BitVec 32 := Scalar.muli arg14 c256_i32
  let v890 : BitVec 32 := v889
  let v906 : Index := Scalar.indexCast v890
  ![0, 0, 0, v906.toNat]
@[reducible] def k0_t13_loop (v2 : BitVec 32) (v8 : BitVec 32) : Scf.Loop 32 :=
  let v133 : BitVec 32 := Scalar.subi v8 v2
  let c1_i32_65 : BitVec 32 := 1#32
  let v135 : BitVec 32 := Scalar.divsi v133 c1_i32_65
  let v136 : BitVec 32 := Scalar.muli v135 c1_i32_65
  let v137 : BitVec 32 := Scalar.addi v2 v136
  let c1_i32_66 : BitVec 32 := 1#32
  ⟨v2, v137, c1_i32_66⟩
def k0_mult13 (v2 : BitVec 32) (v8 : BitVec 32) (k0_t13 : Fin (k0_t13_loop v2 v8).trips) : BitVec 32 :=
  let c1_i32_66 : BitVec 32 := 1#32
  let arg14 : BitVec 32 := Scf.iv v2 c1_i32_66 k0_t13
  let c256_i32 : BitVec 32 := 256#32
  let v889 : BitVec 32 := Scalar.muli arg14 c256_i32
  v889
def k0_off29 (v2 : BitVec 32) (v8 : BitVec 32) (k0_t13 : Fin (k0_t13_loop v2 v8).trips) : Fin 4 → Nat :=
  let c0_439 : Index := 0#32
  let c0_440 : Index := 0#32
  let c1_i32_66 : BitVec 32 := 1#32
  let arg14 : BitVec 32 := Scf.iv v2 c1_i32_66 k0_t13
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off30 (v2 : BitVec 32) (v8 : BitVec 32) (k0_t13 : Fin (k0_t13_loop v2 v8).trips) : Fin 2 → Nat :=
  let c1_i32_66 : BitVec 32 := 1#32
  let arg14 : BitVec 32 := Scf.iv v2 c1_i32_66 k0_t13
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t14_loop (v2 : BitVec 32) (v8 : BitVec 32) : Scf.Loop 32 :=
  let v133 : BitVec 32 := Scalar.subi v8 v2
  let c1_i32_65 : BitVec 32 := 1#32
  let v135 : BitVec 32 := Scalar.divsi v133 c1_i32_65
  let v136 : BitVec 32 := Scalar.muli v135 c1_i32_65
  let v137 : BitVec 32 := Scalar.addi v2 v136
  let v134 : BitVec 32 := Scalar.addi v2 v133
  let c1_i32_67 : BitVec 32 := 1#32
  ⟨v137, v134, c1_i32_67⟩
def k0_mult14 (v2 : BitVec 32) (v8 : BitVec 32) (k0_t14 : Fin (k0_t14_loop v2 v8).trips) : BitVec 32 :=
  let v133 : BitVec 32 := Scalar.subi v8 v2
  let c1_i32_65 : BitVec 32 := 1#32
  let v135 : BitVec 32 := Scalar.divsi v133 c1_i32_65
  let v136 : BitVec 32 := Scalar.muli v135 c1_i32_65
  let v137 : BitVec 32 := Scalar.addi v2 v136
  let c1_i32_67 : BitVec 32 := 1#32
  let arg14 : BitVec 32 := Scf.iv v137 c1_i32_67 k0_t14
  let c256_i32 : BitVec 32 := 256#32
  let v889 : BitVec 32 := Scalar.muli arg14 c256_i32
  v889
def k0_off31 (v2 : BitVec 32) (v8 : BitVec 32) (k0_t14 : Fin (k0_t14_loop v2 v8).trips) : Fin 4 → Nat :=
  let c0_439 : Index := 0#32
  let c0_440 : Index := 0#32
  let v133 : BitVec 32 := Scalar.subi v8 v2
  let c1_i32_65 : BitVec 32 := 1#32
  let v135 : BitVec 32 := Scalar.divsi v133 c1_i32_65
  let v136 : BitVec 32 := Scalar.muli v135 c1_i32_65
  let v137 : BitVec 32 := Scalar.addi v2 v136
  let c1_i32_67 : BitVec 32 := 1#32
  let arg14 : BitVec 32 := Scf.iv v137 c1_i32_67 k0_t14
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off32 (v2 : BitVec 32) (v8 : BitVec 32) (k0_t14 : Fin (k0_t14_loop v2 v8).trips) : Fin 2 → Nat :=
  let v133 : BitVec 32 := Scalar.subi v8 v2
  let c1_i32_65 : BitVec 32 := 1#32
  let v135 : BitVec 32 := Scalar.divsi v133 c1_i32_65
  let v136 : BitVec 32 := Scalar.muli v135 c1_i32_65
  let v137 : BitVec 32 := Scalar.addi v2 v136
  let c1_i32_67 : BitVec 32 := 1#32
  let arg14 : BitVec 32 := Scf.iv v137 c1_i32_67 k0_t14
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t15_loop (v8 : BitVec 32) (v11 : BitVec 32) : Scf.Loop 32 :=
  let c0_i32_75 : BitVec 32 := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let v158 : BitVec 32 := Scalar.subi v157 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_77 : BitVec 32 := 1#32
  ⟨c0_i32_75, v162, c1_i32_77⟩
def k0_mult15 (v8 : BitVec 32) (v11 : BitVec 32) (k0_t15 : Fin (k0_t15_loop v8 v11).trips) : BitVec 32 :=
  let c0_i32_75 : BitVec 32 := 0#32
  let c1_i32_77 : BitVec 32 := 1#32
  let arg14 : BitVec 32 := Scf.iv c0_i32_75 c1_i32_77 k0_t15
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off33 (v8 : BitVec 32) (v11 : BitVec 32) (k0_t15 : Fin (k0_t15_loop v8 v11).trips) : Fin 4 → Nat :=
  let c0_440 : Index := 0#32
  let c0_441 : Index := 0#32
  let c0_i32_75 : BitVec 32 := 0#32
  let c1_i32_77 : BitVec 32 := 1#32
  let arg14 : BitVec 32 := Scf.iv c0_i32_75 c1_i32_77 k0_t15
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off34 (v8 : BitVec 32) (v11 : BitVec 32) (k0_t15 : Fin (k0_t15_loop v8 v11).trips) : Fin 2 → Nat :=
  let c0_i32_75 : BitVec 32 := 0#32
  let c1_i32_77 : BitVec 32 := 1#32
  let arg14 : BitVec 32 := Scf.iv c0_i32_75 c1_i32_77 k0_t15
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t16_loop (v8 : BitVec 32) (v11 : BitVec 32) : Scf.Loop 32 :=
  let c0_i32_75 : BitVec 32 := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let v158 : BitVec 32 := Scalar.subi v157 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let v159 : BitVec 32 := Scalar.addi c0_i32_75 v158
  let c1_i32_78 : BitVec 32 := 1#32
  ⟨v162, v159, c1_i32_78⟩
def k0_mult16 (v8 : BitVec 32) (v11 : BitVec 32) (k0_t16 : Fin (k0_t16_loop v8 v11).trips) : BitVec 32 :=
  let c0_i32_75 : BitVec 32 := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let v158 : BitVec 32 := Scalar.subi v157 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_78 : BitVec 32 := 1#32
  let arg14 : BitVec 32 := Scf.iv v162 c1_i32_78 k0_t16
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off35 (v8 : BitVec 32) (v11 : BitVec 32) (k0_t16 : Fin (k0_t16_loop v8 v11).trips) : Fin 4 → Nat :=
  let c0_440 : Index := 0#32
  let c0_441 : Index := 0#32
  let c0_i32_75 : BitVec 32 := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let v158 : BitVec 32 := Scalar.subi v157 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_78 : BitVec 32 := 1#32
  let arg14 : BitVec 32 := Scf.iv v162 c1_i32_78 k0_t16
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off36 (v8 : BitVec 32) (v11 : BitVec 32) (k0_t16 : Fin (k0_t16_loop v8 v11).trips) : Fin 2 → Nat :=
  let c0_i32_75 : BitVec 32 := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let v158 : BitVec 32 := Scalar.subi v157 c0_i32_75
  let c1_i32_76 : BitVec 32 := 1#32
  let v160 : BitVec 32 := Scalar.divsi v158 c1_i32_76
  let v161 : BitVec 32 := Scalar.muli v160 c1_i32_76
  let v162 : BitVec 32 := Scalar.addi c0_i32_75 v161
  let c1_i32_78 : BitVec 32 := 1#32
  let arg14 : BitVec 32 := Scf.iv v162 c1_i32_78 k0_t16
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t17_loop (v8 : BitVec 32) (v11 : BitVec 32) : Scf.Loop 32 :=
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let v167 : BitVec 32 := Scalar.subi v11 v166
  let c1_i32_80 : BitVec 32 := 1#32
  let v169 : BitVec 32 := Scalar.divsi v167 c1_i32_80
  let v170 : BitVec 32 := Scalar.muli v169 c1_i32_80
  let v171 : BitVec 32 := Scalar.addi v166 v170
  let c1_i32_81 : BitVec 32 := 1#32
  ⟨v166, v171, c1_i32_81⟩
def k0_mult17 (v8 : BitVec 32) (v11 : BitVec 32) (k0_t17 : Fin (k0_t17_loop v8 v11).trips) : BitVec 32 :=
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let c1_i32_81 : BitVec 32 := 1#32
  let arg14 : BitVec 32 := Scf.iv v166 c1_i32_81 k0_t17
  let c256_i32 : BitVec 32 := 256#32
  let v889 : BitVec 32 := Scalar.muli arg14 c256_i32
  v889
def k0_off37 (v8 : BitVec 32) (v11 : BitVec 32) (k0_t17 : Fin (k0_t17_loop v8 v11).trips) : Fin 4 → Nat :=
  let c0_439 : Index := 0#32
  let c0_440 : Index := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let c1_i32_81 : BitVec 32 := 1#32
  let arg14 : BitVec 32 := Scf.iv v166 c1_i32_81 k0_t17
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off38 (v8 : BitVec 32) (v11 : BitVec 32) (k0_t17 : Fin (k0_t17_loop v8 v11).trips) : Fin 2 → Nat :=
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let c1_i32_81 : BitVec 32 := 1#32
  let arg14 : BitVec 32 := Scf.iv v166 c1_i32_81 k0_t17
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t18_loop (v8 : BitVec 32) (v11 : BitVec 32) : Scf.Loop 32 :=
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let v167 : BitVec 32 := Scalar.subi v11 v166
  let c1_i32_80 : BitVec 32 := 1#32
  let v169 : BitVec 32 := Scalar.divsi v167 c1_i32_80
  let v170 : BitVec 32 := Scalar.muli v169 c1_i32_80
  let v171 : BitVec 32 := Scalar.addi v166 v170
  let v168 : BitVec 32 := Scalar.addi v166 v167
  let c1_i32_82 : BitVec 32 := 1#32
  ⟨v171, v168, c1_i32_82⟩
def k0_mult18 (v8 : BitVec 32) (v11 : BitVec 32) (k0_t18 : Fin (k0_t18_loop v8 v11).trips) : BitVec 32 :=
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let v167 : BitVec 32 := Scalar.subi v11 v166
  let c1_i32_80 : BitVec 32 := 1#32
  let v169 : BitVec 32 := Scalar.divsi v167 c1_i32_80
  let v170 : BitVec 32 := Scalar.muli v169 c1_i32_80
  let v171 : BitVec 32 := Scalar.addi v166 v170
  let c1_i32_82 : BitVec 32 := 1#32
  let arg14 : BitVec 32 := Scf.iv v171 c1_i32_82 k0_t18
  let c256_i32 : BitVec 32 := 256#32
  let v889 : BitVec 32 := Scalar.muli arg14 c256_i32
  v889
def k0_off39 (v8 : BitVec 32) (v11 : BitVec 32) (k0_t18 : Fin (k0_t18_loop v8 v11).trips) : Fin 4 → Nat :=
  let c0_439 : Index := 0#32
  let c0_440 : Index := 0#32
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let v167 : BitVec 32 := Scalar.subi v11 v166
  let c1_i32_80 : BitVec 32 := 1#32
  let v169 : BitVec 32 := Scalar.divsi v167 c1_i32_80
  let v170 : BitVec 32 := Scalar.muli v169 c1_i32_80
  let v171 : BitVec 32 := Scalar.addi v166 v170
  let c1_i32_82 : BitVec 32 := 1#32
  let arg14 : BitVec 32 := Scf.iv v171 c1_i32_82 k0_t18
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off40 (v8 : BitVec 32) (v11 : BitVec 32) (k0_t18 : Fin (k0_t18_loop v8 v11).trips) : Fin 2 → Nat :=
  let v140 : BitVec 32 := Scalar.subi v11 v8
  let c0_i32_69 : BitVec 32 := 0#32
  let v142 : BitVec 1 := Scalar.cmpi .sgt v140 c0_i32_69
  let v143 : BitVec 32 := Scalar.extui v142
  let c0_i32_70 : BitVec 32 := 0#32
  let v144 : BitVec 1 := Scalar.cmpi .slt v140 c0_i32_70
  let v145 : BitVec 32 := Scalar.extui v144
  let v146 : BitVec 32 := Scalar.subi v143 v145
  let c4_i32_68 : BitVec 32 := 4#32
  let c0_i32_71 : BitVec 32 := 0#32
  let v147 : BitVec 1 := Scalar.cmpi .sgt c4_i32_68 c0_i32_71
  let v148 : BitVec 32 := Scalar.extui v147
  let c0_i32_72 : BitVec 32 := 0#32
  let v149 : BitVec 1 := Scalar.cmpi .slt c4_i32_68 c0_i32_72
  let v150 : BitVec 32 := Scalar.extui v149
  let v151 : BitVec 32 := Scalar.subi v148 v150
  let v152 : BitVec 1 := Scalar.cmpi .ne v146 v151
  let v153 : BitVec 32 := Scalar.remsi v140 c4_i32_68
  let c0_i32_73 : BitVec 32 := 0#32
  let v154 : BitVec 1 := Scalar.cmpi .ne v153 c0_i32_73
  let v155 : BitVec 1 := Scalar.andi v152 v154
  let v141 : BitVec 32 := Scalar.divsi v140 c4_i32_68
  let c1_i32_74 : BitVec 32 := 1#32
  let v156 : BitVec 32 := Scalar.subi v141 c1_i32_74
  let v157 : BitVec 32 := Scalar.select v155 v156 v141
  let c4_i32_79 : BitVec 32 := 4#32
  let v165 : BitVec 32 := Scalar.muli v157 c4_i32_79
  let v166 : BitVec 32 := Scalar.addi v8 v165
  let v167 : BitVec 32 := Scalar.subi v11 v166
  let c1_i32_80 : BitVec 32 := 1#32
  let v169 : BitVec 32 := Scalar.divsi v167 c1_i32_80
  let v170 : BitVec 32 := Scalar.muli v169 c1_i32_80
  let v171 : BitVec 32 := Scalar.addi v166 v170
  let c1_i32_82 : BitVec 32 := 1#32
  let arg14 : BitVec 32 := Scf.iv v171 c1_i32_82 k0_t18
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t19_loop (v5 : BitVec 32) (v11 : BitVec 32) : Scf.Loop 32 :=
  let v174 : BitVec 32 := Scalar.subi v5 v11
  let c1_i32_83 : BitVec 32 := 1#32
  let v176 : BitVec 32 := Scalar.divsi v174 c1_i32_83
  let v177 : BitVec 32 := Scalar.muli v176 c1_i32_83
  let v178 : BitVec 32 := Scalar.addi v11 v177
  let c1_i32_84 : BitVec 32 := 1#32
  ⟨v11, v178, c1_i32_84⟩
def k0_mult19 (v5 : BitVec 32) (v11 : BitVec 32) (k0_t19 : Fin (k0_t19_loop v5 v11).trips) : BitVec 32 :=
  let c1_i32_84 : BitVec 32 := 1#32
  let arg14 : BitVec 32 := Scf.iv v11 c1_i32_84 k0_t19
  let c256_i32 : BitVec 32 := 256#32
  let v889 : BitVec 32 := Scalar.muli arg14 c256_i32
  v889
def k0_off41 (v5 : BitVec 32) (v11 : BitVec 32) (k0_t19 : Fin (k0_t19_loop v5 v11).trips) : Fin 4 → Nat :=
  let c0_439 : Index := 0#32
  let c0_440 : Index := 0#32
  let c1_i32_84 : BitVec 32 := 1#32
  let arg14 : BitVec 32 := Scf.iv v11 c1_i32_84 k0_t19
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off42 (v5 : BitVec 32) (v11 : BitVec 32) (k0_t19 : Fin (k0_t19_loop v5 v11).trips) : Fin 2 → Nat :=
  let c1_i32_84 : BitVec 32 := 1#32
  let arg14 : BitVec 32 := Scf.iv v11 c1_i32_84 k0_t19
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t20_loop (v5 : BitVec 32) (v11 : BitVec 32) : Scf.Loop 32 :=
  let v174 : BitVec 32 := Scalar.subi v5 v11
  let c1_i32_83 : BitVec 32 := 1#32
  let v176 : BitVec 32 := Scalar.divsi v174 c1_i32_83
  let v177 : BitVec 32 := Scalar.muli v176 c1_i32_83
  let v178 : BitVec 32 := Scalar.addi v11 v177
  let v175 : BitVec 32 := Scalar.addi v11 v174
  let c1_i32_85 : BitVec 32 := 1#32
  ⟨v178, v175, c1_i32_85⟩
def k0_mult20 (v5 : BitVec 32) (v11 : BitVec 32) (k0_t20 : Fin (k0_t20_loop v5 v11).trips) : BitVec 32 :=
  let v174 : BitVec 32 := Scalar.subi v5 v11
  let c1_i32_83 : BitVec 32 := 1#32
  let v176 : BitVec 32 := Scalar.divsi v174 c1_i32_83
  let v177 : BitVec 32 := Scalar.muli v176 c1_i32_83
  let v178 : BitVec 32 := Scalar.addi v11 v177
  let c1_i32_85 : BitVec 32 := 1#32
  let arg14 : BitVec 32 := Scf.iv v178 c1_i32_85 k0_t20
  let c256_i32 : BitVec 32 := 256#32
  let v889 : BitVec 32 := Scalar.muli arg14 c256_i32
  v889
def k0_off43 (v5 : BitVec 32) (v11 : BitVec 32) (k0_t20 : Fin (k0_t20_loop v5 v11).trips) : Fin 4 → Nat :=
  let c0_439 : Index := 0#32
  let c0_440 : Index := 0#32
  let v174 : BitVec 32 := Scalar.subi v5 v11
  let c1_i32_83 : BitVec 32 := 1#32
  let v176 : BitVec 32 := Scalar.divsi v174 c1_i32_83
  let v177 : BitVec 32 := Scalar.muli v176 c1_i32_83
  let v178 : BitVec 32 := Scalar.addi v11 v177
  let c1_i32_85 : BitVec 32 := 1#32
  let arg14 : BitVec 32 := Scf.iv v178 c1_i32_85 k0_t20
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off44 (v5 : BitVec 32) (v11 : BitVec 32) (k0_t20 : Fin (k0_t20_loop v5 v11).trips) : Fin 2 → Nat :=
  let v174 : BitVec 32 := Scalar.subi v5 v11
  let c1_i32_83 : BitVec 32 := 1#32
  let v176 : BitVec 32 := Scalar.divsi v174 c1_i32_83
  let v177 : BitVec 32 := Scalar.muli v176 c1_i32_83
  let v178 : BitVec 32 := Scalar.addi v11 v177
  let c1_i32_85 : BitVec 32 := 1#32
  let arg14 : BitVec 32 := Scf.iv v178 c1_i32_85 k0_t20
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t21_loop (v2 : BitVec 32) (v5 : BitVec 32) : Scf.Loop 32 :=
  let c0_i32_96 : BitVec 32 := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let v203 : BitVec 32 := Scalar.subi v202 c0_i32_96
  let c1_i32_97 : BitVec 32 := 1#32
  let v205 : BitVec 32 := Scalar.divsi v203 c1_i32_97
  let v206 : BitVec 32 := Scalar.muli v205 c1_i32_97
  let v207 : BitVec 32 := Scalar.addi c0_i32_96 v206
  let c1_i32_98 : BitVec 32 := 1#32
  ⟨c0_i32_96, v207, c1_i32_98⟩
def k0_mult21 (v2 : BitVec 32) (v5 : BitVec 32) (k0_t21 : Fin (k0_t21_loop v2 v5).trips) : BitVec 32 :=
  let c0_i32_96 : BitVec 32 := 0#32
  let c1_i32_98 : BitVec 32 := 1#32
  let arg14 : BitVec 32 := Scf.iv c0_i32_96 c1_i32_98 k0_t21
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off45 (v2 : BitVec 32) (v5 : BitVec 32) (k0_t21 : Fin (k0_t21_loop v2 v5).trips) : Fin 2 → Nat :=
  let c0_i32_96 : BitVec 32 := 0#32
  let c1_i32_98 : BitVec 32 := 1#32
  let arg14 : BitVec 32 := Scf.iv c0_i32_96 c1_i32_98 k0_t21
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off46 (v2 : BitVec 32) (v5 : BitVec 32) (k0_t21 : Fin (k0_t21_loop v2 v5).trips) : Fin 4 → Nat :=
  let c0_444 : Index := 0#32
  let c0_445 : Index := 0#32
  let c0_446 : Index := 0#32
  let c0_i32_96 : BitVec 32 := 0#32
  let c1_i32_98 : BitVec 32 := 1#32
  let arg14 : BitVec 32 := Scf.iv c0_i32_96 c1_i32_98 k0_t21
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t22_loop (v2 : BitVec 32) (v5 : BitVec 32) : Scf.Loop 32 :=
  let c0_i32_96 : BitVec 32 := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let v203 : BitVec 32 := Scalar.subi v202 c0_i32_96
  let c1_i32_97 : BitVec 32 := 1#32
  let v205 : BitVec 32 := Scalar.divsi v203 c1_i32_97
  let v206 : BitVec 32 := Scalar.muli v205 c1_i32_97
  let v207 : BitVec 32 := Scalar.addi c0_i32_96 v206
  let v204 : BitVec 32 := Scalar.addi c0_i32_96 v203
  let c1_i32_99 : BitVec 32 := 1#32
  ⟨v207, v204, c1_i32_99⟩
def k0_mult22 (v2 : BitVec 32) (v5 : BitVec 32) (k0_t22 : Fin (k0_t22_loop v2 v5).trips) : BitVec 32 :=
  let c0_i32_96 : BitVec 32 := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let v203 : BitVec 32 := Scalar.subi v202 c0_i32_96
  let c1_i32_97 : BitVec 32 := 1#32
  let v205 : BitVec 32 := Scalar.divsi v203 c1_i32_97
  let v206 : BitVec 32 := Scalar.muli v205 c1_i32_97
  let v207 : BitVec 32 := Scalar.addi c0_i32_96 v206
  let c1_i32_99 : BitVec 32 := 1#32
  let arg14 : BitVec 32 := Scf.iv v207 c1_i32_99 k0_t22
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off47 (v2 : BitVec 32) (v5 : BitVec 32) (k0_t22 : Fin (k0_t22_loop v2 v5).trips) : Fin 2 → Nat :=
  let c0_i32_96 : BitVec 32 := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let v203 : BitVec 32 := Scalar.subi v202 c0_i32_96
  let c1_i32_97 : BitVec 32 := 1#32
  let v205 : BitVec 32 := Scalar.divsi v203 c1_i32_97
  let v206 : BitVec 32 := Scalar.muli v205 c1_i32_97
  let v207 : BitVec 32 := Scalar.addi c0_i32_96 v206
  let c1_i32_99 : BitVec 32 := 1#32
  let arg14 : BitVec 32 := Scf.iv v207 c1_i32_99 k0_t22
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off48 (v2 : BitVec 32) (v5 : BitVec 32) (k0_t22 : Fin (k0_t22_loop v2 v5).trips) : Fin 4 → Nat :=
  let c0_444 : Index := 0#32
  let c0_445 : Index := 0#32
  let c0_446 : Index := 0#32
  let c0_i32_96 : BitVec 32 := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let v203 : BitVec 32 := Scalar.subi v202 c0_i32_96
  let c1_i32_97 : BitVec 32 := 1#32
  let v205 : BitVec 32 := Scalar.divsi v203 c1_i32_97
  let v206 : BitVec 32 := Scalar.muli v205 c1_i32_97
  let v207 : BitVec 32 := Scalar.addi c0_i32_96 v206
  let c1_i32_99 : BitVec 32 := 1#32
  let arg14 : BitVec 32 := Scf.iv v207 c1_i32_99 k0_t22
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t23_loop (v2 : BitVec 32) (v5 : BitVec 32) : Scf.Loop 32 :=
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let v212 : BitVec 32 := Scalar.subi v5 v211
  let c1_i32_101 : BitVec 32 := 1#32
  let v214 : BitVec 32 := Scalar.divsi v212 c1_i32_101
  let v215 : BitVec 32 := Scalar.muli v214 c1_i32_101
  let v216 : BitVec 32 := Scalar.addi v211 v215
  let c1_i32_102 : BitVec 32 := 1#32
  ⟨v211, v216, c1_i32_102⟩
def k0_mult23 (v2 : BitVec 32) (v5 : BitVec 32) (k0_t23 : Fin (k0_t23_loop v2 v5).trips) : BitVec 32 :=
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let c1_i32_102 : BitVec 32 := 1#32
  let arg14 : BitVec 32 := Scf.iv v211 c1_i32_102 k0_t23
  let c256_i32 : BitVec 32 := 256#32
  let v889 : BitVec 32 := Scalar.muli arg14 c256_i32
  v889
def k0_off49 (v2 : BitVec 32) (v5 : BitVec 32) (k0_t23 : Fin (k0_t23_loop v2 v5).trips) : Fin 2 → Nat :=
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let c1_i32_102 : BitVec 32 := 1#32
  let arg14 : BitVec 32 := Scf.iv v211 c1_i32_102 k0_t23
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off50 (v2 : BitVec 32) (v5 : BitVec 32) (k0_t23 : Fin (k0_t23_loop v2 v5).trips) : Fin 4 → Nat :=
  let c0_443 : Index := 0#32
  let c0_444 : Index := 0#32
  let c0_445 : Index := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let c1_i32_102 : BitVec 32 := 1#32
  let arg14 : BitVec 32 := Scf.iv v211 c1_i32_102 k0_t23
  let c256_i32 : BitVec 32 := 256#32
  let v889 : BitVec 32 := Scalar.muli arg14 c256_i32
  let v890 : BitVec 32 := v889
  let v906 : Index := Scalar.indexCast v890
  ![0, 0, 0, v906.toNat]
@[reducible] def k0_t24_loop (v2 : BitVec 32) (v5 : BitVec 32) : Scf.Loop 32 :=
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let v212 : BitVec 32 := Scalar.subi v5 v211
  let c1_i32_101 : BitVec 32 := 1#32
  let v214 : BitVec 32 := Scalar.divsi v212 c1_i32_101
  let v215 : BitVec 32 := Scalar.muli v214 c1_i32_101
  let v216 : BitVec 32 := Scalar.addi v211 v215
  let v213 : BitVec 32 := Scalar.addi v211 v212
  let c1_i32_103 : BitVec 32 := 1#32
  ⟨v216, v213, c1_i32_103⟩
def k0_mult24 (v2 : BitVec 32) (v5 : BitVec 32) (k0_t24 : Fin (k0_t24_loop v2 v5).trips) : BitVec 32 :=
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let v212 : BitVec 32 := Scalar.subi v5 v211
  let c1_i32_101 : BitVec 32 := 1#32
  let v214 : BitVec 32 := Scalar.divsi v212 c1_i32_101
  let v215 : BitVec 32 := Scalar.muli v214 c1_i32_101
  let v216 : BitVec 32 := Scalar.addi v211 v215
  let c1_i32_103 : BitVec 32 := 1#32
  let arg14 : BitVec 32 := Scf.iv v216 c1_i32_103 k0_t24
  let c256_i32 : BitVec 32 := 256#32
  let v889 : BitVec 32 := Scalar.muli arg14 c256_i32
  v889
def k0_off51 (v2 : BitVec 32) (v5 : BitVec 32) (k0_t24 : Fin (k0_t24_loop v2 v5).trips) : Fin 2 → Nat :=
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let v212 : BitVec 32 := Scalar.subi v5 v211
  let c1_i32_101 : BitVec 32 := 1#32
  let v214 : BitVec 32 := Scalar.divsi v212 c1_i32_101
  let v215 : BitVec 32 := Scalar.muli v214 c1_i32_101
  let v216 : BitVec 32 := Scalar.addi v211 v215
  let c1_i32_103 : BitVec 32 := 1#32
  let arg14 : BitVec 32 := Scf.iv v216 c1_i32_103 k0_t24
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off52 (v2 : BitVec 32) (v5 : BitVec 32) (k0_t24 : Fin (k0_t24_loop v2 v5).trips) : Fin 4 → Nat :=
  let c0_443 : Index := 0#32
  let c0_444 : Index := 0#32
  let c0_445 : Index := 0#32
  let v185 : BitVec 32 := Scalar.subi v5 v2
  let c0_i32_90 : BitVec 32 := 0#32
  let v187 : BitVec 1 := Scalar.cmpi .sgt v185 c0_i32_90
  let v188 : BitVec 32 := Scalar.extui v187
  let c0_i32_91 : BitVec 32 := 0#32
  let v189 : BitVec 1 := Scalar.cmpi .slt v185 c0_i32_91
  let v190 : BitVec 32 := Scalar.extui v189
  let v191 : BitVec 32 := Scalar.subi v188 v190
  let c4_i32_89 : BitVec 32 := 4#32
  let c0_i32_92 : BitVec 32 := 0#32
  let v192 : BitVec 1 := Scalar.cmpi .sgt c4_i32_89 c0_i32_92
  let v193 : BitVec 32 := Scalar.extui v192
  let c0_i32_93 : BitVec 32 := 0#32
  let v194 : BitVec 1 := Scalar.cmpi .slt c4_i32_89 c0_i32_93
  let v195 : BitVec 32 := Scalar.extui v194
  let v196 : BitVec 32 := Scalar.subi v193 v195
  let v197 : BitVec 1 := Scalar.cmpi .ne v191 v196
  let v198 : BitVec 32 := Scalar.remsi v185 c4_i32_89
  let c0_i32_94 : BitVec 32 := 0#32
  let v199 : BitVec 1 := Scalar.cmpi .ne v198 c0_i32_94
  let v200 : BitVec 1 := Scalar.andi v197 v199
  let v186 : BitVec 32 := Scalar.divsi v185 c4_i32_89
  let c1_i32_95 : BitVec 32 := 1#32
  let v201 : BitVec 32 := Scalar.subi v186 c1_i32_95
  let v202 : BitVec 32 := Scalar.select v200 v201 v186
  let c4_i32_100 : BitVec 32 := 4#32
  let v210 : BitVec 32 := Scalar.muli v202 c4_i32_100
  let v211 : BitVec 32 := Scalar.addi v2 v210
  let v212 : BitVec 32 := Scalar.subi v5 v211
  let c1_i32_101 : BitVec 32 := 1#32
  let v214 : BitVec 32 := Scalar.divsi v212 c1_i32_101
  let v215 : BitVec 32 := Scalar.muli v214 c1_i32_101
  let v216 : BitVec 32 := Scalar.addi v211 v215
  let c1_i32_103 : BitVec 32 := 1#32
  let arg14 : BitVec 32 := Scf.iv v216 c1_i32_103 k0_t24
  let c256_i32 : BitVec 32 := 256#32
  let v889 : BitVec 32 := Scalar.muli arg14 c256_i32
  let v890 : BitVec 32 := v889
  let v906 : Index := Scalar.indexCast v890
  ![0, 0, 0, v906.toNat]
@[reducible] def k0_t25_loop (v2 : BitVec 32) (v8 : BitVec 32) : Scf.Loop 32 :=
  let v242 : BitVec 32 := Scalar.subi v8 v2
  let c1_i32_120 : BitVec 32 := 1#32
  let v244 : BitVec 32 := Scalar.divsi v242 c1_i32_120
  let v245 : BitVec 32 := Scalar.muli v244 c1_i32_120
  let v246 : BitVec 32 := Scalar.addi v2 v245
  let c1_i32_121 : BitVec 32 := 1#32
  ⟨v2, v246, c1_i32_121⟩
def k0_mult25 (v2 : BitVec 32) (v8 : BitVec 32) (k0_t25 : Fin (k0_t25_loop v2 v8).trips) : BitVec 32 :=
  let c1_i32_121 : BitVec 32 := 1#32
  let arg14 : BitVec 32 := Scf.iv v2 c1_i32_121 k0_t25
  let c256_i32 : BitVec 32 := 256#32
  let v889 : BitVec 32 := Scalar.muli arg14 c256_i32
  v889
def k0_off53 (v2 : BitVec 32) (v8 : BitVec 32) (k0_t25 : Fin (k0_t25_loop v2 v8).trips) : Fin 4 → Nat :=
  let c0_439 : Index := 0#32
  let c0_440 : Index := 0#32
  let c1_i32_121 : BitVec 32 := 1#32
  let arg14 : BitVec 32 := Scf.iv v2 c1_i32_121 k0_t25
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off54 (v2 : BitVec 32) (v8 : BitVec 32) (k0_t25 : Fin (k0_t25_loop v2 v8).trips) : Fin 2 → Nat :=
  let c1_i32_121 : BitVec 32 := 1#32
  let arg14 : BitVec 32 := Scf.iv v2 c1_i32_121 k0_t25
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t26_loop (v2 : BitVec 32) (v8 : BitVec 32) : Scf.Loop 32 :=
  let v242 : BitVec 32 := Scalar.subi v8 v2
  let c1_i32_120 : BitVec 32 := 1#32
  let v244 : BitVec 32 := Scalar.divsi v242 c1_i32_120
  let v245 : BitVec 32 := Scalar.muli v244 c1_i32_120
  let v246 : BitVec 32 := Scalar.addi v2 v245
  let v243 : BitVec 32 := Scalar.addi v2 v242
  let c1_i32_122 : BitVec 32 := 1#32
  ⟨v246, v243, c1_i32_122⟩
def k0_mult26 (v2 : BitVec 32) (v8 : BitVec 32) (k0_t26 : Fin (k0_t26_loop v2 v8).trips) : BitVec 32 :=
  let v242 : BitVec 32 := Scalar.subi v8 v2
  let c1_i32_120 : BitVec 32 := 1#32
  let v244 : BitVec 32 := Scalar.divsi v242 c1_i32_120
  let v245 : BitVec 32 := Scalar.muli v244 c1_i32_120
  let v246 : BitVec 32 := Scalar.addi v2 v245
  let c1_i32_122 : BitVec 32 := 1#32
  let arg14 : BitVec 32 := Scf.iv v246 c1_i32_122 k0_t26
  let c256_i32 : BitVec 32 := 256#32
  let v889 : BitVec 32 := Scalar.muli arg14 c256_i32
  v889
def k0_off55 (v2 : BitVec 32) (v8 : BitVec 32) (k0_t26 : Fin (k0_t26_loop v2 v8).trips) : Fin 4 → Nat :=
  let c0_439 : Index := 0#32
  let c0_440 : Index := 0#32
  let v242 : BitVec 32 := Scalar.subi v8 v2
  let c1_i32_120 : BitVec 32 := 1#32
  let v244 : BitVec 32 := Scalar.divsi v242 c1_i32_120
  let v245 : BitVec 32 := Scalar.muli v244 c1_i32_120
  let v246 : BitVec 32 := Scalar.addi v2 v245
  let c1_i32_122 : BitVec 32 := 1#32
  let arg14 : BitVec 32 := Scf.iv v246 c1_i32_122 k0_t26
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off56 (v2 : BitVec 32) (v8 : BitVec 32) (k0_t26 : Fin (k0_t26_loop v2 v8).trips) : Fin 2 → Nat :=
  let v242 : BitVec 32 := Scalar.subi v8 v2
  let c1_i32_120 : BitVec 32 := 1#32
  let v244 : BitVec 32 := Scalar.divsi v242 c1_i32_120
  let v245 : BitVec 32 := Scalar.muli v244 c1_i32_120
  let v246 : BitVec 32 := Scalar.addi v2 v245
  let c1_i32_122 : BitVec 32 := 1#32
  let arg14 : BitVec 32 := Scf.iv v246 c1_i32_122 k0_t26
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t27_loop (v8 : BitVec 32) (v11 : BitVec 32) : Scf.Loop 32 :=
  let c0_i32_130 : BitVec 32 := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let v267 : BitVec 32 := Scalar.subi v266 c0_i32_130
  let c1_i32_131 : BitVec 32 := 1#32
  let v269 : BitVec 32 := Scalar.divsi v267 c1_i32_131
  let v270 : BitVec 32 := Scalar.muli v269 c1_i32_131
  let v271 : BitVec 32 := Scalar.addi c0_i32_130 v270
  let c1_i32_132 : BitVec 32 := 1#32
  ⟨c0_i32_130, v271, c1_i32_132⟩
def k0_mult27 (v8 : BitVec 32) (v11 : BitVec 32) (k0_t27 : Fin (k0_t27_loop v8 v11).trips) : BitVec 32 :=
  let c0_i32_130 : BitVec 32 := 0#32
  let c1_i32_132 : BitVec 32 := 1#32
  let arg14 : BitVec 32 := Scf.iv c0_i32_130 c1_i32_132 k0_t27
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off57 (v8 : BitVec 32) (v11 : BitVec 32) (k0_t27 : Fin (k0_t27_loop v8 v11).trips) : Fin 4 → Nat :=
  let c0_440 : Index := 0#32
  let c0_441 : Index := 0#32
  let c0_i32_130 : BitVec 32 := 0#32
  let c1_i32_132 : BitVec 32 := 1#32
  let arg14 : BitVec 32 := Scf.iv c0_i32_130 c1_i32_132 k0_t27
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off58 (v8 : BitVec 32) (v11 : BitVec 32) (k0_t27 : Fin (k0_t27_loop v8 v11).trips) : Fin 2 → Nat :=
  let c0_i32_130 : BitVec 32 := 0#32
  let c1_i32_132 : BitVec 32 := 1#32
  let arg14 : BitVec 32 := Scf.iv c0_i32_130 c1_i32_132 k0_t27
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t28_loop (v8 : BitVec 32) (v11 : BitVec 32) : Scf.Loop 32 :=
  let c0_i32_130 : BitVec 32 := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let v267 : BitVec 32 := Scalar.subi v266 c0_i32_130
  let c1_i32_131 : BitVec 32 := 1#32
  let v269 : BitVec 32 := Scalar.divsi v267 c1_i32_131
  let v270 : BitVec 32 := Scalar.muli v269 c1_i32_131
  let v271 : BitVec 32 := Scalar.addi c0_i32_130 v270
  let v268 : BitVec 32 := Scalar.addi c0_i32_130 v267
  let c1_i32_133 : BitVec 32 := 1#32
  ⟨v271, v268, c1_i32_133⟩
def k0_mult28 (v8 : BitVec 32) (v11 : BitVec 32) (k0_t28 : Fin (k0_t28_loop v8 v11).trips) : BitVec 32 :=
  let c0_i32_130 : BitVec 32 := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let v267 : BitVec 32 := Scalar.subi v266 c0_i32_130
  let c1_i32_131 : BitVec 32 := 1#32
  let v269 : BitVec 32 := Scalar.divsi v267 c1_i32_131
  let v270 : BitVec 32 := Scalar.muli v269 c1_i32_131
  let v271 : BitVec 32 := Scalar.addi c0_i32_130 v270
  let c1_i32_133 : BitVec 32 := 1#32
  let arg14 : BitVec 32 := Scf.iv v271 c1_i32_133 k0_t28
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off59 (v8 : BitVec 32) (v11 : BitVec 32) (k0_t28 : Fin (k0_t28_loop v8 v11).trips) : Fin 4 → Nat :=
  let c0_440 : Index := 0#32
  let c0_441 : Index := 0#32
  let c0_i32_130 : BitVec 32 := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let v267 : BitVec 32 := Scalar.subi v266 c0_i32_130
  let c1_i32_131 : BitVec 32 := 1#32
  let v269 : BitVec 32 := Scalar.divsi v267 c1_i32_131
  let v270 : BitVec 32 := Scalar.muli v269 c1_i32_131
  let v271 : BitVec 32 := Scalar.addi c0_i32_130 v270
  let c1_i32_133 : BitVec 32 := 1#32
  let arg14 : BitVec 32 := Scf.iv v271 c1_i32_133 k0_t28
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off60 (v8 : BitVec 32) (v11 : BitVec 32) (k0_t28 : Fin (k0_t28_loop v8 v11).trips) : Fin 2 → Nat :=
  let c0_i32_130 : BitVec 32 := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let v267 : BitVec 32 := Scalar.subi v266 c0_i32_130
  let c1_i32_131 : BitVec 32 := 1#32
  let v269 : BitVec 32 := Scalar.divsi v267 c1_i32_131
  let v270 : BitVec 32 := Scalar.muli v269 c1_i32_131
  let v271 : BitVec 32 := Scalar.addi c0_i32_130 v270
  let c1_i32_133 : BitVec 32 := 1#32
  let arg14 : BitVec 32 := Scf.iv v271 c1_i32_133 k0_t28
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t29_loop (v8 : BitVec 32) (v11 : BitVec 32) : Scf.Loop 32 :=
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let v276 : BitVec 32 := Scalar.subi v11 v275
  let c1_i32_135 : BitVec 32 := 1#32
  let v278 : BitVec 32 := Scalar.divsi v276 c1_i32_135
  let v279 : BitVec 32 := Scalar.muli v278 c1_i32_135
  let v280 : BitVec 32 := Scalar.addi v275 v279
  let c1_i32_136 : BitVec 32 := 1#32
  ⟨v275, v280, c1_i32_136⟩
def k0_mult29 (v8 : BitVec 32) (v11 : BitVec 32) (k0_t29 : Fin (k0_t29_loop v8 v11).trips) : BitVec 32 :=
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let c1_i32_136 : BitVec 32 := 1#32
  let arg14 : BitVec 32 := Scf.iv v275 c1_i32_136 k0_t29
  let c256_i32 : BitVec 32 := 256#32
  let v889 : BitVec 32 := Scalar.muli arg14 c256_i32
  v889
def k0_off61 (v8 : BitVec 32) (v11 : BitVec 32) (k0_t29 : Fin (k0_t29_loop v8 v11).trips) : Fin 4 → Nat :=
  let c0_439 : Index := 0#32
  let c0_440 : Index := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let c1_i32_136 : BitVec 32 := 1#32
  let arg14 : BitVec 32 := Scf.iv v275 c1_i32_136 k0_t29
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off62 (v8 : BitVec 32) (v11 : BitVec 32) (k0_t29 : Fin (k0_t29_loop v8 v11).trips) : Fin 2 → Nat :=
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let c1_i32_136 : BitVec 32 := 1#32
  let arg14 : BitVec 32 := Scf.iv v275 c1_i32_136 k0_t29
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t30_loop (v8 : BitVec 32) (v11 : BitVec 32) : Scf.Loop 32 :=
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let v276 : BitVec 32 := Scalar.subi v11 v275
  let c1_i32_135 : BitVec 32 := 1#32
  let v278 : BitVec 32 := Scalar.divsi v276 c1_i32_135
  let v279 : BitVec 32 := Scalar.muli v278 c1_i32_135
  let v280 : BitVec 32 := Scalar.addi v275 v279
  let v277 : BitVec 32 := Scalar.addi v275 v276
  let c1_i32_137 : BitVec 32 := 1#32
  ⟨v280, v277, c1_i32_137⟩
def k0_mult30 (v8 : BitVec 32) (v11 : BitVec 32) (k0_t30 : Fin (k0_t30_loop v8 v11).trips) : BitVec 32 :=
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let v276 : BitVec 32 := Scalar.subi v11 v275
  let c1_i32_135 : BitVec 32 := 1#32
  let v278 : BitVec 32 := Scalar.divsi v276 c1_i32_135
  let v279 : BitVec 32 := Scalar.muli v278 c1_i32_135
  let v280 : BitVec 32 := Scalar.addi v275 v279
  let c1_i32_137 : BitVec 32 := 1#32
  let arg14 : BitVec 32 := Scf.iv v280 c1_i32_137 k0_t30
  let c256_i32 : BitVec 32 := 256#32
  let v889 : BitVec 32 := Scalar.muli arg14 c256_i32
  v889
def k0_off63 (v8 : BitVec 32) (v11 : BitVec 32) (k0_t30 : Fin (k0_t30_loop v8 v11).trips) : Fin 4 → Nat :=
  let c0_439 : Index := 0#32
  let c0_440 : Index := 0#32
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let v276 : BitVec 32 := Scalar.subi v11 v275
  let c1_i32_135 : BitVec 32 := 1#32
  let v278 : BitVec 32 := Scalar.divsi v276 c1_i32_135
  let v279 : BitVec 32 := Scalar.muli v278 c1_i32_135
  let v280 : BitVec 32 := Scalar.addi v275 v279
  let c1_i32_137 : BitVec 32 := 1#32
  let arg14 : BitVec 32 := Scf.iv v280 c1_i32_137 k0_t30
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off64 (v8 : BitVec 32) (v11 : BitVec 32) (k0_t30 : Fin (k0_t30_loop v8 v11).trips) : Fin 2 → Nat :=
  let v249 : BitVec 32 := Scalar.subi v11 v8
  let c0_i32_124 : BitVec 32 := 0#32
  let v251 : BitVec 1 := Scalar.cmpi .sgt v249 c0_i32_124
  let v252 : BitVec 32 := Scalar.extui v251
  let c0_i32_125 : BitVec 32 := 0#32
  let v253 : BitVec 1 := Scalar.cmpi .slt v249 c0_i32_125
  let v254 : BitVec 32 := Scalar.extui v253
  let v255 : BitVec 32 := Scalar.subi v252 v254
  let c4_i32_123 : BitVec 32 := 4#32
  let c0_i32_126 : BitVec 32 := 0#32
  let v256 : BitVec 1 := Scalar.cmpi .sgt c4_i32_123 c0_i32_126
  let v257 : BitVec 32 := Scalar.extui v256
  let c0_i32_127 : BitVec 32 := 0#32
  let v258 : BitVec 1 := Scalar.cmpi .slt c4_i32_123 c0_i32_127
  let v259 : BitVec 32 := Scalar.extui v258
  let v260 : BitVec 32 := Scalar.subi v257 v259
  let v261 : BitVec 1 := Scalar.cmpi .ne v255 v260
  let v262 : BitVec 32 := Scalar.remsi v249 c4_i32_123
  let c0_i32_128 : BitVec 32 := 0#32
  let v263 : BitVec 1 := Scalar.cmpi .ne v262 c0_i32_128
  let v264 : BitVec 1 := Scalar.andi v261 v263
  let v250 : BitVec 32 := Scalar.divsi v249 c4_i32_123
  let c1_i32_129 : BitVec 32 := 1#32
  let v265 : BitVec 32 := Scalar.subi v250 c1_i32_129
  let v266 : BitVec 32 := Scalar.select v264 v265 v250
  let c4_i32_134 : BitVec 32 := 4#32
  let v274 : BitVec 32 := Scalar.muli v266 c4_i32_134
  let v275 : BitVec 32 := Scalar.addi v8 v274
  let v276 : BitVec 32 := Scalar.subi v11 v275
  let c1_i32_135 : BitVec 32 := 1#32
  let v278 : BitVec 32 := Scalar.divsi v276 c1_i32_135
  let v279 : BitVec 32 := Scalar.muli v278 c1_i32_135
  let v280 : BitVec 32 := Scalar.addi v275 v279
  let c1_i32_137 : BitVec 32 := 1#32
  let arg14 : BitVec 32 := Scf.iv v280 c1_i32_137 k0_t30
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t31_loop (v5 : BitVec 32) (v11 : BitVec 32) : Scf.Loop 32 :=
  let v283 : BitVec 32 := Scalar.subi v5 v11
  let c1_i32_138 : BitVec 32 := 1#32
  let v285 : BitVec 32 := Scalar.divsi v283 c1_i32_138
  let v286 : BitVec 32 := Scalar.muli v285 c1_i32_138
  let v287 : BitVec 32 := Scalar.addi v11 v286
  let c1_i32_139 : BitVec 32 := 1#32
  ⟨v11, v287, c1_i32_139⟩
def k0_mult31 (v5 : BitVec 32) (v11 : BitVec 32) (k0_t31 : Fin (k0_t31_loop v5 v11).trips) : BitVec 32 :=
  let c1_i32_139 : BitVec 32 := 1#32
  let arg14 : BitVec 32 := Scf.iv v11 c1_i32_139 k0_t31
  let c256_i32 : BitVec 32 := 256#32
  let v889 : BitVec 32 := Scalar.muli arg14 c256_i32
  v889
def k0_off65 (v5 : BitVec 32) (v11 : BitVec 32) (k0_t31 : Fin (k0_t31_loop v5 v11).trips) : Fin 4 → Nat :=
  let c0_439 : Index := 0#32
  let c0_440 : Index := 0#32
  let c1_i32_139 : BitVec 32 := 1#32
  let arg14 : BitVec 32 := Scf.iv v11 c1_i32_139 k0_t31
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off66 (v5 : BitVec 32) (v11 : BitVec 32) (k0_t31 : Fin (k0_t31_loop v5 v11).trips) : Fin 2 → Nat :=
  let c1_i32_139 : BitVec 32 := 1#32
  let arg14 : BitVec 32 := Scf.iv v11 c1_i32_139 k0_t31
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t32_loop (v5 : BitVec 32) (v11 : BitVec 32) : Scf.Loop 32 :=
  let v283 : BitVec 32 := Scalar.subi v5 v11
  let c1_i32_138 : BitVec 32 := 1#32
  let v285 : BitVec 32 := Scalar.divsi v283 c1_i32_138
  let v286 : BitVec 32 := Scalar.muli v285 c1_i32_138
  let v287 : BitVec 32 := Scalar.addi v11 v286
  let v284 : BitVec 32 := Scalar.addi v11 v283
  let c1_i32_140 : BitVec 32 := 1#32
  ⟨v287, v284, c1_i32_140⟩
def k0_mult32 (v5 : BitVec 32) (v11 : BitVec 32) (k0_t32 : Fin (k0_t32_loop v5 v11).trips) : BitVec 32 :=
  let v283 : BitVec 32 := Scalar.subi v5 v11
  let c1_i32_138 : BitVec 32 := 1#32
  let v285 : BitVec 32 := Scalar.divsi v283 c1_i32_138
  let v286 : BitVec 32 := Scalar.muli v285 c1_i32_138
  let v287 : BitVec 32 := Scalar.addi v11 v286
  let c1_i32_140 : BitVec 32 := 1#32
  let arg14 : BitVec 32 := Scf.iv v287 c1_i32_140 k0_t32
  let c256_i32 : BitVec 32 := 256#32
  let v889 : BitVec 32 := Scalar.muli arg14 c256_i32
  v889
def k0_off67 (v5 : BitVec 32) (v11 : BitVec 32) (k0_t32 : Fin (k0_t32_loop v5 v11).trips) : Fin 4 → Nat :=
  let c0_439 : Index := 0#32
  let c0_440 : Index := 0#32
  let v283 : BitVec 32 := Scalar.subi v5 v11
  let c1_i32_138 : BitVec 32 := 1#32
  let v285 : BitVec 32 := Scalar.divsi v283 c1_i32_138
  let v286 : BitVec 32 := Scalar.muli v285 c1_i32_138
  let v287 : BitVec 32 := Scalar.addi v11 v286
  let c1_i32_140 : BitVec 32 := 1#32
  let arg14 : BitVec 32 := Scf.iv v287 c1_i32_140 k0_t32
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off68 (v5 : BitVec 32) (v11 : BitVec 32) (k0_t32 : Fin (k0_t32_loop v5 v11).trips) : Fin 2 → Nat :=
  let v283 : BitVec 32 := Scalar.subi v5 v11
  let c1_i32_138 : BitVec 32 := 1#32
  let v285 : BitVec 32 := Scalar.divsi v283 c1_i32_138
  let v286 : BitVec 32 := Scalar.muli v285 c1_i32_138
  let v287 : BitVec 32 := Scalar.addi v11 v286
  let c1_i32_140 : BitVec 32 := 1#32
  let arg14 : BitVec 32 := Scf.iv v287 c1_i32_140 k0_t32
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t33_loop (v2 : BitVec 32) (v5 : BitVec 32) : Scf.Loop 32 :=
  let c0_i32_151 : BitVec 32 := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let v312 : BitVec 32 := Scalar.subi v311 c0_i32_151
  let c1_i32_152 : BitVec 32 := 1#32
  let v314 : BitVec 32 := Scalar.divsi v312 c1_i32_152
  let v315 : BitVec 32 := Scalar.muli v314 c1_i32_152
  let v316 : BitVec 32 := Scalar.addi c0_i32_151 v315
  let c1_i32_153 : BitVec 32 := 1#32
  ⟨c0_i32_151, v316, c1_i32_153⟩
def k0_mult33 (v2 : BitVec 32) (v5 : BitVec 32) (k0_t33 : Fin (k0_t33_loop v2 v5).trips) : BitVec 32 :=
  let c0_i32_151 : BitVec 32 := 0#32
  let c1_i32_153 : BitVec 32 := 1#32
  let arg14 : BitVec 32 := Scf.iv c0_i32_151 c1_i32_153 k0_t33
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off69 (v2 : BitVec 32) (v5 : BitVec 32) (k0_t33 : Fin (k0_t33_loop v2 v5).trips) : Fin 2 → Nat :=
  let c0_i32_151 : BitVec 32 := 0#32
  let c1_i32_153 : BitVec 32 := 1#32
  let arg14 : BitVec 32 := Scf.iv c0_i32_151 c1_i32_153 k0_t33
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off70 (v2 : BitVec 32) (v5 : BitVec 32) (k0_t33 : Fin (k0_t33_loop v2 v5).trips) : Fin 4 → Nat :=
  let c0_444 : Index := 0#32
  let c0_445 : Index := 0#32
  let c0_446 : Index := 0#32
  let c0_i32_151 : BitVec 32 := 0#32
  let c1_i32_153 : BitVec 32 := 1#32
  let arg14 : BitVec 32 := Scf.iv c0_i32_151 c1_i32_153 k0_t33
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t34_loop (v2 : BitVec 32) (v5 : BitVec 32) : Scf.Loop 32 :=
  let c0_i32_151 : BitVec 32 := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let v312 : BitVec 32 := Scalar.subi v311 c0_i32_151
  let c1_i32_152 : BitVec 32 := 1#32
  let v314 : BitVec 32 := Scalar.divsi v312 c1_i32_152
  let v315 : BitVec 32 := Scalar.muli v314 c1_i32_152
  let v316 : BitVec 32 := Scalar.addi c0_i32_151 v315
  let v313 : BitVec 32 := Scalar.addi c0_i32_151 v312
  let c1_i32_154 : BitVec 32 := 1#32
  ⟨v316, v313, c1_i32_154⟩
def k0_mult34 (v2 : BitVec 32) (v5 : BitVec 32) (k0_t34 : Fin (k0_t34_loop v2 v5).trips) : BitVec 32 :=
  let c0_i32_151 : BitVec 32 := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let v312 : BitVec 32 := Scalar.subi v311 c0_i32_151
  let c1_i32_152 : BitVec 32 := 1#32
  let v314 : BitVec 32 := Scalar.divsi v312 c1_i32_152
  let v315 : BitVec 32 := Scalar.muli v314 c1_i32_152
  let v316 : BitVec 32 := Scalar.addi c0_i32_151 v315
  let c1_i32_154 : BitVec 32 := 1#32
  let arg14 : BitVec 32 := Scf.iv v316 c1_i32_154 k0_t34
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off71 (v2 : BitVec 32) (v5 : BitVec 32) (k0_t34 : Fin (k0_t34_loop v2 v5).trips) : Fin 2 → Nat :=
  let c0_i32_151 : BitVec 32 := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let v312 : BitVec 32 := Scalar.subi v311 c0_i32_151
  let c1_i32_152 : BitVec 32 := 1#32
  let v314 : BitVec 32 := Scalar.divsi v312 c1_i32_152
  let v315 : BitVec 32 := Scalar.muli v314 c1_i32_152
  let v316 : BitVec 32 := Scalar.addi c0_i32_151 v315
  let c1_i32_154 : BitVec 32 := 1#32
  let arg14 : BitVec 32 := Scf.iv v316 c1_i32_154 k0_t34
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off72 (v2 : BitVec 32) (v5 : BitVec 32) (k0_t34 : Fin (k0_t34_loop v2 v5).trips) : Fin 4 → Nat :=
  let c0_444 : Index := 0#32
  let c0_445 : Index := 0#32
  let c0_446 : Index := 0#32
  let c0_i32_151 : BitVec 32 := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let v312 : BitVec 32 := Scalar.subi v311 c0_i32_151
  let c1_i32_152 : BitVec 32 := 1#32
  let v314 : BitVec 32 := Scalar.divsi v312 c1_i32_152
  let v315 : BitVec 32 := Scalar.muli v314 c1_i32_152
  let v316 : BitVec 32 := Scalar.addi c0_i32_151 v315
  let c1_i32_154 : BitVec 32 := 1#32
  let arg14 : BitVec 32 := Scf.iv v316 c1_i32_154 k0_t34
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t35_loop (v2 : BitVec 32) (v5 : BitVec 32) : Scf.Loop 32 :=
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let v321 : BitVec 32 := Scalar.subi v5 v320
  let c1_i32_156 : BitVec 32 := 1#32
  let v323 : BitVec 32 := Scalar.divsi v321 c1_i32_156
  let v324 : BitVec 32 := Scalar.muli v323 c1_i32_156
  let v325 : BitVec 32 := Scalar.addi v320 v324
  let c1_i32_157 : BitVec 32 := 1#32
  ⟨v320, v325, c1_i32_157⟩
def k0_mult35 (v2 : BitVec 32) (v5 : BitVec 32) (k0_t35 : Fin (k0_t35_loop v2 v5).trips) : BitVec 32 :=
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let c1_i32_157 : BitVec 32 := 1#32
  let arg14 : BitVec 32 := Scf.iv v320 c1_i32_157 k0_t35
  let c256_i32 : BitVec 32 := 256#32
  let v889 : BitVec 32 := Scalar.muli arg14 c256_i32
  v889
def k0_off73 (v2 : BitVec 32) (v5 : BitVec 32) (k0_t35 : Fin (k0_t35_loop v2 v5).trips) : Fin 2 → Nat :=
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let c1_i32_157 : BitVec 32 := 1#32
  let arg14 : BitVec 32 := Scf.iv v320 c1_i32_157 k0_t35
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off74 (v2 : BitVec 32) (v5 : BitVec 32) (k0_t35 : Fin (k0_t35_loop v2 v5).trips) : Fin 4 → Nat :=
  let c0_443 : Index := 0#32
  let c0_444 : Index := 0#32
  let c0_445 : Index := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let c1_i32_157 : BitVec 32 := 1#32
  let arg14 : BitVec 32 := Scf.iv v320 c1_i32_157 k0_t35
  let c256_i32 : BitVec 32 := 256#32
  let v889 : BitVec 32 := Scalar.muli arg14 c256_i32
  let v890 : BitVec 32 := v889
  let v906 : Index := Scalar.indexCast v890
  ![0, 0, 0, v906.toNat]
@[reducible] def k0_t36_loop (v2 : BitVec 32) (v5 : BitVec 32) : Scf.Loop 32 :=
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let v321 : BitVec 32 := Scalar.subi v5 v320
  let c1_i32_156 : BitVec 32 := 1#32
  let v323 : BitVec 32 := Scalar.divsi v321 c1_i32_156
  let v324 : BitVec 32 := Scalar.muli v323 c1_i32_156
  let v325 : BitVec 32 := Scalar.addi v320 v324
  let v322 : BitVec 32 := Scalar.addi v320 v321
  let c1_i32_158 : BitVec 32 := 1#32
  ⟨v325, v322, c1_i32_158⟩
def k0_mult36 (v2 : BitVec 32) (v5 : BitVec 32) (k0_t36 : Fin (k0_t36_loop v2 v5).trips) : BitVec 32 :=
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let v321 : BitVec 32 := Scalar.subi v5 v320
  let c1_i32_156 : BitVec 32 := 1#32
  let v323 : BitVec 32 := Scalar.divsi v321 c1_i32_156
  let v324 : BitVec 32 := Scalar.muli v323 c1_i32_156
  let v325 : BitVec 32 := Scalar.addi v320 v324
  let c1_i32_158 : BitVec 32 := 1#32
  let arg14 : BitVec 32 := Scf.iv v325 c1_i32_158 k0_t36
  let c256_i32 : BitVec 32 := 256#32
  let v889 : BitVec 32 := Scalar.muli arg14 c256_i32
  v889
def k0_off75 (v2 : BitVec 32) (v5 : BitVec 32) (k0_t36 : Fin (k0_t36_loop v2 v5).trips) : Fin 2 → Nat :=
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let v321 : BitVec 32 := Scalar.subi v5 v320
  let c1_i32_156 : BitVec 32 := 1#32
  let v323 : BitVec 32 := Scalar.divsi v321 c1_i32_156
  let v324 : BitVec 32 := Scalar.muli v323 c1_i32_156
  let v325 : BitVec 32 := Scalar.addi v320 v324
  let c1_i32_158 : BitVec 32 := 1#32
  let arg14 : BitVec 32 := Scf.iv v325 c1_i32_158 k0_t36
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off76 (v2 : BitVec 32) (v5 : BitVec 32) (k0_t36 : Fin (k0_t36_loop v2 v5).trips) : Fin 4 → Nat :=
  let c0_443 : Index := 0#32
  let c0_444 : Index := 0#32
  let c0_445 : Index := 0#32
  let v294 : BitVec 32 := Scalar.subi v5 v2
  let c0_i32_145 : BitVec 32 := 0#32
  let v296 : BitVec 1 := Scalar.cmpi .sgt v294 c0_i32_145
  let v297 : BitVec 32 := Scalar.extui v296
  let c0_i32_146 : BitVec 32 := 0#32
  let v298 : BitVec 1 := Scalar.cmpi .slt v294 c0_i32_146
  let v299 : BitVec 32 := Scalar.extui v298
  let v300 : BitVec 32 := Scalar.subi v297 v299
  let c4_i32_144 : BitVec 32 := 4#32
  let c0_i32_147 : BitVec 32 := 0#32
  let v301 : BitVec 1 := Scalar.cmpi .sgt c4_i32_144 c0_i32_147
  let v302 : BitVec 32 := Scalar.extui v301
  let c0_i32_148 : BitVec 32 := 0#32
  let v303 : BitVec 1 := Scalar.cmpi .slt c4_i32_144 c0_i32_148
  let v304 : BitVec 32 := Scalar.extui v303
  let v305 : BitVec 32 := Scalar.subi v302 v304
  let v306 : BitVec 1 := Scalar.cmpi .ne v300 v305
  let v307 : BitVec 32 := Scalar.remsi v294 c4_i32_144
  let c0_i32_149 : BitVec 32 := 0#32
  let v308 : BitVec 1 := Scalar.cmpi .ne v307 c0_i32_149
  let v309 : BitVec 1 := Scalar.andi v306 v308
  let v295 : BitVec 32 := Scalar.divsi v294 c4_i32_144
  let c1_i32_150 : BitVec 32 := 1#32
  let v310 : BitVec 32 := Scalar.subi v295 c1_i32_150
  let v311 : BitVec 32 := Scalar.select v309 v310 v295
  let c4_i32_155 : BitVec 32 := 4#32
  let v319 : BitVec 32 := Scalar.muli v311 c4_i32_155
  let v320 : BitVec 32 := Scalar.addi v2 v319
  let v321 : BitVec 32 := Scalar.subi v5 v320
  let c1_i32_156 : BitVec 32 := 1#32
  let v323 : BitVec 32 := Scalar.divsi v321 c1_i32_156
  let v324 : BitVec 32 := Scalar.muli v323 c1_i32_156
  let v325 : BitVec 32 := Scalar.addi v320 v324
  let c1_i32_158 : BitVec 32 := 1#32
  let arg14 : BitVec 32 := Scf.iv v325 c1_i32_158 k0_t36
  let c256_i32 : BitVec 32 := 256#32
  let v889 : BitVec 32 := Scalar.muli arg14 c256_i32
  let v890 : BitVec 32 := v889
  let v906 : Index := Scalar.indexCast v890
  ![0, 0, 0, v906.toNat]
@[reducible] def k0_t37_loop (v2 : BitVec 32) (v8 : BitVec 32) : Scf.Loop 32 :=
  let v351 : BitVec 32 := Scalar.subi v8 v2
  let c1_i32_175 : BitVec 32 := 1#32
  let v353 : BitVec 32 := Scalar.divsi v351 c1_i32_175
  let v354 : BitVec 32 := Scalar.muli v353 c1_i32_175
  let v355 : BitVec 32 := Scalar.addi v2 v354
  let c1_i32_176 : BitVec 32 := 1#32
  ⟨v2, v355, c1_i32_176⟩
def k0_mult37 (v2 : BitVec 32) (v8 : BitVec 32) (k0_t37 : Fin (k0_t37_loop v2 v8).trips) : BitVec 32 :=
  let c1_i32_176 : BitVec 32 := 1#32
  let arg14 : BitVec 32 := Scf.iv v2 c1_i32_176 k0_t37
  let c256_i32 : BitVec 32 := 256#32
  let v889 : BitVec 32 := Scalar.muli arg14 c256_i32
  v889
def k0_off77 (v2 : BitVec 32) (v8 : BitVec 32) (k0_t37 : Fin (k0_t37_loop v2 v8).trips) : Fin 4 → Nat :=
  let c0_439 : Index := 0#32
  let c0_440 : Index := 0#32
  let c1_i32_176 : BitVec 32 := 1#32
  let arg14 : BitVec 32 := Scf.iv v2 c1_i32_176 k0_t37
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off78 (v2 : BitVec 32) (v8 : BitVec 32) (k0_t37 : Fin (k0_t37_loop v2 v8).trips) : Fin 2 → Nat :=
  let c1_i32_176 : BitVec 32 := 1#32
  let arg14 : BitVec 32 := Scf.iv v2 c1_i32_176 k0_t37
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t38_loop (v2 : BitVec 32) (v8 : BitVec 32) : Scf.Loop 32 :=
  let v351 : BitVec 32 := Scalar.subi v8 v2
  let c1_i32_175 : BitVec 32 := 1#32
  let v353 : BitVec 32 := Scalar.divsi v351 c1_i32_175
  let v354 : BitVec 32 := Scalar.muli v353 c1_i32_175
  let v355 : BitVec 32 := Scalar.addi v2 v354
  let v352 : BitVec 32 := Scalar.addi v2 v351
  let c1_i32_177 : BitVec 32 := 1#32
  ⟨v355, v352, c1_i32_177⟩
def k0_mult38 (v2 : BitVec 32) (v8 : BitVec 32) (k0_t38 : Fin (k0_t38_loop v2 v8).trips) : BitVec 32 :=
  let v351 : BitVec 32 := Scalar.subi v8 v2
  let c1_i32_175 : BitVec 32 := 1#32
  let v353 : BitVec 32 := Scalar.divsi v351 c1_i32_175
  let v354 : BitVec 32 := Scalar.muli v353 c1_i32_175
  let v355 : BitVec 32 := Scalar.addi v2 v354
  let c1_i32_177 : BitVec 32 := 1#32
  let arg14 : BitVec 32 := Scf.iv v355 c1_i32_177 k0_t38
  let c256_i32 : BitVec 32 := 256#32
  let v889 : BitVec 32 := Scalar.muli arg14 c256_i32
  v889
def k0_off79 (v2 : BitVec 32) (v8 : BitVec 32) (k0_t38 : Fin (k0_t38_loop v2 v8).trips) : Fin 4 → Nat :=
  let c0_439 : Index := 0#32
  let c0_440 : Index := 0#32
  let v351 : BitVec 32 := Scalar.subi v8 v2
  let c1_i32_175 : BitVec 32 := 1#32
  let v353 : BitVec 32 := Scalar.divsi v351 c1_i32_175
  let v354 : BitVec 32 := Scalar.muli v353 c1_i32_175
  let v355 : BitVec 32 := Scalar.addi v2 v354
  let c1_i32_177 : BitVec 32 := 1#32
  let arg14 : BitVec 32 := Scf.iv v355 c1_i32_177 k0_t38
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off80 (v2 : BitVec 32) (v8 : BitVec 32) (k0_t38 : Fin (k0_t38_loop v2 v8).trips) : Fin 2 → Nat :=
  let v351 : BitVec 32 := Scalar.subi v8 v2
  let c1_i32_175 : BitVec 32 := 1#32
  let v353 : BitVec 32 := Scalar.divsi v351 c1_i32_175
  let v354 : BitVec 32 := Scalar.muli v353 c1_i32_175
  let v355 : BitVec 32 := Scalar.addi v2 v354
  let c1_i32_177 : BitVec 32 := 1#32
  let arg14 : BitVec 32 := Scf.iv v355 c1_i32_177 k0_t38
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t39_loop (v8 : BitVec 32) (v11 : BitVec 32) : Scf.Loop 32 :=
  let c0_i32_185 : BitVec 32 := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let v376 : BitVec 32 := Scalar.subi v375 c0_i32_185
  let c1_i32_186 : BitVec 32 := 1#32
  let v378 : BitVec 32 := Scalar.divsi v376 c1_i32_186
  let v379 : BitVec 32 := Scalar.muli v378 c1_i32_186
  let v380 : BitVec 32 := Scalar.addi c0_i32_185 v379
  let c1_i32_187 : BitVec 32 := 1#32
  ⟨c0_i32_185, v380, c1_i32_187⟩
def k0_mult39 (v8 : BitVec 32) (v11 : BitVec 32) (k0_t39 : Fin (k0_t39_loop v8 v11).trips) : BitVec 32 :=
  let c0_i32_185 : BitVec 32 := 0#32
  let c1_i32_187 : BitVec 32 := 1#32
  let arg14 : BitVec 32 := Scf.iv c0_i32_185 c1_i32_187 k0_t39
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off81 (v8 : BitVec 32) (v11 : BitVec 32) (k0_t39 : Fin (k0_t39_loop v8 v11).trips) : Fin 4 → Nat :=
  let c0_440 : Index := 0#32
  let c0_441 : Index := 0#32
  let c0_i32_185 : BitVec 32 := 0#32
  let c1_i32_187 : BitVec 32 := 1#32
  let arg14 : BitVec 32 := Scf.iv c0_i32_185 c1_i32_187 k0_t39
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off82 (v8 : BitVec 32) (v11 : BitVec 32) (k0_t39 : Fin (k0_t39_loop v8 v11).trips) : Fin 2 → Nat :=
  let c0_i32_185 : BitVec 32 := 0#32
  let c1_i32_187 : BitVec 32 := 1#32
  let arg14 : BitVec 32 := Scf.iv c0_i32_185 c1_i32_187 k0_t39
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t40_loop (v8 : BitVec 32) (v11 : BitVec 32) : Scf.Loop 32 :=
  let c0_i32_185 : BitVec 32 := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let v376 : BitVec 32 := Scalar.subi v375 c0_i32_185
  let c1_i32_186 : BitVec 32 := 1#32
  let v378 : BitVec 32 := Scalar.divsi v376 c1_i32_186
  let v379 : BitVec 32 := Scalar.muli v378 c1_i32_186
  let v380 : BitVec 32 := Scalar.addi c0_i32_185 v379
  let v377 : BitVec 32 := Scalar.addi c0_i32_185 v376
  let c1_i32_188 : BitVec 32 := 1#32
  ⟨v380, v377, c1_i32_188⟩
def k0_mult40 (v8 : BitVec 32) (v11 : BitVec 32) (k0_t40 : Fin (k0_t40_loop v8 v11).trips) : BitVec 32 :=
  let c0_i32_185 : BitVec 32 := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let v376 : BitVec 32 := Scalar.subi v375 c0_i32_185
  let c1_i32_186 : BitVec 32 := 1#32
  let v378 : BitVec 32 := Scalar.divsi v376 c1_i32_186
  let v379 : BitVec 32 := Scalar.muli v378 c1_i32_186
  let v380 : BitVec 32 := Scalar.addi c0_i32_185 v379
  let c1_i32_188 : BitVec 32 := 1#32
  let arg14 : BitVec 32 := Scf.iv v380 c1_i32_188 k0_t40
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off83 (v8 : BitVec 32) (v11 : BitVec 32) (k0_t40 : Fin (k0_t40_loop v8 v11).trips) : Fin 4 → Nat :=
  let c0_440 : Index := 0#32
  let c0_441 : Index := 0#32
  let c0_i32_185 : BitVec 32 := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let v376 : BitVec 32 := Scalar.subi v375 c0_i32_185
  let c1_i32_186 : BitVec 32 := 1#32
  let v378 : BitVec 32 := Scalar.divsi v376 c1_i32_186
  let v379 : BitVec 32 := Scalar.muli v378 c1_i32_186
  let v380 : BitVec 32 := Scalar.addi c0_i32_185 v379
  let c1_i32_188 : BitVec 32 := 1#32
  let arg14 : BitVec 32 := Scf.iv v380 c1_i32_188 k0_t40
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off84 (v8 : BitVec 32) (v11 : BitVec 32) (k0_t40 : Fin (k0_t40_loop v8 v11).trips) : Fin 2 → Nat :=
  let c0_i32_185 : BitVec 32 := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let v376 : BitVec 32 := Scalar.subi v375 c0_i32_185
  let c1_i32_186 : BitVec 32 := 1#32
  let v378 : BitVec 32 := Scalar.divsi v376 c1_i32_186
  let v379 : BitVec 32 := Scalar.muli v378 c1_i32_186
  let v380 : BitVec 32 := Scalar.addi c0_i32_185 v379
  let c1_i32_188 : BitVec 32 := 1#32
  let arg14 : BitVec 32 := Scf.iv v380 c1_i32_188 k0_t40
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t41_loop (v8 : BitVec 32) (v11 : BitVec 32) : Scf.Loop 32 :=
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let v385 : BitVec 32 := Scalar.subi v11 v384
  let c1_i32_190 : BitVec 32 := 1#32
  let v387 : BitVec 32 := Scalar.divsi v385 c1_i32_190
  let v388 : BitVec 32 := Scalar.muli v387 c1_i32_190
  let v389 : BitVec 32 := Scalar.addi v384 v388
  let c1_i32_191 : BitVec 32 := 1#32
  ⟨v384, v389, c1_i32_191⟩
def k0_mult41 (v8 : BitVec 32) (v11 : BitVec 32) (k0_t41 : Fin (k0_t41_loop v8 v11).trips) : BitVec 32 :=
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let c1_i32_191 : BitVec 32 := 1#32
  let arg14 : BitVec 32 := Scf.iv v384 c1_i32_191 k0_t41
  let c256_i32 : BitVec 32 := 256#32
  let v889 : BitVec 32 := Scalar.muli arg14 c256_i32
  v889
def k0_off85 (v8 : BitVec 32) (v11 : BitVec 32) (k0_t41 : Fin (k0_t41_loop v8 v11).trips) : Fin 4 → Nat :=
  let c0_439 : Index := 0#32
  let c0_440 : Index := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let c1_i32_191 : BitVec 32 := 1#32
  let arg14 : BitVec 32 := Scf.iv v384 c1_i32_191 k0_t41
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off86 (v8 : BitVec 32) (v11 : BitVec 32) (k0_t41 : Fin (k0_t41_loop v8 v11).trips) : Fin 2 → Nat :=
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let c1_i32_191 : BitVec 32 := 1#32
  let arg14 : BitVec 32 := Scf.iv v384 c1_i32_191 k0_t41
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t42_loop (v8 : BitVec 32) (v11 : BitVec 32) : Scf.Loop 32 :=
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let v385 : BitVec 32 := Scalar.subi v11 v384
  let c1_i32_190 : BitVec 32 := 1#32
  let v387 : BitVec 32 := Scalar.divsi v385 c1_i32_190
  let v388 : BitVec 32 := Scalar.muli v387 c1_i32_190
  let v389 : BitVec 32 := Scalar.addi v384 v388
  let v386 : BitVec 32 := Scalar.addi v384 v385
  let c1_i32_192 : BitVec 32 := 1#32
  ⟨v389, v386, c1_i32_192⟩
def k0_mult42 (v8 : BitVec 32) (v11 : BitVec 32) (k0_t42 : Fin (k0_t42_loop v8 v11).trips) : BitVec 32 :=
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let v385 : BitVec 32 := Scalar.subi v11 v384
  let c1_i32_190 : BitVec 32 := 1#32
  let v387 : BitVec 32 := Scalar.divsi v385 c1_i32_190
  let v388 : BitVec 32 := Scalar.muli v387 c1_i32_190
  let v389 : BitVec 32 := Scalar.addi v384 v388
  let c1_i32_192 : BitVec 32 := 1#32
  let arg14 : BitVec 32 := Scf.iv v389 c1_i32_192 k0_t42
  let c256_i32 : BitVec 32 := 256#32
  let v889 : BitVec 32 := Scalar.muli arg14 c256_i32
  v889
def k0_off87 (v8 : BitVec 32) (v11 : BitVec 32) (k0_t42 : Fin (k0_t42_loop v8 v11).trips) : Fin 4 → Nat :=
  let c0_439 : Index := 0#32
  let c0_440 : Index := 0#32
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let v385 : BitVec 32 := Scalar.subi v11 v384
  let c1_i32_190 : BitVec 32 := 1#32
  let v387 : BitVec 32 := Scalar.divsi v385 c1_i32_190
  let v388 : BitVec 32 := Scalar.muli v387 c1_i32_190
  let v389 : BitVec 32 := Scalar.addi v384 v388
  let c1_i32_192 : BitVec 32 := 1#32
  let arg14 : BitVec 32 := Scf.iv v389 c1_i32_192 k0_t42
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off88 (v8 : BitVec 32) (v11 : BitVec 32) (k0_t42 : Fin (k0_t42_loop v8 v11).trips) : Fin 2 → Nat :=
  let v358 : BitVec 32 := Scalar.subi v11 v8
  let c0_i32_179 : BitVec 32 := 0#32
  let v360 : BitVec 1 := Scalar.cmpi .sgt v358 c0_i32_179
  let v361 : BitVec 32 := Scalar.extui v360
  let c0_i32_180 : BitVec 32 := 0#32
  let v362 : BitVec 1 := Scalar.cmpi .slt v358 c0_i32_180
  let v363 : BitVec 32 := Scalar.extui v362
  let v364 : BitVec 32 := Scalar.subi v361 v363
  let c4_i32_178 : BitVec 32 := 4#32
  let c0_i32_181 : BitVec 32 := 0#32
  let v365 : BitVec 1 := Scalar.cmpi .sgt c4_i32_178 c0_i32_181
  let v366 : BitVec 32 := Scalar.extui v365
  let c0_i32_182 : BitVec 32 := 0#32
  let v367 : BitVec 1 := Scalar.cmpi .slt c4_i32_178 c0_i32_182
  let v368 : BitVec 32 := Scalar.extui v367
  let v369 : BitVec 32 := Scalar.subi v366 v368
  let v370 : BitVec 1 := Scalar.cmpi .ne v364 v369
  let v371 : BitVec 32 := Scalar.remsi v358 c4_i32_178
  let c0_i32_183 : BitVec 32 := 0#32
  let v372 : BitVec 1 := Scalar.cmpi .ne v371 c0_i32_183
  let v373 : BitVec 1 := Scalar.andi v370 v372
  let v359 : BitVec 32 := Scalar.divsi v358 c4_i32_178
  let c1_i32_184 : BitVec 32 := 1#32
  let v374 : BitVec 32 := Scalar.subi v359 c1_i32_184
  let v375 : BitVec 32 := Scalar.select v373 v374 v359
  let c4_i32_189 : BitVec 32 := 4#32
  let v383 : BitVec 32 := Scalar.muli v375 c4_i32_189
  let v384 : BitVec 32 := Scalar.addi v8 v383
  let v385 : BitVec 32 := Scalar.subi v11 v384
  let c1_i32_190 : BitVec 32 := 1#32
  let v387 : BitVec 32 := Scalar.divsi v385 c1_i32_190
  let v388 : BitVec 32 := Scalar.muli v387 c1_i32_190
  let v389 : BitVec 32 := Scalar.addi v384 v388
  let c1_i32_192 : BitVec 32 := 1#32
  let arg14 : BitVec 32 := Scf.iv v389 c1_i32_192 k0_t42
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t43_loop (v5 : BitVec 32) (v11 : BitVec 32) : Scf.Loop 32 :=
  let v392 : BitVec 32 := Scalar.subi v5 v11
  let c1_i32_193 : BitVec 32 := 1#32
  let v394 : BitVec 32 := Scalar.divsi v392 c1_i32_193
  let v395 : BitVec 32 := Scalar.muli v394 c1_i32_193
  let v396 : BitVec 32 := Scalar.addi v11 v395
  let c1_i32_194 : BitVec 32 := 1#32
  ⟨v11, v396, c1_i32_194⟩
def k0_mult43 (v5 : BitVec 32) (v11 : BitVec 32) (k0_t43 : Fin (k0_t43_loop v5 v11).trips) : BitVec 32 :=
  let c1_i32_194 : BitVec 32 := 1#32
  let arg14 : BitVec 32 := Scf.iv v11 c1_i32_194 k0_t43
  let c256_i32 : BitVec 32 := 256#32
  let v889 : BitVec 32 := Scalar.muli arg14 c256_i32
  v889
def k0_off89 (v5 : BitVec 32) (v11 : BitVec 32) (k0_t43 : Fin (k0_t43_loop v5 v11).trips) : Fin 4 → Nat :=
  let c0_439 : Index := 0#32
  let c0_440 : Index := 0#32
  let c1_i32_194 : BitVec 32 := 1#32
  let arg14 : BitVec 32 := Scf.iv v11 c1_i32_194 k0_t43
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off90 (v5 : BitVec 32) (v11 : BitVec 32) (k0_t43 : Fin (k0_t43_loop v5 v11).trips) : Fin 2 → Nat :=
  let c1_i32_194 : BitVec 32 := 1#32
  let arg14 : BitVec 32 := Scf.iv v11 c1_i32_194 k0_t43
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t44_loop (v5 : BitVec 32) (v11 : BitVec 32) : Scf.Loop 32 :=
  let v392 : BitVec 32 := Scalar.subi v5 v11
  let c1_i32_193 : BitVec 32 := 1#32
  let v394 : BitVec 32 := Scalar.divsi v392 c1_i32_193
  let v395 : BitVec 32 := Scalar.muli v394 c1_i32_193
  let v396 : BitVec 32 := Scalar.addi v11 v395
  let v393 : BitVec 32 := Scalar.addi v11 v392
  let c1_i32_195 : BitVec 32 := 1#32
  ⟨v396, v393, c1_i32_195⟩
def k0_mult44 (v5 : BitVec 32) (v11 : BitVec 32) (k0_t44 : Fin (k0_t44_loop v5 v11).trips) : BitVec 32 :=
  let v392 : BitVec 32 := Scalar.subi v5 v11
  let c1_i32_193 : BitVec 32 := 1#32
  let v394 : BitVec 32 := Scalar.divsi v392 c1_i32_193
  let v395 : BitVec 32 := Scalar.muli v394 c1_i32_193
  let v396 : BitVec 32 := Scalar.addi v11 v395
  let c1_i32_195 : BitVec 32 := 1#32
  let arg14 : BitVec 32 := Scf.iv v396 c1_i32_195 k0_t44
  let c256_i32 : BitVec 32 := 256#32
  let v889 : BitVec 32 := Scalar.muli arg14 c256_i32
  v889
def k0_off91 (v5 : BitVec 32) (v11 : BitVec 32) (k0_t44 : Fin (k0_t44_loop v5 v11).trips) : Fin 4 → Nat :=
  let c0_439 : Index := 0#32
  let c0_440 : Index := 0#32
  let v392 : BitVec 32 := Scalar.subi v5 v11
  let c1_i32_193 : BitVec 32 := 1#32
  let v394 : BitVec 32 := Scalar.divsi v392 c1_i32_193
  let v395 : BitVec 32 := Scalar.muli v394 c1_i32_193
  let v396 : BitVec 32 := Scalar.addi v11 v395
  let c1_i32_195 : BitVec 32 := 1#32
  let arg14 : BitVec 32 := Scf.iv v396 c1_i32_195 k0_t44
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off92 (v5 : BitVec 32) (v11 : BitVec 32) (k0_t44 : Fin (k0_t44_loop v5 v11).trips) : Fin 2 → Nat :=
  let v392 : BitVec 32 := Scalar.subi v5 v11
  let c1_i32_193 : BitVec 32 := 1#32
  let v394 : BitVec 32 := Scalar.divsi v392 c1_i32_193
  let v395 : BitVec 32 := Scalar.muli v394 c1_i32_193
  let v396 : BitVec 32 := Scalar.addi v11 v395
  let c1_i32_195 : BitVec 32 := 1#32
  let arg14 : BitVec 32 := Scf.iv v396 c1_i32_195 k0_t44
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t45_loop (v2 : BitVec 32) (v5 : BitVec 32) : Scf.Loop 32 :=
  let c0_i32_206 : BitVec 32 := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let v421 : BitVec 32 := Scalar.subi v420 c0_i32_206
  let c1_i32_207 : BitVec 32 := 1#32
  let v423 : BitVec 32 := Scalar.divsi v421 c1_i32_207
  let v424 : BitVec 32 := Scalar.muli v423 c1_i32_207
  let v425 : BitVec 32 := Scalar.addi c0_i32_206 v424
  let c1_i32_208 : BitVec 32 := 1#32
  ⟨c0_i32_206, v425, c1_i32_208⟩
def k0_mult45 (v2 : BitVec 32) (v5 : BitVec 32) (k0_t45 : Fin (k0_t45_loop v2 v5).trips) : BitVec 32 :=
  let c0_i32_206 : BitVec 32 := 0#32
  let c1_i32_208 : BitVec 32 := 1#32
  let arg14 : BitVec 32 := Scf.iv c0_i32_206 c1_i32_208 k0_t45
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off93 (v2 : BitVec 32) (v5 : BitVec 32) (k0_t45 : Fin (k0_t45_loop v2 v5).trips) : Fin 2 → Nat :=
  let c0_i32_206 : BitVec 32 := 0#32
  let c1_i32_208 : BitVec 32 := 1#32
  let arg14 : BitVec 32 := Scf.iv c0_i32_206 c1_i32_208 k0_t45
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off94 (v2 : BitVec 32) (v5 : BitVec 32) (k0_t45 : Fin (k0_t45_loop v2 v5).trips) : Fin 4 → Nat :=
  let c0_444 : Index := 0#32
  let c0_445 : Index := 0#32
  let c0_446 : Index := 0#32
  let c0_i32_206 : BitVec 32 := 0#32
  let c1_i32_208 : BitVec 32 := 1#32
  let arg14 : BitVec 32 := Scf.iv c0_i32_206 c1_i32_208 k0_t45
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t46_loop (v2 : BitVec 32) (v5 : BitVec 32) : Scf.Loop 32 :=
  let c0_i32_206 : BitVec 32 := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let v421 : BitVec 32 := Scalar.subi v420 c0_i32_206
  let c1_i32_207 : BitVec 32 := 1#32
  let v423 : BitVec 32 := Scalar.divsi v421 c1_i32_207
  let v424 : BitVec 32 := Scalar.muli v423 c1_i32_207
  let v425 : BitVec 32 := Scalar.addi c0_i32_206 v424
  let v422 : BitVec 32 := Scalar.addi c0_i32_206 v421
  let c1_i32_209 : BitVec 32 := 1#32
  ⟨v425, v422, c1_i32_209⟩
def k0_mult46 (v2 : BitVec 32) (v5 : BitVec 32) (k0_t46 : Fin (k0_t46_loop v2 v5).trips) : BitVec 32 :=
  let c0_i32_206 : BitVec 32 := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let v421 : BitVec 32 := Scalar.subi v420 c0_i32_206
  let c1_i32_207 : BitVec 32 := 1#32
  let v423 : BitVec 32 := Scalar.divsi v421 c1_i32_207
  let v424 : BitVec 32 := Scalar.muli v423 c1_i32_207
  let v425 : BitVec 32 := Scalar.addi c0_i32_206 v424
  let c1_i32_209 : BitVec 32 := 1#32
  let arg14 : BitVec 32 := Scf.iv v425 c1_i32_209 k0_t46
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off95 (v2 : BitVec 32) (v5 : BitVec 32) (k0_t46 : Fin (k0_t46_loop v2 v5).trips) : Fin 2 → Nat :=
  let c0_i32_206 : BitVec 32 := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let v421 : BitVec 32 := Scalar.subi v420 c0_i32_206
  let c1_i32_207 : BitVec 32 := 1#32
  let v423 : BitVec 32 := Scalar.divsi v421 c1_i32_207
  let v424 : BitVec 32 := Scalar.muli v423 c1_i32_207
  let v425 : BitVec 32 := Scalar.addi c0_i32_206 v424
  let c1_i32_209 : BitVec 32 := 1#32
  let arg14 : BitVec 32 := Scf.iv v425 c1_i32_209 k0_t46
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off96 (v2 : BitVec 32) (v5 : BitVec 32) (k0_t46 : Fin (k0_t46_loop v2 v5).trips) : Fin 4 → Nat :=
  let c0_444 : Index := 0#32
  let c0_445 : Index := 0#32
  let c0_446 : Index := 0#32
  let c0_i32_206 : BitVec 32 := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let v421 : BitVec 32 := Scalar.subi v420 c0_i32_206
  let c1_i32_207 : BitVec 32 := 1#32
  let v423 : BitVec 32 := Scalar.divsi v421 c1_i32_207
  let v424 : BitVec 32 := Scalar.muli v423 c1_i32_207
  let v425 : BitVec 32 := Scalar.addi c0_i32_206 v424
  let c1_i32_209 : BitVec 32 := 1#32
  let arg14 : BitVec 32 := Scf.iv v425 c1_i32_209 k0_t46
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t47_loop (v2 : BitVec 32) (v5 : BitVec 32) : Scf.Loop 32 :=
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let v430 : BitVec 32 := Scalar.subi v5 v429
  let c1_i32_211 : BitVec 32 := 1#32
  let v432 : BitVec 32 := Scalar.divsi v430 c1_i32_211
  let v433 : BitVec 32 := Scalar.muli v432 c1_i32_211
  let v434 : BitVec 32 := Scalar.addi v429 v433
  let c1_i32_212 : BitVec 32 := 1#32
  ⟨v429, v434, c1_i32_212⟩
def k0_mult47 (v2 : BitVec 32) (v5 : BitVec 32) (k0_t47 : Fin (k0_t47_loop v2 v5).trips) : BitVec 32 :=
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let c1_i32_212 : BitVec 32 := 1#32
  let arg14 : BitVec 32 := Scf.iv v429 c1_i32_212 k0_t47
  let c256_i32 : BitVec 32 := 256#32
  let v889 : BitVec 32 := Scalar.muli arg14 c256_i32
  v889
def k0_off97 (v2 : BitVec 32) (v5 : BitVec 32) (k0_t47 : Fin (k0_t47_loop v2 v5).trips) : Fin 2 → Nat :=
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let c1_i32_212 : BitVec 32 := 1#32
  let arg14 : BitVec 32 := Scf.iv v429 c1_i32_212 k0_t47
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off98 (v2 : BitVec 32) (v5 : BitVec 32) (k0_t47 : Fin (k0_t47_loop v2 v5).trips) : Fin 4 → Nat :=
  let c0_443 : Index := 0#32
  let c0_444 : Index := 0#32
  let c0_445 : Index := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let c1_i32_212 : BitVec 32 := 1#32
  let arg14 : BitVec 32 := Scf.iv v429 c1_i32_212 k0_t47
  let c256_i32 : BitVec 32 := 256#32
  let v889 : BitVec 32 := Scalar.muli arg14 c256_i32
  let v890 : BitVec 32 := v889
  let v906 : Index := Scalar.indexCast v890
  ![0, 0, 0, v906.toNat]
@[reducible] def k0_t48_loop (v2 : BitVec 32) (v5 : BitVec 32) : Scf.Loop 32 :=
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let v430 : BitVec 32 := Scalar.subi v5 v429
  let c1_i32_211 : BitVec 32 := 1#32
  let v432 : BitVec 32 := Scalar.divsi v430 c1_i32_211
  let v433 : BitVec 32 := Scalar.muli v432 c1_i32_211
  let v434 : BitVec 32 := Scalar.addi v429 v433
  let v431 : BitVec 32 := Scalar.addi v429 v430
  let c1_i32_213 : BitVec 32 := 1#32
  ⟨v434, v431, c1_i32_213⟩
def k0_mult48 (v2 : BitVec 32) (v5 : BitVec 32) (k0_t48 : Fin (k0_t48_loop v2 v5).trips) : BitVec 32 :=
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let v430 : BitVec 32 := Scalar.subi v5 v429
  let c1_i32_211 : BitVec 32 := 1#32
  let v432 : BitVec 32 := Scalar.divsi v430 c1_i32_211
  let v433 : BitVec 32 := Scalar.muli v432 c1_i32_211
  let v434 : BitVec 32 := Scalar.addi v429 v433
  let c1_i32_213 : BitVec 32 := 1#32
  let arg14 : BitVec 32 := Scf.iv v434 c1_i32_213 k0_t48
  let c256_i32 : BitVec 32 := 256#32
  let v889 : BitVec 32 := Scalar.muli arg14 c256_i32
  v889
def k0_off99 (v2 : BitVec 32) (v5 : BitVec 32) (k0_t48 : Fin (k0_t48_loop v2 v5).trips) : Fin 2 → Nat :=
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let v430 : BitVec 32 := Scalar.subi v5 v429
  let c1_i32_211 : BitVec 32 := 1#32
  let v432 : BitVec 32 := Scalar.divsi v430 c1_i32_211
  let v433 : BitVec 32 := Scalar.muli v432 c1_i32_211
  let v434 : BitVec 32 := Scalar.addi v429 v433
  let c1_i32_213 : BitVec 32 := 1#32
  let arg14 : BitVec 32 := Scf.iv v434 c1_i32_213 k0_t48
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off100 (v2 : BitVec 32) (v5 : BitVec 32) (k0_t48 : Fin (k0_t48_loop v2 v5).trips) : Fin 4 → Nat :=
  let c0_443 : Index := 0#32
  let c0_444 : Index := 0#32
  let c0_445 : Index := 0#32
  let v403 : BitVec 32 := Scalar.subi v5 v2
  let c0_i32_200 : BitVec 32 := 0#32
  let v405 : BitVec 1 := Scalar.cmpi .sgt v403 c0_i32_200
  let v406 : BitVec 32 := Scalar.extui v405
  let c0_i32_201 : BitVec 32 := 0#32
  let v407 : BitVec 1 := Scalar.cmpi .slt v403 c0_i32_201
  let v408 : BitVec 32 := Scalar.extui v407
  let v409 : BitVec 32 := Scalar.subi v406 v408
  let c4_i32_199 : BitVec 32 := 4#32
  let c0_i32_202 : BitVec 32 := 0#32
  let v410 : BitVec 1 := Scalar.cmpi .sgt c4_i32_199 c0_i32_202
  let v411 : BitVec 32 := Scalar.extui v410
  let c0_i32_203 : BitVec 32 := 0#32
  let v412 : BitVec 1 := Scalar.cmpi .slt c4_i32_199 c0_i32_203
  let v413 : BitVec 32 := Scalar.extui v412
  let v414 : BitVec 32 := Scalar.subi v411 v413
  let v415 : BitVec 1 := Scalar.cmpi .ne v409 v414
  let v416 : BitVec 32 := Scalar.remsi v403 c4_i32_199
  let c0_i32_204 : BitVec 32 := 0#32
  let v417 : BitVec 1 := Scalar.cmpi .ne v416 c0_i32_204
  let v418 : BitVec 1 := Scalar.andi v415 v417
  let v404 : BitVec 32 := Scalar.divsi v403 c4_i32_199
  let c1_i32_205 : BitVec 32 := 1#32
  let v419 : BitVec 32 := Scalar.subi v404 c1_i32_205
  let v420 : BitVec 32 := Scalar.select v418 v419 v404
  let c4_i32_210 : BitVec 32 := 4#32
  let v428 : BitVec 32 := Scalar.muli v420 c4_i32_210
  let v429 : BitVec 32 := Scalar.addi v2 v428
  let v430 : BitVec 32 := Scalar.subi v5 v429
  let c1_i32_211 : BitVec 32 := 1#32
  let v432 : BitVec 32 := Scalar.divsi v430 c1_i32_211
  let v433 : BitVec 32 := Scalar.muli v432 c1_i32_211
  let v434 : BitVec 32 := Scalar.addi v429 v433
  let c1_i32_213 : BitVec 32 := 1#32
  let arg14 : BitVec 32 := Scf.iv v434 c1_i32_213 k0_t48
  let c256_i32 : BitVec 32 := 256#32
  let v889 : BitVec 32 := Scalar.muli arg14 c256_i32
  let v890 : BitVec 32 := v889
  let v906 : Index := Scalar.indexCast v890
  ![0, 0, 0, v906.toNat]
@[reducible] def k0_t49_loop (v2 : BitVec 32) (v8 : BitVec 32) : Scf.Loop 32 :=
  let v460 : BitVec 32 := Scalar.subi v8 v2
  let c1_i32_229 : BitVec 32 := 1#32
  let v462 : BitVec 32 := Scalar.divsi v460 c1_i32_229
  let v463 : BitVec 32 := Scalar.muli v462 c1_i32_229
  let v464 : BitVec 32 := Scalar.addi v2 v463
  let c1_i32_230 : BitVec 32 := 1#32
  ⟨v2, v464, c1_i32_230⟩
def k0_mult49 (v2 : BitVec 32) (v8 : BitVec 32) (k0_t49 : Fin (k0_t49_loop v2 v8).trips) : BitVec 32 :=
  let c1_i32_230 : BitVec 32 := 1#32
  let arg14 : BitVec 32 := Scf.iv v2 c1_i32_230 k0_t49
  let c256_i32 : BitVec 32 := 256#32
  let v889 : BitVec 32 := Scalar.muli arg14 c256_i32
  v889
def k0_off101 (v2 : BitVec 32) (v8 : BitVec 32) (k0_t49 : Fin (k0_t49_loop v2 v8).trips) : Fin 4 → Nat :=
  let c0_439 : Index := 0#32
  let c0_440 : Index := 0#32
  let c1_i32_230 : BitVec 32 := 1#32
  let arg14 : BitVec 32 := Scf.iv v2 c1_i32_230 k0_t49
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off102 (v2 : BitVec 32) (v8 : BitVec 32) (k0_t49 : Fin (k0_t49_loop v2 v8).trips) : Fin 2 → Nat :=
  let c1_i32_230 : BitVec 32 := 1#32
  let arg14 : BitVec 32 := Scf.iv v2 c1_i32_230 k0_t49
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t50_loop (v2 : BitVec 32) (v8 : BitVec 32) : Scf.Loop 32 :=
  let v460 : BitVec 32 := Scalar.subi v8 v2
  let c1_i32_229 : BitVec 32 := 1#32
  let v462 : BitVec 32 := Scalar.divsi v460 c1_i32_229
  let v463 : BitVec 32 := Scalar.muli v462 c1_i32_229
  let v464 : BitVec 32 := Scalar.addi v2 v463
  let v461 : BitVec 32 := Scalar.addi v2 v460
  let c1_i32_231 : BitVec 32 := 1#32
  ⟨v464, v461, c1_i32_231⟩
def k0_mult50 (v2 : BitVec 32) (v8 : BitVec 32) (k0_t50 : Fin (k0_t50_loop v2 v8).trips) : BitVec 32 :=
  let v460 : BitVec 32 := Scalar.subi v8 v2
  let c1_i32_229 : BitVec 32 := 1#32
  let v462 : BitVec 32 := Scalar.divsi v460 c1_i32_229
  let v463 : BitVec 32 := Scalar.muli v462 c1_i32_229
  let v464 : BitVec 32 := Scalar.addi v2 v463
  let c1_i32_231 : BitVec 32 := 1#32
  let arg14 : BitVec 32 := Scf.iv v464 c1_i32_231 k0_t50
  let c256_i32 : BitVec 32 := 256#32
  let v889 : BitVec 32 := Scalar.muli arg14 c256_i32
  v889
def k0_off103 (v2 : BitVec 32) (v8 : BitVec 32) (k0_t50 : Fin (k0_t50_loop v2 v8).trips) : Fin 4 → Nat :=
  let c0_439 : Index := 0#32
  let c0_440 : Index := 0#32
  let v460 : BitVec 32 := Scalar.subi v8 v2
  let c1_i32_229 : BitVec 32 := 1#32
  let v462 : BitVec 32 := Scalar.divsi v460 c1_i32_229
  let v463 : BitVec 32 := Scalar.muli v462 c1_i32_229
  let v464 : BitVec 32 := Scalar.addi v2 v463
  let c1_i32_231 : BitVec 32 := 1#32
  let arg14 : BitVec 32 := Scf.iv v464 c1_i32_231 k0_t50
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off104 (v2 : BitVec 32) (v8 : BitVec 32) (k0_t50 : Fin (k0_t50_loop v2 v8).trips) : Fin 2 → Nat :=
  let v460 : BitVec 32 := Scalar.subi v8 v2
  let c1_i32_229 : BitVec 32 := 1#32
  let v462 : BitVec 32 := Scalar.divsi v460 c1_i32_229
  let v463 : BitVec 32 := Scalar.muli v462 c1_i32_229
  let v464 : BitVec 32 := Scalar.addi v2 v463
  let c1_i32_231 : BitVec 32 := 1#32
  let arg14 : BitVec 32 := Scf.iv v464 c1_i32_231 k0_t50
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t51_loop (v8 : BitVec 32) (v11 : BitVec 32) : Scf.Loop 32 :=
  let c0_i32_239 : BitVec 32 := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let v485 : BitVec 32 := Scalar.subi v484 c0_i32_239
  let c1_i32_240 : BitVec 32 := 1#32
  let v487 : BitVec 32 := Scalar.divsi v485 c1_i32_240
  let v488 : BitVec 32 := Scalar.muli v487 c1_i32_240
  let v489 : BitVec 32 := Scalar.addi c0_i32_239 v488
  let c1_i32_241 : BitVec 32 := 1#32
  ⟨c0_i32_239, v489, c1_i32_241⟩
def k0_mult51 (v8 : BitVec 32) (v11 : BitVec 32) (k0_t51 : Fin (k0_t51_loop v8 v11).trips) : BitVec 32 :=
  let c0_i32_239 : BitVec 32 := 0#32
  let c1_i32_241 : BitVec 32 := 1#32
  let arg14 : BitVec 32 := Scf.iv c0_i32_239 c1_i32_241 k0_t51
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off105 (v8 : BitVec 32) (v11 : BitVec 32) (k0_t51 : Fin (k0_t51_loop v8 v11).trips) : Fin 4 → Nat :=
  let c0_440 : Index := 0#32
  let c0_441 : Index := 0#32
  let c0_i32_239 : BitVec 32 := 0#32
  let c1_i32_241 : BitVec 32 := 1#32
  let arg14 : BitVec 32 := Scf.iv c0_i32_239 c1_i32_241 k0_t51
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off106 (v8 : BitVec 32) (v11 : BitVec 32) (k0_t51 : Fin (k0_t51_loop v8 v11).trips) : Fin 2 → Nat :=
  let c0_i32_239 : BitVec 32 := 0#32
  let c1_i32_241 : BitVec 32 := 1#32
  let arg14 : BitVec 32 := Scf.iv c0_i32_239 c1_i32_241 k0_t51
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t52_loop (v8 : BitVec 32) (v11 : BitVec 32) : Scf.Loop 32 :=
  let c0_i32_239 : BitVec 32 := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let v485 : BitVec 32 := Scalar.subi v484 c0_i32_239
  let c1_i32_240 : BitVec 32 := 1#32
  let v487 : BitVec 32 := Scalar.divsi v485 c1_i32_240
  let v488 : BitVec 32 := Scalar.muli v487 c1_i32_240
  let v489 : BitVec 32 := Scalar.addi c0_i32_239 v488
  let v486 : BitVec 32 := Scalar.addi c0_i32_239 v485
  let c1_i32_242 : BitVec 32 := 1#32
  ⟨v489, v486, c1_i32_242⟩
def k0_mult52 (v8 : BitVec 32) (v11 : BitVec 32) (k0_t52 : Fin (k0_t52_loop v8 v11).trips) : BitVec 32 :=
  let c0_i32_239 : BitVec 32 := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let v485 : BitVec 32 := Scalar.subi v484 c0_i32_239
  let c1_i32_240 : BitVec 32 := 1#32
  let v487 : BitVec 32 := Scalar.divsi v485 c1_i32_240
  let v488 : BitVec 32 := Scalar.muli v487 c1_i32_240
  let v489 : BitVec 32 := Scalar.addi c0_i32_239 v488
  let c1_i32_242 : BitVec 32 := 1#32
  let arg14 : BitVec 32 := Scf.iv v489 c1_i32_242 k0_t52
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off107 (v8 : BitVec 32) (v11 : BitVec 32) (k0_t52 : Fin (k0_t52_loop v8 v11).trips) : Fin 4 → Nat :=
  let c0_440 : Index := 0#32
  let c0_441 : Index := 0#32
  let c0_i32_239 : BitVec 32 := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let v485 : BitVec 32 := Scalar.subi v484 c0_i32_239
  let c1_i32_240 : BitVec 32 := 1#32
  let v487 : BitVec 32 := Scalar.divsi v485 c1_i32_240
  let v488 : BitVec 32 := Scalar.muli v487 c1_i32_240
  let v489 : BitVec 32 := Scalar.addi c0_i32_239 v488
  let c1_i32_242 : BitVec 32 := 1#32
  let arg14 : BitVec 32 := Scf.iv v489 c1_i32_242 k0_t52
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off108 (v8 : BitVec 32) (v11 : BitVec 32) (k0_t52 : Fin (k0_t52_loop v8 v11).trips) : Fin 2 → Nat :=
  let c0_i32_239 : BitVec 32 := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let v485 : BitVec 32 := Scalar.subi v484 c0_i32_239
  let c1_i32_240 : BitVec 32 := 1#32
  let v487 : BitVec 32 := Scalar.divsi v485 c1_i32_240
  let v488 : BitVec 32 := Scalar.muli v487 c1_i32_240
  let v489 : BitVec 32 := Scalar.addi c0_i32_239 v488
  let c1_i32_242 : BitVec 32 := 1#32
  let arg14 : BitVec 32 := Scf.iv v489 c1_i32_242 k0_t52
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t53_loop (v8 : BitVec 32) (v11 : BitVec 32) : Scf.Loop 32 :=
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let v494 : BitVec 32 := Scalar.subi v11 v493
  let c1_i32_244 : BitVec 32 := 1#32
  let v496 : BitVec 32 := Scalar.divsi v494 c1_i32_244
  let v497 : BitVec 32 := Scalar.muli v496 c1_i32_244
  let v498 : BitVec 32 := Scalar.addi v493 v497
  let c1_i32_245 : BitVec 32 := 1#32
  ⟨v493, v498, c1_i32_245⟩
def k0_mult53 (v8 : BitVec 32) (v11 : BitVec 32) (k0_t53 : Fin (k0_t53_loop v8 v11).trips) : BitVec 32 :=
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let c1_i32_245 : BitVec 32 := 1#32
  let arg14 : BitVec 32 := Scf.iv v493 c1_i32_245 k0_t53
  let c256_i32 : BitVec 32 := 256#32
  let v889 : BitVec 32 := Scalar.muli arg14 c256_i32
  v889
def k0_off109 (v8 : BitVec 32) (v11 : BitVec 32) (k0_t53 : Fin (k0_t53_loop v8 v11).trips) : Fin 4 → Nat :=
  let c0_439 : Index := 0#32
  let c0_440 : Index := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let c1_i32_245 : BitVec 32 := 1#32
  let arg14 : BitVec 32 := Scf.iv v493 c1_i32_245 k0_t53
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off110 (v8 : BitVec 32) (v11 : BitVec 32) (k0_t53 : Fin (k0_t53_loop v8 v11).trips) : Fin 2 → Nat :=
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let c1_i32_245 : BitVec 32 := 1#32
  let arg14 : BitVec 32 := Scf.iv v493 c1_i32_245 k0_t53
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t54_loop (v8 : BitVec 32) (v11 : BitVec 32) : Scf.Loop 32 :=
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let v494 : BitVec 32 := Scalar.subi v11 v493
  let c1_i32_244 : BitVec 32 := 1#32
  let v496 : BitVec 32 := Scalar.divsi v494 c1_i32_244
  let v497 : BitVec 32 := Scalar.muli v496 c1_i32_244
  let v498 : BitVec 32 := Scalar.addi v493 v497
  let v495 : BitVec 32 := Scalar.addi v493 v494
  let c1_i32_246 : BitVec 32 := 1#32
  ⟨v498, v495, c1_i32_246⟩
def k0_mult54 (v8 : BitVec 32) (v11 : BitVec 32) (k0_t54 : Fin (k0_t54_loop v8 v11).trips) : BitVec 32 :=
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let v494 : BitVec 32 := Scalar.subi v11 v493
  let c1_i32_244 : BitVec 32 := 1#32
  let v496 : BitVec 32 := Scalar.divsi v494 c1_i32_244
  let v497 : BitVec 32 := Scalar.muli v496 c1_i32_244
  let v498 : BitVec 32 := Scalar.addi v493 v497
  let c1_i32_246 : BitVec 32 := 1#32
  let arg14 : BitVec 32 := Scf.iv v498 c1_i32_246 k0_t54
  let c256_i32 : BitVec 32 := 256#32
  let v889 : BitVec 32 := Scalar.muli arg14 c256_i32
  v889
def k0_off111 (v8 : BitVec 32) (v11 : BitVec 32) (k0_t54 : Fin (k0_t54_loop v8 v11).trips) : Fin 4 → Nat :=
  let c0_439 : Index := 0#32
  let c0_440 : Index := 0#32
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let v494 : BitVec 32 := Scalar.subi v11 v493
  let c1_i32_244 : BitVec 32 := 1#32
  let v496 : BitVec 32 := Scalar.divsi v494 c1_i32_244
  let v497 : BitVec 32 := Scalar.muli v496 c1_i32_244
  let v498 : BitVec 32 := Scalar.addi v493 v497
  let c1_i32_246 : BitVec 32 := 1#32
  let arg14 : BitVec 32 := Scf.iv v498 c1_i32_246 k0_t54
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off112 (v8 : BitVec 32) (v11 : BitVec 32) (k0_t54 : Fin (k0_t54_loop v8 v11).trips) : Fin 2 → Nat :=
  let v467 : BitVec 32 := Scalar.subi v11 v8
  let c0_i32_233 : BitVec 32 := 0#32
  let v469 : BitVec 1 := Scalar.cmpi .sgt v467 c0_i32_233
  let v470 : BitVec 32 := Scalar.extui v469
  let c0_i32_234 : BitVec 32 := 0#32
  let v471 : BitVec 1 := Scalar.cmpi .slt v467 c0_i32_234
  let v472 : BitVec 32 := Scalar.extui v471
  let v473 : BitVec 32 := Scalar.subi v470 v472
  let c4_i32_232 : BitVec 32 := 4#32
  let c0_i32_235 : BitVec 32 := 0#32
  let v474 : BitVec 1 := Scalar.cmpi .sgt c4_i32_232 c0_i32_235
  let v475 : BitVec 32 := Scalar.extui v474
  let c0_i32_236 : BitVec 32 := 0#32
  let v476 : BitVec 1 := Scalar.cmpi .slt c4_i32_232 c0_i32_236
  let v477 : BitVec 32 := Scalar.extui v476
  let v478 : BitVec 32 := Scalar.subi v475 v477
  let v479 : BitVec 1 := Scalar.cmpi .ne v473 v478
  let v480 : BitVec 32 := Scalar.remsi v467 c4_i32_232
  let c0_i32_237 : BitVec 32 := 0#32
  let v481 : BitVec 1 := Scalar.cmpi .ne v480 c0_i32_237
  let v482 : BitVec 1 := Scalar.andi v479 v481
  let v468 : BitVec 32 := Scalar.divsi v467 c4_i32_232
  let c1_i32_238 : BitVec 32 := 1#32
  let v483 : BitVec 32 := Scalar.subi v468 c1_i32_238
  let v484 : BitVec 32 := Scalar.select v482 v483 v468
  let c4_i32_243 : BitVec 32 := 4#32
  let v492 : BitVec 32 := Scalar.muli v484 c4_i32_243
  let v493 : BitVec 32 := Scalar.addi v8 v492
  let v494 : BitVec 32 := Scalar.subi v11 v493
  let c1_i32_244 : BitVec 32 := 1#32
  let v496 : BitVec 32 := Scalar.divsi v494 c1_i32_244
  let v497 : BitVec 32 := Scalar.muli v496 c1_i32_244
  let v498 : BitVec 32 := Scalar.addi v493 v497
  let c1_i32_246 : BitVec 32 := 1#32
  let arg14 : BitVec 32 := Scf.iv v498 c1_i32_246 k0_t54
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t55_loop (v5 : BitVec 32) (v11 : BitVec 32) : Scf.Loop 32 :=
  let v501 : BitVec 32 := Scalar.subi v5 v11
  let c1_i32_247 : BitVec 32 := 1#32
  let v503 : BitVec 32 := Scalar.divsi v501 c1_i32_247
  let v504 : BitVec 32 := Scalar.muli v503 c1_i32_247
  let v505 : BitVec 32 := Scalar.addi v11 v504
  let c1_i32_248 : BitVec 32 := 1#32
  ⟨v11, v505, c1_i32_248⟩
def k0_mult55 (v5 : BitVec 32) (v11 : BitVec 32) (k0_t55 : Fin (k0_t55_loop v5 v11).trips) : BitVec 32 :=
  let c1_i32_248 : BitVec 32 := 1#32
  let arg14 : BitVec 32 := Scf.iv v11 c1_i32_248 k0_t55
  let c256_i32 : BitVec 32 := 256#32
  let v889 : BitVec 32 := Scalar.muli arg14 c256_i32
  v889
def k0_off113 (v5 : BitVec 32) (v11 : BitVec 32) (k0_t55 : Fin (k0_t55_loop v5 v11).trips) : Fin 4 → Nat :=
  let c0_439 : Index := 0#32
  let c0_440 : Index := 0#32
  let c1_i32_248 : BitVec 32 := 1#32
  let arg14 : BitVec 32 := Scf.iv v11 c1_i32_248 k0_t55
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off114 (v5 : BitVec 32) (v11 : BitVec 32) (k0_t55 : Fin (k0_t55_loop v5 v11).trips) : Fin 2 → Nat :=
  let c1_i32_248 : BitVec 32 := 1#32
  let arg14 : BitVec 32 := Scf.iv v11 c1_i32_248 k0_t55
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t56_loop (v5 : BitVec 32) (v11 : BitVec 32) : Scf.Loop 32 :=
  let v501 : BitVec 32 := Scalar.subi v5 v11
  let c1_i32_247 : BitVec 32 := 1#32
  let v503 : BitVec 32 := Scalar.divsi v501 c1_i32_247
  let v504 : BitVec 32 := Scalar.muli v503 c1_i32_247
  let v505 : BitVec 32 := Scalar.addi v11 v504
  let v502 : BitVec 32 := Scalar.addi v11 v501
  let c1_i32_249 : BitVec 32 := 1#32
  ⟨v505, v502, c1_i32_249⟩
def k0_mult56 (v5 : BitVec 32) (v11 : BitVec 32) (k0_t56 : Fin (k0_t56_loop v5 v11).trips) : BitVec 32 :=
  let v501 : BitVec 32 := Scalar.subi v5 v11
  let c1_i32_247 : BitVec 32 := 1#32
  let v503 : BitVec 32 := Scalar.divsi v501 c1_i32_247
  let v504 : BitVec 32 := Scalar.muli v503 c1_i32_247
  let v505 : BitVec 32 := Scalar.addi v11 v504
  let c1_i32_249 : BitVec 32 := 1#32
  let arg14 : BitVec 32 := Scf.iv v505 c1_i32_249 k0_t56
  let c256_i32 : BitVec 32 := 256#32
  let v889 : BitVec 32 := Scalar.muli arg14 c256_i32
  v889
def k0_off115 (v5 : BitVec 32) (v11 : BitVec 32) (k0_t56 : Fin (k0_t56_loop v5 v11).trips) : Fin 4 → Nat :=
  let c0_439 : Index := 0#32
  let c0_440 : Index := 0#32
  let v501 : BitVec 32 := Scalar.subi v5 v11
  let c1_i32_247 : BitVec 32 := 1#32
  let v503 : BitVec 32 := Scalar.divsi v501 c1_i32_247
  let v504 : BitVec 32 := Scalar.muli v503 c1_i32_247
  let v505 : BitVec 32 := Scalar.addi v11 v504
  let c1_i32_249 : BitVec 32 := 1#32
  let arg14 : BitVec 32 := Scf.iv v505 c1_i32_249 k0_t56
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off116 (v5 : BitVec 32) (v11 : BitVec 32) (k0_t56 : Fin (k0_t56_loop v5 v11).trips) : Fin 2 → Nat :=
  let v501 : BitVec 32 := Scalar.subi v5 v11
  let c1_i32_247 : BitVec 32 := 1#32
  let v503 : BitVec 32 := Scalar.divsi v501 c1_i32_247
  let v504 : BitVec 32 := Scalar.muli v503 c1_i32_247
  let v505 : BitVec 32 := Scalar.addi v11 v504
  let c1_i32_249 : BitVec 32 := 1#32
  let arg14 : BitVec 32 := Scf.iv v505 c1_i32_249 k0_t56
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t57_loop (v2 : BitVec 32) (v5 : BitVec 32) : Scf.Loop 32 :=
  let c0_i32_260 : BitVec 32 := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let v530 : BitVec 32 := Scalar.subi v529 c0_i32_260
  let c1_i32_261 : BitVec 32 := 1#32
  let v532 : BitVec 32 := Scalar.divsi v530 c1_i32_261
  let v533 : BitVec 32 := Scalar.muli v532 c1_i32_261
  let v534 : BitVec 32 := Scalar.addi c0_i32_260 v533
  let c1_i32_262 : BitVec 32 := 1#32
  ⟨c0_i32_260, v534, c1_i32_262⟩
def k0_mult57 (v2 : BitVec 32) (v5 : BitVec 32) (k0_t57 : Fin (k0_t57_loop v2 v5).trips) : BitVec 32 :=
  let c0_i32_260 : BitVec 32 := 0#32
  let c1_i32_262 : BitVec 32 := 1#32
  let arg14 : BitVec 32 := Scf.iv c0_i32_260 c1_i32_262 k0_t57
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off117 (v2 : BitVec 32) (v5 : BitVec 32) (k0_t57 : Fin (k0_t57_loop v2 v5).trips) : Fin 2 → Nat :=
  let c0_i32_260 : BitVec 32 := 0#32
  let c1_i32_262 : BitVec 32 := 1#32
  let arg14 : BitVec 32 := Scf.iv c0_i32_260 c1_i32_262 k0_t57
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off118 (v2 : BitVec 32) (v5 : BitVec 32) (k0_t57 : Fin (k0_t57_loop v2 v5).trips) : Fin 4 → Nat :=
  let c0_444 : Index := 0#32
  let c0_445 : Index := 0#32
  let c0_446 : Index := 0#32
  let c0_i32_260 : BitVec 32 := 0#32
  let c1_i32_262 : BitVec 32 := 1#32
  let arg14 : BitVec 32 := Scf.iv c0_i32_260 c1_i32_262 k0_t57
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t58_loop (v2 : BitVec 32) (v5 : BitVec 32) : Scf.Loop 32 :=
  let c0_i32_260 : BitVec 32 := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let v530 : BitVec 32 := Scalar.subi v529 c0_i32_260
  let c1_i32_261 : BitVec 32 := 1#32
  let v532 : BitVec 32 := Scalar.divsi v530 c1_i32_261
  let v533 : BitVec 32 := Scalar.muli v532 c1_i32_261
  let v534 : BitVec 32 := Scalar.addi c0_i32_260 v533
  let v531 : BitVec 32 := Scalar.addi c0_i32_260 v530
  let c1_i32_263 : BitVec 32 := 1#32
  ⟨v534, v531, c1_i32_263⟩
def k0_mult58 (v2 : BitVec 32) (v5 : BitVec 32) (k0_t58 : Fin (k0_t58_loop v2 v5).trips) : BitVec 32 :=
  let c0_i32_260 : BitVec 32 := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let v530 : BitVec 32 := Scalar.subi v529 c0_i32_260
  let c1_i32_261 : BitVec 32 := 1#32
  let v532 : BitVec 32 := Scalar.divsi v530 c1_i32_261
  let v533 : BitVec 32 := Scalar.muli v532 c1_i32_261
  let v534 : BitVec 32 := Scalar.addi c0_i32_260 v533
  let c1_i32_263 : BitVec 32 := 1#32
  let arg14 : BitVec 32 := Scf.iv v534 c1_i32_263 k0_t58
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off119 (v2 : BitVec 32) (v5 : BitVec 32) (k0_t58 : Fin (k0_t58_loop v2 v5).trips) : Fin 2 → Nat :=
  let c0_i32_260 : BitVec 32 := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let v530 : BitVec 32 := Scalar.subi v529 c0_i32_260
  let c1_i32_261 : BitVec 32 := 1#32
  let v532 : BitVec 32 := Scalar.divsi v530 c1_i32_261
  let v533 : BitVec 32 := Scalar.muli v532 c1_i32_261
  let v534 : BitVec 32 := Scalar.addi c0_i32_260 v533
  let c1_i32_263 : BitVec 32 := 1#32
  let arg14 : BitVec 32 := Scf.iv v534 c1_i32_263 k0_t58
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off120 (v2 : BitVec 32) (v5 : BitVec 32) (k0_t58 : Fin (k0_t58_loop v2 v5).trips) : Fin 4 → Nat :=
  let c0_444 : Index := 0#32
  let c0_445 : Index := 0#32
  let c0_446 : Index := 0#32
  let c0_i32_260 : BitVec 32 := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let v530 : BitVec 32 := Scalar.subi v529 c0_i32_260
  let c1_i32_261 : BitVec 32 := 1#32
  let v532 : BitVec 32 := Scalar.divsi v530 c1_i32_261
  let v533 : BitVec 32 := Scalar.muli v532 c1_i32_261
  let v534 : BitVec 32 := Scalar.addi c0_i32_260 v533
  let c1_i32_263 : BitVec 32 := 1#32
  let arg14 : BitVec 32 := Scf.iv v534 c1_i32_263 k0_t58
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t59_loop (v2 : BitVec 32) (v5 : BitVec 32) : Scf.Loop 32 :=
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let v539 : BitVec 32 := Scalar.subi v5 v538
  let c1_i32_265 : BitVec 32 := 1#32
  let v541 : BitVec 32 := Scalar.divsi v539 c1_i32_265
  let v542 : BitVec 32 := Scalar.muli v541 c1_i32_265
  let v543 : BitVec 32 := Scalar.addi v538 v542
  let c1_i32_266 : BitVec 32 := 1#32
  ⟨v538, v543, c1_i32_266⟩
def k0_mult59 (v2 : BitVec 32) (v5 : BitVec 32) (k0_t59 : Fin (k0_t59_loop v2 v5).trips) : BitVec 32 :=
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let c1_i32_266 : BitVec 32 := 1#32
  let arg14 : BitVec 32 := Scf.iv v538 c1_i32_266 k0_t59
  let c256_i32 : BitVec 32 := 256#32
  let v889 : BitVec 32 := Scalar.muli arg14 c256_i32
  v889
def k0_off121 (v2 : BitVec 32) (v5 : BitVec 32) (k0_t59 : Fin (k0_t59_loop v2 v5).trips) : Fin 2 → Nat :=
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let c1_i32_266 : BitVec 32 := 1#32
  let arg14 : BitVec 32 := Scf.iv v538 c1_i32_266 k0_t59
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off122 (v2 : BitVec 32) (v5 : BitVec 32) (k0_t59 : Fin (k0_t59_loop v2 v5).trips) : Fin 4 → Nat :=
  let c0_443 : Index := 0#32
  let c0_444 : Index := 0#32
  let c0_445 : Index := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let c1_i32_266 : BitVec 32 := 1#32
  let arg14 : BitVec 32 := Scf.iv v538 c1_i32_266 k0_t59
  let c256_i32 : BitVec 32 := 256#32
  let v889 : BitVec 32 := Scalar.muli arg14 c256_i32
  let v890 : BitVec 32 := v889
  let v906 : Index := Scalar.indexCast v890
  ![0, 0, 0, v906.toNat]
@[reducible] def k0_t60_loop (v2 : BitVec 32) (v5 : BitVec 32) : Scf.Loop 32 :=
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let v539 : BitVec 32 := Scalar.subi v5 v538
  let c1_i32_265 : BitVec 32 := 1#32
  let v541 : BitVec 32 := Scalar.divsi v539 c1_i32_265
  let v542 : BitVec 32 := Scalar.muli v541 c1_i32_265
  let v543 : BitVec 32 := Scalar.addi v538 v542
  let v540 : BitVec 32 := Scalar.addi v538 v539
  let c1_i32_267 : BitVec 32 := 1#32
  ⟨v543, v540, c1_i32_267⟩
def k0_mult60 (v2 : BitVec 32) (v5 : BitVec 32) (k0_t60 : Fin (k0_t60_loop v2 v5).trips) : BitVec 32 :=
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let v539 : BitVec 32 := Scalar.subi v5 v538
  let c1_i32_265 : BitVec 32 := 1#32
  let v541 : BitVec 32 := Scalar.divsi v539 c1_i32_265
  let v542 : BitVec 32 := Scalar.muli v541 c1_i32_265
  let v543 : BitVec 32 := Scalar.addi v538 v542
  let c1_i32_267 : BitVec 32 := 1#32
  let arg14 : BitVec 32 := Scf.iv v543 c1_i32_267 k0_t60
  let c256_i32 : BitVec 32 := 256#32
  let v889 : BitVec 32 := Scalar.muli arg14 c256_i32
  v889
def k0_off123 (v2 : BitVec 32) (v5 : BitVec 32) (k0_t60 : Fin (k0_t60_loop v2 v5).trips) : Fin 2 → Nat :=
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let v539 : BitVec 32 := Scalar.subi v5 v538
  let c1_i32_265 : BitVec 32 := 1#32
  let v541 : BitVec 32 := Scalar.divsi v539 c1_i32_265
  let v542 : BitVec 32 := Scalar.muli v541 c1_i32_265
  let v543 : BitVec 32 := Scalar.addi v538 v542
  let c1_i32_267 : BitVec 32 := 1#32
  let arg14 : BitVec 32 := Scf.iv v543 c1_i32_267 k0_t60
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off124 (v2 : BitVec 32) (v5 : BitVec 32) (k0_t60 : Fin (k0_t60_loop v2 v5).trips) : Fin 4 → Nat :=
  let c0_443 : Index := 0#32
  let c0_444 : Index := 0#32
  let c0_445 : Index := 0#32
  let v512 : BitVec 32 := Scalar.subi v5 v2
  let c0_i32_254 : BitVec 32 := 0#32
  let v514 : BitVec 1 := Scalar.cmpi .sgt v512 c0_i32_254
  let v515 : BitVec 32 := Scalar.extui v514
  let c0_i32_255 : BitVec 32 := 0#32
  let v516 : BitVec 1 := Scalar.cmpi .slt v512 c0_i32_255
  let v517 : BitVec 32 := Scalar.extui v516
  let v518 : BitVec 32 := Scalar.subi v515 v517
  let c4_i32_253 : BitVec 32 := 4#32
  let c0_i32_256 : BitVec 32 := 0#32
  let v519 : BitVec 1 := Scalar.cmpi .sgt c4_i32_253 c0_i32_256
  let v520 : BitVec 32 := Scalar.extui v519
  let c0_i32_257 : BitVec 32 := 0#32
  let v521 : BitVec 1 := Scalar.cmpi .slt c4_i32_253 c0_i32_257
  let v522 : BitVec 32 := Scalar.extui v521
  let v523 : BitVec 32 := Scalar.subi v520 v522
  let v524 : BitVec 1 := Scalar.cmpi .ne v518 v523
  let v525 : BitVec 32 := Scalar.remsi v512 c4_i32_253
  let c0_i32_258 : BitVec 32 := 0#32
  let v526 : BitVec 1 := Scalar.cmpi .ne v525 c0_i32_258
  let v527 : BitVec 1 := Scalar.andi v524 v526
  let v513 : BitVec 32 := Scalar.divsi v512 c4_i32_253
  let c1_i32_259 : BitVec 32 := 1#32
  let v528 : BitVec 32 := Scalar.subi v513 c1_i32_259
  let v529 : BitVec 32 := Scalar.select v527 v528 v513
  let c4_i32_264 : BitVec 32 := 4#32
  let v537 : BitVec 32 := Scalar.muli v529 c4_i32_264
  let v538 : BitVec 32 := Scalar.addi v2 v537
  let v539 : BitVec 32 := Scalar.subi v5 v538
  let c1_i32_265 : BitVec 32 := 1#32
  let v541 : BitVec 32 := Scalar.divsi v539 c1_i32_265
  let v542 : BitVec 32 := Scalar.muli v541 c1_i32_265
  let v543 : BitVec 32 := Scalar.addi v538 v542
  let c1_i32_267 : BitVec 32 := 1#32
  let arg14 : BitVec 32 := Scf.iv v543 c1_i32_267 k0_t60
  let c256_i32 : BitVec 32 := 256#32
  let v889 : BitVec 32 := Scalar.muli arg14 c256_i32
  let v890 : BitVec 32 := v889
  let v906 : Index := Scalar.indexCast v890
  ![0, 0, 0, v906.toNat]
@[reducible] def k0_t61_loop (v2 : BitVec 32) (v8 : BitVec 32) : Scf.Loop 32 :=
  let v569 : BitVec 32 := Scalar.subi v8 v2
  let c1_i32_283 : BitVec 32 := 1#32
  let v571 : BitVec 32 := Scalar.divsi v569 c1_i32_283
  let v572 : BitVec 32 := Scalar.muli v571 c1_i32_283
  let v573 : BitVec 32 := Scalar.addi v2 v572
  let c1_i32_284 : BitVec 32 := 1#32
  ⟨v2, v573, c1_i32_284⟩
def k0_mult61 (v2 : BitVec 32) (v8 : BitVec 32) (k0_t61 : Fin (k0_t61_loop v2 v8).trips) : BitVec 32 :=
  let c1_i32_284 : BitVec 32 := 1#32
  let arg14 : BitVec 32 := Scf.iv v2 c1_i32_284 k0_t61
  let c256_i32 : BitVec 32 := 256#32
  let v889 : BitVec 32 := Scalar.muli arg14 c256_i32
  v889
def k0_off125 (v2 : BitVec 32) (v8 : BitVec 32) (k0_t61 : Fin (k0_t61_loop v2 v8).trips) : Fin 4 → Nat :=
  let c0_439 : Index := 0#32
  let c0_440 : Index := 0#32
  let c1_i32_284 : BitVec 32 := 1#32
  let arg14 : BitVec 32 := Scf.iv v2 c1_i32_284 k0_t61
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off126 (v2 : BitVec 32) (v8 : BitVec 32) (k0_t61 : Fin (k0_t61_loop v2 v8).trips) : Fin 2 → Nat :=
  let c1_i32_284 : BitVec 32 := 1#32
  let arg14 : BitVec 32 := Scf.iv v2 c1_i32_284 k0_t61
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t62_loop (v2 : BitVec 32) (v8 : BitVec 32) : Scf.Loop 32 :=
  let v569 : BitVec 32 := Scalar.subi v8 v2
  let c1_i32_283 : BitVec 32 := 1#32
  let v571 : BitVec 32 := Scalar.divsi v569 c1_i32_283
  let v572 : BitVec 32 := Scalar.muli v571 c1_i32_283
  let v573 : BitVec 32 := Scalar.addi v2 v572
  let v570 : BitVec 32 := Scalar.addi v2 v569
  let c1_i32_285 : BitVec 32 := 1#32
  ⟨v573, v570, c1_i32_285⟩
def k0_mult62 (v2 : BitVec 32) (v8 : BitVec 32) (k0_t62 : Fin (k0_t62_loop v2 v8).trips) : BitVec 32 :=
  let v569 : BitVec 32 := Scalar.subi v8 v2
  let c1_i32_283 : BitVec 32 := 1#32
  let v571 : BitVec 32 := Scalar.divsi v569 c1_i32_283
  let v572 : BitVec 32 := Scalar.muli v571 c1_i32_283
  let v573 : BitVec 32 := Scalar.addi v2 v572
  let c1_i32_285 : BitVec 32 := 1#32
  let arg14 : BitVec 32 := Scf.iv v573 c1_i32_285 k0_t62
  let c256_i32 : BitVec 32 := 256#32
  let v889 : BitVec 32 := Scalar.muli arg14 c256_i32
  v889
def k0_off127 (v2 : BitVec 32) (v8 : BitVec 32) (k0_t62 : Fin (k0_t62_loop v2 v8).trips) : Fin 4 → Nat :=
  let c0_439 : Index := 0#32
  let c0_440 : Index := 0#32
  let v569 : BitVec 32 := Scalar.subi v8 v2
  let c1_i32_283 : BitVec 32 := 1#32
  let v571 : BitVec 32 := Scalar.divsi v569 c1_i32_283
  let v572 : BitVec 32 := Scalar.muli v571 c1_i32_283
  let v573 : BitVec 32 := Scalar.addi v2 v572
  let c1_i32_285 : BitVec 32 := 1#32
  let arg14 : BitVec 32 := Scf.iv v573 c1_i32_285 k0_t62
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off128 (v2 : BitVec 32) (v8 : BitVec 32) (k0_t62 : Fin (k0_t62_loop v2 v8).trips) : Fin 2 → Nat :=
  let v569 : BitVec 32 := Scalar.subi v8 v2
  let c1_i32_283 : BitVec 32 := 1#32
  let v571 : BitVec 32 := Scalar.divsi v569 c1_i32_283
  let v572 : BitVec 32 := Scalar.muli v571 c1_i32_283
  let v573 : BitVec 32 := Scalar.addi v2 v572
  let c1_i32_285 : BitVec 32 := 1#32
  let arg14 : BitVec 32 := Scf.iv v573 c1_i32_285 k0_t62
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t63_loop (v8 : BitVec 32) (v11 : BitVec 32) : Scf.Loop 32 :=
  let c0_i32_293 : BitVec 32 := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let v594 : BitVec 32 := Scalar.subi v593 c0_i32_293
  let c1_i32_294 : BitVec 32 := 1#32
  let v596 : BitVec 32 := Scalar.divsi v594 c1_i32_294
  let v597 : BitVec 32 := Scalar.muli v596 c1_i32_294
  let v598 : BitVec 32 := Scalar.addi c0_i32_293 v597
  let c1_i32_295 : BitVec 32 := 1#32
  ⟨c0_i32_293, v598, c1_i32_295⟩
def k0_mult63 (v8 : BitVec 32) (v11 : BitVec 32) (k0_t63 : Fin (k0_t63_loop v8 v11).trips) : BitVec 32 :=
  let c0_i32_293 : BitVec 32 := 0#32
  let c1_i32_295 : BitVec 32 := 1#32
  let arg14 : BitVec 32 := Scf.iv c0_i32_293 c1_i32_295 k0_t63
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off129 (v8 : BitVec 32) (v11 : BitVec 32) (k0_t63 : Fin (k0_t63_loop v8 v11).trips) : Fin 4 → Nat :=
  let c0_440 : Index := 0#32
  let c0_441 : Index := 0#32
  let c0_i32_293 : BitVec 32 := 0#32
  let c1_i32_295 : BitVec 32 := 1#32
  let arg14 : BitVec 32 := Scf.iv c0_i32_293 c1_i32_295 k0_t63
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off130 (v8 : BitVec 32) (v11 : BitVec 32) (k0_t63 : Fin (k0_t63_loop v8 v11).trips) : Fin 2 → Nat :=
  let c0_i32_293 : BitVec 32 := 0#32
  let c1_i32_295 : BitVec 32 := 1#32
  let arg14 : BitVec 32 := Scf.iv c0_i32_293 c1_i32_295 k0_t63
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t64_loop (v8 : BitVec 32) (v11 : BitVec 32) : Scf.Loop 32 :=
  let c0_i32_293 : BitVec 32 := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let v594 : BitVec 32 := Scalar.subi v593 c0_i32_293
  let c1_i32_294 : BitVec 32 := 1#32
  let v596 : BitVec 32 := Scalar.divsi v594 c1_i32_294
  let v597 : BitVec 32 := Scalar.muli v596 c1_i32_294
  let v598 : BitVec 32 := Scalar.addi c0_i32_293 v597
  let v595 : BitVec 32 := Scalar.addi c0_i32_293 v594
  let c1_i32_296 : BitVec 32 := 1#32
  ⟨v598, v595, c1_i32_296⟩
def k0_mult64 (v8 : BitVec 32) (v11 : BitVec 32) (k0_t64 : Fin (k0_t64_loop v8 v11).trips) : BitVec 32 :=
  let c0_i32_293 : BitVec 32 := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let v594 : BitVec 32 := Scalar.subi v593 c0_i32_293
  let c1_i32_294 : BitVec 32 := 1#32
  let v596 : BitVec 32 := Scalar.divsi v594 c1_i32_294
  let v597 : BitVec 32 := Scalar.muli v596 c1_i32_294
  let v598 : BitVec 32 := Scalar.addi c0_i32_293 v597
  let c1_i32_296 : BitVec 32 := 1#32
  let arg14 : BitVec 32 := Scf.iv v598 c1_i32_296 k0_t64
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off131 (v8 : BitVec 32) (v11 : BitVec 32) (k0_t64 : Fin (k0_t64_loop v8 v11).trips) : Fin 4 → Nat :=
  let c0_440 : Index := 0#32
  let c0_441 : Index := 0#32
  let c0_i32_293 : BitVec 32 := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let v594 : BitVec 32 := Scalar.subi v593 c0_i32_293
  let c1_i32_294 : BitVec 32 := 1#32
  let v596 : BitVec 32 := Scalar.divsi v594 c1_i32_294
  let v597 : BitVec 32 := Scalar.muli v596 c1_i32_294
  let v598 : BitVec 32 := Scalar.addi c0_i32_293 v597
  let c1_i32_296 : BitVec 32 := 1#32
  let arg14 : BitVec 32 := Scf.iv v598 c1_i32_296 k0_t64
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off132 (v8 : BitVec 32) (v11 : BitVec 32) (k0_t64 : Fin (k0_t64_loop v8 v11).trips) : Fin 2 → Nat :=
  let c0_i32_293 : BitVec 32 := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let v594 : BitVec 32 := Scalar.subi v593 c0_i32_293
  let c1_i32_294 : BitVec 32 := 1#32
  let v596 : BitVec 32 := Scalar.divsi v594 c1_i32_294
  let v597 : BitVec 32 := Scalar.muli v596 c1_i32_294
  let v598 : BitVec 32 := Scalar.addi c0_i32_293 v597
  let c1_i32_296 : BitVec 32 := 1#32
  let arg14 : BitVec 32 := Scf.iv v598 c1_i32_296 k0_t64
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t65_loop (v8 : BitVec 32) (v11 : BitVec 32) : Scf.Loop 32 :=
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let v603 : BitVec 32 := Scalar.subi v11 v602
  let c1_i32_298 : BitVec 32 := 1#32
  let v605 : BitVec 32 := Scalar.divsi v603 c1_i32_298
  let v606 : BitVec 32 := Scalar.muli v605 c1_i32_298
  let v607 : BitVec 32 := Scalar.addi v602 v606
  let c1_i32_299 : BitVec 32 := 1#32
  ⟨v602, v607, c1_i32_299⟩
def k0_mult65 (v8 : BitVec 32) (v11 : BitVec 32) (k0_t65 : Fin (k0_t65_loop v8 v11).trips) : BitVec 32 :=
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let c1_i32_299 : BitVec 32 := 1#32
  let arg14 : BitVec 32 := Scf.iv v602 c1_i32_299 k0_t65
  let c256_i32 : BitVec 32 := 256#32
  let v889 : BitVec 32 := Scalar.muli arg14 c256_i32
  v889
def k0_off133 (v8 : BitVec 32) (v11 : BitVec 32) (k0_t65 : Fin (k0_t65_loop v8 v11).trips) : Fin 4 → Nat :=
  let c0_439 : Index := 0#32
  let c0_440 : Index := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let c1_i32_299 : BitVec 32 := 1#32
  let arg14 : BitVec 32 := Scf.iv v602 c1_i32_299 k0_t65
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off134 (v8 : BitVec 32) (v11 : BitVec 32) (k0_t65 : Fin (k0_t65_loop v8 v11).trips) : Fin 2 → Nat :=
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let c1_i32_299 : BitVec 32 := 1#32
  let arg14 : BitVec 32 := Scf.iv v602 c1_i32_299 k0_t65
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t66_loop (v8 : BitVec 32) (v11 : BitVec 32) : Scf.Loop 32 :=
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let v603 : BitVec 32 := Scalar.subi v11 v602
  let c1_i32_298 : BitVec 32 := 1#32
  let v605 : BitVec 32 := Scalar.divsi v603 c1_i32_298
  let v606 : BitVec 32 := Scalar.muli v605 c1_i32_298
  let v607 : BitVec 32 := Scalar.addi v602 v606
  let v604 : BitVec 32 := Scalar.addi v602 v603
  let c1_i32_300 : BitVec 32 := 1#32
  ⟨v607, v604, c1_i32_300⟩
def k0_mult66 (v8 : BitVec 32) (v11 : BitVec 32) (k0_t66 : Fin (k0_t66_loop v8 v11).trips) : BitVec 32 :=
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let v603 : BitVec 32 := Scalar.subi v11 v602
  let c1_i32_298 : BitVec 32 := 1#32
  let v605 : BitVec 32 := Scalar.divsi v603 c1_i32_298
  let v606 : BitVec 32 := Scalar.muli v605 c1_i32_298
  let v607 : BitVec 32 := Scalar.addi v602 v606
  let c1_i32_300 : BitVec 32 := 1#32
  let arg14 : BitVec 32 := Scf.iv v607 c1_i32_300 k0_t66
  let c256_i32 : BitVec 32 := 256#32
  let v889 : BitVec 32 := Scalar.muli arg14 c256_i32
  v889
def k0_off135 (v8 : BitVec 32) (v11 : BitVec 32) (k0_t66 : Fin (k0_t66_loop v8 v11).trips) : Fin 4 → Nat :=
  let c0_439 : Index := 0#32
  let c0_440 : Index := 0#32
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let v603 : BitVec 32 := Scalar.subi v11 v602
  let c1_i32_298 : BitVec 32 := 1#32
  let v605 : BitVec 32 := Scalar.divsi v603 c1_i32_298
  let v606 : BitVec 32 := Scalar.muli v605 c1_i32_298
  let v607 : BitVec 32 := Scalar.addi v602 v606
  let c1_i32_300 : BitVec 32 := 1#32
  let arg14 : BitVec 32 := Scf.iv v607 c1_i32_300 k0_t66
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off136 (v8 : BitVec 32) (v11 : BitVec 32) (k0_t66 : Fin (k0_t66_loop v8 v11).trips) : Fin 2 → Nat :=
  let v576 : BitVec 32 := Scalar.subi v11 v8
  let c0_i32_287 : BitVec 32 := 0#32
  let v578 : BitVec 1 := Scalar.cmpi .sgt v576 c0_i32_287
  let v579 : BitVec 32 := Scalar.extui v578
  let c0_i32_288 : BitVec 32 := 0#32
  let v580 : BitVec 1 := Scalar.cmpi .slt v576 c0_i32_288
  let v581 : BitVec 32 := Scalar.extui v580
  let v582 : BitVec 32 := Scalar.subi v579 v581
  let c4_i32_286 : BitVec 32 := 4#32
  let c0_i32_289 : BitVec 32 := 0#32
  let v583 : BitVec 1 := Scalar.cmpi .sgt c4_i32_286 c0_i32_289
  let v584 : BitVec 32 := Scalar.extui v583
  let c0_i32_290 : BitVec 32 := 0#32
  let v585 : BitVec 1 := Scalar.cmpi .slt c4_i32_286 c0_i32_290
  let v586 : BitVec 32 := Scalar.extui v585
  let v587 : BitVec 32 := Scalar.subi v584 v586
  let v588 : BitVec 1 := Scalar.cmpi .ne v582 v587
  let v589 : BitVec 32 := Scalar.remsi v576 c4_i32_286
  let c0_i32_291 : BitVec 32 := 0#32
  let v590 : BitVec 1 := Scalar.cmpi .ne v589 c0_i32_291
  let v591 : BitVec 1 := Scalar.andi v588 v590
  let v577 : BitVec 32 := Scalar.divsi v576 c4_i32_286
  let c1_i32_292 : BitVec 32 := 1#32
  let v592 : BitVec 32 := Scalar.subi v577 c1_i32_292
  let v593 : BitVec 32 := Scalar.select v591 v592 v577
  let c4_i32_297 : BitVec 32 := 4#32
  let v601 : BitVec 32 := Scalar.muli v593 c4_i32_297
  let v602 : BitVec 32 := Scalar.addi v8 v601
  let v603 : BitVec 32 := Scalar.subi v11 v602
  let c1_i32_298 : BitVec 32 := 1#32
  let v605 : BitVec 32 := Scalar.divsi v603 c1_i32_298
  let v606 : BitVec 32 := Scalar.muli v605 c1_i32_298
  let v607 : BitVec 32 := Scalar.addi v602 v606
  let c1_i32_300 : BitVec 32 := 1#32
  let arg14 : BitVec 32 := Scf.iv v607 c1_i32_300 k0_t66
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t67_loop (v5 : BitVec 32) (v11 : BitVec 32) : Scf.Loop 32 :=
  let v610 : BitVec 32 := Scalar.subi v5 v11
  let c1_i32_301 : BitVec 32 := 1#32
  let v612 : BitVec 32 := Scalar.divsi v610 c1_i32_301
  let v613 : BitVec 32 := Scalar.muli v612 c1_i32_301
  let v614 : BitVec 32 := Scalar.addi v11 v613
  let c1_i32_302 : BitVec 32 := 1#32
  ⟨v11, v614, c1_i32_302⟩
def k0_mult67 (v5 : BitVec 32) (v11 : BitVec 32) (k0_t67 : Fin (k0_t67_loop v5 v11).trips) : BitVec 32 :=
  let c1_i32_302 : BitVec 32 := 1#32
  let arg14 : BitVec 32 := Scf.iv v11 c1_i32_302 k0_t67
  let c256_i32 : BitVec 32 := 256#32
  let v889 : BitVec 32 := Scalar.muli arg14 c256_i32
  v889
def k0_off137 (v5 : BitVec 32) (v11 : BitVec 32) (k0_t67 : Fin (k0_t67_loop v5 v11).trips) : Fin 4 → Nat :=
  let c0_439 : Index := 0#32
  let c0_440 : Index := 0#32
  let c1_i32_302 : BitVec 32 := 1#32
  let arg14 : BitVec 32 := Scf.iv v11 c1_i32_302 k0_t67
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off138 (v5 : BitVec 32) (v11 : BitVec 32) (k0_t67 : Fin (k0_t67_loop v5 v11).trips) : Fin 2 → Nat :=
  let c1_i32_302 : BitVec 32 := 1#32
  let arg14 : BitVec 32 := Scf.iv v11 c1_i32_302 k0_t67
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t68_loop (v5 : BitVec 32) (v11 : BitVec 32) : Scf.Loop 32 :=
  let v610 : BitVec 32 := Scalar.subi v5 v11
  let c1_i32_301 : BitVec 32 := 1#32
  let v612 : BitVec 32 := Scalar.divsi v610 c1_i32_301
  let v613 : BitVec 32 := Scalar.muli v612 c1_i32_301
  let v614 : BitVec 32 := Scalar.addi v11 v613
  let v611 : BitVec 32 := Scalar.addi v11 v610
  let c1_i32_303 : BitVec 32 := 1#32
  ⟨v614, v611, c1_i32_303⟩
def k0_mult68 (v5 : BitVec 32) (v11 : BitVec 32) (k0_t68 : Fin (k0_t68_loop v5 v11).trips) : BitVec 32 :=
  let v610 : BitVec 32 := Scalar.subi v5 v11
  let c1_i32_301 : BitVec 32 := 1#32
  let v612 : BitVec 32 := Scalar.divsi v610 c1_i32_301
  let v613 : BitVec 32 := Scalar.muli v612 c1_i32_301
  let v614 : BitVec 32 := Scalar.addi v11 v613
  let c1_i32_303 : BitVec 32 := 1#32
  let arg14 : BitVec 32 := Scf.iv v614 c1_i32_303 k0_t68
  let c256_i32 : BitVec 32 := 256#32
  let v889 : BitVec 32 := Scalar.muli arg14 c256_i32
  v889
def k0_off139 (v5 : BitVec 32) (v11 : BitVec 32) (k0_t68 : Fin (k0_t68_loop v5 v11).trips) : Fin 4 → Nat :=
  let c0_439 : Index := 0#32
  let c0_440 : Index := 0#32
  let v610 : BitVec 32 := Scalar.subi v5 v11
  let c1_i32_301 : BitVec 32 := 1#32
  let v612 : BitVec 32 := Scalar.divsi v610 c1_i32_301
  let v613 : BitVec 32 := Scalar.muli v612 c1_i32_301
  let v614 : BitVec 32 := Scalar.addi v11 v613
  let c1_i32_303 : BitVec 32 := 1#32
  let arg14 : BitVec 32 := Scf.iv v614 c1_i32_303 k0_t68
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off140 (v5 : BitVec 32) (v11 : BitVec 32) (k0_t68 : Fin (k0_t68_loop v5 v11).trips) : Fin 2 → Nat :=
  let v610 : BitVec 32 := Scalar.subi v5 v11
  let c1_i32_301 : BitVec 32 := 1#32
  let v612 : BitVec 32 := Scalar.divsi v610 c1_i32_301
  let v613 : BitVec 32 := Scalar.muli v612 c1_i32_301
  let v614 : BitVec 32 := Scalar.addi v11 v613
  let c1_i32_303 : BitVec 32 := 1#32
  let arg14 : BitVec 32 := Scf.iv v614 c1_i32_303 k0_t68
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t69_loop (v2 : BitVec 32) (v5 : BitVec 32) : Scf.Loop 32 :=
  let c0_i32_314 : BitVec 32 := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let v639 : BitVec 32 := Scalar.subi v638 c0_i32_314
  let c1_i32_315 : BitVec 32 := 1#32
  let v641 : BitVec 32 := Scalar.divsi v639 c1_i32_315
  let v642 : BitVec 32 := Scalar.muli v641 c1_i32_315
  let v643 : BitVec 32 := Scalar.addi c0_i32_314 v642
  let c1_i32_316 : BitVec 32 := 1#32
  ⟨c0_i32_314, v643, c1_i32_316⟩
def k0_mult69 (v2 : BitVec 32) (v5 : BitVec 32) (k0_t69 : Fin (k0_t69_loop v2 v5).trips) : BitVec 32 :=
  let c0_i32_314 : BitVec 32 := 0#32
  let c1_i32_316 : BitVec 32 := 1#32
  let arg14 : BitVec 32 := Scf.iv c0_i32_314 c1_i32_316 k0_t69
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off141 (v2 : BitVec 32) (v5 : BitVec 32) (k0_t69 : Fin (k0_t69_loop v2 v5).trips) : Fin 2 → Nat :=
  let c0_i32_314 : BitVec 32 := 0#32
  let c1_i32_316 : BitVec 32 := 1#32
  let arg14 : BitVec 32 := Scf.iv c0_i32_314 c1_i32_316 k0_t69
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off142 (v2 : BitVec 32) (v5 : BitVec 32) (k0_t69 : Fin (k0_t69_loop v2 v5).trips) : Fin 4 → Nat :=
  let c0_444 : Index := 0#32
  let c0_445 : Index := 0#32
  let c0_446 : Index := 0#32
  let c0_i32_314 : BitVec 32 := 0#32
  let c1_i32_316 : BitVec 32 := 1#32
  let arg14 : BitVec 32 := Scf.iv c0_i32_314 c1_i32_316 k0_t69
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t70_loop (v2 : BitVec 32) (v5 : BitVec 32) : Scf.Loop 32 :=
  let c0_i32_314 : BitVec 32 := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let v639 : BitVec 32 := Scalar.subi v638 c0_i32_314
  let c1_i32_315 : BitVec 32 := 1#32
  let v641 : BitVec 32 := Scalar.divsi v639 c1_i32_315
  let v642 : BitVec 32 := Scalar.muli v641 c1_i32_315
  let v643 : BitVec 32 := Scalar.addi c0_i32_314 v642
  let v640 : BitVec 32 := Scalar.addi c0_i32_314 v639
  let c1_i32_317 : BitVec 32 := 1#32
  ⟨v643, v640, c1_i32_317⟩
def k0_mult70 (v2 : BitVec 32) (v5 : BitVec 32) (k0_t70 : Fin (k0_t70_loop v2 v5).trips) : BitVec 32 :=
  let c0_i32_314 : BitVec 32 := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let v639 : BitVec 32 := Scalar.subi v638 c0_i32_314
  let c1_i32_315 : BitVec 32 := 1#32
  let v641 : BitVec 32 := Scalar.divsi v639 c1_i32_315
  let v642 : BitVec 32 := Scalar.muli v641 c1_i32_315
  let v643 : BitVec 32 := Scalar.addi c0_i32_314 v642
  let c1_i32_317 : BitVec 32 := 1#32
  let arg14 : BitVec 32 := Scf.iv v643 c1_i32_317 k0_t70
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off143 (v2 : BitVec 32) (v5 : BitVec 32) (k0_t70 : Fin (k0_t70_loop v2 v5).trips) : Fin 2 → Nat :=
  let c0_i32_314 : BitVec 32 := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let v639 : BitVec 32 := Scalar.subi v638 c0_i32_314
  let c1_i32_315 : BitVec 32 := 1#32
  let v641 : BitVec 32 := Scalar.divsi v639 c1_i32_315
  let v642 : BitVec 32 := Scalar.muli v641 c1_i32_315
  let v643 : BitVec 32 := Scalar.addi c0_i32_314 v642
  let c1_i32_317 : BitVec 32 := 1#32
  let arg14 : BitVec 32 := Scf.iv v643 c1_i32_317 k0_t70
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off144 (v2 : BitVec 32) (v5 : BitVec 32) (k0_t70 : Fin (k0_t70_loop v2 v5).trips) : Fin 4 → Nat :=
  let c0_444 : Index := 0#32
  let c0_445 : Index := 0#32
  let c0_446 : Index := 0#32
  let c0_i32_314 : BitVec 32 := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let v639 : BitVec 32 := Scalar.subi v638 c0_i32_314
  let c1_i32_315 : BitVec 32 := 1#32
  let v641 : BitVec 32 := Scalar.divsi v639 c1_i32_315
  let v642 : BitVec 32 := Scalar.muli v641 c1_i32_315
  let v643 : BitVec 32 := Scalar.addi c0_i32_314 v642
  let c1_i32_317 : BitVec 32 := 1#32
  let arg14 : BitVec 32 := Scf.iv v643 c1_i32_317 k0_t70
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t71_loop (v2 : BitVec 32) (v5 : BitVec 32) : Scf.Loop 32 :=
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let v648 : BitVec 32 := Scalar.subi v5 v647
  let c1_i32_319 : BitVec 32 := 1#32
  let v650 : BitVec 32 := Scalar.divsi v648 c1_i32_319
  let v651 : BitVec 32 := Scalar.muli v650 c1_i32_319
  let v652 : BitVec 32 := Scalar.addi v647 v651
  let c1_i32_320 : BitVec 32 := 1#32
  ⟨v647, v652, c1_i32_320⟩
def k0_mult71 (v2 : BitVec 32) (v5 : BitVec 32) (k0_t71 : Fin (k0_t71_loop v2 v5).trips) : BitVec 32 :=
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let c1_i32_320 : BitVec 32 := 1#32
  let arg14 : BitVec 32 := Scf.iv v647 c1_i32_320 k0_t71
  let c256_i32 : BitVec 32 := 256#32
  let v889 : BitVec 32 := Scalar.muli arg14 c256_i32
  v889
def k0_off145 (v2 : BitVec 32) (v5 : BitVec 32) (k0_t71 : Fin (k0_t71_loop v2 v5).trips) : Fin 2 → Nat :=
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let c1_i32_320 : BitVec 32 := 1#32
  let arg14 : BitVec 32 := Scf.iv v647 c1_i32_320 k0_t71
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off146 (v2 : BitVec 32) (v5 : BitVec 32) (k0_t71 : Fin (k0_t71_loop v2 v5).trips) : Fin 4 → Nat :=
  let c0_443 : Index := 0#32
  let c0_444 : Index := 0#32
  let c0_445 : Index := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let c1_i32_320 : BitVec 32 := 1#32
  let arg14 : BitVec 32 := Scf.iv v647 c1_i32_320 k0_t71
  let c256_i32 : BitVec 32 := 256#32
  let v889 : BitVec 32 := Scalar.muli arg14 c256_i32
  let v890 : BitVec 32 := v889
  let v906 : Index := Scalar.indexCast v890
  ![0, 0, 0, v906.toNat]
@[reducible] def k0_t72_loop (v2 : BitVec 32) (v5 : BitVec 32) : Scf.Loop 32 :=
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let v648 : BitVec 32 := Scalar.subi v5 v647
  let c1_i32_319 : BitVec 32 := 1#32
  let v650 : BitVec 32 := Scalar.divsi v648 c1_i32_319
  let v651 : BitVec 32 := Scalar.muli v650 c1_i32_319
  let v652 : BitVec 32 := Scalar.addi v647 v651
  let v649 : BitVec 32 := Scalar.addi v647 v648
  let c1_i32_321 : BitVec 32 := 1#32
  ⟨v652, v649, c1_i32_321⟩
def k0_mult72 (v2 : BitVec 32) (v5 : BitVec 32) (k0_t72 : Fin (k0_t72_loop v2 v5).trips) : BitVec 32 :=
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let v648 : BitVec 32 := Scalar.subi v5 v647
  let c1_i32_319 : BitVec 32 := 1#32
  let v650 : BitVec 32 := Scalar.divsi v648 c1_i32_319
  let v651 : BitVec 32 := Scalar.muli v650 c1_i32_319
  let v652 : BitVec 32 := Scalar.addi v647 v651
  let c1_i32_321 : BitVec 32 := 1#32
  let arg14 : BitVec 32 := Scf.iv v652 c1_i32_321 k0_t72
  let c256_i32 : BitVec 32 := 256#32
  let v889 : BitVec 32 := Scalar.muli arg14 c256_i32
  v889
def k0_off147 (v2 : BitVec 32) (v5 : BitVec 32) (k0_t72 : Fin (k0_t72_loop v2 v5).trips) : Fin 2 → Nat :=
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let v648 : BitVec 32 := Scalar.subi v5 v647
  let c1_i32_319 : BitVec 32 := 1#32
  let v650 : BitVec 32 := Scalar.divsi v648 c1_i32_319
  let v651 : BitVec 32 := Scalar.muli v650 c1_i32_319
  let v652 : BitVec 32 := Scalar.addi v647 v651
  let c1_i32_321 : BitVec 32 := 1#32
  let arg14 : BitVec 32 := Scf.iv v652 c1_i32_321 k0_t72
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off148 (v2 : BitVec 32) (v5 : BitVec 32) (k0_t72 : Fin (k0_t72_loop v2 v5).trips) : Fin 4 → Nat :=
  let c0_443 : Index := 0#32
  let c0_444 : Index := 0#32
  let c0_445 : Index := 0#32
  let v621 : BitVec 32 := Scalar.subi v5 v2
  let c0_i32_308 : BitVec 32 := 0#32
  let v623 : BitVec 1 := Scalar.cmpi .sgt v621 c0_i32_308
  let v624 : BitVec 32 := Scalar.extui v623
  let c0_i32_309 : BitVec 32 := 0#32
  let v625 : BitVec 1 := Scalar.cmpi .slt v621 c0_i32_309
  let v626 : BitVec 32 := Scalar.extui v625
  let v627 : BitVec 32 := Scalar.subi v624 v626
  let c4_i32_307 : BitVec 32 := 4#32
  let c0_i32_310 : BitVec 32 := 0#32
  let v628 : BitVec 1 := Scalar.cmpi .sgt c4_i32_307 c0_i32_310
  let v629 : BitVec 32 := Scalar.extui v628
  let c0_i32_311 : BitVec 32 := 0#32
  let v630 : BitVec 1 := Scalar.cmpi .slt c4_i32_307 c0_i32_311
  let v631 : BitVec 32 := Scalar.extui v630
  let v632 : BitVec 32 := Scalar.subi v629 v631
  let v633 : BitVec 1 := Scalar.cmpi .ne v627 v632
  let v634 : BitVec 32 := Scalar.remsi v621 c4_i32_307
  let c0_i32_312 : BitVec 32 := 0#32
  let v635 : BitVec 1 := Scalar.cmpi .ne v634 c0_i32_312
  let v636 : BitVec 1 := Scalar.andi v633 v635
  let v622 : BitVec 32 := Scalar.divsi v621 c4_i32_307
  let c1_i32_313 : BitVec 32 := 1#32
  let v637 : BitVec 32 := Scalar.subi v622 c1_i32_313
  let v638 : BitVec 32 := Scalar.select v636 v637 v622
  let c4_i32_318 : BitVec 32 := 4#32
  let v646 : BitVec 32 := Scalar.muli v638 c4_i32_318
  let v647 : BitVec 32 := Scalar.addi v2 v646
  let v648 : BitVec 32 := Scalar.subi v5 v647
  let c1_i32_319 : BitVec 32 := 1#32
  let v650 : BitVec 32 := Scalar.divsi v648 c1_i32_319
  let v651 : BitVec 32 := Scalar.muli v650 c1_i32_319
  let v652 : BitVec 32 := Scalar.addi v647 v651
  let c1_i32_321 : BitVec 32 := 1#32
  let arg14 : BitVec 32 := Scf.iv v652 c1_i32_321 k0_t72
  let c256_i32 : BitVec 32 := 256#32
  let v889 : BitVec 32 := Scalar.muli arg14 c256_i32
  let v890 : BitVec 32 := v889
  let v906 : Index := Scalar.indexCast v890
  ![0, 0, 0, v906.toNat]
@[reducible] def k0_t73_loop (v2 : BitVec 32) (v8 : BitVec 32) : Scf.Loop 32 :=
  let v678 : BitVec 32 := Scalar.subi v8 v2
  let c1_i32_337 : BitVec 32 := 1#32
  let v680 : BitVec 32 := Scalar.divsi v678 c1_i32_337
  let v681 : BitVec 32 := Scalar.muli v680 c1_i32_337
  let v682 : BitVec 32 := Scalar.addi v2 v681
  let c1_i32_338 : BitVec 32 := 1#32
  ⟨v2, v682, c1_i32_338⟩
def k0_mult73 (v2 : BitVec 32) (v8 : BitVec 32) (k0_t73 : Fin (k0_t73_loop v2 v8).trips) : BitVec 32 :=
  let c1_i32_338 : BitVec 32 := 1#32
  let arg14 : BitVec 32 := Scf.iv v2 c1_i32_338 k0_t73
  let c256_i32 : BitVec 32 := 256#32
  let v889 : BitVec 32 := Scalar.muli arg14 c256_i32
  v889
def k0_off149 (v2 : BitVec 32) (v8 : BitVec 32) (k0_t73 : Fin (k0_t73_loop v2 v8).trips) : Fin 4 → Nat :=
  let c0_439 : Index := 0#32
  let c0_440 : Index := 0#32
  let c1_i32_338 : BitVec 32 := 1#32
  let arg14 : BitVec 32 := Scf.iv v2 c1_i32_338 k0_t73
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off150 (v2 : BitVec 32) (v8 : BitVec 32) (k0_t73 : Fin (k0_t73_loop v2 v8).trips) : Fin 2 → Nat :=
  let c1_i32_338 : BitVec 32 := 1#32
  let arg14 : BitVec 32 := Scf.iv v2 c1_i32_338 k0_t73
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t74_loop (v2 : BitVec 32) (v8 : BitVec 32) : Scf.Loop 32 :=
  let v678 : BitVec 32 := Scalar.subi v8 v2
  let c1_i32_337 : BitVec 32 := 1#32
  let v680 : BitVec 32 := Scalar.divsi v678 c1_i32_337
  let v681 : BitVec 32 := Scalar.muli v680 c1_i32_337
  let v682 : BitVec 32 := Scalar.addi v2 v681
  let v679 : BitVec 32 := Scalar.addi v2 v678
  let c1_i32_339 : BitVec 32 := 1#32
  ⟨v682, v679, c1_i32_339⟩
def k0_mult74 (v2 : BitVec 32) (v8 : BitVec 32) (k0_t74 : Fin (k0_t74_loop v2 v8).trips) : BitVec 32 :=
  let v678 : BitVec 32 := Scalar.subi v8 v2
  let c1_i32_337 : BitVec 32 := 1#32
  let v680 : BitVec 32 := Scalar.divsi v678 c1_i32_337
  let v681 : BitVec 32 := Scalar.muli v680 c1_i32_337
  let v682 : BitVec 32 := Scalar.addi v2 v681
  let c1_i32_339 : BitVec 32 := 1#32
  let arg14 : BitVec 32 := Scf.iv v682 c1_i32_339 k0_t74
  let c256_i32 : BitVec 32 := 256#32
  let v889 : BitVec 32 := Scalar.muli arg14 c256_i32
  v889
def k0_off151 (v2 : BitVec 32) (v8 : BitVec 32) (k0_t74 : Fin (k0_t74_loop v2 v8).trips) : Fin 4 → Nat :=
  let c0_439 : Index := 0#32
  let c0_440 : Index := 0#32
  let v678 : BitVec 32 := Scalar.subi v8 v2
  let c1_i32_337 : BitVec 32 := 1#32
  let v680 : BitVec 32 := Scalar.divsi v678 c1_i32_337
  let v681 : BitVec 32 := Scalar.muli v680 c1_i32_337
  let v682 : BitVec 32 := Scalar.addi v2 v681
  let c1_i32_339 : BitVec 32 := 1#32
  let arg14 : BitVec 32 := Scf.iv v682 c1_i32_339 k0_t74
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off152 (v2 : BitVec 32) (v8 : BitVec 32) (k0_t74 : Fin (k0_t74_loop v2 v8).trips) : Fin 2 → Nat :=
  let v678 : BitVec 32 := Scalar.subi v8 v2
  let c1_i32_337 : BitVec 32 := 1#32
  let v680 : BitVec 32 := Scalar.divsi v678 c1_i32_337
  let v681 : BitVec 32 := Scalar.muli v680 c1_i32_337
  let v682 : BitVec 32 := Scalar.addi v2 v681
  let c1_i32_339 : BitVec 32 := 1#32
  let arg14 : BitVec 32 := Scf.iv v682 c1_i32_339 k0_t74
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t75_loop (v8 : BitVec 32) (v11 : BitVec 32) : Scf.Loop 32 :=
  let c0_i32_347 : BitVec 32 := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let v703 : BitVec 32 := Scalar.subi v702 c0_i32_347
  let c1_i32_348 : BitVec 32 := 1#32
  let v705 : BitVec 32 := Scalar.divsi v703 c1_i32_348
  let v706 : BitVec 32 := Scalar.muli v705 c1_i32_348
  let v707 : BitVec 32 := Scalar.addi c0_i32_347 v706
  let c1_i32_349 : BitVec 32 := 1#32
  ⟨c0_i32_347, v707, c1_i32_349⟩
def k0_mult75 (v8 : BitVec 32) (v11 : BitVec 32) (k0_t75 : Fin (k0_t75_loop v8 v11).trips) : BitVec 32 :=
  let c0_i32_347 : BitVec 32 := 0#32
  let c1_i32_349 : BitVec 32 := 1#32
  let arg14 : BitVec 32 := Scf.iv c0_i32_347 c1_i32_349 k0_t75
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off153 (v8 : BitVec 32) (v11 : BitVec 32) (k0_t75 : Fin (k0_t75_loop v8 v11).trips) : Fin 4 → Nat :=
  let c0_440 : Index := 0#32
  let c0_441 : Index := 0#32
  let c0_i32_347 : BitVec 32 := 0#32
  let c1_i32_349 : BitVec 32 := 1#32
  let arg14 : BitVec 32 := Scf.iv c0_i32_347 c1_i32_349 k0_t75
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off154 (v8 : BitVec 32) (v11 : BitVec 32) (k0_t75 : Fin (k0_t75_loop v8 v11).trips) : Fin 2 → Nat :=
  let c0_i32_347 : BitVec 32 := 0#32
  let c1_i32_349 : BitVec 32 := 1#32
  let arg14 : BitVec 32 := Scf.iv c0_i32_347 c1_i32_349 k0_t75
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t76_loop (v8 : BitVec 32) (v11 : BitVec 32) : Scf.Loop 32 :=
  let c0_i32_347 : BitVec 32 := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let v703 : BitVec 32 := Scalar.subi v702 c0_i32_347
  let c1_i32_348 : BitVec 32 := 1#32
  let v705 : BitVec 32 := Scalar.divsi v703 c1_i32_348
  let v706 : BitVec 32 := Scalar.muli v705 c1_i32_348
  let v707 : BitVec 32 := Scalar.addi c0_i32_347 v706
  let v704 : BitVec 32 := Scalar.addi c0_i32_347 v703
  let c1_i32_350 : BitVec 32 := 1#32
  ⟨v707, v704, c1_i32_350⟩
def k0_mult76 (v8 : BitVec 32) (v11 : BitVec 32) (k0_t76 : Fin (k0_t76_loop v8 v11).trips) : BitVec 32 :=
  let c0_i32_347 : BitVec 32 := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let v703 : BitVec 32 := Scalar.subi v702 c0_i32_347
  let c1_i32_348 : BitVec 32 := 1#32
  let v705 : BitVec 32 := Scalar.divsi v703 c1_i32_348
  let v706 : BitVec 32 := Scalar.muli v705 c1_i32_348
  let v707 : BitVec 32 := Scalar.addi c0_i32_347 v706
  let c1_i32_350 : BitVec 32 := 1#32
  let arg14 : BitVec 32 := Scf.iv v707 c1_i32_350 k0_t76
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off155 (v8 : BitVec 32) (v11 : BitVec 32) (k0_t76 : Fin (k0_t76_loop v8 v11).trips) : Fin 4 → Nat :=
  let c0_440 : Index := 0#32
  let c0_441 : Index := 0#32
  let c0_i32_347 : BitVec 32 := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let v703 : BitVec 32 := Scalar.subi v702 c0_i32_347
  let c1_i32_348 : BitVec 32 := 1#32
  let v705 : BitVec 32 := Scalar.divsi v703 c1_i32_348
  let v706 : BitVec 32 := Scalar.muli v705 c1_i32_348
  let v707 : BitVec 32 := Scalar.addi c0_i32_347 v706
  let c1_i32_350 : BitVec 32 := 1#32
  let arg14 : BitVec 32 := Scf.iv v707 c1_i32_350 k0_t76
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off156 (v8 : BitVec 32) (v11 : BitVec 32) (k0_t76 : Fin (k0_t76_loop v8 v11).trips) : Fin 2 → Nat :=
  let c0_i32_347 : BitVec 32 := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let v703 : BitVec 32 := Scalar.subi v702 c0_i32_347
  let c1_i32_348 : BitVec 32 := 1#32
  let v705 : BitVec 32 := Scalar.divsi v703 c1_i32_348
  let v706 : BitVec 32 := Scalar.muli v705 c1_i32_348
  let v707 : BitVec 32 := Scalar.addi c0_i32_347 v706
  let c1_i32_350 : BitVec 32 := 1#32
  let arg14 : BitVec 32 := Scf.iv v707 c1_i32_350 k0_t76
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t77_loop (v8 : BitVec 32) (v11 : BitVec 32) : Scf.Loop 32 :=
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let v712 : BitVec 32 := Scalar.subi v11 v711
  let c1_i32_352 : BitVec 32 := 1#32
  let v714 : BitVec 32 := Scalar.divsi v712 c1_i32_352
  let v715 : BitVec 32 := Scalar.muli v714 c1_i32_352
  let v716 : BitVec 32 := Scalar.addi v711 v715
  let c1_i32_353 : BitVec 32 := 1#32
  ⟨v711, v716, c1_i32_353⟩
def k0_mult77 (v8 : BitVec 32) (v11 : BitVec 32) (k0_t77 : Fin (k0_t77_loop v8 v11).trips) : BitVec 32 :=
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let c1_i32_353 : BitVec 32 := 1#32
  let arg14 : BitVec 32 := Scf.iv v711 c1_i32_353 k0_t77
  let c256_i32 : BitVec 32 := 256#32
  let v889 : BitVec 32 := Scalar.muli arg14 c256_i32
  v889
def k0_off157 (v8 : BitVec 32) (v11 : BitVec 32) (k0_t77 : Fin (k0_t77_loop v8 v11).trips) : Fin 4 → Nat :=
  let c0_439 : Index := 0#32
  let c0_440 : Index := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let c1_i32_353 : BitVec 32 := 1#32
  let arg14 : BitVec 32 := Scf.iv v711 c1_i32_353 k0_t77
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off158 (v8 : BitVec 32) (v11 : BitVec 32) (k0_t77 : Fin (k0_t77_loop v8 v11).trips) : Fin 2 → Nat :=
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let c1_i32_353 : BitVec 32 := 1#32
  let arg14 : BitVec 32 := Scf.iv v711 c1_i32_353 k0_t77
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t78_loop (v8 : BitVec 32) (v11 : BitVec 32) : Scf.Loop 32 :=
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let v712 : BitVec 32 := Scalar.subi v11 v711
  let c1_i32_352 : BitVec 32 := 1#32
  let v714 : BitVec 32 := Scalar.divsi v712 c1_i32_352
  let v715 : BitVec 32 := Scalar.muli v714 c1_i32_352
  let v716 : BitVec 32 := Scalar.addi v711 v715
  let v713 : BitVec 32 := Scalar.addi v711 v712
  let c1_i32_354 : BitVec 32 := 1#32
  ⟨v716, v713, c1_i32_354⟩
def k0_mult78 (v8 : BitVec 32) (v11 : BitVec 32) (k0_t78 : Fin (k0_t78_loop v8 v11).trips) : BitVec 32 :=
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let v712 : BitVec 32 := Scalar.subi v11 v711
  let c1_i32_352 : BitVec 32 := 1#32
  let v714 : BitVec 32 := Scalar.divsi v712 c1_i32_352
  let v715 : BitVec 32 := Scalar.muli v714 c1_i32_352
  let v716 : BitVec 32 := Scalar.addi v711 v715
  let c1_i32_354 : BitVec 32 := 1#32
  let arg14 : BitVec 32 := Scf.iv v716 c1_i32_354 k0_t78
  let c256_i32 : BitVec 32 := 256#32
  let v889 : BitVec 32 := Scalar.muli arg14 c256_i32
  v889
def k0_off159 (v8 : BitVec 32) (v11 : BitVec 32) (k0_t78 : Fin (k0_t78_loop v8 v11).trips) : Fin 4 → Nat :=
  let c0_439 : Index := 0#32
  let c0_440 : Index := 0#32
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let v712 : BitVec 32 := Scalar.subi v11 v711
  let c1_i32_352 : BitVec 32 := 1#32
  let v714 : BitVec 32 := Scalar.divsi v712 c1_i32_352
  let v715 : BitVec 32 := Scalar.muli v714 c1_i32_352
  let v716 : BitVec 32 := Scalar.addi v711 v715
  let c1_i32_354 : BitVec 32 := 1#32
  let arg14 : BitVec 32 := Scf.iv v716 c1_i32_354 k0_t78
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off160 (v8 : BitVec 32) (v11 : BitVec 32) (k0_t78 : Fin (k0_t78_loop v8 v11).trips) : Fin 2 → Nat :=
  let v685 : BitVec 32 := Scalar.subi v11 v8
  let c0_i32_341 : BitVec 32 := 0#32
  let v687 : BitVec 1 := Scalar.cmpi .sgt v685 c0_i32_341
  let v688 : BitVec 32 := Scalar.extui v687
  let c0_i32_342 : BitVec 32 := 0#32
  let v689 : BitVec 1 := Scalar.cmpi .slt v685 c0_i32_342
  let v690 : BitVec 32 := Scalar.extui v689
  let v691 : BitVec 32 := Scalar.subi v688 v690
  let c4_i32_340 : BitVec 32 := 4#32
  let c0_i32_343 : BitVec 32 := 0#32
  let v692 : BitVec 1 := Scalar.cmpi .sgt c4_i32_340 c0_i32_343
  let v693 : BitVec 32 := Scalar.extui v692
  let c0_i32_344 : BitVec 32 := 0#32
  let v694 : BitVec 1 := Scalar.cmpi .slt c4_i32_340 c0_i32_344
  let v695 : BitVec 32 := Scalar.extui v694
  let v696 : BitVec 32 := Scalar.subi v693 v695
  let v697 : BitVec 1 := Scalar.cmpi .ne v691 v696
  let v698 : BitVec 32 := Scalar.remsi v685 c4_i32_340
  let c0_i32_345 : BitVec 32 := 0#32
  let v699 : BitVec 1 := Scalar.cmpi .ne v698 c0_i32_345
  let v700 : BitVec 1 := Scalar.andi v697 v699
  let v686 : BitVec 32 := Scalar.divsi v685 c4_i32_340
  let c1_i32_346 : BitVec 32 := 1#32
  let v701 : BitVec 32 := Scalar.subi v686 c1_i32_346
  let v702 : BitVec 32 := Scalar.select v700 v701 v686
  let c4_i32_351 : BitVec 32 := 4#32
  let v710 : BitVec 32 := Scalar.muli v702 c4_i32_351
  let v711 : BitVec 32 := Scalar.addi v8 v710
  let v712 : BitVec 32 := Scalar.subi v11 v711
  let c1_i32_352 : BitVec 32 := 1#32
  let v714 : BitVec 32 := Scalar.divsi v712 c1_i32_352
  let v715 : BitVec 32 := Scalar.muli v714 c1_i32_352
  let v716 : BitVec 32 := Scalar.addi v711 v715
  let c1_i32_354 : BitVec 32 := 1#32
  let arg14 : BitVec 32 := Scf.iv v716 c1_i32_354 k0_t78
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t79_loop (v5 : BitVec 32) (v11 : BitVec 32) : Scf.Loop 32 :=
  let v719 : BitVec 32 := Scalar.subi v5 v11
  let c1_i32_355 : BitVec 32 := 1#32
  let v721 : BitVec 32 := Scalar.divsi v719 c1_i32_355
  let v722 : BitVec 32 := Scalar.muli v721 c1_i32_355
  let v723 : BitVec 32 := Scalar.addi v11 v722
  let c1_i32_356 : BitVec 32 := 1#32
  ⟨v11, v723, c1_i32_356⟩
def k0_mult79 (v5 : BitVec 32) (v11 : BitVec 32) (k0_t79 : Fin (k0_t79_loop v5 v11).trips) : BitVec 32 :=
  let c1_i32_356 : BitVec 32 := 1#32
  let arg14 : BitVec 32 := Scf.iv v11 c1_i32_356 k0_t79
  let c256_i32 : BitVec 32 := 256#32
  let v889 : BitVec 32 := Scalar.muli arg14 c256_i32
  v889
def k0_off161 (v5 : BitVec 32) (v11 : BitVec 32) (k0_t79 : Fin (k0_t79_loop v5 v11).trips) : Fin 4 → Nat :=
  let c0_439 : Index := 0#32
  let c0_440 : Index := 0#32
  let c1_i32_356 : BitVec 32 := 1#32
  let arg14 : BitVec 32 := Scf.iv v11 c1_i32_356 k0_t79
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off162 (v5 : BitVec 32) (v11 : BitVec 32) (k0_t79 : Fin (k0_t79_loop v5 v11).trips) : Fin 2 → Nat :=
  let c1_i32_356 : BitVec 32 := 1#32
  let arg14 : BitVec 32 := Scf.iv v11 c1_i32_356 k0_t79
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t80_loop (v5 : BitVec 32) (v11 : BitVec 32) : Scf.Loop 32 :=
  let v719 : BitVec 32 := Scalar.subi v5 v11
  let c1_i32_355 : BitVec 32 := 1#32
  let v721 : BitVec 32 := Scalar.divsi v719 c1_i32_355
  let v722 : BitVec 32 := Scalar.muli v721 c1_i32_355
  let v723 : BitVec 32 := Scalar.addi v11 v722
  let v720 : BitVec 32 := Scalar.addi v11 v719
  let c1_i32_357 : BitVec 32 := 1#32
  ⟨v723, v720, c1_i32_357⟩
def k0_mult80 (v5 : BitVec 32) (v11 : BitVec 32) (k0_t80 : Fin (k0_t80_loop v5 v11).trips) : BitVec 32 :=
  let v719 : BitVec 32 := Scalar.subi v5 v11
  let c1_i32_355 : BitVec 32 := 1#32
  let v721 : BitVec 32 := Scalar.divsi v719 c1_i32_355
  let v722 : BitVec 32 := Scalar.muli v721 c1_i32_355
  let v723 : BitVec 32 := Scalar.addi v11 v722
  let c1_i32_357 : BitVec 32 := 1#32
  let arg14 : BitVec 32 := Scf.iv v723 c1_i32_357 k0_t80
  let c256_i32 : BitVec 32 := 256#32
  let v889 : BitVec 32 := Scalar.muli arg14 c256_i32
  v889
def k0_off163 (v5 : BitVec 32) (v11 : BitVec 32) (k0_t80 : Fin (k0_t80_loop v5 v11).trips) : Fin 4 → Nat :=
  let c0_439 : Index := 0#32
  let c0_440 : Index := 0#32
  let v719 : BitVec 32 := Scalar.subi v5 v11
  let c1_i32_355 : BitVec 32 := 1#32
  let v721 : BitVec 32 := Scalar.divsi v719 c1_i32_355
  let v722 : BitVec 32 := Scalar.muli v721 c1_i32_355
  let v723 : BitVec 32 := Scalar.addi v11 v722
  let c1_i32_357 : BitVec 32 := 1#32
  let arg14 : BitVec 32 := Scf.iv v723 c1_i32_357 k0_t80
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off164 (v5 : BitVec 32) (v11 : BitVec 32) (k0_t80 : Fin (k0_t80_loop v5 v11).trips) : Fin 2 → Nat :=
  let v719 : BitVec 32 := Scalar.subi v5 v11
  let c1_i32_355 : BitVec 32 := 1#32
  let v721 : BitVec 32 := Scalar.divsi v719 c1_i32_355
  let v722 : BitVec 32 := Scalar.muli v721 c1_i32_355
  let v723 : BitVec 32 := Scalar.addi v11 v722
  let c1_i32_357 : BitVec 32 := 1#32
  let arg14 : BitVec 32 := Scf.iv v723 c1_i32_357 k0_t80
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t81_loop (v2 : BitVec 32) (v5 : BitVec 32) : Scf.Loop 32 :=
  let c0_i32_368 : BitVec 32 := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let v748 : BitVec 32 := Scalar.subi v747 c0_i32_368
  let c1_i32_369 : BitVec 32 := 1#32
  let v750 : BitVec 32 := Scalar.divsi v748 c1_i32_369
  let v751 : BitVec 32 := Scalar.muli v750 c1_i32_369
  let v752 : BitVec 32 := Scalar.addi c0_i32_368 v751
  let c1_i32_370 : BitVec 32 := 1#32
  ⟨c0_i32_368, v752, c1_i32_370⟩
def k0_mult81 (v2 : BitVec 32) (v5 : BitVec 32) (k0_t81 : Fin (k0_t81_loop v2 v5).trips) : BitVec 32 :=
  let c0_i32_368 : BitVec 32 := 0#32
  let c1_i32_370 : BitVec 32 := 1#32
  let arg14 : BitVec 32 := Scf.iv c0_i32_368 c1_i32_370 k0_t81
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off165 (v2 : BitVec 32) (v5 : BitVec 32) (k0_t81 : Fin (k0_t81_loop v2 v5).trips) : Fin 2 → Nat :=
  let c0_i32_368 : BitVec 32 := 0#32
  let c1_i32_370 : BitVec 32 := 1#32
  let arg14 : BitVec 32 := Scf.iv c0_i32_368 c1_i32_370 k0_t81
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off166 (v2 : BitVec 32) (v5 : BitVec 32) (k0_t81 : Fin (k0_t81_loop v2 v5).trips) : Fin 4 → Nat :=
  let c0_444 : Index := 0#32
  let c0_445 : Index := 0#32
  let c0_446 : Index := 0#32
  let c0_i32_368 : BitVec 32 := 0#32
  let c1_i32_370 : BitVec 32 := 1#32
  let arg14 : BitVec 32 := Scf.iv c0_i32_368 c1_i32_370 k0_t81
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t82_loop (v2 : BitVec 32) (v5 : BitVec 32) : Scf.Loop 32 :=
  let c0_i32_368 : BitVec 32 := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let v748 : BitVec 32 := Scalar.subi v747 c0_i32_368
  let c1_i32_369 : BitVec 32 := 1#32
  let v750 : BitVec 32 := Scalar.divsi v748 c1_i32_369
  let v751 : BitVec 32 := Scalar.muli v750 c1_i32_369
  let v752 : BitVec 32 := Scalar.addi c0_i32_368 v751
  let v749 : BitVec 32 := Scalar.addi c0_i32_368 v748
  let c1_i32_371 : BitVec 32 := 1#32
  ⟨v752, v749, c1_i32_371⟩
def k0_mult82 (v2 : BitVec 32) (v5 : BitVec 32) (k0_t82 : Fin (k0_t82_loop v2 v5).trips) : BitVec 32 :=
  let c0_i32_368 : BitVec 32 := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let v748 : BitVec 32 := Scalar.subi v747 c0_i32_368
  let c1_i32_369 : BitVec 32 := 1#32
  let v750 : BitVec 32 := Scalar.divsi v748 c1_i32_369
  let v751 : BitVec 32 := Scalar.muli v750 c1_i32_369
  let v752 : BitVec 32 := Scalar.addi c0_i32_368 v751
  let c1_i32_371 : BitVec 32 := 1#32
  let arg14 : BitVec 32 := Scf.iv v752 c1_i32_371 k0_t82
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off167 (v2 : BitVec 32) (v5 : BitVec 32) (k0_t82 : Fin (k0_t82_loop v2 v5).trips) : Fin 2 → Nat :=
  let c0_i32_368 : BitVec 32 := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let v748 : BitVec 32 := Scalar.subi v747 c0_i32_368
  let c1_i32_369 : BitVec 32 := 1#32
  let v750 : BitVec 32 := Scalar.divsi v748 c1_i32_369
  let v751 : BitVec 32 := Scalar.muli v750 c1_i32_369
  let v752 : BitVec 32 := Scalar.addi c0_i32_368 v751
  let c1_i32_371 : BitVec 32 := 1#32
  let arg14 : BitVec 32 := Scf.iv v752 c1_i32_371 k0_t82
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off168 (v2 : BitVec 32) (v5 : BitVec 32) (k0_t82 : Fin (k0_t82_loop v2 v5).trips) : Fin 4 → Nat :=
  let c0_444 : Index := 0#32
  let c0_445 : Index := 0#32
  let c0_446 : Index := 0#32
  let c0_i32_368 : BitVec 32 := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let v748 : BitVec 32 := Scalar.subi v747 c0_i32_368
  let c1_i32_369 : BitVec 32 := 1#32
  let v750 : BitVec 32 := Scalar.divsi v748 c1_i32_369
  let v751 : BitVec 32 := Scalar.muli v750 c1_i32_369
  let v752 : BitVec 32 := Scalar.addi c0_i32_368 v751
  let c1_i32_371 : BitVec 32 := 1#32
  let arg14 : BitVec 32 := Scf.iv v752 c1_i32_371 k0_t82
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t83_loop (v2 : BitVec 32) (v5 : BitVec 32) : Scf.Loop 32 :=
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let v757 : BitVec 32 := Scalar.subi v5 v756
  let c1_i32_373 : BitVec 32 := 1#32
  let v759 : BitVec 32 := Scalar.divsi v757 c1_i32_373
  let v760 : BitVec 32 := Scalar.muli v759 c1_i32_373
  let v761 : BitVec 32 := Scalar.addi v756 v760
  let c1_i32_374 : BitVec 32 := 1#32
  ⟨v756, v761, c1_i32_374⟩
def k0_mult83 (v2 : BitVec 32) (v5 : BitVec 32) (k0_t83 : Fin (k0_t83_loop v2 v5).trips) : BitVec 32 :=
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let c1_i32_374 : BitVec 32 := 1#32
  let arg14 : BitVec 32 := Scf.iv v756 c1_i32_374 k0_t83
  let c256_i32 : BitVec 32 := 256#32
  let v889 : BitVec 32 := Scalar.muli arg14 c256_i32
  v889
def k0_off169 (v2 : BitVec 32) (v5 : BitVec 32) (k0_t83 : Fin (k0_t83_loop v2 v5).trips) : Fin 2 → Nat :=
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let c1_i32_374 : BitVec 32 := 1#32
  let arg14 : BitVec 32 := Scf.iv v756 c1_i32_374 k0_t83
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off170 (v2 : BitVec 32) (v5 : BitVec 32) (k0_t83 : Fin (k0_t83_loop v2 v5).trips) : Fin 4 → Nat :=
  let c0_443 : Index := 0#32
  let c0_444 : Index := 0#32
  let c0_445 : Index := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let c1_i32_374 : BitVec 32 := 1#32
  let arg14 : BitVec 32 := Scf.iv v756 c1_i32_374 k0_t83
  let c256_i32 : BitVec 32 := 256#32
  let v889 : BitVec 32 := Scalar.muli arg14 c256_i32
  let v890 : BitVec 32 := v889
  let v906 : Index := Scalar.indexCast v890
  ![0, 0, 0, v906.toNat]
@[reducible] def k0_t84_loop (v2 : BitVec 32) (v5 : BitVec 32) : Scf.Loop 32 :=
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let v757 : BitVec 32 := Scalar.subi v5 v756
  let c1_i32_373 : BitVec 32 := 1#32
  let v759 : BitVec 32 := Scalar.divsi v757 c1_i32_373
  let v760 : BitVec 32 := Scalar.muli v759 c1_i32_373
  let v761 : BitVec 32 := Scalar.addi v756 v760
  let v758 : BitVec 32 := Scalar.addi v756 v757
  let c1_i32_375 : BitVec 32 := 1#32
  ⟨v761, v758, c1_i32_375⟩
def k0_mult84 (v2 : BitVec 32) (v5 : BitVec 32) (k0_t84 : Fin (k0_t84_loop v2 v5).trips) : BitVec 32 :=
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let v757 : BitVec 32 := Scalar.subi v5 v756
  let c1_i32_373 : BitVec 32 := 1#32
  let v759 : BitVec 32 := Scalar.divsi v757 c1_i32_373
  let v760 : BitVec 32 := Scalar.muli v759 c1_i32_373
  let v761 : BitVec 32 := Scalar.addi v756 v760
  let c1_i32_375 : BitVec 32 := 1#32
  let arg14 : BitVec 32 := Scf.iv v761 c1_i32_375 k0_t84
  let c256_i32 : BitVec 32 := 256#32
  let v889 : BitVec 32 := Scalar.muli arg14 c256_i32
  v889
def k0_off171 (v2 : BitVec 32) (v5 : BitVec 32) (k0_t84 : Fin (k0_t84_loop v2 v5).trips) : Fin 2 → Nat :=
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let v757 : BitVec 32 := Scalar.subi v5 v756
  let c1_i32_373 : BitVec 32 := 1#32
  let v759 : BitVec 32 := Scalar.divsi v757 c1_i32_373
  let v760 : BitVec 32 := Scalar.muli v759 c1_i32_373
  let v761 : BitVec 32 := Scalar.addi v756 v760
  let c1_i32_375 : BitVec 32 := 1#32
  let arg14 : BitVec 32 := Scf.iv v761 c1_i32_375 k0_t84
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off172 (v2 : BitVec 32) (v5 : BitVec 32) (k0_t84 : Fin (k0_t84_loop v2 v5).trips) : Fin 4 → Nat :=
  let c0_443 : Index := 0#32
  let c0_444 : Index := 0#32
  let c0_445 : Index := 0#32
  let v730 : BitVec 32 := Scalar.subi v5 v2
  let c0_i32_362 : BitVec 32 := 0#32
  let v732 : BitVec 1 := Scalar.cmpi .sgt v730 c0_i32_362
  let v733 : BitVec 32 := Scalar.extui v732
  let c0_i32_363 : BitVec 32 := 0#32
  let v734 : BitVec 1 := Scalar.cmpi .slt v730 c0_i32_363
  let v735 : BitVec 32 := Scalar.extui v734
  let v736 : BitVec 32 := Scalar.subi v733 v735
  let c4_i32_361 : BitVec 32 := 4#32
  let c0_i32_364 : BitVec 32 := 0#32
  let v737 : BitVec 1 := Scalar.cmpi .sgt c4_i32_361 c0_i32_364
  let v738 : BitVec 32 := Scalar.extui v737
  let c0_i32_365 : BitVec 32 := 0#32
  let v739 : BitVec 1 := Scalar.cmpi .slt c4_i32_361 c0_i32_365
  let v740 : BitVec 32 := Scalar.extui v739
  let v741 : BitVec 32 := Scalar.subi v738 v740
  let v742 : BitVec 1 := Scalar.cmpi .ne v736 v741
  let v743 : BitVec 32 := Scalar.remsi v730 c4_i32_361
  let c0_i32_366 : BitVec 32 := 0#32
  let v744 : BitVec 1 := Scalar.cmpi .ne v743 c0_i32_366
  let v745 : BitVec 1 := Scalar.andi v742 v744
  let v731 : BitVec 32 := Scalar.divsi v730 c4_i32_361
  let c1_i32_367 : BitVec 32 := 1#32
  let v746 : BitVec 32 := Scalar.subi v731 c1_i32_367
  let v747 : BitVec 32 := Scalar.select v745 v746 v731
  let c4_i32_372 : BitVec 32 := 4#32
  let v755 : BitVec 32 := Scalar.muli v747 c4_i32_372
  let v756 : BitVec 32 := Scalar.addi v2 v755
  let v757 : BitVec 32 := Scalar.subi v5 v756
  let c1_i32_373 : BitVec 32 := 1#32
  let v759 : BitVec 32 := Scalar.divsi v757 c1_i32_373
  let v760 : BitVec 32 := Scalar.muli v759 c1_i32_373
  let v761 : BitVec 32 := Scalar.addi v756 v760
  let c1_i32_375 : BitVec 32 := 1#32
  let arg14 : BitVec 32 := Scf.iv v761 c1_i32_375 k0_t84
  let c256_i32 : BitVec 32 := 256#32
  let v889 : BitVec 32 := Scalar.muli arg14 c256_i32
  let v890 : BitVec 32 := v889
  let v906 : Index := Scalar.indexCast v890
  ![0, 0, 0, v906.toNat]
@[reducible] def k0_t85_loop (v2 : BitVec 32) (v8 : BitVec 32) : Scf.Loop 32 :=
  let v787 : BitVec 32 := Scalar.subi v8 v2
  let c1_i32_391 : BitVec 32 := 1#32
  let v789 : BitVec 32 := Scalar.divsi v787 c1_i32_391
  let v790 : BitVec 32 := Scalar.muli v789 c1_i32_391
  let v791 : BitVec 32 := Scalar.addi v2 v790
  let c1_i32_392 : BitVec 32 := 1#32
  ⟨v2, v791, c1_i32_392⟩
def k0_mult85 (v2 : BitVec 32) (v8 : BitVec 32) (k0_t85 : Fin (k0_t85_loop v2 v8).trips) : BitVec 32 :=
  let c1_i32_392 : BitVec 32 := 1#32
  let arg14 : BitVec 32 := Scf.iv v2 c1_i32_392 k0_t85
  let c256_i32 : BitVec 32 := 256#32
  let v889 : BitVec 32 := Scalar.muli arg14 c256_i32
  v889
def k0_off173 (v2 : BitVec 32) (v8 : BitVec 32) (k0_t85 : Fin (k0_t85_loop v2 v8).trips) : Fin 4 → Nat :=
  let c0_439 : Index := 0#32
  let c0_440 : Index := 0#32
  let c1_i32_392 : BitVec 32 := 1#32
  let arg14 : BitVec 32 := Scf.iv v2 c1_i32_392 k0_t85
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off174 (v2 : BitVec 32) (v8 : BitVec 32) (k0_t85 : Fin (k0_t85_loop v2 v8).trips) : Fin 2 → Nat :=
  let c1_i32_392 : BitVec 32 := 1#32
  let arg14 : BitVec 32 := Scf.iv v2 c1_i32_392 k0_t85
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t86_loop (v2 : BitVec 32) (v8 : BitVec 32) : Scf.Loop 32 :=
  let v787 : BitVec 32 := Scalar.subi v8 v2
  let c1_i32_391 : BitVec 32 := 1#32
  let v789 : BitVec 32 := Scalar.divsi v787 c1_i32_391
  let v790 : BitVec 32 := Scalar.muli v789 c1_i32_391
  let v791 : BitVec 32 := Scalar.addi v2 v790
  let v788 : BitVec 32 := Scalar.addi v2 v787
  let c1_i32_393 : BitVec 32 := 1#32
  ⟨v791, v788, c1_i32_393⟩
def k0_mult86 (v2 : BitVec 32) (v8 : BitVec 32) (k0_t86 : Fin (k0_t86_loop v2 v8).trips) : BitVec 32 :=
  let v787 : BitVec 32 := Scalar.subi v8 v2
  let c1_i32_391 : BitVec 32 := 1#32
  let v789 : BitVec 32 := Scalar.divsi v787 c1_i32_391
  let v790 : BitVec 32 := Scalar.muli v789 c1_i32_391
  let v791 : BitVec 32 := Scalar.addi v2 v790
  let c1_i32_393 : BitVec 32 := 1#32
  let arg14 : BitVec 32 := Scf.iv v791 c1_i32_393 k0_t86
  let c256_i32 : BitVec 32 := 256#32
  let v889 : BitVec 32 := Scalar.muli arg14 c256_i32
  v889
def k0_off175 (v2 : BitVec 32) (v8 : BitVec 32) (k0_t86 : Fin (k0_t86_loop v2 v8).trips) : Fin 4 → Nat :=
  let c0_439 : Index := 0#32
  let c0_440 : Index := 0#32
  let v787 : BitVec 32 := Scalar.subi v8 v2
  let c1_i32_391 : BitVec 32 := 1#32
  let v789 : BitVec 32 := Scalar.divsi v787 c1_i32_391
  let v790 : BitVec 32 := Scalar.muli v789 c1_i32_391
  let v791 : BitVec 32 := Scalar.addi v2 v790
  let c1_i32_393 : BitVec 32 := 1#32
  let arg14 : BitVec 32 := Scf.iv v791 c1_i32_393 k0_t86
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off176 (v2 : BitVec 32) (v8 : BitVec 32) (k0_t86 : Fin (k0_t86_loop v2 v8).trips) : Fin 2 → Nat :=
  let v787 : BitVec 32 := Scalar.subi v8 v2
  let c1_i32_391 : BitVec 32 := 1#32
  let v789 : BitVec 32 := Scalar.divsi v787 c1_i32_391
  let v790 : BitVec 32 := Scalar.muli v789 c1_i32_391
  let v791 : BitVec 32 := Scalar.addi v2 v790
  let c1_i32_393 : BitVec 32 := 1#32
  let arg14 : BitVec 32 := Scf.iv v791 c1_i32_393 k0_t86
  let c256_i32 : BitVec 32 := 256#32
  let v889 : BitVec 32 := Scalar.muli arg14 c256_i32
  let v890 : BitVec 32 := v889
  let v910 : Index := Scalar.indexCast v890
  let c0_448 : Index := 0#32
  ![v910.toNat, 0]

def k0_chk1_0 (v2 : BitVec 32) (v8 : BitVec 32) : Prop :=
  ((k0_t1_loop v2 v8).OK) ∧
  (∀ k0_t1 : Fin (k0_t1_loop v2 v8).trips, 256 ∣ (k0_mult1 v2 v8 k0_t1).toNat) ∧
  (∀ k0_t1 : Fin (k0_t1_loop v2 v8).trips, ∀ a, (k0_off5 v2 v8 k0_t1) a + S1x1x256x128.size a ≤ S1x1x32768x128.size a) ∧
  (∀ k0_t1 : Fin (k0_t1_loop v2 v8).trips, ∀ a, (k0_off6 v2 v8 k0_t1) a + S256x256.size a ≤ S32768x256.size a) ∧
  ((k0_t2_loop v2 v8).OK) ∧
  (∀ k0_t2 : Fin (k0_t2_loop v2 v8).trips, 256 ∣ (k0_mult2 v2 v8 k0_t2).toNat) ∧
  (∀ k0_t2 : Fin (k0_t2_loop v2 v8).trips, ∀ a, (k0_off7 v2 v8 k0_t2) a + S1x1x256x128.size a ≤ S1x1x32768x128.size a) ∧
  (∀ k0_t2 : Fin (k0_t2_loop v2 v8).trips, ∀ a, (k0_off8 v2 v8 k0_t2) a + S256x256.size a ≤ S32768x256.size a) ∧
  ((k0_t13_loop v2 v8).OK) ∧
  (∀ k0_t13 : Fin (k0_t13_loop v2 v8).trips, 256 ∣ (k0_mult13 v2 v8 k0_t13).toNat) ∧
  (∀ k0_t13 : Fin (k0_t13_loop v2 v8).trips, ∀ a, (k0_off29 v2 v8 k0_t13) a + S1x1x256x128.size a ≤ S1x1x32768x128.size a) ∧
  (∀ k0_t13 : Fin (k0_t13_loop v2 v8).trips, ∀ a, (k0_off30 v2 v8 k0_t13) a + S256x256.size a ≤ S32768x256.size a) ∧
  ((k0_t14_loop v2 v8).OK) ∧
  (∀ k0_t14 : Fin (k0_t14_loop v2 v8).trips, 256 ∣ (k0_mult14 v2 v8 k0_t14).toNat) ∧
  (∀ k0_t14 : Fin (k0_t14_loop v2 v8).trips, ∀ a, (k0_off31 v2 v8 k0_t14) a + S1x1x256x128.size a ≤ S1x1x32768x128.size a) ∧
  (∀ k0_t14 : Fin (k0_t14_loop v2 v8).trips, ∀ a, (k0_off32 v2 v8 k0_t14) a + S256x256.size a ≤ S32768x256.size a) ∧
  ((k0_t25_loop v2 v8).OK) ∧
  (∀ k0_t25 : Fin (k0_t25_loop v2 v8).trips, 256 ∣ (k0_mult25 v2 v8 k0_t25).toNat) ∧
  (∀ k0_t25 : Fin (k0_t25_loop v2 v8).trips, ∀ a, (k0_off53 v2 v8 k0_t25) a + S1x1x256x128.size a ≤ S1x1x32768x128.size a) ∧
  (∀ k0_t25 : Fin (k0_t25_loop v2 v8).trips, ∀ a, (k0_off54 v2 v8 k0_t25) a + S256x256.size a ≤ S32768x256.size a) ∧
  ((k0_t26_loop v2 v8).OK) ∧
  (∀ k0_t26 : Fin (k0_t26_loop v2 v8).trips, 256 ∣ (k0_mult26 v2 v8 k0_t26).toNat) ∧
  (∀ k0_t26 : Fin (k0_t26_loop v2 v8).trips, ∀ a, (k0_off55 v2 v8 k0_t26) a + S1x1x256x128.size a ≤ S1x1x32768x128.size a) ∧
  (∀ k0_t26 : Fin (k0_t26_loop v2 v8).trips, ∀ a, (k0_off56 v2 v8 k0_t26) a + S256x256.size a ≤ S32768x256.size a) ∧
  ((k0_t37_loop v2 v8).OK) ∧
  (∀ k0_t37 : Fin (k0_t37_loop v2 v8).trips, 256 ∣ (k0_mult37 v2 v8 k0_t37).toNat) ∧
  (∀ k0_t37 : Fin (k0_t37_loop v2 v8).trips, ∀ a, (k0_off77 v2 v8 k0_t37) a + S1x1x256x128.size a ≤ S1x1x32768x128.size a) ∧
  (∀ k0_t37 : Fin (k0_t37_loop v2 v8).trips, ∀ a, (k0_off78 v2 v8 k0_t37) a + S256x256.size a ≤ S32768x256.size a) ∧
  ((k0_t38_loop v2 v8).OK) ∧
  (∀ k0_t38 : Fin (k0_t38_loop v2 v8).trips, 256 ∣ (k0_mult38 v2 v8 k0_t38).toNat) ∧
  (∀ k0_t38 : Fin (k0_t38_loop v2 v8).trips, ∀ a, (k0_off79 v2 v8 k0_t38) a + S1x1x256x128.size a ≤ S1x1x32768x128.size a) ∧
  (∀ k0_t38 : Fin (k0_t38_loop v2 v8).trips, ∀ a, (k0_off80 v2 v8 k0_t38) a + S256x256.size a ≤ S32768x256.size a)
def k0_chk1_1 (v2 : BitVec 32) (v8 : BitVec 32) : Prop :=
  ((k0_t49_loop v2 v8).OK) ∧
  (∀ k0_t49 : Fin (k0_t49_loop v2 v8).trips, 256 ∣ (k0_mult49 v2 v8 k0_t49).toNat) ∧
  (∀ k0_t49 : Fin (k0_t49_loop v2 v8).trips, ∀ a, (k0_off101 v2 v8 k0_t49) a + S1x1x256x128.size a ≤ S1x1x32768x128.size a) ∧
  (∀ k0_t49 : Fin (k0_t49_loop v2 v8).trips, ∀ a, (k0_off102 v2 v8 k0_t49) a + S256x256.size a ≤ S32768x256.size a) ∧
  ((k0_t50_loop v2 v8).OK) ∧
  (∀ k0_t50 : Fin (k0_t50_loop v2 v8).trips, 256 ∣ (k0_mult50 v2 v8 k0_t50).toNat) ∧
  (∀ k0_t50 : Fin (k0_t50_loop v2 v8).trips, ∀ a, (k0_off103 v2 v8 k0_t50) a + S1x1x256x128.size a ≤ S1x1x32768x128.size a) ∧
  (∀ k0_t50 : Fin (k0_t50_loop v2 v8).trips, ∀ a, (k0_off104 v2 v8 k0_t50) a + S256x256.size a ≤ S32768x256.size a) ∧
  ((k0_t61_loop v2 v8).OK) ∧
  (∀ k0_t61 : Fin (k0_t61_loop v2 v8).trips, 256 ∣ (k0_mult61 v2 v8 k0_t61).toNat) ∧
  (∀ k0_t61 : Fin (k0_t61_loop v2 v8).trips, ∀ a, (k0_off125 v2 v8 k0_t61) a + S1x1x256x128.size a ≤ S1x1x32768x128.size a) ∧
  (∀ k0_t61 : Fin (k0_t61_loop v2 v8).trips, ∀ a, (k0_off126 v2 v8 k0_t61) a + S256x256.size a ≤ S32768x256.size a) ∧
  ((k0_t62_loop v2 v8).OK) ∧
  (∀ k0_t62 : Fin (k0_t62_loop v2 v8).trips, 256 ∣ (k0_mult62 v2 v8 k0_t62).toNat) ∧
  (∀ k0_t62 : Fin (k0_t62_loop v2 v8).trips, ∀ a, (k0_off127 v2 v8 k0_t62) a + S1x1x256x128.size a ≤ S1x1x32768x128.size a) ∧
  (∀ k0_t62 : Fin (k0_t62_loop v2 v8).trips, ∀ a, (k0_off128 v2 v8 k0_t62) a + S256x256.size a ≤ S32768x256.size a) ∧
  ((k0_t73_loop v2 v8).OK) ∧
  (∀ k0_t73 : Fin (k0_t73_loop v2 v8).trips, 256 ∣ (k0_mult73 v2 v8 k0_t73).toNat) ∧
  (∀ k0_t73 : Fin (k0_t73_loop v2 v8).trips, ∀ a, (k0_off149 v2 v8 k0_t73) a + S1x1x256x128.size a ≤ S1x1x32768x128.size a) ∧
  (∀ k0_t73 : Fin (k0_t73_loop v2 v8).trips, ∀ a, (k0_off150 v2 v8 k0_t73) a + S256x256.size a ≤ S32768x256.size a) ∧
  ((k0_t74_loop v2 v8).OK) ∧
  (∀ k0_t74 : Fin (k0_t74_loop v2 v8).trips, 256 ∣ (k0_mult74 v2 v8 k0_t74).toNat) ∧
  (∀ k0_t74 : Fin (k0_t74_loop v2 v8).trips, ∀ a, (k0_off151 v2 v8 k0_t74) a + S1x1x256x128.size a ≤ S1x1x32768x128.size a) ∧
  (∀ k0_t74 : Fin (k0_t74_loop v2 v8).trips, ∀ a, (k0_off152 v2 v8 k0_t74) a + S256x256.size a ≤ S32768x256.size a) ∧
  ((k0_t85_loop v2 v8).OK) ∧
  (∀ k0_t85 : Fin (k0_t85_loop v2 v8).trips, 256 ∣ (k0_mult85 v2 v8 k0_t85).toNat) ∧
  (∀ k0_t85 : Fin (k0_t85_loop v2 v8).trips, ∀ a, (k0_off173 v2 v8 k0_t85) a + S1x1x256x128.size a ≤ S1x1x32768x128.size a) ∧
  (∀ k0_t85 : Fin (k0_t85_loop v2 v8).trips, ∀ a, (k0_off174 v2 v8 k0_t85) a + S256x256.size a ≤ S32768x256.size a) ∧
  ((k0_t86_loop v2 v8).OK) ∧
  (∀ k0_t86 : Fin (k0_t86_loop v2 v8).trips, 256 ∣ (k0_mult86 v2 v8 k0_t86).toNat) ∧
  (∀ k0_t86 : Fin (k0_t86_loop v2 v8).trips, ∀ a, (k0_off175 v2 v8 k0_t86) a + S1x1x256x128.size a ≤ S1x1x32768x128.size a) ∧
  (∀ k0_t86 : Fin (k0_t86_loop v2 v8).trips, ∀ a, (k0_off176 v2 v8 k0_t86) a + S256x256.size a ≤ S32768x256.size a)
def k0_chk1 (v2 : BitVec 32) (v8 : BitVec 32) : Prop :=
  k0_chk1_0 v2 v8 ∧
  k0_chk1_1 v2 v8
theorem k0_t1_ok : ∀ (v2 : BitVec 32) (v8 : BitVec 32) (k0_hw1 : k0_chk1 v2 v8), (k0_t1_loop v2 v8).OK := fun v2 v8 k0_hw1 => k0_hw1.1.1
theorem k0_mult1_dvd : ∀ (v2 : BitVec 32) (v8 : BitVec 32) (k0_hw1 : k0_chk1 v2 v8) (k0_t1 : Fin (k0_t1_loop v2 v8).trips), 256 ∣ (k0_mult1 v2 v8 k0_t1).toNat := fun v2 v8 k0_hw1 k0_t1 => k0_hw1.1.2.1 k0_t1
theorem k0_off5_inb : ∀ (v2 : BitVec 32) (v8 : BitVec 32) (k0_hw1 : k0_chk1 v2 v8) (k0_t1 : Fin (k0_t1_loop v2 v8).trips), ∀ a, (k0_off5 v2 v8 k0_t1) a + S1x1x256x128.size a ≤ S1x1x32768x128.size a := fun v2 v8 k0_hw1 k0_t1 => k0_hw1.1.2.2.1 k0_t1
theorem k0_off6_inb : ∀ (v2 : BitVec 32) (v8 : BitVec 32) (k0_hw1 : k0_chk1 v2 v8) (k0_t1 : Fin (k0_t1_loop v2 v8).trips), ∀ a, (k0_off6 v2 v8 k0_t1) a + S256x256.size a ≤ S32768x256.size a := fun v2 v8 k0_hw1 k0_t1 => k0_hw1.1.2.2.2.1 k0_t1
theorem k0_t2_ok : ∀ (v2 : BitVec 32) (v8 : BitVec 32) (k0_hw1 : k0_chk1 v2 v8), (k0_t2_loop v2 v8).OK := fun v2 v8 k0_hw1 => k0_hw1.1.2.2.2.2.1
theorem k0_mult2_dvd : ∀ (v2 : BitVec 32) (v8 : BitVec 32) (k0_hw1 : k0_chk1 v2 v8) (k0_t2 : Fin (k0_t2_loop v2 v8).trips), 256 ∣ (k0_mult2 v2 v8 k0_t2).toNat := fun v2 v8 k0_hw1 k0_t2 => k0_hw1.1.2.2.2.2.2.1 k0_t2
theorem k0_off7_inb : ∀ (v2 : BitVec 32) (v8 : BitVec 32) (k0_hw1 : k0_chk1 v2 v8) (k0_t2 : Fin (k0_t2_loop v2 v8).trips), ∀ a, (k0_off7 v2 v8 k0_t2) a + S1x1x256x128.size a ≤ S1x1x32768x128.size a := fun v2 v8 k0_hw1 k0_t2 => k0_hw1.1.2.2.2.2.2.2.1 k0_t2
theorem k0_off8_inb : ∀ (v2 : BitVec 32) (v8 : BitVec 32) (k0_hw1 : k0_chk1 v2 v8) (k0_t2 : Fin (k0_t2_loop v2 v8).trips), ∀ a, (k0_off8 v2 v8 k0_t2) a + S256x256.size a ≤ S32768x256.size a := fun v2 v8 k0_hw1 k0_t2 => k0_hw1.1.2.2.2.2.2.2.2.1 k0_t2
theorem k0_t13_ok : ∀ (v2 : BitVec 32) (v8 : BitVec 32) (k0_hw1 : k0_chk1 v2 v8), (k0_t13_loop v2 v8).OK := fun v2 v8 k0_hw1 => k0_hw1.1.2.2.2.2.2.2.2.2.1
theorem k0_mult13_dvd : ∀ (v2 : BitVec 32) (v8 : BitVec 32) (k0_hw1 : k0_chk1 v2 v8) (k0_t13 : Fin (k0_t13_loop v2 v8).trips), 256 ∣ (k0_mult13 v2 v8 k0_t13).toNat := fun v2 v8 k0_hw1 k0_t13 => k0_hw1.1.2.2.2.2.2.2.2.2.2.1 k0_t13
theorem k0_off29_inb : ∀ (v2 : BitVec 32) (v8 : BitVec 32) (k0_hw1 : k0_chk1 v2 v8) (k0_t13 : Fin (k0_t13_loop v2 v8).trips), ∀ a, (k0_off29 v2 v8 k0_t13) a + S1x1x256x128.size a ≤ S1x1x32768x128.size a := fun v2 v8 k0_hw1 k0_t13 => k0_hw1.1.2.2.2.2.2.2.2.2.2.2.1 k0_t13
theorem k0_off30_inb : ∀ (v2 : BitVec 32) (v8 : BitVec 32) (k0_hw1 : k0_chk1 v2 v8) (k0_t13 : Fin (k0_t13_loop v2 v8).trips), ∀ a, (k0_off30 v2 v8 k0_t13) a + S256x256.size a ≤ S32768x256.size a := fun v2 v8 k0_hw1 k0_t13 => k0_hw1.1.2.2.2.2.2.2.2.2.2.2.2.1 k0_t13
theorem k0_t14_ok : ∀ (v2 : BitVec 32) (v8 : BitVec 32) (k0_hw1 : k0_chk1 v2 v8), (k0_t14_loop v2 v8).OK := fun v2 v8 k0_hw1 => k0_hw1.1.2.2.2.2.2.2.2.2.2.2.2.2.1
theorem k0_mult14_dvd : ∀ (v2 : BitVec 32) (v8 : BitVec 32) (k0_hw1 : k0_chk1 v2 v8) (k0_t14 : Fin (k0_t14_loop v2 v8).trips), 256 ∣ (k0_mult14 v2 v8 k0_t14).toNat := fun v2 v8 k0_hw1 k0_t14 => k0_hw1.1.2.2.2.2.2.2.2.2.2.2.2.2.2.1 k0_t14
theorem k0_off31_inb : ∀ (v2 : BitVec 32) (v8 : BitVec 32) (k0_hw1 : k0_chk1 v2 v8) (k0_t14 : Fin (k0_t14_loop v2 v8).trips), ∀ a, (k0_off31 v2 v8 k0_t14) a + S1x1x256x128.size a ≤ S1x1x32768x128.size a := fun v2 v8 k0_hw1 k0_t14 => k0_hw1.1.2.2.2.2.2.2.2.2.2.2.2.2.2.2.1 k0_t14
theorem k0_off32_inb : ∀ (v2 : BitVec 32) (v8 : BitVec 32) (k0_hw1 : k0_chk1 v2 v8) (k0_t14 : Fin (k0_t14_loop v2 v8).trips), ∀ a, (k0_off32 v2 v8 k0_t14) a + S256x256.size a ≤ S32768x256.size a := fun v2 v8 k0_hw1 k0_t14 => k0_hw1.1.2.2.2.2.2.2.2.2.2.2.2.2.2.2.2.1 k0_t14
theorem k0_t25_ok : ∀ (v2 : BitVec 32) (v8 : BitVec 32) (k0_hw1 : k0_chk1 v2 v8), (k0_t25_loop v2 v8).OK := fun v2 v8 k0_hw1 => k0_hw1.1.2.2.2.2.2.2.2.2.2.2.2.2.2.2.2.2.1
theorem k0_mult25_dvd : ∀ (v2 : BitVec 32) (v8 : BitVec 32) (k0_hw1 : k0_chk1 v2 v8) (k0_t25 : Fin (k0_t25_loop v2 v8).trips), 256 ∣ (k0_mult25 v2 v8 k0_t25).toNat := fun v2 v8 k0_hw1 k0_t25 => k0_hw1.1.2.2.2.2.2.2.2.2.2.2.2.2.2.2.2.2.2.1 k0_t25
theorem k0_off53_inb : ∀ (v2 : BitVec 32) (v8 : BitVec 32) (k0_hw1 : k0_chk1 v2 v8) (k0_t25 : Fin (k0_t25_loop v2 v8).trips), ∀ a, (k0_off53 v2 v8 k0_t25) a + S1x1x256x128.size a ≤ S1x1x32768x128.size a := fun v2 v8 k0_hw1 k0_t25 => k0_hw1.1.2.2.2.2.2.2.2.2.2.2.2.2.2.2.2.2.2.2.1 k0_t25
theorem k0_off54_inb : ∀ (v2 : BitVec 32) (v8 : BitVec 32) (k0_hw1 : k0_chk1 v2 v8) (k0_t25 : Fin (k0_t25_loop v2 v8).trips), ∀ a, (k0_off54 v2 v8 k0_t25) a + S256x256.size a ≤ S32768x256.size a := fun v2 v8 k0_hw1 k0_t25 => k0_hw1.1.2.2.2.2.2.2.2.2.2.2.2.2.2.2.2.2.2.2.2.1 k0_t25
theorem k0_t26_ok : ∀ (v2 : BitVec 32) (v8 : BitVec 32) (k0_hw1 : k0_chk1 v2 v8), (k0_t26_loop v2 v8).OK := fun v2 v8 k0_hw1 => k0_hw1.1.2.2.2.2.2.2.2.2.2.2.2.2.2.2.2.2.2.2.2.2.1
theorem k0_mult26_dvd : ∀ (v2 : BitVec 32) (v8 : BitVec 32) (k0_hw1 : k0_chk1 v2 v8) (k0_t26 : Fin (k0_t26_loop v2 v8).trips), 256 ∣ (k0_mult26 v2 v8 k0_t26).toNat := fun v2 v8 k0_hw1 k0_t26 => k0_hw1.1.2.2.2.2.2.2.2.2.2.2.2.2.2.2.2.2.2.2.2.2.2.1 k0_t26
theorem k0_off55_inb : ∀ (v2 : BitVec 32) (v8 : BitVec 32) (k0_hw1 : k0_chk1 v2 v8) (k0_t26 : Fin (k0_t26_loop v2 v8).trips), ∀ a, (k0_off55 v2 v8 k0_t26) a + S1x1x256x128.size a ≤ S1x1x32768x128.size a := fun v2 v8 k0_hw1 k0_t26 => k0_hw1.1.2.2.2.2.2.2.2.2.2.2.2.2.2.2.2.2.2.2.2.2.2.2.1 k0_t26
theorem k0_off56_inb : ∀ (v2 : BitVec 32) (v8 : BitVec 32) (k0_hw1 : k0_chk1 v2 v8) (k0_t26 : Fin (k0_t26_loop v2 v8).trips), ∀ a, (k0_off56 v2 v8 k0_t26) a + S256x256.size a ≤ S32768x256.size a := fun v2 v8 k0_hw1 k0_t26 => k0_hw1.1.2.2.2.2.2.2.2.2.2.2.2.2.2.2.2.2.2.2.2.2.2.2.2.1 k0_t26
theorem k0_t37_ok : ∀ (v2 : BitVec 32) (v8 : BitVec 32) (k0_hw1 : k0_chk1 v2 v8), (k0_t37_loop v2 v8).OK := fun v2 v8 k0_hw1 => k0_hw1.1.2.2.2.2.2.2.2.2.2.2.2.2.2.2.2.2.2.2.2.2.2.2.2.2.1
theorem k0_mult37_dvd : ∀ (v2 : BitVec 32) (v8 : BitVec 32) (k0_hw1 : k0_chk1 v2 v8) (k0_t37 : Fin (k0_t37_loop v2 v8).trips), 256 ∣ (k0_mult37 v2 v8 k0_t37).toNat := fun v2 v8 k0_hw1 k0_t37 => k0_hw1.1.2.2.2.2.2.2.2.2.2.2.2.2.2.2.2.2.2.2.2.2.2.2.2.2.2.1 k0_t37
theorem k0_off77_inb : ∀ (v2 : BitVec 32) (v8 : BitVec 32) (k0_hw1 : k0_chk1 v2 v8) (k0_t37 : Fin (k0_t37_loop v2 v8).trips), ∀ a, (k0_off77 v2 v8 k0_t37) a + S1x1x256x128.size a ≤ S1x1x32768x128.size a := fun v2 v8 k0_hw1 k0_t37 => k0_hw1.1.2.2.2.2.2.2.2.2.2.2.2.2.2.2.2.2.2.2.2.2.2.2.2.2.2.2.1 k0_t37
theorem k0_off78_inb : ∀ (v2 : BitVec 32) (v8 : BitVec 32) (k0_hw1 : k0_chk1 v2 v8) (k0_t37 : Fin (k0_t37_loop v2 v8).trips), ∀ a, (k0_off78 v2 v8 k0_t37) a + S256x256.size a ≤ S32768x256.size a := fun v2 v8 k0_hw1 k0_t37 => k0_hw1.1.2.2.2.2.2.2.2.2.2.2.2.2.2.2.2.2.2.2.2.2.2.2.2.2.2.2.2.1 k0_t37
theorem k0_t38_ok : ∀ (v2 : BitVec 32) (v8 : BitVec 32) (k0_hw1 : k0_chk1 v2 v8), (k0_t38_loop v2 v8).OK := fun v2 v8 k0_hw1 => k0_hw1.1.2.2.2.2.2.2.2.2.2.2.2.2.2.2.2.2.2.2.2.2.2.2.2.2.2.2.2.2.1
theorem k0_mult38_dvd : ∀ (v2 : BitVec 32) (v8 : BitVec 32) (k0_hw1 : k0_chk1 v2 v8) (k0_t38 : Fin (k0_t38_loop v2 v8).trips), 256 ∣ (k0_mult38 v2 v8 k0_t38).toNat := fun v2 v8 k0_hw1 k0_t38 => k0_hw1.1.2.2.2.2.2.2.2.2.2.2.2.2.2.2.2.2.2.2.2.2.2.2.2.2.2.2.2.2.2.1 k0_t38
theorem k0_off79_inb : ∀ (v2 : BitVec 32) (v8 : BitVec 32) (k0_hw1 : k0_chk1 v2 v8) (k0_t38 : Fin (k0_t38_loop v2 v8).trips), ∀ a, (k0_off79 v2 v8 k0_t38) a + S1x1x256x128.size a ≤ S1x1x32768x128.size a := fun v2 v8 k0_hw1 k0_t38 => k0_hw1.1.2.2.2.2.2.2.2.2.2.2.2.2.2.2.2.2.2.2.2.2.2.2.2.2.2.2.2.2.2.2.1 k0_t38
theorem k0_off80_inb : ∀ (v2 : BitVec 32) (v8 : BitVec 32) (k0_hw1 : k0_chk1 v2 v8) (k0_t38 : Fin (k0_t38_loop v2 v8).trips), ∀ a, (k0_off80 v2 v8 k0_t38) a + S256x256.size a ≤ S32768x256.size a := fun v2 v8 k0_hw1 k0_t38 => k0_hw1.1.2.2.2.2.2.2.2.2.2.2.2.2.2.2.2.2.2.2.2.2.2.2.2.2.2.2.2.2.2.2.2 k0_t38
theorem k0_t49_ok : ∀ (v2 : BitVec 32) (v8 : BitVec 32) (k0_hw1 : k0_chk1 v2 v8), (k0_t49_loop v2 v8).OK := fun v2 v8 k0_hw1 => k0_hw1.2.1
theorem k0_mult49_dvd : ∀ (v2 : BitVec 32) (v8 : BitVec 32) (k0_hw1 : k0_chk1 v2 v8) (k0_t49 : Fin (k0_t49_loop v2 v8).trips), 256 ∣ (k0_mult49 v2 v8 k0_t49).toNat := fun v2 v8 k0_hw1 k0_t49 => k0_hw1.2.2.1 k0_t49
theorem k0_off101_inb : ∀ (v2 : BitVec 32) (v8 : BitVec 32) (k0_hw1 : k0_chk1 v2 v8) (k0_t49 : Fin (k0_t49_loop v2 v8).trips), ∀ a, (k0_off101 v2 v8 k0_t49) a + S1x1x256x128.size a ≤ S1x1x32768x128.size a := fun v2 v8 k0_hw1 k0_t49 => k0_hw1.2.2.2.1 k0_t49
theorem k0_off102_inb : ∀ (v2 : BitVec 32) (v8 : BitVec 32) (k0_hw1 : k0_chk1 v2 v8) (k0_t49 : Fin (k0_t49_loop v2 v8).trips), ∀ a, (k0_off102 v2 v8 k0_t49) a + S256x256.size a ≤ S32768x256.size a := fun v2 v8 k0_hw1 k0_t49 => k0_hw1.2.2.2.2.1 k0_t49
theorem k0_t50_ok : ∀ (v2 : BitVec 32) (v8 : BitVec 32) (k0_hw1 : k0_chk1 v2 v8), (k0_t50_loop v2 v8).OK := fun v2 v8 k0_hw1 => k0_hw1.2.2.2.2.2.1
theorem k0_mult50_dvd : ∀ (v2 : BitVec 32) (v8 : BitVec 32) (k0_hw1 : k0_chk1 v2 v8) (k0_t50 : Fin (k0_t50_loop v2 v8).trips), 256 ∣ (k0_mult50 v2 v8 k0_t50).toNat := fun v2 v8 k0_hw1 k0_t50 => k0_hw1.2.2.2.2.2.2.1 k0_t50
theorem k0_off103_inb : ∀ (v2 : BitVec 32) (v8 : BitVec 32) (k0_hw1 : k0_chk1 v2 v8) (k0_t50 : Fin (k0_t50_loop v2 v8).trips), ∀ a, (k0_off103 v2 v8 k0_t50) a + S1x1x256x128.size a ≤ S1x1x32768x128.size a := fun v2 v8 k0_hw1 k0_t50 => k0_hw1.2.2.2.2.2.2.2.1 k0_t50
theorem k0_off104_inb : ∀ (v2 : BitVec 32) (v8 : BitVec 32) (k0_hw1 : k0_chk1 v2 v8) (k0_t50 : Fin (k0_t50_loop v2 v8).trips), ∀ a, (k0_off104 v2 v8 k0_t50) a + S256x256.size a ≤ S32768x256.size a := fun v2 v8 k0_hw1 k0_t50 => k0_hw1.2.2.2.2.2.2.2.2.1 k0_t50
theorem k0_t61_ok : ∀ (v2 : BitVec 32) (v8 : BitVec 32) (k0_hw1 : k0_chk1 v2 v8), (k0_t61_loop v2 v8).OK := fun v2 v8 k0_hw1 => k0_hw1.2.2.2.2.2.2.2.2.2.1
theorem k0_mult61_dvd : ∀ (v2 : BitVec 32) (v8 : BitVec 32) (k0_hw1 : k0_chk1 v2 v8) (k0_t61 : Fin (k0_t61_loop v2 v8).trips), 256 ∣ (k0_mult61 v2 v8 k0_t61).toNat := fun v2 v8 k0_hw1 k0_t61 => k0_hw1.2.2.2.2.2.2.2.2.2.2.1 k0_t61
theorem k0_off125_inb : ∀ (v2 : BitVec 32) (v8 : BitVec 32) (k0_hw1 : k0_chk1 v2 v8) (k0_t61 : Fin (k0_t61_loop v2 v8).trips), ∀ a, (k0_off125 v2 v8 k0_t61) a + S1x1x256x128.size a ≤ S1x1x32768x128.size a := fun v2 v8 k0_hw1 k0_t61 => k0_hw1.2.2.2.2.2.2.2.2.2.2.2.1 k0_t61
theorem k0_off126_inb : ∀ (v2 : BitVec 32) (v8 : BitVec 32) (k0_hw1 : k0_chk1 v2 v8) (k0_t61 : Fin (k0_t61_loop v2 v8).trips), ∀ a, (k0_off126 v2 v8 k0_t61) a + S256x256.size a ≤ S32768x256.size a := fun v2 v8 k0_hw1 k0_t61 => k0_hw1.2.2.2.2.2.2.2.2.2.2.2.2.1 k0_t61
theorem k0_t62_ok : ∀ (v2 : BitVec 32) (v8 : BitVec 32) (k0_hw1 : k0_chk1 v2 v8), (k0_t62_loop v2 v8).OK := fun v2 v8 k0_hw1 => k0_hw1.2.2.2.2.2.2.2.2.2.2.2.2.2.1
theorem k0_mult62_dvd : ∀ (v2 : BitVec 32) (v8 : BitVec 32) (k0_hw1 : k0_chk1 v2 v8) (k0_t62 : Fin (k0_t62_loop v2 v8).trips), 256 ∣ (k0_mult62 v2 v8 k0_t62).toNat := fun v2 v8 k0_hw1 k0_t62 => k0_hw1.2.2.2.2.2.2.2.2.2.2.2.2.2.2.1 k0_t62
theorem k0_off127_inb : ∀ (v2 : BitVec 32) (v8 : BitVec 32) (k0_hw1 : k0_chk1 v2 v8) (k0_t62 : Fin (k0_t62_loop v2 v8).trips), ∀ a, (k0_off127 v2 v8 k0_t62) a + S1x1x256x128.size a ≤ S1x1x32768x128.size a := fun v2 v8 k0_hw1 k0_t62 => k0_hw1.2.2.2.2.2.2.2.2.2.2.2.2.2.2.2.1 k0_t62
theorem k0_off128_inb : ∀ (v2 : BitVec 32) (v8 : BitVec 32) (k0_hw1 : k0_chk1 v2 v8) (k0_t62 : Fin (k0_t62_loop v2 v8).trips), ∀ a, (k0_off128 v2 v8 k0_t62) a + S256x256.size a ≤ S32768x256.size a := fun v2 v8 k0_hw1 k0_t62 => k0_hw1.2.2.2.2.2.2.2.2.2.2.2.2.2.2.2.2.1 k0_t62
theorem k0_t73_ok : ∀ (v2 : BitVec 32) (v8 : BitVec 32) (k0_hw1 : k0_chk1 v2 v8), (k0_t73_loop v2 v8).OK := fun v2 v8 k0_hw1 => k0_hw1.2.2.2.2.2.2.2.2.2.2.2.2.2.2.2.2.2.1
theorem k0_mult73_dvd : ∀ (v2 : BitVec 32) (v8 : BitVec 32) (k0_hw1 : k0_chk1 v2 v8) (k0_t73 : Fin (k0_t73_loop v2 v8).trips), 256 ∣ (k0_mult73 v2 v8 k0_t73).toNat := fun v2 v8 k0_hw1 k0_t73 => k0_hw1.2.2.2.2.2.2.2.2.2.2.2.2.2.2.2.2.2.2.1 k0_t73
theorem k0_off149_inb : ∀ (v2 : BitVec 32) (v8 : BitVec 32) (k0_hw1 : k0_chk1 v2 v8) (k0_t73 : Fin (k0_t73_loop v2 v8).trips), ∀ a, (k0_off149 v2 v8 k0_t73) a + S1x1x256x128.size a ≤ S1x1x32768x128.size a := fun v2 v8 k0_hw1 k0_t73 => k0_hw1.2.2.2.2.2.2.2.2.2.2.2.2.2.2.2.2.2.2.2.1 k0_t73
theorem k0_off150_inb : ∀ (v2 : BitVec 32) (v8 : BitVec 32) (k0_hw1 : k0_chk1 v2 v8) (k0_t73 : Fin (k0_t73_loop v2 v8).trips), ∀ a, (k0_off150 v2 v8 k0_t73) a + S256x256.size a ≤ S32768x256.size a := fun v2 v8 k0_hw1 k0_t73 => k0_hw1.2.2.2.2.2.2.2.2.2.2.2.2.2.2.2.2.2.2.2.2.1 k0_t73
theorem k0_t74_ok : ∀ (v2 : BitVec 32) (v8 : BitVec 32) (k0_hw1 : k0_chk1 v2 v8), (k0_t74_loop v2 v8).OK := fun v2 v8 k0_hw1 => k0_hw1.2.2.2.2.2.2.2.2.2.2.2.2.2.2.2.2.2.2.2.2.2.1
theorem k0_mult74_dvd : ∀ (v2 : BitVec 32) (v8 : BitVec 32) (k0_hw1 : k0_chk1 v2 v8) (k0_t74 : Fin (k0_t74_loop v2 v8).trips), 256 ∣ (k0_mult74 v2 v8 k0_t74).toNat := fun v2 v8 k0_hw1 k0_t74 => k0_hw1.2.2.2.2.2.2.2.2.2.2.2.2.2.2.2.2.2.2.2.2.2.2.1 k0_t74
theorem k0_off151_inb : ∀ (v2 : BitVec 32) (v8 : BitVec 32) (k0_hw1 : k0_chk1 v2 v8) (k0_t74 : Fin (k0_t74_loop v2 v8).trips), ∀ a, (k0_off151 v2 v8 k0_t74) a + S1x1x256x128.size a ≤ S1x1x32768x128.size a := fun v2 v8 k0_hw1 k0_t74 => k0_hw1.2.2.2.2.2.2.2.2.2.2.2.2.2.2.2.2.2.2.2.2.2.2.2.1 k0_t74
theorem k0_off152_inb : ∀ (v2 : BitVec 32) (v8 : BitVec 32) (k0_hw1 : k0_chk1 v2 v8) (k0_t74 : Fin (k0_t74_loop v2 v8).trips), ∀ a, (k0_off152 v2 v8 k0_t74) a + S256x256.size a ≤ S32768x256.size a := fun v2 v8 k0_hw1 k0_t74 => k0_hw1.2.2.2.2.2.2.2.2.2.2.2.2.2.2.2.2.2.2.2.2.2.2.2.2.1 k0_t74
theorem k0_t85_ok : ∀ (v2 : BitVec 32) (v8 : BitVec 32) (k0_hw1 : k0_chk1 v2 v8), (k0_t85_loop v2 v8).OK := fun v2 v8 k0_hw1 => k0_hw1.2.2.2.2.2.2.2.2.2.2.2.2.2.2.2.2.2.2.2.2.2.2.2.2.2.1
theorem k0_mult85_dvd : ∀ (v2 : BitVec 32) (v8 : BitVec 32) (k0_hw1 : k0_chk1 v2 v8) (k0_t85 : Fin (k0_t85_loop v2 v8).trips), 256 ∣ (k0_mult85 v2 v8 k0_t85).toNat := fun v2 v8 k0_hw1 k0_t85 => k0_hw1.2.2.2.2.2.2.2.2.2.2.2.2.2.2.2.2.2.2.2.2.2.2.2.2.2.2.1 k0_t85
theorem k0_off173_inb : ∀ (v2 : BitVec 32) (v8 : BitVec 32) (k0_hw1 : k0_chk1 v2 v8) (k0_t85 : Fin (k0_t85_loop v2 v8).trips), ∀ a, (k0_off173 v2 v8 k0_t85) a + S1x1x256x128.size a ≤ S1x1x32768x128.size a := fun v2 v8 k0_hw1 k0_t85 => k0_hw1.2.2.2.2.2.2.2.2.2.2.2.2.2.2.2.2.2.2.2.2.2.2.2.2.2.2.2.1 k0_t85
theorem k0_off174_inb : ∀ (v2 : BitVec 32) (v8 : BitVec 32) (k0_hw1 : k0_chk1 v2 v8) (k0_t85 : Fin (k0_t85_loop v2 v8).trips), ∀ a, (k0_off174 v2 v8 k0_t85) a + S256x256.size a ≤ S32768x256.size a := fun v2 v8 k0_hw1 k0_t85 => k0_hw1.2.2.2.2.2.2.2.2.2.2.2.2.2.2.2.2.2.2.2.2.2.2.2.2.2.2.2.2.1 k0_t85
theorem k0_t86_ok : ∀ (v2 : BitVec 32) (v8 : BitVec 32) (k0_hw1 : k0_chk1 v2 v8), (k0_t86_loop v2 v8).OK := fun v2 v8 k0_hw1 => k0_hw1.2.2.2.2.2.2.2.2.2.2.2.2.2.2.2.2.2.2.2.2.2.2.2.2.2.2.2.2.2.1
theorem k0_mult86_dvd : ∀ (v2 : BitVec 32) (v8 : BitVec 32) (k0_hw1 : k0_chk1 v2 v8) (k0_t86 : Fin (k0_t86_loop v2 v8).trips), 256 ∣ (k0_mult86 v2 v8 k0_t86).toNat := fun v2 v8 k0_hw1 k0_t86 => k0_hw1.2.2.2.2.2.2.2.2.2.2.2.2.2.2.2.2.2.2.2.2.2.2.2.2.2.2.2.2.2.2.1 k0_t86
theorem k0_off175_inb : ∀ (v2 : BitVec 32) (v8 : BitVec 32) (k0_hw1 : k0_chk1 v2 v8) (k0_t86 : Fin (k0_t86_loop v2 v8).trips), ∀ a, (k0_off175 v2 v8 k0_t86) a + S1x1x256x128.size a ≤ S1x1x32768x128.size a := fun v2 v8 k0_hw1 k0_t86 => k0_hw1.2.2.2.2.2.2.2.2.2.2.2.2.2.2.2.2.2.2.2.2.2.2.2.2.2.2.2.2.2.2.2.1 k0_t86
theorem k0_off176_inb : ∀ (v2 : BitVec 32) (v8 : BitVec 32) (k0_hw1 : k0_chk1 v2 v8) (k0_t86 : Fin (k0_t86_loop v2 v8).trips), ∀ a, (k0_off176 v2 v8 k0_t86) a + S256x256.size a ≤ S32768x256.size a := fun v2 v8 k0_hw1 k0_t86 => k0_hw1.2.2.2.2.2.2.2.2.2.2.2.2.2.2.2.2.2.2.2.2.2.2.2.2.2.2.2.2.2.2.2.2 k0_t86

@[reducible] def k0_t87_loop (v8 : BitVec 32) (v11 : BitVec 32) : Scf.Loop 32 :=
  let c0_i32_401 : BitVec 32 := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let v812 : BitVec 32 := Scalar.subi v811 c0_i32_401
  let c1_i32_402 : BitVec 32 := 1#32
  let v814 : BitVec 32 := Scalar.divsi v812 c1_i32_402
  let v815 : BitVec 32 := Scalar.muli v814 c1_i32_402
  let v816 : BitVec 32 := Scalar.addi c0_i32_401 v815
  let c1_i32_403 : BitVec 32 := 1#32
  ⟨c0_i32_401, v816, c1_i32_403⟩
def k0_mult87 (v8 : BitVec 32) (v11 : BitVec 32) (k0_t87 : Fin (k0_t87_loop v8 v11).trips) : BitVec 32 :=
  let c0_i32_401 : BitVec 32 := 0#32
  let c1_i32_403 : BitVec 32 := 1#32
  let arg14 : BitVec 32 := Scf.iv c0_i32_401 c1_i32_403 k0_t87
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off177 (v8 : BitVec 32) (v11 : BitVec 32) (k0_t87 : Fin (k0_t87_loop v8 v11).trips) : Fin 4 → Nat :=
  let c0_440 : Index := 0#32
  let c0_441 : Index := 0#32
  let c0_i32_401 : BitVec 32 := 0#32
  let c1_i32_403 : BitVec 32 := 1#32
  let arg14 : BitVec 32 := Scf.iv c0_i32_401 c1_i32_403 k0_t87
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off178 (v8 : BitVec 32) (v11 : BitVec 32) (k0_t87 : Fin (k0_t87_loop v8 v11).trips) : Fin 2 → Nat :=
  let c0_i32_401 : BitVec 32 := 0#32
  let c1_i32_403 : BitVec 32 := 1#32
  let arg14 : BitVec 32 := Scf.iv c0_i32_401 c1_i32_403 k0_t87
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t88_loop (v8 : BitVec 32) (v11 : BitVec 32) : Scf.Loop 32 :=
  let c0_i32_401 : BitVec 32 := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let v812 : BitVec 32 := Scalar.subi v811 c0_i32_401
  let c1_i32_402 : BitVec 32 := 1#32
  let v814 : BitVec 32 := Scalar.divsi v812 c1_i32_402
  let v815 : BitVec 32 := Scalar.muli v814 c1_i32_402
  let v816 : BitVec 32 := Scalar.addi c0_i32_401 v815
  let v813 : BitVec 32 := Scalar.addi c0_i32_401 v812
  let c1_i32_404 : BitVec 32 := 1#32
  ⟨v816, v813, c1_i32_404⟩
def k0_mult88 (v8 : BitVec 32) (v11 : BitVec 32) (k0_t88 : Fin (k0_t88_loop v8 v11).trips) : BitVec 32 :=
  let c0_i32_401 : BitVec 32 := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let v812 : BitVec 32 := Scalar.subi v811 c0_i32_401
  let c1_i32_402 : BitVec 32 := 1#32
  let v814 : BitVec 32 := Scalar.divsi v812 c1_i32_402
  let v815 : BitVec 32 := Scalar.muli v814 c1_i32_402
  let v816 : BitVec 32 := Scalar.addi c0_i32_401 v815
  let c1_i32_404 : BitVec 32 := 1#32
  let arg14 : BitVec 32 := Scf.iv v816 c1_i32_404 k0_t88
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  v891
def k0_off179 (v8 : BitVec 32) (v11 : BitVec 32) (k0_t88 : Fin (k0_t88_loop v8 v11).trips) : Fin 4 → Nat :=
  let c0_440 : Index := 0#32
  let c0_441 : Index := 0#32
  let c0_i32_401 : BitVec 32 := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let v812 : BitVec 32 := Scalar.subi v811 c0_i32_401
  let c1_i32_402 : BitVec 32 := 1#32
  let v814 : BitVec 32 := Scalar.divsi v812 c1_i32_402
  let v815 : BitVec 32 := Scalar.muli v814 c1_i32_402
  let v816 : BitVec 32 := Scalar.addi c0_i32_401 v815
  let c1_i32_404 : BitVec 32 := 1#32
  let arg14 : BitVec 32 := Scf.iv v816 c1_i32_404 k0_t88
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v893 : Index := Scalar.indexCast v892
  let c0_442 : Index := 0#32
  ![0, 0, v893.toNat, 0]
def k0_off180 (v8 : BitVec 32) (v11 : BitVec 32) (k0_t88 : Fin (k0_t88_loop v8 v11).trips) : Fin 2 → Nat :=
  let c0_i32_401 : BitVec 32 := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let v812 : BitVec 32 := Scalar.subi v811 c0_i32_401
  let c1_i32_402 : BitVec 32 := 1#32
  let v814 : BitVec 32 := Scalar.divsi v812 c1_i32_402
  let v815 : BitVec 32 := Scalar.muli v814 c1_i32_402
  let v816 : BitVec 32 := Scalar.addi c0_i32_401 v815
  let c1_i32_404 : BitVec 32 := 1#32
  let arg14 : BitVec 32 := Scf.iv v816 c1_i32_404 k0_t88
  let c4_i32_439 : BitVec 32 := 4#32
  let v889 : BitVec 32 := Scalar.muli arg14 c4_i32_439
  let v890 : BitVec 32 := Scalar.addi v8 v889
  let c256_i32 : BitVec 32 := 256#32
  let v891 : BitVec 32 := Scalar.muli v890 c256_i32
  let v892 : BitVec 32 := v891
  let v902 : Index := Scalar.indexCast v892
  let c0_447 : Index := 0#32
  ![v902.toNat, 0]
@[reducible] def k0_t89_loop (v8 : BitVec 32) (v11 : BitVec 32) : Scf.Loop 32 :=
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let v821 : BitVec 32 := Scalar.subi v11 v820
  let c1_i32_406 : BitVec 32 := 1#32
  let v823 : BitVec 32 := Scalar.divsi v821 c1_i32_406
  let v824 : BitVec 32 := Scalar.muli v823 c1_i32_406
  let v825 : BitVec 32 := Scalar.addi v820 v824
  let c1_i32_407 : BitVec 32 := 1#32
  ⟨v820, v825, c1_i32_407⟩
def k0_mult89 (v8 : BitVec 32) (v11 : BitVec 32) (k0_t89 : Fin (k0_t89_loop v8 v11).trips) : BitVec 32 :=
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let c1_i32_407 : BitVec 32 := 1#32
  let arg14 : BitVec 32 := Scf.iv v820 c1_i32_407 k0_t89
  let c256_i32 : BitVec 32 := 256#32
  let v889 : BitVec 32 := Scalar.muli arg14 c256_i32
  v889
def k0_off181 (v8 : BitVec 32) (v11 : BitVec 32) (k0_t89 : Fin (k0_t89_loop v8 v11).trips) : Fin 4 → Nat :=
  let c0_439 : Index := 0#32
  let c0_440 : Index := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let c1_i32_407 : BitVec 32 := 1#32
  let arg14 : BitVec 32 := Scf.iv v820 c1_i32_407 k0_t89
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off182 (v8 : BitVec 32) (v11 : BitVec 32) (k0_t89 : Fin (k0_t89_loop v8 v11).trips) : Fin 2 → Nat :=
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let c1_i32_407 : BitVec 32 := 1#32
  let arg14 : BitVec 32 := Scf.iv v820 c1_i32_407 k0_t89
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t90_loop (v8 : BitVec 32) (v11 : BitVec 32) : Scf.Loop 32 :=
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let v821 : BitVec 32 := Scalar.subi v11 v820
  let c1_i32_406 : BitVec 32 := 1#32
  let v823 : BitVec 32 := Scalar.divsi v821 c1_i32_406
  let v824 : BitVec 32 := Scalar.muli v823 c1_i32_406
  let v825 : BitVec 32 := Scalar.addi v820 v824
  let v822 : BitVec 32 := Scalar.addi v820 v821
  let c1_i32_408 : BitVec 32 := 1#32
  ⟨v825, v822, c1_i32_408⟩
def k0_mult90 (v8 : BitVec 32) (v11 : BitVec 32) (k0_t90 : Fin (k0_t90_loop v8 v11).trips) : BitVec 32 :=
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let v821 : BitVec 32 := Scalar.subi v11 v820
  let c1_i32_406 : BitVec 32 := 1#32
  let v823 : BitVec 32 := Scalar.divsi v821 c1_i32_406
  let v824 : BitVec 32 := Scalar.muli v823 c1_i32_406
  let v825 : BitVec 32 := Scalar.addi v820 v824
  let c1_i32_408 : BitVec 32 := 1#32
  let arg14 : BitVec 32 := Scf.iv v825 c1_i32_408 k0_t90
  let c256_i32 : BitVec 32 := 256#32
  let v889 : BitVec 32 := Scalar.muli arg14 c256_i32
  v889
def k0_off183 (v8 : BitVec 32) (v11 : BitVec 32) (k0_t90 : Fin (k0_t90_loop v8 v11).trips) : Fin 4 → Nat :=
  let c0_439 : Index := 0#32
  let c0_440 : Index := 0#32
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let v821 : BitVec 32 := Scalar.subi v11 v820
  let c1_i32_406 : BitVec 32 := 1#32
  let v823 : BitVec 32 := Scalar.divsi v821 c1_i32_406
  let v824 : BitVec 32 := Scalar.muli v823 c1_i32_406
  let v825 : BitVec 32 := Scalar.addi v820 v824
  let c1_i32_408 : BitVec 32 := 1#32
  let arg14 : BitVec 32 := Scf.iv v825 c1_i32_408 k0_t90
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off184 (v8 : BitVec 32) (v11 : BitVec 32) (k0_t90 : Fin (k0_t90_loop v8 v11).trips) : Fin 2 → Nat :=
  let v794 : BitVec 32 := Scalar.subi v11 v8
  let c0_i32_395 : BitVec 32 := 0#32
  let v796 : BitVec 1 := Scalar.cmpi .sgt v794 c0_i32_395
  let v797 : BitVec 32 := Scalar.extui v796
  let c0_i32_396 : BitVec 32 := 0#32
  let v798 : BitVec 1 := Scalar.cmpi .slt v794 c0_i32_396
  let v799 : BitVec 32 := Scalar.extui v798
  let v800 : BitVec 32 := Scalar.subi v797 v799
  let c4_i32_394 : BitVec 32 := 4#32
  let c0_i32_397 : BitVec 32 := 0#32
  let v801 : BitVec 1 := Scalar.cmpi .sgt c4_i32_394 c0_i32_397
  let v802 : BitVec 32 := Scalar.extui v801
  let c0_i32_398 : BitVec 32 := 0#32
  let v803 : BitVec 1 := Scalar.cmpi .slt c4_i32_394 c0_i32_398
  let v804 : BitVec 32 := Scalar.extui v803
  let v805 : BitVec 32 := Scalar.subi v802 v804
  let v806 : BitVec 1 := Scalar.cmpi .ne v800 v805
  let v807 : BitVec 32 := Scalar.remsi v794 c4_i32_394
  let c0_i32_399 : BitVec 32 := 0#32
  let v808 : BitVec 1 := Scalar.cmpi .ne v807 c0_i32_399
  let v809 : BitVec 1 := Scalar.andi v806 v808
  let v795 : BitVec 32 := Scalar.divsi v794 c4_i32_394
  let c1_i32_400 : BitVec 32 := 1#32
  let v810 : BitVec 32 := Scalar.subi v795 c1_i32_400
  let v811 : BitVec 32 := Scalar.select v809 v810 v795
  let c4_i32_405 : BitVec 32 := 4#32
  let v819 : BitVec 32 := Scalar.muli v811 c4_i32_405
  let v820 : BitVec 32 := Scalar.addi v8 v819
  let v821 : BitVec 32 := Scalar.subi v11 v820
  let c1_i32_406 : BitVec 32 := 1#32
  let v823 : BitVec 32 := Scalar.divsi v821 c1_i32_406
  let v824 : BitVec 32 := Scalar.muli v823 c1_i32_406
  let v825 : BitVec 32 := Scalar.addi v820 v824
  let c1_i32_408 : BitVec 32 := 1#32
  let arg14 : BitVec 32 := Scf.iv v825 c1_i32_408 k0_t90
  let c256_i32 : BitVec 32 := 256#32
  let v889 : BitVec 32 := Scalar.muli arg14 c256_i32
  let v890 : BitVec 32 := v889
  let v900 : Index := Scalar.indexCast v890
  let c0_446 : Index := 0#32
  ![v900.toNat, 0]
@[reducible] def k0_t91_loop (v5 : BitVec 32) (v11 : BitVec 32) : Scf.Loop 32 :=
  let v828 : BitVec 32 := Scalar.subi v5 v11
  let c1_i32_409 : BitVec 32 := 1#32
  let v830 : BitVec 32 := Scalar.divsi v828 c1_i32_409
  let v831 : BitVec 32 := Scalar.muli v830 c1_i32_409
  let v832 : BitVec 32 := Scalar.addi v11 v831
  let c1_i32_410 : BitVec 32 := 1#32
  ⟨v11, v832, c1_i32_410⟩
def k0_mult91 (v5 : BitVec 32) (v11 : BitVec 32) (k0_t91 : Fin (k0_t91_loop v5 v11).trips) : BitVec 32 :=
  let c1_i32_410 : BitVec 32 := 1#32
  let arg14 : BitVec 32 := Scf.iv v11 c1_i32_410 k0_t91
  let c256_i32 : BitVec 32 := 256#32
  let v889 : BitVec 32 := Scalar.muli arg14 c256_i32
  v889
def k0_off185 (v5 : BitVec 32) (v11 : BitVec 32) (k0_t91 : Fin (k0_t91_loop v5 v11).trips) : Fin 4 → Nat :=
  let c0_439 : Index := 0#32
  let c0_440 : Index := 0#32
  let c1_i32_410 : BitVec 32 := 1#32
  let arg14 : BitVec 32 := Scf.iv v11 c1_i32_410 k0_t91
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off186 (v5 : BitVec 32) (v11 : BitVec 32) (k0_t91 : Fin (k0_t91_loop v5 v11).trips) : Fin 2 → Nat :=
  let c1_i32_410 : BitVec 32 := 1#32
  let arg14 : BitVec 32 := Scf.iv v11 c1_i32_410 k0_t91
  let c256_i32 : BitVec 32 := 256#32
  let v889 : BitVec 32 := Scalar.muli arg14 c256_i32
  let v890 : BitVec 32 := v889
  let v910 : Index := Scalar.indexCast v890
  let c0_448 : Index := 0#32
  ![v910.toNat, 0]
@[reducible] def k0_t92_loop (v5 : BitVec 32) (v11 : BitVec 32) : Scf.Loop 32 :=
  let v828 : BitVec 32 := Scalar.subi v5 v11
  let c1_i32_409 : BitVec 32 := 1#32
  let v830 : BitVec 32 := Scalar.divsi v828 c1_i32_409
  let v831 : BitVec 32 := Scalar.muli v830 c1_i32_409
  let v832 : BitVec 32 := Scalar.addi v11 v831
  let v829 : BitVec 32 := Scalar.addi v11 v828
  let c1_i32_411 : BitVec 32 := 1#32
  ⟨v832, v829, c1_i32_411⟩
def k0_mult92 (v5 : BitVec 32) (v11 : BitVec 32) (k0_t92 : Fin (k0_t92_loop v5 v11).trips) : BitVec 32 :=
  let v828 : BitVec 32 := Scalar.subi v5 v11
  let c1_i32_409 : BitVec 32 := 1#32
  let v830 : BitVec 32 := Scalar.divsi v828 c1_i32_409
  let v831 : BitVec 32 := Scalar.muli v830 c1_i32_409
  let v832 : BitVec 32 := Scalar.addi v11 v831
  let c1_i32_411 : BitVec 32 := 1#32
  let arg14 : BitVec 32 := Scf.iv v832 c1_i32_411 k0_t92
  let c256_i32 : BitVec 32 := 256#32
  let v889 : BitVec 32 := Scalar.muli arg14 c256_i32
  v889
def k0_off187 (v5 : BitVec 32) (v11 : BitVec 32) (k0_t92 : Fin (k0_t92_loop v5 v11).trips) : Fin 4 → Nat :=
  let c0_439 : Index := 0#32
  let c0_440 : Index := 0#32
  let v828 : BitVec 32 := Scalar.subi v5 v11
  let c1_i32_409 : BitVec 32 := 1#32
  let v830 : BitVec 32 := Scalar.divsi v828 c1_i32_409
  let v831 : BitVec 32 := Scalar.muli v830 c1_i32_409
  let v832 : BitVec 32 := Scalar.addi v11 v831
  let c1_i32_411 : BitVec 32 := 1#32
  let arg14 : BitVec 32 := Scf.iv v832 c1_i32_411 k0_t92
  let c256_i32 : BitVec 32 := 256#32
  let v889 : BitVec 32 := Scalar.muli arg14 c256_i32
  let v890 : BitVec 32 := v889
  let v891 : Index := Scalar.indexCast v890
  let c0_441 : Index := 0#32
  ![0, 0, v891.toNat, 0]
def k0_off188 (v5 : BitVec 32) (v11 : BitVec 32) (k0_t92 : Fin (k0_t92_loop v5 v11).trips) : Fin 2 → Nat :=
  let v828 : BitVec 32 := Scalar.subi v5 v11
  let c1_i32_409 : BitVec 32 := 1#32
  let v830 : BitVec 32 := Scalar.divsi v828 c1_i32_409
  let v831 : BitVec 32 := Scalar.muli v830 c1_i32_409
  let v832 : BitVec 32 := Scalar.addi v11 v831
  let c1_i32_411 : BitVec 32 := 1#32
  let arg14 : BitVec 32 := Scf.iv v832 c1_i32_411 k0_t92
  let c256_i32 : BitVec 32 := 256#32
  let v889 : BitVec 32 := Scalar.muli arg14 c256_i32
  let v890 : BitVec 32 := v889
  let v910 : Index := Scalar.indexCast v890
  let c0_448 : Index := 0#32
  ![v910.toNat, 0]

def k0_chk2_0 (v5 : BitVec 32) (v8 : BitVec 32) (v11 : BitVec 32) : Prop :=
  ((k0_t3_loop v8 v11).OK) ∧
  (∀ k0_t3 : Fin (k0_t3_loop v8 v11).trips, 256 ∣ (k0_mult3 v8 v11 k0_t3).toNat) ∧
  (∀ k0_t3 : Fin (k0_t3_loop v8 v11).trips, ∀ a, (k0_off9 v8 v11 k0_t3) a + S1x1x1024x128.size a ≤ S1x1x32768x128.size a) ∧
  (∀ k0_t3 : Fin (k0_t3_loop v8 v11).trips, ∀ a, (k0_off10 v8 v11 k0_t3) a + S1024x256.size a ≤ S32768x256.size a) ∧
  ((k0_t4_loop v8 v11).OK) ∧
  (∀ k0_t4 : Fin (k0_t4_loop v8 v11).trips, 256 ∣ (k0_mult4 v8 v11 k0_t4).toNat) ∧
  (∀ k0_t4 : Fin (k0_t4_loop v8 v11).trips, ∀ a, (k0_off11 v8 v11 k0_t4) a + S1x1x1024x128.size a ≤ S1x1x32768x128.size a) ∧
  (∀ k0_t4 : Fin (k0_t4_loop v8 v11).trips, ∀ a, (k0_off12 v8 v11 k0_t4) a + S1024x256.size a ≤ S32768x256.size a) ∧
  ((k0_t5_loop v8 v11).OK) ∧
  (∀ k0_t5 : Fin (k0_t5_loop v8 v11).trips, 256 ∣ (k0_mult5 v8 v11 k0_t5).toNat) ∧
  (∀ k0_t5 : Fin (k0_t5_loop v8 v11).trips, ∀ a, (k0_off13 v8 v11 k0_t5) a + S1x1x256x128.size a ≤ S1x1x32768x128.size a) ∧
  (∀ k0_t5 : Fin (k0_t5_loop v8 v11).trips, ∀ a, (k0_off14 v8 v11 k0_t5) a + S256x256.size a ≤ S32768x256.size a) ∧
  ((k0_t6_loop v8 v11).OK) ∧
  (∀ k0_t6 : Fin (k0_t6_loop v8 v11).trips, 256 ∣ (k0_mult6 v8 v11 k0_t6).toNat) ∧
  (∀ k0_t6 : Fin (k0_t6_loop v8 v11).trips, ∀ a, (k0_off15 v8 v11 k0_t6) a + S1x1x256x128.size a ≤ S1x1x32768x128.size a) ∧
  (∀ k0_t6 : Fin (k0_t6_loop v8 v11).trips, ∀ a, (k0_off16 v8 v11 k0_t6) a + S256x256.size a ≤ S32768x256.size a) ∧
  ((k0_t7_loop v5 v11).OK) ∧
  (∀ k0_t7 : Fin (k0_t7_loop v5 v11).trips, 256 ∣ (k0_mult7 v5 v11 k0_t7).toNat) ∧
  (∀ k0_t7 : Fin (k0_t7_loop v5 v11).trips, ∀ a, (k0_off17 v5 v11 k0_t7) a + S1x1x256x128.size a ≤ S1x1x32768x128.size a) ∧
  (∀ k0_t7 : Fin (k0_t7_loop v5 v11).trips, ∀ a, (k0_off18 v5 v11 k0_t7) a + S256x256.size a ≤ S32768x256.size a) ∧
  ((k0_t8_loop v5 v11).OK) ∧
  (∀ k0_t8 : Fin (k0_t8_loop v5 v11).trips, 256 ∣ (k0_mult8 v5 v11 k0_t8).toNat) ∧
  (∀ k0_t8 : Fin (k0_t8_loop v5 v11).trips, ∀ a, (k0_off19 v5 v11 k0_t8) a + S1x1x256x128.size a ≤ S1x1x32768x128.size a) ∧
  (∀ k0_t8 : Fin (k0_t8_loop v5 v11).trips, ∀ a, (k0_off20 v5 v11 k0_t8) a + S256x256.size a ≤ S32768x256.size a) ∧
  ((k0_t15_loop v8 v11).OK) ∧
  (∀ k0_t15 : Fin (k0_t15_loop v8 v11).trips, 256 ∣ (k0_mult15 v8 v11 k0_t15).toNat) ∧
  (∀ k0_t15 : Fin (k0_t15_loop v8 v11).trips, ∀ a, (k0_off33 v8 v11 k0_t15) a + S1x1x1024x128.size a ≤ S1x1x32768x128.size a) ∧
  (∀ k0_t15 : Fin (k0_t15_loop v8 v11).trips, ∀ a, (k0_off34 v8 v11 k0_t15) a + S1024x256.size a ≤ S32768x256.size a) ∧
  ((k0_t16_loop v8 v11).OK) ∧
  (∀ k0_t16 : Fin (k0_t16_loop v8 v11).trips, 256 ∣ (k0_mult16 v8 v11 k0_t16).toNat) ∧
  (∀ k0_t16 : Fin (k0_t16_loop v8 v11).trips, ∀ a, (k0_off35 v8 v11 k0_t16) a + S1x1x1024x128.size a ≤ S1x1x32768x128.size a) ∧
  (∀ k0_t16 : Fin (k0_t16_loop v8 v11).trips, ∀ a, (k0_off36 v8 v11 k0_t16) a + S1024x256.size a ≤ S32768x256.size a)
def k0_chk2_1 (v5 : BitVec 32) (v8 : BitVec 32) (v11 : BitVec 32) : Prop :=
  ((k0_t17_loop v8 v11).OK) ∧
  (∀ k0_t17 : Fin (k0_t17_loop v8 v11).trips, 256 ∣ (k0_mult17 v8 v11 k0_t17).toNat) ∧
  (∀ k0_t17 : Fin (k0_t17_loop v8 v11).trips, ∀ a, (k0_off37 v8 v11 k0_t17) a + S1x1x256x128.size a ≤ S1x1x32768x128.size a) ∧
  (∀ k0_t17 : Fin (k0_t17_loop v8 v11).trips, ∀ a, (k0_off38 v8 v11 k0_t17) a + S256x256.size a ≤ S32768x256.size a) ∧
  ((k0_t18_loop v8 v11).OK) ∧
  (∀ k0_t18 : Fin (k0_t18_loop v8 v11).trips, 256 ∣ (k0_mult18 v8 v11 k0_t18).toNat) ∧
  (∀ k0_t18 : Fin (k0_t18_loop v8 v11).trips, ∀ a, (k0_off39 v8 v11 k0_t18) a + S1x1x256x128.size a ≤ S1x1x32768x128.size a) ∧
  (∀ k0_t18 : Fin (k0_t18_loop v8 v11).trips, ∀ a, (k0_off40 v8 v11 k0_t18) a + S256x256.size a ≤ S32768x256.size a) ∧
  ((k0_t19_loop v5 v11).OK) ∧
  (∀ k0_t19 : Fin (k0_t19_loop v5 v11).trips, 256 ∣ (k0_mult19 v5 v11 k0_t19).toNat) ∧
  (∀ k0_t19 : Fin (k0_t19_loop v5 v11).trips, ∀ a, (k0_off41 v5 v11 k0_t19) a + S1x1x256x128.size a ≤ S1x1x32768x128.size a) ∧
  (∀ k0_t19 : Fin (k0_t19_loop v5 v11).trips, ∀ a, (k0_off42 v5 v11 k0_t19) a + S256x256.size a ≤ S32768x256.size a) ∧
  ((k0_t20_loop v5 v11).OK) ∧
  (∀ k0_t20 : Fin (k0_t20_loop v5 v11).trips, 256 ∣ (k0_mult20 v5 v11 k0_t20).toNat) ∧
  (∀ k0_t20 : Fin (k0_t20_loop v5 v11).trips, ∀ a, (k0_off43 v5 v11 k0_t20) a + S1x1x256x128.size a ≤ S1x1x32768x128.size a) ∧
  (∀ k0_t20 : Fin (k0_t20_loop v5 v11).trips, ∀ a, (k0_off44 v5 v11 k0_t20) a + S256x256.size a ≤ S32768x256.size a) ∧
  ((k0_t27_loop v8 v11).OK) ∧
  (∀ k0_t27 : Fin (k0_t27_loop v8 v11).trips, 256 ∣ (k0_mult27 v8 v11 k0_t27).toNat) ∧
  (∀ k0_t27 : Fin (k0_t27_loop v8 v11).trips, ∀ a, (k0_off57 v8 v11 k0_t27) a + S1x1x1024x128.size a ≤ S1x1x32768x128.size a) ∧
  (∀ k0_t27 : Fin (k0_t27_loop v8 v11).trips, ∀ a, (k0_off58 v8 v11 k0_t27) a + S1024x256.size a ≤ S32768x256.size a) ∧
  ((k0_t28_loop v8 v11).OK) ∧
  (∀ k0_t28 : Fin (k0_t28_loop v8 v11).trips, 256 ∣ (k0_mult28 v8 v11 k0_t28).toNat) ∧
  (∀ k0_t28 : Fin (k0_t28_loop v8 v11).trips, ∀ a, (k0_off59 v8 v11 k0_t28) a + S1x1x1024x128.size a ≤ S1x1x32768x128.size a) ∧
  (∀ k0_t28 : Fin (k0_t28_loop v8 v11).trips, ∀ a, (k0_off60 v8 v11 k0_t28) a + S1024x256.size a ≤ S32768x256.size a) ∧
  ((k0_t29_loop v8 v11).OK) ∧
  (∀ k0_t29 : Fin (k0_t29_loop v8 v11).trips, 256 ∣ (k0_mult29 v8 v11 k0_t29).toNat) ∧
  (∀ k0_t29 : Fin (k0_t29_loop v8 v11).trips, ∀ a, (k0_off61 v8 v11 k0_t29) a + S1x1x256x128.size a ≤ S1x1x32768x128.size a) ∧
  (∀ k0_t29 : Fin (k0_t29_loop v8 v11).trips, ∀ a, (k0_off62 v8 v11 k0_t29) a + S256x256.size a ≤ S32768x256.size a) ∧
  ((k0_t30_loop v8 v11).OK) ∧
  (∀ k0_t30 : Fin (k0_t30_loop v8 v11).trips, 256 ∣ (k0_mult30 v8 v11 k0_t30).toNat) ∧
  (∀ k0_t30 : Fin (k0_t30_loop v8 v11).trips, ∀ a, (k0_off63 v8 v11 k0_t30) a + S1x1x256x128.size a ≤ S1x1x32768x128.size a) ∧
  (∀ k0_t30 : Fin (k0_t30_loop v8 v11).trips, ∀ a, (k0_off64 v8 v11 k0_t30) a + S256x256.size a ≤ S32768x256.size a)
def k0_chk2_2 (v5 : BitVec 32) (v8 : BitVec 32) (v11 : BitVec 32) : Prop :=
  ((k0_t31_loop v5 v11).OK) ∧
  (∀ k0_t31 : Fin (k0_t31_loop v5 v11).trips, 256 ∣ (k0_mult31 v5 v11 k0_t31).toNat) ∧
  (∀ k0_t31 : Fin (k0_t31_loop v5 v11).trips, ∀ a, (k0_off65 v5 v11 k0_t31) a + S1x1x256x128.size a ≤ S1x1x32768x128.size a) ∧
  (∀ k0_t31 : Fin (k0_t31_loop v5 v11).trips, ∀ a, (k0_off66 v5 v11 k0_t31) a + S256x256.size a ≤ S32768x256.size a) ∧
  ((k0_t32_loop v5 v11).OK) ∧
  (∀ k0_t32 : Fin (k0_t32_loop v5 v11).trips, 256 ∣ (k0_mult32 v5 v11 k0_t32).toNat) ∧
  (∀ k0_t32 : Fin (k0_t32_loop v5 v11).trips, ∀ a, (k0_off67 v5 v11 k0_t32) a + S1x1x256x128.size a ≤ S1x1x32768x128.size a) ∧
  (∀ k0_t32 : Fin (k0_t32_loop v5 v11).trips, ∀ a, (k0_off68 v5 v11 k0_t32) a + S256x256.size a ≤ S32768x256.size a) ∧
  ((k0_t39_loop v8 v11).OK) ∧
  (∀ k0_t39 : Fin (k0_t39_loop v8 v11).trips, 256 ∣ (k0_mult39 v8 v11 k0_t39).toNat) ∧
  (∀ k0_t39 : Fin (k0_t39_loop v8 v11).trips, ∀ a, (k0_off81 v8 v11 k0_t39) a + S1x1x1024x128.size a ≤ S1x1x32768x128.size a) ∧
  (∀ k0_t39 : Fin (k0_t39_loop v8 v11).trips, ∀ a, (k0_off82 v8 v11 k0_t39) a + S1024x256.size a ≤ S32768x256.size a) ∧
  ((k0_t40_loop v8 v11).OK) ∧
  (∀ k0_t40 : Fin (k0_t40_loop v8 v11).trips, 256 ∣ (k0_mult40 v8 v11 k0_t40).toNat) ∧
  (∀ k0_t40 : Fin (k0_t40_loop v8 v11).trips, ∀ a, (k0_off83 v8 v11 k0_t40) a + S1x1x1024x128.size a ≤ S1x1x32768x128.size a) ∧
  (∀ k0_t40 : Fin (k0_t40_loop v8 v11).trips, ∀ a, (k0_off84 v8 v11 k0_t40) a + S1024x256.size a ≤ S32768x256.size a) ∧
  ((k0_t41_loop v8 v11).OK) ∧
  (∀ k0_t41 : Fin (k0_t41_loop v8 v11).trips, 256 ∣ (k0_mult41 v8 v11 k0_t41).toNat) ∧
  (∀ k0_t41 : Fin (k0_t41_loop v8 v11).trips, ∀ a, (k0_off85 v8 v11 k0_t41) a + S1x1x256x128.size a ≤ S1x1x32768x128.size a) ∧
  (∀ k0_t41 : Fin (k0_t41_loop v8 v11).trips, ∀ a, (k0_off86 v8 v11 k0_t41) a + S256x256.size a ≤ S32768x256.size a) ∧
  ((k0_t42_loop v8 v11).OK) ∧
  (∀ k0_t42 : Fin (k0_t42_loop v8 v11).trips, 256 ∣ (k0_mult42 v8 v11 k0_t42).toNat) ∧
  (∀ k0_t42 : Fin (k0_t42_loop v8 v11).trips, ∀ a, (k0_off87 v8 v11 k0_t42) a + S1x1x256x128.size a ≤ S1x1x32768x128.size a) ∧
  (∀ k0_t42 : Fin (k0_t42_loop v8 v11).trips, ∀ a, (k0_off88 v8 v11 k0_t42) a + S256x256.size a ≤ S32768x256.size a) ∧
  ((k0_t43_loop v5 v11).OK) ∧
  (∀ k0_t43 : Fin (k0_t43_loop v5 v11).trips, 256 ∣ (k0_mult43 v5 v11 k0_t43).toNat) ∧
  (∀ k0_t43 : Fin (k0_t43_loop v5 v11).trips, ∀ a, (k0_off89 v5 v11 k0_t43) a + S1x1x256x128.size a ≤ S1x1x32768x128.size a) ∧
  (∀ k0_t43 : Fin (k0_t43_loop v5 v11).trips, ∀ a, (k0_off90 v5 v11 k0_t43) a + S256x256.size a ≤ S32768x256.size a) ∧
  ((k0_t44_loop v5 v11).OK) ∧
  (∀ k0_t44 : Fin (k0_t44_loop v5 v11).trips, 256 ∣ (k0_mult44 v5 v11 k0_t44).toNat) ∧
  (∀ k0_t44 : Fin (k0_t44_loop v5 v11).trips, ∀ a, (k0_off91 v5 v11 k0_t44) a + S1x1x256x128.size a ≤ S1x1x32768x128.size a) ∧
  (∀ k0_t44 : Fin (k0_t44_loop v5 v11).trips, ∀ a, (k0_off92 v5 v11 k0_t44) a + S256x256.size a ≤ S32768x256.size a)
def k0_chk2_3 (v5 : BitVec 32) (v8 : BitVec 32) (v11 : BitVec 32) : Prop :=
  ((k0_t51_loop v8 v11).OK) ∧
  (∀ k0_t51 : Fin (k0_t51_loop v8 v11).trips, 256 ∣ (k0_mult51 v8 v11 k0_t51).toNat) ∧
  (∀ k0_t51 : Fin (k0_t51_loop v8 v11).trips, ∀ a, (k0_off105 v8 v11 k0_t51) a + S1x1x1024x128.size a ≤ S1x1x32768x128.size a) ∧
  (∀ k0_t51 : Fin (k0_t51_loop v8 v11).trips, ∀ a, (k0_off106 v8 v11 k0_t51) a + S1024x256.size a ≤ S32768x256.size a) ∧
  ((k0_t52_loop v8 v11).OK) ∧
  (∀ k0_t52 : Fin (k0_t52_loop v8 v11).trips, 256 ∣ (k0_mult52 v8 v11 k0_t52).toNat) ∧
  (∀ k0_t52 : Fin (k0_t52_loop v8 v11).trips, ∀ a, (k0_off107 v8 v11 k0_t52) a + S1x1x1024x128.size a ≤ S1x1x32768x128.size a) ∧
  (∀ k0_t52 : Fin (k0_t52_loop v8 v11).trips, ∀ a, (k0_off108 v8 v11 k0_t52) a + S1024x256.size a ≤ S32768x256.size a) ∧
  ((k0_t53_loop v8 v11).OK) ∧
  (∀ k0_t53 : Fin (k0_t53_loop v8 v11).trips, 256 ∣ (k0_mult53 v8 v11 k0_t53).toNat) ∧
  (∀ k0_t53 : Fin (k0_t53_loop v8 v11).trips, ∀ a, (k0_off109 v8 v11 k0_t53) a + S1x1x256x128.size a ≤ S1x1x32768x128.size a) ∧
  (∀ k0_t53 : Fin (k0_t53_loop v8 v11).trips, ∀ a, (k0_off110 v8 v11 k0_t53) a + S256x256.size a ≤ S32768x256.size a) ∧
  ((k0_t54_loop v8 v11).OK) ∧
  (∀ k0_t54 : Fin (k0_t54_loop v8 v11).trips, 256 ∣ (k0_mult54 v8 v11 k0_t54).toNat) ∧
  (∀ k0_t54 : Fin (k0_t54_loop v8 v11).trips, ∀ a, (k0_off111 v8 v11 k0_t54) a + S1x1x256x128.size a ≤ S1x1x32768x128.size a) ∧
  (∀ k0_t54 : Fin (k0_t54_loop v8 v11).trips, ∀ a, (k0_off112 v8 v11 k0_t54) a + S256x256.size a ≤ S32768x256.size a) ∧
  ((k0_t55_loop v5 v11).OK) ∧
  (∀ k0_t55 : Fin (k0_t55_loop v5 v11).trips, 256 ∣ (k0_mult55 v5 v11 k0_t55).toNat) ∧
  (∀ k0_t55 : Fin (k0_t55_loop v5 v11).trips, ∀ a, (k0_off113 v5 v11 k0_t55) a + S1x1x256x128.size a ≤ S1x1x32768x128.size a) ∧
  (∀ k0_t55 : Fin (k0_t55_loop v5 v11).trips, ∀ a, (k0_off114 v5 v11 k0_t55) a + S256x256.size a ≤ S32768x256.size a) ∧
  ((k0_t56_loop v5 v11).OK) ∧
  (∀ k0_t56 : Fin (k0_t56_loop v5 v11).trips, 256 ∣ (k0_mult56 v5 v11 k0_t56).toNat) ∧
  (∀ k0_t56 : Fin (k0_t56_loop v5 v11).trips, ∀ a, (k0_off115 v5 v11 k0_t56) a + S1x1x256x128.size a ≤ S1x1x32768x128.size a) ∧
  (∀ k0_t56 : Fin (k0_t56_loop v5 v11).trips, ∀ a, (k0_off116 v5 v11 k0_t56) a + S256x256.size a ≤ S32768x256.size a) ∧
  ((k0_t63_loop v8 v11).OK) ∧
  (∀ k0_t63 : Fin (k0_t63_loop v8 v11).trips, 256 ∣ (k0_mult63 v8 v11 k0_t63).toNat) ∧
  (∀ k0_t63 : Fin (k0_t63_loop v8 v11).trips, ∀ a, (k0_off129 v8 v11 k0_t63) a + S1x1x1024x128.size a ≤ S1x1x32768x128.size a) ∧
  (∀ k0_t63 : Fin (k0_t63_loop v8 v11).trips, ∀ a, (k0_off130 v8 v11 k0_t63) a + S1024x256.size a ≤ S32768x256.size a) ∧
  ((k0_t64_loop v8 v11).OK) ∧
  (∀ k0_t64 : Fin (k0_t64_loop v8 v11).trips, 256 ∣ (k0_mult64 v8 v11 k0_t64).toNat) ∧
  (∀ k0_t64 : Fin (k0_t64_loop v8 v11).trips, ∀ a, (k0_off131 v8 v11 k0_t64) a + S1x1x1024x128.size a ≤ S1x1x32768x128.size a) ∧
  (∀ k0_t64 : Fin (k0_t64_loop v8 v11).trips, ∀ a, (k0_off132 v8 v11 k0_t64) a + S1024x256.size a ≤ S32768x256.size a)
def k0_chk2_4 (v5 : BitVec 32) (v8 : BitVec 32) (v11 : BitVec 32) : Prop :=
  ((k0_t65_loop v8 v11).OK) ∧
  (∀ k0_t65 : Fin (k0_t65_loop v8 v11).trips, 256 ∣ (k0_mult65 v8 v11 k0_t65).toNat) ∧
  (∀ k0_t65 : Fin (k0_t65_loop v8 v11).trips, ∀ a, (k0_off133 v8 v11 k0_t65) a + S1x1x256x128.size a ≤ S1x1x32768x128.size a) ∧
  (∀ k0_t65 : Fin (k0_t65_loop v8 v11).trips, ∀ a, (k0_off134 v8 v11 k0_t65) a + S256x256.size a ≤ S32768x256.size a) ∧
  ((k0_t66_loop v8 v11).OK) ∧
  (∀ k0_t66 : Fin (k0_t66_loop v8 v11).trips, 256 ∣ (k0_mult66 v8 v11 k0_t66).toNat) ∧
  (∀ k0_t66 : Fin (k0_t66_loop v8 v11).trips, ∀ a, (k0_off135 v8 v11 k0_t66) a + S1x1x256x128.size a ≤ S1x1x32768x128.size a) ∧
  (∀ k0_t66 : Fin (k0_t66_loop v8 v11).trips, ∀ a, (k0_off136 v8 v11 k0_t66) a + S256x256.size a ≤ S32768x256.size a) ∧
  ((k0_t67_loop v5 v11).OK) ∧
  (∀ k0_t67 : Fin (k0_t67_loop v5 v11).trips, 256 ∣ (k0_mult67 v5 v11 k0_t67).toNat) ∧
  (∀ k0_t67 : Fin (k0_t67_loop v5 v11).trips, ∀ a, (k0_off137 v5 v11 k0_t67) a + S1x1x256x128.size a ≤ S1x1x32768x128.size a) ∧
  (∀ k0_t67 : Fin (k0_t67_loop v5 v11).trips, ∀ a, (k0_off138 v5 v11 k0_t67) a + S256x256.size a ≤ S32768x256.size a) ∧
  ((k0_t68_loop v5 v11).OK) ∧
  (∀ k0_t68 : Fin (k0_t68_loop v5 v11).trips, 256 ∣ (k0_mult68 v5 v11 k0_t68).toNat) ∧
  (∀ k0_t68 : Fin (k0_t68_loop v5 v11).trips, ∀ a, (k0_off139 v5 v11 k0_t68) a + S1x1x256x128.size a ≤ S1x1x32768x128.size a) ∧
  (∀ k0_t68 : Fin (k0_t68_loop v5 v11).trips, ∀ a, (k0_off140 v5 v11 k0_t68) a + S256x256.size a ≤ S32768x256.size a) ∧
  ((k0_t75_loop v8 v11).OK) ∧
  (∀ k0_t75 : Fin (k0_t75_loop v8 v11).trips, 256 ∣ (k0_mult75 v8 v11 k0_t75).toNat) ∧
  (∀ k0_t75 : Fin (k0_t75_loop v8 v11).trips, ∀ a, (k0_off153 v8 v11 k0_t75) a + S1x1x1024x128.size a ≤ S1x1x32768x128.size a) ∧
  (∀ k0_t75 : Fin (k0_t75_loop v8 v11).trips, ∀ a, (k0_off154 v8 v11 k0_t75) a + S1024x256.size a ≤ S32768x256.size a) ∧
  ((k0_t76_loop v8 v11).OK) ∧
  (∀ k0_t76 : Fin (k0_t76_loop v8 v11).trips, 256 ∣ (k0_mult76 v8 v11 k0_t76).toNat) ∧
  (∀ k0_t76 : Fin (k0_t76_loop v8 v11).trips, ∀ a, (k0_off155 v8 v11 k0_t76) a + S1x1x1024x128.size a ≤ S1x1x32768x128.size a) ∧
  (∀ k0_t76 : Fin (k0_t76_loop v8 v11).trips, ∀ a, (k0_off156 v8 v11 k0_t76) a + S1024x256.size a ≤ S32768x256.size a) ∧
  ((k0_t77_loop v8 v11).OK) ∧
  (∀ k0_t77 : Fin (k0_t77_loop v8 v11).trips, 256 ∣ (k0_mult77 v8 v11 k0_t77).toNat) ∧
  (∀ k0_t77 : Fin (k0_t77_loop v8 v11).trips, ∀ a, (k0_off157 v8 v11 k0_t77) a + S1x1x256x128.size a ≤ S1x1x32768x128.size a) ∧
  (∀ k0_t77 : Fin (k0_t77_loop v8 v11).trips, ∀ a, (k0_off158 v8 v11 k0_t77) a + S256x256.size a ≤ S32768x256.size a) ∧
  ((k0_t78_loop v8 v11).OK) ∧
  (∀ k0_t78 : Fin (k0_t78_loop v8 v11).trips, 256 ∣ (k0_mult78 v8 v11 k0_t78).toNat) ∧
  (∀ k0_t78 : Fin (k0_t78_loop v8 v11).trips, ∀ a, (k0_off159 v8 v11 k0_t78) a + S1x1x256x128.size a ≤ S1x1x32768x128.size a) ∧
  (∀ k0_t78 : Fin (k0_t78_loop v8 v11).trips, ∀ a, (k0_off160 v8 v11 k0_t78) a + S256x256.size a ≤ S32768x256.size a)
def k0_chk2_5 (v5 : BitVec 32) (v8 : BitVec 32) (v11 : BitVec 32) : Prop :=
  ((k0_t79_loop v5 v11).OK) ∧
  (∀ k0_t79 : Fin (k0_t79_loop v5 v11).trips, 256 ∣ (k0_mult79 v5 v11 k0_t79).toNat) ∧
  (∀ k0_t79 : Fin (k0_t79_loop v5 v11).trips, ∀ a, (k0_off161 v5 v11 k0_t79) a + S1x1x256x128.size a ≤ S1x1x32768x128.size a) ∧
  (∀ k0_t79 : Fin (k0_t79_loop v5 v11).trips, ∀ a, (k0_off162 v5 v11 k0_t79) a + S256x256.size a ≤ S32768x256.size a) ∧
  ((k0_t80_loop v5 v11).OK) ∧
  (∀ k0_t80 : Fin (k0_t80_loop v5 v11).trips, 256 ∣ (k0_mult80 v5 v11 k0_t80).toNat) ∧
  (∀ k0_t80 : Fin (k0_t80_loop v5 v11).trips, ∀ a, (k0_off163 v5 v11 k0_t80) a + S1x1x256x128.size a ≤ S1x1x32768x128.size a) ∧
  (∀ k0_t80 : Fin (k0_t80_loop v5 v11).trips, ∀ a, (k0_off164 v5 v11 k0_t80) a + S256x256.size a ≤ S32768x256.size a) ∧
  ((k0_t87_loop v8 v11).OK) ∧
  (∀ k0_t87 : Fin (k0_t87_loop v8 v11).trips, 256 ∣ (k0_mult87 v8 v11 k0_t87).toNat) ∧
  (∀ k0_t87 : Fin (k0_t87_loop v8 v11).trips, ∀ a, (k0_off177 v8 v11 k0_t87) a + S1x1x1024x128.size a ≤ S1x1x32768x128.size a) ∧
  (∀ k0_t87 : Fin (k0_t87_loop v8 v11).trips, ∀ a, (k0_off178 v8 v11 k0_t87) a + S1024x256.size a ≤ S32768x256.size a) ∧
  ((k0_t88_loop v8 v11).OK) ∧
  (∀ k0_t88 : Fin (k0_t88_loop v8 v11).trips, 256 ∣ (k0_mult88 v8 v11 k0_t88).toNat) ∧
  (∀ k0_t88 : Fin (k0_t88_loop v8 v11).trips, ∀ a, (k0_off179 v8 v11 k0_t88) a + S1x1x1024x128.size a ≤ S1x1x32768x128.size a) ∧
  (∀ k0_t88 : Fin (k0_t88_loop v8 v11).trips, ∀ a, (k0_off180 v8 v11 k0_t88) a + S1024x256.size a ≤ S32768x256.size a) ∧
  ((k0_t89_loop v8 v11).OK) ∧
  (∀ k0_t89 : Fin (k0_t89_loop v8 v11).trips, 256 ∣ (k0_mult89 v8 v11 k0_t89).toNat) ∧
  (∀ k0_t89 : Fin (k0_t89_loop v8 v11).trips, ∀ a, (k0_off181 v8 v11 k0_t89) a + S1x1x256x128.size a ≤ S1x1x32768x128.size a) ∧
  (∀ k0_t89 : Fin (k0_t89_loop v8 v11).trips, ∀ a, (k0_off182 v8 v11 k0_t89) a + S256x256.size a ≤ S32768x256.size a) ∧
  ((k0_t90_loop v8 v11).OK) ∧
  (∀ k0_t90 : Fin (k0_t90_loop v8 v11).trips, 256 ∣ (k0_mult90 v8 v11 k0_t90).toNat) ∧
  (∀ k0_t90 : Fin (k0_t90_loop v8 v11).trips, ∀ a, (k0_off183 v8 v11 k0_t90) a + S1x1x256x128.size a ≤ S1x1x32768x128.size a) ∧
  (∀ k0_t90 : Fin (k0_t90_loop v8 v11).trips, ∀ a, (k0_off184 v8 v11 k0_t90) a + S256x256.size a ≤ S32768x256.size a) ∧
  ((k0_t91_loop v5 v11).OK) ∧
  (∀ k0_t91 : Fin (k0_t91_loop v5 v11).trips, 256 ∣ (k0_mult91 v5 v11 k0_t91).toNat) ∧
  (∀ k0_t91 : Fin (k0_t91_loop v5 v11).trips, ∀ a, (k0_off185 v5 v11 k0_t91) a + S1x1x256x128.size a ≤ S1x1x32768x128.size a) ∧
  (∀ k0_t91 : Fin (k0_t91_loop v5 v11).trips, ∀ a, (k0_off186 v5 v11 k0_t91) a + S256x256.size a ≤ S32768x256.size a) ∧
  ((k0_t92_loop v5 v11).OK) ∧
  (∀ k0_t92 : Fin (k0_t92_loop v5 v11).trips, 256 ∣ (k0_mult92 v5 v11 k0_t92).toNat) ∧
  (∀ k0_t92 : Fin (k0_t92_loop v5 v11).trips, ∀ a, (k0_off187 v5 v11 k0_t92) a + S1x1x256x128.size a ≤ S1x1x32768x128.size a) ∧
  (∀ k0_t92 : Fin (k0_t92_loop v5 v11).trips, ∀ a, (k0_off188 v5 v11 k0_t92) a + S256x256.size a ≤ S32768x256.size a)
def k0_chk2 (v5 : BitVec 32) (v8 : BitVec 32) (v11 : BitVec 32) : Prop :=
  k0_chk2_0 v5 v8 v11 ∧
  k0_chk2_1 v5 v8 v11 ∧
  k0_chk2_2 v5 v8 v11 ∧
  k0_chk2_3 v5 v8 v11 ∧
  k0_chk2_4 v5 v8 v11 ∧
  k0_chk2_5 v5 v8 v11
theorem k0_t3_ok : ∀ (v5 : BitVec 32) (v8 : BitVec 32) (v11 : BitVec 32) (k0_hw2 : k0_chk2 v5 v8 v11), (k0_t3_loop v8 v11).OK := fun v5 v8 v11 k0_hw2 => k0_hw2.1.1
theorem k0_mult3_dvd : ∀ (v5 : BitVec 32) (v8 : BitVec 32) (v11 : BitVec 32) (k0_hw2 : k0_chk2 v5 v8 v11) (k0_t3 : Fin (k0_t3_loop v8 v11).trips), 256 ∣ (k0_mult3 v8 v11 k0_t3).toNat := fun v5 v8 v11 k0_hw2 k0_t3 => k0_hw2.1.2.1 k0_t3
theorem k0_off9_inb : ∀ (v5 : BitVec 32) (v8 : BitVec 32) (v11 : BitVec 32) (k0_hw2 : k0_chk2 v5 v8 v11) (k0_t3 : Fin (k0_t3_loop v8 v11).trips), ∀ a, (k0_off9 v8 v11 k0_t3) a + S1x1x1024x128.size a ≤ S1x1x32768x128.size a := fun v5 v8 v11 k0_hw2 k0_t3 => k0_hw2.1.2.2.1 k0_t3
theorem k0_off10_inb : ∀ (v5 : BitVec 32) (v8 : BitVec 32) (v11 : BitVec 32) (k0_hw2 : k0_chk2 v5 v8 v11) (k0_t3 : Fin (k0_t3_loop v8 v11).trips), ∀ a, (k0_off10 v8 v11 k0_t3) a + S1024x256.size a ≤ S32768x256.size a := fun v5 v8 v11 k0_hw2 k0_t3 => k0_hw2.1.2.2.2.1 k0_t3
theorem k0_t4_ok : ∀ (v5 : BitVec 32) (v8 : BitVec 32) (v11 : BitVec 32) (k0_hw2 : k0_chk2 v5 v8 v11), (k0_t4_loop v8 v11).OK := fun v5 v8 v11 k0_hw2 => k0_hw2.1.2.2.2.2.1
theorem k0_mult4_dvd : ∀ (v5 : BitVec 32) (v8 : BitVec 32) (v11 : BitVec 32) (k0_hw2 : k0_chk2 v5 v8 v11) (k0_t4 : Fin (k0_t4_loop v8 v11).trips), 256 ∣ (k0_mult4 v8 v11 k0_t4).toNat := fun v5 v8 v11 k0_hw2 k0_t4 => k0_hw2.1.2.2.2.2.2.1 k0_t4
theorem k0_off11_inb : ∀ (v5 : BitVec 32) (v8 : BitVec 32) (v11 : BitVec 32) (k0_hw2 : k0_chk2 v5 v8 v11) (k0_t4 : Fin (k0_t4_loop v8 v11).trips), ∀ a, (k0_off11 v8 v11 k0_t4) a + S1x1x1024x128.size a ≤ S1x1x32768x128.size a := fun v5 v8 v11 k0_hw2 k0_t4 => k0_hw2.1.2.2.2.2.2.2.1 k0_t4
theorem k0_off12_inb : ∀ (v5 : BitVec 32) (v8 : BitVec 32) (v11 : BitVec 32) (k0_hw2 : k0_chk2 v5 v8 v11) (k0_t4 : Fin (k0_t4_loop v8 v11).trips), ∀ a, (k0_off12 v8 v11 k0_t4) a + S1024x256.size a ≤ S32768x256.size a := fun v5 v8 v11 k0_hw2 k0_t4 => k0_hw2.1.2.2.2.2.2.2.2.1 k0_t4
theorem k0_t5_ok : ∀ (v5 : BitVec 32) (v8 : BitVec 32) (v11 : BitVec 32) (k0_hw2 : k0_chk2 v5 v8 v11), (k0_t5_loop v8 v11).OK := fun v5 v8 v11 k0_hw2 => k0_hw2.1.2.2.2.2.2.2.2.2.1
theorem k0_mult5_dvd : ∀ (v5 : BitVec 32) (v8 : BitVec 32) (v11 : BitVec 32) (k0_hw2 : k0_chk2 v5 v8 v11) (k0_t5 : Fin (k0_t5_loop v8 v11).trips), 256 ∣ (k0_mult5 v8 v11 k0_t5).toNat := fun v5 v8 v11 k0_hw2 k0_t5 => k0_hw2.1.2.2.2.2.2.2.2.2.2.1 k0_t5
theorem k0_off13_inb : ∀ (v5 : BitVec 32) (v8 : BitVec 32) (v11 : BitVec 32) (k0_hw2 : k0_chk2 v5 v8 v11) (k0_t5 : Fin (k0_t5_loop v8 v11).trips), ∀ a, (k0_off13 v8 v11 k0_t5) a + S1x1x256x128.size a ≤ S1x1x32768x128.size a := fun v5 v8 v11 k0_hw2 k0_t5 => k0_hw2.1.2.2.2.2.2.2.2.2.2.2.1 k0_t5
theorem k0_off14_inb : ∀ (v5 : BitVec 32) (v8 : BitVec 32) (v11 : BitVec 32) (k0_hw2 : k0_chk2 v5 v8 v11) (k0_t5 : Fin (k0_t5_loop v8 v11).trips), ∀ a, (k0_off14 v8 v11 k0_t5) a + S256x256.size a ≤ S32768x256.size a := fun v5 v8 v11 k0_hw2 k0_t5 => k0_hw2.1.2.2.2.2.2.2.2.2.2.2.2.1 k0_t5
theorem k0_t6_ok : ∀ (v5 : BitVec 32) (v8 : BitVec 32) (v11 : BitVec 32) (k0_hw2 : k0_chk2 v5 v8 v11), (k0_t6_loop v8 v11).OK := fun v5 v8 v11 k0_hw2 => k0_hw2.1.2.2.2.2.2.2.2.2.2.2.2.2.1
theorem k0_mult6_dvd : ∀ (v5 : BitVec 32) (v8 : BitVec 32) (v11 : BitVec 32) (k0_hw2 : k0_chk2 v5 v8 v11) (k0_t6 : Fin (k0_t6_loop v8 v11).trips), 256 ∣ (k0_mult6 v8 v11 k0_t6).toNat := fun v5 v8 v11 k0_hw2 k0_t6 => k0_hw2.1.2.2.2.2.2.2.2.2.2.2.2.2.2.1 k0_t6
theorem k0_off15_inb : ∀ (v5 : BitVec 32) (v8 : BitVec 32) (v11 : BitVec 32) (k0_hw2 : k0_chk2 v5 v8 v11) (k0_t6 : Fin (k0_t6_loop v8 v11).trips), ∀ a, (k0_off15 v8 v11 k0_t6) a + S1x1x256x128.size a ≤ S1x1x32768x128.size a := fun v5 v8 v11 k0_hw2 k0_t6 => k0_hw2.1.2.2.2.2.2.2.2.2.2.2.2.2.2.2.1 k0_t6
theorem k0_off16_inb : ∀ (v5 : BitVec 32) (v8 : BitVec 32) (v11 : BitVec 32) (k0_hw2 : k0_chk2 v5 v8 v11) (k0_t6 : Fin (k0_t6_loop v8 v11).trips), ∀ a, (k0_off16 v8 v11 k0_t6) a + S256x256.size a ≤ S32768x256.size a := fun v5 v8 v11 k0_hw2 k0_t6 => k0_hw2.1.2.2.2.2.2.2.2.2.2.2.2.2.2.2.2.1 k0_t6
theorem k0_t7_ok : ∀ (v5 : BitVec 32) (v8 : BitVec 32) (v11 : BitVec 32) (k0_hw2 : k0_chk2 v5 v8 v11), (k0_t7_loop v5 v11).OK := fun v5 v8 v11 k0_hw2 => k0_hw2.1.2.2.2.2.2.2.2.2.2.2.2.2.2.2.2.2.1
theorem k0_mult7_dvd : ∀ (v5 : BitVec 32) (v8 : BitVec 32) (v11 : BitVec 32) (k0_hw2 : k0_chk2 v5 v8 v11) (k0_t7 : Fin (k0_t7_loop v5 v11).trips), 256 ∣ (k0_mult7 v5 v11 k0_t7).toNat := fun v5 v8 v11 k0_hw2 k0_t7 => k0_hw2.1.2.2.2.2.2.2.2.2.2.2.2.2.2.2.2.2.2.1 k0_t7
theorem k0_off17_inb : ∀ (v5 : BitVec 32) (v8 : BitVec 32) (v11 : BitVec 32) (k0_hw2 : k0_chk2 v5 v8 v11) (k0_t7 : Fin (k0_t7_loop v5 v11).trips), ∀ a, (k0_off17 v5 v11 k0_t7) a + S1x1x256x128.size a ≤ S1x1x32768x128.size a := fun v5 v8 v11 k0_hw2 k0_t7 => k0_hw2.1.2.2.2.2.2.2.2.2.2.2.2.2.2.2.2.2.2.2.1 k0_t7
theorem k0_off18_inb : ∀ (v5 : BitVec 32) (v8 : BitVec 32) (v11 : BitVec 32) (k0_hw2 : k0_chk2 v5 v8 v11) (k0_t7 : Fin (k0_t7_loop v5 v11).trips), ∀ a, (k0_off18 v5 v11 k0_t7) a + S256x256.size a ≤ S32768x256.size a := fun v5 v8 v11 k0_hw2 k0_t7 => k0_hw2.1.2.2.2.2.2.2.2.2.2.2.2.2.2.2.2.2.2.2.2.1 k0_t7
theorem k0_t8_ok : ∀ (v5 : BitVec 32) (v8 : BitVec 32) (v11 : BitVec 32) (k0_hw2 : k0_chk2 v5 v8 v11), (k0_t8_loop v5 v11).OK := fun v5 v8 v11 k0_hw2 => k0_hw2.1.2.2.2.2.2.2.2.2.2.2.2.2.2.2.2.2.2.2.2.2.1
theorem k0_mult8_dvd : ∀ (v5 : BitVec 32) (v8 : BitVec 32) (v11 : BitVec 32) (k0_hw2 : k0_chk2 v5 v8 v11) (k0_t8 : Fin (k0_t8_loop v5 v11).trips), 256 ∣ (k0_mult8 v5 v11 k0_t8).toNat := fun v5 v8 v11 k0_hw2 k0_t8 => k0_hw2.1.2.2.2.2.2.2.2.2.2.2.2.2.2.2.2.2.2.2.2.2.2.1 k0_t8
theorem k0_off19_inb : ∀ (v5 : BitVec 32) (v8 : BitVec 32) (v11 : BitVec 32) (k0_hw2 : k0_chk2 v5 v8 v11) (k0_t8 : Fin (k0_t8_loop v5 v11).trips), ∀ a, (k0_off19 v5 v11 k0_t8) a + S1x1x256x128.size a ≤ S1x1x32768x128.size a := fun v5 v8 v11 k0_hw2 k0_t8 => k0_hw2.1.2.2.2.2.2.2.2.2.2.2.2.2.2.2.2.2.2.2.2.2.2.2.1 k0_t8
theorem k0_off20_inb : ∀ (v5 : BitVec 32) (v8 : BitVec 32) (v11 : BitVec 32) (k0_hw2 : k0_chk2 v5 v8 v11) (k0_t8 : Fin (k0_t8_loop v5 v11).trips), ∀ a, (k0_off20 v5 v11 k0_t8) a + S256x256.size a ≤ S32768x256.size a := fun v5 v8 v11 k0_hw2 k0_t8 => k0_hw2.1.2.2.2.2.2.2.2.2.2.2.2.2.2.2.2.2.2.2.2.2.2.2.2.1 k0_t8
theorem k0_t15_ok : ∀ (v5 : BitVec 32) (v8 : BitVec 32) (v11 : BitVec 32) (k0_hw2 : k0_chk2 v5 v8 v11), (k0_t15_loop v8 v11).OK := fun v5 v8 v11 k0_hw2 => k0_hw2.1.2.2.2.2.2.2.2.2.2.2.2.2.2.2.2.2.2.2.2.2.2.2.2.2.1
theorem k0_mult15_dvd : ∀ (v5 : BitVec 32) (v8 : BitVec 32) (v11 : BitVec 32) (k0_hw2 : k0_chk2 v5 v8 v11) (k0_t15 : Fin (k0_t15_loop v8 v11).trips), 256 ∣ (k0_mult15 v8 v11 k0_t15).toNat := fun v5 v8 v11 k0_hw2 k0_t15 => k0_hw2.1.2.2.2.2.2.2.2.2.2.2.2.2.2.2.2.2.2.2.2.2.2.2.2.2.2.1 k0_t15
theorem k0_off33_inb : ∀ (v5 : BitVec 32) (v8 : BitVec 32) (v11 : BitVec 32) (k0_hw2 : k0_chk2 v5 v8 v11) (k0_t15 : Fin (k0_t15_loop v8 v11).trips), ∀ a, (k0_off33 v8 v11 k0_t15) a + S1x1x1024x128.size a ≤ S1x1x32768x128.size a := fun v5 v8 v11 k0_hw2 k0_t15 => k0_hw2.1.2.2.2.2.2.2.2.2.2.2.2.2.2.2.2.2.2.2.2.2.2.2.2.2.2.2.1 k0_t15
theorem k0_off34_inb : ∀ (v5 : BitVec 32) (v8 : BitVec 32) (v11 : BitVec 32) (k0_hw2 : k0_chk2 v5 v8 v11) (k0_t15 : Fin (k0_t15_loop v8 v11).trips), ∀ a, (k0_off34 v8 v11 k0_t15) a + S1024x256.size a ≤ S32768x256.size a := fun v5 v8 v11 k0_hw2 k0_t15 => k0_hw2.1.2.2.2.2.2.2.2.2.2.2.2.2.2.2.2.2.2.2.2.2.2.2.2.2.2.2.2.1 k0_t15
theorem k0_t16_ok : ∀ (v5 : BitVec 32) (v8 : BitVec 32) (v11 : BitVec 32) (k0_hw2 : k0_chk2 v5 v8 v11), (k0_t16_loop v8 v11).OK := fun v5 v8 v11 k0_hw2 => k0_hw2.1.2.2.2.2.2.2.2.2.2.2.2.2.2.2.2.2.2.2.2.2.2.2.2.2.2.2.2.2.1
theorem k0_mult16_dvd : ∀ (v5 : BitVec 32) (v8 : BitVec 32) (v11 : BitVec 32) (k0_hw2 : k0_chk2 v5 v8 v11) (k0_t16 : Fin (k0_t16_loop v8 v11).trips), 256 ∣ (k0_mult16 v8 v11 k0_t16).toNat := fun v5 v8 v11 k0_hw2 k0_t16 => k0_hw2.1.2.2.2.2.2.2.2.2.2.2.2.2.2.2.2.2.2.2.2.2.2.2.2.2.2.2.2.2.2.1 k0_t16
theorem k0_off35_inb : ∀ (v5 : BitVec 32) (v8 : BitVec 32) (v11 : BitVec 32) (k0_hw2 : k0_chk2 v5 v8 v11) (k0_t16 : Fin (k0_t16_loop v8 v11).trips), ∀ a, (k0_off35 v8 v11 k0_t16) a + S1x1x1024x128.size a ≤ S1x1x32768x128.size a := fun v5 v8 v11 k0_hw2 k0_t16 => k0_hw2.1.2.2.2.2.2.2.2.2.2.2.2.2.2.2.2.2.2.2.2.2.2.2.2.2.2.2.2.2.2.2.1 k0_t16
theorem k0_off36_inb : ∀ (v5 : BitVec 32) (v8 : BitVec 32) (v11 : BitVec 32) (k0_hw2 : k0_chk2 v5 v8 v11) (k0_t16 : Fin (k0_t16_loop v8 v11).trips), ∀ a, (k0_off36 v8 v11 k0_t16) a + S1024x256.size a ≤ S32768x256.size a := fun v5 v8 v11 k0_hw2 k0_t16 => k0_hw2.1.2.2.2.2.2.2.2.2.2.2.2.2.2.2.2.2.2.2.2.2.2.2.2.2.2.2.2.2.2.2.2 k0_t16
theorem k0_t17_ok : ∀ (v5 : BitVec 32) (v8 : BitVec 32) (v11 : BitVec 32) (k0_hw2 : k0_chk2 v5 v8 v11), (k0_t17_loop v8 v11).OK := fun v5 v8 v11 k0_hw2 => k0_hw2.2.1.1
theorem k0_mult17_dvd : ∀ (v5 : BitVec 32) (v8 : BitVec 32) (v11 : BitVec 32) (k0_hw2 : k0_chk2 v5 v8 v11) (k0_t17 : Fin (k0_t17_loop v8 v11).trips), 256 ∣ (k0_mult17 v8 v11 k0_t17).toNat := fun v5 v8 v11 k0_hw2 k0_t17 => k0_hw2.2.1.2.1 k0_t17
theorem k0_off37_inb : ∀ (v5 : BitVec 32) (v8 : BitVec 32) (v11 : BitVec 32) (k0_hw2 : k0_chk2 v5 v8 v11) (k0_t17 : Fin (k0_t17_loop v8 v11).trips), ∀ a, (k0_off37 v8 v11 k0_t17) a + S1x1x256x128.size a ≤ S1x1x32768x128.size a := fun v5 v8 v11 k0_hw2 k0_t17 => k0_hw2.2.1.2.2.1 k0_t17
theorem k0_off38_inb : ∀ (v5 : BitVec 32) (v8 : BitVec 32) (v11 : BitVec 32) (k0_hw2 : k0_chk2 v5 v8 v11) (k0_t17 : Fin (k0_t17_loop v8 v11).trips), ∀ a, (k0_off38 v8 v11 k0_t17) a + S256x256.size a ≤ S32768x256.size a := fun v5 v8 v11 k0_hw2 k0_t17 => k0_hw2.2.1.2.2.2.1 k0_t17
theorem k0_t18_ok : ∀ (v5 : BitVec 32) (v8 : BitVec 32) (v11 : BitVec 32) (k0_hw2 : k0_chk2 v5 v8 v11), (k0_t18_loop v8 v11).OK := fun v5 v8 v11 k0_hw2 => k0_hw2.2.1.2.2.2.2.1
theorem k0_mult18_dvd : ∀ (v5 : BitVec 32) (v8 : BitVec 32) (v11 : BitVec 32) (k0_hw2 : k0_chk2 v5 v8 v11) (k0_t18 : Fin (k0_t18_loop v8 v11).trips), 256 ∣ (k0_mult18 v8 v11 k0_t18).toNat := fun v5 v8 v11 k0_hw2 k0_t18 => k0_hw2.2.1.2.2.2.2.2.1 k0_t18
theorem k0_off39_inb : ∀ (v5 : BitVec 32) (v8 : BitVec 32) (v11 : BitVec 32) (k0_hw2 : k0_chk2 v5 v8 v11) (k0_t18 : Fin (k0_t18_loop v8 v11).trips), ∀ a, (k0_off39 v8 v11 k0_t18) a + S1x1x256x128.size a ≤ S1x1x32768x128.size a := fun v5 v8 v11 k0_hw2 k0_t18 => k0_hw2.2.1.2.2.2.2.2.2.1 k0_t18
theorem k0_off40_inb : ∀ (v5 : BitVec 32) (v8 : BitVec 32) (v11 : BitVec 32) (k0_hw2 : k0_chk2 v5 v8 v11) (k0_t18 : Fin (k0_t18_loop v8 v11).trips), ∀ a, (k0_off40 v8 v11 k0_t18) a + S256x256.size a ≤ S32768x256.size a := fun v5 v8 v11 k0_hw2 k0_t18 => k0_hw2.2.1.2.2.2.2.2.2.2.1 k0_t18
theorem k0_t19_ok : ∀ (v5 : BitVec 32) (v8 : BitVec 32) (v11 : BitVec 32) (k0_hw2 : k0_chk2 v5 v8 v11), (k0_t19_loop v5 v11).OK := fun v5 v8 v11 k0_hw2 => k0_hw2.2.1.2.2.2.2.2.2.2.2.1
theorem k0_mult19_dvd : ∀ (v5 : BitVec 32) (v8 : BitVec 32) (v11 : BitVec 32) (k0_hw2 : k0_chk2 v5 v8 v11) (k0_t19 : Fin (k0_t19_loop v5 v11).trips), 256 ∣ (k0_mult19 v5 v11 k0_t19).toNat := fun v5 v8 v11 k0_hw2 k0_t19 => k0_hw2.2.1.2.2.2.2.2.2.2.2.2.1 k0_t19
theorem k0_off41_inb : ∀ (v5 : BitVec 32) (v8 : BitVec 32) (v11 : BitVec 32) (k0_hw2 : k0_chk2 v5 v8 v11) (k0_t19 : Fin (k0_t19_loop v5 v11).trips), ∀ a, (k0_off41 v5 v11 k0_t19) a + S1x1x256x128.size a ≤ S1x1x32768x128.size a := fun v5 v8 v11 k0_hw2 k0_t19 => k0_hw2.2.1.2.2.2.2.2.2.2.2.2.2.1 k0_t19
theorem k0_off42_inb : ∀ (v5 : BitVec 32) (v8 : BitVec 32) (v11 : BitVec 32) (k0_hw2 : k0_chk2 v5 v8 v11) (k0_t19 : Fin (k0_t19_loop v5 v11).trips), ∀ a, (k0_off42 v5 v11 k0_t19) a + S256x256.size a ≤ S32768x256.size a := fun v5 v8 v11 k0_hw2 k0_t19 => k0_hw2.2.1.2.2.2.2.2.2.2.2.2.2.2.1 k0_t19
theorem k0_t20_ok : ∀ (v5 : BitVec 32) (v8 : BitVec 32) (v11 : BitVec 32) (k0_hw2 : k0_chk2 v5 v8 v11), (k0_t20_loop v5 v11).OK := fun v5 v8 v11 k0_hw2 => k0_hw2.2.1.2.2.2.2.2.2.2.2.2.2.2.2.1
theorem k0_mult20_dvd : ∀ (v5 : BitVec 32) (v8 : BitVec 32) (v11 : BitVec 32) (k0_hw2 : k0_chk2 v5 v8 v11) (k0_t20 : Fin (k0_t20_loop v5 v11).trips), 256 ∣ (k0_mult20 v5 v11 k0_t20).toNat := fun v5 v8 v11 k0_hw2 k0_t20 => k0_hw2.2.1.2.2.2.2.2.2.2.2.2.2.2.2.2.1 k0_t20
theorem k0_off43_inb : ∀ (v5 : BitVec 32) (v8 : BitVec 32) (v11 : BitVec 32) (k0_hw2 : k0_chk2 v5 v8 v11) (k0_t20 : Fin (k0_t20_loop v5 v11).trips), ∀ a, (k0_off43 v5 v11 k0_t20) a + S1x1x256x128.size a ≤ S1x1x32768x128.size a := fun v5 v8 v11 k0_hw2 k0_t20 => k0_hw2.2.1.2.2.2.2.2.2.2.2.2.2.2.2.2.2.1 k0_t20
theorem k0_off44_inb : ∀ (v5 : BitVec 32) (v8 : BitVec 32) (v11 : BitVec 32) (k0_hw2 : k0_chk2 v5 v8 v11) (k0_t20 : Fin (k0_t20_loop v5 v11).trips), ∀ a, (k0_off44 v5 v11 k0_t20) a + S256x256.size a ≤ S32768x256.size a := fun v5 v8 v11 k0_hw2 k0_t20 => k0_hw2.2.1.2.2.2.2.2.2.2.2.2.2.2.2.2.2.2.1 k0_t20
theorem k0_t27_ok : ∀ (v5 : BitVec 32) (v8 : BitVec 32) (v11 : BitVec 32) (k0_hw2 : k0_chk2 v5 v8 v11), (k0_t27_loop v8 v11).OK := fun v5 v8 v11 k0_hw2 => k0_hw2.2.1.2.2.2.2.2.2.2.2.2.2.2.2.2.2.2.2.1
theorem k0_mult27_dvd : ∀ (v5 : BitVec 32) (v8 : BitVec 32) (v11 : BitVec 32) (k0_hw2 : k0_chk2 v5 v8 v11) (k0_t27 : Fin (k0_t27_loop v8 v11).trips), 256 ∣ (k0_mult27 v8 v11 k0_t27).toNat := fun v5 v8 v11 k0_hw2 k0_t27 => k0_hw2.2.1.2.2.2.2.2.2.2.2.2.2.2.2.2.2.2.2.2.1 k0_t27
theorem k0_off57_inb : ∀ (v5 : BitVec 32) (v8 : BitVec 32) (v11 : BitVec 32) (k0_hw2 : k0_chk2 v5 v8 v11) (k0_t27 : Fin (k0_t27_loop v8 v11).trips), ∀ a, (k0_off57 v8 v11 k0_t27) a + S1x1x1024x128.size a ≤ S1x1x32768x128.size a := fun v5 v8 v11 k0_hw2 k0_t27 => k0_hw2.2.1.2.2.2.2.2.2.2.2.2.2.2.2.2.2.2.2.2.2.1 k0_t27
theorem k0_off58_inb : ∀ (v5 : BitVec 32) (v8 : BitVec 32) (v11 : BitVec 32) (k0_hw2 : k0_chk2 v5 v8 v11) (k0_t27 : Fin (k0_t27_loop v8 v11).trips), ∀ a, (k0_off58 v8 v11 k0_t27) a + S1024x256.size a ≤ S32768x256.size a := fun v5 v8 v11 k0_hw2 k0_t27 => k0_hw2.2.1.2.2.2.2.2.2.2.2.2.2.2.2.2.2.2.2.2.2.2.1 k0_t27
theorem k0_t28_ok : ∀ (v5 : BitVec 32) (v8 : BitVec 32) (v11 : BitVec 32) (k0_hw2 : k0_chk2 v5 v8 v11), (k0_t28_loop v8 v11).OK := fun v5 v8 v11 k0_hw2 => k0_hw2.2.1.2.2.2.2.2.2.2.2.2.2.2.2.2.2.2.2.2.2.2.2.1
theorem k0_mult28_dvd : ∀ (v5 : BitVec 32) (v8 : BitVec 32) (v11 : BitVec 32) (k0_hw2 : k0_chk2 v5 v8 v11) (k0_t28 : Fin (k0_t28_loop v8 v11).trips), 256 ∣ (k0_mult28 v8 v11 k0_t28).toNat := fun v5 v8 v11 k0_hw2 k0_t28 => k0_hw2.2.1.2.2.2.2.2.2.2.2.2.2.2.2.2.2.2.2.2.2.2.2.2.1 k0_t28
theorem k0_off59_inb : ∀ (v5 : BitVec 32) (v8 : BitVec 32) (v11 : BitVec 32) (k0_hw2 : k0_chk2 v5 v8 v11) (k0_t28 : Fin (k0_t28_loop v8 v11).trips), ∀ a, (k0_off59 v8 v11 k0_t28) a + S1x1x1024x128.size a ≤ S1x1x32768x128.size a := fun v5 v8 v11 k0_hw2 k0_t28 => k0_hw2.2.1.2.2.2.2.2.2.2.2.2.2.2.2.2.2.2.2.2.2.2.2.2.2.1 k0_t28
theorem k0_off60_inb : ∀ (v5 : BitVec 32) (v8 : BitVec 32) (v11 : BitVec 32) (k0_hw2 : k0_chk2 v5 v8 v11) (k0_t28 : Fin (k0_t28_loop v8 v11).trips), ∀ a, (k0_off60 v8 v11 k0_t28) a + S1024x256.size a ≤ S32768x256.size a := fun v5 v8 v11 k0_hw2 k0_t28 => k0_hw2.2.1.2.2.2.2.2.2.2.2.2.2.2.2.2.2.2.2.2.2.2.2.2.2.2.1 k0_t28
theorem k0_t29_ok : ∀ (v5 : BitVec 32) (v8 : BitVec 32) (v11 : BitVec 32) (k0_hw2 : k0_chk2 v5 v8 v11), (k0_t29_loop v8 v11).OK := fun v5 v8 v11 k0_hw2 => k0_hw2.2.1.2.2.2.2.2.2.2.2.2.2.2.2.2.2.2.2.2.2.2.2.2.2.2.2.1
theorem k0_mult29_dvd : ∀ (v5 : BitVec 32) (v8 : BitVec 32) (v11 : BitVec 32) (k0_hw2 : k0_chk2 v5 v8 v11) (k0_t29 : Fin (k0_t29_loop v8 v11).trips), 256 ∣ (k0_mult29 v8 v11 k0_t29).toNat := fun v5 v8 v11 k0_hw2 k0_t29 => k0_hw2.2.1.2.2.2.2.2.2.2.2.2.2.2.2.2.2.2.2.2.2.2.2.2.2.2.2.2.1 k0_t29
theorem k0_off61_inb : ∀ (v5 : BitVec 32) (v8 : BitVec 32) (v11 : BitVec 32) (k0_hw2 : k0_chk2 v5 v8 v11) (k0_t29 : Fin (k0_t29_loop v8 v11).trips), ∀ a, (k0_off61 v8 v11 k0_t29) a + S1x1x256x128.size a ≤ S1x1x32768x128.size a := fun v5 v8 v11 k0_hw2 k0_t29 => k0_hw2.2.1.2.2.2.2.2.2.2.2.2.2.2.2.2.2.2.2.2.2.2.2.2.2.2.2.2.2.1 k0_t29
theorem k0_off62_inb : ∀ (v5 : BitVec 32) (v8 : BitVec 32) (v11 : BitVec 32) (k0_hw2 : k0_chk2 v5 v8 v11) (k0_t29 : Fin (k0_t29_loop v8 v11).trips), ∀ a, (k0_off62 v8 v11 k0_t29) a + S256x256.size a ≤ S32768x256.size a := fun v5 v8 v11 k0_hw2 k0_t29 => k0_hw2.2.1.2.2.2.2.2.2.2.2.2.2.2.2.2.2.2.2.2.2.2.2.2.2.2.2.2.2.2.1 k0_t29
theorem k0_t30_ok : ∀ (v5 : BitVec 32) (v8 : BitVec 32) (v11 : BitVec 32) (k0_hw2 : k0_chk2 v5 v8 v11), (k0_t30_loop v8 v11).OK := fun v5 v8 v11 k0_hw2 => k0_hw2.2.1.2.2.2.2.2.2.2.2.2.2.2.2.2.2.2.2.2.2.2.2.2.2.2.2.2.2.2.2.1
theorem k0_mult30_dvd : ∀ (v5 : BitVec 32) (v8 : BitVec 32) (v11 : BitVec 32) (k0_hw2 : k0_chk2 v5 v8 v11) (k0_t30 : Fin (k0_t30_loop v8 v11).trips), 256 ∣ (k0_mult30 v8 v11 k0_t30).toNat := fun v5 v8 v11 k0_hw2 k0_t30 => k0_hw2.2.1.2.2.2.2.2.2.2.2.2.2.2.2.2.2.2.2.2.2.2.2.2.2.2.2.2.2.2.2.2.1 k0_t30
theorem k0_off63_inb : ∀ (v5 : BitVec 32) (v8 : BitVec 32) (v11 : BitVec 32) (k0_hw2 : k0_chk2 v5 v8 v11) (k0_t30 : Fin (k0_t30_loop v8 v11).trips), ∀ a, (k0_off63 v8 v11 k0_t30) a + S1x1x256x128.size a ≤ S1x1x32768x128.size a := fun v5 v8 v11 k0_hw2 k0_t30 => k0_hw2.2.1.2.2.2.2.2.2.2.2.2.2.2.2.2.2.2.2.2.2.2.2.2.2.2.2.2.2.2.2.2.2.1 k0_t30
theorem k0_off64_inb : ∀ (v5 : BitVec 32) (v8 : BitVec 32) (v11 : BitVec 32) (k0_hw2 : k0_chk2 v5 v8 v11) (k0_t30 : Fin (k0_t30_loop v8 v11).trips), ∀ a, (k0_off64 v8 v11 k0_t30) a + S256x256.size a ≤ S32768x256.size a := fun v5 v8 v11 k0_hw2 k0_t30 => k0_hw2.2.1.2.2.2.2.2.2.2.2.2.2.2.2.2.2.2.2.2.2.2.2.2.2.2.2.2.2.2.2.2.2.2 k0_t30
theorem k0_t31_ok : ∀ (v5 : BitVec 32) (v8 : BitVec 32) (v11 : BitVec 32) (k0_hw2 : k0_chk2 v5 v8 v11), (k0_t31_loop v5 v11).OK := fun v5 v8 v11 k0_hw2 => k0_hw2.2.2.1.1
theorem k0_mult31_dvd : ∀ (v5 : BitVec 32) (v8 : BitVec 32) (v11 : BitVec 32) (k0_hw2 : k0_chk2 v5 v8 v11) (k0_t31 : Fin (k0_t31_loop v5 v11).trips), 256 ∣ (k0_mult31 v5 v11 k0_t31).toNat := fun v5 v8 v11 k0_hw2 k0_t31 => k0_hw2.2.2.1.2.1 k0_t31
theorem k0_off65_inb : ∀ (v5 : BitVec 32) (v8 : BitVec 32) (v11 : BitVec 32) (k0_hw2 : k0_chk2 v5 v8 v11) (k0_t31 : Fin (k0_t31_loop v5 v11).trips), ∀ a, (k0_off65 v5 v11 k0_t31) a + S1x1x256x128.size a ≤ S1x1x32768x128.size a := fun v5 v8 v11 k0_hw2 k0_t31 => k0_hw2.2.2.1.2.2.1 k0_t31
theorem k0_off66_inb : ∀ (v5 : BitVec 32) (v8 : BitVec 32) (v11 : BitVec 32) (k0_hw2 : k0_chk2 v5 v8 v11) (k0_t31 : Fin (k0_t31_loop v5 v11).trips), ∀ a, (k0_off66 v5 v11 k0_t31) a + S256x256.size a ≤ S32768x256.size a := fun v5 v8 v11 k0_hw2 k0_t31 => k0_hw2.2.2.1.2.2.2.1 k0_t31
theorem k0_t32_ok : ∀ (v5 : BitVec 32) (v8 : BitVec 32) (v11 : BitVec 32) (k0_hw2 : k0_chk2 v5 v8 v11), (k0_t32_loop v5 v11).OK := fun v5 v8 v11 k0_hw2 => k0_hw2.2.2.1.2.2.2.2.1
theorem k0_mult32_dvd : ∀ (v5 : BitVec 32) (v8 : BitVec 32) (v11 : BitVec 32) (k0_hw2 : k0_chk2 v5 v8 v11) (k0_t32 : Fin (k0_t32_loop v5 v11).trips), 256 ∣ (k0_mult32 v5 v11 k0_t32).toNat := fun v5 v8 v11 k0_hw2 k0_t32 => k0_hw2.2.2.1.2.2.2.2.2.1 k0_t32
theorem k0_off67_inb : ∀ (v5 : BitVec 32) (v8 : BitVec 32) (v11 : BitVec 32) (k0_hw2 : k0_chk2 v5 v8 v11) (k0_t32 : Fin (k0_t32_loop v5 v11).trips), ∀ a, (k0_off67 v5 v11 k0_t32) a + S1x1x256x128.size a ≤ S1x1x32768x128.size a := fun v5 v8 v11 k0_hw2 k0_t32 => k0_hw2.2.2.1.2.2.2.2.2.2.1 k0_t32
theorem k0_off68_inb : ∀ (v5 : BitVec 32) (v8 : BitVec 32) (v11 : BitVec 32) (k0_hw2 : k0_chk2 v5 v8 v11) (k0_t32 : Fin (k0_t32_loop v5 v11).trips), ∀ a, (k0_off68 v5 v11 k0_t32) a + S256x256.size a ≤ S32768x256.size a := fun v5 v8 v11 k0_hw2 k0_t32 => k0_hw2.2.2.1.2.2.2.2.2.2.2.1 k0_t32
theorem k0_t39_ok : ∀ (v5 : BitVec 32) (v8 : BitVec 32) (v11 : BitVec 32) (k0_hw2 : k0_chk2 v5 v8 v11), (k0_t39_loop v8 v11).OK := fun v5 v8 v11 k0_hw2 => k0_hw2.2.2.1.2.2.2.2.2.2.2.2.1
theorem k0_mult39_dvd : ∀ (v5 : BitVec 32) (v8 : BitVec 32) (v11 : BitVec 32) (k0_hw2 : k0_chk2 v5 v8 v11) (k0_t39 : Fin (k0_t39_loop v8 v11).trips), 256 ∣ (k0_mult39 v8 v11 k0_t39).toNat := fun v5 v8 v11 k0_hw2 k0_t39 => k0_hw2.2.2.1.2.2.2.2.2.2.2.2.2.1 k0_t39
theorem k0_off81_inb : ∀ (v5 : BitVec 32) (v8 : BitVec 32) (v11 : BitVec 32) (k0_hw2 : k0_chk2 v5 v8 v11) (k0_t39 : Fin (k0_t39_loop v8 v11).trips), ∀ a, (k0_off81 v8 v11 k0_t39) a + S1x1x1024x128.size a ≤ S1x1x32768x128.size a := fun v5 v8 v11 k0_hw2 k0_t39 => k0_hw2.2.2.1.2.2.2.2.2.2.2.2.2.2.1 k0_t39
theorem k0_off82_inb : ∀ (v5 : BitVec 32) (v8 : BitVec 32) (v11 : BitVec 32) (k0_hw2 : k0_chk2 v5 v8 v11) (k0_t39 : Fin (k0_t39_loop v8 v11).trips), ∀ a, (k0_off82 v8 v11 k0_t39) a + S1024x256.size a ≤ S32768x256.size a := fun v5 v8 v11 k0_hw2 k0_t39 => k0_hw2.2.2.1.2.2.2.2.2.2.2.2.2.2.2.1 k0_t39
theorem k0_t40_ok : ∀ (v5 : BitVec 32) (v8 : BitVec 32) (v11 : BitVec 32) (k0_hw2 : k0_chk2 v5 v8 v11), (k0_t40_loop v8 v11).OK := fun v5 v8 v11 k0_hw2 => k0_hw2.2.2.1.2.2.2.2.2.2.2.2.2.2.2.2.1
theorem k0_mult40_dvd : ∀ (v5 : BitVec 32) (v8 : BitVec 32) (v11 : BitVec 32) (k0_hw2 : k0_chk2 v5 v8 v11) (k0_t40 : Fin (k0_t40_loop v8 v11).trips), 256 ∣ (k0_mult40 v8 v11 k0_t40).toNat := fun v5 v8 v11 k0_hw2 k0_t40 => k0_hw2.2.2.1.2.2.2.2.2.2.2.2.2.2.2.2.2.1 k0_t40
theorem k0_off83_inb : ∀ (v5 : BitVec 32) (v8 : BitVec 32) (v11 : BitVec 32) (k0_hw2 : k0_chk2 v5 v8 v11) (k0_t40 : Fin (k0_t40_loop v8 v11).trips), ∀ a, (k0_off83 v8 v11 k0_t40) a + S1x1x1024x128.size a ≤ S1x1x32768x128.size a := fun v5 v8 v11 k0_hw2 k0_t40 => k0_hw2.2.2.1.2.2.2.2.2.2.2.2.2.2.2.2.2.2.1 k0_t40
theorem k0_off84_inb : ∀ (v5 : BitVec 32) (v8 : BitVec 32) (v11 : BitVec 32) (k0_hw2 : k0_chk2 v5 v8 v11) (k0_t40 : Fin (k0_t40_loop v8 v11).trips), ∀ a, (k0_off84 v8 v11 k0_t40) a + S1024x256.size a ≤ S32768x256.size a := fun v5 v8 v11 k0_hw2 k0_t40 => k0_hw2.2.2.1.2.2.2.2.2.2.2.2.2.2.2.2.2.2.2.1 k0_t40
theorem k0_t41_ok : ∀ (v5 : BitVec 32) (v8 : BitVec 32) (v11 : BitVec 32) (k0_hw2 : k0_chk2 v5 v8 v11), (k0_t41_loop v8 v11).OK := fun v5 v8 v11 k0_hw2 => k0_hw2.2.2.1.2.2.2.2.2.2.2.2.2.2.2.2.2.2.2.2.1
theorem k0_mult41_dvd : ∀ (v5 : BitVec 32) (v8 : BitVec 32) (v11 : BitVec 32) (k0_hw2 : k0_chk2 v5 v8 v11) (k0_t41 : Fin (k0_t41_loop v8 v11).trips), 256 ∣ (k0_mult41 v8 v11 k0_t41).toNat := fun v5 v8 v11 k0_hw2 k0_t41 => k0_hw2.2.2.1.2.2.2.2.2.2.2.2.2.2.2.2.2.2.2.2.2.1 k0_t41
theorem k0_off85_inb : ∀ (v5 : BitVec 32) (v8 : BitVec 32) (v11 : BitVec 32) (k0_hw2 : k0_chk2 v5 v8 v11) (k0_t41 : Fin (k0_t41_loop v8 v11).trips), ∀ a, (k0_off85 v8 v11 k0_t41) a + S1x1x256x128.size a ≤ S1x1x32768x128.size a := fun v5 v8 v11 k0_hw2 k0_t41 => k0_hw2.2.2.1.2.2.2.2.2.2.2.2.2.2.2.2.2.2.2.2.2.2.1 k0_t41
theorem k0_off86_inb : ∀ (v5 : BitVec 32) (v8 : BitVec 32) (v11 : BitVec 32) (k0_hw2 : k0_chk2 v5 v8 v11) (k0_t41 : Fin (k0_t41_loop v8 v11).trips), ∀ a, (k0_off86 v8 v11 k0_t41) a + S256x256.size a ≤ S32768x256.size a := fun v5 v8 v11 k0_hw2 k0_t41 => k0_hw2.2.2.1.2.2.2.2.2.2.2.2.2.2.2.2.2.2.2.2.2.2.2.1 k0_t41
theorem k0_t42_ok : ∀ (v5 : BitVec 32) (v8 : BitVec 32) (v11 : BitVec 32) (k0_hw2 : k0_chk2 v5 v8 v11), (k0_t42_loop v8 v11).OK := fun v5 v8 v11 k0_hw2 => k0_hw2.2.2.1.2.2.2.2.2.2.2.2.2.2.2.2.2.2.2.2.2.2.2.2.1
theorem k0_mult42_dvd : ∀ (v5 : BitVec 32) (v8 : BitVec 32) (v11 : BitVec 32) (k0_hw2 : k0_chk2 v5 v8 v11) (k0_t42 : Fin (k0_t42_loop v8 v11).trips), 256 ∣ (k0_mult42 v8 v11 k0_t42).toNat := fun v5 v8 v11 k0_hw2 k0_t42 => k0_hw2.2.2.1.2.2.2.2.2.2.2.2.2.2.2.2.2.2.2.2.2.2.2.2.2.1 k0_t42
theorem k0_off87_inb : ∀ (v5 : BitVec 32) (v8 : BitVec 32) (v11 : BitVec 32) (k0_hw2 : k0_chk2 v5 v8 v11) (k0_t42 : Fin (k0_t42_loop v8 v11).trips), ∀ a, (k0_off87 v8 v11 k0_t42) a + S1x1x256x128.size a ≤ S1x1x32768x128.size a := fun v5 v8 v11 k0_hw2 k0_t42 => k0_hw2.2.2.1.2.2.2.2.2.2.2.2.2.2.2.2.2.2.2.2.2.2.2.2.2.2.1 k0_t42
theorem k0_off88_inb : ∀ (v5 : BitVec 32) (v8 : BitVec 32) (v11 : BitVec 32) (k0_hw2 : k0_chk2 v5 v8 v11) (k0_t42 : Fin (k0_t42_loop v8 v11).trips), ∀ a, (k0_off88 v8 v11 k0_t42) a + S256x256.size a ≤ S32768x256.size a := fun v5 v8 v11 k0_hw2 k0_t42 => k0_hw2.2.2.1.2.2.2.2.2.2.2.2.2.2.2.2.2.2.2.2.2.2.2.2.2.2.2.1 k0_t42
theorem k0_t43_ok : ∀ (v5 : BitVec 32) (v8 : BitVec 32) (v11 : BitVec 32) (k0_hw2 : k0_chk2 v5 v8 v11), (k0_t43_loop v5 v11).OK := fun v5 v8 v11 k0_hw2 => k0_hw2.2.2.1.2.2.2.2.2.2.2.2.2.2.2.2.2.2.2.2.2.2.2.2.2.2.2.2.1
theorem k0_mult43_dvd : ∀ (v5 : BitVec 32) (v8 : BitVec 32) (v11 : BitVec 32) (k0_hw2 : k0_chk2 v5 v8 v11) (k0_t43 : Fin (k0_t43_loop v5 v11).trips), 256 ∣ (k0_mult43 v5 v11 k0_t43).toNat := fun v5 v8 v11 k0_hw2 k0_t43 => k0_hw2.2.2.1.2.2.2.2.2.2.2.2.2.2.2.2.2.2.2.2.2.2.2.2.2.2.2.2.2.1 k0_t43
theorem k0_off89_inb : ∀ (v5 : BitVec 32) (v8 : BitVec 32) (v11 : BitVec 32) (k0_hw2 : k0_chk2 v5 v8 v11) (k0_t43 : Fin (k0_t43_loop v5 v11).trips), ∀ a, (k0_off89 v5 v11 k0_t43) a + S1x1x256x128.size a ≤ S1x1x32768x128.size a := fun v5 v8 v11 k0_hw2 k0_t43 => k0_hw2.2.2.1.2.2.2.2.2.2.2.2.2.2.2.2.2.2.2.2.2.2.2.2.2.2.2.2.2.2.1 k0_t43
theorem k0_off90_inb : ∀ (v5 : BitVec 32) (v8 : BitVec 32) (v11 : BitVec 32) (k0_hw2 : k0_chk2 v5 v8 v11) (k0_t43 : Fin (k0_t43_loop v5 v11).trips), ∀ a, (k0_off90 v5 v11 k0_t43) a + S256x256.size a ≤ S32768x256.size a := fun v5 v8 v11 k0_hw2 k0_t43 => k0_hw2.2.2.1.2.2.2.2.2.2.2.2.2.2.2.2.2.2.2.2.2.2.2.2.2.2.2.2.2.2.2.1 k0_t43
theorem k0_t44_ok : ∀ (v5 : BitVec 32) (v8 : BitVec 32) (v11 : BitVec 32) (k0_hw2 : k0_chk2 v5 v8 v11), (k0_t44_loop v5 v11).OK := fun v5 v8 v11 k0_hw2 => k0_hw2.2.2.1.2.2.2.2.2.2.2.2.2.2.2.2.2.2.2.2.2.2.2.2.2.2.2.2.2.2.2.2.1
theorem k0_mult44_dvd : ∀ (v5 : BitVec 32) (v8 : BitVec 32) (v11 : BitVec 32) (k0_hw2 : k0_chk2 v5 v8 v11) (k0_t44 : Fin (k0_t44_loop v5 v11).trips), 256 ∣ (k0_mult44 v5 v11 k0_t44).toNat := fun v5 v8 v11 k0_hw2 k0_t44 => k0_hw2.2.2.1.2.2.2.2.2.2.2.2.2.2.2.2.2.2.2.2.2.2.2.2.2.2.2.2.2.2.2.2.2.1 k0_t44
theorem k0_off91_inb : ∀ (v5 : BitVec 32) (v8 : BitVec 32) (v11 : BitVec 32) (k0_hw2 : k0_chk2 v5 v8 v11) (k0_t44 : Fin (k0_t44_loop v5 v11).trips), ∀ a, (k0_off91 v5 v11 k0_t44) a + S1x1x256x128.size a ≤ S1x1x32768x128.size a := fun v5 v8 v11 k0_hw2 k0_t44 => k0_hw2.2.2.1.2.2.2.2.2.2.2.2.2.2.2.2.2.2.2.2.2.2.2.2.2.2.2.2.2.2.2.2.2.2.1 k0_t44
theorem k0_off92_inb : ∀ (v5 : BitVec 32) (v8 : BitVec 32) (v11 : BitVec 32) (k0_hw2 : k0_chk2 v5 v8 v11) (k0_t44 : Fin (k0_t44_loop v5 v11).trips), ∀ a, (k0_off92 v5 v11 k0_t44) a + S256x256.size a ≤ S32768x256.size a := fun v5 v8 v11 k0_hw2 k0_t44 => k0_hw2.2.2.1.2.2.2.2.2.2.2.2.2.2.2.2.2.2.2.2.2.2.2.2.2.2.2.2.2.2.2.2.2.2.2 k0_t44
theorem k0_t51_ok : ∀ (v5 : BitVec 32) (v8 : BitVec 32) (v11 : BitVec 32) (k0_hw2 : k0_chk2 v5 v8 v11), (k0_t51_loop v8 v11).OK := fun v5 v8 v11 k0_hw2 => k0_hw2.2.2.2.1.1
theorem k0_mult51_dvd : ∀ (v5 : BitVec 32) (v8 : BitVec 32) (v11 : BitVec 32) (k0_hw2 : k0_chk2 v5 v8 v11) (k0_t51 : Fin (k0_t51_loop v8 v11).trips), 256 ∣ (k0_mult51 v8 v11 k0_t51).toNat := fun v5 v8 v11 k0_hw2 k0_t51 => k0_hw2.2.2.2.1.2.1 k0_t51
theorem k0_off105_inb : ∀ (v5 : BitVec 32) (v8 : BitVec 32) (v11 : BitVec 32) (k0_hw2 : k0_chk2 v5 v8 v11) (k0_t51 : Fin (k0_t51_loop v8 v11).trips), ∀ a, (k0_off105 v8 v11 k0_t51) a + S1x1x1024x128.size a ≤ S1x1x32768x128.size a := fun v5 v8 v11 k0_hw2 k0_t51 => k0_hw2.2.2.2.1.2.2.1 k0_t51
theorem k0_off106_inb : ∀ (v5 : BitVec 32) (v8 : BitVec 32) (v11 : BitVec 32) (k0_hw2 : k0_chk2 v5 v8 v11) (k0_t51 : Fin (k0_t51_loop v8 v11).trips), ∀ a, (k0_off106 v8 v11 k0_t51) a + S1024x256.size a ≤ S32768x256.size a := fun v5 v8 v11 k0_hw2 k0_t51 => k0_hw2.2.2.2.1.2.2.2.1 k0_t51
theorem k0_t52_ok : ∀ (v5 : BitVec 32) (v8 : BitVec 32) (v11 : BitVec 32) (k0_hw2 : k0_chk2 v5 v8 v11), (k0_t52_loop v8 v11).OK := fun v5 v8 v11 k0_hw2 => k0_hw2.2.2.2.1.2.2.2.2.1
theorem k0_mult52_dvd : ∀ (v5 : BitVec 32) (v8 : BitVec 32) (v11 : BitVec 32) (k0_hw2 : k0_chk2 v5 v8 v11) (k0_t52 : Fin (k0_t52_loop v8 v11).trips), 256 ∣ (k0_mult52 v8 v11 k0_t52).toNat := fun v5 v8 v11 k0_hw2 k0_t52 => k0_hw2.2.2.2.1.2.2.2.2.2.1 k0_t52
theorem k0_off107_inb : ∀ (v5 : BitVec 32) (v8 : BitVec 32) (v11 : BitVec 32) (k0_hw2 : k0_chk2 v5 v8 v11) (k0_t52 : Fin (k0_t52_loop v8 v11).trips), ∀ a, (k0_off107 v8 v11 k0_t52) a + S1x1x1024x128.size a ≤ S1x1x32768x128.size a := fun v5 v8 v11 k0_hw2 k0_t52 => k0_hw2.2.2.2.1.2.2.2.2.2.2.1 k0_t52
theorem k0_off108_inb : ∀ (v5 : BitVec 32) (v8 : BitVec 32) (v11 : BitVec 32) (k0_hw2 : k0_chk2 v5 v8 v11) (k0_t52 : Fin (k0_t52_loop v8 v11).trips), ∀ a, (k0_off108 v8 v11 k0_t52) a + S1024x256.size a ≤ S32768x256.size a := fun v5 v8 v11 k0_hw2 k0_t52 => k0_hw2.2.2.2.1.2.2.2.2.2.2.2.1 k0_t52
theorem k0_t53_ok : ∀ (v5 : BitVec 32) (v8 : BitVec 32) (v11 : BitVec 32) (k0_hw2 : k0_chk2 v5 v8 v11), (k0_t53_loop v8 v11).OK := fun v5 v8 v11 k0_hw2 => k0_hw2.2.2.2.1.2.2.2.2.2.2.2.2.1
theorem k0_mult53_dvd : ∀ (v5 : BitVec 32) (v8 : BitVec 32) (v11 : BitVec 32) (k0_hw2 : k0_chk2 v5 v8 v11) (k0_t53 : Fin (k0_t53_loop v8 v11).trips), 256 ∣ (k0_mult53 v8 v11 k0_t53).toNat := fun v5 v8 v11 k0_hw2 k0_t53 => k0_hw2.2.2.2.1.2.2.2.2.2.2.2.2.2.1 k0_t53
theorem k0_off109_inb : ∀ (v5 : BitVec 32) (v8 : BitVec 32) (v11 : BitVec 32) (k0_hw2 : k0_chk2 v5 v8 v11) (k0_t53 : Fin (k0_t53_loop v8 v11).trips), ∀ a, (k0_off109 v8 v11 k0_t53) a + S1x1x256x128.size a ≤ S1x1x32768x128.size a := fun v5 v8 v11 k0_hw2 k0_t53 => k0_hw2.2.2.2.1.2.2.2.2.2.2.2.2.2.2.1 k0_t53
theorem k0_off110_inb : ∀ (v5 : BitVec 32) (v8 : BitVec 32) (v11 : BitVec 32) (k0_hw2 : k0_chk2 v5 v8 v11) (k0_t53 : Fin (k0_t53_loop v8 v11).trips), ∀ a, (k0_off110 v8 v11 k0_t53) a + S256x256.size a ≤ S32768x256.size a := fun v5 v8 v11 k0_hw2 k0_t53 => k0_hw2.2.2.2.1.2.2.2.2.2.2.2.2.2.2.2.1 k0_t53
theorem k0_t54_ok : ∀ (v5 : BitVec 32) (v8 : BitVec 32) (v11 : BitVec 32) (k0_hw2 : k0_chk2 v5 v8 v11), (k0_t54_loop v8 v11).OK := fun v5 v8 v11 k0_hw2 => k0_hw2.2.2.2.1.2.2.2.2.2.2.2.2.2.2.2.2.1
theorem k0_mult54_dvd : ∀ (v5 : BitVec 32) (v8 : BitVec 32) (v11 : BitVec 32) (k0_hw2 : k0_chk2 v5 v8 v11) (k0_t54 : Fin (k0_t54_loop v8 v11).trips), 256 ∣ (k0_mult54 v8 v11 k0_t54).toNat := fun v5 v8 v11 k0_hw2 k0_t54 => k0_hw2.2.2.2.1.2.2.2.2.2.2.2.2.2.2.2.2.2.1 k0_t54
theorem k0_off111_inb : ∀ (v5 : BitVec 32) (v8 : BitVec 32) (v11 : BitVec 32) (k0_hw2 : k0_chk2 v5 v8 v11) (k0_t54 : Fin (k0_t54_loop v8 v11).trips), ∀ a, (k0_off111 v8 v11 k0_t54) a + S1x1x256x128.size a ≤ S1x1x32768x128.size a := fun v5 v8 v11 k0_hw2 k0_t54 => k0_hw2.2.2.2.1.2.2.2.2.2.2.2.2.2.2.2.2.2.2.1 k0_t54
theorem k0_off112_inb : ∀ (v5 : BitVec 32) (v8 : BitVec 32) (v11 : BitVec 32) (k0_hw2 : k0_chk2 v5 v8 v11) (k0_t54 : Fin (k0_t54_loop v8 v11).trips), ∀ a, (k0_off112 v8 v11 k0_t54) a + S256x256.size a ≤ S32768x256.size a := fun v5 v8 v11 k0_hw2 k0_t54 => k0_hw2.2.2.2.1.2.2.2.2.2.2.2.2.2.2.2.2.2.2.2.1 k0_t54
theorem k0_t55_ok : ∀ (v5 : BitVec 32) (v8 : BitVec 32) (v11 : BitVec 32) (k0_hw2 : k0_chk2 v5 v8 v11), (k0_t55_loop v5 v11).OK := fun v5 v8 v11 k0_hw2 => k0_hw2.2.2.2.1.2.2.2.2.2.2.2.2.2.2.2.2.2.2.2.2.1
theorem k0_mult55_dvd : ∀ (v5 : BitVec 32) (v8 : BitVec 32) (v11 : BitVec 32) (k0_hw2 : k0_chk2 v5 v8 v11) (k0_t55 : Fin (k0_t55_loop v5 v11).trips), 256 ∣ (k0_mult55 v5 v11 k0_t55).toNat := fun v5 v8 v11 k0_hw2 k0_t55 => k0_hw2.2.2.2.1.2.2.2.2.2.2.2.2.2.2.2.2.2.2.2.2.2.1 k0_t55
theorem k0_off113_inb : ∀ (v5 : BitVec 32) (v8 : BitVec 32) (v11 : BitVec 32) (k0_hw2 : k0_chk2 v5 v8 v11) (k0_t55 : Fin (k0_t55_loop v5 v11).trips), ∀ a, (k0_off113 v5 v11 k0_t55) a + S1x1x256x128.size a ≤ S1x1x32768x128.size a := fun v5 v8 v11 k0_hw2 k0_t55 => k0_hw2.2.2.2.1.2.2.2.2.2.2.2.2.2.2.2.2.2.2.2.2.2.2.1 k0_t55
theorem k0_off114_inb : ∀ (v5 : BitVec 32) (v8 : BitVec 32) (v11 : BitVec 32) (k0_hw2 : k0_chk2 v5 v8 v11) (k0_t55 : Fin (k0_t55_loop v5 v11).trips), ∀ a, (k0_off114 v5 v11 k0_t55) a + S256x256.size a ≤ S32768x256.size a := fun v5 v8 v11 k0_hw2 k0_t55 => k0_hw2.2.2.2.1.2.2.2.2.2.2.2.2.2.2.2.2.2.2.2.2.2.2.2.1 k0_t55
theorem k0_t56_ok : ∀ (v5 : BitVec 32) (v8 : BitVec 32) (v11 : BitVec 32) (k0_hw2 : k0_chk2 v5 v8 v11), (k0_t56_loop v5 v11).OK := fun v5 v8 v11 k0_hw2 => k0_hw2.2.2.2.1.2.2.2.2.2.2.2.2.2.2.2.2.2.2.2.2.2.2.2.2.1
theorem k0_mult56_dvd : ∀ (v5 : BitVec 32) (v8 : BitVec 32) (v11 : BitVec 32) (k0_hw2 : k0_chk2 v5 v8 v11) (k0_t56 : Fin (k0_t56_loop v5 v11).trips), 256 ∣ (k0_mult56 v5 v11 k0_t56).toNat := fun v5 v8 v11 k0_hw2 k0_t56 => k0_hw2.2.2.2.1.2.2.2.2.2.2.2.2.2.2.2.2.2.2.2.2.2.2.2.2.2.1 k0_t56
theorem k0_off115_inb : ∀ (v5 : BitVec 32) (v8 : BitVec 32) (v11 : BitVec 32) (k0_hw2 : k0_chk2 v5 v8 v11) (k0_t56 : Fin (k0_t56_loop v5 v11).trips), ∀ a, (k0_off115 v5 v11 k0_t56) a + S1x1x256x128.size a ≤ S1x1x32768x128.size a := fun v5 v8 v11 k0_hw2 k0_t56 => k0_hw2.2.2.2.1.2.2.2.2.2.2.2.2.2.2.2.2.2.2.2.2.2.2.2.2.2.2.1 k0_t56
theorem k0_off116_inb : ∀ (v5 : BitVec 32) (v8 : BitVec 32) (v11 : BitVec 32) (k0_hw2 : k0_chk2 v5 v8 v11) (k0_t56 : Fin (k0_t56_loop v5 v11).trips), ∀ a, (k0_off116 v5 v11 k0_t56) a + S256x256.size a ≤ S32768x256.size a := fun v5 v8 v11 k0_hw2 k0_t56 => k0_hw2.2.2.2.1.2.2.2.2.2.2.2.2.2.2.2.2.2.2.2.2.2.2.2.2.2.2.2.1 k0_t56
theorem k0_t63_ok : ∀ (v5 : BitVec 32) (v8 : BitVec 32) (v11 : BitVec 32) (k0_hw2 : k0_chk2 v5 v8 v11), (k0_t63_loop v8 v11).OK := fun v5 v8 v11 k0_hw2 => k0_hw2.2.2.2.1.2.2.2.2.2.2.2.2.2.2.2.2.2.2.2.2.2.2.2.2.2.2.2.2.1
theorem k0_mult63_dvd : ∀ (v5 : BitVec 32) (v8 : BitVec 32) (v11 : BitVec 32) (k0_hw2 : k0_chk2 v5 v8 v11) (k0_t63 : Fin (k0_t63_loop v8 v11).trips), 256 ∣ (k0_mult63 v8 v11 k0_t63).toNat := fun v5 v8 v11 k0_hw2 k0_t63 => k0_hw2.2.2.2.1.2.2.2.2.2.2.2.2.2.2.2.2.2.2.2.2.2.2.2.2.2.2.2.2.2.1 k0_t63
theorem k0_off129_inb : ∀ (v5 : BitVec 32) (v8 : BitVec 32) (v11 : BitVec 32) (k0_hw2 : k0_chk2 v5 v8 v11) (k0_t63 : Fin (k0_t63_loop v8 v11).trips), ∀ a, (k0_off129 v8 v11 k0_t63) a + S1x1x1024x128.size a ≤ S1x1x32768x128.size a := fun v5 v8 v11 k0_hw2 k0_t63 => k0_hw2.2.2.2.1.2.2.2.2.2.2.2.2.2.2.2.2.2.2.2.2.2.2.2.2.2.2.2.2.2.2.1 k0_t63
theorem k0_off130_inb : ∀ (v5 : BitVec 32) (v8 : BitVec 32) (v11 : BitVec 32) (k0_hw2 : k0_chk2 v5 v8 v11) (k0_t63 : Fin (k0_t63_loop v8 v11).trips), ∀ a, (k0_off130 v8 v11 k0_t63) a + S1024x256.size a ≤ S32768x256.size a := fun v5 v8 v11 k0_hw2 k0_t63 => k0_hw2.2.2.2.1.2.2.2.2.2.2.2.2.2.2.2.2.2.2.2.2.2.2.2.2.2.2.2.2.2.2.2.1 k0_t63
theorem k0_t64_ok : ∀ (v5 : BitVec 32) (v8 : BitVec 32) (v11 : BitVec 32) (k0_hw2 : k0_chk2 v5 v8 v11), (k0_t64_loop v8 v11).OK := fun v5 v8 v11 k0_hw2 => k0_hw2.2.2.2.1.2.2.2.2.2.2.2.2.2.2.2.2.2.2.2.2.2.2.2.2.2.2.2.2.2.2.2.2.1
theorem k0_mult64_dvd : ∀ (v5 : BitVec 32) (v8 : BitVec 32) (v11 : BitVec 32) (k0_hw2 : k0_chk2 v5 v8 v11) (k0_t64 : Fin (k0_t64_loop v8 v11).trips), 256 ∣ (k0_mult64 v8 v11 k0_t64).toNat := fun v5 v8 v11 k0_hw2 k0_t64 => k0_hw2.2.2.2.1.2.2.2.2.2.2.2.2.2.2.2.2.2.2.2.2.2.2.2.2.2.2.2.2.2.2.2.2.2.1 k0_t64
theorem k0_off131_inb : ∀ (v5 : BitVec 32) (v8 : BitVec 32) (v11 : BitVec 32) (k0_hw2 : k0_chk2 v5 v8 v11) (k0_t64 : Fin (k0_t64_loop v8 v11).trips), ∀ a, (k0_off131 v8 v11 k0_t64) a + S1x1x1024x128.size a ≤ S1x1x32768x128.size a := fun v5 v8 v11 k0_hw2 k0_t64 => k0_hw2.2.2.2.1.2.2.2.2.2.2.2.2.2.2.2.2.2.2.2.2.2.2.2.2.2.2.2.2.2.2.2.2.2.2.1 k0_t64
theorem k0_off132_inb : ∀ (v5 : BitVec 32) (v8 : BitVec 32) (v11 : BitVec 32) (k0_hw2 : k0_chk2 v5 v8 v11) (k0_t64 : Fin (k0_t64_loop v8 v11).trips), ∀ a, (k0_off132 v8 v11 k0_t64) a + S1024x256.size a ≤ S32768x256.size a := fun v5 v8 v11 k0_hw2 k0_t64 => k0_hw2.2.2.2.1.2.2.2.2.2.2.2.2.2.2.2.2.2.2.2.2.2.2.2.2.2.2.2.2.2.2.2.2.2.2.2 k0_t64
theorem k0_t65_ok : ∀ (v5 : BitVec 32) (v8 : BitVec 32) (v11 : BitVec 32) (k0_hw2 : k0_chk2 v5 v8 v11), (k0_t65_loop v8 v11).OK := fun v5 v8 v11 k0_hw2 => k0_hw2.2.2.2.2.1.1
theorem k0_mult65_dvd : ∀ (v5 : BitVec 32) (v8 : BitVec 32) (v11 : BitVec 32) (k0_hw2 : k0_chk2 v5 v8 v11) (k0_t65 : Fin (k0_t65_loop v8 v11).trips), 256 ∣ (k0_mult65 v8 v11 k0_t65).toNat := fun v5 v8 v11 k0_hw2 k0_t65 => k0_hw2.2.2.2.2.1.2.1 k0_t65
theorem k0_off133_inb : ∀ (v5 : BitVec 32) (v8 : BitVec 32) (v11 : BitVec 32) (k0_hw2 : k0_chk2 v5 v8 v11) (k0_t65 : Fin (k0_t65_loop v8 v11).trips), ∀ a, (k0_off133 v8 v11 k0_t65) a + S1x1x256x128.size a ≤ S1x1x32768x128.size a := fun v5 v8 v11 k0_hw2 k0_t65 => k0_hw2.2.2.2.2.1.2.2.1 k0_t65
theorem k0_off134_inb : ∀ (v5 : BitVec 32) (v8 : BitVec 32) (v11 : BitVec 32) (k0_hw2 : k0_chk2 v5 v8 v11) (k0_t65 : Fin (k0_t65_loop v8 v11).trips), ∀ a, (k0_off134 v8 v11 k0_t65) a + S256x256.size a ≤ S32768x256.size a := fun v5 v8 v11 k0_hw2 k0_t65 => k0_hw2.2.2.2.2.1.2.2.2.1 k0_t65
theorem k0_t66_ok : ∀ (v5 : BitVec 32) (v8 : BitVec 32) (v11 : BitVec 32) (k0_hw2 : k0_chk2 v5 v8 v11), (k0_t66_loop v8 v11).OK := fun v5 v8 v11 k0_hw2 => k0_hw2.2.2.2.2.1.2.2.2.2.1
theorem k0_mult66_dvd : ∀ (v5 : BitVec 32) (v8 : BitVec 32) (v11 : BitVec 32) (k0_hw2 : k0_chk2 v5 v8 v11) (k0_t66 : Fin (k0_t66_loop v8 v11).trips), 256 ∣ (k0_mult66 v8 v11 k0_t66).toNat := fun v5 v8 v11 k0_hw2 k0_t66 => k0_hw2.2.2.2.2.1.2.2.2.2.2.1 k0_t66
theorem k0_off135_inb : ∀ (v5 : BitVec 32) (v8 : BitVec 32) (v11 : BitVec 32) (k0_hw2 : k0_chk2 v5 v8 v11) (k0_t66 : Fin (k0_t66_loop v8 v11).trips), ∀ a, (k0_off135 v8 v11 k0_t66) a + S1x1x256x128.size a ≤ S1x1x32768x128.size a := fun v5 v8 v11 k0_hw2 k0_t66 => k0_hw2.2.2.2.2.1.2.2.2.2.2.2.1 k0_t66
theorem k0_off136_inb : ∀ (v5 : BitVec 32) (v8 : BitVec 32) (v11 : BitVec 32) (k0_hw2 : k0_chk2 v5 v8 v11) (k0_t66 : Fin (k0_t66_loop v8 v11).trips), ∀ a, (k0_off136 v8 v11 k0_t66) a + S256x256.size a ≤ S32768x256.size a := fun v5 v8 v11 k0_hw2 k0_t66 => k0_hw2.2.2.2.2.1.2.2.2.2.2.2.2.1 k0_t66
theorem k0_t67_ok : ∀ (v5 : BitVec 32) (v8 : BitVec 32) (v11 : BitVec 32) (k0_hw2 : k0_chk2 v5 v8 v11), (k0_t67_loop v5 v11).OK := fun v5 v8 v11 k0_hw2 => k0_hw2.2.2.2.2.1.2.2.2.2.2.2.2.2.1
theorem k0_mult67_dvd : ∀ (v5 : BitVec 32) (v8 : BitVec 32) (v11 : BitVec 32) (k0_hw2 : k0_chk2 v5 v8 v11) (k0_t67 : Fin (k0_t67_loop v5 v11).trips), 256 ∣ (k0_mult67 v5 v11 k0_t67).toNat := fun v5 v8 v11 k0_hw2 k0_t67 => k0_hw2.2.2.2.2.1.2.2.2.2.2.2.2.2.2.1 k0_t67
theorem k0_off137_inb : ∀ (v5 : BitVec 32) (v8 : BitVec 32) (v11 : BitVec 32) (k0_hw2 : k0_chk2 v5 v8 v11) (k0_t67 : Fin (k0_t67_loop v5 v11).trips), ∀ a, (k0_off137 v5 v11 k0_t67) a + S1x1x256x128.size a ≤ S1x1x32768x128.size a := fun v5 v8 v11 k0_hw2 k0_t67 => k0_hw2.2.2.2.2.1.2.2.2.2.2.2.2.2.2.2.1 k0_t67
theorem k0_off138_inb : ∀ (v5 : BitVec 32) (v8 : BitVec 32) (v11 : BitVec 32) (k0_hw2 : k0_chk2 v5 v8 v11) (k0_t67 : Fin (k0_t67_loop v5 v11).trips), ∀ a, (k0_off138 v5 v11 k0_t67) a + S256x256.size a ≤ S32768x256.size a := fun v5 v8 v11 k0_hw2 k0_t67 => k0_hw2.2.2.2.2.1.2.2.2.2.2.2.2.2.2.2.2.1 k0_t67
theorem k0_t68_ok : ∀ (v5 : BitVec 32) (v8 : BitVec 32) (v11 : BitVec 32) (k0_hw2 : k0_chk2 v5 v8 v11), (k0_t68_loop v5 v11).OK := fun v5 v8 v11 k0_hw2 => k0_hw2.2.2.2.2.1.2.2.2.2.2.2.2.2.2.2.2.2.1
theorem k0_mult68_dvd : ∀ (v5 : BitVec 32) (v8 : BitVec 32) (v11 : BitVec 32) (k0_hw2 : k0_chk2 v5 v8 v11) (k0_t68 : Fin (k0_t68_loop v5 v11).trips), 256 ∣ (k0_mult68 v5 v11 k0_t68).toNat := fun v5 v8 v11 k0_hw2 k0_t68 => k0_hw2.2.2.2.2.1.2.2.2.2.2.2.2.2.2.2.2.2.2.1 k0_t68
theorem k0_off139_inb : ∀ (v5 : BitVec 32) (v8 : BitVec 32) (v11 : BitVec 32) (k0_hw2 : k0_chk2 v5 v8 v11) (k0_t68 : Fin (k0_t68_loop v5 v11).trips), ∀ a, (k0_off139 v5 v11 k0_t68) a + S1x1x256x128.size a ≤ S1x1x32768x128.size a := fun v5 v8 v11 k0_hw2 k0_t68 => k0_hw2.2.2.2.2.1.2.2.2.2.2.2.2.2.2.2.2.2.2.2.1 k0_t68
theorem k0_off140_inb : ∀ (v5 : BitVec 32) (v8 : BitVec 32) (v11 : BitVec 32) (k0_hw2 : k0_chk2 v5 v8 v11) (k0_t68 : Fin (k0_t68_loop v5 v11).trips), ∀ a, (k0_off140 v5 v11 k0_t68) a + S256x256.size a ≤ S32768x256.size a := fun v5 v8 v11 k0_hw2 k0_t68 => k0_hw2.2.2.2.2.1.2.2.2.2.2.2.2.2.2.2.2.2.2.2.2.1 k0_t68
theorem k0_t75_ok : ∀ (v5 : BitVec 32) (v8 : BitVec 32) (v11 : BitVec 32) (k0_hw2 : k0_chk2 v5 v8 v11), (k0_t75_loop v8 v11).OK := fun v5 v8 v11 k0_hw2 => k0_hw2.2.2.2.2.1.2.2.2.2.2.2.2.2.2.2.2.2.2.2.2.2.1
theorem k0_mult75_dvd : ∀ (v5 : BitVec 32) (v8 : BitVec 32) (v11 : BitVec 32) (k0_hw2 : k0_chk2 v5 v8 v11) (k0_t75 : Fin (k0_t75_loop v8 v11).trips), 256 ∣ (k0_mult75 v8 v11 k0_t75).toNat := fun v5 v8 v11 k0_hw2 k0_t75 => k0_hw2.2.2.2.2.1.2.2.2.2.2.2.2.2.2.2.2.2.2.2.2.2.2.1 k0_t75
theorem k0_off153_inb : ∀ (v5 : BitVec 32) (v8 : BitVec 32) (v11 : BitVec 32) (k0_hw2 : k0_chk2 v5 v8 v11) (k0_t75 : Fin (k0_t75_loop v8 v11).trips), ∀ a, (k0_off153 v8 v11 k0_t75) a + S1x1x1024x128.size a ≤ S1x1x32768x128.size a := fun v5 v8 v11 k0_hw2 k0_t75 => k0_hw2.2.2.2.2.1.2.2.2.2.2.2.2.2.2.2.2.2.2.2.2.2.2.2.1 k0_t75
theorem k0_off154_inb : ∀ (v5 : BitVec 32) (v8 : BitVec 32) (v11 : BitVec 32) (k0_hw2 : k0_chk2 v5 v8 v11) (k0_t75 : Fin (k0_t75_loop v8 v11).trips), ∀ a, (k0_off154 v8 v11 k0_t75) a + S1024x256.size a ≤ S32768x256.size a := fun v5 v8 v11 k0_hw2 k0_t75 => k0_hw2.2.2.2.2.1.2.2.2.2.2.2.2.2.2.2.2.2.2.2.2.2.2.2.2.1 k0_t75
theorem k0_t76_ok : ∀ (v5 : BitVec 32) (v8 : BitVec 32) (v11 : BitVec 32) (k0_hw2 : k0_chk2 v5 v8 v11), (k0_t76_loop v8 v11).OK := fun v5 v8 v11 k0_hw2 => k0_hw2.2.2.2.2.1.2.2.2.2.2.2.2.2.2.2.2.2.2.2.2.2.2.2.2.2.1
theorem k0_mult76_dvd : ∀ (v5 : BitVec 32) (v8 : BitVec 32) (v11 : BitVec 32) (k0_hw2 : k0_chk2 v5 v8 v11) (k0_t76 : Fin (k0_t76_loop v8 v11).trips), 256 ∣ (k0_mult76 v8 v11 k0_t76).toNat := fun v5 v8 v11 k0_hw2 k0_t76 => k0_hw2.2.2.2.2.1.2.2.2.2.2.2.2.2.2.2.2.2.2.2.2.2.2.2.2.2.2.1 k0_t76
theorem k0_off155_inb : ∀ (v5 : BitVec 32) (v8 : BitVec 32) (v11 : BitVec 32) (k0_hw2 : k0_chk2 v5 v8 v11) (k0_t76 : Fin (k0_t76_loop v8 v11).trips), ∀ a, (k0_off155 v8 v11 k0_t76) a + S1x1x1024x128.size a ≤ S1x1x32768x128.size a := fun v5 v8 v11 k0_hw2 k0_t76 => k0_hw2.2.2.2.2.1.2.2.2.2.2.2.2.2.2.2.2.2.2.2.2.2.2.2.2.2.2.2.1 k0_t76
theorem k0_off156_inb : ∀ (v5 : BitVec 32) (v8 : BitVec 32) (v11 : BitVec 32) (k0_hw2 : k0_chk2 v5 v8 v11) (k0_t76 : Fin (k0_t76_loop v8 v11).trips), ∀ a, (k0_off156 v8 v11 k0_t76) a + S1024x256.size a ≤ S32768x256.size a := fun v5 v8 v11 k0_hw2 k0_t76 => k0_hw2.2.2.2.2.1.2.2.2.2.2.2.2.2.2.2.2.2.2.2.2.2.2.2.2.2.2.2.2.1 k0_t76
theorem k0_t77_ok : ∀ (v5 : BitVec 32) (v8 : BitVec 32) (v11 : BitVec 32) (k0_hw2 : k0_chk2 v5 v8 v11), (k0_t77_loop v8 v11).OK := fun v5 v8 v11 k0_hw2 => k0_hw2.2.2.2.2.1.2.2.2.2.2.2.2.2.2.2.2.2.2.2.2.2.2.2.2.2.2.2.2.2.1
theorem k0_mult77_dvd : ∀ (v5 : BitVec 32) (v8 : BitVec 32) (v11 : BitVec 32) (k0_hw2 : k0_chk2 v5 v8 v11) (k0_t77 : Fin (k0_t77_loop v8 v11).trips), 256 ∣ (k0_mult77 v8 v11 k0_t77).toNat := fun v5 v8 v11 k0_hw2 k0_t77 => k0_hw2.2.2.2.2.1.2.2.2.2.2.2.2.2.2.2.2.2.2.2.2.2.2.2.2.2.2.2.2.2.2.1 k0_t77
theorem k0_off157_inb : ∀ (v5 : BitVec 32) (v8 : BitVec 32) (v11 : BitVec 32) (k0_hw2 : k0_chk2 v5 v8 v11) (k0_t77 : Fin (k0_t77_loop v8 v11).trips), ∀ a, (k0_off157 v8 v11 k0_t77) a + S1x1x256x128.size a ≤ S1x1x32768x128.size a := fun v5 v8 v11 k0_hw2 k0_t77 => k0_hw2.2.2.2.2.1.2.2.2.2.2.2.2.2.2.2.2.2.2.2.2.2.2.2.2.2.2.2.2.2.2.2.1 k0_t77
theorem k0_off158_inb : ∀ (v5 : BitVec 32) (v8 : BitVec 32) (v11 : BitVec 32) (k0_hw2 : k0_chk2 v5 v8 v11) (k0_t77 : Fin (k0_t77_loop v8 v11).trips), ∀ a, (k0_off158 v8 v11 k0_t77) a + S256x256.size a ≤ S32768x256.size a := fun v5 v8 v11 k0_hw2 k0_t77 => k0_hw2.2.2.2.2.1.2.2.2.2.2.2.2.2.2.2.2.2.2.2.2.2.2.2.2.2.2.2.2.2.2.2.2.1 k0_t77
theorem k0_t78_ok : ∀ (v5 : BitVec 32) (v8 : BitVec 32) (v11 : BitVec 32) (k0_hw2 : k0_chk2 v5 v8 v11), (k0_t78_loop v8 v11).OK := fun v5 v8 v11 k0_hw2 => k0_hw2.2.2.2.2.1.2.2.2.2.2.2.2.2.2.2.2.2.2.2.2.2.2.2.2.2.2.2.2.2.2.2.2.2.1
theorem k0_mult78_dvd : ∀ (v5 : BitVec 32) (v8 : BitVec 32) (v11 : BitVec 32) (k0_hw2 : k0_chk2 v5 v8 v11) (k0_t78 : Fin (k0_t78_loop v8 v11).trips), 256 ∣ (k0_mult78 v8 v11 k0_t78).toNat := fun v5 v8 v11 k0_hw2 k0_t78 => k0_hw2.2.2.2.2.1.2.2.2.2.2.2.2.2.2.2.2.2.2.2.2.2.2.2.2.2.2.2.2.2.2.2.2.2.2.1 k0_t78
theorem k0_off159_inb : ∀ (v5 : BitVec 32) (v8 : BitVec 32) (v11 : BitVec 32) (k0_hw2 : k0_chk2 v5 v8 v11) (k0_t78 : Fin (k0_t78_loop v8 v11).trips), ∀ a, (k0_off159 v8 v11 k0_t78) a + S1x1x256x128.size a ≤ S1x1x32768x128.size a := fun v5 v8 v11 k0_hw2 k0_t78 => k0_hw2.2.2.2.2.1.2.2.2.2.2.2.2.2.2.2.2.2.2.2.2.2.2.2.2.2.2.2.2.2.2.2.2.2.2.2.1 k0_t78
theorem k0_off160_inb : ∀ (v5 : BitVec 32) (v8 : BitVec 32) (v11 : BitVec 32) (k0_hw2 : k0_chk2 v5 v8 v11) (k0_t78 : Fin (k0_t78_loop v8 v11).trips), ∀ a, (k0_off160 v8 v11 k0_t78) a + S256x256.size a ≤ S32768x256.size a := fun v5 v8 v11 k0_hw2 k0_t78 => k0_hw2.2.2.2.2.1.2.2.2.2.2.2.2.2.2.2.2.2.2.2.2.2.2.2.2.2.2.2.2.2.2.2.2.2.2.2.2 k0_t78
theorem k0_t79_ok : ∀ (v5 : BitVec 32) (v8 : BitVec 32) (v11 : BitVec 32) (k0_hw2 : k0_chk2 v5 v8 v11), (k0_t79_loop v5 v11).OK := fun v5 v8 v11 k0_hw2 => k0_hw2.2.2.2.2.2.1
theorem k0_mult79_dvd : ∀ (v5 : BitVec 32) (v8 : BitVec 32) (v11 : BitVec 32) (k0_hw2 : k0_chk2 v5 v8 v11) (k0_t79 : Fin (k0_t79_loop v5 v11).trips), 256 ∣ (k0_mult79 v5 v11 k0_t79).toNat := fun v5 v8 v11 k0_hw2 k0_t79 => k0_hw2.2.2.2.2.2.2.1 k0_t79
theorem k0_off161_inb : ∀ (v5 : BitVec 32) (v8 : BitVec 32) (v11 : BitVec 32) (k0_hw2 : k0_chk2 v5 v8 v11) (k0_t79 : Fin (k0_t79_loop v5 v11).trips), ∀ a, (k0_off161 v5 v11 k0_t79) a + S1x1x256x128.size a ≤ S1x1x32768x128.size a := fun v5 v8 v11 k0_hw2 k0_t79 => k0_hw2.2.2.2.2.2.2.2.1 k0_t79
theorem k0_off162_inb : ∀ (v5 : BitVec 32) (v8 : BitVec 32) (v11 : BitVec 32) (k0_hw2 : k0_chk2 v5 v8 v11) (k0_t79 : Fin (k0_t79_loop v5 v11).trips), ∀ a, (k0_off162 v5 v11 k0_t79) a + S256x256.size a ≤ S32768x256.size a := fun v5 v8 v11 k0_hw2 k0_t79 => k0_hw2.2.2.2.2.2.2.2.2.1 k0_t79
theorem k0_t80_ok : ∀ (v5 : BitVec 32) (v8 : BitVec 32) (v11 : BitVec 32) (k0_hw2 : k0_chk2 v5 v8 v11), (k0_t80_loop v5 v11).OK := fun v5 v8 v11 k0_hw2 => k0_hw2.2.2.2.2.2.2.2.2.2.1
theorem k0_mult80_dvd : ∀ (v5 : BitVec 32) (v8 : BitVec 32) (v11 : BitVec 32) (k0_hw2 : k0_chk2 v5 v8 v11) (k0_t80 : Fin (k0_t80_loop v5 v11).trips), 256 ∣ (k0_mult80 v5 v11 k0_t80).toNat := fun v5 v8 v11 k0_hw2 k0_t80 => k0_hw2.2.2.2.2.2.2.2.2.2.2.1 k0_t80
theorem k0_off163_inb : ∀ (v5 : BitVec 32) (v8 : BitVec 32) (v11 : BitVec 32) (k0_hw2 : k0_chk2 v5 v8 v11) (k0_t80 : Fin (k0_t80_loop v5 v11).trips), ∀ a, (k0_off163 v5 v11 k0_t80) a + S1x1x256x128.size a ≤ S1x1x32768x128.size a := fun v5 v8 v11 k0_hw2 k0_t80 => k0_hw2.2.2.2.2.2.2.2.2.2.2.2.1 k0_t80
theorem k0_off164_inb : ∀ (v5 : BitVec 32) (v8 : BitVec 32) (v11 : BitVec 32) (k0_hw2 : k0_chk2 v5 v8 v11) (k0_t80 : Fin (k0_t80_loop v5 v11).trips), ∀ a, (k0_off164 v5 v11 k0_t80) a + S256x256.size a ≤ S32768x256.size a := fun v5 v8 v11 k0_hw2 k0_t80 => k0_hw2.2.2.2.2.2.2.2.2.2.2.2.2.1 k0_t80
theorem k0_t87_ok : ∀ (v5 : BitVec 32) (v8 : BitVec 32) (v11 : BitVec 32) (k0_hw2 : k0_chk2 v5 v8 v11), (k0_t87_loop v8 v11).OK := fun v5 v8 v11 k0_hw2 => k0_hw2.2.2.2.2.2.2.2.2.2.2.2.2.2.1
theorem k0_mult87_dvd : ∀ (v5 : BitVec 32) (v8 : BitVec 32) (v11 : BitVec 32) (k0_hw2 : k0_chk2 v5 v8 v11) (k0_t87 : Fin (k0_t87_loop v8 v11).trips), 256 ∣ (k0_mult87 v8 v11 k0_t87).toNat := fun v5 v8 v11 k0_hw2 k0_t87 => k0_hw2.2.2.2.2.2.2.2.2.2.2.2.2.2.2.1 k0_t87
theorem k0_off177_inb : ∀ (v5 : BitVec 32) (v8 : BitVec 32) (v11 : BitVec 32) (k0_hw2 : k0_chk2 v5 v8 v11) (k0_t87 : Fin (k0_t87_loop v8 v11).trips), ∀ a, (k0_off177 v8 v11 k0_t87) a + S1x1x1024x128.size a ≤ S1x1x32768x128.size a := fun v5 v8 v11 k0_hw2 k0_t87 => k0_hw2.2.2.2.2.2.2.2.2.2.2.2.2.2.2.2.1 k0_t87
theorem k0_off178_inb : ∀ (v5 : BitVec 32) (v8 : BitVec 32) (v11 : BitVec 32) (k0_hw2 : k0_chk2 v5 v8 v11) (k0_t87 : Fin (k0_t87_loop v8 v11).trips), ∀ a, (k0_off178 v8 v11 k0_t87) a + S1024x256.size a ≤ S32768x256.size a := fun v5 v8 v11 k0_hw2 k0_t87 => k0_hw2.2.2.2.2.2.2.2.2.2.2.2.2.2.2.2.2.1 k0_t87
theorem k0_t88_ok : ∀ (v5 : BitVec 32) (v8 : BitVec 32) (v11 : BitVec 32) (k0_hw2 : k0_chk2 v5 v8 v11), (k0_t88_loop v8 v11).OK := fun v5 v8 v11 k0_hw2 => k0_hw2.2.2.2.2.2.2.2.2.2.2.2.2.2.2.2.2.2.1
theorem k0_mult88_dvd : ∀ (v5 : BitVec 32) (v8 : BitVec 32) (v11 : BitVec 32) (k0_hw2 : k0_chk2 v5 v8 v11) (k0_t88 : Fin (k0_t88_loop v8 v11).trips), 256 ∣ (k0_mult88 v8 v11 k0_t88).toNat := fun v5 v8 v11 k0_hw2 k0_t88 => k0_hw2.2.2.2.2.2.2.2.2.2.2.2.2.2.2.2.2.2.2.1 k0_t88
theorem k0_off179_inb : ∀ (v5 : BitVec 32) (v8 : BitVec 32) (v11 : BitVec 32) (k0_hw2 : k0_chk2 v5 v8 v11) (k0_t88 : Fin (k0_t88_loop v8 v11).trips), ∀ a, (k0_off179 v8 v11 k0_t88) a + S1x1x1024x128.size a ≤ S1x1x32768x128.size a := fun v5 v8 v11 k0_hw2 k0_t88 => k0_hw2.2.2.2.2.2.2.2.2.2.2.2.2.2.2.2.2.2.2.2.1 k0_t88
theorem k0_off180_inb : ∀ (v5 : BitVec 32) (v8 : BitVec 32) (v11 : BitVec 32) (k0_hw2 : k0_chk2 v5 v8 v11) (k0_t88 : Fin (k0_t88_loop v8 v11).trips), ∀ a, (k0_off180 v8 v11 k0_t88) a + S1024x256.size a ≤ S32768x256.size a := fun v5 v8 v11 k0_hw2 k0_t88 => k0_hw2.2.2.2.2.2.2.2.2.2.2.2.2.2.2.2.2.2.2.2.2.1 k0_t88
theorem k0_t89_ok : ∀ (v5 : BitVec 32) (v8 : BitVec 32) (v11 : BitVec 32) (k0_hw2 : k0_chk2 v5 v8 v11), (k0_t89_loop v8 v11).OK := fun v5 v8 v11 k0_hw2 => k0_hw2.2.2.2.2.2.2.2.2.2.2.2.2.2.2.2.2.2.2.2.2.2.1
theorem k0_mult89_dvd : ∀ (v5 : BitVec 32) (v8 : BitVec 32) (v11 : BitVec 32) (k0_hw2 : k0_chk2 v5 v8 v11) (k0_t89 : Fin (k0_t89_loop v8 v11).trips), 256 ∣ (k0_mult89 v8 v11 k0_t89).toNat := fun v5 v8 v11 k0_hw2 k0_t89 => k0_hw2.2.2.2.2.2.2.2.2.2.2.2.2.2.2.2.2.2.2.2.2.2.2.1 k0_t89
theorem k0_off181_inb : ∀ (v5 : BitVec 32) (v8 : BitVec 32) (v11 : BitVec 32) (k0_hw2 : k0_chk2 v5 v8 v11) (k0_t89 : Fin (k0_t89_loop v8 v11).trips), ∀ a, (k0_off181 v8 v11 k0_t89) a + S1x1x256x128.size a ≤ S1x1x32768x128.size a := fun v5 v8 v11 k0_hw2 k0_t89 => k0_hw2.2.2.2.2.2.2.2.2.2.2.2.2.2.2.2.2.2.2.2.2.2.2.2.1 k0_t89
theorem k0_off182_inb : ∀ (v5 : BitVec 32) (v8 : BitVec 32) (v11 : BitVec 32) (k0_hw2 : k0_chk2 v5 v8 v11) (k0_t89 : Fin (k0_t89_loop v8 v11).trips), ∀ a, (k0_off182 v8 v11 k0_t89) a + S256x256.size a ≤ S32768x256.size a := fun v5 v8 v11 k0_hw2 k0_t89 => k0_hw2.2.2.2.2.2.2.2.2.2.2.2.2.2.2.2.2.2.2.2.2.2.2.2.2.1 k0_t89
theorem k0_t90_ok : ∀ (v5 : BitVec 32) (v8 : BitVec 32) (v11 : BitVec 32) (k0_hw2 : k0_chk2 v5 v8 v11), (k0_t90_loop v8 v11).OK := fun v5 v8 v11 k0_hw2 => k0_hw2.2.2.2.2.2.2.2.2.2.2.2.2.2.2.2.2.2.2.2.2.2.2.2.2.2.1
theorem k0_mult90_dvd : ∀ (v5 : BitVec 32) (v8 : BitVec 32) (v11 : BitVec 32) (k0_hw2 : k0_chk2 v5 v8 v11) (k0_t90 : Fin (k0_t90_loop v8 v11).trips), 256 ∣ (k0_mult90 v8 v11 k0_t90).toNat := fun v5 v8 v11 k0_hw2 k0_t90 => k0_hw2.2.2.2.2.2.2.2.2.2.2.2.2.2.2.2.2.2.2.2.2.2.2.2.2.2.2.1 k0_t90
theorem k0_off183_inb : ∀ (v5 : BitVec 32) (v8 : BitVec 32) (v11 : BitVec 32) (k0_hw2 : k0_chk2 v5 v8 v11) (k0_t90 : Fin (k0_t90_loop v8 v11).trips), ∀ a, (k0_off183 v8 v11 k0_t90) a + S1x1x256x128.size a ≤ S1x1x32768x128.size a := fun v5 v8 v11 k0_hw2 k0_t90 => k0_hw2.2.2.2.2.2.2.2.2.2.2.2.2.2.2.2.2.2.2.2.2.2.2.2.2.2.2.2.1 k0_t90
theorem k0_off184_inb : ∀ (v5 : BitVec 32) (v8 : BitVec 32) (v11 : BitVec 32) (k0_hw2 : k0_chk2 v5 v8 v11) (k0_t90 : Fin (k0_t90_loop v8 v11).trips), ∀ a, (k0_off184 v8 v11 k0_t90) a + S256x256.size a ≤ S32768x256.size a := fun v5 v8 v11 k0_hw2 k0_t90 => k0_hw2.2.2.2.2.2.2.2.2.2.2.2.2.2.2.2.2.2.2.2.2.2.2.2.2.2.2.2.2.1 k0_t90
theorem k0_t91_ok : ∀ (v5 : BitVec 32) (v8 : BitVec 32) (v11 : BitVec 32) (k0_hw2 : k0_chk2 v5 v8 v11), (k0_t91_loop v5 v11).OK := fun v5 v8 v11 k0_hw2 => k0_hw2.2.2.2.2.2.2.2.2.2.2.2.2.2.2.2.2.2.2.2.2.2.2.2.2.2.2.2.2.2.1
theorem k0_mult91_dvd : ∀ (v5 : BitVec 32) (v8 : BitVec 32) (v11 : BitVec 32) (k0_hw2 : k0_chk2 v5 v8 v11) (k0_t91 : Fin (k0_t91_loop v5 v11).trips), 256 ∣ (k0_mult91 v5 v11 k0_t91).toNat := fun v5 v8 v11 k0_hw2 k0_t91 => k0_hw2.2.2.2.2.2.2.2.2.2.2.2.2.2.2.2.2.2.2.2.2.2.2.2.2.2.2.2.2.2.2.1 k0_t91
theorem k0_off185_inb : ∀ (v5 : BitVec 32) (v8 : BitVec 32) (v11 : BitVec 32) (k0_hw2 : k0_chk2 v5 v8 v11) (k0_t91 : Fin (k0_t91_loop v5 v11).trips), ∀ a, (k0_off185 v5 v11 k0_t91) a + S1x1x256x128.size a ≤ S1x1x32768x128.size a := fun v5 v8 v11 k0_hw2 k0_t91 => k0_hw2.2.2.2.2.2.2.2.2.2.2.2.2.2.2.2.2.2.2.2.2.2.2.2.2.2.2.2.2.2.2.2.1 k0_t91
theorem k0_off186_inb : ∀ (v5 : BitVec 32) (v8 : BitVec 32) (v11 : BitVec 32) (k0_hw2 : k0_chk2 v5 v8 v11) (k0_t91 : Fin (k0_t91_loop v5 v11).trips), ∀ a, (k0_off186 v5 v11 k0_t91) a + S256x256.size a ≤ S32768x256.size a := fun v5 v8 v11 k0_hw2 k0_t91 => k0_hw2.2.2.2.2.2.2.2.2.2.2.2.2.2.2.2.2.2.2.2.2.2.2.2.2.2.2.2.2.2.2.2.2.1 k0_t91
theorem k0_t92_ok : ∀ (v5 : BitVec 32) (v8 : BitVec 32) (v11 : BitVec 32) (k0_hw2 : k0_chk2 v5 v8 v11), (k0_t92_loop v5 v11).OK := fun v5 v8 v11 k0_hw2 => k0_hw2.2.2.2.2.2.2.2.2.2.2.2.2.2.2.2.2.2.2.2.2.2.2.2.2.2.2.2.2.2.2.2.2.2.1
theorem k0_mult92_dvd : ∀ (v5 : BitVec 32) (v8 : BitVec 32) (v11 : BitVec 32) (k0_hw2 : k0_chk2 v5 v8 v11) (k0_t92 : Fin (k0_t92_loop v5 v11).trips), 256 ∣ (k0_mult92 v5 v11 k0_t92).toNat := fun v5 v8 v11 k0_hw2 k0_t92 => k0_hw2.2.2.2.2.2.2.2.2.2.2.2.2.2.2.2.2.2.2.2.2.2.2.2.2.2.2.2.2.2.2.2.2.2.2.1 k0_t92
theorem k0_off187_inb : ∀ (v5 : BitVec 32) (v8 : BitVec 32) (v11 : BitVec 32) (k0_hw2 : k0_chk2 v5 v8 v11) (k0_t92 : Fin (k0_t92_loop v5 v11).trips), ∀ a, (k0_off187 v5 v11 k0_t92) a + S1x1x256x128.size a ≤ S1x1x32768x128.size a := fun v5 v8 v11 k0_hw2 k0_t92 => k0_hw2.2.2.2.2.2.2.2.2.2.2.2.2.2.2.2.2.2.2.2.2.2.2.2.2.2.2.2.2.2.2.2.2.2.2.2.1 k0_t92
theorem k0_off188_inb : ∀ (v5 : BitVec 32) (v8 : BitVec 32) (v11 : BitVec 32) (k0_hw2 : k0_chk2 v5 v8 v11) (k0_t92 : Fin (k0_t92_loop v5 v11).trips), ∀ a, (k0_off188 v5 v11 k0_t92) a + S256x256.size a ≤ S32768x256.size a := fun v5 v8 v11 k0_hw2 k0_t92 => k0_hw2.2.2.2.2.2.2.2.2.2.2.2.2.2.2.2.2.2.2.2.2.2.2.2.2.2.2.2.2.2.2.2.2.2.2.2.2 k0_t92

@[reducible] def k0_t93_loop (v2 : BitVec 32) (v5 : BitVec 32) : Scf.Loop 32 :=
  let c0_i32_422 : BitVec 32 := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let v857 : BitVec 32 := Scalar.subi v856 c0_i32_422
  let c1_i32_423 : BitVec 32 := 1#32
  let v859 : BitVec 32 := Scalar.divsi v857 c1_i32_423
  let v860 : BitVec 32 := Scalar.muli v859 c1_i32_423
  let v861 : BitVec 32 := Scalar.addi c0_i32_422 v860
  let c1_i32_424 : BitVec 32 := 1#32
  ⟨c0_i32_422, v861, c1_i32_424⟩
def k0_mult93 (v2 : BitVec 32) (v5 : BitVec 32) (k0_t93 : Fin (k0_t93_loop v2 v5).trips) : BitVec 32 :=
  let c0_i32_422 : BitVec 32 := 0#32
  let c1_i32_424 : BitVec 32 := 1#32
  let arg14 : BitVec 32 := Scf.iv c0_i32_422 c1_i32_424 k0_t93
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off189 (v2 : BitVec 32) (v5 : BitVec 32) (k0_t93 : Fin (k0_t93_loop v2 v5).trips) : Fin 2 → Nat :=
  let c0_i32_422 : BitVec 32 := 0#32
  let c1_i32_424 : BitVec 32 := 1#32
  let arg14 : BitVec 32 := Scf.iv c0_i32_422 c1_i32_424 k0_t93
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off190 (v2 : BitVec 32) (v5 : BitVec 32) (k0_t93 : Fin (k0_t93_loop v2 v5).trips) : Fin 4 → Nat :=
  let c0_444 : Index := 0#32
  let c0_445 : Index := 0#32
  let c0_446 : Index := 0#32
  let c0_i32_422 : BitVec 32 := 0#32
  let c1_i32_424 : BitVec 32 := 1#32
  let arg14 : BitVec 32 := Scf.iv c0_i32_422 c1_i32_424 k0_t93
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t94_loop (v2 : BitVec 32) (v5 : BitVec 32) : Scf.Loop 32 :=
  let c0_i32_422 : BitVec 32 := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let v857 : BitVec 32 := Scalar.subi v856 c0_i32_422
  let c1_i32_423 : BitVec 32 := 1#32
  let v859 : BitVec 32 := Scalar.divsi v857 c1_i32_423
  let v860 : BitVec 32 := Scalar.muli v859 c1_i32_423
  let v861 : BitVec 32 := Scalar.addi c0_i32_422 v860
  let v858 : BitVec 32 := Scalar.addi c0_i32_422 v857
  let c1_i32_425 : BitVec 32 := 1#32
  ⟨v861, v858, c1_i32_425⟩
def k0_mult94 (v2 : BitVec 32) (v5 : BitVec 32) (k0_t94 : Fin (k0_t94_loop v2 v5).trips) : BitVec 32 :=
  let c0_i32_422 : BitVec 32 := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let v857 : BitVec 32 := Scalar.subi v856 c0_i32_422
  let c1_i32_423 : BitVec 32 := 1#32
  let v859 : BitVec 32 := Scalar.divsi v857 c1_i32_423
  let v860 : BitVec 32 := Scalar.muli v859 c1_i32_423
  let v861 : BitVec 32 := Scalar.addi c0_i32_422 v860
  let c1_i32_425 : BitVec 32 := 1#32
  let arg14 : BitVec 32 := Scf.iv v861 c1_i32_425 k0_t94
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  v891
def k0_off191 (v2 : BitVec 32) (v5 : BitVec 32) (k0_t94 : Fin (k0_t94_loop v2 v5).trips) : Fin 2 → Nat :=
  let c0_i32_422 : BitVec 32 := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let v857 : BitVec 32 := Scalar.subi v856 c0_i32_422
  let c1_i32_423 : BitVec 32 := 1#32
  let v859 : BitVec 32 := Scalar.divsi v857 c1_i32_423
  let v860 : BitVec 32 := Scalar.muli v859 c1_i32_423
  let v861 : BitVec 32 := Scalar.addi c0_i32_422 v860
  let c1_i32_425 : BitVec 32 := 1#32
  let arg14 : BitVec 32 := Scf.iv v861 c1_i32_425 k0_t94
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v893 : Index := Scalar.indexCast v892
  let c0_440 : Index := 0#32
  ![v893.toNat, 0]
def k0_off192 (v2 : BitVec 32) (v5 : BitVec 32) (k0_t94 : Fin (k0_t94_loop v2 v5).trips) : Fin 4 → Nat :=
  let c0_444 : Index := 0#32
  let c0_445 : Index := 0#32
  let c0_446 : Index := 0#32
  let c0_i32_422 : BitVec 32 := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let v857 : BitVec 32 := Scalar.subi v856 c0_i32_422
  let c1_i32_423 : BitVec 32 := 1#32
  let v859 : BitVec 32 := Scalar.divsi v857 c1_i32_423
  let v860 : BitVec 32 := Scalar.muli v859 c1_i32_423
  let v861 : BitVec 32 := Scalar.addi c0_i32_422 v860
  let c1_i32_425 : BitVec 32 := 1#32
  let arg14 : BitVec 32 := Scf.iv v861 c1_i32_425 k0_t94
  let c4_i32_439 : BitVec 32 := 4#32
  let v889 : BitVec 32 := Scalar.muli arg14 c4_i32_439
  let v890 : BitVec 32 := Scalar.addi v2 v889
  let c256_i32 : BitVec 32 := 256#32
  let v891 : BitVec 32 := Scalar.muli v890 c256_i32
  let v892 : BitVec 32 := v891
  let v908 : Index := Scalar.indexCast v892
  ![0, 0, 0, v908.toNat]
@[reducible] def k0_t95_loop (v2 : BitVec 32) (v5 : BitVec 32) : Scf.Loop 32 :=
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let v866 : BitVec 32 := Scalar.subi v5 v865
  let c1_i32_427 : BitVec 32 := 1#32
  let v868 : BitVec 32 := Scalar.divsi v866 c1_i32_427
  let v869 : BitVec 32 := Scalar.muli v868 c1_i32_427
  let v870 : BitVec 32 := Scalar.addi v865 v869
  let c1_i32_428 : BitVec 32 := 1#32
  ⟨v865, v870, c1_i32_428⟩
def k0_mult95 (v2 : BitVec 32) (v5 : BitVec 32) (k0_t95 : Fin (k0_t95_loop v2 v5).trips) : BitVec 32 :=
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let c1_i32_428 : BitVec 32 := 1#32
  let arg14 : BitVec 32 := Scf.iv v865 c1_i32_428 k0_t95
  let c256_i32 : BitVec 32 := 256#32
  let v889 : BitVec 32 := Scalar.muli arg14 c256_i32
  v889
def k0_off193 (v2 : BitVec 32) (v5 : BitVec 32) (k0_t95 : Fin (k0_t95_loop v2 v5).trips) : Fin 2 → Nat :=
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let c1_i32_428 : BitVec 32 := 1#32
  let arg14 : BitVec 32 := Scf.iv v865 c1_i32_428 k0_t95
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off194 (v2 : BitVec 32) (v5 : BitVec 32) (k0_t95 : Fin (k0_t95_loop v2 v5).trips) : Fin 4 → Nat :=
  let c0_443 : Index := 0#32
  let c0_444 : Index := 0#32
  let c0_445 : Index := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let c1_i32_428 : BitVec 32 := 1#32
  let arg14 : BitVec 32 := Scf.iv v865 c1_i32_428 k0_t95
  let c256_i32 : BitVec 32 := 256#32
  let v889 : BitVec 32 := Scalar.muli arg14 c256_i32
  let v890 : BitVec 32 := v889
  let v906 : Index := Scalar.indexCast v890
  ![0, 0, 0, v906.toNat]
@[reducible] def k0_t96_loop (v2 : BitVec 32) (v5 : BitVec 32) : Scf.Loop 32 :=
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let v866 : BitVec 32 := Scalar.subi v5 v865
  let c1_i32_427 : BitVec 32 := 1#32
  let v868 : BitVec 32 := Scalar.divsi v866 c1_i32_427
  let v869 : BitVec 32 := Scalar.muli v868 c1_i32_427
  let v870 : BitVec 32 := Scalar.addi v865 v869
  let v867 : BitVec 32 := Scalar.addi v865 v866
  let c1_i32_429 : BitVec 32 := 1#32
  ⟨v870, v867, c1_i32_429⟩
def k0_mult96 (v2 : BitVec 32) (v5 : BitVec 32) (k0_t96 : Fin (k0_t96_loop v2 v5).trips) : BitVec 32 :=
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let v866 : BitVec 32 := Scalar.subi v5 v865
  let c1_i32_427 : BitVec 32 := 1#32
  let v868 : BitVec 32 := Scalar.divsi v866 c1_i32_427
  let v869 : BitVec 32 := Scalar.muli v868 c1_i32_427
  let v870 : BitVec 32 := Scalar.addi v865 v869
  let c1_i32_429 : BitVec 32 := 1#32
  let arg14 : BitVec 32 := Scf.iv v870 c1_i32_429 k0_t96
  let c256_i32 : BitVec 32 := 256#32
  let v889 : BitVec 32 := Scalar.muli arg14 c256_i32
  v889
def k0_off195 (v2 : BitVec 32) (v5 : BitVec 32) (k0_t96 : Fin (k0_t96_loop v2 v5).trips) : Fin 2 → Nat :=
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let v866 : BitVec 32 := Scalar.subi v5 v865
  let c1_i32_427 : BitVec 32 := 1#32
  let v868 : BitVec 32 := Scalar.divsi v866 c1_i32_427
  let v869 : BitVec 32 := Scalar.muli v868 c1_i32_427
  let v870 : BitVec 32 := Scalar.addi v865 v869
  let c1_i32_429 : BitVec 32 := 1#32
  let arg14 : BitVec 32 := Scf.iv v870 c1_i32_429 k0_t96
  let c256_i32 : BitVec 32 := 256#32
  let v889 : BitVec 32 := Scalar.muli arg14 c256_i32
  let v890 : BitVec 32 := v889
  let v891 : Index := Scalar.indexCast v890
  let c0_439 : Index := 0#32
  ![v891.toNat, 0]
def k0_off196 (v2 : BitVec 32) (v5 : BitVec 32) (k0_t96 : Fin (k0_t96_loop v2 v5).trips) : Fin 4 → Nat :=
  let c0_443 : Index := 0#32
  let c0_444 : Index := 0#32
  let c0_445 : Index := 0#32
  let v839 : BitVec 32 := Scalar.subi v5 v2
  let c0_i32_416 : BitVec 32 := 0#32
  let v841 : BitVec 1 := Scalar.cmpi .sgt v839 c0_i32_416
  let v842 : BitVec 32 := Scalar.extui v841
  let c0_i32_417 : BitVec 32 := 0#32
  let v843 : BitVec 1 := Scalar.cmpi .slt v839 c0_i32_417
  let v844 : BitVec 32 := Scalar.extui v843
  let v845 : BitVec 32 := Scalar.subi v842 v844
  let c4_i32_415 : BitVec 32 := 4#32
  let c0_i32_418 : BitVec 32 := 0#32
  let v846 : BitVec 1 := Scalar.cmpi .sgt c4_i32_415 c0_i32_418
  let v847 : BitVec 32 := Scalar.extui v846
  let c0_i32_419 : BitVec 32 := 0#32
  let v848 : BitVec 1 := Scalar.cmpi .slt c4_i32_415 c0_i32_419
  let v849 : BitVec 32 := Scalar.extui v848
  let v850 : BitVec 32 := Scalar.subi v847 v849
  let v851 : BitVec 1 := Scalar.cmpi .ne v845 v850
  let v852 : BitVec 32 := Scalar.remsi v839 c4_i32_415
  let c0_i32_420 : BitVec 32 := 0#32
  let v853 : BitVec 1 := Scalar.cmpi .ne v852 c0_i32_420
  let v854 : BitVec 1 := Scalar.andi v851 v853
  let v840 : BitVec 32 := Scalar.divsi v839 c4_i32_415
  let c1_i32_421 : BitVec 32 := 1#32
  let v855 : BitVec 32 := Scalar.subi v840 c1_i32_421
  let v856 : BitVec 32 := Scalar.select v854 v855 v840
  let c4_i32_426 : BitVec 32 := 4#32
  let v864 : BitVec 32 := Scalar.muli v856 c4_i32_426
  let v865 : BitVec 32 := Scalar.addi v2 v864
  let v866 : BitVec 32 := Scalar.subi v5 v865
  let c1_i32_427 : BitVec 32 := 1#32
  let v868 : BitVec 32 := Scalar.divsi v866 c1_i32_427
  let v869 : BitVec 32 := Scalar.muli v868 c1_i32_427
  let v870 : BitVec 32 := Scalar.addi v865 v869
  let c1_i32_429 : BitVec 32 := 1#32
  let arg14 : BitVec 32 := Scf.iv v870 c1_i32_429 k0_t96
  let c256_i32 : BitVec 32 := 256#32
  let v889 : BitVec 32 := Scalar.muli arg14 c256_i32
  let v890 : BitVec 32 := v889
  let v906 : Index := Scalar.indexCast v890
  ![0, 0, 0, v906.toNat]

def k0_chk3_0 (v2 : BitVec 32) (v5 : BitVec 32) : Prop :=
  ((k0_t9_loop v2 v5).OK) ∧
  (∀ k0_t9 : Fin (k0_t9_loop v2 v5).trips, 256 ∣ (k0_mult9 v2 v5 k0_t9).toNat) ∧
  (∀ k0_t9 : Fin (k0_t9_loop v2 v5).trips, ∀ a, (k0_off21 v2 v5 k0_t9) a + S1024x256.size a ≤ S32768x256.size a) ∧
  (∀ k0_t9 : Fin (k0_t9_loop v2 v5).trips, ∀ a, (k0_off22 v2 v5 k0_t9) a + S1x1x128x1024.size a ≤ S1x1x128x32768.size a) ∧
  ((k0_t10_loop v2 v5).OK) ∧
  (∀ k0_t10 : Fin (k0_t10_loop v2 v5).trips, 256 ∣ (k0_mult10 v2 v5 k0_t10).toNat) ∧
  (∀ k0_t10 : Fin (k0_t10_loop v2 v5).trips, ∀ a, (k0_off23 v2 v5 k0_t10) a + S1024x256.size a ≤ S32768x256.size a) ∧
  (∀ k0_t10 : Fin (k0_t10_loop v2 v5).trips, ∀ a, (k0_off24 v2 v5 k0_t10) a + S1x1x128x1024.size a ≤ S1x1x128x32768.size a) ∧
  ((k0_t11_loop v2 v5).OK) ∧
  (∀ k0_t11 : Fin (k0_t11_loop v2 v5).trips, 256 ∣ (k0_mult11 v2 v5 k0_t11).toNat) ∧
  (∀ k0_t11 : Fin (k0_t11_loop v2 v5).trips, ∀ a, (k0_off25 v2 v5 k0_t11) a + S256x256.size a ≤ S32768x256.size a) ∧
  (∀ k0_t11 : Fin (k0_t11_loop v2 v5).trips, ∀ a, (k0_off26 v2 v5 k0_t11) a + S1x1x128x256.size a ≤ S1x1x128x32768.size a) ∧
  ((k0_t12_loop v2 v5).OK) ∧
  (∀ k0_t12 : Fin (k0_t12_loop v2 v5).trips, 256 ∣ (k0_mult12 v2 v5 k0_t12).toNat) ∧
  (∀ k0_t12 : Fin (k0_t12_loop v2 v5).trips, ∀ a, (k0_off27 v2 v5 k0_t12) a + S256x256.size a ≤ S32768x256.size a) ∧
  (∀ k0_t12 : Fin (k0_t12_loop v2 v5).trips, ∀ a, (k0_off28 v2 v5 k0_t12) a + S1x1x128x256.size a ≤ S1x1x128x32768.size a) ∧
  ((k0_t21_loop v2 v5).OK) ∧
  (∀ k0_t21 : Fin (k0_t21_loop v2 v5).trips, 256 ∣ (k0_mult21 v2 v5 k0_t21).toNat) ∧
  (∀ k0_t21 : Fin (k0_t21_loop v2 v5).trips, ∀ a, (k0_off45 v2 v5 k0_t21) a + S1024x256.size a ≤ S32768x256.size a) ∧
  (∀ k0_t21 : Fin (k0_t21_loop v2 v5).trips, ∀ a, (k0_off46 v2 v5 k0_t21) a + S1x1x128x1024.size a ≤ S1x1x128x32768.size a) ∧
  ((k0_t22_loop v2 v5).OK) ∧
  (∀ k0_t22 : Fin (k0_t22_loop v2 v5).trips, 256 ∣ (k0_mult22 v2 v5 k0_t22).toNat) ∧
  (∀ k0_t22 : Fin (k0_t22_loop v2 v5).trips, ∀ a, (k0_off47 v2 v5 k0_t22) a + S1024x256.size a ≤ S32768x256.size a) ∧
  (∀ k0_t22 : Fin (k0_t22_loop v2 v5).trips, ∀ a, (k0_off48 v2 v5 k0_t22) a + S1x1x128x1024.size a ≤ S1x1x128x32768.size a) ∧
  ((k0_t23_loop v2 v5).OK) ∧
  (∀ k0_t23 : Fin (k0_t23_loop v2 v5).trips, 256 ∣ (k0_mult23 v2 v5 k0_t23).toNat) ∧
  (∀ k0_t23 : Fin (k0_t23_loop v2 v5).trips, ∀ a, (k0_off49 v2 v5 k0_t23) a + S256x256.size a ≤ S32768x256.size a) ∧
  (∀ k0_t23 : Fin (k0_t23_loop v2 v5).trips, ∀ a, (k0_off50 v2 v5 k0_t23) a + S1x1x128x256.size a ≤ S1x1x128x32768.size a) ∧
  ((k0_t24_loop v2 v5).OK) ∧
  (∀ k0_t24 : Fin (k0_t24_loop v2 v5).trips, 256 ∣ (k0_mult24 v2 v5 k0_t24).toNat) ∧
  (∀ k0_t24 : Fin (k0_t24_loop v2 v5).trips, ∀ a, (k0_off51 v2 v5 k0_t24) a + S256x256.size a ≤ S32768x256.size a) ∧
  (∀ k0_t24 : Fin (k0_t24_loop v2 v5).trips, ∀ a, (k0_off52 v2 v5 k0_t24) a + S1x1x128x256.size a ≤ S1x1x128x32768.size a)
def k0_chk3_1 (v2 : BitVec 32) (v5 : BitVec 32) : Prop :=
  ((k0_t33_loop v2 v5).OK) ∧
  (∀ k0_t33 : Fin (k0_t33_loop v2 v5).trips, 256 ∣ (k0_mult33 v2 v5 k0_t33).toNat) ∧
  (∀ k0_t33 : Fin (k0_t33_loop v2 v5).trips, ∀ a, (k0_off69 v2 v5 k0_t33) a + S1024x256.size a ≤ S32768x256.size a) ∧
  (∀ k0_t33 : Fin (k0_t33_loop v2 v5).trips, ∀ a, (k0_off70 v2 v5 k0_t33) a + S1x1x128x1024.size a ≤ S1x1x128x32768.size a) ∧
  ((k0_t34_loop v2 v5).OK) ∧
  (∀ k0_t34 : Fin (k0_t34_loop v2 v5).trips, 256 ∣ (k0_mult34 v2 v5 k0_t34).toNat) ∧
  (∀ k0_t34 : Fin (k0_t34_loop v2 v5).trips, ∀ a, (k0_off71 v2 v5 k0_t34) a + S1024x256.size a ≤ S32768x256.size a) ∧
  (∀ k0_t34 : Fin (k0_t34_loop v2 v5).trips, ∀ a, (k0_off72 v2 v5 k0_t34) a + S1x1x128x1024.size a ≤ S1x1x128x32768.size a) ∧
  ((k0_t35_loop v2 v5).OK) ∧
  (∀ k0_t35 : Fin (k0_t35_loop v2 v5).trips, 256 ∣ (k0_mult35 v2 v5 k0_t35).toNat) ∧
  (∀ k0_t35 : Fin (k0_t35_loop v2 v5).trips, ∀ a, (k0_off73 v2 v5 k0_t35) a + S256x256.size a ≤ S32768x256.size a) ∧
  (∀ k0_t35 : Fin (k0_t35_loop v2 v5).trips, ∀ a, (k0_off74 v2 v5 k0_t35) a + S1x1x128x256.size a ≤ S1x1x128x32768.size a) ∧
  ((k0_t36_loop v2 v5).OK) ∧
  (∀ k0_t36 : Fin (k0_t36_loop v2 v5).trips, 256 ∣ (k0_mult36 v2 v5 k0_t36).toNat) ∧
  (∀ k0_t36 : Fin (k0_t36_loop v2 v5).trips, ∀ a, (k0_off75 v2 v5 k0_t36) a + S256x256.size a ≤ S32768x256.size a) ∧
  (∀ k0_t36 : Fin (k0_t36_loop v2 v5).trips, ∀ a, (k0_off76 v2 v5 k0_t36) a + S1x1x128x256.size a ≤ S1x1x128x32768.size a) ∧
  ((k0_t45_loop v2 v5).OK) ∧
  (∀ k0_t45 : Fin (k0_t45_loop v2 v5).trips, 256 ∣ (k0_mult45 v2 v5 k0_t45).toNat) ∧
  (∀ k0_t45 : Fin (k0_t45_loop v2 v5).trips, ∀ a, (k0_off93 v2 v5 k0_t45) a + S1024x256.size a ≤ S32768x256.size a) ∧
  (∀ k0_t45 : Fin (k0_t45_loop v2 v5).trips, ∀ a, (k0_off94 v2 v5 k0_t45) a + S1x1x128x1024.size a ≤ S1x1x128x32768.size a) ∧
  ((k0_t46_loop v2 v5).OK) ∧
  (∀ k0_t46 : Fin (k0_t46_loop v2 v5).trips, 256 ∣ (k0_mult46 v2 v5 k0_t46).toNat) ∧
  (∀ k0_t46 : Fin (k0_t46_loop v2 v5).trips, ∀ a, (k0_off95 v2 v5 k0_t46) a + S1024x256.size a ≤ S32768x256.size a) ∧
  (∀ k0_t46 : Fin (k0_t46_loop v2 v5).trips, ∀ a, (k0_off96 v2 v5 k0_t46) a + S1x1x128x1024.size a ≤ S1x1x128x32768.size a) ∧
  ((k0_t47_loop v2 v5).OK) ∧
  (∀ k0_t47 : Fin (k0_t47_loop v2 v5).trips, 256 ∣ (k0_mult47 v2 v5 k0_t47).toNat) ∧
  (∀ k0_t47 : Fin (k0_t47_loop v2 v5).trips, ∀ a, (k0_off97 v2 v5 k0_t47) a + S256x256.size a ≤ S32768x256.size a) ∧
  (∀ k0_t47 : Fin (k0_t47_loop v2 v5).trips, ∀ a, (k0_off98 v2 v5 k0_t47) a + S1x1x128x256.size a ≤ S1x1x128x32768.size a) ∧
  ((k0_t48_loop v2 v5).OK) ∧
  (∀ k0_t48 : Fin (k0_t48_loop v2 v5).trips, 256 ∣ (k0_mult48 v2 v5 k0_t48).toNat) ∧
  (∀ k0_t48 : Fin (k0_t48_loop v2 v5).trips, ∀ a, (k0_off99 v2 v5 k0_t48) a + S256x256.size a ≤ S32768x256.size a) ∧
  (∀ k0_t48 : Fin (k0_t48_loop v2 v5).trips, ∀ a, (k0_off100 v2 v5 k0_t48) a + S1x1x128x256.size a ≤ S1x1x128x32768.size a)
def k0_chk3_2 (v2 : BitVec 32) (v5 : BitVec 32) : Prop :=
  ((k0_t57_loop v2 v5).OK) ∧
  (∀ k0_t57 : Fin (k0_t57_loop v2 v5).trips, 256 ∣ (k0_mult57 v2 v5 k0_t57).toNat) ∧
  (∀ k0_t57 : Fin (k0_t57_loop v2 v5).trips, ∀ a, (k0_off117 v2 v5 k0_t57) a + S1024x256.size a ≤ S32768x256.size a) ∧
  (∀ k0_t57 : Fin (k0_t57_loop v2 v5).trips, ∀ a, (k0_off118 v2 v5 k0_t57) a + S1x1x128x1024.size a ≤ S1x1x128x32768.size a) ∧
  ((k0_t58_loop v2 v5).OK) ∧
  (∀ k0_t58 : Fin (k0_t58_loop v2 v5).trips, 256 ∣ (k0_mult58 v2 v5 k0_t58).toNat) ∧
  (∀ k0_t58 : Fin (k0_t58_loop v2 v5).trips, ∀ a, (k0_off119 v2 v5 k0_t58) a + S1024x256.size a ≤ S32768x256.size a) ∧
  (∀ k0_t58 : Fin (k0_t58_loop v2 v5).trips, ∀ a, (k0_off120 v2 v5 k0_t58) a + S1x1x128x1024.size a ≤ S1x1x128x32768.size a) ∧
  ((k0_t59_loop v2 v5).OK) ∧
  (∀ k0_t59 : Fin (k0_t59_loop v2 v5).trips, 256 ∣ (k0_mult59 v2 v5 k0_t59).toNat) ∧
  (∀ k0_t59 : Fin (k0_t59_loop v2 v5).trips, ∀ a, (k0_off121 v2 v5 k0_t59) a + S256x256.size a ≤ S32768x256.size a) ∧
  (∀ k0_t59 : Fin (k0_t59_loop v2 v5).trips, ∀ a, (k0_off122 v2 v5 k0_t59) a + S1x1x128x256.size a ≤ S1x1x128x32768.size a) ∧
  ((k0_t60_loop v2 v5).OK) ∧
  (∀ k0_t60 : Fin (k0_t60_loop v2 v5).trips, 256 ∣ (k0_mult60 v2 v5 k0_t60).toNat) ∧
  (∀ k0_t60 : Fin (k0_t60_loop v2 v5).trips, ∀ a, (k0_off123 v2 v5 k0_t60) a + S256x256.size a ≤ S32768x256.size a) ∧
  (∀ k0_t60 : Fin (k0_t60_loop v2 v5).trips, ∀ a, (k0_off124 v2 v5 k0_t60) a + S1x1x128x256.size a ≤ S1x1x128x32768.size a) ∧
  ((k0_t69_loop v2 v5).OK) ∧
  (∀ k0_t69 : Fin (k0_t69_loop v2 v5).trips, 256 ∣ (k0_mult69 v2 v5 k0_t69).toNat) ∧
  (∀ k0_t69 : Fin (k0_t69_loop v2 v5).trips, ∀ a, (k0_off141 v2 v5 k0_t69) a + S1024x256.size a ≤ S32768x256.size a) ∧
  (∀ k0_t69 : Fin (k0_t69_loop v2 v5).trips, ∀ a, (k0_off142 v2 v5 k0_t69) a + S1x1x128x1024.size a ≤ S1x1x128x32768.size a) ∧
  ((k0_t70_loop v2 v5).OK) ∧
  (∀ k0_t70 : Fin (k0_t70_loop v2 v5).trips, 256 ∣ (k0_mult70 v2 v5 k0_t70).toNat) ∧
  (∀ k0_t70 : Fin (k0_t70_loop v2 v5).trips, ∀ a, (k0_off143 v2 v5 k0_t70) a + S1024x256.size a ≤ S32768x256.size a) ∧
  (∀ k0_t70 : Fin (k0_t70_loop v2 v5).trips, ∀ a, (k0_off144 v2 v5 k0_t70) a + S1x1x128x1024.size a ≤ S1x1x128x32768.size a) ∧
  ((k0_t71_loop v2 v5).OK) ∧
  (∀ k0_t71 : Fin (k0_t71_loop v2 v5).trips, 256 ∣ (k0_mult71 v2 v5 k0_t71).toNat) ∧
  (∀ k0_t71 : Fin (k0_t71_loop v2 v5).trips, ∀ a, (k0_off145 v2 v5 k0_t71) a + S256x256.size a ≤ S32768x256.size a) ∧
  (∀ k0_t71 : Fin (k0_t71_loop v2 v5).trips, ∀ a, (k0_off146 v2 v5 k0_t71) a + S1x1x128x256.size a ≤ S1x1x128x32768.size a) ∧
  ((k0_t72_loop v2 v5).OK) ∧
  (∀ k0_t72 : Fin (k0_t72_loop v2 v5).trips, 256 ∣ (k0_mult72 v2 v5 k0_t72).toNat) ∧
  (∀ k0_t72 : Fin (k0_t72_loop v2 v5).trips, ∀ a, (k0_off147 v2 v5 k0_t72) a + S256x256.size a ≤ S32768x256.size a) ∧
  (∀ k0_t72 : Fin (k0_t72_loop v2 v5).trips, ∀ a, (k0_off148 v2 v5 k0_t72) a + S1x1x128x256.size a ≤ S1x1x128x32768.size a)
def k0_chk3_3 (v2 : BitVec 32) (v5 : BitVec 32) : Prop :=
  ((k0_t81_loop v2 v5).OK) ∧
  (∀ k0_t81 : Fin (k0_t81_loop v2 v5).trips, 256 ∣ (k0_mult81 v2 v5 k0_t81).toNat) ∧
  (∀ k0_t81 : Fin (k0_t81_loop v2 v5).trips, ∀ a, (k0_off165 v2 v5 k0_t81) a + S1024x256.size a ≤ S32768x256.size a) ∧
  (∀ k0_t81 : Fin (k0_t81_loop v2 v5).trips, ∀ a, (k0_off166 v2 v5 k0_t81) a + S1x1x128x1024.size a ≤ S1x1x128x32768.size a) ∧
  ((k0_t82_loop v2 v5).OK) ∧
  (∀ k0_t82 : Fin (k0_t82_loop v2 v5).trips, 256 ∣ (k0_mult82 v2 v5 k0_t82).toNat) ∧
  (∀ k0_t82 : Fin (k0_t82_loop v2 v5).trips, ∀ a, (k0_off167 v2 v5 k0_t82) a + S1024x256.size a ≤ S32768x256.size a) ∧
  (∀ k0_t82 : Fin (k0_t82_loop v2 v5).trips, ∀ a, (k0_off168 v2 v5 k0_t82) a + S1x1x128x1024.size a ≤ S1x1x128x32768.size a) ∧
  ((k0_t83_loop v2 v5).OK) ∧
  (∀ k0_t83 : Fin (k0_t83_loop v2 v5).trips, 256 ∣ (k0_mult83 v2 v5 k0_t83).toNat) ∧
  (∀ k0_t83 : Fin (k0_t83_loop v2 v5).trips, ∀ a, (k0_off169 v2 v5 k0_t83) a + S256x256.size a ≤ S32768x256.size a) ∧
  (∀ k0_t83 : Fin (k0_t83_loop v2 v5).trips, ∀ a, (k0_off170 v2 v5 k0_t83) a + S1x1x128x256.size a ≤ S1x1x128x32768.size a) ∧
  ((k0_t84_loop v2 v5).OK) ∧
  (∀ k0_t84 : Fin (k0_t84_loop v2 v5).trips, 256 ∣ (k0_mult84 v2 v5 k0_t84).toNat) ∧
  (∀ k0_t84 : Fin (k0_t84_loop v2 v5).trips, ∀ a, (k0_off171 v2 v5 k0_t84) a + S256x256.size a ≤ S32768x256.size a) ∧
  (∀ k0_t84 : Fin (k0_t84_loop v2 v5).trips, ∀ a, (k0_off172 v2 v5 k0_t84) a + S1x1x128x256.size a ≤ S1x1x128x32768.size a) ∧
  ((k0_t93_loop v2 v5).OK) ∧
  (∀ k0_t93 : Fin (k0_t93_loop v2 v5).trips, 256 ∣ (k0_mult93 v2 v5 k0_t93).toNat) ∧
  (∀ k0_t93 : Fin (k0_t93_loop v2 v5).trips, ∀ a, (k0_off189 v2 v5 k0_t93) a + S1024x256.size a ≤ S32768x256.size a) ∧
  (∀ k0_t93 : Fin (k0_t93_loop v2 v5).trips, ∀ a, (k0_off190 v2 v5 k0_t93) a + S1x1x128x1024.size a ≤ S1x1x128x32768.size a) ∧
  ((k0_t94_loop v2 v5).OK) ∧
  (∀ k0_t94 : Fin (k0_t94_loop v2 v5).trips, 256 ∣ (k0_mult94 v2 v5 k0_t94).toNat) ∧
  (∀ k0_t94 : Fin (k0_t94_loop v2 v5).trips, ∀ a, (k0_off191 v2 v5 k0_t94) a + S1024x256.size a ≤ S32768x256.size a) ∧
  (∀ k0_t94 : Fin (k0_t94_loop v2 v5).trips, ∀ a, (k0_off192 v2 v5 k0_t94) a + S1x1x128x1024.size a ≤ S1x1x128x32768.size a) ∧
  ((k0_t95_loop v2 v5).OK) ∧
  (∀ k0_t95 : Fin (k0_t95_loop v2 v5).trips, 256 ∣ (k0_mult95 v2 v5 k0_t95).toNat) ∧
  (∀ k0_t95 : Fin (k0_t95_loop v2 v5).trips, ∀ a, (k0_off193 v2 v5 k0_t95) a + S256x256.size a ≤ S32768x256.size a) ∧
  (∀ k0_t95 : Fin (k0_t95_loop v2 v5).trips, ∀ a, (k0_off194 v2 v5 k0_t95) a + S1x1x128x256.size a ≤ S1x1x128x32768.size a) ∧
  ((k0_t96_loop v2 v5).OK) ∧
  (∀ k0_t96 : Fin (k0_t96_loop v2 v5).trips, 256 ∣ (k0_mult96 v2 v5 k0_t96).toNat) ∧
  (∀ k0_t96 : Fin (k0_t96_loop v2 v5).trips, ∀ a, (k0_off195 v2 v5 k0_t96) a + S256x256.size a ≤ S32768x256.size a) ∧
  (∀ k0_t96 : Fin (k0_t96_loop v2 v5).trips, ∀ a, (k0_off196 v2 v5 k0_t96) a + S1x1x128x256.size a ≤ S1x1x128x32768.size a)
def k0_chk3 (v2 : BitVec 32) (v5 : BitVec 32) : Prop :=
  k0_chk3_0 v2 v5 ∧
  k0_chk3_1 v2 v5 ∧
  k0_chk3_2 v2 v5 ∧
  k0_chk3_3 v2 v5
theorem k0_t9_ok : ∀ (v2 : BitVec 32) (v5 : BitVec 32) (k0_hw3 : k0_chk3 v2 v5), (k0_t9_loop v2 v5).OK := fun v2 v5 k0_hw3 => k0_hw3.1.1
theorem k0_mult9_dvd : ∀ (v2 : BitVec 32) (v5 : BitVec 32) (k0_hw3 : k0_chk3 v2 v5) (k0_t9 : Fin (k0_t9_loop v2 v5).trips), 256 ∣ (k0_mult9 v2 v5 k0_t9).toNat := fun v2 v5 k0_hw3 k0_t9 => k0_hw3.1.2.1 k0_t9
theorem k0_off21_inb : ∀ (v2 : BitVec 32) (v5 : BitVec 32) (k0_hw3 : k0_chk3 v2 v5) (k0_t9 : Fin (k0_t9_loop v2 v5).trips), ∀ a, (k0_off21 v2 v5 k0_t9) a + S1024x256.size a ≤ S32768x256.size a := fun v2 v5 k0_hw3 k0_t9 => k0_hw3.1.2.2.1 k0_t9
theorem k0_off22_inb : ∀ (v2 : BitVec 32) (v5 : BitVec 32) (k0_hw3 : k0_chk3 v2 v5) (k0_t9 : Fin (k0_t9_loop v2 v5).trips), ∀ a, (k0_off22 v2 v5 k0_t9) a + S1x1x128x1024.size a ≤ S1x1x128x32768.size a := fun v2 v5 k0_hw3 k0_t9 => k0_hw3.1.2.2.2.1 k0_t9
theorem k0_t10_ok : ∀ (v2 : BitVec 32) (v5 : BitVec 32) (k0_hw3 : k0_chk3 v2 v5), (k0_t10_loop v2 v5).OK := fun v2 v5 k0_hw3 => k0_hw3.1.2.2.2.2.1
theorem k0_mult10_dvd : ∀ (v2 : BitVec 32) (v5 : BitVec 32) (k0_hw3 : k0_chk3 v2 v5) (k0_t10 : Fin (k0_t10_loop v2 v5).trips), 256 ∣ (k0_mult10 v2 v5 k0_t10).toNat := fun v2 v5 k0_hw3 k0_t10 => k0_hw3.1.2.2.2.2.2.1 k0_t10
theorem k0_off23_inb : ∀ (v2 : BitVec 32) (v5 : BitVec 32) (k0_hw3 : k0_chk3 v2 v5) (k0_t10 : Fin (k0_t10_loop v2 v5).trips), ∀ a, (k0_off23 v2 v5 k0_t10) a + S1024x256.size a ≤ S32768x256.size a := fun v2 v5 k0_hw3 k0_t10 => k0_hw3.1.2.2.2.2.2.2.1 k0_t10
theorem k0_off24_inb : ∀ (v2 : BitVec 32) (v5 : BitVec 32) (k0_hw3 : k0_chk3 v2 v5) (k0_t10 : Fin (k0_t10_loop v2 v5).trips), ∀ a, (k0_off24 v2 v5 k0_t10) a + S1x1x128x1024.size a ≤ S1x1x128x32768.size a := fun v2 v5 k0_hw3 k0_t10 => k0_hw3.1.2.2.2.2.2.2.2.1 k0_t10
theorem k0_t11_ok : ∀ (v2 : BitVec 32) (v5 : BitVec 32) (k0_hw3 : k0_chk3 v2 v5), (k0_t11_loop v2 v5).OK := fun v2 v5 k0_hw3 => k0_hw3.1.2.2.2.2.2.2.2.2.1
theorem k0_mult11_dvd : ∀ (v2 : BitVec 32) (v5 : BitVec 32) (k0_hw3 : k0_chk3 v2 v5) (k0_t11 : Fin (k0_t11_loop v2 v5).trips), 256 ∣ (k0_mult11 v2 v5 k0_t11).toNat := fun v2 v5 k0_hw3 k0_t11 => k0_hw3.1.2.2.2.2.2.2.2.2.2.1 k0_t11
theorem k0_off25_inb : ∀ (v2 : BitVec 32) (v5 : BitVec 32) (k0_hw3 : k0_chk3 v2 v5) (k0_t11 : Fin (k0_t11_loop v2 v5).trips), ∀ a, (k0_off25 v2 v5 k0_t11) a + S256x256.size a ≤ S32768x256.size a := fun v2 v5 k0_hw3 k0_t11 => k0_hw3.1.2.2.2.2.2.2.2.2.2.2.1 k0_t11
theorem k0_off26_inb : ∀ (v2 : BitVec 32) (v5 : BitVec 32) (k0_hw3 : k0_chk3 v2 v5) (k0_t11 : Fin (k0_t11_loop v2 v5).trips), ∀ a, (k0_off26 v2 v5 k0_t11) a + S1x1x128x256.size a ≤ S1x1x128x32768.size a := fun v2 v5 k0_hw3 k0_t11 => k0_hw3.1.2.2.2.2.2.2.2.2.2.2.2.1 k0_t11
theorem k0_t12_ok : ∀ (v2 : BitVec 32) (v5 : BitVec 32) (k0_hw3 : k0_chk3 v2 v5), (k0_t12_loop v2 v5).OK := fun v2 v5 k0_hw3 => k0_hw3.1.2.2.2.2.2.2.2.2.2.2.2.2.1
theorem k0_mult12_dvd : ∀ (v2 : BitVec 32) (v5 : BitVec 32) (k0_hw3 : k0_chk3 v2 v5) (k0_t12 : Fin (k0_t12_loop v2 v5).trips), 256 ∣ (k0_mult12 v2 v5 k0_t12).toNat := fun v2 v5 k0_hw3 k0_t12 => k0_hw3.1.2.2.2.2.2.2.2.2.2.2.2.2.2.1 k0_t12
theorem k0_off27_inb : ∀ (v2 : BitVec 32) (v5 : BitVec 32) (k0_hw3 : k0_chk3 v2 v5) (k0_t12 : Fin (k0_t12_loop v2 v5).trips), ∀ a, (k0_off27 v2 v5 k0_t12) a + S256x256.size a ≤ S32768x256.size a := fun v2 v5 k0_hw3 k0_t12 => k0_hw3.1.2.2.2.2.2.2.2.2.2.2.2.2.2.2.1 k0_t12
theorem k0_off28_inb : ∀ (v2 : BitVec 32) (v5 : BitVec 32) (k0_hw3 : k0_chk3 v2 v5) (k0_t12 : Fin (k0_t12_loop v2 v5).trips), ∀ a, (k0_off28 v2 v5 k0_t12) a + S1x1x128x256.size a ≤ S1x1x128x32768.size a := fun v2 v5 k0_hw3 k0_t12 => k0_hw3.1.2.2.2.2.2.2.2.2.2.2.2.2.2.2.2.1 k0_t12
theorem k0_t21_ok : ∀ (v2 : BitVec 32) (v5 : BitVec 32) (k0_hw3 : k0_chk3 v2 v5), (k0_t21_loop v2 v5).OK := fun v2 v5 k0_hw3 => k0_hw3.1.2.2.2.2.2.2.2.2.2.2.2.2.2.2.2.2.1
theorem k0_mult21_dvd : ∀ (v2 : BitVec 32) (v5 : BitVec 32) (k0_hw3 : k0_chk3 v2 v5) (k0_t21 : Fin (k0_t21_loop v2 v5).trips), 256 ∣ (k0_mult21 v2 v5 k0_t21).toNat := fun v2 v5 k0_hw3 k0_t21 => k0_hw3.1.2.2.2.2.2.2.2.2.2.2.2.2.2.2.2.2.2.1 k0_t21
theorem k0_off45_inb : ∀ (v2 : BitVec 32) (v5 : BitVec 32) (k0_hw3 : k0_chk3 v2 v5) (k0_t21 : Fin (k0_t21_loop v2 v5).trips), ∀ a, (k0_off45 v2 v5 k0_t21) a + S1024x256.size a ≤ S32768x256.size a := fun v2 v5 k0_hw3 k0_t21 => k0_hw3.1.2.2.2.2.2.2.2.2.2.2.2.2.2.2.2.2.2.2.1 k0_t21
theorem k0_off46_inb : ∀ (v2 : BitVec 32) (v5 : BitVec 32) (k0_hw3 : k0_chk3 v2 v5) (k0_t21 : Fin (k0_t21_loop v2 v5).trips), ∀ a, (k0_off46 v2 v5 k0_t21) a + S1x1x128x1024.size a ≤ S1x1x128x32768.size a := fun v2 v5 k0_hw3 k0_t21 => k0_hw3.1.2.2.2.2.2.2.2.2.2.2.2.2.2.2.2.2.2.2.2.1 k0_t21
theorem k0_t22_ok : ∀ (v2 : BitVec 32) (v5 : BitVec 32) (k0_hw3 : k0_chk3 v2 v5), (k0_t22_loop v2 v5).OK := fun v2 v5 k0_hw3 => k0_hw3.1.2.2.2.2.2.2.2.2.2.2.2.2.2.2.2.2.2.2.2.2.1
theorem k0_mult22_dvd : ∀ (v2 : BitVec 32) (v5 : BitVec 32) (k0_hw3 : k0_chk3 v2 v5) (k0_t22 : Fin (k0_t22_loop v2 v5).trips), 256 ∣ (k0_mult22 v2 v5 k0_t22).toNat := fun v2 v5 k0_hw3 k0_t22 => k0_hw3.1.2.2.2.2.2.2.2.2.2.2.2.2.2.2.2.2.2.2.2.2.2.1 k0_t22
theorem k0_off47_inb : ∀ (v2 : BitVec 32) (v5 : BitVec 32) (k0_hw3 : k0_chk3 v2 v5) (k0_t22 : Fin (k0_t22_loop v2 v5).trips), ∀ a, (k0_off47 v2 v5 k0_t22) a + S1024x256.size a ≤ S32768x256.size a := fun v2 v5 k0_hw3 k0_t22 => k0_hw3.1.2.2.2.2.2.2.2.2.2.2.2.2.2.2.2.2.2.2.2.2.2.2.1 k0_t22
theorem k0_off48_inb : ∀ (v2 : BitVec 32) (v5 : BitVec 32) (k0_hw3 : k0_chk3 v2 v5) (k0_t22 : Fin (k0_t22_loop v2 v5).trips), ∀ a, (k0_off48 v2 v5 k0_t22) a + S1x1x128x1024.size a ≤ S1x1x128x32768.size a := fun v2 v5 k0_hw3 k0_t22 => k0_hw3.1.2.2.2.2.2.2.2.2.2.2.2.2.2.2.2.2.2.2.2.2.2.2.2.1 k0_t22
theorem k0_t23_ok : ∀ (v2 : BitVec 32) (v5 : BitVec 32) (k0_hw3 : k0_chk3 v2 v5), (k0_t23_loop v2 v5).OK := fun v2 v5 k0_hw3 => k0_hw3.1.2.2.2.2.2.2.2.2.2.2.2.2.2.2.2.2.2.2.2.2.2.2.2.2.1
theorem k0_mult23_dvd : ∀ (v2 : BitVec 32) (v5 : BitVec 32) (k0_hw3 : k0_chk3 v2 v5) (k0_t23 : Fin (k0_t23_loop v2 v5).trips), 256 ∣ (k0_mult23 v2 v5 k0_t23).toNat := fun v2 v5 k0_hw3 k0_t23 => k0_hw3.1.2.2.2.2.2.2.2.2.2.2.2.2.2.2.2.2.2.2.2.2.2.2.2.2.2.1 k0_t23
theorem k0_off49_inb : ∀ (v2 : BitVec 32) (v5 : BitVec 32) (k0_hw3 : k0_chk3 v2 v5) (k0_t23 : Fin (k0_t23_loop v2 v5).trips), ∀ a, (k0_off49 v2 v5 k0_t23) a + S256x256.size a ≤ S32768x256.size a := fun v2 v5 k0_hw3 k0_t23 => k0_hw3.1.2.2.2.2.2.2.2.2.2.2.2.2.2.2.2.2.2.2.2.2.2.2.2.2.2.2.1 k0_t23
theorem k0_off50_inb : ∀ (v2 : BitVec 32) (v5 : BitVec 32) (k0_hw3 : k0_chk3 v2 v5) (k0_t23 : Fin (k0_t23_loop v2 v5).trips), ∀ a, (k0_off50 v2 v5 k0_t23) a + S1x1x128x256.size a ≤ S1x1x128x32768.size a := fun v2 v5 k0_hw3 k0_t23 => k0_hw3.1.2.2.2.2.2.2.2.2.2.2.2.2.2.2.2.2.2.2.2.2.2.2.2.2.2.2.2.1 k0_t23
theorem k0_t24_ok : ∀ (v2 : BitVec 32) (v5 : BitVec 32) (k0_hw3 : k0_chk3 v2 v5), (k0_t24_loop v2 v5).OK := fun v2 v5 k0_hw3 => k0_hw3.1.2.2.2.2.2.2.2.2.2.2.2.2.2.2.2.2.2.2.2.2.2.2.2.2.2.2.2.2.1
theorem k0_mult24_dvd : ∀ (v2 : BitVec 32) (v5 : BitVec 32) (k0_hw3 : k0_chk3 v2 v5) (k0_t24 : Fin (k0_t24_loop v2 v5).trips), 256 ∣ (k0_mult24 v2 v5 k0_t24).toNat := fun v2 v5 k0_hw3 k0_t24 => k0_hw3.1.2.2.2.2.2.2.2.2.2.2.2.2.2.2.2.2.2.2.2.2.2.2.2.2.2.2.2.2.2.1 k0_t24
theorem k0_off51_inb : ∀ (v2 : BitVec 32) (v5 : BitVec 32) (k0_hw3 : k0_chk3 v2 v5) (k0_t24 : Fin (k0_t24_loop v2 v5).trips), ∀ a, (k0_off51 v2 v5 k0_t24) a + S256x256.size a ≤ S32768x256.size a := fun v2 v5 k0_hw3 k0_t24 => k0_hw3.1.2.2.2.2.2.2.2.2.2.2.2.2.2.2.2.2.2.2.2.2.2.2.2.2.2.2.2.2.2.2.1 k0_t24
theorem k0_off52_inb : ∀ (v2 : BitVec 32) (v5 : BitVec 32) (k0_hw3 : k0_chk3 v2 v5) (k0_t24 : Fin (k0_t24_loop v2 v5).trips), ∀ a, (k0_off52 v2 v5 k0_t24) a + S1x1x128x256.size a ≤ S1x1x128x32768.size a := fun v2 v5 k0_hw3 k0_t24 => k0_hw3.1.2.2.2.2.2.2.2.2.2.2.2.2.2.2.2.2.2.2.2.2.2.2.2.2.2.2.2.2.2.2.2 k0_t24
theorem k0_t33_ok : ∀ (v2 : BitVec 32) (v5 : BitVec 32) (k0_hw3 : k0_chk3 v2 v5), (k0_t33_loop v2 v5).OK := fun v2 v5 k0_hw3 => k0_hw3.2.1.1
theorem k0_mult33_dvd : ∀ (v2 : BitVec 32) (v5 : BitVec 32) (k0_hw3 : k0_chk3 v2 v5) (k0_t33 : Fin (k0_t33_loop v2 v5).trips), 256 ∣ (k0_mult33 v2 v5 k0_t33).toNat := fun v2 v5 k0_hw3 k0_t33 => k0_hw3.2.1.2.1 k0_t33
theorem k0_off69_inb : ∀ (v2 : BitVec 32) (v5 : BitVec 32) (k0_hw3 : k0_chk3 v2 v5) (k0_t33 : Fin (k0_t33_loop v2 v5).trips), ∀ a, (k0_off69 v2 v5 k0_t33) a + S1024x256.size a ≤ S32768x256.size a := fun v2 v5 k0_hw3 k0_t33 => k0_hw3.2.1.2.2.1 k0_t33
theorem k0_off70_inb : ∀ (v2 : BitVec 32) (v5 : BitVec 32) (k0_hw3 : k0_chk3 v2 v5) (k0_t33 : Fin (k0_t33_loop v2 v5).trips), ∀ a, (k0_off70 v2 v5 k0_t33) a + S1x1x128x1024.size a ≤ S1x1x128x32768.size a := fun v2 v5 k0_hw3 k0_t33 => k0_hw3.2.1.2.2.2.1 k0_t33
theorem k0_t34_ok : ∀ (v2 : BitVec 32) (v5 : BitVec 32) (k0_hw3 : k0_chk3 v2 v5), (k0_t34_loop v2 v5).OK := fun v2 v5 k0_hw3 => k0_hw3.2.1.2.2.2.2.1
theorem k0_mult34_dvd : ∀ (v2 : BitVec 32) (v5 : BitVec 32) (k0_hw3 : k0_chk3 v2 v5) (k0_t34 : Fin (k0_t34_loop v2 v5).trips), 256 ∣ (k0_mult34 v2 v5 k0_t34).toNat := fun v2 v5 k0_hw3 k0_t34 => k0_hw3.2.1.2.2.2.2.2.1 k0_t34
theorem k0_off71_inb : ∀ (v2 : BitVec 32) (v5 : BitVec 32) (k0_hw3 : k0_chk3 v2 v5) (k0_t34 : Fin (k0_t34_loop v2 v5).trips), ∀ a, (k0_off71 v2 v5 k0_t34) a + S1024x256.size a ≤ S32768x256.size a := fun v2 v5 k0_hw3 k0_t34 => k0_hw3.2.1.2.2.2.2.2.2.1 k0_t34
theorem k0_off72_inb : ∀ (v2 : BitVec 32) (v5 : BitVec 32) (k0_hw3 : k0_chk3 v2 v5) (k0_t34 : Fin (k0_t34_loop v2 v5).trips), ∀ a, (k0_off72 v2 v5 k0_t34) a + S1x1x128x1024.size a ≤ S1x1x128x32768.size a := fun v2 v5 k0_hw3 k0_t34 => k0_hw3.2.1.2.2.2.2.2.2.2.1 k0_t34
theorem k0_t35_ok : ∀ (v2 : BitVec 32) (v5 : BitVec 32) (k0_hw3 : k0_chk3 v2 v5), (k0_t35_loop v2 v5).OK := fun v2 v5 k0_hw3 => k0_hw3.2.1.2.2.2.2.2.2.2.2.1
theorem k0_mult35_dvd : ∀ (v2 : BitVec 32) (v5 : BitVec 32) (k0_hw3 : k0_chk3 v2 v5) (k0_t35 : Fin (k0_t35_loop v2 v5).trips), 256 ∣ (k0_mult35 v2 v5 k0_t35).toNat := fun v2 v5 k0_hw3 k0_t35 => k0_hw3.2.1.2.2.2.2.2.2.2.2.2.1 k0_t35
theorem k0_off73_inb : ∀ (v2 : BitVec 32) (v5 : BitVec 32) (k0_hw3 : k0_chk3 v2 v5) (k0_t35 : Fin (k0_t35_loop v2 v5).trips), ∀ a, (k0_off73 v2 v5 k0_t35) a + S256x256.size a ≤ S32768x256.size a := fun v2 v5 k0_hw3 k0_t35 => k0_hw3.2.1.2.2.2.2.2.2.2.2.2.2.1 k0_t35
theorem k0_off74_inb : ∀ (v2 : BitVec 32) (v5 : BitVec 32) (k0_hw3 : k0_chk3 v2 v5) (k0_t35 : Fin (k0_t35_loop v2 v5).trips), ∀ a, (k0_off74 v2 v5 k0_t35) a + S1x1x128x256.size a ≤ S1x1x128x32768.size a := fun v2 v5 k0_hw3 k0_t35 => k0_hw3.2.1.2.2.2.2.2.2.2.2.2.2.2.1 k0_t35
theorem k0_t36_ok : ∀ (v2 : BitVec 32) (v5 : BitVec 32) (k0_hw3 : k0_chk3 v2 v5), (k0_t36_loop v2 v5).OK := fun v2 v5 k0_hw3 => k0_hw3.2.1.2.2.2.2.2.2.2.2.2.2.2.2.1
theorem k0_mult36_dvd : ∀ (v2 : BitVec 32) (v5 : BitVec 32) (k0_hw3 : k0_chk3 v2 v5) (k0_t36 : Fin (k0_t36_loop v2 v5).trips), 256 ∣ (k0_mult36 v2 v5 k0_t36).toNat := fun v2 v5 k0_hw3 k0_t36 => k0_hw3.2.1.2.2.2.2.2.2.2.2.2.2.2.2.2.1 k0_t36
theorem k0_off75_inb : ∀ (v2 : BitVec 32) (v5 : BitVec 32) (k0_hw3 : k0_chk3 v2 v5) (k0_t36 : Fin (k0_t36_loop v2 v5).trips), ∀ a, (k0_off75 v2 v5 k0_t36) a + S256x256.size a ≤ S32768x256.size a := fun v2 v5 k0_hw3 k0_t36 => k0_hw3.2.1.2.2.2.2.2.2.2.2.2.2.2.2.2.2.1 k0_t36
theorem k0_off76_inb : ∀ (v2 : BitVec 32) (v5 : BitVec 32) (k0_hw3 : k0_chk3 v2 v5) (k0_t36 : Fin (k0_t36_loop v2 v5).trips), ∀ a, (k0_off76 v2 v5 k0_t36) a + S1x1x128x256.size a ≤ S1x1x128x32768.size a := fun v2 v5 k0_hw3 k0_t36 => k0_hw3.2.1.2.2.2.2.2.2.2.2.2.2.2.2.2.2.2.1 k0_t36
theorem k0_t45_ok : ∀ (v2 : BitVec 32) (v5 : BitVec 32) (k0_hw3 : k0_chk3 v2 v5), (k0_t45_loop v2 v5).OK := fun v2 v5 k0_hw3 => k0_hw3.2.1.2.2.2.2.2.2.2.2.2.2.2.2.2.2.2.2.1
theorem k0_mult45_dvd : ∀ (v2 : BitVec 32) (v5 : BitVec 32) (k0_hw3 : k0_chk3 v2 v5) (k0_t45 : Fin (k0_t45_loop v2 v5).trips), 256 ∣ (k0_mult45 v2 v5 k0_t45).toNat := fun v2 v5 k0_hw3 k0_t45 => k0_hw3.2.1.2.2.2.2.2.2.2.2.2.2.2.2.2.2.2.2.2.1 k0_t45
theorem k0_off93_inb : ∀ (v2 : BitVec 32) (v5 : BitVec 32) (k0_hw3 : k0_chk3 v2 v5) (k0_t45 : Fin (k0_t45_loop v2 v5).trips), ∀ a, (k0_off93 v2 v5 k0_t45) a + S1024x256.size a ≤ S32768x256.size a := fun v2 v5 k0_hw3 k0_t45 => k0_hw3.2.1.2.2.2.2.2.2.2.2.2.2.2.2.2.2.2.2.2.2.1 k0_t45
theorem k0_off94_inb : ∀ (v2 : BitVec 32) (v5 : BitVec 32) (k0_hw3 : k0_chk3 v2 v5) (k0_t45 : Fin (k0_t45_loop v2 v5).trips), ∀ a, (k0_off94 v2 v5 k0_t45) a + S1x1x128x1024.size a ≤ S1x1x128x32768.size a := fun v2 v5 k0_hw3 k0_t45 => k0_hw3.2.1.2.2.2.2.2.2.2.2.2.2.2.2.2.2.2.2.2.2.2.1 k0_t45
theorem k0_t46_ok : ∀ (v2 : BitVec 32) (v5 : BitVec 32) (k0_hw3 : k0_chk3 v2 v5), (k0_t46_loop v2 v5).OK := fun v2 v5 k0_hw3 => k0_hw3.2.1.2.2.2.2.2.2.2.2.2.2.2.2.2.2.2.2.2.2.2.2.1
theorem k0_mult46_dvd : ∀ (v2 : BitVec 32) (v5 : BitVec 32) (k0_hw3 : k0_chk3 v2 v5) (k0_t46 : Fin (k0_t46_loop v2 v5).trips), 256 ∣ (k0_mult46 v2 v5 k0_t46).toNat := fun v2 v5 k0_hw3 k0_t46 => k0_hw3.2.1.2.2.2.2.2.2.2.2.2.2.2.2.2.2.2.2.2.2.2.2.2.1 k0_t46
theorem k0_off95_inb : ∀ (v2 : BitVec 32) (v5 : BitVec 32) (k0_hw3 : k0_chk3 v2 v5) (k0_t46 : Fin (k0_t46_loop v2 v5).trips), ∀ a, (k0_off95 v2 v5 k0_t46) a + S1024x256.size a ≤ S32768x256.size a := fun v2 v5 k0_hw3 k0_t46 => k0_hw3.2.1.2.2.2.2.2.2.2.2.2.2.2.2.2.2.2.2.2.2.2.2.2.2.1 k0_t46
theorem k0_off96_inb : ∀ (v2 : BitVec 32) (v5 : BitVec 32) (k0_hw3 : k0_chk3 v2 v5) (k0_t46 : Fin (k0_t46_loop v2 v5).trips), ∀ a, (k0_off96 v2 v5 k0_t46) a + S1x1x128x1024.size a ≤ S1x1x128x32768.size a := fun v2 v5 k0_hw3 k0_t46 => k0_hw3.2.1.2.2.2.2.2.2.2.2.2.2.2.2.2.2.2.2.2.2.2.2.2.2.2.1 k0_t46
theorem k0_t47_ok : ∀ (v2 : BitVec 32) (v5 : BitVec 32) (k0_hw3 : k0_chk3 v2 v5), (k0_t47_loop v2 v5).OK := fun v2 v5 k0_hw3 => k0_hw3.2.1.2.2.2.2.2.2.2.2.2.2.2.2.2.2.2.2.2.2.2.2.2.2.2.2.1
theorem k0_mult47_dvd : ∀ (v2 : BitVec 32) (v5 : BitVec 32) (k0_hw3 : k0_chk3 v2 v5) (k0_t47 : Fin (k0_t47_loop v2 v5).trips), 256 ∣ (k0_mult47 v2 v5 k0_t47).toNat := fun v2 v5 k0_hw3 k0_t47 => k0_hw3.2.1.2.2.2.2.2.2.2.2.2.2.2.2.2.2.2.2.2.2.2.2.2.2.2.2.2.1 k0_t47
theorem k0_off97_inb : ∀ (v2 : BitVec 32) (v5 : BitVec 32) (k0_hw3 : k0_chk3 v2 v5) (k0_t47 : Fin (k0_t47_loop v2 v5).trips), ∀ a, (k0_off97 v2 v5 k0_t47) a + S256x256.size a ≤ S32768x256.size a := fun v2 v5 k0_hw3 k0_t47 => k0_hw3.2.1.2.2.2.2.2.2.2.2.2.2.2.2.2.2.2.2.2.2.2.2.2.2.2.2.2.2.1 k0_t47
theorem k0_off98_inb : ∀ (v2 : BitVec 32) (v5 : BitVec 32) (k0_hw3 : k0_chk3 v2 v5) (k0_t47 : Fin (k0_t47_loop v2 v5).trips), ∀ a, (k0_off98 v2 v5 k0_t47) a + S1x1x128x256.size a ≤ S1x1x128x32768.size a := fun v2 v5 k0_hw3 k0_t47 => k0_hw3.2.1.2.2.2.2.2.2.2.2.2.2.2.2.2.2.2.2.2.2.2.2.2.2.2.2.2.2.2.1 k0_t47
theorem k0_t48_ok : ∀ (v2 : BitVec 32) (v5 : BitVec 32) (k0_hw3 : k0_chk3 v2 v5), (k0_t48_loop v2 v5).OK := fun v2 v5 k0_hw3 => k0_hw3.2.1.2.2.2.2.2.2.2.2.2.2.2.2.2.2.2.2.2.2.2.2.2.2.2.2.2.2.2.2.1
theorem k0_mult48_dvd : ∀ (v2 : BitVec 32) (v5 : BitVec 32) (k0_hw3 : k0_chk3 v2 v5) (k0_t48 : Fin (k0_t48_loop v2 v5).trips), 256 ∣ (k0_mult48 v2 v5 k0_t48).toNat := fun v2 v5 k0_hw3 k0_t48 => k0_hw3.2.1.2.2.2.2.2.2.2.2.2.2.2.2.2.2.2.2.2.2.2.2.2.2.2.2.2.2.2.2.2.1 k0_t48
theorem k0_off99_inb : ∀ (v2 : BitVec 32) (v5 : BitVec 32) (k0_hw3 : k0_chk3 v2 v5) (k0_t48 : Fin (k0_t48_loop v2 v5).trips), ∀ a, (k0_off99 v2 v5 k0_t48) a + S256x256.size a ≤ S32768x256.size a := fun v2 v5 k0_hw3 k0_t48 => k0_hw3.2.1.2.2.2.2.2.2.2.2.2.2.2.2.2.2.2.2.2.2.2.2.2.2.2.2.2.2.2.2.2.2.1 k0_t48
theorem k0_off100_inb : ∀ (v2 : BitVec 32) (v5 : BitVec 32) (k0_hw3 : k0_chk3 v2 v5) (k0_t48 : Fin (k0_t48_loop v2 v5).trips), ∀ a, (k0_off100 v2 v5 k0_t48) a + S1x1x128x256.size a ≤ S1x1x128x32768.size a := fun v2 v5 k0_hw3 k0_t48 => k0_hw3.2.1.2.2.2.2.2.2.2.2.2.2.2.2.2.2.2.2.2.2.2.2.2.2.2.2.2.2.2.2.2.2.2 k0_t48
theorem k0_t57_ok : ∀ (v2 : BitVec 32) (v5 : BitVec 32) (k0_hw3 : k0_chk3 v2 v5), (k0_t57_loop v2 v5).OK := fun v2 v5 k0_hw3 => k0_hw3.2.2.1.1
theorem k0_mult57_dvd : ∀ (v2 : BitVec 32) (v5 : BitVec 32) (k0_hw3 : k0_chk3 v2 v5) (k0_t57 : Fin (k0_t57_loop v2 v5).trips), 256 ∣ (k0_mult57 v2 v5 k0_t57).toNat := fun v2 v5 k0_hw3 k0_t57 => k0_hw3.2.2.1.2.1 k0_t57
theorem k0_off117_inb : ∀ (v2 : BitVec 32) (v5 : BitVec 32) (k0_hw3 : k0_chk3 v2 v5) (k0_t57 : Fin (k0_t57_loop v2 v5).trips), ∀ a, (k0_off117 v2 v5 k0_t57) a + S1024x256.size a ≤ S32768x256.size a := fun v2 v5 k0_hw3 k0_t57 => k0_hw3.2.2.1.2.2.1 k0_t57
theorem k0_off118_inb : ∀ (v2 : BitVec 32) (v5 : BitVec 32) (k0_hw3 : k0_chk3 v2 v5) (k0_t57 : Fin (k0_t57_loop v2 v5).trips), ∀ a, (k0_off118 v2 v5 k0_t57) a + S1x1x128x1024.size a ≤ S1x1x128x32768.size a := fun v2 v5 k0_hw3 k0_t57 => k0_hw3.2.2.1.2.2.2.1 k0_t57
theorem k0_t58_ok : ∀ (v2 : BitVec 32) (v5 : BitVec 32) (k0_hw3 : k0_chk3 v2 v5), (k0_t58_loop v2 v5).OK := fun v2 v5 k0_hw3 => k0_hw3.2.2.1.2.2.2.2.1
theorem k0_mult58_dvd : ∀ (v2 : BitVec 32) (v5 : BitVec 32) (k0_hw3 : k0_chk3 v2 v5) (k0_t58 : Fin (k0_t58_loop v2 v5).trips), 256 ∣ (k0_mult58 v2 v5 k0_t58).toNat := fun v2 v5 k0_hw3 k0_t58 => k0_hw3.2.2.1.2.2.2.2.2.1 k0_t58
theorem k0_off119_inb : ∀ (v2 : BitVec 32) (v5 : BitVec 32) (k0_hw3 : k0_chk3 v2 v5) (k0_t58 : Fin (k0_t58_loop v2 v5).trips), ∀ a, (k0_off119 v2 v5 k0_t58) a + S1024x256.size a ≤ S32768x256.size a := fun v2 v5 k0_hw3 k0_t58 => k0_hw3.2.2.1.2.2.2.2.2.2.1 k0_t58
theorem k0_off120_inb : ∀ (v2 : BitVec 32) (v5 : BitVec 32) (k0_hw3 : k0_chk3 v2 v5) (k0_t58 : Fin (k0_t58_loop v2 v5).trips), ∀ a, (k0_off120 v2 v5 k0_t58) a + S1x1x128x1024.size a ≤ S1x1x128x32768.size a := fun v2 v5 k0_hw3 k0_t58 => k0_hw3.2.2.1.2.2.2.2.2.2.2.1 k0_t58
theorem k0_t59_ok : ∀ (v2 : BitVec 32) (v5 : BitVec 32) (k0_hw3 : k0_chk3 v2 v5), (k0_t59_loop v2 v5).OK := fun v2 v5 k0_hw3 => k0_hw3.2.2.1.2.2.2.2.2.2.2.2.1
theorem k0_mult59_dvd : ∀ (v2 : BitVec 32) (v5 : BitVec 32) (k0_hw3 : k0_chk3 v2 v5) (k0_t59 : Fin (k0_t59_loop v2 v5).trips), 256 ∣ (k0_mult59 v2 v5 k0_t59).toNat := fun v2 v5 k0_hw3 k0_t59 => k0_hw3.2.2.1.2.2.2.2.2.2.2.2.2.1 k0_t59
theorem k0_off121_inb : ∀ (v2 : BitVec 32) (v5 : BitVec 32) (k0_hw3 : k0_chk3 v2 v5) (k0_t59 : Fin (k0_t59_loop v2 v5).trips), ∀ a, (k0_off121 v2 v5 k0_t59) a + S256x256.size a ≤ S32768x256.size a := fun v2 v5 k0_hw3 k0_t59 => k0_hw3.2.2.1.2.2.2.2.2.2.2.2.2.2.1 k0_t59
theorem k0_off122_inb : ∀ (v2 : BitVec 32) (v5 : BitVec 32) (k0_hw3 : k0_chk3 v2 v5) (k0_t59 : Fin (k0_t59_loop v2 v5).trips), ∀ a, (k0_off122 v2 v5 k0_t59) a + S1x1x128x256.size a ≤ S1x1x128x32768.size a := fun v2 v5 k0_hw3 k0_t59 => k0_hw3.2.2.1.2.2.2.2.2.2.2.2.2.2.2.1 k0_t59
theorem k0_t60_ok : ∀ (v2 : BitVec 32) (v5 : BitVec 32) (k0_hw3 : k0_chk3 v2 v5), (k0_t60_loop v2 v5).OK := fun v2 v5 k0_hw3 => k0_hw3.2.2.1.2.2.2.2.2.2.2.2.2.2.2.2.1
theorem k0_mult60_dvd : ∀ (v2 : BitVec 32) (v5 : BitVec 32) (k0_hw3 : k0_chk3 v2 v5) (k0_t60 : Fin (k0_t60_loop v2 v5).trips), 256 ∣ (k0_mult60 v2 v5 k0_t60).toNat := fun v2 v5 k0_hw3 k0_t60 => k0_hw3.2.2.1.2.2.2.2.2.2.2.2.2.2.2.2.2.1 k0_t60
theorem k0_off123_inb : ∀ (v2 : BitVec 32) (v5 : BitVec 32) (k0_hw3 : k0_chk3 v2 v5) (k0_t60 : Fin (k0_t60_loop v2 v5).trips), ∀ a, (k0_off123 v2 v5 k0_t60) a + S256x256.size a ≤ S32768x256.size a := fun v2 v5 k0_hw3 k0_t60 => k0_hw3.2.2.1.2.2.2.2.2.2.2.2.2.2.2.2.2.2.1 k0_t60
theorem k0_off124_inb : ∀ (v2 : BitVec 32) (v5 : BitVec 32) (k0_hw3 : k0_chk3 v2 v5) (k0_t60 : Fin (k0_t60_loop v2 v5).trips), ∀ a, (k0_off124 v2 v5 k0_t60) a + S1x1x128x256.size a ≤ S1x1x128x32768.size a := fun v2 v5 k0_hw3 k0_t60 => k0_hw3.2.2.1.2.2.2.2.2.2.2.2.2.2.2.2.2.2.2.1 k0_t60
theorem k0_t69_ok : ∀ (v2 : BitVec 32) (v5 : BitVec 32) (k0_hw3 : k0_chk3 v2 v5), (k0_t69_loop v2 v5).OK := fun v2 v5 k0_hw3 => k0_hw3.2.2.1.2.2.2.2.2.2.2.2.2.2.2.2.2.2.2.2.1
theorem k0_mult69_dvd : ∀ (v2 : BitVec 32) (v5 : BitVec 32) (k0_hw3 : k0_chk3 v2 v5) (k0_t69 : Fin (k0_t69_loop v2 v5).trips), 256 ∣ (k0_mult69 v2 v5 k0_t69).toNat := fun v2 v5 k0_hw3 k0_t69 => k0_hw3.2.2.1.2.2.2.2.2.2.2.2.2.2.2.2.2.2.2.2.2.1 k0_t69
theorem k0_off141_inb : ∀ (v2 : BitVec 32) (v5 : BitVec 32) (k0_hw3 : k0_chk3 v2 v5) (k0_t69 : Fin (k0_t69_loop v2 v5).trips), ∀ a, (k0_off141 v2 v5 k0_t69) a + S1024x256.size a ≤ S32768x256.size a := fun v2 v5 k0_hw3 k0_t69 => k0_hw3.2.2.1.2.2.2.2.2.2.2.2.2.2.2.2.2.2.2.2.2.2.1 k0_t69
theorem k0_off142_inb : ∀ (v2 : BitVec 32) (v5 : BitVec 32) (k0_hw3 : k0_chk3 v2 v5) (k0_t69 : Fin (k0_t69_loop v2 v5).trips), ∀ a, (k0_off142 v2 v5 k0_t69) a + S1x1x128x1024.size a ≤ S1x1x128x32768.size a := fun v2 v5 k0_hw3 k0_t69 => k0_hw3.2.2.1.2.2.2.2.2.2.2.2.2.2.2.2.2.2.2.2.2.2.2.1 k0_t69
theorem k0_t70_ok : ∀ (v2 : BitVec 32) (v5 : BitVec 32) (k0_hw3 : k0_chk3 v2 v5), (k0_t70_loop v2 v5).OK := fun v2 v5 k0_hw3 => k0_hw3.2.2.1.2.2.2.2.2.2.2.2.2.2.2.2.2.2.2.2.2.2.2.2.1
theorem k0_mult70_dvd : ∀ (v2 : BitVec 32) (v5 : BitVec 32) (k0_hw3 : k0_chk3 v2 v5) (k0_t70 : Fin (k0_t70_loop v2 v5).trips), 256 ∣ (k0_mult70 v2 v5 k0_t70).toNat := fun v2 v5 k0_hw3 k0_t70 => k0_hw3.2.2.1.2.2.2.2.2.2.2.2.2.2.2.2.2.2.2.2.2.2.2.2.2.1 k0_t70
theorem k0_off143_inb : ∀ (v2 : BitVec 32) (v5 : BitVec 32) (k0_hw3 : k0_chk3 v2 v5) (k0_t70 : Fin (k0_t70_loop v2 v5).trips), ∀ a, (k0_off143 v2 v5 k0_t70) a + S1024x256.size a ≤ S32768x256.size a := fun v2 v5 k0_hw3 k0_t70 => k0_hw3.2.2.1.2.2.2.2.2.2.2.2.2.2.2.2.2.2.2.2.2.2.2.2.2.2.1 k0_t70
theorem k0_off144_inb : ∀ (v2 : BitVec 32) (v5 : BitVec 32) (k0_hw3 : k0_chk3 v2 v5) (k0_t70 : Fin (k0_t70_loop v2 v5).trips), ∀ a, (k0_off144 v2 v5 k0_t70) a + S1x1x128x1024.size a ≤ S1x1x128x32768.size a := fun v2 v5 k0_hw3 k0_t70 => k0_hw3.2.2.1.2.2.2.2.2.2.2.2.2.2.2.2.2.2.2.2.2.2.2.2.2.2.2.1 k0_t70
theorem k0_t71_ok : ∀ (v2 : BitVec 32) (v5 : BitVec 32) (k0_hw3 : k0_chk3 v2 v5), (k0_t71_loop v2 v5).OK := fun v2 v5 k0_hw3 => k0_hw3.2.2.1.2.2.2.2.2.2.2.2.2.2.2.2.2.2.2.2.2.2.2.2.2.2.2.2.1
theorem k0_mult71_dvd : ∀ (v2 : BitVec 32) (v5 : BitVec 32) (k0_hw3 : k0_chk3 v2 v5) (k0_t71 : Fin (k0_t71_loop v2 v5).trips), 256 ∣ (k0_mult71 v2 v5 k0_t71).toNat := fun v2 v5 k0_hw3 k0_t71 => k0_hw3.2.2.1.2.2.2.2.2.2.2.2.2.2.2.2.2.2.2.2.2.2.2.2.2.2.2.2.2.1 k0_t71
theorem k0_off145_inb : ∀ (v2 : BitVec 32) (v5 : BitVec 32) (k0_hw3 : k0_chk3 v2 v5) (k0_t71 : Fin (k0_t71_loop v2 v5).trips), ∀ a, (k0_off145 v2 v5 k0_t71) a + S256x256.size a ≤ S32768x256.size a := fun v2 v5 k0_hw3 k0_t71 => k0_hw3.2.2.1.2.2.2.2.2.2.2.2.2.2.2.2.2.2.2.2.2.2.2.2.2.2.2.2.2.2.1 k0_t71
theorem k0_off146_inb : ∀ (v2 : BitVec 32) (v5 : BitVec 32) (k0_hw3 : k0_chk3 v2 v5) (k0_t71 : Fin (k0_t71_loop v2 v5).trips), ∀ a, (k0_off146 v2 v5 k0_t71) a + S1x1x128x256.size a ≤ S1x1x128x32768.size a := fun v2 v5 k0_hw3 k0_t71 => k0_hw3.2.2.1.2.2.2.2.2.2.2.2.2.2.2.2.2.2.2.2.2.2.2.2.2.2.2.2.2.2.2.1 k0_t71
theorem k0_t72_ok : ∀ (v2 : BitVec 32) (v5 : BitVec 32) (k0_hw3 : k0_chk3 v2 v5), (k0_t72_loop v2 v5).OK := fun v2 v5 k0_hw3 => k0_hw3.2.2.1.2.2.2.2.2.2.2.2.2.2.2.2.2.2.2.2.2.2.2.2.2.2.2.2.2.2.2.2.1
theorem k0_mult72_dvd : ∀ (v2 : BitVec 32) (v5 : BitVec 32) (k0_hw3 : k0_chk3 v2 v5) (k0_t72 : Fin (k0_t72_loop v2 v5).trips), 256 ∣ (k0_mult72 v2 v5 k0_t72).toNat := fun v2 v5 k0_hw3 k0_t72 => k0_hw3.2.2.1.2.2.2.2.2.2.2.2.2.2.2.2.2.2.2.2.2.2.2.2.2.2.2.2.2.2.2.2.2.1 k0_t72
theorem k0_off147_inb : ∀ (v2 : BitVec 32) (v5 : BitVec 32) (k0_hw3 : k0_chk3 v2 v5) (k0_t72 : Fin (k0_t72_loop v2 v5).trips), ∀ a, (k0_off147 v2 v5 k0_t72) a + S256x256.size a ≤ S32768x256.size a := fun v2 v5 k0_hw3 k0_t72 => k0_hw3.2.2.1.2.2.2.2.2.2.2.2.2.2.2.2.2.2.2.2.2.2.2.2.2.2.2.2.2.2.2.2.2.2.1 k0_t72
theorem k0_off148_inb : ∀ (v2 : BitVec 32) (v5 : BitVec 32) (k0_hw3 : k0_chk3 v2 v5) (k0_t72 : Fin (k0_t72_loop v2 v5).trips), ∀ a, (k0_off148 v2 v5 k0_t72) a + S1x1x128x256.size a ≤ S1x1x128x32768.size a := fun v2 v5 k0_hw3 k0_t72 => k0_hw3.2.2.1.2.2.2.2.2.2.2.2.2.2.2.2.2.2.2.2.2.2.2.2.2.2.2.2.2.2.2.2.2.2.2 k0_t72
theorem k0_t81_ok : ∀ (v2 : BitVec 32) (v5 : BitVec 32) (k0_hw3 : k0_chk3 v2 v5), (k0_t81_loop v2 v5).OK := fun v2 v5 k0_hw3 => k0_hw3.2.2.2.1
theorem k0_mult81_dvd : ∀ (v2 : BitVec 32) (v5 : BitVec 32) (k0_hw3 : k0_chk3 v2 v5) (k0_t81 : Fin (k0_t81_loop v2 v5).trips), 256 ∣ (k0_mult81 v2 v5 k0_t81).toNat := fun v2 v5 k0_hw3 k0_t81 => k0_hw3.2.2.2.2.1 k0_t81
theorem k0_off165_inb : ∀ (v2 : BitVec 32) (v5 : BitVec 32) (k0_hw3 : k0_chk3 v2 v5) (k0_t81 : Fin (k0_t81_loop v2 v5).trips), ∀ a, (k0_off165 v2 v5 k0_t81) a + S1024x256.size a ≤ S32768x256.size a := fun v2 v5 k0_hw3 k0_t81 => k0_hw3.2.2.2.2.2.1 k0_t81
theorem k0_off166_inb : ∀ (v2 : BitVec 32) (v5 : BitVec 32) (k0_hw3 : k0_chk3 v2 v5) (k0_t81 : Fin (k0_t81_loop v2 v5).trips), ∀ a, (k0_off166 v2 v5 k0_t81) a + S1x1x128x1024.size a ≤ S1x1x128x32768.size a := fun v2 v5 k0_hw3 k0_t81 => k0_hw3.2.2.2.2.2.2.1 k0_t81
theorem k0_t82_ok : ∀ (v2 : BitVec 32) (v5 : BitVec 32) (k0_hw3 : k0_chk3 v2 v5), (k0_t82_loop v2 v5).OK := fun v2 v5 k0_hw3 => k0_hw3.2.2.2.2.2.2.2.1
theorem k0_mult82_dvd : ∀ (v2 : BitVec 32) (v5 : BitVec 32) (k0_hw3 : k0_chk3 v2 v5) (k0_t82 : Fin (k0_t82_loop v2 v5).trips), 256 ∣ (k0_mult82 v2 v5 k0_t82).toNat := fun v2 v5 k0_hw3 k0_t82 => k0_hw3.2.2.2.2.2.2.2.2.1 k0_t82
theorem k0_off167_inb : ∀ (v2 : BitVec 32) (v5 : BitVec 32) (k0_hw3 : k0_chk3 v2 v5) (k0_t82 : Fin (k0_t82_loop v2 v5).trips), ∀ a, (k0_off167 v2 v5 k0_t82) a + S1024x256.size a ≤ S32768x256.size a := fun v2 v5 k0_hw3 k0_t82 => k0_hw3.2.2.2.2.2.2.2.2.2.1 k0_t82
theorem k0_off168_inb : ∀ (v2 : BitVec 32) (v5 : BitVec 32) (k0_hw3 : k0_chk3 v2 v5) (k0_t82 : Fin (k0_t82_loop v2 v5).trips), ∀ a, (k0_off168 v2 v5 k0_t82) a + S1x1x128x1024.size a ≤ S1x1x128x32768.size a := fun v2 v5 k0_hw3 k0_t82 => k0_hw3.2.2.2.2.2.2.2.2.2.2.1 k0_t82
theorem k0_t83_ok : ∀ (v2 : BitVec 32) (v5 : BitVec 32) (k0_hw3 : k0_chk3 v2 v5), (k0_t83_loop v2 v5).OK := fun v2 v5 k0_hw3 => k0_hw3.2.2.2.2.2.2.2.2.2.2.2.1
theorem k0_mult83_dvd : ∀ (v2 : BitVec 32) (v5 : BitVec 32) (k0_hw3 : k0_chk3 v2 v5) (k0_t83 : Fin (k0_t83_loop v2 v5).trips), 256 ∣ (k0_mult83 v2 v5 k0_t83).toNat := fun v2 v5 k0_hw3 k0_t83 => k0_hw3.2.2.2.2.2.2.2.2.2.2.2.2.1 k0_t83
theorem k0_off169_inb : ∀ (v2 : BitVec 32) (v5 : BitVec 32) (k0_hw3 : k0_chk3 v2 v5) (k0_t83 : Fin (k0_t83_loop v2 v5).trips), ∀ a, (k0_off169 v2 v5 k0_t83) a + S256x256.size a ≤ S32768x256.size a := fun v2 v5 k0_hw3 k0_t83 => k0_hw3.2.2.2.2.2.2.2.2.2.2.2.2.2.1 k0_t83
theorem k0_off170_inb : ∀ (v2 : BitVec 32) (v5 : BitVec 32) (k0_hw3 : k0_chk3 v2 v5) (k0_t83 : Fin (k0_t83_loop v2 v5).trips), ∀ a, (k0_off170 v2 v5 k0_t83) a + S1x1x128x256.size a ≤ S1x1x128x32768.size a := fun v2 v5 k0_hw3 k0_t83 => k0_hw3.2.2.2.2.2.2.2.2.2.2.2.2.2.2.1 k0_t83
theorem k0_t84_ok : ∀ (v2 : BitVec 32) (v5 : BitVec 32) (k0_hw3 : k0_chk3 v2 v5), (k0_t84_loop v2 v5).OK := fun v2 v5 k0_hw3 => k0_hw3.2.2.2.2.2.2.2.2.2.2.2.2.2.2.2.1
theorem k0_mult84_dvd : ∀ (v2 : BitVec 32) (v5 : BitVec 32) (k0_hw3 : k0_chk3 v2 v5) (k0_t84 : Fin (k0_t84_loop v2 v5).trips), 256 ∣ (k0_mult84 v2 v5 k0_t84).toNat := fun v2 v5 k0_hw3 k0_t84 => k0_hw3.2.2.2.2.2.2.2.2.2.2.2.2.2.2.2.2.1 k0_t84
theorem k0_off171_inb : ∀ (v2 : BitVec 32) (v5 : BitVec 32) (k0_hw3 : k0_chk3 v2 v5) (k0_t84 : Fin (k0_t84_loop v2 v5).trips), ∀ a, (k0_off171 v2 v5 k0_t84) a + S256x256.size a ≤ S32768x256.size a := fun v2 v5 k0_hw3 k0_t84 => k0_hw3.2.2.2.2.2.2.2.2.2.2.2.2.2.2.2.2.2.1 k0_t84
theorem k0_off172_inb : ∀ (v2 : BitVec 32) (v5 : BitVec 32) (k0_hw3 : k0_chk3 v2 v5) (k0_t84 : Fin (k0_t84_loop v2 v5).trips), ∀ a, (k0_off172 v2 v5 k0_t84) a + S1x1x128x256.size a ≤ S1x1x128x32768.size a := fun v2 v5 k0_hw3 k0_t84 => k0_hw3.2.2.2.2.2.2.2.2.2.2.2.2.2.2.2.2.2.2.1 k0_t84
theorem k0_t93_ok : ∀ (v2 : BitVec 32) (v5 : BitVec 32) (k0_hw3 : k0_chk3 v2 v5), (k0_t93_loop v2 v5).OK := fun v2 v5 k0_hw3 => k0_hw3.2.2.2.2.2.2.2.2.2.2.2.2.2.2.2.2.2.2.2.1
theorem k0_mult93_dvd : ∀ (v2 : BitVec 32) (v5 : BitVec 32) (k0_hw3 : k0_chk3 v2 v5) (k0_t93 : Fin (k0_t93_loop v2 v5).trips), 256 ∣ (k0_mult93 v2 v5 k0_t93).toNat := fun v2 v5 k0_hw3 k0_t93 => k0_hw3.2.2.2.2.2.2.2.2.2.2.2.2.2.2.2.2.2.2.2.2.1 k0_t93
theorem k0_off189_inb : ∀ (v2 : BitVec 32) (v5 : BitVec 32) (k0_hw3 : k0_chk3 v2 v5) (k0_t93 : Fin (k0_t93_loop v2 v5).trips), ∀ a, (k0_off189 v2 v5 k0_t93) a + S1024x256.size a ≤ S32768x256.size a := fun v2 v5 k0_hw3 k0_t93 => k0_hw3.2.2.2.2.2.2.2.2.2.2.2.2.2.2.2.2.2.2.2.2.2.1 k0_t93
theorem k0_off190_inb : ∀ (v2 : BitVec 32) (v5 : BitVec 32) (k0_hw3 : k0_chk3 v2 v5) (k0_t93 : Fin (k0_t93_loop v2 v5).trips), ∀ a, (k0_off190 v2 v5 k0_t93) a + S1x1x128x1024.size a ≤ S1x1x128x32768.size a := fun v2 v5 k0_hw3 k0_t93 => k0_hw3.2.2.2.2.2.2.2.2.2.2.2.2.2.2.2.2.2.2.2.2.2.2.1 k0_t93
theorem k0_t94_ok : ∀ (v2 : BitVec 32) (v5 : BitVec 32) (k0_hw3 : k0_chk3 v2 v5), (k0_t94_loop v2 v5).OK := fun v2 v5 k0_hw3 => k0_hw3.2.2.2.2.2.2.2.2.2.2.2.2.2.2.2.2.2.2.2.2.2.2.2.1
theorem k0_mult94_dvd : ∀ (v2 : BitVec 32) (v5 : BitVec 32) (k0_hw3 : k0_chk3 v2 v5) (k0_t94 : Fin (k0_t94_loop v2 v5).trips), 256 ∣ (k0_mult94 v2 v5 k0_t94).toNat := fun v2 v5 k0_hw3 k0_t94 => k0_hw3.2.2.2.2.2.2.2.2.2.2.2.2.2.2.2.2.2.2.2.2.2.2.2.2.1 k0_t94
theorem k0_off191_inb : ∀ (v2 : BitVec 32) (v5 : BitVec 32) (k0_hw3 : k0_chk3 v2 v5) (k0_t94 : Fin (k0_t94_loop v2 v5).trips), ∀ a, (k0_off191 v2 v5 k0_t94) a + S1024x256.size a ≤ S32768x256.size a := fun v2 v5 k0_hw3 k0_t94 => k0_hw3.2.2.2.2.2.2.2.2.2.2.2.2.2.2.2.2.2.2.2.2.2.2.2.2.2.1 k0_t94
theorem k0_off192_inb : ∀ (v2 : BitVec 32) (v5 : BitVec 32) (k0_hw3 : k0_chk3 v2 v5) (k0_t94 : Fin (k0_t94_loop v2 v5).trips), ∀ a, (k0_off192 v2 v5 k0_t94) a + S1x1x128x1024.size a ≤ S1x1x128x32768.size a := fun v2 v5 k0_hw3 k0_t94 => k0_hw3.2.2.2.2.2.2.2.2.2.2.2.2.2.2.2.2.2.2.2.2.2.2.2.2.2.2.1 k0_t94
theorem k0_t95_ok : ∀ (v2 : BitVec 32) (v5 : BitVec 32) (k0_hw3 : k0_chk3 v2 v5), (k0_t95_loop v2 v5).OK := fun v2 v5 k0_hw3 => k0_hw3.2.2.2.2.2.2.2.2.2.2.2.2.2.2.2.2.2.2.2.2.2.2.2.2.2.2.2.1
theorem k0_mult95_dvd : ∀ (v2 : BitVec 32) (v5 : BitVec 32) (k0_hw3 : k0_chk3 v2 v5) (k0_t95 : Fin (k0_t95_loop v2 v5).trips), 256 ∣ (k0_mult95 v2 v5 k0_t95).toNat := fun v2 v5 k0_hw3 k0_t95 => k0_hw3.2.2.2.2.2.2.2.2.2.2.2.2.2.2.2.2.2.2.2.2.2.2.2.2.2.2.2.2.1 k0_t95
theorem k0_off193_inb : ∀ (v2 : BitVec 32) (v5 : BitVec 32) (k0_hw3 : k0_chk3 v2 v5) (k0_t95 : Fin (k0_t95_loop v2 v5).trips), ∀ a, (k0_off193 v2 v5 k0_t95) a + S256x256.size a ≤ S32768x256.size a := fun v2 v5 k0_hw3 k0_t95 => k0_hw3.2.2.2.2.2.2.2.2.2.2.2.2.2.2.2.2.2.2.2.2.2.2.2.2.2.2.2.2.2.1 k0_t95
theorem k0_off194_inb : ∀ (v2 : BitVec 32) (v5 : BitVec 32) (k0_hw3 : k0_chk3 v2 v5) (k0_t95 : Fin (k0_t95_loop v2 v5).trips), ∀ a, (k0_off194 v2 v5 k0_t95) a + S1x1x128x256.size a ≤ S1x1x128x32768.size a := fun v2 v5 k0_hw3 k0_t95 => k0_hw3.2.2.2.2.2.2.2.2.2.2.2.2.2.2.2.2.2.2.2.2.2.2.2.2.2.2.2.2.2.2.1 k0_t95
theorem k0_t96_ok : ∀ (v2 : BitVec 32) (v5 : BitVec 32) (k0_hw3 : k0_chk3 v2 v5), (k0_t96_loop v2 v5).OK := fun v2 v5 k0_hw3 => k0_hw3.2.2.2.2.2.2.2.2.2.2.2.2.2.2.2.2.2.2.2.2.2.2.2.2.2.2.2.2.2.2.2.1
theorem k0_mult96_dvd : ∀ (v2 : BitVec 32) (v5 : BitVec 32) (k0_hw3 : k0_chk3 v2 v5) (k0_t96 : Fin (k0_t96_loop v2 v5).trips), 256 ∣ (k0_mult96 v2 v5 k0_t96).toNat := fun v2 v5 k0_hw3 k0_t96 => k0_hw3.2.2.2.2.2.2.2.2.2.2.2.2.2.2.2.2.2.2.2.2.2.2.2.2.2.2.2.2.2.2.2.2.1 k0_t96
theorem k0_off195_inb : ∀ (v2 : BitVec 32) (v5 : BitVec 32) (k0_hw3 : k0_chk3 v2 v5) (k0_t96 : Fin (k0_t96_loop v2 v5).trips), ∀ a, (k0_off195 v2 v5 k0_t96) a + S256x256.size a ≤ S32768x256.size a := fun v2 v5 k0_hw3 k0_t96 => k0_hw3.2.2.2.2.2.2.2.2.2.2.2.2.2.2.2.2.2.2.2.2.2.2.2.2.2.2.2.2.2.2.2.2.2.1 k0_t96
theorem k0_off196_inb : ∀ (v2 : BitVec 32) (v5 : BitVec 32) (k0_hw3 : k0_chk3 v2 v5) (k0_t96 : Fin (k0_t96_loop v2 v5).trips), ∀ a, (k0_off196 v2 v5 k0_t96) a + S1x1x128x256.size a ≤ S1x1x128x32768.size a := fun v2 v5 k0_hw3 k0_t96 => k0_hw3.2.2.2.2.2.2.2.2.2.2.2.2.2.2.2.2.2.2.2.2.2.2.2.2.2.2.2.2.2.2.2.2.2.2 k0_t96

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x32768x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x32768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x1x128x32768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S3x32768x2048 : Shape := ⟨3, ![3, 32768, 2048]⟩
abbrev S3x16x32768 : Shape := ⟨3, ![3, 16, 32768]⟩
abbrev S3x2x32768x128 : Shape := ⟨4, ![3, 2, 32768, 128]⟩
abbrev S3x2x128x32768 : Shape := ⟨4, ![3, 2, 128, 32768]⟩
abbrev S3x2x1x128 : Shape := ⟨4, ![3, 2, 1, 128]⟩
abbrev S3x32768 : Shape := ⟨2, ![3, 32768]⟩
abbrev S3x32768x2x8x128 : Shape := ⟨5, ![3, 32768, 2, 8, 128]⟩
abbrev S3x2x32768x32768x8 : Shape := ⟨5, ![3, 2, 32768, 32768, 8]⟩
abbrev S3x2x8x32768x32768 : Shape := ⟨5, ![3, 2, 8, 32768, 32768]⟩
abbrev S_ : Shape := ⟨0, ![]⟩
abbrev S3x2x8x32768 : Shape := ⟨4, ![3, 2, 8, 32768]⟩
abbrev S3x2x8x32768x1 : Shape := ⟨5, ![3, 2, 8, 32768, 1]⟩
abbrev S3x2x32768x1 : Shape := ⟨4, ![3, 2, 32768, 1]⟩
abbrev S3x2x32768 : Shape := ⟨3, ![3, 2, 32768]⟩
abbrev S3x2x1x1x32768 : Shape := ⟨5, ![3, 2, 1, 1, 32768]⟩
abbrev S32768 : Shape := ⟨1, ![32768]⟩
abbrev S3x32768x1 : Shape := ⟨3, ![3, 32768, 1]⟩
abbrev S3x1x32768 : Shape := ⟨3, ![3, 1, 32768]⟩
abbrev S3x32768x32768 : Shape := ⟨3, ![3, 32768, 32768]⟩
abbrev S1x1x32768 : Shape := ⟨3, ![1, 1, 32768]⟩
abbrev S1x32768x1 : Shape := ⟨3, ![1, 32768, 1]⟩
abbrev S1x32768x32768 : Shape := ⟨3, ![1, 32768, 32768]⟩
abbrev S3x1x1x32768x32768 : Shape := ⟨5, ![3, 1, 1, 32768, 32768]⟩
abbrev S3x2x8x32768x128 : Shape := ⟨5, ![3, 2, 8, 32768, 128]⟩
abbrev S3x2x1x1x128 : Shape := ⟨5, ![3, 2, 1, 1, 128]⟩

abbrev nBuf : Space → Nat
  | .hbm => 75
  | .vmem => 6
  | .smem => 0
  | _ => 0

abbrev bufTy : (tb : Table) → Fin (tcTables nBuf tb) → BufTy
  | .hbm, ⟨0, _⟩ => ⟨S3x32768x2048, .fp8e4m3⟩
  | .hbm, ⟨1, _⟩ => ⟨S3x16x32768, .f32⟩
  | .hbm, ⟨2, _⟩ => ⟨S3x2x32768x128, .fp8e4m3⟩
  | .hbm, ⟨3, _⟩ => ⟨S3x2x32768x128, .f32⟩
  | .hbm, ⟨4, _⟩ => ⟨S3x2x128x32768, .fp8e4m3⟩
  | .hbm, ⟨5, _⟩ => ⟨S3x2x1x128, .f32⟩
  | .hbm, ⟨6, _⟩ => ⟨S3x32768, .i32⟩
  | .hbm, ⟨7, _⟩ => ⟨S3x32768, .i1⟩
  | .hbm, ⟨8, _⟩ => ⟨S3x32768x2048, .f32⟩
  | .hbm, ⟨9, _⟩ => ⟨S3x2x32768x128, .f32⟩
  | .hbm, ⟨10, _⟩ => ⟨S3x2x128x32768, .f32⟩
  | .hbm, ⟨11, _⟩ => ⟨S3x32768x2x8x128, .f32⟩
  | .hbm, ⟨12, _⟩ => ⟨S3x2x32768x32768x8, .f32⟩
  | .hbm, ⟨13, _⟩ => ⟨S3x2x8x32768x32768, .f32⟩
  | .hbm, ⟨14, _⟩ => ⟨S_, .f32⟩
  | .hbm, ⟨15, _⟩ => ⟨S_, .f32⟩
  | .hbm, ⟨16, _⟩ => ⟨S3x16x32768, .f32⟩
  | .hbm, ⟨17, _⟩ => ⟨S3x16x32768, .f32⟩
  | .hbm, ⟨18, _⟩ => ⟨S3x2x8x32768, .f32⟩
  | .hbm, ⟨19, _⟩ => ⟨S3x2x8x32768x1, .f32⟩
  | .hbm, ⟨20, _⟩ => ⟨S3x2x32768x1, .f32⟩
  | .hbm, ⟨21, _⟩ => ⟨S3x2x32768, .f32⟩
  | .hbm, ⟨22, _⟩ => ⟨S3x2x1x1x32768, .f32⟩
  | .hbm, ⟨23, _⟩ => ⟨S32768, .i32⟩
  | .hbm, ⟨24, _⟩ => ⟨S3x32768x1, .i32⟩
  | .hbm, ⟨25, _⟩ => ⟨S3x1x32768, .i32⟩
  | .hbm, ⟨26, _⟩ => ⟨S3x32768x32768, .i32⟩
  | .hbm, ⟨27, _⟩ => ⟨S3x32768x32768, .i32⟩
  | .hbm, ⟨28, _⟩ => ⟨S3x32768x32768, .i1⟩
  | .hbm, ⟨29, _⟩ => ⟨S3x1x32768, .i1⟩
  | .hbm, ⟨30, _⟩ => ⟨S1x1x32768, .i32⟩
  | .hbm, ⟨31, _⟩ => ⟨S1x32768x1, .i32⟩
  | .hbm, ⟨32, _⟩ => ⟨S1x32768x32768, .i32⟩
  | .hbm, ⟨33, _⟩ => ⟨S1x32768x32768, .i32⟩
  | .hbm, ⟨34, _⟩ => ⟨S1x32768x32768, .i1⟩
  | .hbm, ⟨35, _⟩ => ⟨S3x32768x32768, .i1⟩
  | .hbm, ⟨36, _⟩ => ⟨S3x32768x32768, .i1⟩
  | .hbm, ⟨37, _⟩ => ⟨S3x32768x32768, .i1⟩
  | .hbm, ⟨38, _⟩ => ⟨S3x32768x32768, .i1⟩
  | .hbm, ⟨39, _⟩ => ⟨S3x2x8x32768x32768, .f32⟩
  | .hbm, ⟨40, _⟩ => ⟨S3x2x8x32768x32768, .f32⟩
  | .hbm, ⟨41, _⟩ => ⟨S3x2x8x32768x32768, .f32⟩
  | .hbm, ⟨42, _⟩ => ⟨S3x2x8x32768x32768, .f32⟩
  | .hbm, ⟨43, _⟩ => ⟨S3x1x1x32768x32768, .i1⟩
  | .hbm, ⟨44, _⟩ => ⟨S3x2x8x32768x32768, .i1⟩
  | .hbm, ⟨45, _⟩ => ⟨S_, .f32⟩
  | .hbm, ⟨46, _⟩ => ⟨S3x2x8x32768x32768, .f32⟩
  | .hbm, ⟨47, _⟩ => ⟨S3x2x8x32768x32768, .f32⟩
  | .hbm, ⟨48, _⟩ => ⟨S_, .f32⟩
  | .hbm, ⟨49, _⟩ => ⟨S3x2x8x32768, .f32⟩
  | .hbm, ⟨50, _⟩ => ⟨S3x2x8x32768x1, .f32⟩
  | .hbm, ⟨51, _⟩ => ⟨S3x2x8x32768x32768, .f32⟩
  | .hbm, ⟨52, _⟩ => ⟨S3x2x8x32768x32768, .f32⟩
  | .hbm, ⟨53, _⟩ => ⟨S3x2x8x32768x32768, .f32⟩
  | .hbm, ⟨54, _⟩ => ⟨S_, .f32⟩
  | .hbm, ⟨55, _⟩ => ⟨S3x2x8x32768, .f32⟩
  | .hbm, ⟨56, _⟩ => ⟨S3x2x8x32768x1, .f32⟩
  | .hbm, ⟨57, _⟩ => ⟨S_, .f32⟩
  | .hbm, ⟨58, _⟩ => ⟨S3x2x8x32768x32768, .f32⟩
  | .hbm, ⟨59, _⟩ => ⟨S3x2x8x32768x32768, .f32⟩
  | .hbm, ⟨60, _⟩ => ⟨S_, .f32⟩
  | .hbm, ⟨61, _⟩ => ⟨S3x2x8x32768x32768, .f32⟩
  | .hbm, ⟨62, _⟩ => ⟨S3x2x8x32768x32768, .f32⟩
  | .hbm, ⟨63, _⟩ => ⟨S3x2x8x32768x128, .f32⟩
  | .hbm, ⟨64, _⟩ => ⟨S3x2x1x1x128, .f32⟩
  | .hbm, ⟨65, _⟩ => ⟨S_, .f32⟩
  | .hbm, ⟨66, _⟩ => ⟨S3x2x1x1x128, .f32⟩
  | .hbm, ⟨67, _⟩ => ⟨S3x2x1x1x128, .f32⟩
  | .hbm, ⟨68, _⟩ => ⟨S3x2x8x32768x128, .f32⟩
  | .hbm, ⟨69, _⟩ => ⟨S3x2x8x32768x128, .f32⟩
  | .hbm, ⟨70, _⟩ => ⟨S3x2x8x32768x128, .f32⟩
  | .hbm, ⟨71, _⟩ => ⟨S3x2x8x32768x128, .f32⟩
  | .hbm, ⟨72, _⟩ => ⟨S3x32768x2x8x128, .f32⟩
  | .hbm, ⟨73, _⟩ => ⟨S3x32768x2048, .f32⟩
  | .hbm, ⟨74, _⟩ => ⟨S3x32768x2048, .bf16⟩
  | .local _ .vmem, ⟨0, _⟩ => ⟨S3x32768x2048, .fp8e4m3⟩
  | .local _ .vmem, ⟨1, _⟩ => ⟨S3x2x32768x128, .fp8e4m3⟩
  | .local _ .vmem, ⟨2, _⟩ => ⟨S3x2x128x32768, .fp8e4m3⟩
  | .local _ .vmem, ⟨3, _⟩ => ⟨S3x32768x2048, .f32⟩
  | .local _ .vmem, ⟨4, _⟩ => ⟨S3x2x32768x128, .f32⟩
  | .local _ .vmem, ⟨5, _⟩ => ⟨S3x2x128x32768, .f32⟩
  | _, _ => ⟨S3x32768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2x32768x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x128x32768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x32768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2x32768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2x128x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Head.lean ====
/-
The attention body, one head at a time.

The printed body is eight copies of the same stretch, one per head of the group.  Here the stretch
is written once, over the head's column of the query block, its row of the query scales and the
evidence its store carries, and the printed body is proved to be the prologue followed by the
stretch at each head.
-/
module

public import proofs.«01_k».proof.Proof.Gen.Kernel.Skeleton

@[expose] public section

set_option synthInstance.maxSize 4096

noncomputable section

namespace Cert.Kernel.Body

open Idealize.ShloMosaic Idealize.SL.Sem Cert.Kernel Cert.Kernel.Gen

variable {F : FTy → Type} [FloatOps F]
variable [Facts]

/-! ## The pure steps -/

/-- The running maximum of the scores, eight rows of partial maxima, folded with one block of 256. -/
def maxOf256 (acc : FVec F S8x256 .f32) (u : FVec F S256x256 .f32) : FVec F S8x256 .f32 :=
  maximumf acc (multiReduction .maximumf [0] S8x256 (shapeCast S32x8x256 u shapeCasts_S256x256_S32x8x256) 0xFF800000#32
    reduces_S32x8x256_S8x256 (.inl rfl) rfl)

/-- The same with a block of 1024. -/
def maxOf1024 (acc : FVec F S8x256 .f32) (u : FVec F S1024x256 .f32) : FVec F S8x256 .f32 :=
  maximumf acc (multiReduction .maximumf [0] S8x256 (shapeCast S128x8x256 u shapeCasts_S1024x256_S128x8x256) 0xFF800000#32
    reduces_S128x8x256_S8x256 (.inl rfl) rfl)

/-- The scores of a block of 256 keys: the dot products, each times its key's scale. -/
def scores256 (q : FVec F S256x128 .fp8e4m3) (k : Vec F S1x1x256x128 .fp8e4m3) (ks : Vec F S1x1x256x128 .f32) :
    FVec F S256x256 .f32 :=
  mulf (matmul dot_S256x128_S256x128_S256x256_1_1_0_0_n_n none
      (shapeCast S256x128 k shapeCasts_S1x1x256x128_S256x128 : FVec F S256x128 .fp8e4m3) q
      (constant S256x256 .f32 0x00000000#32))
    (concatenate S256x256 1 [⟨S256x128, shapeCast S256x128 ks shapeCasts_S1x1x256x128_S256x128⟩,
      ⟨S256x128, shapeCast S256x128 ks shapeCasts_S1x1x256x128_S256x128⟩] concatenates_S256x128_S256x128_S256x256_d1)

/-- The same for 1024 keys. -/
def scores1024 (q : FVec F S256x128 .fp8e4m3) (k : Vec F S1x1x1024x128 .fp8e4m3) (ks : Vec F S1x1x1024x128 .f32) :
    FVec F S1024x256 .f32 :=
  mulf (matmul dot_S1024x128_S256x128_S1024x256_1_1_0_0_n_n none
      (shapeCast S1024x128 k shapeCasts_S1x1x1024x128_S1024x128 : FVec F S1024x128 .fp8e4m3) q
      (constant S1024x256 .f32 0x00000000#32))
    (concatenate S1024x256 1 [⟨S1024x128, shapeCast S1024x128 ks shapeCasts_S1x1x1024x128_S1024x128⟩,
      ⟨S1024x128, shapeCast S1024x128 ks shapeCasts_S1x1x1024x128_S1024x128⟩] concatenates_S1024x128_S1024x128_S1024x256_d1)

/-- The scores of block `b` (the word the loop counts) with the keys outside the row's interval at
    minus infinity: the key `256 b + r` is kept where its distance from `first`, as an unsigned
    word, is at most the interval's length. -/
def masked256 (first len : IVec S1x256 32) (b : BitVec 32) (s : FVec F S256x256 .f32) : FVec F S256x256 .f32 :=
  select (cmpi .ule (subi (addi (iota .tc S256x256 32 [0] iota_S256x256_d0_w32) (broadcast S256x256 (Scalar.muli b 256#32)))
      (broadcastTo S256x256 first broadcasts_S1x256_S256x256)) (broadcastTo S256x256 len broadcasts_S1x256_S256x256))
    s (broadcast S256x256 (Scalar.ofBits .f32 0xFF800000#32 : F .f32))

/-- The unnormalised probabilities of 1024 keys. -/
def probs1024 (c m : FVec F S1x256 .f32) (u : Vec F S1024x256 .f32) : FVec F S1024x256 .f32 :=
  exp2 (mulf (subf u (broadcastTo S1024x256 m broadcasts_S1x256_S1024x256))
    (broadcastTo S1024x256 c broadcasts_S1x256_S1024x256))

/-- The unnormalised probabilities of 256 keys. -/
def probs256 (c m : FVec F S1x256 .f32) (u : Vec F S256x256 .f32) : FVec F S256x256 .f32 :=
  exp2 (mulf (subf u (broadcastTo S256x256 m broadcasts_S1x256_S256x256))
    (broadcastTo S256x256 c broadcasts_S1x256_S256x256))

/-- The row sums' eight partial sums, with 1024 keys more. -/
def sum1024 (p : FVec F S1024x256 .f32) (l : FVec F S8x256 .f32) : FVec F S8x256 .f32 :=
  addf l (multiReduction .add [0] S8x256 (shapeCast S128x8x256 p shapeCasts_S1024x256_S128x8x256) 0x00000000#32
    reduces_S128x8x256_S8x256 (.inl rfl) rfl)

/-- The row sums' eight partial sums, with 256 keys more. -/
def sum256 (p : FVec F S256x256 .f32) (l : FVec F S8x256 .f32) : FVec F S8x256 .f32 :=
  addf l (multiReduction .add [0] S8x256 (shapeCast S32x8x256 p shapeCasts_S256x256_S32x8x256) 0x00000000#32
    reduces_S32x8x256_S8x256 (.inl rfl) rfl)

/-- The weighted value codes, with 1024 keys more. -/
def weigh1024 (p : FVec F S1024x256 .f32) (vt : Vec F S1x1x128x1024 .fp8e4m3) (acc : FVec F S128x256 .f32) :
    FVec F S128x256 .f32 :=
  addf acc (matmul dot_S128x1024_S1024x256_S128x256_1_0_0_1_n_n none
    (shapeCast S128x1024 vt shapeCasts_S1x1x128x1024_S128x1024 : FVec F S128x1024 .fp8e4m3)
    (truncf .fp8e4m3 (minimumf (mulf p (broadcast S1024x256 (Scalar.ofBits .f32 0x43800000#32 : F .f32)))
      (broadcast S1024x256 (Scalar.ofBits .f32 0x43E00000#32 : F .f32))) bitsLt_fp8e4m3_f32)
    (constant S128x256 .f32 0x00000000#32))

/-- The weighted value codes, with 256 keys more. -/
def weigh256 (p : FVec F S256x256 .f32) (vt : Vec F S1x1x128x256 .fp8e4m3) (acc : FVec F S128x256 .f32) :
    FVec F S128x256 .f32 :=
  addf acc (matmul dot_S128x256_S256x256_S128x256_1_0_0_1_n_n none
    (shapeCast S128x256 vt shapeCasts_S1x1x128x256_S128x256 : FVec F S128x256 .fp8e4m3)
    (truncf .fp8e4m3 (minimumf (mulf p (broadcast S256x256 (Scalar.ofBits .f32 0x43800000#32 : F .f32)))
      (broadcast S256x256 (Scalar.ofBits .f32 0x43E00000#32 : F .f32))) bitsLt_fp8e4m3_f32)
    (constant S128x256 .f32 0x00000000#32))

/-- The carries of the value loops: the weighted codes and the row sums. -/
abbrev Carry (F : FTy → Type) := FVec F S128x256 .f32 × FVec F S8x256 .f32

/-! ## The trips -/

/-- A trip of a score loop: read the block's codes and scales, put its scores `U` down in the
    scratch, fold the maximum. -/
def scoreTrip (arg6 : Memref sig .tc .vmem S1x1x32768x128 .fp8e4m3) (arg7 : Memref sig .tc .vmem S1x1x32768x128 .f32)
    (arg13 : Memref sig .tc .vmem S32768x256 .f32) {n4 : Fin 4 → Nat} {n2 : Fin 2 → Nat}
    (p4 : 0 < (Shape.mk 4 n4).numel) (p2 : 0 < (Shape.mk 2 n2).numel)
    (o4 : Fin 4 → Nat) (h4 : ∀ a, o4 a + n4 a ≤ S1x1x32768x128.size a)
    (o2 : Fin 2 → Nat) (h2 : ∀ a, o2 a + n2 a ≤ S32768x256.size a)
    (U : Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32) (acc : FVec F S8x256 .f32) :
    Prog (TpuEff nD τ sig (Elt F) Λ₀ .tc) (FVec F S8x256 .f32) := do
  let k : Vec F (Shape.mk 4 n4) .fp8e4m3 ← Prog.lift (.load arg6 (Rect.unit (s := S1x1x32768x128) o4 n4 h4).toLoadRect (View.loadsAt_vmem p4))
  let ks : Vec F (Shape.mk 4 n4) .f32 ← Prog.lift (.load arg7 (Rect.unit (s := S1x1x32768x128) o4 n4 h4).toLoadRect (View.loadsAt_vmem p4))
  let _ : Vec F (Shape.mk 2 n2) .f32 ← Prog.lift (.load arg13 (Rect.unit (s := S32768x256) o2 n2 h2).toLoadRect (View.loadsAt_vmem p2))
  Prog.lift (.store arg13 (Rect.unit (s := S32768x256) o2 n2 h2) (shapeCast (Shape.mk 2 n2) (U k ks) hU) Finset.univ
    (View.stores_vmem_bits_univ p2 rfl) (.inl rfl))
  pure (up acc (U k ks))

/-- A trip of a value loop: read the block's scores back and its value codes, add them in. -/
def valueTrip (arg8 : Memref sig .tc .vmem S1x1x128x32768 .fp8e4m3) (arg13 : Memref sig .tc .vmem S32768x256 .f32)
    {n4 : Fin 4 → Nat} {n2 : Fin 2 → Nat}
    (p4 : 0 < (Shape.mk 4 n4).numel) (p2 : 0 < (Shape.mk 2 n2).numel)
    (o2 : Fin 2 → Nat) (h2 : ∀ a, o2 a + n2 a ≤ S32768x256.size a)
    (o4 : Fin 4 → Nat) (h4 : ∀ a, o4 a + n4 a ≤ S1x1x128x32768.size a)
    (up : Carry F → Vec F (Shape.mk 2 n2) .f32 → Vec F (Shape.mk 4 n4) .fp8e4m3 → Carry F) (acc : Carry F) :
    Prog (TpuEff nD τ sig (Elt F) Λ₀ .tc) (Carry F) := do
  let u : Vec F (Shape.mk 2 n2) .f32 ← Prog.lift (.load arg13 (Rect.unit (s := S32768x256) o2 n2 h2).toLoadRect (View.loadsAt_vmem p2))
  let vt : Vec F (Shape.mk 4 n4) .fp8e4m3 ← Prog.lift (.load arg8 (Rect.unit (s := S1x1x128x32768) o4 n4 h4).toLoadRect (View.loadsAt_vmem p4))
  pure (up acc u vt)

/-! ## The stages of a head -/

section Stages
variable (arg4 : Memref sig .tc .vmem S1x256x1024 .fp8e4m3) (arg5 : Memref sig .tc .vmem S1x8x256 .f32)
  (arg6 : Memref sig .tc .vmem S1x1x32768x128 .fp8e4m3) (arg7 : Memref sig .tc .vmem S1x1x32768x128 .f32)
  (arg8 : Memref sig .tc .vmem S1x1x128x32768 .fp8e4m3) (arg9 : Memref sig .tc .vmem S1x1x1x128 .f32)
  (arg12 : Memref sig .tc .vmem S1x256x1024 .bf16) (harg12 : arg12.IsWhole)
  (arg13 : Memref sig .tc .vmem S32768x256 .f32)
  (v2 v5 : BitVec 32) (hw3 : k0_chk3 v2 v5) (v8 : BitVec 32) (hw1 : k0_chk1 v2 v8) (v11 : BitVec 32) (hw2 : k0_chk2 v5 v8 v11)
  (first len : IVec S1x256 32)

/-- The score stage: the partly visible blocks before, the fully visible ones by fours and singly,
    the partly visible ones after; each loop is followed by its empty remainder loop. -/
def scoreStage (q : FVec F S256x128 .fp8e4m3) : Prog (TpuEff nD τ sig (Elt F) Λ₀ .tc) (FVec F S8x256 .f32) := do
  let a1 : FVec F S8x256 .f32 ← Scf.Loop.for (k0_t1_loop v2 v8) (k0_t1_ok v2 v8 hw1)
    (broadcast S8x256 (Scalar.ofBits .f32 0xFF800000#32 : F .f32)) fun t acc =>
      scoreTrip arg6 arg7 arg13 h_S1x1x256x128 h_S256x256 (k0_off5 v2 v8 t) (k0_off5_inb v2 v8 hw1 t) (k0_off6 v2 v8 t) (k0_off6_inb v2 v8 hw1 t)
        (fun k ks => masked256 first len (Scf.iv v2 1#32 t) (scores256 q k ks)) shapeCasts_S256x256_S256x256 maxOf256 acc
  let a2 : FVec F S8x256 .f32 ← Scf.Loop.for (k0_t2_loop v2 v8) (k0_t2_ok v2 v8 hw1) a1 fun t acc =>
      scoreTrip arg6 arg7 arg13 h_S1x1x256x128 h_S256x256 (k0_off7 v2 v8 t) (k0_off7_inb v2 v8 hw1 t) (k0_off8 v2 v8 t) (k0_off8_inb v2 v8 hw1 t)
        (fun k ks => masked256 first len (Scf.iv (k0_t2_loop v2 v8).lb 1#32 t) (scores256 q k ks)) shapeCasts_S256x256_S256x256 maxOf256 acc
  let a3 : FVec F S8x256 .f32 ← Scf.Loop.for (k0_t3_loop v8 v11) (k0_t3_ok v5 v8 v11 hw2) a2 fun t acc =>
      scoreTrip arg6 arg7 arg13 h_S1x1x1024x128 h_S1024x256 (k0_off9 v8 v11 t) (k0_off9_inb v5 v8 v11 hw2 t) (k0_off10 v8 v11 t) (k0_off10_inb v5 v8 v11 hw2 t)
        (scores1024 q) shapeCasts_S1024x256_S1024x256 maxOf1024 acc
  let a4 : FVec F S8x256 .f32 ← Scf.Loop.for (k0_t4_loop v8 v11) (k0_t4_ok v5 v8 v11 hw2) a3 fun t acc =>
      scoreTrip arg6 arg7 arg13 h_S1x1x1024x128 h_S1024x256 (k0_off11 v8 v11 t) (k0_off11_inb v5 v8 v11 hw2 t) (k0_off12 v8 v11 t) (k0_off12_inb v5 v8 v11 hw2 t)
        (scores1024 q) shapeCasts_S1024x256_S1024x256 maxOf1024 acc
  let a5 : FVec F S8x256 .f32 ← Scf.Loop.for (k0_t5_loop v8 v11) (k0_t5_ok v5 v8 v11 hw2) a4 fun t acc =>
      scoreTrip arg6 arg7 arg13 h_S1x1x256x128 h_S256x256 (k0_off13 v8 v11 t) (k0_off13_inb v5 v8 v11 hw2 t) (k0_off14 v8 v11 t) (k0_off14_inb v5 v8 v11 hw2 t)
        (scores256 q) shapeCasts_S256x256_S256x256 maxOf256 acc
  let a6 : FVec F S8x256 .f32 ← Scf.Loop.for (k0_t6_loop v8 v11) (k0_t6_ok v5 v8 v11 hw2) a5 fun t acc =>
      scoreTrip arg6 arg7 arg13 h_S1x1x256x128 h_S256x256 (k0_off15 v8 v11 t) (k0_off15_inb v5 v8 v11 hw2 t) (k0_off16 v8 v11 t) (k0_off16_inb v5 v8 v11 hw2 t)
        (scores256 q) shapeCasts_S256x256_S256x256 maxOf256 acc
  let a7 : FVec F S8x256 .f32 ← Scf.Loop.for (k0_t7_loop v5 v11) (k0_t7_ok v5 v8 v11 hw2) a6 fun t acc =>
      scoreTrip arg6 arg7 arg13 h_S1x1x256x128 h_S256x256 (k0_off17 v5 v11 t) (k0_off17_inb v5 v8 v11 hw2 t) (k0_off18 v5 v11 t) (k0_off18_inb v5 v8 v11 hw2 t)
        (fun k ks => masked256 first len (Scf.iv v11 1#32 t) (scores256 q k ks)) shapeCasts_S256x256_S256x256 maxOf256 acc
  let a8 : FVec F S8x256 .f32 ← Scf.Loop.for (k0_t8_loop v5 v11) (k0_t8_ok v5 v8 v11 hw2) a7 fun t acc =>
      scoreTrip arg6 arg7 arg13 h_S1x1x256x128 h_S256x256 (k0_off19 v5 v11 t) (k0_off19_inb v5 v8 v11 hw2 t) (k0_off20 v5 v11 t) (k0_off20_inb v5 v8 v11 hw2 t)
        (fun k ks => masked256 first len (Scf.iv (k0_t8_loop v5 v11).lb 1#32 t) (scores256 q k ks)) shapeCasts_S256x256_S256x256 maxOf256 acc
  pure a8

/-- The value stage: the visited blocks by fours and singly, each loop followed by its empty
    remainder loop. -/
def valueStage (c m : FVec F S1x256 .f32) : Prog (TpuEff nD τ sig (Elt F) Λ₀ .tc) (Carry F) := do
  let b1 : Carry F ← Scf.Loop.for (k0_t9_loop v2 v5) (k0_t9_ok v2 v5 hw3)
    (broadcast S128x256 (Scalar.ofBits .f32 0x00000000#32 : F .f32), broadcast S8x256 (Scalar.ofBits .f32 0x00000000#32 : F .f32)) fun t acc =>
      valueTrip arg8 arg13 h_S1x1x128x1024 h_S1024x256 (k0_off21 v2 v5 t) (k0_off21_inb v2 v5 hw3 t) (k0_off22 v2 v5 t) (k0_off22_inb v2 v5 hw3 t)
        (fun a u vt => (weigh1024 (probs1024 c m u) vt a.1, sum1024 (probs1024 c m u) a.2)) acc
  let b2 : Carry F ← Scf.Loop.for (k0_t10_loop v2 v5) (k0_t10_ok v2 v5 hw3) b1 fun t acc =>
      valueTrip arg8 arg13 h_S1x1x128x1024 h_S1024x256 (k0_off23 v2 v5 t) (k0_off23_inb v2 v5 hw3 t) (k0_off24 v2 v5 t) (k0_off24_inb v2 v5 hw3 t)
        (fun a u vt => (weigh1024 (probs1024 c m u) vt a.1, sum1024 (probs1024 c m u) a.2)) acc
  let b3 : Carry F ← Scf.Loop.for (k0_t11_loop v2 v5) (k0_t11_ok v2 v5 hw3) b2 fun t acc =>
      valueTrip arg8 arg13 h_S1x1x128x256 h_S256x256 (k0_off25 v2 v5 t) (k0_off25_inb v2 v5 hw3 t) (k0_off26 v2 v5 t) (k0_off26_inb v2 v5 hw3 t)
        (fun a u vt => (weigh256 (probs256 c m u) vt a.1, sum256 (probs256 c m u) a.2)) acc
  let b4 : Carry F ← Scf.Loop.for (k0_t12_loop v2 v5) (k0_t12_ok v2 v5 hw3) b3 fun t acc =>
      valueTrip arg8 arg13 h_S1x1x128x256 h_S256x256 (k0_off27 v2 v5 t) (k0_off27_inb v2 v5 hw3 t) (k0_off28 v2 v5 t) (k0_off28_inb v2 v5 hw3 t)
        (fun a u vt => (weigh256 (probs256 c m u) vt a.1, sum256 (probs256 c m u) a.2)) acc
  pure b4

/-- The query scales times the softmax scale and the base change of the exponential. -/
def queryScale (v : Vec F S1x1x256 .f32) : FVec F S1x256 .f32 :=
  mulf (shapeCast S1x256 v shapeCasts_S1x1x256_S1x256) (broadcast S1x256 (Scalar.ofBits .f32 0x3E0293EE#32 : F .f32))

/-- The row maxima out of the eight partial maxima. -/
def rowMax (a : FVec F S8x256 .f32) : FVec F S1x256 .f32 :=
  shapeCast S1x256 (multiReduction .maximumf [0] S256 a 0xFF800000#32 reduces_S8x256_S256 (.inl rfl) rfl) shapeCasts_S256_S1x256

/-- The block a head writes: the weighted codes times the value scales, divided by the row sums. -/
def outBlock (b : Carry F) (vs : Vec F S1x1x1x128 .f32) : FVec F S256x128 .bf16 :=
  truncf .bf16 (transpose S256x128 [1, 0]
    (divf (mulf b.1 (broadcastTo S128x256
        (mulf (transpose S128x1 [1, 0] (shapeCast S1x128 vs shapeCasts_S1x1x1x128_S1x128) transposes_S1x128_p1_0_S128x1)
          (broadcast S128x1 (Scalar.ofBits .f32 0x3B800000#32 : F .f32))) broadcasts_S128x1_S128x256))
      (broadcastTo S128x256 (shapeCast S1x256 (multiReduction .add [0] S256 b.2 0x00000000#32 reduces_S8x256_S256 (.inl rfl) rfl)
        shapeCasts_S256_S1x256) broadcasts_S1x256_S128x256))
    transposes_S128x256_p1_0_S256x128) bitsLt_bf16_f32

/-- One head: its queries at column offset `oq`, its query scales at row offset `os`. -/
def head (oq : Fin 3 → Nat) (hq : ∀ a, oq a + S1x256x128.size a ≤ S1x256x1024.size a)
    (pq : (Rect.unit (s := S1x256x1024) oq S1x256x128.size hq).PackedRows (EltTy.packing .bf16))
    (os : Fin 3 → Nat) (hs : ∀ a, os a + S1x1x256.size a ≤ S1x8x256.size a) :
    Prog (TpuEff nD τ sig (Elt F) Λ₀ .tc) PUnit := do
  let q : Vec F S1x256x128 .fp8e4m3 ← Prog.lift (.load arg4 (Rect.unit (s := S1x256x1024) oq S1x256x128.size hq).toLoadRect (View.loadsAt_vmem h_S1x256x128))
  let qs : Vec F S1x1x256 .f32 ← Prog.lift (.load arg5 (Rect.unit (s := S1x8x256) os S1x1x256.size hs).toLoadRect (View.loadsAt_vmem h_S1x1x256))
  let a ← scoreStage arg6 arg7 arg13 v2 v5 v8 hw1 v11 hw2 first len (shapeCast S256x128 q shapeCasts_S1x256x128_S256x128)
  let b ← valueStage arg8 arg13 v2 v5 hw3 (queryScale qs) (rowMax a)
  let vs : Vec F S1x1x1x128 .f32 ← Prog.lift (.load arg9 (Rect.unit (s := S1x1x1x128) ![0, 0, 0, 0] S1x1x1x128.size inb_S1x1x1x128_S1x1x1x128_0_0_0_0).toLoadRect (View.loadsAt_vmem h_S1x1x1x128))
  let _ : Vec F S1x256x128 .bf16 ← Prog.lift (.load arg12 (Rect.unit (s := S1x256x1024) oq S1x256x128.size hq).toLoadRect (View.loadsAt_vmem h_S1x256x128))
  Prog.lift (.store arg12 (Rect.unit (s := S1x256x1024) oq S1x256x128.size hq) (shapeCast S1x256x128 (outBlock b vs) shapeCasts_S256x128_S1x256x128) Finset.univ
    (View.stores_vmem h_S1x256x128 (harg12.storeExact_slice rfl _ pq) (fun _ => rfl)) (.inl rfl))

/-- The eight heads of the group, in turn. -/
def heads : Prog (TpuEff nD τ sig (Elt F) Λ₀ .tc) PUnit := do
  head arg4 arg5 arg6 arg7 arg8 arg9 arg12 harg12 arg13 v2 v5 hw3 v8 hw1 v11 hw2 first len
    ![0, 0, 0] inb_S1x256x1024_S1x256x128_0_0_0 packedbf16_S1x256x1024_S1x256x128_0_0_0 ![0, 0, 0] inb_S1x8x256_S1x1x256_0_0_0
  head arg4 arg5 arg6 arg7 arg8 arg9 arg12 harg12 arg13 v2 v5 hw3 v8 hw1 v11 hw2 first len
    ![0, 0, 128] inb_S1x256x1024_S1x256x128_0_0_128 packedbf16_S1x256x1024_S1x256x128_0_0_128 ![0, 1, 0] inb_S1x8x256_S1x1x256_0_1_0
  head arg4 arg5 arg6 arg7 arg8 arg9 arg12 harg12 arg13 v2 v5 hw3 v8 hw1 v11 hw2 first len
    ![0, 0, 256] inb_S1x256x1024_S1x256x128_0_0_256 packedbf16_S1x256x1024_S1x256x128_0_0_256 ![0, 2, 0] inb_S1x8x256_S1x1x256_0_2_0
  head arg4 arg5 arg6 arg7 arg8 arg9 arg12 harg12 arg13 v2 v5 hw3 v8 hw1 v11 hw2 first len
    ![0, 0, 384] inb_S1x256x1024_S1x256x128_0_0_384 packedbf16_S1x256x1024_S1x256x128_0_0_384 ![0, 3, 0] inb_S1x8x256_S1x1x256_0_3_0
  head arg4 arg5 arg6 arg7 arg8 arg9 arg12 harg12 arg13 v2 v5 hw3 v8 hw1 v11 hw2 first len
    ![0, 0, 512] inb_S1x256x1024_S1x256x128_0_0_512 packedbf16_S1x256x1024_S1x256x128_0_0_512 ![0, 4, 0] inb_S1x8x256_S1x1x256_0_4_0
  head arg4 arg5 arg6 arg7 arg8 arg9 arg12 harg12 arg13 v2 v5 hw3 v8 hw1 v11 hw2 first len
    ![0, 0, 640] inb_S1x256x1024_S1x256x128_0_0_640 packedbf16_S1x256x1024_S1x256x128_0_0_640 ![0, 5, 0] inb_S1x8x256_S1x1x256_0_5_0
  head arg4 arg5 arg6 arg7 arg8 arg9 arg12 harg12 arg13 v2 v5 hw3 v8 hw1 v11 hw2 first len
    ![0, 0, 768] inb_S1x256x1024_S1x256x128_0_0_768 packedbf16_S1x256x1024_S1x256x128_0_0_768 ![0, 6, 0] inb_S1x8x256_S1x1x256_0_6_0
  head arg4 arg5 arg6 arg7 arg8 arg9 arg12 harg12 arg13 v2 v5 hw3 v8 hw1 v11 hw2 first len
    ![0, 0, 896] inb_S1x256x1024_S1x256x128_0_0_896 packedbf16_S1x256x1024_S1x256x128_0_0_896 ![0, 7, 0] inb_S1x8x256_S1x1x256_0_7_0

end Stages

/-- The body: the four words of the visibility table and the rows' intervals, then the heads. -/
def body (i : grid0.Coords) (arg3 : Memref sig .tc .smem S3x128x4 .i32)
    (arg4 : Memref sig .tc .vmem S1x256x1024 .fp8e4m3) (arg5 : Memref sig .tc .vmem S1x8x256 .f32)
    (arg6 : Memref sig .tc .vmem S1x1x32768x128 .fp8e4m3) (arg7 : Memref sig .tc .vmem S1x1x32768x128 .f32)
    (arg8 : Memref sig .tc .vmem S1x1x128x32768 .fp8e4m3) (arg9 : Memref sig .tc .vmem S1x1x1x128 .f32)
    (arg10 arg11 : Memref sig .tc .vmem S1x1x256 .i32)
    (arg12 : Memref sig .tc .vmem S1x256x1024 .bf16) (harg12 : arg12.IsWhole)
    (arg13 : Memref sig .tc .vmem S32768x256 .f32) : Prog (TpuEff nD τ sig (Elt F) Λ₀ .tc) PUnit := do
  let v2 : Elt F .i32 ← smemLoad arg3 (Rect.unit (s := S3x128x4) (k0_off1 i) S1x1x1.size (k0_off1_inb i)) numel1_S1x1x1 rfl
  let v5 : Elt F .i32 ← smemLoad arg3 (Rect.unit (s := S3x128x4) (k0_off2 i) S1x1x1.size (k0_off2_inb i)) numel1_S1x1x1 rfl
  let hw3 ← Prog.lift (TpuEff.assume (k0_chk3 v2 v5) (k0_chk3.dec v2 v5))
  let v8 : Elt F .i32 ← smemLoad arg3 (Rect.unit (s := S3x128x4) (k0_off3 i) S1x1x1.size (k0_off3_inb i)) numel1_S1x1x1 rfl
  let hw1 ← Prog.lift (TpuEff.assume (k0_chk1 v2 v8) (k0_chk1.dec v2 v8))
  let v11 : Elt F .i32 ← smemLoad arg3 (Rect.unit (s := S3x128x4) (k0_off4 i) S1x1x1.size (k0_off4_inb i)) numel1_S1x1x1 rfl
  let hw2 ← Prog.lift (TpuEff.assume (k0_chk2 v5 v8 v11) (k0_chk2.dec v5 v8 v11))
  let v12 : Vec F S1x1x256 .i32 ← Prog.lift (.load arg10 (Rect.unit (s := S1x1x256) ![0, 0, 0] S1x1x256.size inb_S1x1x256_S1x1x256_0_0_0).toLoadRect (View.loadsAt_vmem h_S1x1x256))
  let v14 : Vec F S1x1x256 .i32 ← Prog.lift (.load arg11 (Rect.unit (s := S1x1x256) ![0, 0, 0] S1x1x256.size inb_S1x1x256_S1x1x256_0_0_0).toLoadRect (View.loadsAt_vmem h_S1x1x256))
  let first := shapeCast S1x256 v12 shapeCasts_S1x1x256_S1x256
  let len := subi (shapeCast S1x256 v14 shapeCasts_S1x1x256_S1x256) first
  heads arg4 arg5 arg6 arg7 arg8 arg9 arg12 harg12 arg13 v2 v5 hw3.down v8 hw1.down v11 hw2.down first len

set_option maxHeartbeats 4000000 in
set_option maxRecDepth 65536 in
/-- The printed body is this one. -/
theorem attention_eq (i : grid0.Coords) (arg3 : Memref sig .tc .smem S3x128x4 .i32) (harg3 : arg3.IsWhole)
    (arg4 : Memref sig .tc .vmem S1x256x1024 .fp8e4m3) (harg4 : arg4.IsWhole) (arg5 : Memref sig .tc .vmem S1x8x256 .f32) (harg5 : arg5.IsWhole)
    (arg6 : Memref sig .tc .vmem S1x1x32768x128 .fp8e4m3) (harg6 : arg6.IsWhole) (arg7 : Memref sig .tc .vmem S1x1x32768x128 .f32) (harg7 : arg7.IsWhole)
    (arg8 : Memref sig .tc .vmem S1x1x128x32768 .fp8e4m3) (harg8 : arg8.IsWhole) (arg9 : Memref sig .tc .vmem S1x1x1x128 .f32) (harg9 : arg9.IsWhole)
    (arg10 : Memref sig .tc .vmem S1x1x256 .i32) (harg10 : arg10.IsWhole) (arg11 : Memref sig .tc .vmem S1x1x256 .i32) (harg11 : arg11.IsWhole)
    (arg12 : Memref sig .tc .vmem S1x256x1024 .bf16) (harg12 : arg12.IsWhole)
    (arg13 : Memref sig .tc .vmem S32768x256 .f32) (harg13 : arg13.IsWhole) :
    cc0_attention (F := F) i arg3 harg3 arg4 harg4 arg5 harg5 arg6 harg6 arg7 harg7 arg8 harg8 arg9 harg9 arg10 harg10 arg11 harg11 arg12 harg12 arg13 harg13
      = body i arg3 arg4 arg5 arg6 arg7 arg8 arg9 arg10 arg11 arg12 harg12 arg13 := by
  rw [cc0_attention_eq_skeleton]
  simp only [cc0_attention_skel, k0_part23_eq_skeleton, k0_part23_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, body, heads, head, scoreStage, valueStage, bind_assoc, pure_bind, Prog.bind_assoc]
  rfl

end Cert.Kernel.Body
-- ==== Proof.Bits.Triple.lean ====
/-
What a body computes, as a function of the blocks it reads.

Each loop is a fold of its trip over the scratch and the carried values (`upto`); the stages, the
heads and the body are compositions of these folds, and each program stretch of Head.lean is proved
to leave exactly what its fold says.
-/
module

public import proofs.«01_k».proof.Proof.Bits.Head
public import Idealize.ShloMosaic.Lib.Pipeline.FrameBody
public import Idealize.ShloMosaic.Lib.Tactic
public import Idealize.ShloMosaic.Lib.Exec
public import Idealize.ShloMosaic.Lib.VecWindow

@[expose] public section

set_option synthInstance.maxSize 4096

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-! ## Folds -/

/-- The first `k` of the steps, from `s`. -/
def upto {n : ℕ} {S : Type} (step : Fin n → S → S) (s : S) : ℕ → S
  | 0 => s
  | k + 1 => if h : k < n then step ⟨k, h⟩ (upto step s k) else upto step s k

theorem upto_succ {n : ℕ} {S : Type} (step : Fin n → S → S) (s : S) (k : Fin n) :
    upto step s (k.val + 1) = step k (upto step s k.val) := dif_pos k.isLt

/-- A property the steps carry forward holds after any number of them. -/
theorem upto_induction {n : ℕ} {S : Type} (step : Fin n → S → S) (s : S) (I : ℕ → S → Prop) (h0 : I 0 s)
    (hs : ∀ (k : Fin n) (x : S), I k.val x → I (k.val + 1) (step k x)) : ∀ k ≤ n, I k (upto step s k)
  | 0, _ => h0
  | k + 1, hk => by
    rw [upto_succ step s ⟨k, hk⟩]
    exact hs ⟨k, hk⟩ _ (upto_induction step s I h0 hs k (by omega))

/-- The scratch's contents. -/
abbrev Scratch (F : FTy → Type) := Vec F S32768x256 .f32

/-! ## Trips and loops -/

section Rules
variable {n4 : Fin 4 → Nat} {n2 : Fin 2 → Nat}

/-- What a trip of a score loop does to the scratch and the maxima. -/
def scoreStep (x6 : Vec F S1x1x32768x128 .fp8e4m3) (x7 : Vec F S1x1x32768x128 .f32)
    (o4 : Fin 4 → Nat) (h4 : ∀ a, o4 a + n4 a ≤ S1x1x32768x128.size a) (o2 : Fin 2 → Nat)
    (U : Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) : Scratch F × FVec F S8x256 .f32 :=
  (VecWindow.put s.1 o2 n2 (shapeCast (Shape.mk 2 n2)
      (U (VecWindow.window (s := S1x1x32768x128) x6 o4 n4 h4) (VecWindow.window (s := S1x1x32768x128) x7 o4 n4 h4)) hU),
    up s.2 (U (VecWindow.window (s := S1x1x32768x128) x6 o4 n4 h4) (VecWindow.window (s := S1x1x32768x128) x7 o4 n4 h4)))

variable (c : Dev nD) (E : Set ℕ) (arg6 : Memref sig .tc .vmem S1x1x32768x128 .fp8e4m3) (arg7 : Memref sig .tc .vmem S1x1x32768x128 .f32)
  (arg8 : Memref sig .tc .vmem S1x1x128x32768 .fp8e4m3) (arg13 : Memref sig .tc .vmem S32768x256 .f32)
  (x6 : Vec F S1x1x32768x128 .fp8e4m3) (x7 : Vec F S1x1x32768x128 .f32) (x8 : Vec F S1x1x128x32768 .fp8e4m3)
  (p4 : 0 < (Shape.mk 4 n4).numel) (p2 : 0 < (Shape.mk 2 n2).numel)

theorem wp_scoreTrip (o4 : Fin 4 → Nat) (h4 : ∀ a, o4 a + n4 a ≤ S1x1x32768x128.size a)
    (o2 : Fin 2 → Nat) (h2 : ∀ a, o2 a + n2 a ≤ S32768x256.size a)
    (U : Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) (K : FVec F S8x256 .f32 → sProp 𝕄) :
    iprop(owns (c : Thread nD τ) arg6 fullShare x6 ∗ owns (c : Thread nD τ) arg7 fullShare x7 ∗ owns (c : Thread nD τ) arg13 fullShare s.1
        ∗ (iprop(owns (c : Thread nD τ) arg6 fullShare x6 ∗ owns (c : Thread nD τ) arg7 fullShare x7
            ∗ owns (c : Thread nD τ) arg13 fullShare (scoreStep x6 x7 o4 h4 o2 U hU up s).1) -∗ K (scoreStep x6 x7 o4 h4 o2 U hU up s).2))
      ⊢ wp frame (wpE (defs₀ (F := F)) Variants.none c none) E (scoreTrip arg6 arg7 arg13 p4 p2 o4 h4 o2 h2 U hU up s.2) K := by
  obtain ⟨g, acc⟩ := s
  unfold scoreTrip owns
  iintro ⟨⟨%f6, %hf6, H6⟩, ⟨%f7, %hf7, H7⟩, ⟨%f13, %hf13, H13⟩, Hk⟩
  subst hf6 hf7
  simp only at hf13
  subst hf13
  sl_exec
  sl_step
  dsimp only [scoreStep]
  rw [View.readAt_unit arg6.view f6 h4 rfl h4, View.readAt_unit arg7.view f7 h4 rfl h4]
  iapply Hk
  isplitl [H6]
  · iexists f6; isplitr; · ipureintro; rfl
    iexact H6
  isplitl [H7]
  · iexists f7; isplitr; · ipureintro; rfl
    iexact H7
  iexists _; isplitr
  swap; · iexact H13
  ipureintro
  rw [View.read_writes_cons_put _ _ _ _ _ rfl]
  rfl

/-- What a trip of a value loop does to the carries. -/
def valueStep (x8 : Vec F S1x1x128x32768 .fp8e4m3) (g : Scratch F)
    (o2 : Fin 2 → Nat) (h2 : ∀ a, o2 a + n2 a ≤ S32768x256.size a)
    (o4 : Fin 4 → Nat) (h4 : ∀ a, o4 a + n4 a ≤ S1x1x128x32768.size a)
    (up : Carry F → Vec F (Shape.mk 2 n2) .f32 → Vec F (Shape.mk 4 n4) .fp8e4m3 → Carry F) (acc : Carry F) : Carry F :=
  up acc (VecWindow.window (s := S32768x256) g o2 n2 h2) (VecWindow.window (s := S1x1x128x32768) x8 o4 n4 h4)

theorem wp_valueTrip (g : Scratch F) (o2 : Fin 2 → Nat) (h2 : ∀ a, o2 a + n2 a ≤ S32768x256.size a)
    (o4 : Fin 4 → Nat) (h4 : ∀ a, o4 a + n4 a ≤ S1x1x128x32768.size a)
    (up : Carry F → Vec F (Shape.mk 2 n2) .f32 → Vec F (Shape.mk 4 n4) .fp8e4m3 → Carry F) (acc : Carry F)
    (K : Carry F → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g) -∗ K (valueStep x8 g o2 h2 o4 h4 up acc)))
      ⊢ wp frame (wpE (defs₀ (F := F)) Variants.none c none) E (valueTrip arg8 arg13 p4 p2 o2 h2 o4 h4 up acc) K := by
  unfold valueTrip owns
  iintro ⟨⟨%f8, %hf8, H8⟩, ⟨%f13, %hf13, H13⟩, Hk⟩
  subst hf8 hf13
  sl_exec
  sl_step
  dsimp only [valueStep]
  rw [View.readAt_unit arg8.view f8 h4 rfl h4, View.readAt_unit arg13.view f13 h2 rfl h2]
  iapply Hk
  isplitl [H8]
  · iexists f8; isplitr; · ipureintro; rfl
    iexact H8
  iexists f13; isplitr; · ipureintro; rfl
  iexact H13

/-- A score loop leaves its fold. -/
theorem wp_scoreLoop (L : Scf.Loop 32) (ok : L.OK) (o4 : Fin L.trips → Fin 4 → Nat) (h4 : ∀ t a, o4 t a + n4 a ≤ S1x1x32768x128.size a)
    (o2 : Fin L.trips → Fin 2 → Nat) (h2 : ∀ t a, o2 t a + n2 a ≤ S32768x256.size a)
    (U : Fin L.trips → Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) {β : Type} (kk : FVec F S8x256 .f32 → Prog (TpuEff nD τ sig (Elt F) Λ₀ .tc) β) (K : β → sProp 𝕄) :
    iprop(owns (c : Thread nD τ) arg6 fullShare x6 ∗ owns (c : Thread nD τ) arg7 fullShare x7 ∗ owns (c : Thread nD τ) arg13 fullShare s.1
        ∗ (iprop(owns (c : Thread nD τ) arg6 fullShare x6 ∗ owns (c : Thread nD τ) arg7 fullShare x7
            ∗ owns (c : Thread nD τ) arg13 fullShare (upto (fun t => scoreStep x6 x7 (o4 t) (h4 t) (o2 t) (U t) hU up) s L.trips).1)
            -∗ wp frame (wpE (defs₀ (F := F)) Variants.none c none) E (kk (upto (fun t => scoreStep x6 x7 (o4 t) (h4 t) (o2 t) (U t) hU up) s L.trips).2) K))
      ⊢ wp frame (wpE (defs₀ (F := F)) Variants.none c none) E
          (Scf.Loop.for L ok s.2 (fun t acc => scoreTrip arg6 arg7 arg13 p4 p2 (o4 t) (h4 t) (o2 t) (h2 t) (U t) hU up acc) >>= kk) K := by
  set st : Fin L.trips → Scratch F × FVec F S8x256 .f32 → Scratch F × FVec F S8x256 .f32 :=
    fun t => scoreStep x6 x7 (o4 t) (h4 t) (o2 t) (U t) hU up with hst
  have hb : ∀ (k : Fin L.trips) acc, (fun (k : ℕ) acc => iprop(⌜acc = (upto st s k).2⌝ ∗ owns (c : Thread nD τ) arg6 fullShare x6 ∗ owns (c : Thread nD τ) arg7 fullShare x7
      ∗ owns (c : Thread nD τ) arg13 fullShare (upto st s k).1) : ℕ → _ → sProp 𝕄) k.val acc ⊢ wp frame (wpE (defs₀ (F := F)) Variants.none c none) E
      (scoreTrip arg6 arg7 arg13 p4 p2 (o4 k) (h4 k) (o2 k) (h2 k) (U k) hU up acc)
      ((fun (k : ℕ) acc => iprop(⌜acc = (upto st s k).2⌝ ∗ owns (c : Thread nD τ) arg6 fullShare x6 ∗ owns (c : Thread nD τ) arg7 fullShare x7
      ∗ owns (c : Thread nD τ) arg13 fullShare (upto st s k).1) : ℕ → _ → sProp 𝕄) (k.val + 1)) := by
    intro k acc
    iintro ⟨%hacc, H6, H7, H13⟩
    subst hacc
    iapply (wp_scoreTrip c E arg6 arg7 arg13 x6 x7 p4 p2 (o4 k) (h4 k) (o2 k) (h2 k) (U k) hU up (upto st s k) _)
    isplitl [H6]; · iexact H6
    isplitl [H7]; · iexact H7
    isplitl [H13]; · iexact H13
    iintro H
    dsimp only
    rw [upto_succ st s k]
    isplitr; · ipureintro; rfl
    iexact H
  iintro ⟨H6, H7, H13, Hk⟩
  iapply (Scf.wp_for_bind frame (wpE (defs₀ (F := F)) Variants.none c none) E L.lb L.ub L.st ok s.2
    (fun t acc => scoreTrip arg6 arg7 arg13 p4 p2 (o4 t) (h4 t) (o2 t) (h2 t) (U t) hU up acc)
    (fun k acc => iprop(⌜acc = (upto st s k).2⌝ ∗ owns (c : Thread nD τ) arg6 fullShare x6 ∗ owns (c : Thread nD τ) arg7 fullShare x7
      ∗ owns (c : Thread nD τ) arg13 fullShare (upto st s k).1)) hb) $$ [H6 H7 H13]
  · isplitr; · ipureintro; rfl
    isplitl [H6]; · iexact H6
    isplitl [H7]; · iexact H7
    iexact H13
  · iintro %acc ⟨%hacc, H⟩
    subst hacc
    iapply Hk
    iexact H

/-- A score loop leaves its fold, at the end of a program. -/
theorem wp_scoreLoop_last (L : Scf.Loop 32) (ok : L.OK) (o4 : Fin L.trips → Fin 4 → Nat) (h4 : ∀ t a, o4 t a + n4 a ≤ S1x1x32768x128.size a)
    (o2 : Fin L.trips → Fin 2 → Nat) (h2 : ∀ t a, o2 t a + n2 a ≤ S32768x256.size a)
    (U : Fin L.trips → Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) (K : FVec F S8x256 .f32 → sProp 𝕄) :
    iprop(owns (c : Thread nD τ) arg6 fullShare x6 ∗ owns (c : Thread nD τ) arg7 fullShare x7 ∗ owns (c : Thread nD τ) arg13 fullShare s.1
        ∗ (iprop(owns (c : Thread nD τ) arg6 fullShare x6 ∗ owns (c : Thread nD τ) arg7 fullShare x7
            ∗ owns (c : Thread nD τ) arg13 fullShare (upto (fun t => scoreStep x6 x7 (o4 t) (h4 t) (o2 t) (U t) hU up) s L.trips).1)
            -∗ K (upto (fun t => scoreStep x6 x7 (o4 t) (h4 t) (o2 t) (U t) hU up) s L.trips).2))
      ⊢ wp frame (wpE (defs₀ (F := F)) Variants.none c none) E
          (Scf.Loop.for L ok s.2 (fun t acc => scoreTrip arg6 arg7 arg13 p4 p2 (o4 t) (h4 t) (o2 t) (h2 t) (U t) hU up acc)) K := by
  rw [← bind_pure (Scf.Loop.for L ok s.2 (fun t acc => scoreTrip arg6 arg7 arg13 p4 p2 (o4 t) (h4 t) (o2 t) (h2 t) (U t) hU up acc))]
  iintro ⟨H6, H7, H13, Hk⟩
  iapply (wp_scoreLoop c E arg6 arg7 arg13 x6 x7 p4 p2 L ok o4 h4 o2 h2 U hU up s _ _)
  isplitl [H6]; · iexact H6
  isplitl [H7]; · iexact H7
  isplitl [H13]; · iexact H13
  iintro H
  sl_step
  iapply Hk
  iexact H

/-- A value loop leaves its fold. -/
theorem wp_valueLoop (g : Scratch F) (L : Scf.Loop 32) (ok : L.OK) (o2 : Fin L.trips → Fin 2 → Nat) (h2 : ∀ t a, o2 t a + n2 a ≤ S32768x256.size a)
    (o4 : Fin L.trips → Fin 4 → Nat) (h4 : ∀ t a, o4 t a + n4 a ≤ S1x1x128x32768.size a)
    (up : Carry F → Vec F (Shape.mk 2 n2) .f32 → Vec F (Shape.mk 4 n4) .fp8e4m3 → Carry F) (s : Carry F)
    {β : Type} (kk : Carry F → Prog (TpuEff nD τ sig (Elt F) Λ₀ .tc) β) (K : β → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g)
            -∗ wp frame (wpE (defs₀ (F := F)) Variants.none c none) E (kk (upto (fun t => valueStep x8 g (o2 t) (h2 t) (o4 t) (h4 t) up) s L.trips)) K))
      ⊢ wp frame (wpE (defs₀ (F := F)) Variants.none c none) E
          (Scf.Loop.for L ok s (fun t acc => valueTrip arg8 arg13 p4 p2 (o2 t) (h2 t) (o4 t) (h4 t) up acc) >>= kk) K := by
  set st : Fin L.trips → Carry F → Carry F := fun t => valueStep x8 g (o2 t) (h2 t) (o4 t) (h4 t) up with hst
  have hb : ∀ (k : Fin L.trips) acc, (fun (k : ℕ) acc => iprop(⌜acc = upto st s k⌝ ∗ owns (c : Thread nD τ) arg8 fullShare x8 ∗ owns (c : Thread nD τ) arg13 fullShare g) : ℕ → _ → sProp 𝕄) k.val acc ⊢ wp frame (wpE (defs₀ (F := F)) Variants.none c none) E
      (valueTrip arg8 arg13 p4 p2 (o2 k) (h2 k) (o4 k) (h4 k) up acc)
      ((fun (k : ℕ) acc => iprop(⌜acc = upto st s k⌝ ∗ owns (c : Thread nD τ) arg8 fullShare x8 ∗ owns (c : Thread nD τ) arg13 fullShare g) : ℕ → _ → sProp 𝕄) (k.val + 1)) := by
    intro k acc
    iintro ⟨%hacc, H8, H13⟩
    subst hacc
    iapply (wp_valueTrip c E arg8 arg13 x8 p4 p2 g (o2 k) (h2 k) (o4 k) (h4 k) up (upto st s k) _)
    isplitl [H8]; · iexact H8
    isplitl [H13]; · iexact H13
    iintro H
    dsimp only
    rw [upto_succ st s k]
    isplitr; · ipureintro; rfl
    iexact H
  iintro ⟨H8, H13, Hk⟩
  iapply (Scf.wp_for_bind frame (wpE (defs₀ (F := F)) Variants.none c none) E L.lb L.ub L.st ok s
    (fun t acc => valueTrip arg8 arg13 p4 p2 (o2 t) (h2 t) (o4 t) (h4 t) up acc)
    (fun k acc => iprop(⌜acc = upto st s k⌝ ∗ owns (c : Thread nD τ) arg8 fullShare x8 ∗ owns (c : Thread nD τ) arg13 fullShare g)) hb) $$ [H8 H13]
  · isplitr; · ipureintro; rfl
    isplitl [H8]; · iexact H8
    iexact H13
  · iintro %acc ⟨%hacc, H⟩
    subst hacc
    iapply Hk
    iexact H

/-- A value loop leaves its fold, at the end of a program. -/
theorem wp_valueLoop_last (g : Scratch F) (L : Scf.Loop 32) (ok : L.OK) (o2 : Fin L.trips → Fin 2 → Nat) (h2 : ∀ t a, o2 t a + n2 a ≤ S32768x256.size a)
    (o4 : Fin L.trips → Fin 4 → Nat) (h4 : ∀ t a, o4 t a + n4 a ≤ S1x1x128x32768.size a)
    (up : Carry F → Vec F (Shape.mk 2 n2) .f32 → Vec F (Shape.mk 4 n4) .fp8e4m3 → Carry F) (s : Carry F) (K : Carry F → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g)
            -∗ K (upto (fun t => valueStep x8 g (o2 t) (h2 t) (o4 t) (h4 t) up) s L.trips)))
      ⊢ wp frame (wpE (defs₀ (F := F)) Variants.none c none) E
          (Scf.Loop.for L ok s (fun t acc => valueTrip arg8 arg13 p4 p2 (o2 t) (h2 t) (o4 t) (h4 t) up acc)) K := by
  rw [← bind_pure (Scf.Loop.for L ok s (fun t acc => valueTrip arg8 arg13 p4 p2 (o2 t) (h2 t) (o4 t) (h4 t) up acc))]
  iintro ⟨H8, H13, Hk⟩
  iapply (wp_valueLoop c E arg8 arg13 x8 p4 p2 g L ok o2 h2 o4 h4 up s _ _)
  isplitl [H8]; · iexact H8
  isplitl [H13]; · iexact H13
  iintro H
  sl_step
  iapply Hk
  iexact H

end Rules

/-! ## The stages -/

section Stages
variable [Facts]
variable (v2 v5 : BitVec 32) (hw3 : k0_chk3 v2 v5) (v8 : BitVec 32) (hw1 : k0_chk1 v2 v8) (v11 : BitVec 32) (hw2 : k0_chk2 v5 v8 v11)
  (first len : IVec S1x256 32)
  (x4 : Vec F S1x256x1024 .fp8e4m3) (x5 : Vec F S1x8x256 .f32)
  (x6 : Vec F S1x1x32768x128 .fp8e4m3) (x7 : Vec F S1x1x32768x128 .f32) (x8 : Vec F S1x1x128x32768 .fp8e4m3) (x9 : Vec F S1x1x1x128 .f32)

/-- Score loop 1. -/
def scoreFold1 (q : FVec F S256x128 .fp8e4m3) (s : Scratch F × FVec F S8x256 .f32) : Scratch F × FVec F S8x256 .f32 :=
  upto (fun t : Fin (k0_t1_loop v2 v8).trips => scoreStep x6 x7 (n4 := S1x1x256x128.size) (n2 := S256x256.size) (k0_off5 v2 v8 t) (k0_off5_inb v2 v8 hw1 t) (k0_off6 v2 v8 t)
    (fun k ks => masked256 first len (Scf.iv v2 1#32 t) (scores256 q k ks)) shapeCasts_S256x256_S256x256 maxOf256) s (k0_t1_loop v2 v8).trips

/-- Score loop 2. -/
def scoreFold2 (q : FVec F S256x128 .fp8e4m3) (s : Scratch F × FVec F S8x256 .f32) : Scratch F × FVec F S8x256 .f32 :=
  upto (fun t : Fin (k0_t2_loop v2 v8).trips => scoreStep x6 x7 (n4 := S1x1x256x128.size) (n2 := S256x256.size) (k0_off7 v2 v8 t) (k0_off7_inb v2 v8 hw1 t) (k0_off8 v2 v8 t)
    (fun k ks => masked256 first len (Scf.iv (k0_t2_loop v2 v8).lb 1#32 t) (scores256 q k ks)) shapeCasts_S256x256_S256x256 maxOf256) s (k0_t2_loop v2 v8).trips

/-- Score loop 3. -/
def scoreFold3 (q : FVec F S256x128 .fp8e4m3) (s : Scratch F × FVec F S8x256 .f32) : Scratch F × FVec F S8x256 .f32 :=
  upto (fun t : Fin (k0_t3_loop v8 v11).trips => scoreStep x6 x7 (n4 := S1x1x1024x128.size) (n2 := S1024x256.size) (k0_off9 v8 v11 t) (k0_off9_inb v5 v8 v11 hw2 t) (k0_off10 v8 v11 t)
    (scores1024 q) shapeCasts_S1024x256_S1024x256 maxOf1024) s (k0_t3_loop v8 v11).trips

/-- Score loop 4. -/
def scoreFold4 (q : FVec F S256x128 .fp8e4m3) (s : Scratch F × FVec F S8x256 .f32) : Scratch F × FVec F S8x256 .f32 :=
  upto (fun t : Fin (k0_t4_loop v8 v11).trips => scoreStep x6 x7 (n4 := S1x1x1024x128.size) (n2 := S1024x256.size) (k0_off11 v8 v11 t) (k0_off11_inb v5 v8 v11 hw2 t) (k0_off12 v8 v11 t)
    (scores1024 q) shapeCasts_S1024x256_S1024x256 maxOf1024) s (k0_t4_loop v8 v11).trips

/-- Score loop 5. -/
def scoreFold5 (q : FVec F S256x128 .fp8e4m3) (s : Scratch F × FVec F S8x256 .f32) : Scratch F × FVec F S8x256 .f32 :=
  upto (fun t : Fin (k0_t5_loop v8 v11).trips => scoreStep x6 x7 (n4 := S1x1x256x128.size) (n2 := S256x256.size) (k0_off13 v8 v11 t) (k0_off13_inb v5 v8 v11 hw2 t) (k0_off14 v8 v11 t)
    (scores256 q) shapeCasts_S256x256_S256x256 maxOf256) s (k0_t5_loop v8 v11).trips

/-- Score loop 6. -/
def scoreFold6 (q : FVec F S256x128 .fp8e4m3) (s : Scratch F × FVec F S8x256 .f32) : Scratch F × FVec F S8x256 .f32 :=
  upto (fun t : Fin (k0_t6_loop v8 v11).trips => scoreStep x6 x7 (n4 := S1x1x256x128.size) (n2 := S256x256.size) (k0_off15 v8 v11 t) (k0_off15_inb v5 v8 v11 hw2 t) (k0_off16 v8 v11 t)
    (scores256 q) shapeCasts_S256x256_S256x256 maxOf256) s (k0_t6_loop v8 v11).trips

/-- Score loop 7. -/
def scoreFold7 (q : FVec F S256x128 .fp8e4m3) (s : Scratch F × FVec F S8x256 .f32) : Scratch F × FVec F S8x256 .f32 :=
  upto (fun t : Fin (k0_t7_loop v5 v11).trips => scoreStep x6 x7 (n4 := S1x1x256x128.size) (n2 := S256x256.size) (k0_off17 v5 v11 t) (k0_off17_inb v5 v8 v11 hw2 t) (k0_off18 v5 v11 t)
    (fun k ks => masked256 first len (Scf.iv v11 1#32 t) (scores256 q k ks)) shapeCasts_S256x256_S256x256 maxOf256) s (k0_t7_loop v5 v11).trips

/-- Score loop 8. -/
def scoreFold8 (q : FVec F S256x128 .fp8e4m3) (s : Scratch F × FVec F S8x256 .f32) : Scratch F × FVec F S8x256 .f32 :=
  upto (fun t : Fin (k0_t8_loop v5 v11).trips => scoreStep x6 x7 (n4 := S1x1x256x128.size) (n2 := S256x256.size) (k0_off19 v5 v11 t) (k0_off19_inb v5 v8 v11 hw2 t) (k0_off20 v5 v11 t)
    (fun k ks => masked256 first len (Scf.iv (k0_t8_loop v5 v11).lb 1#32 t) (scores256 q k ks)) shapeCasts_S256x256_S256x256 maxOf256) s (k0_t8_loop v5 v11).trips

/-- The score stage. -/
def scoreFn (q : FVec F S256x128 .fp8e4m3) (g : Scratch F) : Scratch F × FVec F S8x256 .f32 :=
  (scoreFold8 v5 v8 v11 hw2 first len x6 x7 q (scoreFold7 v5 v8 v11 hw2 first len x6 x7 q (scoreFold6 v5 v8 v11 hw2 x6 x7 q (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32))))))))))

/-- Value loop 9. -/
def valueFold9 (c m : FVec F S1x256 .f32) (g : Scratch F) (s : Carry F) : Carry F :=
  upto (fun t : Fin (k0_t9_loop v2 v5).trips => valueStep x8 g (n4 := S1x1x128x1024.size) (n2 := S1024x256.size) (k0_off21 v2 v5 t) (k0_off21_inb v2 v5 hw3 t) (k0_off22 v2 v5 t) (k0_off22_inb v2 v5 hw3 t)
    (fun a u vt => (weigh1024 (probs1024 c m u) vt a.1, sum1024 (probs1024 c m u) a.2))) s (k0_t9_loop v2 v5).trips

/-- Value loop 10. -/
def valueFold10 (c m : FVec F S1x256 .f32) (g : Scratch F) (s : Carry F) : Carry F :=
  upto (fun t : Fin (k0_t10_loop v2 v5).trips => valueStep x8 g (n4 := S1x1x128x1024.size) (n2 := S1024x256.size) (k0_off23 v2 v5 t) (k0_off23_inb v2 v5 hw3 t) (k0_off24 v2 v5 t) (k0_off24_inb v2 v5 hw3 t)
    (fun a u vt => (weigh1024 (probs1024 c m u) vt a.1, sum1024 (probs1024 c m u) a.2))) s (k0_t10_loop v2 v5).trips

/-- Value loop 11. -/
def valueFold11 (c m : FVec F S1x256 .f32) (g : Scratch F) (s : Carry F) : Carry F :=
  upto (fun t : Fin (k0_t11_loop v2 v5).trips => valueStep x8 g (n4 := S1x1x128x256.size) (n2 := S256x256.size) (k0_off25 v2 v5 t) (k0_off25_inb v2 v5 hw3 t) (k0_off26 v2 v5 t) (k0_off26_inb v2 v5 hw3 t)
    (fun a u vt => (weigh256 (probs256 c m u) vt a.1, sum256 (probs256 c m u) a.2))) s (k0_t11_loop v2 v5).trips

/-- Value loop 12. -/
def valueFold12 (c m : FVec F S1x256 .f32) (g : Scratch F) (s : Carry F) : Carry F :=
  upto (fun t : Fin (k0_t12_loop v2 v5).trips => valueStep x8 g (n4 := S1x1x128x256.size) (n2 := S256x256.size) (k0_off27 v2 v5 t) (k0_off27_inb v2 v5 hw3 t) (k0_off28 v2 v5 t) (k0_off28_inb v2 v5 hw3 t)
    (fun a u vt => (weigh256 (probs256 c m u) vt a.1, sum256 (probs256 c m u) a.2))) s (k0_t12_loop v2 v5).trips

/-- The value stage. -/
def valueFn (c m : FVec F S1x256 .f32) (g : Scratch F) : Carry F :=
  (valueFold12 v2 v5 hw3 x8 c m g (valueFold11 v2 v5 hw3 x8 c m g (valueFold10 v2 v5 hw3 x8 c m g (valueFold9 v2 v5 hw3 x8 c m g (broadcast S128x256 (Scalar.ofBits .f32 0x00000000#32 : F .f32), broadcast S8x256 (Scalar.ofBits .f32 0x00000000#32 : F .f32))))))

/-- A head's block, from the scratch it finds. -/
def headBlock (oq : Fin 3 → Nat) (hq : ∀ a, oq a + S1x256x128.size a ≤ S1x256x1024.size a)
    (os : Fin 3 → Nat) (hs : ∀ a, os a + S1x1x256.size a ≤ S1x8x256.size a) (g : Scratch F) : Vec F S1x256x128 .bf16 :=
  shapeCast S1x256x128 (outBlock (valueFn v2 v5 hw3 x8 (queryScale (VecWindow.window (s := S1x8x256) x5 os S1x1x256.size hs))
    (rowMax (scoreFn v2 v5 v8 hw1 v11 hw2 first len x6 x7 (shapeCast S256x128 (VecWindow.window (s := S1x256x1024) x4 oq S1x256x128.size hq : Vec F S1x256x128 .fp8e4m3) shapeCasts_S1x256x128_S256x128) g).2)
    (scoreFn v2 v5 v8 hw1 v11 hw2 first len x6 x7 (shapeCast S256x128 (VecWindow.window (s := S1x256x1024) x4 oq S1x256x128.size hq : Vec F S1x256x128 .fp8e4m3) shapeCasts_S1x256x128_S256x128) g).1)
    x9) shapeCasts_S256x128_S1x256x128

/-- A head, on the scratch and the output block. -/
def headFn (oq : Fin 3 → Nat) (hq : ∀ a, oq a + S1x256x128.size a ≤ S1x256x1024.size a)
    (os : Fin 3 → Nat) (hs : ∀ a, os a + S1x1x256.size a ≤ S1x8x256.size a)
    (s : Scratch F × Vec F S1x256x1024 .bf16) : Scratch F × Vec F S1x256x1024 .bf16 :=
  ((scoreFn v2 v5 v8 hw1 v11 hw2 first len x6 x7 (shapeCast S256x128 (VecWindow.window (s := S1x256x1024) x4 oq S1x256x128.size hq : Vec F S1x256x128 .fp8e4m3) shapeCasts_S1x256x128_S256x128) s.1).1,
    VecWindow.put s.2 oq S1x256x128.size (headBlock v2 v5 hw3 v8 hw1 v11 hw2 first len x4 x5 x6 x7 x8 x9 oq hq os hs s.1))

/-- The eight heads, in turn. -/
def headsFn (s : Scratch F × Vec F S1x256x1024 .bf16) : Scratch F × Vec F S1x256x1024 .bf16 :=
  (headFn v2 v5 hw3 v8 hw1 v11 hw2 first len x4 x5 x6 x7 x8 x9 ![0, 0, 896] inb_S1x256x1024_S1x256x128_0_0_896 ![0, 7, 0] inb_S1x8x256_S1x1x256_0_7_0
    (headFn v2 v5 hw3 v8 hw1 v11 hw2 first len x4 x5 x6 x7 x8 x9 ![0, 0, 768] inb_S1x256x1024_S1x256x128_0_0_768 ![0, 6, 0] inb_S1x8x256_S1x1x256_0_6_0
    (headFn v2 v5 hw3 v8 hw1 v11 hw2 first len x4 x5 x6 x7 x8 x9 ![0, 0, 640] inb_S1x256x1024_S1x256x128_0_0_640 ![0, 5, 0] inb_S1x8x256_S1x1x256_0_5_0
    (headFn v2 v5 hw3 v8 hw1 v11 hw2 first len x4 x5 x6 x7 x8 x9 ![0, 0, 512] inb_S1x256x1024_S1x256x128_0_0_512 ![0, 4, 0] inb_S1x8x256_S1x1x256_0_4_0
    (headFn v2 v5 hw3 v8 hw1 v11 hw2 first len x4 x5 x6 x7 x8 x9 ![0, 0, 384] inb_S1x256x1024_S1x256x128_0_0_384 ![0, 3, 0] inb_S1x8x256_S1x1x256_0_3_0
    (headFn v2 v5 hw3 v8 hw1 v11 hw2 first len x4 x5 x6 x7 x8 x9 ![0, 0, 256] inb_S1x256x1024_S1x256x128_0_0_256 ![0, 2, 0] inb_S1x8x256_S1x1x256_0_2_0
    (headFn v2 v5 hw3 v8 hw1 v11 hw2 first len x4 x5 x6 x7 x8 x9 ![0, 0, 128] inb_S1x256x1024_S1x256x128_0_0_128 ![0, 1, 0] inb_S1x8x256_S1x1x256_0_1_0
    (headFn v2 v5 hw3 v8 hw1 v11 hw2 first len x4 x5 x6 x7 x8 x9 ![0, 0, 0] inb_S1x256x1024_S1x256x128_0_0_0 ![0, 0, 0] inb_S1x8x256_S1x1x256_0_0_0
    s))))))))

variable (c : Dev nD) (E : Set ℕ) (arg4 : Memref sig .tc .vmem S1x256x1024 .fp8e4m3) (arg5 : Memref sig .tc .vmem S1x8x256 .f32)
  (arg6 : Memref sig .tc .vmem S1x1x32768x128 .fp8e4m3) (arg7 : Memref sig .tc .vmem S1x1x32768x128 .f32)
  (arg8 : Memref sig .tc .vmem S1x1x128x32768 .fp8e4m3) (arg9 : Memref sig .tc .vmem S1x1x1x128 .f32)
  (arg12 : Memref sig .tc .vmem S1x256x1024 .bf16) (harg12 : arg12.IsWhole) (arg13 : Memref sig .tc .vmem S32768x256 .f32)

theorem wp_scoreStage (q : FVec F S256x128 .fp8e4m3) (g : Scratch F) (K : FVec F S8x256 .f32 → sProp 𝕄) :
    iprop(owns (c : Thread nD τ) arg6 fullShare x6 ∗ owns (c : Thread nD τ) arg7 fullShare x7 ∗ owns (c : Thread nD τ) arg13 fullShare g
        ∗ (iprop(owns (c : Thread nD τ) arg6 fullShare x6 ∗ owns (c : Thread nD τ) arg7 fullShare x7
            ∗ owns (c : Thread nD τ) arg13 fullShare (scoreFn v2 v5 v8 hw1 v11 hw2 first len x6 x7 q g).1) -∗ K (scoreFn v2 v5 v8 hw1 v11 hw2 first len x6 x7 q g).2))
      ⊢ wp frame (wpE (defs₀ (F := F)) Variants.none c none) E (scoreStage arg6 arg7 arg13 v2 v5 v8 hw1 v11 hw2 first len q) K := by
  unfold scoreStage scoreFn scoreFold8
  iintro ⟨H6, H7, H13, Hk⟩
  iapply (wp_scoreLoop c E arg6 arg7 arg13 x6 x7 h_S1x1x256x128 h_S256x256 (k0_t1_loop v2 v8) (k0_t1_ok v2 v8 hw1)
    (fun t => k0_off5 v2 v8 t) (fun t => k0_off5_inb v2 v8 hw1 t) (fun t => k0_off6 v2 v8 t) (fun t => k0_off6_inb v2 v8 hw1 t)
    (fun t => (fun k ks => masked256 first len (Scf.iv v2 1#32 t) (scores256 q k ks))) shapeCasts_S256x256_S256x256 maxOf256 (g, broadcast S8x256 (Scalar.ofBits .f32 0xFF800000#32 : F .f32)) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t2_loop v2 v8) (k0_t2_ok v2 v8 hw1)
    (fun t => k0_off7 v2 v8 t) (fun t => k0_off7_inb v2 v8 hw1 t) (fun t => k0_off8 v2 v8 t) (fun t => k0_off8_inb v2 v8 hw1 t)
    (fun t => (fun k ks => masked256 first len (Scf.iv (k0_t2_loop v2 v8).lb 1#32 t) (scores256 q k ks))) shapeCasts_S256x256_S256x256 maxOf256 (scoreFold1 v2 v8 hw1 first len x6 x7 q (g, broadcast S8x256 (Scalar.ofBits .f32 0xFF800000#32 : F .f32))) _ _)
  isplitl [H6]; · iexact H6
  isplitl [H7]; · iexact H7
  isplitl [H13]; · iexact H13
  iintro ⟨H6, H7, H13⟩
  iapply (wp_scoreLoop c E arg6 arg7 arg13 x6 x7 h_S1x1x1024x128 h_S1024x256 (k0_t3_loop v8 v11) (k0_t3_ok v5 v8 v11 hw2)
    (fun t => k0_off9 v8 v11 t) (fun t => k0_off9_inb v5 v8 v11 hw2 t) (fun t => k0_off10 v8 v11 t) (fun t => k0_off10_inb v5 v8 v11 hw2 t)
    (fun t => (scores1024 q)) shapeCasts_S1024x256_S1024x256 maxOf1024 (scoreFold2 v2 v8 hw1 first len x6 x7 q (scoreFold1 v2 v8 hw1 first len x6 x7 q (g, broadcast S8x256 (Scalar.ofBits .f32 0xFF800000#32 : F .f32)))) _ _)
  isplitl [H6]; · iexact H6
  isplitl [H7]; · iexact H7
  isplitl [H13]; · iexact H13
  iintro ⟨H6, H7, H13⟩
  iapply (wp_scoreLoop c E arg6 arg7 arg13 x6 x7 h_S1x1x1024x128 h_S1024x256 (k0_t4_loop v8 v11) (k0_t4_ok v5 v8 v11 hw2)
    (fun t => k0_off11 v8 v11 t) (fun t => k0_off11_inb v5 v8 v11 hw2 t) (fun t => k0_off12 v8 v11 t) (fun t => k0_off12_inb v5 v8 v11 hw2 t)
    (fun t => (scores1024 q)) shapeCasts_S1024x256_S1024x256 maxOf1024 (scoreFold3 v5 v8 v11 hw2 x6 x7 q (scoreFold2 v2 v8 hw1 first len x6 x7 q (scoreFold1 v2 v8 hw1 first len x6 x7 q (g, broadcast S8x256 (Scalar.ofBits .f32 0xFF800000#32 : F .f32))))) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t5_loop v8 v11) (k0_t5_ok v5 v8 v11 hw2)
    (fun t => k0_off13 v8 v11 t) (fun t => k0_off13_inb v5 v8 v11 hw2 t) (fun t => k0_off14 v8 v11 t) (fun t => k0_off14_inb v5 v8 v11 hw2 t)
    (fun t => (scores256 q)) shapeCasts_S256x256_S256x256 maxOf256 (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32)))))) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t6_loop v8 v11) (k0_t6_ok v5 v8 v11 hw2)
    (fun t => k0_off15 v8 v11 t) (fun t => k0_off15_inb v5 v8 v11 hw2 t) (fun t => k0_off16 v8 v11 t) (fun t => k0_off16_inb v5 v8 v11 hw2 t)
    (fun t => (scores256 q)) shapeCasts_S256x256_S256x256 maxOf256 (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32))))))) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t7_loop v5 v11) (k0_t7_ok v5 v8 v11 hw2)
    (fun t => k0_off17 v5 v11 t) (fun t => k0_off17_inb v5 v8 v11 hw2 t) (fun t => k0_off18 v5 v11 t) (fun t => k0_off18_inb v5 v8 v11 hw2 t)
    (fun t => (fun k ks => masked256 first len (Scf.iv v11 1#32 t) (scores256 q k ks))) shapeCasts_S256x256_S256x256 maxOf256 (scoreFold6 v5 v8 v11 hw2 x6 x7 q (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32)))))))) _ _)
  isplitl [H6]; · iexact H6
  isplitl [H7]; · iexact H7
  isplitl [H13]; · iexact H13
  iintro ⟨H6, H7, H13⟩
  iapply (wp_scoreLoop_last c E arg6 arg7 arg13 x6 x7 h_S1x1x256x128 h_S256x256 (k0_t8_loop v5 v11) (k0_t8_ok v5 v8 v11 hw2)
    (fun t => k0_off19 v5 v11 t) (fun t => k0_off19_inb v5 v8 v11 hw2 t) (fun t => k0_off20 v5 v11 t) (fun t => k0_off20_inb v5 v8 v11 hw2 t)
    (fun t => (fun k ks => masked256 first len (Scf.iv (k0_t8_loop v5 v11).lb 1#32 t) (scores256 q k ks))) shapeCasts_S256x256_S256x256 maxOf256 (scoreFold7 v5 v8 v11 hw2 first len x6 x7 q (scoreFold6 v5 v8 v11 hw2 x6 x7 q (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32))))))))) _)
  isplitl [H6]; · iexact H6
  isplitl [H7]; · iexact H7
  isplitl [H13]; · iexact H13
  iintro ⟨H6, H7, H13⟩
  iapply Hk
  isplitl [H6]; · iexact H6
  isplitl [H7]; · iexact H7
  iexact H13

theorem wp_valueStage (cs m : FVec F S1x256 .f32) (g : Scratch F) (K : Carry F → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g) -∗ K (valueFn v2 v5 hw3 x8 cs m g)))
      ⊢ wp frame (wpE (defs₀ (F := F)) Variants.none c none) E (valueStage arg8 arg13 v2 v5 hw3 cs m) K := by
  unfold valueStage valueFn valueFold12
  iintro ⟨H8, H13, Hk⟩
  iapply (wp_valueLoop c E arg8 arg13 x8 h_S1x1x128x1024 h_S1024x256 g (k0_t9_loop v2 v5) (k0_t9_ok v2 v5 hw3)
    (fun t => k0_off21 v2 v5 t) (fun t => k0_off21_inb v2 v5 hw3 t) (fun t => k0_off22 v2 v5 t) (fun t => k0_off22_inb v2 v5 hw3 t)
    (fun a u vt => (weigh1024 (probs1024 cs m u) vt a.1, sum1024 (probs1024 cs m u) a.2)) (broadcast S128x256 (Scalar.ofBits .f32 0x00000000#32 : F .f32), broadcast S8x256 (Scalar.ofBits .f32 0x00000000#32 : F .f32)) _ _)
  isplitl [H8]; · iexact H8
  isplitl [H13]; · iexact H13
  iintro ⟨H8, H13⟩
  iapply (wp_valueLoop c E arg8 arg13 x8 h_S1x1x128x1024 h_S1024x256 g (k0_t10_loop v2 v5) (k0_t10_ok v2 v5 hw3)
    (fun t => k0_off23 v2 v5 t) (fun t => k0_off23_inb v2 v5 hw3 t) (fun t => k0_off24 v2 v5 t) (fun t => k0_off24_inb v2 v5 hw3 t)
    (fun a u vt => (weigh1024 (probs1024 cs m u) vt a.1, sum1024 (probs1024 cs m u) a.2)) (valueFold9 v2 v5 hw3 x8 cs m g (broadcast S128x256 (Scalar.ofBits .f32 0x00000000#32 : F .f32), broadcast S8x256 (Scalar.ofBits .f32 0x00000000#32 : F .f32))) _ _)
  isplitl [H8]; · iexact H8
  isplitl [H13]; · iexact H13
  iintro ⟨H8, H13⟩
  iapply (wp_valueLoop c E arg8 arg13 x8 h_S1x1x128x256 h_S256x256 g (k0_t11_loop v2 v5) (k0_t11_ok v2 v5 hw3)
    (fun t => k0_off25 v2 v5 t) (fun t => k0_off25_inb v2 v5 hw3 t) (fun t => k0_off26 v2 v5 t) (fun t => k0_off26_inb v2 v5 hw3 t)
    (fun a u vt => (weigh256 (probs256 cs m u) vt a.1, sum256 (probs256 cs m u) a.2)) (valueFold10 v2 v5 hw3 x8 cs m g (valueFold9 v2 v5 hw3 x8 cs m g (broadcast S128x256 (Scalar.ofBits .f32 0x00000000#32 : F .f32), broadcast S8x256 (Scalar.ofBits .f32 0x00000000#32 : F .f32)))) _ _)
  isplitl [H8]; · iexact H8
  isplitl [H13]; · iexact H13
  iintro ⟨H8, H13⟩
  iapply (wp_valueLoop_last c E arg8 arg13 x8 h_S1x1x128x256 h_S256x256 g (k0_t12_loop v2 v5) (k0_t12_ok v2 v5 hw3)
    (fun t => k0_off27 v2 v5 t) (fun t => k0_off27_inb v2 v5 hw3 t) (fun t => k0_off28 v2 v5 t) (fun t => k0_off28_inb v2 v5 hw3 t)
    (fun a u vt => (weigh256 (probs256 cs m u) vt a.1, sum256 (probs256 cs m u) a.2)) (valueFold11 v2 v5 hw3 x8 cs m g (valueFold10 v2 v5 hw3 x8 cs m g (valueFold9 v2 v5 hw3 x8 cs m g (broadcast S128x256 (Scalar.ofBits .f32 0x00000000#32 : F .f32), broadcast S8x256 (Scalar.ofBits .f32 0x00000000#32 : F .f32))))) _)
  isplitl [H8]; · iexact H8
  isplitl [H13]; · iexact H13
  iintro ⟨H8, H13⟩
  iapply Hk
  isplitl [H8]; · iexact H8
  iexact H13

theorem wp_head (oq : Fin 3 → Nat) (hq : ∀ a, oq a + S1x256x128.size a ≤ S1x256x1024.size a)
    (pq : (Rect.unit (s := S1x256x1024) oq S1x256x128.size hq).PackedRows (EltTy.packing .bf16))
    (os : Fin 3 → Nat) (hs : ∀ a, os a + S1x1x256.size a ≤ S1x8x256.size a)
    (s : Scratch F × Vec F S1x256x1024 .bf16) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg12 fullShare s.2 ∗ owns (c : Thread nD τ) arg13 fullShare s.1
        ∗ (iprop(owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8 ∗ owns (c : Thread nD τ) arg9 fullShare x9
          ∗ owns (c : Thread nD τ) arg12 fullShare (headFn v2 v5 hw3 v8 hw1 v11 hw2 first len x4 x5 x6 x7 x8 x9 oq hq os hs s).2
          ∗ owns (c : Thread nD τ) arg13 fullShare (headFn v2 v5 hw3 v8 hw1 v11 hw2 first len x4 x5 x6 x7 x8 x9 oq hq os hs s).1) -∗ K ⟨⟩))
      ⊢ wp frame (wpE (defs₀ (F := F)) Variants.none c none) E
          (head arg4 arg5 arg6 arg7 arg8 arg9 arg12 harg12 arg13 v2 v5 hw3 v8 hw1 v11 hw2 first len oq hq pq os hs) K := by
  obtain ⟨g, o⟩ := s
  dsimp only [headFn, headBlock]
  generalize hq' : (shapeCast S256x128 (VecWindow.window (s := S1x256x1024) x4 oq S1x256x128.size hq : Vec F S1x256x128 .fp8e4m3) shapeCasts_S1x256x128_S256x128) = q
  generalize hsc : scoreFn v2 v5 v8 hw1 v11 hw2 first len x6 x7 q g = sc
  generalize hb : valueFn v2 v5 hw3 x8 (queryScale (VecWindow.window (s := S1x8x256) x5 os S1x1x256.size hs)) (rowMax sc.2) sc.1 = b
  generalize hO6 : (owns (c : Thread nD τ) arg6 fullShare x6 : sProp 𝕄) = O6
  generalize hO7 : (owns (c : Thread nD τ) arg7 fullShare x7 : sProp 𝕄) = O7
  generalize hO8 : (owns (c : Thread nD τ) arg8 fullShare x8 : sProp 𝕄) = O8
  generalize hO13 : (owns (c : Thread nD τ) arg13 fullShare g : sProp 𝕄) = O13
  generalize hO13' : (owns (c : Thread nD τ) arg13 fullShare sc.1 : sProp 𝕄) = O13'
  unfold head
  generalize hP : scoreStage (F := F) arg6 arg7 arg13 v2 v5 v8 hw1 v11 hw2 first len = P
  generalize hR : valueStage (F := F) arg8 arg13 v2 v5 hw3 = R
  unfold owns
  iintro ⟨⟨%f4, %hf4, H4⟩, ⟨%f5, %hf5, H5⟩, H6, H7, H8, ⟨%f9, %hf9, H9⟩, ⟨%f12, %hf12, H12⟩, H13, Hk⟩
  subst hf4 hf5 hf9
  simp only at hf12
  subst hf12
  sl_exec
  rw [View.readAt_unit arg4.view f4 hq rfl hq, View.readAt_unit arg5.view f5 hs rfl hs]
  rw [hq', wp_bind]
  rw [← hO6, ← hO7, ← hO13, ← hP]
  iapply (wp_scoreStage v2 v5 v8 hw1 v11 hw2 first len x6 x7 c E arg6 arg7 arg13 q g _)
  isplitl [H6]; · iexact H6
  isplitl [H7]; · iexact H7
  isplitl [H13]; · iexact H13
  rw [hO6, hO7, hsc, hO13']
  iintro ⟨H6, H7, H13⟩
  rw [wp_bind]
  rw [← hO8, ← hO13', ← hR]
  iapply (wp_valueStage v2 v5 hw3 x8 c E arg8 arg13 _ _ sc.1 _)
  isplitl [H8]; · iexact H8
  isplitl [H13]; · iexact H13
  rw [hb, hO8, hO13']
  iintro ⟨H8, H13⟩
  sl_exec
  sl_step
  iapply Hk
  isplitl [H4]
  · iexists f4; isplitr; · ipureintro; rfl
    iexact H4
  isplitl [H5]
  · iexists f5; isplitr; · ipureintro; rfl
    iexact H5
  isplitl [H6]; · iexact H6
  isplitl [H7]; · iexact H7
  isplitl [H8]; · iexact H8
  isplitl [H9]
  · iexists f9; isplitr; · ipureintro; rfl
    iexact H9
  isplitr [H13]
  · iexists _; isplitr
    swap; · iexact H12
    ipureintro
    rw [View.read_writes_cons_put _ _ _ _ _ rfl, View.readAt_full]
    rfl
  iexact H13

theorem wp_heads (s : Scratch F × Vec F S1x256x1024 .bf16) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg12 fullShare s.2 ∗ owns (c : Thread nD τ) arg13 fullShare s.1
        ∗ (iprop(owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8 ∗ owns (c : Thread nD τ) arg9 fullShare x9
          ∗ owns (c : Thread nD τ) arg12 fullShare (headsFn v2 v5 hw3 v8 hw1 v11 hw2 first len x4 x5 x6 x7 x8 x9 s).2
          ∗ owns (c : Thread nD τ) arg13 fullShare (headsFn v2 v5 hw3 v8 hw1 v11 hw2 first len x4 x5 x6 x7 x8 x9 s).1) -∗ K ⟨⟩))
      ⊢ wp frame (wpE (defs₀ (F := F)) Variants.none c none) E
          (heads arg4 arg5 arg6 arg7 arg8 arg9 arg12 harg12 arg13 v2 v5 hw3 v8 hw1 v11 hw2 first len) K := by
  generalize hOut : headsFn v2 v5 hw3 v8 hw1 v11 hw2 first len x4 x5 x6 x7 x8 x9 s = out
  unfold heads
  iintro ⟨H4, H5, H6, H7, H8, H9, H12, H13, Hk⟩
  rw [wp_bind]
  iapply (wp_head v2 v5 hw3 v8 hw1 v11 hw2 first len x4 x5 x6 x7 x8 x9 c E arg4 arg5 arg6 arg7 arg8 arg9 arg12 harg12 arg13 ![0, 0, 0] inb_S1x256x1024_S1x256x128_0_0_0 packedbf16_S1x256x1024_S1x256x128_0_0_0 ![0, 0, 0] inb_S1x8x256_S1x1x256_0_0_0 s _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs1 : headFn v2 v5 hw3 v8 hw1 v11 hw2 first len x4 x5 x6 x7 x8 x9 ![0, 0, 0] inb_S1x256x1024_S1x256x128_0_0_0 ![0, 0, 0] inb_S1x8x256_S1x1x256_0_0_0 s = s1
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 128] inb_S1x256x1024_S1x256x128_0_0_128 packedbf16_S1x256x1024_S1x256x128_0_0_128 ![0, 1, 0] inb_S1x8x256_S1x1x256_0_1_0 s1 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs2 : headFn v2 v5 hw3 v8 hw1 v11 hw2 first len x4 x5 x6 x7 x8 x9 ![0, 0, 128] inb_S1x256x1024_S1x256x128_0_0_128 ![0, 1, 0] inb_S1x8x256_S1x1x256_0_1_0 s1 = s2
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 256] inb_S1x256x1024_S1x256x128_0_0_256 packedbf16_S1x256x1024_S1x256x128_0_0_256 ![0, 2, 0] inb_S1x8x256_S1x1x256_0_2_0 s2 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs3 : headFn v2 v5 hw3 v8 hw1 v11 hw2 first len x4 x5 x6 x7 x8 x9 ![0, 0, 256] inb_S1x256x1024_S1x256x128_0_0_256 ![0, 2, 0] inb_S1x8x256_S1x1x256_0_2_0 s2 = s3
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 384] inb_S1x256x1024_S1x256x128_0_0_384 packedbf16_S1x256x1024_S1x256x128_0_0_384 ![0, 3, 0] inb_S1x8x256_S1x1x256_0_3_0 s3 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs4 : headFn v2 v5 hw3 v8 hw1 v11 hw2 first len x4 x5 x6 x7 x8 x9 ![0, 0, 384] inb_S1x256x1024_S1x256x128_0_0_384 ![0, 3, 0] inb_S1x8x256_S1x1x256_0_3_0 s3 = s4
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 512] inb_S1x256x1024_S1x256x128_0_0_512 packedbf16_S1x256x1024_S1x256x128_0_0_512 ![0, 4, 0] inb_S1x8x256_S1x1x256_0_4_0 s4 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs5 : headFn v2 v5 hw3 v8 hw1 v11 hw2 first len x4 x5 x6 x7 x8 x9 ![0, 0, 512] inb_S1x256x1024_S1x256x128_0_0_512 ![0, 4, 0] inb_S1x8x256_S1x1x256_0_4_0 s4 = s5
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 640] inb_S1x256x1024_S1x256x128_0_0_640 packedbf16_S1x256x1024_S1x256x128_0_0_640 ![0, 5, 0] inb_S1x8x256_S1x1x256_0_5_0 s5 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs6 : headFn v2 v5 hw3 v8 hw1 v11 hw2 first len x4 x5 x6 x7 x8 x9 ![0, 0, 640] inb_S1x256x1024_S1x256x128_0_0_640 ![0, 5, 0] inb_S1x8x256_S1x1x256_0_5_0 s5 = s6
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 768] inb_S1x256x1024_S1x256x128_0_0_768 packedbf16_S1x256x1024_S1x256x128_0_0_768 ![0, 6, 0] inb_S1x8x256_S1x1x256_0_6_0 s6 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs7 : headFn v2 v5 hw3 v8 hw1 v11 hw2 first len x4 x5 x6 x7 x8 x9 ![0, 0, 768] inb_S1x256x1024_S1x256x128_0_0_768 ![0, 6, 0] inb_S1x8x256_S1x1x256_0_6_0 s6 = s7
  iintro ⟨H4, H5, H6, H7, H8, H9, H12, H13⟩
  iapply (wp_head v2 v5 hw3 v8 hw1 v11 hw2 first len x4 x5 x6 x7 x8 x9 c E arg4 arg5 arg6 arg7 arg8 arg9 arg12 harg12 arg13 ![0, 0, 896] inb_S1x256x1024_S1x256x128_0_0_896 packedbf16_S1x256x1024_S1x256x128_0_0_896 ![0, 7, 0] inb_S1x8x256_S1x1x256_0_7_0 s7 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs8 : headFn v2 v5 hw3 v8 hw1 v11 hw2 first len x4 x5 x6 x7 x8 x9 ![0, 0, 896] inb_S1x256x1024_S1x256x128_0_0_896 ![0, 7, 0] inb_S1x8x256_S1x1x256_0_7_0 s7 = s8
  iintro ⟨H4, H5, H6, H7, H8, H9, H12, H13⟩
  have e8 : s8 = out := by rw [← hOut]; unfold headsFn; rw [hs1, hs2, hs3, hs4, hs5, hs6, hs7, hs8]
  subst e8
  iapply Hk
  isplitl [H4]; · iexact H4
  isplitl [H5]; · iexact H5
  isplitl [H6]; · iexact H6
  isplitl [H7]; · iexact H7
  isplitl [H8]; · iexact H8
  isplitl [H9]; · iexact H9
  isplitl [H12]; · iexact H12
  iexact H13

end Stages

end Cert.Kernel.Body
-- ==== Proof.Bits.Body.lean ====
/-
The body's triple: the words of the visibility table, the rows' intervals, then the heads.
-/
module

public import proofs.«01_k».proof.Proof.Bits.Triple
public import Idealize.ShloMosaic.Lib.Pipeline.FrameBody
public import Idealize.ShloMosaic.Lib.Tactic
public import Idealize.ShloMosaic.Lib.Exec
public import Idealize.ShloMosaic.Lib.VecWindow

@[expose] public section

set_option synthInstance.maxSize 4096

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-! ## The body -/

/-- The word of the table at an offset. -/
def word (T : Vec F S3x128x4 .i32) (o : Fin 3 → Nat) (h : ∀ a, o a + S1x1x1.size a ≤ S3x128x4.size a) : BitVec 32 :=
  VecWindow.window (s := S3x128x4) T o S1x1x1.size h (Shape.Idx.first (numel1_S1x1x1.symm ▸ Nat.one_pos))

section Body
variable [Facts]

theorem headsFn_congr {v2 v5 v8 v11 v2' v5' v8' v11' : BitVec 32} {first len first' len' : IVec S1x256 32}
    (e2 : v2 = v2') (e5 : v5 = v5') (e8 : v8 = v8') (e11 : v11 = v11') (ef : first = first') (el : len = len')
    (hc3 : k0_chk3 v2 v5) (hc1 : k0_chk1 v2 v8) (hc2 : k0_chk2 v5 v8 v11)
    (hc3' : k0_chk3 v2' v5') (hc1' : k0_chk1 v2' v8') (hc2' : k0_chk2 v5' v8' v11')
    (x4 : Vec F S1x256x1024 .fp8e4m3) (x5 : Vec F S1x8x256 .f32)
    (x6 : Vec F S1x1x32768x128 .fp8e4m3) (x7 : Vec F S1x1x32768x128 .f32) (x8 : Vec F S1x1x128x32768 .fp8e4m3) (x9 : Vec F S1x1x1x128 .f32)
    (s : Scratch F × Vec F S1x256x1024 .bf16) :
    headsFn v2 v5 hc3 v8 hc1 v11 hc2 first len x4 x5 x6 x7 x8 x9 s
      = headsFn v2' v5' hc3' v8' hc1' v11' hc2' first' len' x4 x5 x6 x7 x8 x9 s := by
  subst e2 e5 e8 e11 ef el; rfl

set_option maxHeartbeats 400000 in
theorem wp_body (c : Dev nD) (E : Set ℕ) (q3 : PosShare TreeShare) (i : grid0.Coords) (arg3 : Memref sig .tc .smem S3x128x4 .i32)
    (arg4 : Memref sig .tc .vmem S1x256x1024 .fp8e4m3) (arg5 : Memref sig .tc .vmem S1x8x256 .f32)
    (arg6 : Memref sig .tc .vmem S1x1x32768x128 .fp8e4m3) (arg7 : Memref sig .tc .vmem S1x1x32768x128 .f32)
    (arg8 : Memref sig .tc .vmem S1x1x128x32768 .fp8e4m3) (arg9 : Memref sig .tc .vmem S1x1x1x128 .f32)
    (arg10 arg11 : Memref sig .tc .vmem S1x1x256 .i32)
    (arg12 : Memref sig .tc .vmem S1x256x1024 .bf16) (harg12 : arg12.IsWhole) (arg13 : Memref sig .tc .vmem S32768x256 .f32)
    (T : Vec F S3x128x4 .i32) (x4 : Vec F S1x256x1024 .fp8e4m3) (x5 : Vec F S1x8x256 .f32)
    (x6 : Vec F S1x1x32768x128 .fp8e4m3) (x7 : Vec F S1x1x32768x128 .f32) (x8 : Vec F S1x1x128x32768 .fp8e4m3) (x9 : Vec F S1x1x1x128 .f32)
    (x10 x11 : Vec F S1x1x256 .i32) (o : Vec F S1x256x1024 .bf16) (g : Scratch F)
    (hc3 : k0_chk3 (word T (k0_off1 i) (k0_off1_inb i)) (word T (k0_off2 i) (k0_off2_inb i)))
    (hc1 : k0_chk1 (word T (k0_off1 i) (k0_off1_inb i)) (word T (k0_off3 i) (k0_off3_inb i)))
    (hc2 : k0_chk2 (word T (k0_off2 i) (k0_off2_inb i)) (word T (k0_off3 i) (k0_off3_inb i)) (word T (k0_off4 i) (k0_off4_inb i)))
    (K : PUnit → sProp 𝕄) :
    iprop(owns (c : Thread nD τ) arg3 q3 T ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare o ∗ owns (c : Thread nD τ) arg13 fullShare g
        ∗ (iprop(owns (c : Thread nD τ) arg3 q3 T ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
          ∗ owns (c : Thread nD τ) arg12 fullShare (headsFn (word T (k0_off1 i) (k0_off1_inb i)) (word T (k0_off2 i) (k0_off2_inb i)) hc3 (word T (k0_off3 i) (k0_off3_inb i)) hc1 (word T (k0_off4 i) (k0_off4_inb i)) hc2 (shapeCast S1x256 x10 shapeCasts_S1x1x256_S1x256) (subi (shapeCast S1x256 x11 shapeCasts_S1x1x256_S1x256) (shapeCast S1x256 x10 shapeCasts_S1x1x256_S1x256)) x4 x5 x6 x7 x8 x9 (g, o)).2
          ∗ owns (c : Thread nD τ) arg13 fullShare (headsFn (word T (k0_off1 i) (k0_off1_inb i)) (word T (k0_off2 i) (k0_off2_inb i)) hc3 (word T (k0_off3 i) (k0_off3_inb i)) hc1 (word T (k0_off4 i) (k0_off4_inb i)) hc2 (shapeCast S1x256 x10 shapeCasts_S1x1x256_S1x256) (subi (shapeCast S1x256 x11 shapeCasts_S1x1x256_S1x256) (shapeCast S1x256 x10 shapeCasts_S1x1x256_S1x256)) x4 x5 x6 x7 x8 x9 (g, o)).1) -∗ K ⟨⟩))
      ⊢ wp frame (wpE (defs₀ (F := F)) Variants.none c none) E
          (body i arg3 arg4 arg5 arg6 arg7 arg8 arg9 arg10 arg11 arg12 harg12 arg13) K := by
  generalize hOut : headsFn (word T (k0_off1 i) (k0_off1_inb i)) (word T (k0_off2 i) (k0_off2_inb i)) hc3 (word T (k0_off3 i) (k0_off3_inb i)) hc1 (word T (k0_off4 i) (k0_off4_inb i)) hc2 (shapeCast S1x256 x10 shapeCasts_S1x1x256_S1x256) (subi (shapeCast S1x256 x11 shapeCasts_S1x1x256_S1x256) (shapeCast S1x256 x10 shapeCasts_S1x1x256_S1x256)) x4 x5 x6 x7 x8 x9 (g, o) = out
  generalize hO4 : (owns (c : Thread nD τ) arg4 fullShare x4 : sProp 𝕄) = O4
  generalize hO5 : (owns (c : Thread nD τ) arg5 fullShare x5 : sProp 𝕄) = O5
  generalize hO6 : (owns (c : Thread nD τ) arg6 fullShare x6 : sProp 𝕄) = O6
  generalize hO7 : (owns (c : Thread nD τ) arg7 fullShare x7 : sProp 𝕄) = O7
  generalize hO8 : (owns (c : Thread nD τ) arg8 fullShare x8 : sProp 𝕄) = O8
  generalize hO9 : (owns (c : Thread nD τ) arg9 fullShare x9 : sProp 𝕄) = O9
  generalize hO13 : (owns (c : Thread nD τ) arg13 fullShare g : sProp 𝕄) = O13
  generalize hO12 : (owns (c : Thread nD τ) arg12 fullShare o : sProp 𝕄) = O12
  generalize hO13' : (owns (c : Thread nD τ) arg13 fullShare out.1 : sProp 𝕄) = O13'
  generalize hO12' : (owns (c : Thread nD τ) arg12 fullShare out.2 : sProp 𝕄) = O12'
  unfold body
  generalize hH : heads (F := F) arg4 arg5 arg6 arg7 arg8 arg9 arg12 harg12 arg13 = HD
  unfold owns
  iintro ⟨⟨%f3, %hf3, H3⟩, H4, H5, H6, H7, H8, H9, ⟨%f10, %hf10, H10⟩, ⟨%f11, %hf11, H11⟩, H12, H13, Hk⟩
  subst hf3 hf10 hf11
  sl_exec
  subst hH
  rw [← hO4]
  rw [← hO5]
  rw [← hO6]
  rw [← hO7]
  rw [← hO8]
  rw [← hO9]
  rw [← hO12]
  rw [← hO13]
  iapply (wp_heads _ _ _ _ _ _ _ _ _ x4 x5 x6 x7 x8 x9 c E arg4 arg5 arg6 arg7 arg8 arg9 arg12 harg12 arg13 (g, o) _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  have ef : wp_body.sl.first c arg10 f10 = shapeCast S1x256 (arg10.view.read (Elt F) f10) shapeCasts_S1x1x256_S1x256 := by
    unfold wp_body.sl.first
    rw [View.readAt_full]
  have el : wp_body.sl.len c arg10 arg11 f10 f11 = subi (shapeCast S1x256 (arg11.view.read (Elt F) f11) shapeCasts_S1x1x256_S1x256)
      (shapeCast S1x256 (arg10.view.read (Elt F) f10) shapeCasts_S1x1x256_S1x256) := by
    unfold wp_body.sl.len wp_body.sl.first
    rw [View.readAt_full, View.readAt_full]
  have e : headsFn (F := F) (wp_body.sl.r c i arg3 f3) (wp_body.sl.r_1 c i arg3 f3) hc3 (wp_body.sl.r_2 c i arg3 f3) hc1 (wp_body.sl.r_3 c i arg3 f3) hc2
      (wp_body.sl.first c arg10 f10) (wp_body.sl.len c arg10 arg11 f10 f11) x4 x5 x6 x7 x8 x9 (g, o) = out :=
    (headsFn_congr rfl rfl rfl rfl ef el hc3 hc1 hc2 hc3 hc1 hc2 x4 x5 x6 x7 x8 x9 (g, o)).trans hOut
  rw [hO4, hO5, hO6, hO7, hO8, hO9, e, hO12', hO13']
  iintro ⟨H4, H5, H6, H7, H8, H9, H12, H13⟩
  iapply Hk
  isplitl [H3]
  · iexists f3; isplitr; · ipureintro; rfl
    iexact H3
  isplitl [H4]; · iexact H4
  isplitl [H5]; · iexact H5
  isplitl [H6]; · iexact H6
  isplitl [H7]; · iexact H7
  isplitl [H8]; · iexact H8
  isplitl [H9]; · iexact H9
  isplitl [H10]
  · iexists f10; isplitr; · ipureintro; rfl
    iexact H10
  isplitl [H11]
  · iexists f11; isplitr; · ipureintro; rfl
    iexact H11
  isplitl [H12]; · iexact H12
  iexact H13

end Body

end Cert.Kernel.Body
-- ==== Proof.Bits.Launch.lean ====
/-
The launch: the host lines leave the visibility table and the intervals, the pipeline runs the body at every
grid point, and every argument array ends as it was.
-/
module

public import proofs.«01_k».proof.Proof.Bits.Body
public import proofs.«01_k».proof.Proof.Gen.Kernel.Launch
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host lines leave -/

/-- The host lines before the region, line group by line group. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- The buffers when the region is entered. -/
def V0 (c : Dev nD) : Valuation τ sig (Elt F) := StableHlo.after (hostLines (F := F)).flatten (fun b => m (c, b))
/-- The same read at a TensorCore reference. -/
abbrev V (c : Dev nD) (b : Ref sig .tc) : Buf (Elt F) ((c : Thread nD τ).loc b) := V0 m c (Proc.devRef .tc b)

theorem hostLines_fresh : (hostLines (F := F)).Forall fun ops => ops.Forall fun op => op.fresh = ∅ := by
  simp only [List.Forall]; repeat' constructor

theorem hostLines_sub : (hostLines (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

set_option maxHeartbeats 1600000 in
theorem V_main_arg0 (c : Dev nD) : V m c main_arg0 = m ((c : Thread nD τ).loc main_arg0) := by
  unfold V V0
  exact StableHlo.after_of_forall_not_mem (b := Proc.devRef .tc main_arg0) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg1 (c : Dev nD) : V m c main_arg1 = m ((c : Thread nD τ).loc main_arg1) := by
  unfold V V0
  exact StableHlo.after_of_forall_not_mem (b := Proc.devRef .tc main_arg1) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg2 (c : Dev nD) : V m c main_arg2 = m ((c : Thread nD τ).loc main_arg2) := by
  unfold V V0
  exact StableHlo.after_of_forall_not_mem (b := Proc.devRef .tc main_arg2) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg3 (c : Dev nD) : V m c main_arg3 = m ((c : Thread nD τ).loc main_arg3) := by
  unfold V V0
  exact StableHlo.after_of_forall_not_mem (b := Proc.devRef .tc main_arg3) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg4 (c : Dev nD) : V m c main_arg4 = m ((c : Thread nD τ).loc main_arg4) := by
  unfold V V0
  exact StableHlo.after_of_forall_not_mem (b := Proc.devRef .tc main_arg4) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg5 (c : Dev nD) : V m c main_arg5 = m ((c : Thread nD τ).loc main_arg5) := by
  unfold V V0
  exact StableHlo.after_of_forall_not_mem (b := Proc.devRef .tc main_arg5) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg6 (c : Dev nD) : V m c main_arg6 = m ((c : Thread nD τ).loc main_arg6) := by
  unfold V V0
  exact StableHlo.after_of_forall_not_mem (b := Proc.devRef .tc main_arg6) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg7 (c : Dev nD) : V m c main_arg7 = m ((c : Thread nD τ).loc main_arg7) := by
  unfold V V0
  exact StableHlo.after_of_forall_not_mem (b := Proc.devRef .tc main_arg7) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-! ## The table -/

/-- The visibility table when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
/-- The table as the body reads it. -/
abbrev table : Vec F S3x128x4 .i32 := tbl m 0

theorem PhiT0_eq (c : Dev nD) : (Pipeline.ΦT pre0 (tbl m) c : sProp 𝕄) = owns (c : Thread nD τ) (Memref.whole main_v58) fullShare.right (table m) := by
  unfold Pipeline.ΦT Pipeline.prefHeld
  rw [show (Finset.univ : Finset (Fin 1)) = {(0 : Fin 1)} from by decide, bigSep_singleton, owns_whole]
  rfl

theorem PhiA0_eq (c : Dev nD) : (Pipeline.ΦA spec0 c : sProp 𝕄)
    = iprop((∃ f : Scratch F, owns (c : Thread nD τ) (Memref.whole cc0_scratch0) fullShare f) ∗ (∃ r, prngReg c r)) := by
  unfold Pipeline.ΦA; rw [scopedRest0_eq]; simp only [owns_whole]; try rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The checks the body makes on the table's words, at every grid point. -/
def Checks (T : Vec F S3x128x4 .i32) : Prop := ∀ i : grid0.Coords,
  k0_chk3 (word T (k0_off1 i) (k0_off1_inb i)) (word T (k0_off2 i) (k0_off2_inb i))
  ∧ k0_chk1 (word T (k0_off1 i) (k0_off1_inb i)) (word T (k0_off3 i) (k0_off3_inb i))
  ∧ k0_chk2 (word T (k0_off2 i) (k0_off2_inb i)) (word T (k0_off3 i) (k0_off3_inb i)) (word T (k0_off4 i) (k0_off4_inb i))

/-- What the body leaves in the scratch and the output block at point `i`, of the table and the input blocks. -/
def outFn (T : Vec F S3x128x4 .i32) (hchk : Checks T) (i : grid0.Coords)
    (x0 : Vec F S1x256x1024 .fp8e4m3) (x1 : Vec F S1x8x256 .f32) (x2 : Vec F S1x1x32768x128 .fp8e4m3) (x3 : Vec F S1x1x32768x128 .f32) (x4 : Vec F S1x1x128x32768 .fp8e4m3) (x5 : Vec F S1x1x1x128 .f32) (x6 : Vec F S1x1x256 .i32) (x7 : Vec F S1x1x256 .i32)
    (s : Scratch F × Vec F S1x256x1024 .bf16) : Scratch F × Vec F S1x256x1024 .bf16 :=
  headsFn (word T (k0_off1 i) (k0_off1_inb i)) (word T (k0_off2 i) (k0_off2_inb i)) (hchk i).1 (word T (k0_off3 i) (k0_off3_inb i)) (hchk i).2.1 (word T (k0_off4 i) (k0_off4_inb i)) (hchk i).2.2
    (shapeCast S1x256 x6 shapeCasts_S1x1x256_S1x256) (subi (shapeCast S1x256 x7 shapeCasts_S1x1x256_S1x256) (shapeCast S1x256 x6 shapeCasts_S1x1x256_S1x256)) x0 x1 x2 x3 x4 x5 s

variable (hchk : Checks (table m))

/-- The same at the program's table and blocks. -/
def outAt (c : Dev nD) (t : Fin (cfgM m).N) (s : Scratch F × Vec F S1x256x1024 .bf16) : Scratch F × Vec F S1x256x1024 .bf16 :=
  outFn (table m) hchk (grid0.coords t) (iblk m c 0 t) (iblk m c 1 t) (iblk m c 2 t) (iblk m c 3 t) (iblk m c 4 t) (iblk m c 5 t) (iblk m c 6 t) (iblk m c 7 t) s

/-! ## The proof data -/

variable (outv : (c : Dev nD) → (t : Fin (cfgM m).N) → Vec F S1x256x1024 .bf16)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv c t
  Φ _ := iprop(Pipeline.ΦA spec0 c ∗ Pipeline.ΦT pre0 (tbl m) c)
  q _ := fullShare
  owed _ := 0

theorem A_eq (c : Dev nD) (w : Fin (cfgM m).W) : (dats m outv 0 c).A w = V m c (Pipeline.arrRef spec0 w) := by
  dsimp only [dats]

theorem after_0 (c : Dev nD) (t : Fin (cfgM m).N) : (dats m outv 0 c).after 0 t = iblk m c 0 t := by dsimp only [dats]; rfl
theorem after_1 (c : Dev nD) (t : Fin (cfgM m).N) : (dats m outv 0 c).after 1 t = iblk m c 1 t := by dsimp only [dats]; rfl
theorem after_2 (c : Dev nD) (t : Fin (cfgM m).N) : (dats m outv 0 c).after 2 t = iblk m c 2 t := by dsimp only [dats]; rfl
theorem after_3 (c : Dev nD) (t : Fin (cfgM m).N) : (dats m outv 0 c).after 3 t = iblk m c 3 t := by dsimp only [dats]; rfl
theorem after_4 (c : Dev nD) (t : Fin (cfgM m).N) : (dats m outv 0 c).after 4 t = iblk m c 4 t := by dsimp only [dats]; rfl
theorem after_5 (c : Dev nD) (t : Fin (cfgM m).N) : (dats m outv 0 c).after 5 t = iblk m c 5 t := by dsimp only [dats]; rfl
theorem after_6 (c : Dev nD) (t : Fin (cfgM m).N) : (dats m outv 0 c).after 6 t = iblk m c 6 t := by dsimp only [dats]; rfl
theorem after_7 (c : Dev nD) (t : Fin (cfgM m).N) : (dats m outv 0 c).after 7 t = iblk m c 7 t := by dsimp only [dats]; rfl
theorem after_8 (c : Dev nD) (t : Fin (cfgM m).N) : (dats m outv 0 c).after 8 t = outv c t := by dsimp only [dats]; rfl
theorem before_0 (c : Dev nD) (t : Fin (cfgM m).N) (d) : (dats m outv 0 c).before 0 t d = iblk m c 0 t :=
  before_0_of m (dats m outv 0 c) (A_eq m outv c 0) (after_0 m outv c) t d
theorem before_1 (c : Dev nD) (t : Fin (cfgM m).N) (d) : (dats m outv 0 c).before 1 t d = iblk m c 1 t :=
  before_1_of m (dats m outv 0 c) (A_eq m outv c 1) (after_1 m outv c) t d
theorem before_2 (c : Dev nD) (t : Fin (cfgM m).N) (d) : (dats m outv 0 c).before 2 t d = iblk m c 2 t :=
  before_2_of m (dats m outv 0 c) (A_eq m outv c 2) (after_2 m outv c) t d
theorem before_3 (c : Dev nD) (t : Fin (cfgM m).N) (d) : (dats m outv 0 c).before 3 t d = iblk m c 3 t :=
  before_3_of m (dats m outv 0 c) (A_eq m outv c 3) (after_3 m outv c) t d
theorem before_4 (c : Dev nD) (t : Fin (cfgM m).N) (d) : (dats m outv 0 c).before 4 t d = iblk m c 4 t :=
  before_4_of m (dats m outv 0 c) (A_eq m outv c 4) (after_4 m outv c) t d
theorem before_5 (c : Dev nD) (t : Fin (cfgM m).N) (d) : (dats m outv 0 c).before 5 t d = iblk m c 5 t :=
  before_5_of m (dats m outv 0 c) (A_eq m outv c 5) (after_5 m outv c) t d
theorem before_6 (c : Dev nD) (t : Fin (cfgM m).N) (d) : (dats m outv 0 c).before 6 t d = iblk m c 6 t :=
  before_6_of m (dats m outv 0 c) (A_eq m outv c 6) (after_6 m outv c) t d
theorem before_7 (c : Dev nD) (t : Fin (cfgM m).N) (d) : (dats m outv 0 c).before 7 t d = iblk m c 7 t :=
  before_7_of m (dats m outv 0 c) (A_eq m outv c 7) (after_7 m outv c) t d

/-! ## The body at a point -/

abbrev st_0 (t : Fin (cfgM m).N) : Memref sig .tc .vmem S1x256x1024 .fp8e4m3 := ((cfgM m).win 0).stage ((cfgM m).slots t 0)
abbrev st_1 (t : Fin (cfgM m).N) : Memref sig .tc .vmem S1x8x256 .f32 := ((cfgM m).win 1).stage ((cfgM m).slots t 1)
abbrev st_2 (t : Fin (cfgM m).N) : Memref sig .tc .vmem S1x1x32768x128 .fp8e4m3 := ((cfgM m).win 2).stage ((cfgM m).slots t 2)
abbrev st_3 (t : Fin (cfgM m).N) : Memref sig .tc .vmem S1x1x32768x128 .f32 := ((cfgM m).win 3).stage ((cfgM m).slots t 3)
abbrev st_4 (t : Fin (cfgM m).N) : Memref sig .tc .vmem S1x1x128x32768 .fp8e4m3 := ((cfgM m).win 4).stage ((cfgM m).slots t 4)
abbrev st_5 (t : Fin (cfgM m).N) : Memref sig .tc .vmem S1x1x1x128 .f32 := ((cfgM m).win 5).stage ((cfgM m).slots t 5)
abbrev st_6 (t : Fin (cfgM m).N) : Memref sig .tc .vmem S1x1x256 .i32 := ((cfgM m).win 6).stage ((cfgM m).slots t 6)
abbrev st_7 (t : Fin (cfgM m).N) : Memref sig .tc .vmem S1x1x256 .i32 := ((cfgM m).win 7).stage ((cfgM m).slots t 7)
abbrev st_8 (t : Fin (cfgM m).N) : Memref sig .tc .vmem S1x256x1024 .bf16 := ((cfgM m).win 8).stage ((cfgM m).slots t 8)
/-- The body as the pipeline calls it at point `t`. -/
def bodyAt (t : Fin (cfgM m).N) : Prog (TpuEff nD τ sig (Elt F) Λ₀ .tc) PUnit :=
  cc0_attention (grid0.coords t) (Memref.whole main_v58) (Memref.isWhole_whole _) (st_0 m t) (hstage0_0 (((cfgM m).slots t 0).cast nbuf0_0)) (st_1 m t) (hstage0_1 (((cfgM m).slots t 1).cast nbuf0_1)) (st_2 m t) (hstage0_2 (((cfgM m).slots t 2).cast nbuf0_2)) (st_3 m t) (hstage0_3 (((cfgM m).slots t 3).cast nbuf0_3)) (st_4 m t) (hstage0_4 (((cfgM m).slots t 4).cast nbuf0_4)) (st_5 m t) (hstage0_5 (((cfgM m).slots t 5).cast nbuf0_5)) (st_6 m t) (hstage0_6 (((cfgM m).slots t 6).cast nbuf0_6)) (st_7 m t) (hstage0_7 (((cfgM m).slots t 7).cast nbuf0_7)) (st_8 m t) (hstage0_8 (((cfgM m).slots t 8).cast nbuf0_8)) (Memref.whole cc0_scratch0) (Memref.isWhole_whole _)

theorem bodyAt_eq (t : Fin (cfgM m).N) : bodyAt m t
    = body (grid0.coords t) (Memref.whole main_v58) (st_0 m t) (st_1 m t) (st_2 m t) (st_3 m t) (st_4 m t) (st_5 m t) (st_6 m t) (st_7 m t) (st_8 m t) (hstage0_8 (((cfgM m).slots t 8).cast nbuf0_8)) (Memref.whole cc0_scratch0) :=
  attention_eq ..

/-- What the body is called with, the output's block at anything, -/
def bodyPre (c : Dev nD) (t : Fin (cfgM m).N) : sProp 𝕄 :=
  iprop((dats m outv 0 c).Φ t.castSucc ∗ (dats m outv 0 c).owesAt () t.castSucc
    ∗ (∃ d, owns (c : Thread nD τ) (st_0 m t) fullShare ((dats m outv 0 c).before 0 t d))
    ∗ (∃ d, owns (c : Thread nD τ) (st_1 m t) fullShare ((dats m outv 0 c).before 1 t d))
    ∗ (∃ d, owns (c : Thread nD τ) (st_2 m t) fullShare ((dats m outv 0 c).before 2 t d))
    ∗ (∃ d, owns (c : Thread nD τ) (st_3 m t) fullShare ((dats m outv 0 c).before 3 t d))
    ∗ (∃ d, owns (c : Thread nD τ) (st_4 m t) fullShare ((dats m outv 0 c).before 4 t d))
    ∗ (∃ d, owns (c : Thread nD τ) (st_5 m t) fullShare ((dats m outv 0 c).before 5 t d))
    ∗ (∃ d, owns (c : Thread nD τ) (st_6 m t) fullShare ((dats m outv 0 c).before 6 t d))
    ∗ (∃ d, owns (c : Thread nD τ) (st_7 m t) fullShare ((dats m outv 0 c).before 7 t d))
    ∗ (∃ X, owns (c : Thread nD τ) (st_8 m t) fullShare X))

/-- and what it returns: the output's block some run of the heads. -/
def bodyPost (c : Dev nD) (t : Fin (cfgM m).N) : sProp 𝕄 :=
  iprop((dats m outv 0 c).Φ t.succ ∗ (dats m outv 0 c).owesAt () t.succ
    ∗ owns (c : Thread nD τ) (st_0 m t) fullShare ((dats m outv 0 c).after 0 t)
    ∗ owns (c : Thread nD τ) (st_1 m t) fullShare ((dats m outv 0 c).after 1 t)
    ∗ owns (c : Thread nD τ) (st_2 m t) fullShare ((dats m outv 0 c).after 2 t)
    ∗ owns (c : Thread nD τ) (st_3 m t) fullShare ((dats m outv 0 c).after 3 t)
    ∗ owns (c : Thread nD τ) (st_4 m t) fullShare ((dats m outv 0 c).after 4 t)
    ∗ owns (c : Thread nD τ) (st_5 m t) fullShare ((dats m outv 0 c).after 5 t)
    ∗ owns (c : Thread nD τ) (st_6 m t) fullShare ((dats m outv 0 c).after 6 t)
    ∗ owns (c : Thread nD τ) (st_7 m t) fullShare ((dats m outv 0 c).after 7 t)
    ∗ (∃ s, owns (c : Thread nD τ) (st_8 m t) fullShare (outAt m hchk c t s).2))

set_option maxHeartbeats 1000000 in
theorem sound_body (c : Dev nD) (t : Fin (cfgM m).N) :
    bodyPre m outv c t ⊢ wp frame (wpE (defs₀ (F := F)) Variants.none c none) Set.univ (bodyAt m t) (fun _ => bodyPost m hchk outv c t) := by
  unfold bodyPre bodyPost
  simp only [before_0, before_1, before_2, before_3, before_4, before_5, before_6, before_7]
  rw [show (dats m outv 0 c).owesAt () t.succ = (dats m outv 0 c).owesAt () t.castSucc from rfl,
    show (dats m outv 0 c).Φ t.succ = iprop(Pipeline.ΦA spec0 c ∗ Pipeline.ΦT pre0 (tbl m) c) from rfl,
    show (dats m outv 0 c).Φ t.castSucc = iprop(Pipeline.ΦA spec0 c ∗ Pipeline.ΦT pre0 (tbl m) c) from rfl,
    after_0, after_1, after_2, after_3, after_4, after_5, after_6, after_7, PhiT0_eq, PhiA0_eq, bodyAt_eq]
  iintro ⟨⟨⟨⟨%g, Hg⟩, Hr⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩
  iapply (wp_body c Set.univ fullShare.right (grid0.coords t) _ _ _ _ _ _ _ _ _ _ _ _ (table m) (iblk m c 0 t) (iblk m c 1 t) (iblk m c 2 t) (iblk m c 3 t) (iblk m c 4 t) (iblk m c 5 t) (iblk m c 6 t) (iblk m c 7 t) X g (hchk (grid0.coords t)).1 (hchk (grid0.coords t)).2.1 (hchk (grid0.coords t)).2.2 _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hg]; · iexact Hg
  iintro ⟨HT, H0, H1, H2, H3, H4, H5, H6, H7, H8, Hg⟩
  isplitl [Hg Hr HT]
  · isplitl [Hg Hr]
    · isplitl [Hg]
      · iexists _; iexact Hg
      · iexact Hr
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (g, X); iexact H8

theorem defs₀_row (t : Fin (cfgM m).N) :
    defs₀ (F := F) .tc (cfgM m).body ((cfgM m).bodyArgs t ((cfgM m).slots t)) = bodyAt m t := by
  unfold defs₀ bodyAt; rw [Defs.onTc_tc]; rfl

/-- The output window, whose contents the frame leaves unsaid. -/
def fgt : Fin (cfgM m).W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => true

/-- What the frame asks back: the output's block at anything. -/
def bodyPostForget (c : Dev nD) (t : Fin (cfgM m).N) : sProp 𝕄 :=
  iprop((dats m outv 0 c).Φ t.succ ∗ (dats m outv 0 c).owesAt () t.succ
    ∗ owns (c : Thread nD τ) (st_0 m t) fullShare ((dats m outv 0 c).after 0 t)
    ∗ owns (c : Thread nD τ) (st_1 m t) fullShare ((dats m outv 0 c).after 1 t)
    ∗ owns (c : Thread nD τ) (st_2 m t) fullShare ((dats m outv 0 c).after 2 t)
    ∗ owns (c : Thread nD τ) (st_3 m t) fullShare ((dats m outv 0 c).after 3 t)
    ∗ owns (c : Thread nD τ) (st_4 m t) fullShare ((dats m outv 0 c).after 4 t)
    ∗ owns (c : Thread nD τ) (st_5 m t) fullShare ((dats m outv 0 c).after 5 t)
    ∗ owns (c : Thread nD τ) (st_6 m t) fullShare ((dats m outv 0 c).after 6 t)
    ∗ owns (c : Thread nD τ) (st_7 m t) fullShare ((dats m outv 0 c).after 7 t)
    ∗ (∃ X, owns (c : Thread nD τ) (st_8 m t) fullShare X))

/-- What the exact run asks back. -/
def bodyPostExact (c : Dev nD) (t : Fin (cfgM m).N) : sProp 𝕄 :=
  iprop((dats m outv 0 c).Φ t.succ ∗ (dats m outv 0 c).owesAt () t.succ
    ∗ owns (c : Thread nD τ) (st_0 m t) fullShare ((dats m outv 0 c).after 0 t)
    ∗ owns (c : Thread nD τ) (st_1 m t) fullShare ((dats m outv 0 c).after 1 t)
    ∗ owns (c : Thread nD τ) (st_2 m t) fullShare ((dats m outv 0 c).after 2 t)
    ∗ owns (c : Thread nD τ) (st_3 m t) fullShare ((dats m outv 0 c).after 3 t)
    ∗ owns (c : Thread nD τ) (st_4 m t) fullShare ((dats m outv 0 c).after 4 t)
    ∗ owns (c : Thread nD τ) (st_5 m t) fullShare ((dats m outv 0 c).after 5 t)
    ∗ owns (c : Thread nD τ) (st_6 m t) fullShare ((dats m outv 0 c).after 6 t)
    ∗ owns (c : Thread nD τ) (st_7 m t) fullShare ((dats m outv 0 c).after 7 t)
    ∗ owns (c : Thread nD τ) (st_8 m t) fullShare ((dats m outv 0 c).after 8 t))

/-- What the exact run hands the body. -/
def bodyPreExact (c : Dev nD) (t : Fin (cfgM m).N) : sProp 𝕄 :=
  iprop((dats m outv 0 c).Φ t.castSucc ∗ (dats m outv 0 c).owesAt () t.castSucc
    ∗ (∃ d, owns (c : Thread nD τ) (st_0 m t) fullShare ((dats m outv 0 c).before 0 t d))
    ∗ (∃ d, owns (c : Thread nD τ) (st_1 m t) fullShare ((dats m outv 0 c).before 1 t d))
    ∗ (∃ d, owns (c : Thread nD τ) (st_2 m t) fullShare ((dats m outv 0 c).before 2 t d))
    ∗ (∃ d, owns (c : Thread nD τ) (st_3 m t) fullShare ((dats m outv 0 c).before 3 t d))
    ∗ (∃ d, owns (c : Thread nD τ) (st_4 m t) fullShare ((dats m outv 0 c).before 4 t d))
    ∗ (∃ d, owns (c : Thread nD τ) (st_5 m t) fullShare ((dats m outv 0 c).before 5 t d))
    ∗ (∃ d, owns (c : Thread nD τ) (st_6 m t) fullShare ((dats m outv 0 c).before 6 t d))
    ∗ (∃ d, owns (c : Thread nD τ) (st_7 m t) fullShare ((dats m outv 0 c).before 7 t d))
    ∗ (∃ d, owns (c : Thread nD τ) (st_8 m t) fullShare ((dats m outv 0 c).before 8 t d)))

theorem forget_of_post (c : Dev nD) (t : Fin (cfgM m).N) : bodyPost m hchk outv c t ⊢ bodyPostForget m outv c t := by
  unfold bodyPost bodyPostForget
  iintro ⟨HΦ, Ho, H0, H1, H2, H3, H4, H5, H6, H7, ⟨%s, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem exact_of_post (hout : ∀ c t s, (outAt m hchk c t s).2 = outv c t) (c : Dev nD) (t : Fin (cfgM m).N) : bodyPost m hchk outv c t ⊢ bodyPostExact m outv c t := by
  unfold bodyPost bodyPostExact
  simp only [hout, after_8]
  iintro ⟨HΦ, Ho, H0, H1, H2, H3, H4, H5, H6, H7, ⟨%s, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem pre_of_exact (c : Dev nD) (t : Fin (cfgM m).N) : bodyPreExact m outv c t ⊢ bodyPre m outv c t := by
  unfold bodyPre bodyPreExact
  iintro ⟨HΦ, Ho, H0, H1, H2, H3, H4, H5, H6, H7, ⟨%d, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem sound_forget (hchk : Checks (table m)) (c : Dev nD) (t : Fin (cfgM m).N) :
    bodyPre m outv c t ⊢ wp frame (wpE (defs₀ (F := F)) Variants.none c none) Set.univ (bodyAt m t) (fun _ => bodyPostForget m outv c t) :=
  triple_restated (sound_body m hchk outv c t) rfl .rfl fun _ => forget_of_post m hchk outv c t

theorem sound_exact (hout : ∀ c t s, (outAt m hchk c t s).2 = outv c t) (c : Dev nD) (t : Fin (cfgM m).N) :
    bodyPreExact m outv c t ⊢ wp frame (wpE (defs₀ (F := F)) Variants.none c none) Set.univ (bodyAt m t) (fun _ => bodyPostExact m outv c t) :=
  triple_restated (sound_body m hchk outv c t) rfl (pre_of_exact m outv c t) fun _ => exact_of_post m hchk outv hout c t

theorem body_obligation_forget (hchk : Checks (table m)) (c : Dev nD) : BodyObligationLoose (dats m outv 0 c) (defs₀ (F := F)) Variants.none () Set.univ (fgt m) := fun t => by
  rw [bigSep_W0, bigSep_W0, defs₀_row]
  exact triple_restated (sound_forget m outv hchk c t) rfl .rfl fun _ => .rfl

theorem body_obligation (hout : ∀ c t s, (outAt m hchk c t s).2 = outv c t) (c : Dev nD) :
    BodyObligation (dats m outv 0 c) (defs₀ (F := F)) Variants.none () Set.univ := fun t => by
  rw [bigSep_W0, bigSep_W0, defs₀_row]
  exact triple_restated (sound_exact m hchk outv hout c t) rfl .rfl fun _ => .rfl

/-! ## The runs -/

set_option backward.isDefEq.respectTransparency.types false in
set_option maxHeartbeats 1600000 in
/-- The run that says nothing of the output. -/
theorem run_forget (hchk : Checks (table m)) : θ_run defs (onTc (τ := τ) (main (F := F))) (s₀ m ρ)
    (fun r => Pipeline.RDat.FramePost (cfgM m) (fun c => (dats m outv 0 c).toRForget (fgt m)) (V m) r ∧ r.2.sem = fun _ => 0) :=
  Pipeline.θ_run_frameP_forget (Q' := _) pcfgs (fun _ => adm m) (dats m outv) (0 : Fin 1) launch0 defs₀ Variants.none (fgt m) m ρ main
    (hbody := fun c => body_obligation_forget m outv hchk c) (hshare := fun c => (dats m outv 0 c).share_full fun _ => rfl)
    (howed := fun _ _ => rfl) (V := V m) (hmain := hmain m Variants.none) (hA := A_eq m outv) (hpf := V_pre m) (hΦ := fun _ _ => rfl)

set_option backward.isDefEq.respectTransparency.types false in
set_option maxHeartbeats 1600000 in
/-- The run with the output's blocks named. -/
theorem run_exact (hout : ∀ c t s, (outAt m hchk c t s).2 = outv c t) : θ_run defs (onTc (τ := τ) (main (F := F))) (s₀ m ρ)
    (fun r => Pipeline.FramePost (Pipeline.pin pcfgs (fun _ => adm m)) (dats m outv) 0 (V m) r ∧ r.2.sem = fun _ => 0) :=
  Pipeline.θ_run_frameP (Q' := _) pcfgs (fun _ => adm m) (dats m outv) (0 : Fin 1) launch0 defs₀ Variants.none m ρ main
    (hbody := fun c => (body_obligation m hchk outv hout c).loose) (hshare := fun c => (dats m outv 0 c).share_full fun _ => rfl)
    (howed := fun _ _ => rfl) (V := V m) (hmain := hmain m Variants.none) (hA := A_eq m outv) (hpf := V_pre m) (hΦ := fun _ _ => rfl)

set_option maxHeartbeats 1600000 in
/-- THE FRAME, of a memory whose table passes the body's checks. -/
theorem frame (hchk : Checks (table m)) : θ_run defs (onTc (τ := τ) (main (F := F))) ⟨m, fun _ => 0, ρ⟩ (fun r => (∀ c : Dev nD,

r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c => ⟨
    (Pipeline.RDat.FramePost.arr_in h.1 c 0 rfl).trans (V_main_arg0 m c),
    (Pipeline.RDat.FramePost.arr_in h.1 c 1 rfl).trans (V_main_arg1 m c),
    (Pipeline.RDat.FramePost.arr_in h.1 c 2 rfl).trans (V_main_arg2 m c),
    (Pipeline.RDat.FramePost.arr_in h.1 c 3 rfl).trans (V_main_arg3 m c),
    (Pipeline.RDat.FramePost.arr_in h.1 c 4 rfl).trans (V_main_arg4 m c),
    (Pipeline.RDat.FramePost.arr_in h.1 c 5 rfl).trans (V_main_arg5 m c),
    ((h.1 c).2 main_arg6 (Pipeline.mem_restRefs_of main_arg6 (by decide) (by exact (by decide : ∀ w, Pipeline.arrRef spec0 w ≠ main_arg6)))).trans (V_main_arg6 m c),
    ((h.1 c).2 main_arg7 (Pipeline.mem_restRefs_of main_arg7 (by decide) (by exact (by decide : ∀ w, Pipeline.arrRef spec0 w ≠ main_arg7)))).trans (V_main_arg7 m c)⟩, h.2⟩) (run_forget m ρ (fun _ _ _ => (Scalar.ofBits .bf16 0#16 : F .bf16)) hchk)

end Cert.Kernel.Body
-- ==== Proof.Bits.Lines.lean ====
/-
What the host lines leave: each line's value as a function of the segment numbers and the prefix marks, and the
buffers the kernel reads.
-/
module

public import proofs.«01_k».proof.Proof.Bits.Launch
public import Idealize.ShloMosaic.Lib.StableHlo.RunRead

@[expose] public section

set_option maxRecDepth 16384

noncomputable section

namespace Cert.Kernel.Body

open Idealize.ShloMosaic Idealize.ShloMosaic.TcCoe Idealize.SL.Sem Idealize.ShloMosaic.StableHlo
open Cert.Kernel Cert.Kernel.Gen

/-! ## The lines, one by one -/

def h_v0 (seg : IVec S3x32768 32) (pre : IVec S3x32768 1) : IVec S8 32 := (iotaInDim S8 32 0)
def h_v1 (seg : IVec S3x32768 32) (pre : IVec S3x32768 1) : IVec S3x1x32768 32 := (broadcastInDim S3x1x32768 ![0, 2] bcast_S3x32768_S3x1x32768_0_2) seg
def h_v2 (seg : IVec S3x32768 32) (pre : IVec S3x32768 1) : IVec S1x8x1 32 := (broadcastInDim S1x8x1 ![1] bcast_S8_S1x8x1_1) (h_v0 seg pre)
def h_v3 (seg : IVec S3x32768 32) (pre : IVec S3x32768 1) : IVec S3x8x32768 32 := (broadcastInDim S3x8x32768 ![0, 1, 2] bcast_S3x1x32768_S3x8x32768_0_1_2) (h_v1 seg pre)
def h_v4 (seg : IVec S3x32768 32) (pre : IVec S3x32768 1) : IVec S3x8x32768 32 := (broadcastInDim S3x8x32768 ![0, 1, 2] bcast_S1x8x1_S3x8x32768_0_1_2) (h_v2 seg pre)
def h_v5 (seg : IVec S3x32768 32) (pre : IVec S3x32768 1) : IVec S3x8x32768 1 := (cmpi .eq) (h_v3 seg pre) (h_v4 seg pre)
def h_v6 (seg : IVec S3x32768 32) (pre : IVec S3x32768 1) : IVec S3x1x32768 32 := (broadcastInDim S3x1x32768 ![0, 2] bcast_S3x32768_S3x1x32768_0_2) seg
def h_v7 (seg : IVec S3x32768 32) (pre : IVec S3x32768 1) : IVec S1x8x1 32 := (broadcastInDim S1x8x1 ![1] bcast_S8_S1x8x1_1) (h_v0 seg pre)
def h_v8 (seg : IVec S3x32768 32) (pre : IVec S3x32768 1) : IVec S3x8x32768 32 := (broadcastInDim S3x8x32768 ![0, 1, 2] bcast_S3x1x32768_S3x8x32768_0_1_2) (h_v6 seg pre)
def h_v9 (seg : IVec S3x32768 32) (pre : IVec S3x32768 1) : IVec S3x8x32768 32 := (broadcastInDim S3x8x32768 ![0, 1, 2] bcast_S1x8x1_S3x8x32768_0_1_2) (h_v7 seg pre)
def h_v10 (seg : IVec S3x32768 32) (pre : IVec S3x32768 1) : IVec S3x8x32768 1 := (cmpi .slt) (h_v8 seg pre) (h_v9 seg pre)
def h_v11 (seg : IVec S3x32768 32) (pre : IVec S3x32768 1) : IVec S3x8x32768 32 := ((extui 32 · natLt_1_32)) (h_v10 seg pre)
def h_c (seg : IVec S3x32768 32) (pre : IVec S3x32768 1) : IVec S_ 32 := (constantI S_ 32 0#32)
def h_v12 (seg : IVec S3x32768 32) (pre : IVec S3x32768 1) : IVec S3x8 32 := ((fun x v => Host.reduce IntOp.addi x v reducesTo_S3x8x32768_S3x8_d2 h_S_)) (h_v11 seg pre) (h_c seg pre)
def h_v13 (seg : IVec S3x32768 32) (pre : IVec S3x32768 1) : IVec S3x1x32768 1 := (broadcastInDim S3x1x32768 ![0, 2] bcast_S3x32768_S3x1x32768_0_2) pre
def h_v14 (seg : IVec S3x32768 32) (pre : IVec S3x32768 1) : IVec S3x8x32768 1 := (broadcastInDim S3x8x32768 ![0, 1, 2] bcast_S3x1x32768_S3x8x32768_0_1_2) (h_v13 seg pre)
def h_v15 (seg : IVec S3x32768 32) (pre : IVec S3x32768 1) : IVec S3x8x32768 1 := (andi) (h_v5 seg pre) (h_v14 seg pre)
def h_v16 (seg : IVec S3x32768 32) (pre : IVec S3x32768 1) : IVec S3x8x32768 32 := ((extui 32 · natLt_1_32)) (h_v15 seg pre)
def h_c_0 (seg : IVec S3x32768 32) (pre : IVec S3x32768 1) : IVec S_ 32 := (constantI S_ 32 0#32)
def h_v17 (seg : IVec S3x32768 32) (pre : IVec S3x32768 1) : IVec S3x8 32 := ((fun x v => Host.reduce IntOp.addi x v reducesTo_S3x8x32768_S3x8_d2 h_S_)) (h_v16 seg pre) (h_c_0 seg pre)
def h_v18 (seg : IVec S3x32768 32) (pre : IVec S3x32768 1) : IVec S3x8 32 := (addi) (h_v12 seg pre) (h_v17 seg pre)
def h_v19 (seg : IVec S3x32768 32) (pre : IVec S3x32768 1) : IVec S3x8x1 32 := (broadcastInDim S3x8x1 ![0, 1] bcast_S3x8_S3x8x1_0_1) (h_v12 seg pre)
def h_c_1 (seg : IVec S3x32768 32) (pre : IVec S3x32768 1) : IVec S_ 32 := (constantI S_ 32 0#32)
def h_call0_v0 (seg : IVec S3x32768 32) (pre : IVec S3x32768 1) : IVec S_ 32 := (h_c_1 seg pre)
def h_call0_v1 (seg : IVec S3x32768 32) (pre : IVec S3x32768 1) : IVec S3x8x32768 32 := (broadcastInDim S3x8x32768 ![0, 1, 2] bcast_S3x8x1_S3x8x32768_0_1_2) (h_v19 seg pre)
def h_call0_v2 (seg : IVec S3x32768 32) (pre : IVec S3x32768 1) : IVec S3x8x32768 32 := (broadcastInDim S3x8x32768 ![] bcast_S_S3x8x32768) (h_call0_v0 seg pre)
def h_v20 (seg : IVec S3x32768 32) (pre : IVec S3x32768 1) : IVec S3x8x32768 32 := select (h_v5 seg pre) (h_call0_v1 seg pre) (h_call0_v2 seg pre)
def h_c_2 (seg : IVec S3x32768 32) (pre : IVec S3x32768 1) : IVec S_ 32 := (constantI S_ 32 0#32)
def h_v21 (seg : IVec S3x32768 32) (pre : IVec S3x32768 1) : IVec S3x32768 32 := ((fun x v => Host.reduce IntOp.addi x v reducesTo_S3x8x32768_S3x32768_d1 h_S_)) (h_v20 seg pre) (h_c_2 seg pre)
def h_v22 (seg : IVec S3x32768 32) (pre : IVec S3x32768 1) : IVec S3x8x1 32 := (broadcastInDim S3x8x1 ![0, 1] bcast_S3x8_S3x8x1_0_1) (h_v18 seg pre)
def h_c_3 (seg : IVec S3x32768 32) (pre : IVec S3x32768 1) : IVec S_ 32 := (constantI S_ 32 1#32)
def h_v23 (seg : IVec S3x32768 32) (pre : IVec S3x32768 1) : IVec S3x8x1 32 := (broadcastInDim S3x8x1 ![] bcast_S_S3x8x1) (h_c_3 seg pre)
def h_v24 (seg : IVec S3x32768 32) (pre : IVec S3x32768 1) : IVec S3x8x1 32 := (subi) (h_v22 seg pre) (h_v23 seg pre)
def h_c_4 (seg : IVec S3x32768 32) (pre : IVec S3x32768 1) : IVec S_ 32 := (constantI S_ 32 0#32)
def h_call1_v0 (seg : IVec S3x32768 32) (pre : IVec S3x32768 1) : IVec S_ 32 := (h_c_4 seg pre)
def h_call1_v1 (seg : IVec S3x32768 32) (pre : IVec S3x32768 1) : IVec S3x8x32768 32 := (broadcastInDim S3x8x32768 ![0, 1, 2] bcast_S3x8x1_S3x8x32768_0_1_2) (h_v24 seg pre)
def h_call1_v2 (seg : IVec S3x32768 32) (pre : IVec S3x32768 1) : IVec S3x8x32768 32 := (broadcastInDim S3x8x32768 ![] bcast_S_S3x8x32768) (h_call1_v0 seg pre)
def h_v25 (seg : IVec S3x32768 32) (pre : IVec S3x32768 1) : IVec S3x8x32768 32 := select (h_v5 seg pre) (h_call1_v1 seg pre) (h_call1_v2 seg pre)
def h_c_5 (seg : IVec S3x32768 32) (pre : IVec S3x32768 1) : IVec S_ 32 := (constantI S_ 32 0#32)
def h_v26 (seg : IVec S3x32768 32) (pre : IVec S3x32768 1) : IVec S3x32768 32 := ((fun x v => Host.reduce IntOp.addi x v reducesTo_S3x8x32768_S3x32768_d1 h_S_)) (h_v25 seg pre) (h_c_5 seg pre)
def h_v27 (seg : IVec S3x32768 32) (pre : IVec S3x32768 1) : IVec S32768 32 := (iotaInDim S32768 32 0)
def h_v28 (seg : IVec S3x32768 32) (pre : IVec S3x32768 1) : IVec S1x32768 32 := (broadcastInDim S1x32768 ![1] bcast_S32768_S1x32768_1) (h_v27 seg pre)
def h_v29 (seg : IVec S3x32768 32) (pre : IVec S3x32768 1) : IVec S3x32768 32 := (broadcastInDim S3x32768 ![0, 1] bcast_S1x32768_S3x32768_0_1) (h_v28 seg pre)
def h_v30 (seg : IVec S3x32768 32) (pre : IVec S3x32768 1) : IVec S3x32768 32 := (maxsi) (h_v29 seg pre) (h_v26 seg pre)
def h_v31 (seg : IVec S3x32768 32) (pre : IVec S3x32768 1) : IVec S3x128x256 32 := shapeCast S3x128x256 (h_v21 seg pre) shapeCasts_S3x32768_S3x128x256
def h_v32 (seg : IVec S3x32768 32) (pre : IVec S3x32768 1) : IVec S3x128x256 32 := shapeCast S3x128x256 (h_v30 seg pre) shapeCasts_S3x32768_S3x128x256
def h_v33 (seg : IVec S3x32768 32) (pre : IVec S3x32768 1) : IVec S3x128x1 32 := ((extractStridedSlice S3x128x1 ![0, 0, 0] · slices_S3x128x256_S3x128x1_0_0_0)) (h_v31 seg pre)
def h_v34 (seg : IVec S3x32768 32) (pre : IVec S3x32768 1) : IVec S3x128 32 := shapeCast S3x128 (h_v33 seg pre) shapeCasts_S3x128x1_S3x128
def h_c_6 (seg : IVec S3x32768 32) (pre : IVec S3x32768 1) : IVec S_ 32 := (constantI S_ 32 256#32)
def h_call2_v0 (seg : IVec S3x32768 32) (pre : IVec S3x32768 1) : IVec S_ 32 := (h_c_6 seg pre)
def h_call2_v1 (seg : IVec S3x32768 32) (pre : IVec S3x32768 1) : IVec S3x128 32 := (broadcastInDim S3x128 ![] bcast_S_S3x128) (h_call2_v0 seg pre)
def h_call2_v2 (seg : IVec S3x32768 32) (pre : IVec S3x32768 1) : IVec S3x128 32 := Host.divsi (h_v34 seg pre) (h_call2_v1 seg pre)
def h_call2_v3 (seg : IVec S3x32768 32) (pre : IVec S3x32768 1) : IVec S3x128 32 := signi (h_v34 seg pre)
def h_call2_v4 (seg : IVec S3x32768 32) (pre : IVec S3x32768 1) : IVec S_ 32 := signi (h_call2_v0 seg pre)
def h_call2_v5 (seg : IVec S3x32768 32) (pre : IVec S3x32768 1) : IVec S3x128 32 := (broadcastInDim S3x128 ![] bcast_S_S3x128) (h_call2_v4 seg pre)
def h_call2_v6 (seg : IVec S3x32768 32) (pre : IVec S3x32768 1) : IVec S3x128 1 := (cmpi .ne) (h_call2_v3 seg pre) (h_call2_v5 seg pre)
def h_call2_v7 (seg : IVec S3x32768 32) (pre : IVec S3x32768 1) : IVec S3x128 32 := (broadcastInDim S3x128 ![] bcast_S_S3x128) (h_call2_v0 seg pre)
def h_call2_v8 (seg : IVec S3x32768 32) (pre : IVec S3x32768 1) : IVec S3x128 32 := Host.remsi (h_v34 seg pre) (h_call2_v7 seg pre)
def h_call2_c (seg : IVec S3x32768 32) (pre : IVec S3x32768 1) : IVec S_ 32 := (constantI S_ 32 0#32)
def h_call2_v9 (seg : IVec S3x32768 32) (pre : IVec S3x32768 1) : IVec S3x128 32 := (broadcastInDim S3x128 ![] bcast_S_S3x128) (h_call2_c seg pre)
def h_call2_v10 (seg : IVec S3x32768 32) (pre : IVec S3x32768 1) : IVec S3x128 1 := (cmpi .ne) (h_call2_v8 seg pre) (h_call2_v9 seg pre)
def h_call2_v11 (seg : IVec S3x32768 32) (pre : IVec S3x32768 1) : IVec S3x128 1 := andi (h_call2_v6 seg pre) (h_call2_v10 seg pre)
def h_call2_c_0 (seg : IVec S3x32768 32) (pre : IVec S3x32768 1) : IVec S_ 32 := (constantI S_ 32 1#32)
def h_call2_v12 (seg : IVec S3x32768 32) (pre : IVec S3x32768 1) : IVec S3x128 32 := (broadcastInDim S3x128 ![] bcast_S_S3x128) (h_call2_c_0 seg pre)
def h_call2_v13 (seg : IVec S3x32768 32) (pre : IVec S3x32768 1) : IVec S3x128 32 := subi (h_call2_v2 seg pre) (h_call2_v12 seg pre)
def h_v35 (seg : IVec S3x32768 32) (pre : IVec S3x32768 1) : IVec S3x128 32 := select (h_call2_v11 seg pre) (h_call2_v13 seg pre) (h_call2_v2 seg pre)
def h_v36 (seg : IVec S3x32768 32) (pre : IVec S3x32768 1) : IVec S3x128x1 32 := ((extractStridedSlice S3x128x1 ![0, 0, 255] · slices_S3x128x256_S3x128x1_0_0_255)) (h_v32 seg pre)
def h_v37 (seg : IVec S3x32768 32) (pre : IVec S3x32768 1) : IVec S3x128 32 := shapeCast S3x128 (h_v36 seg pre) shapeCasts_S3x128x1_S3x128
def h_c_7 (seg : IVec S3x32768 32) (pre : IVec S3x32768 1) : IVec S_ 32 := (constantI S_ 32 256#32)
def h_call3_v0 (seg : IVec S3x32768 32) (pre : IVec S3x32768 1) : IVec S_ 32 := (h_c_7 seg pre)
def h_call3_v1 (seg : IVec S3x32768 32) (pre : IVec S3x32768 1) : IVec S3x128 32 := (broadcastInDim S3x128 ![] bcast_S_S3x128) (h_call3_v0 seg pre)
def h_call3_v2 (seg : IVec S3x32768 32) (pre : IVec S3x32768 1) : IVec S3x128 32 := Host.divsi (h_v37 seg pre) (h_call3_v1 seg pre)
def h_call3_v3 (seg : IVec S3x32768 32) (pre : IVec S3x32768 1) : IVec S3x128 32 := signi (h_v37 seg pre)
def h_call3_v4 (seg : IVec S3x32768 32) (pre : IVec S3x32768 1) : IVec S_ 32 := signi (h_call3_v0 seg pre)
def h_call3_v5 (seg : IVec S3x32768 32) (pre : IVec S3x32768 1) : IVec S3x128 32 := (broadcastInDim S3x128 ![] bcast_S_S3x128) (h_call3_v4 seg pre)
def h_call3_v6 (seg : IVec S3x32768 32) (pre : IVec S3x32768 1) : IVec S3x128 1 := (cmpi .ne) (h_call3_v3 seg pre) (h_call3_v5 seg pre)
def h_call3_v7 (seg : IVec S3x32768 32) (pre : IVec S3x32768 1) : IVec S3x128 32 := (broadcastInDim S3x128 ![] bcast_S_S3x128) (h_call3_v0 seg pre)
def h_call3_v8 (seg : IVec S3x32768 32) (pre : IVec S3x32768 1) : IVec S3x128 32 := Host.remsi (h_v37 seg pre) (h_call3_v7 seg pre)
def h_call3_c (seg : IVec S3x32768 32) (pre : IVec S3x32768 1) : IVec S_ 32 := (constantI S_ 32 0#32)
def h_call3_v9 (seg : IVec S3x32768 32) (pre : IVec S3x32768 1) : IVec S3x128 32 := (broadcastInDim S3x128 ![] bcast_S_S3x128) (h_call3_c seg pre)
def h_call3_v10 (seg : IVec S3x32768 32) (pre : IVec S3x32768 1) : IVec S3x128 1 := (cmpi .ne) (h_call3_v8 seg pre) (h_call3_v9 seg pre)
def h_call3_v11 (seg : IVec S3x32768 32) (pre : IVec S3x32768 1) : IVec S3x128 1 := andi (h_call3_v6 seg pre) (h_call3_v10 seg pre)
def h_call3_c_0 (seg : IVec S3x32768 32) (pre : IVec S3x32768 1) : IVec S_ 32 := (constantI S_ 32 1#32)
def h_call3_v12 (seg : IVec S3x32768 32) (pre : IVec S3x32768 1) : IVec S3x128 32 := (broadcastInDim S3x128 ![] bcast_S_S3x128) (h_call3_c_0 seg pre)
def h_call3_v13 (seg : IVec S3x32768 32) (pre : IVec S3x32768 1) : IVec S3x128 32 := subi (h_call3_v2 seg pre) (h_call3_v12 seg pre)
def h_v38 (seg : IVec S3x32768 32) (pre : IVec S3x32768 1) : IVec S3x128 32 := select (h_call3_v11 seg pre) (h_call3_v13 seg pre) (h_call3_v2 seg pre)
def h_c_8 (seg : IVec S3x32768 32) (pre : IVec S3x32768 1) : IVec S_ 32 := (constantI S_ 32 1#32)
def h_v39 (seg : IVec S3x32768 32) (pre : IVec S3x32768 1) : IVec S3x128 32 := (broadcastInDim S3x128 ![] bcast_S_S3x128) (h_c_8 seg pre)
def h_v40 (seg : IVec S3x32768 32) (pre : IVec S3x32768 1) : IVec S3x128 32 := (addi) (h_v38 seg pre) (h_v39 seg pre)
def h_v41 (seg : IVec S3x32768 32) (pre : IVec S3x32768 1) : IVec S3x128x1 32 := ((extractStridedSlice S3x128x1 ![0, 0, 255] · slices_S3x128x256_S3x128x1_0_0_255)) (h_v31 seg pre)
def h_v42 (seg : IVec S3x32768 32) (pre : IVec S3x32768 1) : IVec S3x128 32 := shapeCast S3x128 (h_v41 seg pre) shapeCasts_S3x128x1_S3x128
def h_c_9 (seg : IVec S3x32768 32) (pre : IVec S3x32768 1) : IVec S_ 32 := (constantI S_ 32 256#32)
def h_v43 (seg : IVec S3x32768 32) (pre : IVec S3x32768 1) : IVec S3x128 32 := (broadcastInDim S3x128 ![] bcast_S_S3x128) (h_c_9 seg pre)
def h_v44 (seg : IVec S3x32768 32) (pre : IVec S3x32768 1) : IVec S3x128 32 := (addi) (h_v42 seg pre) (h_v43 seg pre)
def h_c_10 (seg : IVec S3x32768 32) (pre : IVec S3x32768 1) : IVec S_ 32 := (constantI S_ 32 1#32)
def h_v45 (seg : IVec S3x32768 32) (pre : IVec S3x32768 1) : IVec S3x128 32 := (broadcastInDim S3x128 ![] bcast_S_S3x128) (h_c_10 seg pre)
def h_v46 (seg : IVec S3x32768 32) (pre : IVec S3x32768 1) : IVec S3x128 32 := (subi) (h_v44 seg pre) (h_v45 seg pre)
def h_c_11 (seg : IVec S3x32768 32) (pre : IVec S3x32768 1) : IVec S_ 32 := (constantI S_ 32 256#32)
def h_call4_v0 (seg : IVec S3x32768 32) (pre : IVec S3x32768 1) : IVec S_ 32 := (h_c_11 seg pre)
def h_call4_v1 (seg : IVec S3x32768 32) (pre : IVec S3x32768 1) : IVec S3x128 32 := (broadcastInDim S3x128 ![] bcast_S_S3x128) (h_call4_v0 seg pre)
def h_call4_v2 (seg : IVec S3x32768 32) (pre : IVec S3x32768 1) : IVec S3x128 32 := Host.divsi (h_v46 seg pre) (h_call4_v1 seg pre)
def h_call4_v3 (seg : IVec S3x32768 32) (pre : IVec S3x32768 1) : IVec S3x128 32 := signi (h_v46 seg pre)
def h_call4_v4 (seg : IVec S3x32768 32) (pre : IVec S3x32768 1) : IVec S_ 32 := signi (h_call4_v0 seg pre)
def h_call4_v5 (seg : IVec S3x32768 32) (pre : IVec S3x32768 1) : IVec S3x128 32 := (broadcastInDim S3x128 ![] bcast_S_S3x128) (h_call4_v4 seg pre)
def h_call4_v6 (seg : IVec S3x32768 32) (pre : IVec S3x32768 1) : IVec S3x128 1 := (cmpi .ne) (h_call4_v3 seg pre) (h_call4_v5 seg pre)
def h_call4_v7 (seg : IVec S3x32768 32) (pre : IVec S3x32768 1) : IVec S3x128 32 := (broadcastInDim S3x128 ![] bcast_S_S3x128) (h_call4_v0 seg pre)
def h_call4_v8 (seg : IVec S3x32768 32) (pre : IVec S3x32768 1) : IVec S3x128 32 := Host.remsi (h_v46 seg pre) (h_call4_v7 seg pre)
def h_call4_c (seg : IVec S3x32768 32) (pre : IVec S3x32768 1) : IVec S_ 32 := (constantI S_ 32 0#32)
def h_call4_v9 (seg : IVec S3x32768 32) (pre : IVec S3x32768 1) : IVec S3x128 32 := (broadcastInDim S3x128 ![] bcast_S_S3x128) (h_call4_c seg pre)
def h_call4_v10 (seg : IVec S3x32768 32) (pre : IVec S3x32768 1) : IVec S3x128 1 := (cmpi .ne) (h_call4_v8 seg pre) (h_call4_v9 seg pre)
def h_call4_v11 (seg : IVec S3x32768 32) (pre : IVec S3x32768 1) : IVec S3x128 1 := andi (h_call4_v6 seg pre) (h_call4_v10 seg pre)
def h_call4_c_0 (seg : IVec S3x32768 32) (pre : IVec S3x32768 1) : IVec S_ 32 := (constantI S_ 32 1#32)
def h_call4_v12 (seg : IVec S3x32768 32) (pre : IVec S3x32768 1) : IVec S3x128 32 := (broadcastInDim S3x128 ![] bcast_S_S3x128) (h_call4_c_0 seg pre)
def h_call4_v13 (seg : IVec S3x32768 32) (pre : IVec S3x32768 1) : IVec S3x128 32 := subi (h_call4_v2 seg pre) (h_call4_v12 seg pre)
def h_v47 (seg : IVec S3x32768 32) (pre : IVec S3x32768 1) : IVec S3x128 32 := select (h_call4_v11 seg pre) (h_call4_v13 seg pre) (h_call4_v2 seg pre)
def h_c_12 (seg : IVec S3x32768 32) (pre : IVec S3x32768 1) : IVec S_ 32 := (constantI S_ 32 2147483647#32)
def h_v48 (seg : IVec S3x32768 32) (pre : IVec S3x32768 1) : IVec S3x128 32 := ((fun x v => Host.reduce IntOp.minsi x v reducesTo_S3x128x256_S3x128_d2 h_S_)) (h_v32 seg pre) (h_c_12 seg pre)
def h_c_13 (seg : IVec S3x32768 32) (pre : IVec S3x32768 1) : IVec S_ 32 := (constantI S_ 32 1#32)
def h_v49 (seg : IVec S3x32768 32) (pre : IVec S3x32768 1) : IVec S3x128 32 := (broadcastInDim S3x128 ![] bcast_S_S3x128) (h_c_13 seg pre)
def h_v50 (seg : IVec S3x32768 32) (pre : IVec S3x32768 1) : IVec S3x128 32 := (addi) (h_v48 seg pre) (h_v49 seg pre)
def h_c_14 (seg : IVec S3x32768 32) (pre : IVec S3x32768 1) : IVec S_ 32 := (constantI S_ 32 256#32)
def h_call5_v0 (seg : IVec S3x32768 32) (pre : IVec S3x32768 1) : IVec S_ 32 := (h_c_14 seg pre)
def h_call5_v1 (seg : IVec S3x32768 32) (pre : IVec S3x32768 1) : IVec S3x128 32 := (broadcastInDim S3x128 ![] bcast_S_S3x128) (h_call5_v0 seg pre)
def h_call5_v2 (seg : IVec S3x32768 32) (pre : IVec S3x32768 1) : IVec S3x128 32 := Host.divsi (h_v50 seg pre) (h_call5_v1 seg pre)
def h_call5_v3 (seg : IVec S3x32768 32) (pre : IVec S3x32768 1) : IVec S3x128 32 := signi (h_v50 seg pre)
def h_call5_v4 (seg : IVec S3x32768 32) (pre : IVec S3x32768 1) : IVec S_ 32 := signi (h_call5_v0 seg pre)
def h_call5_v5 (seg : IVec S3x32768 32) (pre : IVec S3x32768 1) : IVec S3x128 32 := (broadcastInDim S3x128 ![] bcast_S_S3x128) (h_call5_v4 seg pre)
def h_call5_v6 (seg : IVec S3x32768 32) (pre : IVec S3x32768 1) : IVec S3x128 1 := (cmpi .ne) (h_call5_v3 seg pre) (h_call5_v5 seg pre)
def h_call5_v7 (seg : IVec S3x32768 32) (pre : IVec S3x32768 1) : IVec S3x128 32 := (broadcastInDim S3x128 ![] bcast_S_S3x128) (h_call5_v0 seg pre)
def h_call5_v8 (seg : IVec S3x32768 32) (pre : IVec S3x32768 1) : IVec S3x128 32 := Host.remsi (h_v50 seg pre) (h_call5_v7 seg pre)
def h_call5_c (seg : IVec S3x32768 32) (pre : IVec S3x32768 1) : IVec S_ 32 := (constantI S_ 32 0#32)
def h_call5_v9 (seg : IVec S3x32768 32) (pre : IVec S3x32768 1) : IVec S3x128 32 := (broadcastInDim S3x128 ![] bcast_S_S3x128) (h_call5_c seg pre)
def h_call5_v10 (seg : IVec S3x32768 32) (pre : IVec S3x32768 1) : IVec S3x128 1 := (cmpi .ne) (h_call5_v8 seg pre) (h_call5_v9 seg pre)
def h_call5_v11 (seg : IVec S3x32768 32) (pre : IVec S3x32768 1) : IVec S3x128 1 := andi (h_call5_v6 seg pre) (h_call5_v10 seg pre)
def h_call5_c_0 (seg : IVec S3x32768 32) (pre : IVec S3x32768 1) : IVec S_ 32 := (constantI S_ 32 1#32)
def h_call5_v12 (seg : IVec S3x32768 32) (pre : IVec S3x32768 1) : IVec S3x128 32 := (broadcastInDim S3x128 ![] bcast_S_S3x128) (h_call5_c_0 seg pre)
def h_call5_v13 (seg : IVec S3x32768 32) (pre : IVec S3x32768 1) : IVec S3x128 32 := subi (h_call5_v2 seg pre) (h_call5_v12 seg pre)
def h_v51 (seg : IVec S3x32768 32) (pre : IVec S3x32768 1) : IVec S3x128 32 := select (h_call5_v11 seg pre) (h_call5_v13 seg pre) (h_call5_v2 seg pre)
def h_v52 (seg : IVec S3x32768 32) (pre : IVec S3x32768 1) : IVec S3x128 32 := (minsi) (h_v47 seg pre) (h_v40 seg pre)
def h_v53 (seg : IVec S3x32768 32) (pre : IVec S3x32768 1) : IVec S3x128 32 := (maxsi) (h_v51 seg pre) (h_v52 seg pre)
def h_v54 (seg : IVec S3x32768 32) (pre : IVec S3x32768 1) : IVec S3x128x1 32 := (broadcastInDim S3x128x1 ![0, 1] bcast_S3x128_S3x128x1_0_1) (h_v35 seg pre)
def h_v55 (seg : IVec S3x32768 32) (pre : IVec S3x32768 1) : IVec S3x128x1 32 := (broadcastInDim S3x128x1 ![0, 1] bcast_S3x128_S3x128x1_0_1) (h_v40 seg pre)
def h_v56 (seg : IVec S3x32768 32) (pre : IVec S3x32768 1) : IVec S3x128x1 32 := (broadcastInDim S3x128x1 ![0, 1] bcast_S3x128_S3x128x1_0_1) (h_v52 seg pre)
def h_v57 (seg : IVec S3x32768 32) (pre : IVec S3x32768 1) : IVec S3x128x1 32 := (broadcastInDim S3x128x1 ![0, 1] bcast_S3x128_S3x128x1_0_1) (h_v53 seg pre)
def h_v58 (seg : IVec S3x32768 32) (pre : IVec S3x32768 1) : IVec S3x128x4 32 := concatenate S3x128x4 2 [⟨S3x128x1, h_v54 seg pre⟩, ⟨S3x128x1, h_v55 seg pre⟩, ⟨S3x128x1, h_v56 seg pre⟩, ⟨S3x128x1, h_v57 seg pre⟩] concatenates_S3x128x1_S3x128x1_S3x128x1_S3x128x1_S3x128x4_d2
def h_v59 (seg : IVec S3x32768 32) (pre : IVec S3x32768 1) : IVec S3x1x32768 32 := (broadcastInDim S3x1x32768 ![0, 2] bcast_S3x32768_S3x1x32768_0_2) (h_v21 seg pre)
def h_v60 (seg : IVec S3x32768 32) (pre : IVec S3x32768 1) : IVec S3x1x32768 32 := (broadcastInDim S3x1x32768 ![0, 2] bcast_S3x32768_S3x1x32768_0_2) (h_v30 seg pre)

variable {F : FTy → Type} [FloatOps F]
variable (m : (ℓ : Loc nD τ sig) → Buf (Elt F) ℓ)

/-- The segment numbers and the prefix marks at launch. -/
abbrev segOf (c : Dev nD) : IVec S3x32768 32 := m ((c : Thread nD τ).loc main_arg6)
abbrev preOf (c : Dev nD) : IVec S3x32768 1 := m ((c : Thread nD τ).loc main_arg7)

set_option maxHeartbeats 1000000 in
theorem upto_v54 (c : Dev nD) : (StableHlo.upto (hostLines (F := F)).flatten (fun b => m (c, b)) 144 (Proc.devRef .tc main_v54) : IVec S3x128x1 32) = h_v54 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem upto_v55 (c : Dev nD) : (StableHlo.upto (hostLines (F := F)).flatten (fun b => m (c, b)) 144 (Proc.devRef .tc main_v55) : IVec S3x128x1 32) = h_v55 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem upto_v56 (c : Dev nD) : (StableHlo.upto (hostLines (F := F)).flatten (fun b => m (c, b)) 144 (Proc.devRef .tc main_v56) : IVec S3x128x1 32) = h_v56 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem upto_v57 (c : Dev nD) : (StableHlo.upto (hostLines (F := F)).flatten (fun b => m (c, b)) 144 (Proc.devRef .tc main_v57) : IVec S3x128x1 32) = h_v57 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
theorem V_v58 (c : Dev nD) : V m c main_v58 = h_v58 (segOf m c) (preOf m c) := by
  unfold V V0 h_v58
  after_reads_simp
  rw [← upto_v54 m c, ← upto_v55 m c, ← upto_v56 m c, ← upto_v57 m c]
  rfl
set_option maxHeartbeats 1000000 in
theorem V_v59 (c : Dev nD) : V m c main_v59 = h_v59 (segOf m c) (preOf m c) := by
  unfold V V0
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem V_v60 (c : Dev nD) : V m c main_v60 = h_v60 (segOf m c) (preOf m c) := by
  unfold V V0
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl

end Cert.Kernel.Body
-- ==== Proof.Bits.Checks.lean ====
/-
The checks the body makes on the table's words hold when the words are block numbers in order: the loops' bounds,
trip counts and offsets as natural numbers.
-/
module

public import proofs.«01_k».proof.Proof.Bits.Body

@[expose] public section

noncomputable section

namespace Cert.Kernel.Body

open Idealize.ShloMosaic Cert.Kernel

/-- The loop over single blocks from `a` up to `b`, its bounds as the kernel computes them, -/
@[reducible] def single (a b : BitVec 32) : Scf.Loop 32 := ⟨a, Scalar.addi a (Scalar.muli (Scalar.divsi (Scalar.subi b a) 1#32) 1#32), 1#32⟩
/-- and the loop over what it leaves, which is nothing. -/
@[reducible] def rest (a b : BitVec 32) : Scf.Loop 32 := ⟨Scalar.addi a (Scalar.muli (Scalar.divsi (Scalar.subi b a) 1#32) 1#32), Scalar.addi a (Scalar.subi b a), 1#32⟩

/-- The quotient of a word by four, rounded down, as the kernel computes it. -/
def quarter (v31 : BitVec 32) : BitVec 32 :=
  Scalar.select (Scalar.andi (Scalar.cmpi .ne (Scalar.subi (Scalar.extui (Scalar.cmpi .sgt v31 0#32)) (Scalar.extui (Scalar.cmpi .slt v31 0#32)))
      (Scalar.subi (Scalar.extui (Scalar.cmpi .sgt 4#32 0#32)) (Scalar.extui (Scalar.cmpi .slt 4#32 0#32))))
    (Scalar.cmpi .ne (Scalar.remsi v31 4#32) 0#32)) (Scalar.subi (Scalar.divsi v31 4#32) 1#32) (Scalar.divsi v31 4#32)

theorem divsi_one (x : BitVec 32) : Scalar.divsi x 1#32 = x := by
  unfold Scalar.divsi IntOp.divsi
  rw [if_neg (by unfold IntOp.SDivCorner; rintro (h | ⟨-, h⟩) <;> exact absurd h (by decide))]
  exact BitVec.sdiv_one

theorem add_sub_word (a b : BitVec 32) : a + (b - a) = b := by
  apply BitVec.eq_of_toNat_eq
  simp only [BitVec.toNat_add, BitVec.toNat_sub]
  have := a.isLt; have := b.isLt
  omega

theorem single_eq (a b : BitVec 32) : single a b = ⟨a, b, 1#32⟩ := by
  unfold single
  rw [divsi_one]
  unfold Scalar.addi Scalar.muli Scalar.subi IntOp.addi IntOp.muli IntOp.subi
  rw [BitVec.mul_one, add_sub_word]
theorem rest_eq (a b : BitVec 32) : rest a b = ⟨b, b, 1#32⟩ := by
  unfold rest
  rw [divsi_one]
  unfold Scalar.addi Scalar.muli Scalar.subi IntOp.addi IntOp.muli IntOp.subi
  rw [BitVec.mul_one, add_sub_word]

theorem quarter_ofNat {n : Nat} (h : n ≤ 128) : quarter (BitVec.ofNat 32 n) = BitVec.ofNat 32 (n / 4) := by
  have : ∀ n : Fin 129, quarter (BitVec.ofNat 32 n.val) = BitVec.ofNat 32 (n.val / 4) := by decide
  exact this ⟨n, by omega⟩

theorem toInt_small {n : Nat} (h : n < 2 ^ 31) : (BitVec.ofNat 32 n).toInt = n := by
  rw [BitVec.toInt_eq_toNat_of_lt (by simp only [BitVec.toNat_ofNat]; omega), BitVec.toNat_ofNat, Nat.mod_eq_of_lt (by omega)]

theorem trips_ofNat {a b : Nat} (ha : a ≤ 128) (hb : b ≤ 128) : Scf.trips (BitVec.ofNat 32 a) (BitVec.ofNat 32 b) 1#32 = b - a := by
  unfold Scf.trips
  rw [toInt_small (by omega), toInt_small (by omega), show (1#32).toInt = 1 from by decide, Int.ediv_one]
  omega

theorem ok_ofNat {a b : Nat} (ha : a ≤ 128) (hb : b ≤ 128) : Scf.OK (BitVec.ofNat 32 a) (BitVec.ofNat 32 b) 1#32 := by
  unfold Scf.OK
  rw [trips_ofNat ha hb, toInt_small (n := a) (by omega)]
  refine ⟨by decide, ?_⟩
  rw [show (1#32).toInt = 1 from by decide]
  omega

theorem single_trips {a b : Nat} (ha : a ≤ 128) (hb : b ≤ 128) : (single (BitVec.ofNat 32 a) (BitVec.ofNat 32 b)).trips = b - a := by
  rw [single_eq]; exact trips_ofNat ha hb
theorem single_ok {a b : Nat} (ha : a ≤ 128) (hb : b ≤ 128) : (single (BitVec.ofNat 32 a) (BitVec.ofNat 32 b)).OK := by
  rw [single_eq]; exact ok_ofNat ha hb
theorem rest_trips (a b : BitVec 32) : (rest a b).trips = 0 := by
  rw [rest_eq]
  show Scf.trips b b 1#32 = 0
  unfold Scf.trips
  rw [Int.sub_self, show (1#32).toInt = 1 from by decide]; rfl
theorem no_rest {a b : BitVec 32} (k : Fin (rest a b).trips) : False := by
  exact absurd (k.isLt.trans_eq (rest_trips a b)) (Nat.not_lt_zero _)
theorem rest_ok {a : BitVec 32} {b : Nat} (hb : b ≤ 128) : (rest a (BitVec.ofNat 32 b)).OK := by
  rw [rest_eq]; exact ok_ofNat hb hb

theorem sub_ofNat {a b : Nat} (h : a ≤ b) (hb : b ≤ 128) : Scalar.subi (BitVec.ofNat 32 b) (BitVec.ofNat 32 a) = BitVec.ofNat 32 (b - a) := by
  apply BitVec.eq_of_toNat_eq
  unfold Scalar.subi IntOp.subi
  simp only [BitVec.toNat_sub, BitVec.toNat_ofNat]
  omega
theorem quarter_sub {a b : Nat} (h : a ≤ b) (hb : b ≤ 128) : quarter (Scalar.subi (BitVec.ofNat 32 b) (BitVec.ofNat 32 a)) = BitVec.ofNat 32 ((b - a) / 4) := by
  rw [sub_ofNat h hb, quarter_ofNat (by omega)]
/-- Where the blocks four at a time stop. -/
theorem stop_ofNat {a b : Nat} (h : a ≤ b) (hb : b ≤ 128) :
    Scalar.addi (BitVec.ofNat 32 a) (Scalar.muli (quarter (Scalar.subi (BitVec.ofNat 32 b) (BitVec.ofNat 32 a))) 4#32) = BitVec.ofNat 32 (a + 4 * ((b - a) / 4)) := by
  rw [quarter_sub h hb]
  apply BitVec.eq_of_toNat_eq
  unfold Scalar.addi Scalar.muli IntOp.addi IntOp.muli
  simp only [BitVec.toNat_add, BitVec.toNat_mul, BitVec.toNat_ofNat]
  omega

/-- The row at which block `a + k` begins, as the kernel computes it. -/
theorem row_ofNat {a k : Nat} (h : a + k ≤ 128) : (Scalar.muli (Scf.iv (BitVec.ofNat 32 a) 1#32 k) 256#32).toNat = (a + k) * 256 := by
  unfold Scalar.muli Scf.iv IntOp.muli
  simp only [BitVec.toNat_add, BitVec.toNat_mul, BitVec.toNat_ofNat]
  omega
theorem row4_ofNat {a k : Nat} (h : a + 4 * k ≤ 128) :
    (Scalar.muli (Scalar.addi (BitVec.ofNat 32 a) (Scalar.muli (Scf.iv 0#32 1#32 k) 4#32)) 256#32).toNat = (a + 4 * k) * 256 := by
  unfold Scalar.muli Scalar.addi Scf.iv IntOp.muli IntOp.addi
  simp only [BitVec.toNat_add, BitVec.toNat_mul, BitVec.toNat_ofNat]
  omega

theorem inb_k (n p : Nat) (hp : p = 256 ∨ p = 1024) (h : n + p ≤ 32768) (d : Fin 4 → Nat) (hd : d = ![1, 1, p, 128]) :
    ∀ a, ![0, 0, n, 0] a + d a ≤ S1x1x32768x128.size a := by
  subst hd; intro a; fin_cases a
  · show 0 + 1 ≤ 1; omega
  · show 0 + 1 ≤ 1; omega
  · show n + p ≤ 32768; omega
  · show 0 + 128 ≤ 128; omega
theorem inb_v (n p : Nat) (h : n + p ≤ 32768) (d : Fin 4 → Nat) (hd : d = ![1, 1, 128, p]) :
    ∀ a, ![0, 0, 0, n] a + d a ≤ S1x1x128x32768.size a := by
  subst hd; intro a; fin_cases a
  · show 0 + 1 ≤ 1; omega
  · show 0 + 1 ≤ 1; omega
  · show 0 + 128 ≤ 128; omega
  · show n + p ≤ 32768; omega
theorem inb_s (n p : Nat) (h : n + p ≤ 32768) (d : Fin 2 → Nat) (hd : d = ![p, 256]) :
    ∀ a, ![n, 0] a + d a ≤ S32768x256.size a := by
  subst hd; intro a; fin_cases a
  · show n + p ≤ 32768; omega
  · show 0 + 256 ≤ 256; omega

section One
variable {a b : Nat} (ha : a ≤ 128) (hb : b ≤ 128)
include ha hb
theorem lt_single (k : Fin (single (BitVec.ofNat 32 a) (BitVec.ofNat 32 b)).trips) : a + k.val + 1 ≤ b := by
  have := k.isLt.trans_eq (single_trips ha hb); omega
theorem one_dvd (k : Fin (single (BitVec.ofNat 32 a) (BitVec.ofNat 32 b)).trips) :
    256 ∣ (Scalar.muli (Scf.iv (BitVec.ofNat 32 a) 1#32 k) 256#32).toNat := by
  have := lt_single ha hb k; rw [row_ofNat (by omega)]; exact ⟨_, Nat.mul_comm _ _⟩
theorem one_k (k : Fin (single (BitVec.ofNat 32 a) (BitVec.ofNat 32 b)).trips) :
    ∀ i, ![0, 0, (Scalar.muli (Scf.iv (BitVec.ofNat 32 a) 1#32 k) 256#32).toNat, 0] i + S1x1x256x128.size i ≤ S1x1x32768x128.size i := by
  have := lt_single ha hb k; rw [row_ofNat (by omega)]; exact inb_k _ 256 (.inl rfl) (by omega) _ (by decide)
theorem one_v (k : Fin (single (BitVec.ofNat 32 a) (BitVec.ofNat 32 b)).trips) :
    ∀ i, ![0, 0, 0, (Scalar.muli (Scf.iv (BitVec.ofNat 32 a) 1#32 k) 256#32).toNat] i + S1x1x128x256.size i ≤ S1x1x128x32768.size i := by
  have := lt_single ha hb k; rw [row_ofNat (by omega)]; exact inb_v _ 256 (by omega) _ (by decide)
theorem one_s (k : Fin (single (BitVec.ofNat 32 a) (BitVec.ofNat 32 b)).trips) :
    ∀ i, ![(Scalar.muli (Scf.iv (BitVec.ofNat 32 a) 1#32 k) 256#32).toNat, 0] i + S256x256.size i ≤ S32768x256.size i := by
  have := lt_single ha hb k; rw [row_ofNat (by omega)]; exact inb_s _ 256 (by omega) _ (by decide)
end One

section Four
variable {a b : Nat} (h : a ≤ b) (hb : b ≤ 128)
include h hb
theorem four_trips : (single 0#32 (quarter (Scalar.subi (BitVec.ofNat 32 b) (BitVec.ofNat 32 a)))).trips = (b - a) / 4 := by
  rw [quarter_sub h hb]; exact (single_trips (a := 0) (by omega) (by omega)).trans (Nat.sub_zero _)
theorem lt_four (k : Fin (single 0#32 (quarter (Scalar.subi (BitVec.ofNat 32 b) (BitVec.ofNat 32 a)))).trips) : a + 4 * k.val + 4 ≤ b := by
  have := k.isLt.trans_eq (four_trips h hb); omega
theorem four_ok : (single 0#32 (quarter (Scalar.subi (BitVec.ofNat 32 b) (BitVec.ofNat 32 a)))).OK := by
  rw [quarter_sub h hb]; exact single_ok (a := 0) (by omega) (by omega)
theorem four_rest_ok : (rest 0#32 (quarter (Scalar.subi (BitVec.ofNat 32 b) (BitVec.ofNat 32 a)))).OK := by
  rw [quarter_sub h hb]; exact rest_ok (by omega)
theorem four_dvd (k : Fin (single 0#32 (quarter (Scalar.subi (BitVec.ofNat 32 b) (BitVec.ofNat 32 a)))).trips) :
    256 ∣ (Scalar.muli (Scalar.addi (BitVec.ofNat 32 a) (Scalar.muli (Scf.iv 0#32 1#32 k) 4#32)) 256#32).toNat := by
  have := lt_four h hb k; rw [row4_ofNat (by omega)]; exact ⟨_, Nat.mul_comm _ _⟩
theorem four_k (k : Fin (single 0#32 (quarter (Scalar.subi (BitVec.ofNat 32 b) (BitVec.ofNat 32 a)))).trips) :
    ∀ i, ![0, 0, (Scalar.muli (Scalar.addi (BitVec.ofNat 32 a) (Scalar.muli (Scf.iv 0#32 1#32 k) 4#32)) 256#32).toNat, 0] i + S1x1x1024x128.size i ≤ S1x1x32768x128.size i := by
  have := lt_four h hb k; rw [row4_ofNat (by omega)]; exact inb_k _ 1024 (.inr rfl) (by omega) _ (by decide)
theorem four_v (k : Fin (single 0#32 (quarter (Scalar.subi (BitVec.ofNat 32 b) (BitVec.ofNat 32 a)))).trips) :
    ∀ i, ![0, 0, 0, (Scalar.muli (Scalar.addi (BitVec.ofNat 32 a) (Scalar.muli (Scf.iv 0#32 1#32 k) 4#32)) 256#32).toNat] i + S1x1x128x1024.size i ≤ S1x1x128x32768.size i := by
  have := lt_four h hb k; rw [row4_ofNat (by omega)]; exact inb_v _ 1024 (by omega) _ (by decide)
theorem four_s (k : Fin (single 0#32 (quarter (Scalar.subi (BitVec.ofNat 32 b) (BitVec.ofNat 32 a)))).trips) :
    ∀ i, ![(Scalar.muli (Scalar.addi (BitVec.ofNat 32 a) (Scalar.muli (Scf.iv 0#32 1#32 k) 4#32)) 256#32).toNat, 0] i + S1024x256.size i ≤ S32768x256.size i := by
  have := lt_four h hb k; rw [row4_ofNat (by omega)]; exact inb_s _ 1024 (by omega) _ (by decide)
/-- The single blocks after those four at a time: the same facts, their first block as the kernel computes it. -/
theorem tail_eq (P : BitVec 32 → Prop) (hP : P (BitVec.ofNat 32 (a + 4 * ((b - a) / 4)))) :
    P (Scalar.addi (BitVec.ofNat 32 a) (Scalar.muli (quarter (Scalar.subi (BitVec.ofNat 32 b) (BitVec.ofNat 32 a))) 4#32)) := by
  rw [stop_ofNat h hb]; exact hP
end Four

section Checks
variable {lo hi fl fh : Nat}

set_option maxHeartbeats 2000000 in
theorem k0_chk1_0_of (h1 : lo ≤ 128) (h2 : fl ≤ 128) : k0_chk1_0 (BitVec.ofNat 32 lo) (BitVec.ofNat 32 fl) :=
  ⟨single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim⟩
set_option maxHeartbeats 2000000 in
theorem k0_chk1_1_of (h1 : lo ≤ 128) (h2 : fl ≤ 128) : k0_chk1_1 (BitVec.ofNat 32 lo) (BitVec.ofNat 32 fl) :=
  ⟨single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim⟩
set_option maxHeartbeats 2000000 in
theorem k0_chk2_0_of (h1 : fl ≤ fh) (h2 : fh ≤ 128) (h3 : hi ≤ 128) : k0_chk2_0 (BitVec.ofNat 32 hi) (BitVec.ofNat 32 fl) (BitVec.ofNat 32 fh) :=
  ⟨four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim⟩
set_option maxHeartbeats 2000000 in
theorem k0_chk2_1_of (h1 : fl ≤ fh) (h2 : fh ≤ 128) (h3 : hi ≤ 128) : k0_chk2_1 (BitVec.ofNat 32 hi) (BitVec.ofNat 32 fl) (BitVec.ofNat 32 fh) :=
  ⟨tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim⟩
set_option maxHeartbeats 2000000 in
theorem k0_chk2_2_of (h1 : fl ≤ fh) (h2 : fh ≤ 128) (h3 : hi ≤ 128) : k0_chk2_2 (BitVec.ofNat 32 hi) (BitVec.ofNat 32 fl) (BitVec.ofNat 32 fh) :=
  ⟨single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim⟩
set_option maxHeartbeats 2000000 in
theorem k0_chk2_3_of (h1 : fl ≤ fh) (h2 : fh ≤ 128) (h3 : hi ≤ 128) : k0_chk2_3 (BitVec.ofNat 32 hi) (BitVec.ofNat 32 fl) (BitVec.ofNat 32 fh) :=
  ⟨four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim⟩
set_option maxHeartbeats 2000000 in
theorem k0_chk2_4_of (h1 : fl ≤ fh) (h2 : fh ≤ 128) (h3 : hi ≤ 128) : k0_chk2_4 (BitVec.ofNat 32 hi) (BitVec.ofNat 32 fl) (BitVec.ofNat 32 fh) :=
  ⟨tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim⟩
set_option maxHeartbeats 2000000 in
theorem k0_chk2_5_of (h1 : fl ≤ fh) (h2 : fh ≤ 128) (h3 : hi ≤ 128) : k0_chk2_5 (BitVec.ofNat 32 hi) (BitVec.ofNat 32 fl) (BitVec.ofNat 32 fh) :=
  ⟨single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim⟩
set_option maxHeartbeats 2000000 in
theorem k0_chk3_0_of (h1 : lo ≤ hi) (h2 : hi ≤ 128) : k0_chk3_0 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩
set_option maxHeartbeats 2000000 in
theorem k0_chk3_1_of (h1 : lo ≤ hi) (h2 : hi ≤ 128) : k0_chk3_1 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩
set_option maxHeartbeats 2000000 in
theorem k0_chk3_2_of (h1 : lo ≤ hi) (h2 : hi ≤ 128) : k0_chk3_2 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩
set_option maxHeartbeats 2000000 in
theorem k0_chk3_3_of (h1 : lo ≤ hi) (h2 : hi ≤ 128) : k0_chk3_3 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩

theorem chk1_of (h1 : lo ≤ 128) (h2 : fl ≤ 128) : k0_chk1 (BitVec.ofNat 32 lo) (BitVec.ofNat 32 fl) := ⟨k0_chk1_0_of h1 h2, k0_chk1_1_of h1 h2⟩
theorem chk2_of (h1 : fl ≤ fh) (h2 : fh ≤ 128) (h3 : hi ≤ 128) : k0_chk2 (BitVec.ofNat 32 hi) (BitVec.ofNat 32 fl) (BitVec.ofNat 32 fh) :=
  ⟨k0_chk2_0_of h1 h2 h3, k0_chk2_1_of h1 h2 h3, k0_chk2_2_of h1 h2 h3, k0_chk2_3_of h1 h2 h3, k0_chk2_4_of h1 h2 h3, k0_chk2_5_of h1 h2 h3⟩
theorem chk3_of (h1 : lo ≤ hi) (h2 : hi ≤ 128) : k0_chk3 (BitVec.ofNat 32 lo) (BitVec.ofNat 32 hi) :=
  ⟨k0_chk3_0_of h1 h2, k0_chk3_1_of h1 h2, k0_chk3_2_of h1 h2, k0_chk3_3_of h1 h2⟩
end Checks

end Cert.Kernel.Body
-- ==== Proof.Bits.Spans.lean ====
/-
Which keys a query sees, counted: the first and last key of every query and the table's four block numbers, as
natural numbers, and their order when the segment numbers ascend.
-/
module

public import proofs.«01_k».proof.Proof.Bits.Lines
public import proofs.«01_k».proof.Proof.Bits.Checks
public import Idealize.ShloMosaic.Lib.Pointwise
public import Idealize.ShloMosaic.Lib.WordSum
public import Idealize.ShloMosaic.Lib.WordCmp
public import Idealize.ShloMosaic.Lib.SortNet.Extract

@[expose] public section

noncomputable section

namespace Cert.Kernel.Body

open Idealize.ShloMosaic Idealize.ShloMosaic.TcCoe Idealize.SL.Sem Idealize.ShloMosaic.StableHlo
open Cert.Kernel Cert.Kernel.Gen

section Words

theorem cmpi_eq_zero {x y : BitVec 32} (h : ¬ x = y) : IntOp.cmpi CmpIPredicate.eq x y = 0#1 := by
  unfold IntOp.cmpi
  show BitVec.ofBool (x == y) = 0#1
  rw [beq_false_of_ne h]; rfl

/-- A fold of additions of ones and zeros is a count. -/
theorem fold_count {n : Nat} (f : Fin n → BitVec 32) (P : Fin n → Prop) [DecidablePred P] (hf : ∀ k, f k = if P k then 1 else 0) :
    (Finset.univ : Finset (Fin n)).fold IntOp.addi 0#32 f = BitVec.ofNat 32 (Finset.univ.filter P).card := by
  show ∑ k, f k = _
  rw [Finset.sum_congr rfl (fun k _ => hf k), Finset.sum_boole]
  rfl

theorem fold_addi_sum {n : Nat} (f : Fin n → BitVec 32) : (Finset.univ : Finset (Fin n)).fold IntOp.addi 0#32 f = ∑ k, f k := rfl

theorem floor256 {n : Nat} (h : n < 2 ^ 31) (x : BitVec 32) (hx : x = BitVec.ofNat 32 n) :
  Scalar.select
      (IntOp.andi
        (IntOp.cmpi CmpIPredicate.ne
          (if x = 0 then (0 : BitVec 32) else if x.msb = true then -1 else 1)
          (if 256#32 = 0 then (0 : BitVec 32) else if (256#32).msb = true then -1 else 1))
        (IntOp.cmpi CmpIPredicate.ne (IntOp.remsi ArithUnit.host x 256#32) 0#32))
      (IntOp.subi (IntOp.divsi ArithUnit.host x 256#32) 1#32)
      (IntOp.divsi ArithUnit.host x 256#32) =
    BitVec.ofNat 32 (n / 256) := by
  rcases Nat.eq_zero_or_pos n with h0 | h0
  · subst h0; subst hx; decide
  have hm : x.msb = false := by
    rw [hx, BitVec.msb_eq_decide, BitVec.toNat_ofNat]; simp only [decide_eq_false_iff_not]; omega
  have hz : ¬ x = 0 := by
    intro e; have := congrArg BitVec.toNat (hx.symm.trans e); simp only [BitVec.toNat_ofNat] at this; simp at this; omega
  rw [if_neg hz, hm]
  have hd : IntOp.divsi ArithUnit.host x 256#32 = BitVec.ofNat 32 (n / 256) := by
    unfold IntOp.divsi
    rw [if_neg (by unfold IntOp.SDivCorner; rintro (h | ⟨-, h⟩) <;> exact absurd h (by decide)), BitVec.sdiv_eq, hm, show (256#32 : BitVec 32).msb = false from by decide]
    apply BitVec.eq_of_toNat_eq
    simp [hx]
    omega
  rw [hd, show IntOp.cmpi CmpIPredicate.ne (if false = true then (-1 : BitVec 32) else 1)
        (if 256#32 = 0 then (0 : BitVec 32) else if (256#32).msb = true then -1 else 1) = 0#1 from by decide]
  have : ∀ y : BitVec 1, IntOp.andi 0#1 y = 0#1 := by decide
  rw [this]
  rfl

theorem minsi_ofNat {a b : Nat} (ha : a < 2 ^ 31) (hb : b < 2 ^ 31) : IntOp.minsi (BitVec.ofNat 32 a) (BitVec.ofNat 32 b) = BitVec.ofNat 32 (min a b) := by
  apply BitVec.eq_of_toInt_eq
  rw [Idealize.ShloMosaic.SortNet.toInt_minsi, toInt_small ha, toInt_small hb, toInt_small (by omega)]; omega
theorem maxsi_ofNat {a b : Nat} (ha : a < 2 ^ 31) (hb : b < 2 ^ 31) : IntOp.maxsi (BitVec.ofNat 32 a) (BitVec.ofNat 32 b) = BitVec.ofNat 32 (max a b) := by
  apply BitVec.eq_of_toInt_eq
  rw [Idealize.ShloMosaic.SortNet.toInt_maxsi, toInt_small ha, toInt_small hb, toInt_small (by omega)]; omega

/-- The smallest of numbers below a bound. -/
theorem fold_minsi {n N : Nat} (hn : 0 < n) (hN : N < 2147483647) (g : Fin n → Nat) (hg : ∀ r, g r ≤ N) (f : Fin n → BitVec 32) (hf : ∀ r, f r = BitVec.ofNat 32 (g r)) :
    ∃ L, (Finset.univ : Finset (Fin n)).fold IntOp.minsi 2147483647#32 f = BitVec.ofNat 32 L ∧ L ≤ N ∧ ∀ r, L ≤ g r := by
  have key : ∀ S : Finset (Fin n), ∃ L, S.fold IntOp.minsi 2147483647#32 f = BitVec.ofNat 32 L ∧ L < 2 ^ 31 ∧ ∀ r ∈ S, L ≤ g r := by
    intro S
    induction S using Finset.cons_induction with
    | empty => exact ⟨2147483647, rfl, by norm_num, fun r h => absurd h (Finset.notMem_empty r)⟩
    | cons a S ha ih =>
      obtain ⟨L, h1, h2, h3⟩ := ih
      refine ⟨min (g a) L, ?_, by omega, ?_⟩
      · have := hg a
        rw [Finset.fold_cons, h1, hf, minsi_ofNat (by omega) h2]
      · intro r hr
        rcases Finset.mem_cons.mp hr with rfl | hr
        · exact min_le_left _ _
        · exact (min_le_right _ _).trans (h3 r hr)
  obtain ⟨L, h1, h2, h3⟩ := key Finset.univ
  exact ⟨L, h1, (h3 ⟨0, hn⟩ (Finset.mem_univ _)).trans (hg _), fun r => h3 r (Finset.mem_univ _)⟩

end Words

variable (seg : IVec S3x32768 32) (pre : IVec S3x32768 1)

/-- How many keys have a lower segment number, -/
def below (b : Fin 3) (j : Nat) : Nat := (Finset.univ.filter fun k : Fin 32768 => (seg (ix2 b k)).toInt < j).card
/-- and how many are marked keys of the segment. -/
def marked (b : Fin 3) (j : Nat) : Nat := (Finset.univ.filter fun k : Fin 32768 => seg (ix2 b k) = BitVec.ofNat 32 j ∧ pre (ix2 b k) = 1#1).card

theorem lift_last (h : S3x8x32768.Reduces [2] S3x8) (b : Fin 3) (j : Fin 8) (k : Fin 32768) : h.lift (ix2 b j) k = ix3 b j k := by
  funext a; fin_cases a <;> rfl
theorem lift_mid (h : S3x8x32768.Reduces [1] S3x32768) (b : Fin 3) (j : Fin 8) (k : Fin 32768) : h.lift (ix2 b k) j = ix3 b j k := by
  funext a; fin_cases a <;> rfl
theorem lift_tile (h : S3x128x256.Reduces [2] S3x128) (b : Fin 3) (j : Fin 128) (k : Fin 256) : h.lift (ix2 b j) k = ix3 b j k := by
  funext a; fin_cases a <;> rfl

theorem start_eq (b : Fin 3) (j : Fin 8) : h_v12 seg pre (ix2 b j) = BitVec.ofNat 32 (below seg b j) := by
  unfold h_v12
  beta_reduce
  rw [Host.reduce_eq_fold_single IntOp.addi _ _ _ (by decide)]
  refine fold_count _ (fun k : Fin 32768 => (seg (ix2 b k)).toInt < (j.val : Int)) fun k => ?_
  refine (congrArg (h_v11 seg pre) (lift_last _ b j k)).trans ?_
  simp only [h_v11, h_v10, h_v8, h_v6, h_v9, h_v7, h_v0]
  pointwise
  have hj := j.isLt
  rw [Idealize.ShloMosaic.WordCmp.cmpi_slt_eq, toInt_small (show j.val < 2 ^ 31 by omega)]
  by_cases h : (seg (ix2 b k)).toInt < (j.val : Int)
  · rw [if_pos h, decide_eq_true h]; rfl
  · rw [if_neg h, decide_eq_false h]; rfl

theorem count_eq (b : Fin 3) (j : Fin 8) : h_v17 seg pre (ix2 b j) = BitVec.ofNat 32 (marked seg pre b j) := by
  unfold h_v17
  beta_reduce
  rw [Host.reduce_eq_fold_single IntOp.addi _ _ _ (by decide)]
  refine fold_count _ (fun k : Fin 32768 => seg (ix2 b k) = BitVec.ofNat 32 j.val ∧ pre (ix2 b k) = 1#1) fun k => ?_
  refine (congrArg (h_v16 seg pre) (lift_last _ b j k)).trans ?_
  simp only [h_v16, h_v15, h_v5, h_v14, h_v13, h_v3, h_v1, h_v4, h_v2, h_v0]
  pointwise
  have hp : pre (ix2 b k) = 0#1 ∨ pre (ix2 b k) = 1#1 := by
    generalize pre (ix2 b k) = p; revert p; decide
  by_cases h : seg (ix2 b k) = BitVec.ofNat 32 j.val
  · rw [h]
    have e : IntOp.cmpi CmpIPredicate.eq (BitVec.ofNat 32 j.val) (BitVec.ofNat 32 j.val) = 1#1 := by unfold IntOp.cmpi; simp
    rw [e]
    rcases hp with hp | hp <;> rw [hp] <;> simp [IntOp.andi]
  · have e : IntOp.cmpi CmpIPredicate.eq (seg (ix2 b k)) (BitVec.ofNat 32 j.val) = 0#1 := cmpi_eq_zero h
    rw [e, if_neg (fun hh => h hh.1)]
    rcases hp with hp | hp <;> rw [hp] <;> simp [IntOp.andi]

theorem pick (s : BitVec 32) (f : Fin 8 → BitVec 32) (j : Fin 8) (hs : s = BitVec.ofNat 32 j.val) :
    ∑ i : Fin 8, Scalar.select (IntOp.cmpi CmpIPredicate.eq s (BitVec.ofNat 32 i.val)) (f i) 0#32 = f j := by
  subst hs
  rw [Finset.sum_eq_single j]
  · unfold IntOp.cmpi Scalar.select; simp
  · intro i _ hi
    have : ¬ BitVec.ofNat 32 j.val = BitVec.ofNat 32 i.val := by
      intro e; apply hi
      have := congrArg BitVec.toNat e
      simp only [BitVec.toNat_ofNat] at this
      have := i.isLt; have := j.isLt
      exact Fin.ext (by omega)
    have e : IntOp.cmpi CmpIPredicate.eq (BitVec.ofNat 32 j.val) (BitVec.ofNat 32 i.val) = 0#1 := cmpi_eq_zero this
    rw [e]; rfl
  · intro h; exact absurd (Finset.mem_univ j) h
theorem pick_none (s : BitVec 32) (f : Fin 8 → BitVec 32) (hs : ∀ j : Fin 8, ¬ s = BitVec.ofNat 32 j.val) :
    ∑ i : Fin 8, Scalar.select (IntOp.cmpi CmpIPredicate.eq s (BitVec.ofNat 32 i.val)) (f i) 0#32 = 0#32 := by
  apply Finset.sum_eq_zero
  intro i _
  have e : IntOp.cmpi CmpIPredicate.eq s (BitVec.ofNat 32 i.val) = 0#1 := cmpi_eq_zero (hs i)
  rw [e]; rfl

theorem first_sum (b : Fin 3) (q : Fin 32768) :
    h_v21 seg pre (ix2 b q) = ∑ i : Fin 8, Scalar.select (IntOp.cmpi CmpIPredicate.eq (seg (ix2 b q)) (BitVec.ofNat 32 i.val)) (BitVec.ofNat 32 (below seg b i)) 0#32 := by
  unfold h_v21
  beta_reduce
  rw [Host.reduce_eq_fold_single IntOp.addi _ _ _ (by decide)]
  refine (fold_addi_sum (n := 8) _).trans (Finset.sum_congr rfl fun i _ => ?_)
  refine (congrArg (h_v20 seg pre) (lift_mid _ b i q)).trans ?_
  simp only [h_v20, h_call0_v1, h_call0_v2, h_v19, h_v5, h_v3, h_v1, h_v4, h_v2, h_v0, h_call0_v0, h_c_1]
  pointwise
  rw [start_eq]
theorem last_sum (b : Fin 3) (q : Fin 32768) :
    h_v26 seg pre (ix2 b q) = ∑ i : Fin 8, Scalar.select (IntOp.cmpi CmpIPredicate.eq (seg (ix2 b q)) (BitVec.ofNat 32 i.val)) (BitVec.ofNat 32 (below seg b i) + BitVec.ofNat 32 (marked seg pre b i) - 1#32) 0#32 := by
  unfold h_v26
  beta_reduce
  rw [Host.reduce_eq_fold_single IntOp.addi _ _ _ (by decide)]
  refine (fold_addi_sum (n := 8) _).trans (Finset.sum_congr rfl fun i _ => ?_)
  refine (congrArg (h_v25 seg pre) (lift_mid _ b i q)).trans ?_
  simp only [h_v25, h_call1_v1, h_call1_v2, h_v24, h_v22, h_v23, h_v18, h_v5, h_v3, h_v1, h_v4, h_v2, h_v0, h_call1_v0, h_c_4, h_c_3]
  pointwise
  rw [start_eq, count_eq]
  rfl

/-- The first key a query sees, -/
def first (b : Fin 3) (q : Fin 32768) : Nat := (h_v21 seg pre (ix2 b q)).toNat
/-- and the last. -/
def last (b : Fin 3) (q : Fin 32768) : Nat := (h_v30 seg pre (ix2 b q)).toNat

theorem first_word (b : Fin 3) (q : Fin 32768) : h_v21 seg pre (ix2 b q) = BitVec.ofNat 32 (first seg pre b q) := by
  unfold first; rw [BitVec.ofNat_toNat]; exact (BitVec.setWidth_eq _).symm
theorem last_word (b : Fin 3) (q : Fin 32768) : h_v30 seg pre (ix2 b q) = BitVec.ofNat 32 (last seg pre b q) := by
  unfold last; rw [BitVec.ofNat_toNat]; exact (BitVec.setWidth_eq _).symm

theorem below_marked (b : Fin 3) (j : Fin 8) : below seg b j + marked seg pre b j ≤ 32768 := by
  unfold below marked
  rw [← Finset.card_union_of_disjoint]
  · exact (Finset.card_le_univ _).trans (by rw [Fintype.card_fin])
  · rw [Finset.disjoint_filter]
    rintro k - h ⟨h', -⟩
    have hj := j.isLt
    rw [h', toInt_small (by omega)] at h
    exact lt_irrefl _ h

theorem first_in (b : Fin 3) (q : Fin 32768) (j : Fin 8) (hj : seg (ix2 b q) = BitVec.ofNat 32 j.val) : first seg pre b q = below seg b j := by
  unfold first
  rw [first_sum, pick _ _ j hj, BitVec.toNat_ofNat, Nat.mod_eq_of_lt]
  have := below_marked seg pre b j; omega
theorem first_out (b : Fin 3) (q : Fin 32768) (hj : ∀ j : Fin 8, ¬ seg (ix2 b q) = BitVec.ofNat 32 j.val) : first seg pre b q = 0 := by
  unfold first
  rw [first_sum, pick_none _ _ hj]; rfl

theorem last_max (b : Fin 3) (q : Fin 32768) : h_v30 seg pre (ix2 b q) = IntOp.maxsi (BitVec.ofNat 32 q.val) (h_v26 seg pre (ix2 b q)) := by
  simp only [h_v30, h_v29, h_v28, h_v27]
  pointwise
theorem pred_ofNat {p : Nat} (hp : 0 < p) : BitVec.ofNat 32 p - 1#32 = BitVec.ofNat 32 (p - 1) := by
  obtain ⟨p, rfl⟩ : ∃ p', p = p' + 1 := ⟨p - 1, by omega⟩
  rw [BitVec.ofNat_add]; simp
theorem last_in (b : Fin 3) (q : Fin 32768) (j : Fin 8) (hj : seg (ix2 b q) = BitVec.ofNat 32 j.val) :
    last seg pre b q = max q.val (below seg b j + marked seg pre b j - 1) := by
  have hb := below_marked seg pre b j
  have hq := q.isLt
  unfold last
  rw [last_max, last_sum, pick _ _ j hj, ← BitVec.ofNat_add]
  generalize below seg b j + marked seg pre b j = p at hb
  rcases Nat.eq_zero_or_pos p with rfl | hp
  · have : IntOp.maxsi (BitVec.ofNat 32 q.val) (BitVec.ofNat 32 0 - 1#32) = BitVec.ofNat 32 q.val := by
      apply BitVec.eq_of_toInt_eq
      rw [Idealize.ShloMosaic.SortNet.toInt_maxsi, toInt_small (by omega), show (BitVec.ofNat 32 0 - 1#32).toInt = -1 from by decide]; omega
    rw [this, BitVec.toNat_ofNat, Nat.mod_eq_of_lt (by omega)]; omega
  · rw [pred_ofNat hp, maxsi_ofNat (by omega) (by omega), BitVec.toNat_ofNat, Nat.mod_eq_of_lt (by omega)]
theorem last_out (b : Fin 3) (q : Fin 32768) (hj : ∀ j : Fin 8, ¬ seg (ix2 b q) = BitVec.ofNat 32 j.val) : last seg pre b q = q.val := by
  have hq := q.isLt
  unfold last
  rw [last_max, last_sum, pick_none _ _ hj, maxsi_ofNat (b := 0) (by omega) (by omega), BitVec.toNat_ofNat, Nat.mod_eq_of_lt (by omega)]; omega

theorem last_ge (b : Fin 3) (q : Fin 32768) : q.val ≤ last seg pre b q := by
  by_cases h : ∃ j : Fin 8, seg (ix2 b q) = BitVec.ofNat 32 j.val
  · obtain ⟨j, hj⟩ := h; rw [last_in seg pre b q j hj]; exact le_max_left _ _
  · rw [last_out seg pre b q (fun j hj => h ⟨j, hj⟩)]
theorem last_lt (b : Fin 3) (q : Fin 32768) : last seg pre b q < 32768 := by
  have hq := q.isLt
  by_cases h : ∃ j : Fin 8, seg (ix2 b q) = BitVec.ofNat 32 j.val
  · obtain ⟨j, hj⟩ := h; have := below_marked seg pre b j; rw [last_in seg pre b q j hj]; omega
  · rw [last_out seg pre b q (fun j hj => h ⟨j, hj⟩)]; exact hq

/-- The segment numbers ascend. -/
def Ascending : Prop := ∀ (b : Fin 3) (k k' : Fin 32768), k ≤ k' → (seg (ix2 b k)).toInt ≤ (seg (ix2 b k')).toInt

theorem first_le (hs : Ascending seg) (b : Fin 3) (q : Fin 32768) : first seg pre b q ≤ q.val := by
  by_cases h : ∃ j : Fin 8, seg (ix2 b q) = BitVec.ofNat 32 j.val
  · obtain ⟨j, hj⟩ := h
    rw [first_in seg pre b q j hj, ← Fin.card_Iio q]
    refine Finset.card_le_card fun k hk => ?_
    rw [Finset.mem_filter] at hk
    rw [Finset.mem_Iio]
    by_contra hc
    have h1 := hs b q k (not_lt.mp hc)
    have hjl := j.isLt
    rw [hj, toInt_small (by omega)] at h1
    have := hk.2
    omega
  · rw [first_out seg pre b q (fun j hj => h ⟨j, hj⟩)]; exact Nat.zero_le _

/-! ## The table's words -/

/-- Row `r` of tile `t`. -/
@[reducible] def row (t : Fin 128) (r : Nat) (h : r < 256 := by omega) : Fin 32768 := ⟨t.val * 256 + r, by have := t.isLt; omega⟩

theorem lo_word (b : Fin 3) (t : Fin 128) (hs : Ascending seg) : h_v58 seg pre (ix3 b t 0) = BitVec.ofNat 32 (first seg pre b (row t 0) / 256) := by
  simp only [h_v58]
  pointwise
  simp only [h_v54]
  pointwise
  simp only [h_v35, h_call2_v11, h_call2_v13, h_call2_v2, h_call2_v6, h_call2_v10, h_call2_v3, h_call2_v5, h_call2_v4, h_call2_v8, h_call2_v9, h_call2_v7, h_call2_v0, h_call2_v1, h_c_6, h_call2_c, h_call2_v12, h_call2_c_0]
  pointwise
  refine floor256 ?_ _ ?_
  · have := first_le seg pre hs b (row t 0); have := (row t 0).isLt; omega
  · simp only [h_v34, h_v33, h_v31]
    pointwise
    exact first_word seg pre b (row t 0)

theorem hi_eq (b : Fin 3) (t : Fin 128) : h_v40 seg pre (ix2 b t) = BitVec.ofNat 32 (last seg pre b (row t 255) / 256 + 1) := by
  simp only [h_v40, h_v39, h_c_8]
  pointwise
  have : h_v38 seg pre (ix2 b t) = BitVec.ofNat 32 (last seg pre b (row t 255) / 256) := by
    simp only [h_v38, h_call3_v11, h_call3_v13, h_call3_v2, h_call3_v6, h_call3_v10, h_call3_v3, h_call3_v5, h_call3_v4, h_call3_v8, h_call3_v9, h_call3_v7, h_call3_v0, h_call3_v1, h_c_7, h_call3_c, h_call3_v12, h_call3_c_0]
    pointwise
    refine floor256 ?_ _ ?_
    · have := last_lt seg pre b (row t 255); omega
    · simp only [h_v37, h_v36, h_v32]
      pointwise
      exact last_word seg pre b (row t 255)
  rw [this, BitVec.ofNat_add]; rfl
theorem hi_word (b : Fin 3) (t : Fin 128) : h_v58 seg pre (ix3 b t 1) = BitVec.ofNat 32 (last seg pre b (row t 255) / 256 + 1) := by
  simp only [h_v58]
  pointwise
  simp only [h_v55]
  pointwise
  exact hi_eq seg pre b t

/-- The first block that every query of the tile sees whole, -/
def fullLo (b : Fin 3) (t : Fin 128) : Nat := min ((first seg pre b (row t 255) + 255) / 256) (last seg pre b (row t 255) / 256 + 1)

theorem full_lo_eq (b : Fin 3) (t : Fin 128) (hs : Ascending seg) : h_v52 seg pre (ix2 b t) = BitVec.ofNat 32 (fullLo seg pre b t) := by
  have h1 := first_le seg pre hs b (row t 255)
  have h2 := (row t 255).isLt
  have h3 := last_lt seg pre b (row t 255)
  simp only [h_v52]
  pointwise
  rw [hi_eq]
  have : h_v47 seg pre (ix2 b t) = BitVec.ofNat 32 ((first seg pre b (row t 255) + 255) / 256) := by
    simp only [h_v47, h_call4_v11, h_call4_v13, h_call4_v2, h_call4_v6, h_call4_v10, h_call4_v3, h_call4_v5, h_call4_v4, h_call4_v8, h_call4_v9, h_call4_v7, h_call4_v0, h_call4_v1, h_c_11, h_call4_c, h_call4_v12, h_call4_c_0]
    pointwise
    refine floor256 ?_ _ ?_
    · omega
    · simp only [h_v46, h_v45, h_v44, h_v43, h_v42, h_v41, h_v31, h_c_10, h_c_9]
      pointwise
      refine (congrArg (fun w => IntOp.subi (IntOp.addi w 256#32) 1#32) (first_word seg pre b (row t 255))).trans ?_
      show BitVec.ofNat 32 _ + 256#32 - 1#32 = _
      rw [← BitVec.ofNat_add, pred_ofNat (by omega)]
      congr 1
  rw [this, minsi_ofNat (by omega) (by omega)]
  rfl
theorem full_lo_word (b : Fin 3) (t : Fin 128) (hs : Ascending seg) : h_v58 seg pre (ix3 b t 2) = BitVec.ofNat 32 (fullLo seg pre b t) := by
  simp only [h_v58]
  pointwise
  simp only [h_v56]
  pointwise
  exact full_lo_eq seg pre b t hs

/-- and the block after the last such. -/
theorem full_hi_word (b : Fin 3) (t : Fin 128) (hs : Ascending seg) :
    ∃ L, h_v58 seg pre (ix3 b t 3) = BitVec.ofNat 32 (max ((L + 1) / 256) (fullLo seg pre b t)) ∧ ∀ r : Fin 256, L ≤ last seg pre b (row t r.val r.isLt) := by
  have hm : ∃ L, h_v48 seg pre (ix2 b t) = BitVec.ofNat 32 L ∧ L ≤ 32767 ∧ ∀ r : Fin 256, L ≤ last seg pre b (row t r.val r.isLt) := by
    unfold h_v48
    beta_reduce
    rw [Host.reduce_eq_fold_single IntOp.minsi _ _ _ (by decide)]
    refine fold_minsi (n := 256) (N := 32767) (by omega) (by omega) (fun r : Fin 256 => last seg pre b (row t r.val r.isLt)) (fun r => ?_) _ fun r => ?_
    · have := last_lt seg pre b (row t r.val r.isLt); omega
    · refine (congrArg (h_v32 seg pre) (lift_tile _ b t r)).trans ?_
      simp only [h_v32]
      pointwise
      exact last_word seg pre b (row t r.val r.isLt)
  obtain ⟨L, h1, h2, h3⟩ := hm
  have h4 := last_lt seg pre b (row t 255)
  refine ⟨L, ?_, h3⟩
  simp only [h_v58]
  pointwise
  simp only [h_v57]
  pointwise
  simp only [h_v53]
  pointwise
  rw [full_lo_eq seg pre b t hs]
  have : h_v51 seg pre (ix2 b t) = BitVec.ofNat 32 ((L + 1) / 256) := by
    simp only [h_v51, h_call5_v11, h_call5_v13, h_call5_v2, h_call5_v6, h_call5_v10, h_call5_v3, h_call5_v5, h_call5_v4, h_call5_v8, h_call5_v9, h_call5_v7, h_call5_v0, h_call5_v1, h_c_14, h_call5_c, h_call5_v12, h_call5_c_0]
    pointwise
    refine floor256 ?_ _ ?_
    · omega
    · simp only [h_v50, h_v49, h_c_13]
      pointwise
      rw [h1, BitVec.ofNat_add]; rfl
  rw [this, maxsi_ofNat (by omega) (by unfold fullLo; omega)]

end Cert.Kernel.Body
-- ==== Proof.Bits.Order.lean ====
/-
The launch's checks hold when the segment numbers ascend.
-/
module

public import proofs.«01_k».proof.Proof.Bits.Spans
public import proofs.«01_k».proof.Defs
public import proofs.«01_k».proof.Proof.Gen.Pre_sorted_segments

@[expose] public section

noncomputable section

namespace Cert.Kernel.Body

open Idealize.ShloMosaic Idealize.ShloMosaic.TcCoe Idealize.SL.Sem Idealize.ShloMosaic.StableHlo
open Cert.Kernel Cert.Kernel.Gen

variable {F : FTy → Type} [FloatOps F]

theorem word_at (T : Vec F S3x128x4 .i32) (o : Fin 3 → Nat) (h : ∀ a, o a + S1x1x1.size a ≤ S3x128x4.size a) (b : Fin 3) (t : Fin 128) (n : Fin 4)
    (h0 : o 0 = b.val) (h1 : o 1 = t.val) (h2 : o 2 = n.val) : word T o h = T (ix3 b t n) := by
  unfold word VecWindow.window
  refine congrArg T (funext fun a => Fin.ext ?_)
  fin_cases a
  · show o 0 + _ = b.val; rw [h0]; rfl
  · show o 1 + _ = t.val; rw [h1]; rfl
  · show o 2 + _ = n.val; rw [h2]; rfl

/-- The sequence and the tile of a grid point. -/
abbrev seqOf (i : grid0.Coords) : Fin 3 := i 0
abbrev tileOf (i : grid0.Coords) : Fin 128 := i 2

theorem word1 (T : Vec F S3x128x4 .i32) (i : grid0.Coords) : word T (k0_off1 i) (k0_off1_inb i) = T (ix3 (seqOf i) (tileOf i) 0) := by
  have h0 : (i 0).val < 3 := (i 0).isLt
  have h2 : (i 2).val < 128 := (i 2).isLt
  exact word_at T _ _ _ _ _ (Nat.mod_eq_of_lt (by omega)) (Nat.mod_eq_of_lt (by omega)) rfl
theorem word2 (T : Vec F S3x128x4 .i32) (i : grid0.Coords) : word T (k0_off2 i) (k0_off2_inb i) = T (ix3 (seqOf i) (tileOf i) 1) := by
  have h0 : (i 0).val < 3 := (i 0).isLt
  have h2 : (i 2).val < 128 := (i 2).isLt
  exact word_at T _ _ _ _ _ (Nat.mod_eq_of_lt (by omega)) (Nat.mod_eq_of_lt (by omega)) rfl
theorem word3 (T : Vec F S3x128x4 .i32) (i : grid0.Coords) : word T (k0_off3 i) (k0_off3_inb i) = T (ix3 (seqOf i) (tileOf i) 2) := by
  have h0 : (i 0).val < 3 := (i 0).isLt
  have h2 : (i 2).val < 128 := (i 2).isLt
  exact word_at T _ _ _ _ _ (Nat.mod_eq_of_lt (by omega)) (Nat.mod_eq_of_lt (by omega)) rfl
theorem word4 (T : Vec F S3x128x4 .i32) (i : grid0.Coords) : word T (k0_off4 i) (k0_off4_inb i) = T (ix3 (seqOf i) (tileOf i) 3) := by
  have h0 : (i 0).val < 3 := (i 0).isLt
  have h2 : (i 2).val < 128 := (i 2).isLt
  exact word_at T _ _ _ _ _ (Nat.mod_eq_of_lt (by omega)) (Nat.mod_eq_of_lt (by omega)) rfl

/-- The table's words at a tile are four block numbers in order. -/
theorem words_ordered (seg : IVec S3x32768 32) (pre : IVec S3x32768 1) (hs : Ascending seg) (b : Fin 3) (t : Fin 128) :
    ∃ lo hi fl fh : Nat, h_v58 seg pre (ix3 b t 0) = BitVec.ofNat 32 lo ∧ h_v58 seg pre (ix3 b t 1) = BitVec.ofNat 32 hi
      ∧ h_v58 seg pre (ix3 b t 2) = BitVec.ofNat 32 fl ∧ h_v58 seg pre (ix3 b t 3) = BitVec.ofNat 32 fh
      ∧ lo ≤ t.val ∧ t.val < hi ∧ hi ≤ 128 ∧ fl ≤ fh ∧ fh ≤ hi := by
  obtain ⟨L, h3, hL⟩ := full_hi_word seg pre b t hs
  refine ⟨_, _, _, _, lo_word seg pre b t hs, hi_word seg pre b t, full_lo_word seg pre b t hs, h3, ?_, ?_, ?_, le_max_right _ _, ?_⟩
  · have h : first seg pre b (row t 0) ≤ t.val * 256 + 0 := first_le seg pre hs b (row t 0)
    omega
  · have h : t.val * 256 + 255 ≤ last seg pre b (row t 255) := last_ge seg pre b (row t 255)
    omega
  · have h := last_lt seg pre b (row t 255)
    omega
  · have h := hL 255
    have h' : L ≤ last seg pre b (row t 255) := h
    unfold fullLo
    omega

theorem checks_of (m : (ℓ : Loc nD τ sig) → Buf (Elt F) ℓ) (hs : Ascending (segOf m 0)) : Checks (table m) := by
  intro i
  have ht : table m = h_v58 (segOf m 0) (preOf m 0) := V_v58 m 0
  rw [word1, word2, word3, word4, ht]
  obtain ⟨lo, hi, fl, fh, e1, e2, e3, e4, h2, h3, h4, h5, h6⟩ := words_ordered (segOf m 0) (preOf m 0) hs (seqOf i) (tileOf i)
  have ht := (tileOf i).isLt
  rw [e1, e2, e3, e4]
  exact ⟨chk3_of (by omega) h4, chk1_of (by omega) (by omega), chk2_of h5 (by omega) h4⟩

/-- Segment numbers that never fall from one key to the next ascend. -/
theorem ascending_of (seg : IVec S3x32768 32)
    (h : ∀ (b : Fin 3) (k : Nat) (hk : k + 1 < 32768), (seg (ix2 b ⟨k, by omega⟩)).toInt ≤ (seg (ix2 b ⟨k + 1, hk⟩)).toInt) : Ascending seg := by
  intro b k k' hkk
  have key : ∀ n (hn : n < 32768), k.val ≤ n → (seg (ix2 b k)).toInt ≤ (seg (ix2 b ⟨n, hn⟩)).toInt := by
    intro n
    induction n with
    | zero => intro hn hk; rw [show k = ⟨0, hn⟩ from Fin.ext (by simpa using hk)]
    | succ n ih =>
      intro hn hk
      rcases Nat.lt_or_ge k.val (n + 1) with hlt | hge
      · exact (ih (by omega) (by omega)).trans (h b n hn)
      · rw [show k = ⟨n + 1, hn⟩ from Fin.ext (by show k.val = n + 1; omega)]
  exact key k'.val k'.isLt hkk

theorem step_of (seg : IVec S3x32768 32) (h0 : S3x32768.Slices ![0, 1] Pre_sorted_segments.S3x32767) (h1 : S3x32768.Slices ![0, 0] Pre_sorted_segments.S3x32767)
    (h : cmpi CmpIPredicate.sge (extractStridedSlice Pre_sorted_segments.S3x32767 ![0, 1] seg h0) (extractStridedSlice Pre_sorted_segments.S3x32767 ![0, 0] seg h1) = fun _ => 1#1) : Ascending seg := by
  refine ascending_of seg fun b k hk => ?_
  have := congrFun h (ix2 b ⟨k, by omega⟩)
  revert this
  pointwise
  intro this
  rw [WordCmp.cmpi_sge_eq, WordCmp.ofBool_decide_eq_one_iff] at this
  simpa [Nat.add_comm] using this

theorem ascending (m : (ℓ : Loc nD τ sig) → Buf (Elt Bits) ℓ) (h : Pre_Kernel m) : Ascending (segOf m 0) := by
  have := h 0
  unfold Pre_sorted_segments.fn at this
  exact step_of _ _ _ this

end Cert.Kernel.Body
-- ==== Proof.Ideal.Head.lean ====
/-
The attention body, one head at a time.

The printed body is eight copies of the same stretch, one per head of the group.  Here the stretch
is written once, over the head's column of the query block, its row of the query scales and the
evidence its store carries, and the printed body is proved to be the prologue followed by the
stretch at each head.
-/
module

public import proofs.«01_k».proof.Proof.Gen.KernelIdeal.Skeleton

@[expose] public section

set_option synthInstance.maxSize 4096

noncomputable section

namespace Cert.KernelIdeal.Body

open Idealize.ShloMosaic Idealize.SL.Sem Cert.KernelIdeal Cert.KernelIdeal.Gen

variable {F : FTy → Type} [FloatOps F] [Named F]
variable [Facts]

/-! ## The pure steps -/

/-- The running maximum of the scores, eight rows of partial maxima, folded with one block of 256. -/
def maxOf256 (acc : FVec F S8x256 .f32) (u : FVec F S256x256 .f32) : FVec F S8x256 .f32 :=
  maximumf acc (multiReduction .maximumf [0] S8x256 (shapeCast S32x8x256 u shapeCasts_S256x256_S32x8x256) 0xFF800000#32
    reduces_S32x8x256_S8x256 (.inl rfl) rfl)

/-- The same with a block of 1024. -/
def maxOf1024 (acc : FVec F S8x256 .f32) (u : FVec F S1024x256 .f32) : FVec F S8x256 .f32 :=
  maximumf acc (multiReduction .maximumf [0] S8x256 (shapeCast S128x8x256 u shapeCasts_S1024x256_S128x8x256) 0xFF800000#32
    reduces_S128x8x256_S8x256 (.inl rfl) rfl)

/-- The scores of a block of 256 keys: the dot products, each times its key's scale. -/
def scores256 (q : FVec F S256x128 .fp8e4m3) (k : Vec F S1x1x256x128 .fp8e4m3) (ks : Vec F S1x1x256x128 .f32) :
    FVec F S256x256 .f32 :=
  mulf (matmul dot_S256x128_S256x128_S256x256_1_1_0_0_n_n none
      (shapeCast S256x128 k shapeCasts_S1x1x256x128_S256x128 : FVec F S256x128 .fp8e4m3) q
      (constant S256x256 .f32 0x00000000#32))
    (concatenate S256x256 1 [⟨S256x128, shapeCast S256x128 ks shapeCasts_S1x1x256x128_S256x128⟩,
      ⟨S256x128, shapeCast S256x128 ks shapeCasts_S1x1x256x128_S256x128⟩] concatenates_S256x128_S256x128_S256x256_d1)

/-- The same for 1024 keys. -/
def scores1024 (q : FVec F S256x128 .fp8e4m3) (k : Vec F S1x1x1024x128 .fp8e4m3) (ks : Vec F S1x1x1024x128 .f32) :
    FVec F S1024x256 .f32 :=
  mulf (matmul dot_S1024x128_S256x128_S1024x256_1_1_0_0_n_n none
      (shapeCast S1024x128 k shapeCasts_S1x1x1024x128_S1024x128 : FVec F S1024x128 .fp8e4m3) q
      (constant S1024x256 .f32 0x00000000#32))
    (concatenate S1024x256 1 [⟨S1024x128, shapeCast S1024x128 ks shapeCasts_S1x1x1024x128_S1024x128⟩,
      ⟨S1024x128, shapeCast S1024x128 ks shapeCasts_S1x1x1024x128_S1024x128⟩] concatenates_S1024x128_S1024x128_S1024x256_d1)

/-- The scores of block `b` (the word the loop counts) with the keys outside the row's interval at
    minus infinity: the key `256 b + r` is kept where its distance from `first`, as an unsigned
    word, is at most the interval's length. -/
def masked256 (first len : IVec S1x256 32) (b : BitVec 32) (s : FVec F S256x256 .f32) : FVec F S256x256 .f32 :=
  select (cmpi .ule (subi (addi (iota .tc S256x256 32 [0] iota_S256x256_d0_w32) (broadcast S256x256 (Scalar.muli b 256#32)))
      (broadcastTo S256x256 first broadcasts_S1x256_S256x256)) (broadcastTo S256x256 len broadcasts_S1x256_S256x256))
    s (broadcast S256x256 (Scalar.ofBits .f32 0xFF800000#32 : F .f32))

/-- The unnormalised probabilities of 1024 keys. -/
def probs1024 (c m : FVec F S1x256 .f32) (u : Vec F S1024x256 .f32) : FVec F S1024x256 .f32 :=
  exp2 (mulf (subf u (broadcastTo S1024x256 m broadcasts_S1x256_S1024x256))
    (broadcastTo S1024x256 c broadcasts_S1x256_S1024x256))

/-- The unnormalised probabilities of 256 keys. -/
def probs256 (c m : FVec F S1x256 .f32) (u : Vec F S256x256 .f32) : FVec F S256x256 .f32 :=
  exp2 (mulf (subf u (broadcastTo S256x256 m broadcasts_S1x256_S256x256))
    (broadcastTo S256x256 c broadcasts_S1x256_S256x256))

/-- The row sums' eight partial sums, with 1024 keys more. -/
def sum1024 (p : FVec F S1024x256 .f32) (l : FVec F S8x256 .f32) : FVec F S8x256 .f32 :=
  addf l (multiReduction .add [0] S8x256 (shapeCast S128x8x256 p shapeCasts_S1024x256_S128x8x256) 0x00000000#32
    reduces_S128x8x256_S8x256 (.inl rfl) rfl)

/-- The row sums' eight partial sums, with 256 keys more. -/
def sum256 (p : FVec F S256x256 .f32) (l : FVec F S8x256 .f32) : FVec F S8x256 .f32 :=
  addf l (multiReduction .add [0] S8x256 (shapeCast S32x8x256 p shapeCasts_S256x256_S32x8x256) 0x00000000#32
    reduces_S32x8x256_S8x256 (.inl rfl) rfl)

/-- The weighted value codes, with 1024 keys more. -/
def weigh1024 (p : FVec F S1024x256 .f32) (vt : Vec F S1x1x128x1024 .fp8e4m3) (acc : FVec F S128x256 .f32) :
    FVec F S128x256 .f32 :=
  addf acc (matmul dot_S128x1024_S1024x256_S128x256_1_0_0_1_n_n none
    (shapeCast S128x1024 vt shapeCasts_S1x1x128x1024_S128x1024 : FVec F S128x1024 .fp8e4m3)
    (truncf .fp8e4m3 (minimumf (mulf p (broadcast S1024x256 (Scalar.ofBits .f32 0x43800000#32 : F .f32)))
      (broadcast S1024x256 (Scalar.ofBits .f32 0x43E00000#32 : F .f32))) bitsLt_fp8e4m3_f32)
    (constant S128x256 .f32 0x00000000#32))

/-- The weighted value codes, with 256 keys more. -/
def weigh256 (p : FVec F S256x256 .f32) (vt : Vec F S1x1x128x256 .fp8e4m3) (acc : FVec F S128x256 .f32) :
    FVec F S128x256 .f32 :=
  addf acc (matmul dot_S128x256_S256x256_S128x256_1_0_0_1_n_n none
    (shapeCast S128x256 vt shapeCasts_S1x1x128x256_S128x256 : FVec F S128x256 .fp8e4m3)
    (truncf .fp8e4m3 (minimumf (mulf p (broadcast S256x256 (Scalar.ofBits .f32 0x43800000#32 : F .f32)))
      (broadcast S256x256 (Scalar.ofBits .f32 0x43E00000#32 : F .f32))) bitsLt_fp8e4m3_f32)
    (constant S128x256 .f32 0x00000000#32))

/-- The carries of the value loops: the weighted codes and the row sums. -/
abbrev Carry (F : FTy → Type) := FVec F S128x256 .f32 × FVec F S8x256 .f32

/-! ## The trips -/

/-- A trip of a score loop: read the block's codes and scales, put its scores `U` down in the
    scratch, fold the maximum. -/
def scoreTrip (arg6 : Memref sig .tc .vmem S1x1x32768x128 .fp8e4m3) (arg7 : Memref sig .tc .vmem S1x1x32768x128 .f32)
    (arg13 : Memref sig .tc .vmem S32768x256 .f32) {n4 : Fin 4 → Nat} {n2 : Fin 2 → Nat}
    (p4 : 0 < (Shape.mk 4 n4).numel) (p2 : 0 < (Shape.mk 2 n2).numel)
    (o4 : Fin 4 → Nat) (h4 : ∀ a, o4 a + n4 a ≤ S1x1x32768x128.size a)
    (o2 : Fin 2 → Nat) (h2 : ∀ a, o2 a + n2 a ≤ S32768x256.size a)
    (U : Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32) (acc : FVec F S8x256 .f32) :
    Prog (TpuEff nD τ sig (Elt F) Λ₀ .tc) (FVec F S8x256 .f32) := do
  let k : Vec F (Shape.mk 4 n4) .fp8e4m3 ← Prog.lift (.load arg6 (Rect.unit (s := S1x1x32768x128) o4 n4 h4).toLoadRect (View.loadsAt_vmem p4))
  let ks : Vec F (Shape.mk 4 n4) .f32 ← Prog.lift (.load arg7 (Rect.unit (s := S1x1x32768x128) o4 n4 h4).toLoadRect (View.loadsAt_vmem p4))
  let _ : Vec F (Shape.mk 2 n2) .f32 ← Prog.lift (.load arg13 (Rect.unit (s := S32768x256) o2 n2 h2).toLoadRect (View.loadsAt_vmem p2))
  Prog.lift (.store arg13 (Rect.unit (s := S32768x256) o2 n2 h2) (shapeCast (Shape.mk 2 n2) (U k ks) hU) Finset.univ
    (View.stores_vmem_bits_univ p2 rfl) (.inl rfl))
  pure (up acc (U k ks))

/-- A trip of a value loop: read the block's scores back and its value codes, add them in. -/
def valueTrip (arg8 : Memref sig .tc .vmem S1x1x128x32768 .fp8e4m3) (arg13 : Memref sig .tc .vmem S32768x256 .f32)
    {n4 : Fin 4 → Nat} {n2 : Fin 2 → Nat}
    (p4 : 0 < (Shape.mk 4 n4).numel) (p2 : 0 < (Shape.mk 2 n2).numel)
    (o2 : Fin 2 → Nat) (h2 : ∀ a, o2 a + n2 a ≤ S32768x256.size a)
    (o4 : Fin 4 → Nat) (h4 : ∀ a, o4 a + n4 a ≤ S1x1x128x32768.size a)
    (up : Carry F → Vec F (Shape.mk 2 n2) .f32 → Vec F (Shape.mk 4 n4) .fp8e4m3 → Carry F) (acc : Carry F) :
    Prog (TpuEff nD τ sig (Elt F) Λ₀ .tc) (Carry F) := do
  let u : Vec F (Shape.mk 2 n2) .f32 ← Prog.lift (.load arg13 (Rect.unit (s := S32768x256) o2 n2 h2).toLoadRect (View.loadsAt_vmem p2))
  let vt : Vec F (Shape.mk 4 n4) .fp8e4m3 ← Prog.lift (.load arg8 (Rect.unit (s := S1x1x128x32768) o4 n4 h4).toLoadRect (View.loadsAt_vmem p4))
  pure (up acc u vt)

/-! ## The stages of a head -/

section Stages
variable (arg4 : Memref sig .tc .vmem S1x256x1024 .fp8e4m3) (arg5 : Memref sig .tc .vmem S1x8x256 .f32)
  (arg6 : Memref sig .tc .vmem S1x1x32768x128 .fp8e4m3) (arg7 : Memref sig .tc .vmem S1x1x32768x128 .f32)
  (arg8 : Memref sig .tc .vmem S1x1x128x32768 .fp8e4m3) (arg9 : Memref sig .tc .vmem S1x1x1x128 .f32)
  (arg12 : Memref sig .tc .vmem S1x256x1024 .bf16) (harg12 : arg12.IsWhole)
  (arg13 : Memref sig .tc .vmem S32768x256 .f32)
  (v2 v5 : BitVec 32) (hw3 : k0_chk3 v2 v5) (v8 : BitVec 32) (hw1 : k0_chk1 v2 v8) (v11 : BitVec 32) (hw2 : k0_chk2 v5 v8 v11)
  (first len : IVec S1x256 32)

/-- The score stage: the partly visible blocks before, the fully visible ones by fours and singly,
    the partly visible ones after; each loop is followed by its empty remainder loop. -/
def scoreStage (q : FVec F S256x128 .fp8e4m3) : Prog (TpuEff nD τ sig (Elt F) Λ₀ .tc) (FVec F S8x256 .f32) := do
  let a1 : FVec F S8x256 .f32 ← Scf.Loop.for (k0_t1_loop v2 v8) (k0_t1_ok v2 v8 hw1)
    (broadcast S8x256 (Scalar.ofBits .f32 0xFF800000#32 : F .f32)) fun t acc =>
      scoreTrip arg6 arg7 arg13 h_S1x1x256x128 h_S256x256 (k0_off5 v2 v8 t) (k0_off5_inb v2 v8 hw1 t) (k0_off6 v2 v8 t) (k0_off6_inb v2 v8 hw1 t)
        (fun k ks => masked256 first len (Scf.iv v2 1#32 t) (scores256 q k ks)) shapeCasts_S256x256_S256x256 maxOf256 acc
  let a2 : FVec F S8x256 .f32 ← Scf.Loop.for (k0_t2_loop v2 v8) (k0_t2_ok v2 v8 hw1) a1 fun t acc =>
      scoreTrip arg6 arg7 arg13 h_S1x1x256x128 h_S256x256 (k0_off7 v2 v8 t) (k0_off7_inb v2 v8 hw1 t) (k0_off8 v2 v8 t) (k0_off8_inb v2 v8 hw1 t)
        (fun k ks => masked256 first len (Scf.iv (k0_t2_loop v2 v8).lb 1#32 t) (scores256 q k ks)) shapeCasts_S256x256_S256x256 maxOf256 acc
  let a3 : FVec F S8x256 .f32 ← Scf.Loop.for (k0_t3_loop v8 v11) (k0_t3_ok v5 v8 v11 hw2) a2 fun t acc =>
      scoreTrip arg6 arg7 arg13 h_S1x1x1024x128 h_S1024x256 (k0_off9 v8 v11 t) (k0_off9_inb v5 v8 v11 hw2 t) (k0_off10 v8 v11 t) (k0_off10_inb v5 v8 v11 hw2 t)
        (scores1024 q) shapeCasts_S1024x256_S1024x256 maxOf1024 acc
  let a4 : FVec F S8x256 .f32 ← Scf.Loop.for (k0_t4_loop v8 v11) (k0_t4_ok v5 v8 v11 hw2) a3 fun t acc =>
      scoreTrip arg6 arg7 arg13 h_S1x1x1024x128 h_S1024x256 (k0_off11 v8 v11 t) (k0_off11_inb v5 v8 v11 hw2 t) (k0_off12 v8 v11 t) (k0_off12_inb v5 v8 v11 hw2 t)
        (scores1024 q) shapeCasts_S1024x256_S1024x256 maxOf1024 acc
  let a5 : FVec F S8x256 .f32 ← Scf.Loop.for (k0_t5_loop v8 v11) (k0_t5_ok v5 v8 v11 hw2) a4 fun t acc =>
      scoreTrip arg6 arg7 arg13 h_S1x1x256x128 h_S256x256 (k0_off13 v8 v11 t) (k0_off13_inb v5 v8 v11 hw2 t) (k0_off14 v8 v11 t) (k0_off14_inb v5 v8 v11 hw2 t)
        (scores256 q) shapeCasts_S256x256_S256x256 maxOf256 acc
  let a6 : FVec F S8x256 .f32 ← Scf.Loop.for (k0_t6_loop v8 v11) (k0_t6_ok v5 v8 v11 hw2) a5 fun t acc =>
      scoreTrip arg6 arg7 arg13 h_S1x1x256x128 h_S256x256 (k0_off15 v8 v11 t) (k0_off15_inb v5 v8 v11 hw2 t) (k0_off16 v8 v11 t) (k0_off16_inb v5 v8 v11 hw2 t)
        (scores256 q) shapeCasts_S256x256_S256x256 maxOf256 acc
  let a7 : FVec F S8x256 .f32 ← Scf.Loop.for (k0_t7_loop v5 v11) (k0_t7_ok v5 v8 v11 hw2) a6 fun t acc =>
      scoreTrip arg6 arg7 arg13 h_S1x1x256x128 h_S256x256 (k0_off17 v5 v11 t) (k0_off17_inb v5 v8 v11 hw2 t) (k0_off18 v5 v11 t) (k0_off18_inb v5 v8 v11 hw2 t)
        (fun k ks => masked256 first len (Scf.iv v11 1#32 t) (scores256 q k ks)) shapeCasts_S256x256_S256x256 maxOf256 acc
  let a8 : FVec F S8x256 .f32 ← Scf.Loop.for (k0_t8_loop v5 v11) (k0_t8_ok v5 v8 v11 hw2) a7 fun t acc =>
      scoreTrip arg6 arg7 arg13 h_S1x1x256x128 h_S256x256 (k0_off19 v5 v11 t) (k0_off19_inb v5 v8 v11 hw2 t) (k0_off20 v5 v11 t) (k0_off20_inb v5 v8 v11 hw2 t)
        (fun k ks => masked256 first len (Scf.iv (k0_t8_loop v5 v11).lb 1#32 t) (scores256 q k ks)) shapeCasts_S256x256_S256x256 maxOf256 acc
  pure a8

/-- The value stage: the visited blocks by fours and singly, each loop followed by its empty
    remainder loop. -/
def valueStage (c m : FVec F S1x256 .f32) : Prog (TpuEff nD τ sig (Elt F) Λ₀ .tc) (Carry F) := do
  let b1 : Carry F ← Scf.Loop.for (k0_t9_loop v2 v5) (k0_t9_ok v2 v5 hw3)
    (broadcast S128x256 (Scalar.ofBits .f32 0x00000000#32 : F .f32), broadcast S8x256 (Scalar.ofBits .f32 0x00000000#32 : F .f32)) fun t acc =>
      valueTrip arg8 arg13 h_S1x1x128x1024 h_S1024x256 (k0_off21 v2 v5 t) (k0_off21_inb v2 v5 hw3 t) (k0_off22 v2 v5 t) (k0_off22_inb v2 v5 hw3 t)
        (fun a u vt => (weigh1024 (probs1024 c m u) vt a.1, sum1024 (probs1024 c m u) a.2)) acc
  let b2 : Carry F ← Scf.Loop.for (k0_t10_loop v2 v5) (k0_t10_ok v2 v5 hw3) b1 fun t acc =>
      valueTrip arg8 arg13 h_S1x1x128x1024 h_S1024x256 (k0_off23 v2 v5 t) (k0_off23_inb v2 v5 hw3 t) (k0_off24 v2 v5 t) (k0_off24_inb v2 v5 hw3 t)
        (fun a u vt => (weigh1024 (probs1024 c m u) vt a.1, sum1024 (probs1024 c m u) a.2)) acc
  let b3 : Carry F ← Scf.Loop.for (k0_t11_loop v2 v5) (k0_t11_ok v2 v5 hw3) b2 fun t acc =>
      valueTrip arg8 arg13 h_S1x1x128x256 h_S256x256 (k0_off25 v2 v5 t) (k0_off25_inb v2 v5 hw3 t) (k0_off26 v2 v5 t) (k0_off26_inb v2 v5 hw3 t)
        (fun a u vt => (weigh256 (probs256 c m u) vt a.1, sum256 (probs256 c m u) a.2)) acc
  let b4 : Carry F ← Scf.Loop.for (k0_t12_loop v2 v5) (k0_t12_ok v2 v5 hw3) b3 fun t acc =>
      valueTrip arg8 arg13 h_S1x1x128x256 h_S256x256 (k0_off27 v2 v5 t) (k0_off27_inb v2 v5 hw3 t) (k0_off28 v2 v5 t) (k0_off28_inb v2 v5 hw3 t)
        (fun a u vt => (weigh256 (probs256 c m u) vt a.1, sum256 (probs256 c m u) a.2)) acc
  pure b4

/-- The query scales times the softmax scale and the base change of the exponential. -/
def queryScale (v : Vec F S1x1x256 .f32) : FVec F S1x256 .f32 :=
  mulf (shapeCast S1x256 v shapeCasts_S1x1x256_S1x256) (broadcast S1x256 (Named.named κ "scale_log2e" 0x3E0293EE#32 : F .f32))

/-- The row maxima out of the eight partial maxima. -/
def rowMax (a : FVec F S8x256 .f32) : FVec F S1x256 .f32 :=
  shapeCast S1x256 (multiReduction .maximumf [0] S256 a 0xFF800000#32 reduces_S8x256_S256 (.inl rfl) rfl) shapeCasts_S256_S1x256

/-- The block a head writes: the weighted codes times the value scales, divided by the row sums. -/
def outBlock (b : Carry F) (vs : Vec F S1x1x1x128 .f32) : FVec F S256x128 .bf16 :=
  truncf .bf16 (transpose S256x128 [1, 0]
    (divf (mulf b.1 (broadcastTo S128x256
        (mulf (transpose S128x1 [1, 0] (shapeCast S1x128 vs shapeCasts_S1x1x1x128_S1x128) transposes_S1x128_p1_0_S128x1)
          (broadcast S128x1 (Scalar.ofBits .f32 0x3B800000#32 : F .f32))) broadcasts_S128x1_S128x256))
      (broadcastTo S128x256 (shapeCast S1x256 (multiReduction .add [0] S256 b.2 0x00000000#32 reduces_S8x256_S256 (.inl rfl) rfl)
        shapeCasts_S256_S1x256) broadcasts_S1x256_S128x256))
    transposes_S128x256_p1_0_S256x128) bitsLt_bf16_f32

/-- One head: its queries at column offset `oq`, its query scales at row offset `os`. -/
def head (oq : Fin 3 → Nat) (hq : ∀ a, oq a + S1x256x128.size a ≤ S1x256x1024.size a)
    (pq : (Rect.unit (s := S1x256x1024) oq S1x256x128.size hq).PackedRows (EltTy.packing .bf16))
    (os : Fin 3 → Nat) (hs : ∀ a, os a + S1x1x256.size a ≤ S1x8x256.size a) :
    Prog (TpuEff nD τ sig (Elt F) Λ₀ .tc) PUnit := do
  let q : Vec F S1x256x128 .fp8e4m3 ← Prog.lift (.load arg4 (Rect.unit (s := S1x256x1024) oq S1x256x128.size hq).toLoadRect (View.loadsAt_vmem h_S1x256x128))
  let qs : Vec F S1x1x256 .f32 ← Prog.lift (.load arg5 (Rect.unit (s := S1x8x256) os S1x1x256.size hs).toLoadRect (View.loadsAt_vmem h_S1x1x256))
  let a ← scoreStage arg6 arg7 arg13 v2 v5 v8 hw1 v11 hw2 first len (shapeCast S256x128 q shapeCasts_S1x256x128_S256x128)
  let b ← valueStage arg8 arg13 v2 v5 hw3 (queryScale qs) (rowMax a)
  let vs : Vec F S1x1x1x128 .f32 ← Prog.lift (.load arg9 (Rect.unit (s := S1x1x1x128) ![0, 0, 0, 0] S1x1x1x128.size inb_S1x1x1x128_S1x1x1x128_0_0_0_0).toLoadRect (View.loadsAt_vmem h_S1x1x1x128))
  let _ : Vec F S1x256x128 .bf16 ← Prog.lift (.load arg12 (Rect.unit (s := S1x256x1024) oq S1x256x128.size hq).toLoadRect (View.loadsAt_vmem h_S1x256x128))
  Prog.lift (.store arg12 (Rect.unit (s := S1x256x1024) oq S1x256x128.size hq) (shapeCast S1x256x128 (outBlock b vs) shapeCasts_S256x128_S1x256x128) Finset.univ
    (View.stores_vmem h_S1x256x128 (harg12.storeExact_slice rfl _ pq) (fun _ => rfl)) (.inl rfl))

/-- The eight heads of the group, in turn. -/
def heads : Prog (TpuEff nD τ sig (Elt F) Λ₀ .tc) PUnit := do
  head arg4 arg5 arg6 arg7 arg8 arg9 arg12 harg12 arg13 v2 v5 hw3 v8 hw1 v11 hw2 first len
    ![0, 0, 0] inb_S1x256x1024_S1x256x128_0_0_0 packedbf16_S1x256x1024_S1x256x128_0_0_0 ![0, 0, 0] inb_S1x8x256_S1x1x256_0_0_0
  head arg4 arg5 arg6 arg7 arg8 arg9 arg12 harg12 arg13 v2 v5 hw3 v8 hw1 v11 hw2 first len
    ![0, 0, 128] inb_S1x256x1024_S1x256x128_0_0_128 packedbf16_S1x256x1024_S1x256x128_0_0_128 ![0, 1, 0] inb_S1x8x256_S1x1x256_0_1_0
  head arg4 arg5 arg6 arg7 arg8 arg9 arg12 harg12 arg13 v2 v5 hw3 v8 hw1 v11 hw2 first len
    ![0, 0, 256] inb_S1x256x1024_S1x256x128_0_0_256 packedbf16_S1x256x1024_S1x256x128_0_0_256 ![0, 2, 0] inb_S1x8x256_S1x1x256_0_2_0
  head arg4 arg5 arg6 arg7 arg8 arg9 arg12 harg12 arg13 v2 v5 hw3 v8 hw1 v11 hw2 first len
    ![0, 0, 384] inb_S1x256x1024_S1x256x128_0_0_384 packedbf16_S1x256x1024_S1x256x128_0_0_384 ![0, 3, 0] inb_S1x8x256_S1x1x256_0_3_0
  head arg4 arg5 arg6 arg7 arg8 arg9 arg12 harg12 arg13 v2 v5 hw3 v8 hw1 v11 hw2 first len
    ![0, 0, 512] inb_S1x256x1024_S1x256x128_0_0_512 packedbf16_S1x256x1024_S1x256x128_0_0_512 ![0, 4, 0] inb_S1x8x256_S1x1x256_0_4_0
  head arg4 arg5 arg6 arg7 arg8 arg9 arg12 harg12 arg13 v2 v5 hw3 v8 hw1 v11 hw2 first len
    ![0, 0, 640] inb_S1x256x1024_S1x256x128_0_0_640 packedbf16_S1x256x1024_S1x256x128_0_0_640 ![0, 5, 0] inb_S1x8x256_S1x1x256_0_5_0
  head arg4 arg5 arg6 arg7 arg8 arg9 arg12 harg12 arg13 v2 v5 hw3 v8 hw1 v11 hw2 first len
    ![0, 0, 768] inb_S1x256x1024_S1x256x128_0_0_768 packedbf16_S1x256x1024_S1x256x128_0_0_768 ![0, 6, 0] inb_S1x8x256_S1x1x256_0_6_0
  head arg4 arg5 arg6 arg7 arg8 arg9 arg12 harg12 arg13 v2 v5 hw3 v8 hw1 v11 hw2 first len
    ![0, 0, 896] inb_S1x256x1024_S1x256x128_0_0_896 packedbf16_S1x256x1024_S1x256x128_0_0_896 ![0, 7, 0] inb_S1x8x256_S1x1x256_0_7_0

end Stages

/-- The body: the four words of the visibility table and the rows' intervals, then the heads. -/
def body (i : grid0.Coords) (arg3 : Memref sig .tc .smem S3x128x4 .i32)
    (arg4 : Memref sig .tc .vmem S1x256x1024 .fp8e4m3) (arg5 : Memref sig .tc .vmem S1x8x256 .f32)
    (arg6 : Memref sig .tc .vmem S1x1x32768x128 .fp8e4m3) (arg7 : Memref sig .tc .vmem S1x1x32768x128 .f32)
    (arg8 : Memref sig .tc .vmem S1x1x128x32768 .fp8e4m3) (arg9 : Memref sig .tc .vmem S1x1x1x128 .f32)
    (arg10 arg11 : Memref sig .tc .vmem S1x1x256 .i32)
    (arg12 : Memref sig .tc .vmem S1x256x1024 .bf16) (harg12 : arg12.IsWhole)
    (arg13 : Memref sig .tc .vmem S32768x256 .f32) : Prog (TpuEff nD τ sig (Elt F) Λ₀ .tc) PUnit := do
  let v2 : Elt F .i32 ← smemLoad arg3 (Rect.unit (s := S3x128x4) (k0_off1 i) S1x1x1.size (k0_off1_inb i)) numel1_S1x1x1 rfl
  let v5 : Elt F .i32 ← smemLoad arg3 (Rect.unit (s := S3x128x4) (k0_off2 i) S1x1x1.size (k0_off2_inb i)) numel1_S1x1x1 rfl
  let hw3 ← Prog.lift (TpuEff.assume (k0_chk3 v2 v5) (k0_chk3.dec v2 v5))
  let v8 : Elt F .i32 ← smemLoad arg3 (Rect.unit (s := S3x128x4) (k0_off3 i) S1x1x1.size (k0_off3_inb i)) numel1_S1x1x1 rfl
  let hw1 ← Prog.lift (TpuEff.assume (k0_chk1 v2 v8) (k0_chk1.dec v2 v8))
  let v11 : Elt F .i32 ← smemLoad arg3 (Rect.unit (s := S3x128x4) (k0_off4 i) S1x1x1.size (k0_off4_inb i)) numel1_S1x1x1 rfl
  let hw2 ← Prog.lift (TpuEff.assume (k0_chk2 v5 v8 v11) (k0_chk2.dec v5 v8 v11))
  let v12 : Vec F S1x1x256 .i32 ← Prog.lift (.load arg10 (Rect.unit (s := S1x1x256) ![0, 0, 0] S1x1x256.size inb_S1x1x256_S1x1x256_0_0_0).toLoadRect (View.loadsAt_vmem h_S1x1x256))
  let v14 : Vec F S1x1x256 .i32 ← Prog.lift (.load arg11 (Rect.unit (s := S1x1x256) ![0, 0, 0] S1x1x256.size inb_S1x1x256_S1x1x256_0_0_0).toLoadRect (View.loadsAt_vmem h_S1x1x256))
  let first := shapeCast S1x256 v12 shapeCasts_S1x1x256_S1x256
  let len := subi (shapeCast S1x256 v14 shapeCasts_S1x1x256_S1x256) first
  heads arg4 arg5 arg6 arg7 arg8 arg9 arg12 harg12 arg13 v2 v5 hw3.down v8 hw1.down v11 hw2.down first len

set_option maxHeartbeats 4000000 in
set_option maxRecDepth 65536 in
/-- The printed body is this one. -/
theorem attention_eq (i : grid0.Coords) (arg3 : Memref sig .tc .smem S3x128x4 .i32) (harg3 : arg3.IsWhole)
    (arg4 : Memref sig .tc .vmem S1x256x1024 .fp8e4m3) (harg4 : arg4.IsWhole) (arg5 : Memref sig .tc .vmem S1x8x256 .f32) (harg5 : arg5.IsWhole)
    (arg6 : Memref sig .tc .vmem S1x1x32768x128 .fp8e4m3) (harg6 : arg6.IsWhole) (arg7 : Memref sig .tc .vmem S1x1x32768x128 .f32) (harg7 : arg7.IsWhole)
    (arg8 : Memref sig .tc .vmem S1x1x128x32768 .fp8e4m3) (harg8 : arg8.IsWhole) (arg9 : Memref sig .tc .vmem S1x1x1x128 .f32) (harg9 : arg9.IsWhole)
    (arg10 : Memref sig .tc .vmem S1x1x256 .i32) (harg10 : arg10.IsWhole) (arg11 : Memref sig .tc .vmem S1x1x256 .i32) (harg11 : arg11.IsWhole)
    (arg12 : Memref sig .tc .vmem S1x256x1024 .bf16) (harg12 : arg12.IsWhole)
    (arg13 : Memref sig .tc .vmem S32768x256 .f32) (harg13 : arg13.IsWhole) :
    cc0_attention (F := F) i arg3 harg3 arg4 harg4 arg5 harg5 arg6 harg6 arg7 harg7 arg8 harg8 arg9 harg9 arg10 harg10 arg11 harg11 arg12 harg12 arg13 harg13
      = body i arg3 arg4 arg5 arg6 arg7 arg8 arg9 arg10 arg11 arg12 harg12 arg13 := by
  rw [cc0_attention_eq_skeleton]
  simp only [cc0_attention_skel, k0_part23_eq_skeleton, k0_part23_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, body, heads, head, scoreStage, valueStage, bind_assoc, pure_bind, Prog.bind_assoc]
  rfl

end Cert.KernelIdeal.Body
-- ==== Proof.Ideal.Triple.lean ====
/-
What a body computes, as a function of the blocks it reads.

Each loop is a fold of its trip over the scratch and the carried values (`upto`); the stages, the
heads and the body are compositions of these folds, and each program stretch of Head.lean is proved
to leave exactly what its fold says.
-/
module

public import proofs.«01_k».proof.Proof.Ideal.Head
public import Idealize.ShloMosaic.Lib.Pipeline.FrameBody
public import Idealize.ShloMosaic.Lib.Tactic
public import Idealize.ShloMosaic.Lib.Exec
public import Idealize.ShloMosaic.Lib.VecWindow

@[expose] public section

set_option synthInstance.maxSize 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! ## Folds -/

/-- The first `k` of the steps, from `s`. -/
def upto {n : ℕ} {S : Type} (step : Fin n → S → S) (s : S) : ℕ → S
  | 0 => s
  | k + 1 => if h : k < n then step ⟨k, h⟩ (upto step s k) else upto step s k

theorem upto_succ {n : ℕ} {S : Type} (step : Fin n → S → S) (s : S) (k : Fin n) :
    upto step s (k.val + 1) = step k (upto step s k.val) := dif_pos k.isLt

/-- A property the steps carry forward holds after any number of them. -/
theorem upto_induction {n : ℕ} {S : Type} (step : Fin n → S → S) (s : S) (I : ℕ → S → Prop) (h0 : I 0 s)
    (hs : ∀ (k : Fin n) (x : S), I k.val x → I (k.val + 1) (step k x)) : ∀ k ≤ n, I k (upto step s k)
  | 0, _ => h0
  | k + 1, hk => by
    rw [upto_succ step s ⟨k, hk⟩]
    exact hs ⟨k, hk⟩ _ (upto_induction step s I h0 hs k (by omega))

/-- The scratch's contents. -/
abbrev Scratch (F : FTy → Type) := Vec F S32768x256 .f32

/-! ## Trips and loops -/

section Rules
variable {n4 : Fin 4 → Nat} {n2 : Fin 2 → Nat}

/-- What a trip of a score loop does to the scratch and the maxima. -/
def scoreStep (x6 : Vec F S1x1x32768x128 .fp8e4m3) (x7 : Vec F S1x1x32768x128 .f32)
    (o4 : Fin 4 → Nat) (h4 : ∀ a, o4 a + n4 a ≤ S1x1x32768x128.size a) (o2 : Fin 2 → Nat)
    (U : Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) : Scratch F × FVec F S8x256 .f32 :=
  (VecWindow.put s.1 o2 n2 (shapeCast (Shape.mk 2 n2)
      (U (VecWindow.window (s := S1x1x32768x128) x6 o4 n4 h4) (VecWindow.window (s := S1x1x32768x128) x7 o4 n4 h4)) hU),
    up s.2 (U (VecWindow.window (s := S1x1x32768x128) x6 o4 n4 h4) (VecWindow.window (s := S1x1x32768x128) x7 o4 n4 h4)))

variable (c : Dev nD) (E : Set ℕ) (arg6 : Memref sig .tc .vmem S1x1x32768x128 .fp8e4m3) (arg7 : Memref sig .tc .vmem S1x1x32768x128 .f32)
  (arg8 : Memref sig .tc .vmem S1x1x128x32768 .fp8e4m3) (arg13 : Memref sig .tc .vmem S32768x256 .f32)
  (x6 : Vec F S1x1x32768x128 .fp8e4m3) (x7 : Vec F S1x1x32768x128 .f32) (x8 : Vec F S1x1x128x32768 .fp8e4m3)
  (p4 : 0 < (Shape.mk 4 n4).numel) (p2 : 0 < (Shape.mk 2 n2).numel)

theorem wp_scoreTrip (o4 : Fin 4 → Nat) (h4 : ∀ a, o4 a + n4 a ≤ S1x1x32768x128.size a)
    (o2 : Fin 2 → Nat) (h2 : ∀ a, o2 a + n2 a ≤ S32768x256.size a)
    (U : Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) (K : FVec F S8x256 .f32 → sProp 𝕄) :
    iprop(owns (c : Thread nD τ) arg6 fullShare x6 ∗ owns (c : Thread nD τ) arg7 fullShare x7 ∗ owns (c : Thread nD τ) arg13 fullShare s.1
        ∗ (iprop(owns (c : Thread nD τ) arg6 fullShare x6 ∗ owns (c : Thread nD τ) arg7 fullShare x7
            ∗ owns (c : Thread nD τ) arg13 fullShare (scoreStep x6 x7 o4 h4 o2 U hU up s).1) -∗ K (scoreStep x6 x7 o4 h4 o2 U hU up s).2))
      ⊢ wp frame (wpE (defs₀ (F := F)) Variants.none c none) E (scoreTrip arg6 arg7 arg13 p4 p2 o4 h4 o2 h2 U hU up s.2) K := by
  obtain ⟨g, acc⟩ := s
  unfold scoreTrip owns
  iintro ⟨⟨%f6, %hf6, H6⟩, ⟨%f7, %hf7, H7⟩, ⟨%f13, %hf13, H13⟩, Hk⟩
  subst hf6 hf7
  simp only at hf13
  subst hf13
  sl_exec
  sl_step
  dsimp only [scoreStep]
  rw [View.readAt_unit arg6.view f6 h4 rfl h4, View.readAt_unit arg7.view f7 h4 rfl h4]
  iapply Hk
  isplitl [H6]
  · iexists f6; isplitr; · ipureintro; rfl
    iexact H6
  isplitl [H7]
  · iexists f7; isplitr; · ipureintro; rfl
    iexact H7
  iexists _; isplitr
  swap; · iexact H13
  ipureintro
  rw [View.read_writes_cons_put _ _ _ _ _ rfl]
  rfl

/-- What a trip of a value loop does to the carries. -/
def valueStep (x8 : Vec F S1x1x128x32768 .fp8e4m3) (g : Scratch F)
    (o2 : Fin 2 → Nat) (h2 : ∀ a, o2 a + n2 a ≤ S32768x256.size a)
    (o4 : Fin 4 → Nat) (h4 : ∀ a, o4 a + n4 a ≤ S1x1x128x32768.size a)
    (up : Carry F → Vec F (Shape.mk 2 n2) .f32 → Vec F (Shape.mk 4 n4) .fp8e4m3 → Carry F) (acc : Carry F) : Carry F :=
  up acc (VecWindow.window (s := S32768x256) g o2 n2 h2) (VecWindow.window (s := S1x1x128x32768) x8 o4 n4 h4)

theorem wp_valueTrip (g : Scratch F) (o2 : Fin 2 → Nat) (h2 : ∀ a, o2 a + n2 a ≤ S32768x256.size a)
    (o4 : Fin 4 → Nat) (h4 : ∀ a, o4 a + n4 a ≤ S1x1x128x32768.size a)
    (up : Carry F → Vec F (Shape.mk 2 n2) .f32 → Vec F (Shape.mk 4 n4) .fp8e4m3 → Carry F) (acc : Carry F)
    (K : Carry F → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g) -∗ K (valueStep x8 g o2 h2 o4 h4 up acc)))
      ⊢ wp frame (wpE (defs₀ (F := F)) Variants.none c none) E (valueTrip arg8 arg13 p4 p2 o2 h2 o4 h4 up acc) K := by
  unfold valueTrip owns
  iintro ⟨⟨%f8, %hf8, H8⟩, ⟨%f13, %hf13, H13⟩, Hk⟩
  subst hf8 hf13
  sl_exec
  sl_step
  dsimp only [valueStep]
  rw [View.readAt_unit arg8.view f8 h4 rfl h4, View.readAt_unit arg13.view f13 h2 rfl h2]
  iapply Hk
  isplitl [H8]
  · iexists f8; isplitr; · ipureintro; rfl
    iexact H8
  iexists f13; isplitr; · ipureintro; rfl
  iexact H13

/-- A score loop leaves its fold. -/
theorem wp_scoreLoop (L : Scf.Loop 32) (ok : L.OK) (o4 : Fin L.trips → Fin 4 → Nat) (h4 : ∀ t a, o4 t a + n4 a ≤ S1x1x32768x128.size a)
    (o2 : Fin L.trips → Fin 2 → Nat) (h2 : ∀ t a, o2 t a + n2 a ≤ S32768x256.size a)
    (U : Fin L.trips → Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) {β : Type} (kk : FVec F S8x256 .f32 → Prog (TpuEff nD τ sig (Elt F) Λ₀ .tc) β) (K : β → sProp 𝕄) :
    iprop(owns (c : Thread nD τ) arg6 fullShare x6 ∗ owns (c : Thread nD τ) arg7 fullShare x7 ∗ owns (c : Thread nD τ) arg13 fullShare s.1
        ∗ (iprop(owns (c : Thread nD τ) arg6 fullShare x6 ∗ owns (c : Thread nD τ) arg7 fullShare x7
            ∗ owns (c : Thread nD τ) arg13 fullShare (upto (fun t => scoreStep x6 x7 (o4 t) (h4 t) (o2 t) (U t) hU up) s L.trips).1)
            -∗ wp frame (wpE (defs₀ (F := F)) Variants.none c none) E (kk (upto (fun t => scoreStep x6 x7 (o4 t) (h4 t) (o2 t) (U t) hU up) s L.trips).2) K))
      ⊢ wp frame (wpE (defs₀ (F := F)) Variants.none c none) E
          (Scf.Loop.for L ok s.2 (fun t acc => scoreTrip arg6 arg7 arg13 p4 p2 (o4 t) (h4 t) (o2 t) (h2 t) (U t) hU up acc) >>= kk) K := by
  set st : Fin L.trips → Scratch F × FVec F S8x256 .f32 → Scratch F × FVec F S8x256 .f32 :=
    fun t => scoreStep x6 x7 (o4 t) (h4 t) (o2 t) (U t) hU up with hst
  have hb : ∀ (k : Fin L.trips) acc, (fun (k : ℕ) acc => iprop(⌜acc = (upto st s k).2⌝ ∗ owns (c : Thread nD τ) arg6 fullShare x6 ∗ owns (c : Thread nD τ) arg7 fullShare x7
      ∗ owns (c : Thread nD τ) arg13 fullShare (upto st s k).1) : ℕ → _ → sProp 𝕄) k.val acc ⊢ wp frame (wpE (defs₀ (F := F)) Variants.none c none) E
      (scoreTrip arg6 arg7 arg13 p4 p2 (o4 k) (h4 k) (o2 k) (h2 k) (U k) hU up acc)
      ((fun (k : ℕ) acc => iprop(⌜acc = (upto st s k).2⌝ ∗ owns (c : Thread nD τ) arg6 fullShare x6 ∗ owns (c : Thread nD τ) arg7 fullShare x7
      ∗ owns (c : Thread nD τ) arg13 fullShare (upto st s k).1) : ℕ → _ → sProp 𝕄) (k.val + 1)) := by
    intro k acc
    iintro ⟨%hacc, H6, H7, H13⟩
    subst hacc
    iapply (wp_scoreTrip c E arg6 arg7 arg13 x6 x7 p4 p2 (o4 k) (h4 k) (o2 k) (h2 k) (U k) hU up (upto st s k) _)
    isplitl [H6]; · iexact H6
    isplitl [H7]; · iexact H7
    isplitl [H13]; · iexact H13
    iintro H
    dsimp only
    rw [upto_succ st s k]
    isplitr; · ipureintro; rfl
    iexact H
  iintro ⟨H6, H7, H13, Hk⟩
  iapply (Scf.wp_for_bind frame (wpE (defs₀ (F := F)) Variants.none c none) E L.lb L.ub L.st ok s.2
    (fun t acc => scoreTrip arg6 arg7 arg13 p4 p2 (o4 t) (h4 t) (o2 t) (h2 t) (U t) hU up acc)
    (fun k acc => iprop(⌜acc = (upto st s k).2⌝ ∗ owns (c : Thread nD τ) arg6 fullShare x6 ∗ owns (c : Thread nD τ) arg7 fullShare x7
      ∗ owns (c : Thread nD τ) arg13 fullShare (upto st s k).1)) hb) $$ [H6 H7 H13]
  · isplitr; · ipureintro; rfl
    isplitl [H6]; · iexact H6
    isplitl [H7]; · iexact H7
    iexact H13
  · iintro %acc ⟨%hacc, H⟩
    subst hacc
    iapply Hk
    iexact H

/-- A score loop leaves its fold, at the end of a program. -/
theorem wp_scoreLoop_last (L : Scf.Loop 32) (ok : L.OK) (o4 : Fin L.trips → Fin 4 → Nat) (h4 : ∀ t a, o4 t a + n4 a ≤ S1x1x32768x128.size a)
    (o2 : Fin L.trips → Fin 2 → Nat) (h2 : ∀ t a, o2 t a + n2 a ≤ S32768x256.size a)
    (U : Fin L.trips → Vec F (Shape.mk 4 n4) .fp8e4m3 → Vec F (Shape.mk 4 n4) .f32 → Vec F (Shape.mk 2 n2) .f32)
    (hU : (Shape.mk 2 n2).ShapeCasts (Shape.mk 2 n2))
    (up : FVec F S8x256 .f32 → Vec F (Shape.mk 2 n2) .f32 → FVec F S8x256 .f32)
    (s : Scratch F × FVec F S8x256 .f32) (K : FVec F S8x256 .f32 → sProp 𝕄) :
    iprop(owns (c : Thread nD τ) arg6 fullShare x6 ∗ owns (c : Thread nD τ) arg7 fullShare x7 ∗ owns (c : Thread nD τ) arg13 fullShare s.1
        ∗ (iprop(owns (c : Thread nD τ) arg6 fullShare x6 ∗ owns (c : Thread nD τ) arg7 fullShare x7
            ∗ owns (c : Thread nD τ) arg13 fullShare (upto (fun t => scoreStep x6 x7 (o4 t) (h4 t) (o2 t) (U t) hU up) s L.trips).1)
            -∗ K (upto (fun t => scoreStep x6 x7 (o4 t) (h4 t) (o2 t) (U t) hU up) s L.trips).2))
      ⊢ wp frame (wpE (defs₀ (F := F)) Variants.none c none) E
          (Scf.Loop.for L ok s.2 (fun t acc => scoreTrip arg6 arg7 arg13 p4 p2 (o4 t) (h4 t) (o2 t) (h2 t) (U t) hU up acc)) K := by
  rw [← bind_pure (Scf.Loop.for L ok s.2 (fun t acc => scoreTrip arg6 arg7 arg13 p4 p2 (o4 t) (h4 t) (o2 t) (h2 t) (U t) hU up acc))]
  iintro ⟨H6, H7, H13, Hk⟩
  iapply (wp_scoreLoop c E arg6 arg7 arg13 x6 x7 p4 p2 L ok o4 h4 o2 h2 U hU up s _ _)
  isplitl [H6]; · iexact H6
  isplitl [H7]; · iexact H7
  isplitl [H13]; · iexact H13
  iintro H
  sl_step
  iapply Hk
  iexact H

/-- A value loop leaves its fold. -/
theorem wp_valueLoop (g : Scratch F) (L : Scf.Loop 32) (ok : L.OK) (o2 : Fin L.trips → Fin 2 → Nat) (h2 : ∀ t a, o2 t a + n2 a ≤ S32768x256.size a)
    (o4 : Fin L.trips → Fin 4 → Nat) (h4 : ∀ t a, o4 t a + n4 a ≤ S1x1x128x32768.size a)
    (up : Carry F → Vec F (Shape.mk 2 n2) .f32 → Vec F (Shape.mk 4 n4) .fp8e4m3 → Carry F) (s : Carry F)
    {β : Type} (kk : Carry F → Prog (TpuEff nD τ sig (Elt F) Λ₀ .tc) β) (K : β → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g)
            -∗ wp frame (wpE (defs₀ (F := F)) Variants.none c none) E (kk (upto (fun t => valueStep x8 g (o2 t) (h2 t) (o4 t) (h4 t) up) s L.trips)) K))
      ⊢ wp frame (wpE (defs₀ (F := F)) Variants.none c none) E
          (Scf.Loop.for L ok s (fun t acc => valueTrip arg8 arg13 p4 p2 (o2 t) (h2 t) (o4 t) (h4 t) up acc) >>= kk) K := by
  set st : Fin L.trips → Carry F → Carry F := fun t => valueStep x8 g (o2 t) (h2 t) (o4 t) (h4 t) up with hst
  have hb : ∀ (k : Fin L.trips) acc, (fun (k : ℕ) acc => iprop(⌜acc = upto st s k⌝ ∗ owns (c : Thread nD τ) arg8 fullShare x8 ∗ owns (c : Thread nD τ) arg13 fullShare g) : ℕ → _ → sProp 𝕄) k.val acc ⊢ wp frame (wpE (defs₀ (F := F)) Variants.none c none) E
      (valueTrip arg8 arg13 p4 p2 (o2 k) (h2 k) (o4 k) (h4 k) up acc)
      ((fun (k : ℕ) acc => iprop(⌜acc = upto st s k⌝ ∗ owns (c : Thread nD τ) arg8 fullShare x8 ∗ owns (c : Thread nD τ) arg13 fullShare g) : ℕ → _ → sProp 𝕄) (k.val + 1)) := by
    intro k acc
    iintro ⟨%hacc, H8, H13⟩
    subst hacc
    iapply (wp_valueTrip c E arg8 arg13 x8 p4 p2 g (o2 k) (h2 k) (o4 k) (h4 k) up (upto st s k) _)
    isplitl [H8]; · iexact H8
    isplitl [H13]; · iexact H13
    iintro H
    dsimp only
    rw [upto_succ st s k]
    isplitr; · ipureintro; rfl
    iexact H
  iintro ⟨H8, H13, Hk⟩
  iapply (Scf.wp_for_bind frame (wpE (defs₀ (F := F)) Variants.none c none) E L.lb L.ub L.st ok s
    (fun t acc => valueTrip arg8 arg13 p4 p2 (o2 t) (h2 t) (o4 t) (h4 t) up acc)
    (fun k acc => iprop(⌜acc = upto st s k⌝ ∗ owns (c : Thread nD τ) arg8 fullShare x8 ∗ owns (c : Thread nD τ) arg13 fullShare g)) hb) $$ [H8 H13]
  · isplitr; · ipureintro; rfl
    isplitl [H8]; · iexact H8
    iexact H13
  · iintro %acc ⟨%hacc, H⟩
    subst hacc
    iapply Hk
    iexact H

/-- A value loop leaves its fold, at the end of a program. -/
theorem wp_valueLoop_last (g : Scratch F) (L : Scf.Loop 32) (ok : L.OK) (o2 : Fin L.trips → Fin 2 → Nat) (h2 : ∀ t a, o2 t a + n2 a ≤ S32768x256.size a)
    (o4 : Fin L.trips → Fin 4 → Nat) (h4 : ∀ t a, o4 t a + n4 a ≤ S1x1x128x32768.size a)
    (up : Carry F → Vec F (Shape.mk 2 n2) .f32 → Vec F (Shape.mk 4 n4) .fp8e4m3 → Carry F) (s : Carry F) (K : Carry F → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g)
            -∗ K (upto (fun t => valueStep x8 g (o2 t) (h2 t) (o4 t) (h4 t) up) s L.trips)))
      ⊢ wp frame (wpE (defs₀ (F := F)) Variants.none c none) E
          (Scf.Loop.for L ok s (fun t acc => valueTrip arg8 arg13 p4 p2 (o2 t) (h2 t) (o4 t) (h4 t) up acc)) K := by
  rw [← bind_pure (Scf.Loop.for L ok s (fun t acc => valueTrip arg8 arg13 p4 p2 (o2 t) (h2 t) (o4 t) (h4 t) up acc))]
  iintro ⟨H8, H13, Hk⟩
  iapply (wp_valueLoop c E arg8 arg13 x8 p4 p2 g L ok o2 h2 o4 h4 up s _ _)
  isplitl [H8]; · iexact H8
  isplitl [H13]; · iexact H13
  iintro H
  sl_step
  iapply Hk
  iexact H

end Rules

/-! ## The stages -/

section Stages
variable [Facts]
variable (v2 v5 : BitVec 32) (hw3 : k0_chk3 v2 v5) (v8 : BitVec 32) (hw1 : k0_chk1 v2 v8) (v11 : BitVec 32) (hw2 : k0_chk2 v5 v8 v11)
  (first len : IVec S1x256 32)
  (x4 : Vec F S1x256x1024 .fp8e4m3) (x5 : Vec F S1x8x256 .f32)
  (x6 : Vec F S1x1x32768x128 .fp8e4m3) (x7 : Vec F S1x1x32768x128 .f32) (x8 : Vec F S1x1x128x32768 .fp8e4m3) (x9 : Vec F S1x1x1x128 .f32)

/-- Score loop 1. -/
def scoreFold1 (q : FVec F S256x128 .fp8e4m3) (s : Scratch F × FVec F S8x256 .f32) : Scratch F × FVec F S8x256 .f32 :=
  upto (fun t : Fin (k0_t1_loop v2 v8).trips => scoreStep x6 x7 (n4 := S1x1x256x128.size) (n2 := S256x256.size) (k0_off5 v2 v8 t) (k0_off5_inb v2 v8 hw1 t) (k0_off6 v2 v8 t)
    (fun k ks => masked256 first len (Scf.iv v2 1#32 t) (scores256 q k ks)) shapeCasts_S256x256_S256x256 maxOf256) s (k0_t1_loop v2 v8).trips

/-- Score loop 2. -/
def scoreFold2 (q : FVec F S256x128 .fp8e4m3) (s : Scratch F × FVec F S8x256 .f32) : Scratch F × FVec F S8x256 .f32 :=
  upto (fun t : Fin (k0_t2_loop v2 v8).trips => scoreStep x6 x7 (n4 := S1x1x256x128.size) (n2 := S256x256.size) (k0_off7 v2 v8 t) (k0_off7_inb v2 v8 hw1 t) (k0_off8 v2 v8 t)
    (fun k ks => masked256 first len (Scf.iv (k0_t2_loop v2 v8).lb 1#32 t) (scores256 q k ks)) shapeCasts_S256x256_S256x256 maxOf256) s (k0_t2_loop v2 v8).trips

/-- Score loop 3. -/
def scoreFold3 (q : FVec F S256x128 .fp8e4m3) (s : Scratch F × FVec F S8x256 .f32) : Scratch F × FVec F S8x256 .f32 :=
  upto (fun t : Fin (k0_t3_loop v8 v11).trips => scoreStep x6 x7 (n4 := S1x1x1024x128.size) (n2 := S1024x256.size) (k0_off9 v8 v11 t) (k0_off9_inb v5 v8 v11 hw2 t) (k0_off10 v8 v11 t)
    (scores1024 q) shapeCasts_S1024x256_S1024x256 maxOf1024) s (k0_t3_loop v8 v11).trips

/-- Score loop 4. -/
def scoreFold4 (q : FVec F S256x128 .fp8e4m3) (s : Scratch F × FVec F S8x256 .f32) : Scratch F × FVec F S8x256 .f32 :=
  upto (fun t : Fin (k0_t4_loop v8 v11).trips => scoreStep x6 x7 (n4 := S1x1x1024x128.size) (n2 := S1024x256.size) (k0_off11 v8 v11 t) (k0_off11_inb v5 v8 v11 hw2 t) (k0_off12 v8 v11 t)
    (scores1024 q) shapeCasts_S1024x256_S1024x256 maxOf1024) s (k0_t4_loop v8 v11).trips

/-- Score loop 5. -/
def scoreFold5 (q : FVec F S256x128 .fp8e4m3) (s : Scratch F × FVec F S8x256 .f32) : Scratch F × FVec F S8x256 .f32 :=
  upto (fun t : Fin (k0_t5_loop v8 v11).trips => scoreStep x6 x7 (n4 := S1x1x256x128.size) (n2 := S256x256.size) (k0_off13 v8 v11 t) (k0_off13_inb v5 v8 v11 hw2 t) (k0_off14 v8 v11 t)
    (scores256 q) shapeCasts_S256x256_S256x256 maxOf256) s (k0_t5_loop v8 v11).trips

/-- Score loop 6. -/
def scoreFold6 (q : FVec F S256x128 .fp8e4m3) (s : Scratch F × FVec F S8x256 .f32) : Scratch F × FVec F S8x256 .f32 :=
  upto (fun t : Fin (k0_t6_loop v8 v11).trips => scoreStep x6 x7 (n4 := S1x1x256x128.size) (n2 := S256x256.size) (k0_off15 v8 v11 t) (k0_off15_inb v5 v8 v11 hw2 t) (k0_off16 v8 v11 t)
    (scores256 q) shapeCasts_S256x256_S256x256 maxOf256) s (k0_t6_loop v8 v11).trips

/-- Score loop 7. -/
def scoreFold7 (q : FVec F S256x128 .fp8e4m3) (s : Scratch F × FVec F S8x256 .f32) : Scratch F × FVec F S8x256 .f32 :=
  upto (fun t : Fin (k0_t7_loop v5 v11).trips => scoreStep x6 x7 (n4 := S1x1x256x128.size) (n2 := S256x256.size) (k0_off17 v5 v11 t) (k0_off17_inb v5 v8 v11 hw2 t) (k0_off18 v5 v11 t)
    (fun k ks => masked256 first len (Scf.iv v11 1#32 t) (scores256 q k ks)) shapeCasts_S256x256_S256x256 maxOf256) s (k0_t7_loop v5 v11).trips

/-- Score loop 8. -/
def scoreFold8 (q : FVec F S256x128 .fp8e4m3) (s : Scratch F × FVec F S8x256 .f32) : Scratch F × FVec F S8x256 .f32 :=
  upto (fun t : Fin (k0_t8_loop v5 v11).trips => scoreStep x6 x7 (n4 := S1x1x256x128.size) (n2 := S256x256.size) (k0_off19 v5 v11 t) (k0_off19_inb v5 v8 v11 hw2 t) (k0_off20 v5 v11 t)
    (fun k ks => masked256 first len (Scf.iv (k0_t8_loop v5 v11).lb 1#32 t) (scores256 q k ks)) shapeCasts_S256x256_S256x256 maxOf256) s (k0_t8_loop v5 v11).trips

/-- The score stage. -/
def scoreFn (q : FVec F S256x128 .fp8e4m3) (g : Scratch F) : Scratch F × FVec F S8x256 .f32 :=
  (scoreFold8 v5 v8 v11 hw2 first len x6 x7 q (scoreFold7 v5 v8 v11 hw2 first len x6 x7 q (scoreFold6 v5 v8 v11 hw2 x6 x7 q (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32))))))))))

/-- Value loop 9. -/
def valueFold9 (c m : FVec F S1x256 .f32) (g : Scratch F) (s : Carry F) : Carry F :=
  upto (fun t : Fin (k0_t9_loop v2 v5).trips => valueStep x8 g (n4 := S1x1x128x1024.size) (n2 := S1024x256.size) (k0_off21 v2 v5 t) (k0_off21_inb v2 v5 hw3 t) (k0_off22 v2 v5 t) (k0_off22_inb v2 v5 hw3 t)
    (fun a u vt => (weigh1024 (probs1024 c m u) vt a.1, sum1024 (probs1024 c m u) a.2))) s (k0_t9_loop v2 v5).trips

/-- Value loop 10. -/
def valueFold10 (c m : FVec F S1x256 .f32) (g : Scratch F) (s : Carry F) : Carry F :=
  upto (fun t : Fin (k0_t10_loop v2 v5).trips => valueStep x8 g (n4 := S1x1x128x1024.size) (n2 := S1024x256.size) (k0_off23 v2 v5 t) (k0_off23_inb v2 v5 hw3 t) (k0_off24 v2 v5 t) (k0_off24_inb v2 v5 hw3 t)
    (fun a u vt => (weigh1024 (probs1024 c m u) vt a.1, sum1024 (probs1024 c m u) a.2))) s (k0_t10_loop v2 v5).trips

/-- Value loop 11. -/
def valueFold11 (c m : FVec F S1x256 .f32) (g : Scratch F) (s : Carry F) : Carry F :=
  upto (fun t : Fin (k0_t11_loop v2 v5).trips => valueStep x8 g (n4 := S1x1x128x256.size) (n2 := S256x256.size) (k0_off25 v2 v5 t) (k0_off25_inb v2 v5 hw3 t) (k0_off26 v2 v5 t) (k0_off26_inb v2 v5 hw3 t)
    (fun a u vt => (weigh256 (probs256 c m u) vt a.1, sum256 (probs256 c m u) a.2))) s (k0_t11_loop v2 v5).trips

/-- Value loop 12. -/
def valueFold12 (c m : FVec F S1x256 .f32) (g : Scratch F) (s : Carry F) : Carry F :=
  upto (fun t : Fin (k0_t12_loop v2 v5).trips => valueStep x8 g (n4 := S1x1x128x256.size) (n2 := S256x256.size) (k0_off27 v2 v5 t) (k0_off27_inb v2 v5 hw3 t) (k0_off28 v2 v5 t) (k0_off28_inb v2 v5 hw3 t)
    (fun a u vt => (weigh256 (probs256 c m u) vt a.1, sum256 (probs256 c m u) a.2))) s (k0_t12_loop v2 v5).trips

/-- The value stage. -/
def valueFn (c m : FVec F S1x256 .f32) (g : Scratch F) : Carry F :=
  (valueFold12 v2 v5 hw3 x8 c m g (valueFold11 v2 v5 hw3 x8 c m g (valueFold10 v2 v5 hw3 x8 c m g (valueFold9 v2 v5 hw3 x8 c m g (broadcast S128x256 (Scalar.ofBits .f32 0x00000000#32 : F .f32), broadcast S8x256 (Scalar.ofBits .f32 0x00000000#32 : F .f32))))))

/-- A head's block, from the scratch it finds. -/
def headBlock (oq : Fin 3 → Nat) (hq : ∀ a, oq a + S1x256x128.size a ≤ S1x256x1024.size a)
    (os : Fin 3 → Nat) (hs : ∀ a, os a + S1x1x256.size a ≤ S1x8x256.size a) (g : Scratch F) : Vec F S1x256x128 .bf16 :=
  shapeCast S1x256x128 (outBlock (valueFn v2 v5 hw3 x8 (queryScale (VecWindow.window (s := S1x8x256) x5 os S1x1x256.size hs))
    (rowMax (scoreFn v2 v5 v8 hw1 v11 hw2 first len x6 x7 (shapeCast S256x128 (VecWindow.window (s := S1x256x1024) x4 oq S1x256x128.size hq : Vec F S1x256x128 .fp8e4m3) shapeCasts_S1x256x128_S256x128) g).2)
    (scoreFn v2 v5 v8 hw1 v11 hw2 first len x6 x7 (shapeCast S256x128 (VecWindow.window (s := S1x256x1024) x4 oq S1x256x128.size hq : Vec F S1x256x128 .fp8e4m3) shapeCasts_S1x256x128_S256x128) g).1)
    x9) shapeCasts_S256x128_S1x256x128

/-- A head, on the scratch and the output block. -/
def headFn (oq : Fin 3 → Nat) (hq : ∀ a, oq a + S1x256x128.size a ≤ S1x256x1024.size a)
    (os : Fin 3 → Nat) (hs : ∀ a, os a + S1x1x256.size a ≤ S1x8x256.size a)
    (s : Scratch F × Vec F S1x256x1024 .bf16) : Scratch F × Vec F S1x256x1024 .bf16 :=
  ((scoreFn v2 v5 v8 hw1 v11 hw2 first len x6 x7 (shapeCast S256x128 (VecWindow.window (s := S1x256x1024) x4 oq S1x256x128.size hq : Vec F S1x256x128 .fp8e4m3) shapeCasts_S1x256x128_S256x128) s.1).1,
    VecWindow.put s.2 oq S1x256x128.size (headBlock v2 v5 hw3 v8 hw1 v11 hw2 first len x4 x5 x6 x7 x8 x9 oq hq os hs s.1))

/-- The eight heads, in turn. -/
def headsFn (s : Scratch F × Vec F S1x256x1024 .bf16) : Scratch F × Vec F S1x256x1024 .bf16 :=
  (headFn v2 v5 hw3 v8 hw1 v11 hw2 first len x4 x5 x6 x7 x8 x9 ![0, 0, 896] inb_S1x256x1024_S1x256x128_0_0_896 ![0, 7, 0] inb_S1x8x256_S1x1x256_0_7_0
    (headFn v2 v5 hw3 v8 hw1 v11 hw2 first len x4 x5 x6 x7 x8 x9 ![0, 0, 768] inb_S1x256x1024_S1x256x128_0_0_768 ![0, 6, 0] inb_S1x8x256_S1x1x256_0_6_0
    (headFn v2 v5 hw3 v8 hw1 v11 hw2 first len x4 x5 x6 x7 x8 x9 ![0, 0, 640] inb_S1x256x1024_S1x256x128_0_0_640 ![0, 5, 0] inb_S1x8x256_S1x1x256_0_5_0
    (headFn v2 v5 hw3 v8 hw1 v11 hw2 first len x4 x5 x6 x7 x8 x9 ![0, 0, 512] inb_S1x256x1024_S1x256x128_0_0_512 ![0, 4, 0] inb_S1x8x256_S1x1x256_0_4_0
    (headFn v2 v5 hw3 v8 hw1 v11 hw2 first len x4 x5 x6 x7 x8 x9 ![0, 0, 384] inb_S1x256x1024_S1x256x128_0_0_384 ![0, 3, 0] inb_S1x8x256_S1x1x256_0_3_0
    (headFn v2 v5 hw3 v8 hw1 v11 hw2 first len x4 x5 x6 x7 x8 x9 ![0, 0, 256] inb_S1x256x1024_S1x256x128_0_0_256 ![0, 2, 0] inb_S1x8x256_S1x1x256_0_2_0
    (headFn v2 v5 hw3 v8 hw1 v11 hw2 first len x4 x5 x6 x7 x8 x9 ![0, 0, 128] inb_S1x256x1024_S1x256x128_0_0_128 ![0, 1, 0] inb_S1x8x256_S1x1x256_0_1_0
    (headFn v2 v5 hw3 v8 hw1 v11 hw2 first len x4 x5 x6 x7 x8 x9 ![0, 0, 0] inb_S1x256x1024_S1x256x128_0_0_0 ![0, 0, 0] inb_S1x8x256_S1x1x256_0_0_0
    s))))))))

variable (c : Dev nD) (E : Set ℕ) (arg4 : Memref sig .tc .vmem S1x256x1024 .fp8e4m3) (arg5 : Memref sig .tc .vmem S1x8x256 .f32)
  (arg6 : Memref sig .tc .vmem S1x1x32768x128 .fp8e4m3) (arg7 : Memref sig .tc .vmem S1x1x32768x128 .f32)
  (arg8 : Memref sig .tc .vmem S1x1x128x32768 .fp8e4m3) (arg9 : Memref sig .tc .vmem S1x1x1x128 .f32)
  (arg12 : Memref sig .tc .vmem S1x256x1024 .bf16) (harg12 : arg12.IsWhole) (arg13 : Memref sig .tc .vmem S32768x256 .f32)

theorem wp_scoreStage (q : FVec F S256x128 .fp8e4m3) (g : Scratch F) (K : FVec F S8x256 .f32 → sProp 𝕄) :
    iprop(owns (c : Thread nD τ) arg6 fullShare x6 ∗ owns (c : Thread nD τ) arg7 fullShare x7 ∗ owns (c : Thread nD τ) arg13 fullShare g
        ∗ (iprop(owns (c : Thread nD τ) arg6 fullShare x6 ∗ owns (c : Thread nD τ) arg7 fullShare x7
            ∗ owns (c : Thread nD τ) arg13 fullShare (scoreFn v2 v5 v8 hw1 v11 hw2 first len x6 x7 q g).1) -∗ K (scoreFn v2 v5 v8 hw1 v11 hw2 first len x6 x7 q g).2))
      ⊢ wp frame (wpE (defs₀ (F := F)) Variants.none c none) E (scoreStage arg6 arg7 arg13 v2 v5 v8 hw1 v11 hw2 first len q) K := by
  unfold scoreStage scoreFn scoreFold8
  iintro ⟨H6, H7, H13, Hk⟩
  iapply (wp_scoreLoop c E arg6 arg7 arg13 x6 x7 h_S1x1x256x128 h_S256x256 (k0_t1_loop v2 v8) (k0_t1_ok v2 v8 hw1)
    (fun t => k0_off5 v2 v8 t) (fun t => k0_off5_inb v2 v8 hw1 t) (fun t => k0_off6 v2 v8 t) (fun t => k0_off6_inb v2 v8 hw1 t)
    (fun t => (fun k ks => masked256 first len (Scf.iv v2 1#32 t) (scores256 q k ks))) shapeCasts_S256x256_S256x256 maxOf256 (g, broadcast S8x256 (Scalar.ofBits .f32 0xFF800000#32 : F .f32)) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t2_loop v2 v8) (k0_t2_ok v2 v8 hw1)
    (fun t => k0_off7 v2 v8 t) (fun t => k0_off7_inb v2 v8 hw1 t) (fun t => k0_off8 v2 v8 t) (fun t => k0_off8_inb v2 v8 hw1 t)
    (fun t => (fun k ks => masked256 first len (Scf.iv (k0_t2_loop v2 v8).lb 1#32 t) (scores256 q k ks))) shapeCasts_S256x256_S256x256 maxOf256 (scoreFold1 v2 v8 hw1 first len x6 x7 q (g, broadcast S8x256 (Scalar.ofBits .f32 0xFF800000#32 : F .f32))) _ _)
  isplitl [H6]; · iexact H6
  isplitl [H7]; · iexact H7
  isplitl [H13]; · iexact H13
  iintro ⟨H6, H7, H13⟩
  iapply (wp_scoreLoop c E arg6 arg7 arg13 x6 x7 h_S1x1x1024x128 h_S1024x256 (k0_t3_loop v8 v11) (k0_t3_ok v5 v8 v11 hw2)
    (fun t => k0_off9 v8 v11 t) (fun t => k0_off9_inb v5 v8 v11 hw2 t) (fun t => k0_off10 v8 v11 t) (fun t => k0_off10_inb v5 v8 v11 hw2 t)
    (fun t => (scores1024 q)) shapeCasts_S1024x256_S1024x256 maxOf1024 (scoreFold2 v2 v8 hw1 first len x6 x7 q (scoreFold1 v2 v8 hw1 first len x6 x7 q (g, broadcast S8x256 (Scalar.ofBits .f32 0xFF800000#32 : F .f32)))) _ _)
  isplitl [H6]; · iexact H6
  isplitl [H7]; · iexact H7
  isplitl [H13]; · iexact H13
  iintro ⟨H6, H7, H13⟩
  iapply (wp_scoreLoop c E arg6 arg7 arg13 x6 x7 h_S1x1x1024x128 h_S1024x256 (k0_t4_loop v8 v11) (k0_t4_ok v5 v8 v11 hw2)
    (fun t => k0_off11 v8 v11 t) (fun t => k0_off11_inb v5 v8 v11 hw2 t) (fun t => k0_off12 v8 v11 t) (fun t => k0_off12_inb v5 v8 v11 hw2 t)
    (fun t => (scores1024 q)) shapeCasts_S1024x256_S1024x256 maxOf1024 (scoreFold3 v5 v8 v11 hw2 x6 x7 q (scoreFold2 v2 v8 hw1 first len x6 x7 q (scoreFold1 v2 v8 hw1 first len x6 x7 q (g, broadcast S8x256 (Scalar.ofBits .f32 0xFF800000#32 : F .f32))))) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t5_loop v8 v11) (k0_t5_ok v5 v8 v11 hw2)
    (fun t => k0_off13 v8 v11 t) (fun t => k0_off13_inb v5 v8 v11 hw2 t) (fun t => k0_off14 v8 v11 t) (fun t => k0_off14_inb v5 v8 v11 hw2 t)
    (fun t => (scores256 q)) shapeCasts_S256x256_S256x256 maxOf256 (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32)))))) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t6_loop v8 v11) (k0_t6_ok v5 v8 v11 hw2)
    (fun t => k0_off15 v8 v11 t) (fun t => k0_off15_inb v5 v8 v11 hw2 t) (fun t => k0_off16 v8 v11 t) (fun t => k0_off16_inb v5 v8 v11 hw2 t)
    (fun t => (scores256 q)) shapeCasts_S256x256_S256x256 maxOf256 (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32))))))) _ _)
  isplitl [H6]; · iexact H6
  isplitl [H7]; · iexact H7
  isplitl [H13]; · iexact H13
  iintro ⟨H6, H7, H13⟩
  iapply (wp_scoreLoop c E arg6 arg7 arg13 x6 x7 h_S1x1x256x128 h_S256x256 (k0_t7_loop v5 v11) (k0_t7_ok v5 v8 v11 hw2)
    (fun t => k0_off17 v5 v11 t) (fun t => k0_off17_inb v5 v8 v11 hw2 t) (fun t => k0_off18 v5 v11 t) (fun t => k0_off18_inb v5 v8 v11 hw2 t)
    (fun t => (fun k ks => masked256 first len (Scf.iv v11 1#32 t) (scores256 q k ks))) shapeCasts_S256x256_S256x256 maxOf256 (scoreFold6 v5 v8 v11 hw2 x6 x7 q (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32)))))))) _ _)
  isplitl [H6]; · iexact H6
  isplitl [H7]; · iexact H7
  isplitl [H13]; · iexact H13
  iintro ⟨H6, H7, H13⟩
  iapply (wp_scoreLoop_last c E arg6 arg7 arg13 x6 x7 h_S1x1x256x128 h_S256x256 (k0_t8_loop v5 v11) (k0_t8_ok v5 v8 v11 hw2)
    (fun t => k0_off19 v5 v11 t) (fun t => k0_off19_inb v5 v8 v11 hw2 t) (fun t => k0_off20 v5 v11 t) (fun t => k0_off20_inb v5 v8 v11 hw2 t)
    (fun t => (fun k ks => masked256 first len (Scf.iv (k0_t8_loop v5 v11).lb 1#32 t) (scores256 q k ks))) shapeCasts_S256x256_S256x256 maxOf256 (scoreFold7 v5 v8 v11 hw2 first len x6 x7 q (scoreFold6 v5 v8 v11 hw2 x6 x7 q (scoreFold5 v5 v8 v11 hw2 x6 x7 q (scoreFold4 v5 v8 v11 hw2 x6 x7 q (scoreFold3 v5 v8 v11 hw2 x6 x7 q (scoreFold2 v2 v8 hw1 first len x6 x7 q (scoreFold1 v2 v8 hw1 first len x6 x7 q (g, broadcast S8x256 (Scalar.ofBits .f32 0xFF800000#32 : F .f32))))))))) _)
  isplitl [H6]; · iexact H6
  isplitl [H7]; · iexact H7
  isplitl [H13]; · iexact H13
  iintro ⟨H6, H7, H13⟩
  iapply Hk
  isplitl [H6]; · iexact H6
  isplitl [H7]; · iexact H7
  iexact H13

theorem wp_valueStage (cs m : FVec F S1x256 .f32) (g : Scratch F) (K : Carry F → sProp 𝕄) :
    iprop(owns (c : Thread nD τ) arg8 fullShare x8 ∗ owns (c : Thread nD τ) arg13 fullShare g
        ∗ (iprop(owns (c : Thread nD τ) arg8 fullShare x8 ∗ owns (c : Thread nD τ) arg13 fullShare g) -∗ K (valueFn v2 v5 hw3 x8 cs m g)))
      ⊢ wp frame (wpE (defs₀ (F := F)) Variants.none c none) E (valueStage arg8 arg13 v2 v5 hw3 cs m) K := by
  unfold valueStage valueFn valueFold12
  iintro ⟨H8, H13, Hk⟩
  iapply (wp_valueLoop c E arg8 arg13 x8 h_S1x1x128x1024 h_S1024x256 g (k0_t9_loop v2 v5) (k0_t9_ok v2 v5 hw3)
    (fun t => k0_off21 v2 v5 t) (fun t => k0_off21_inb v2 v5 hw3 t) (fun t => k0_off22 v2 v5 t) (fun t => k0_off22_inb v2 v5 hw3 t)
    (fun a u vt => (weigh1024 (probs1024 cs m u) vt a.1, sum1024 (probs1024 cs m u) a.2)) (broadcast S128x256 (Scalar.ofBits .f32 0x00000000#32 : F .f32), broadcast S8x256 (Scalar.ofBits .f32 0x00000000#32 : F .f32)) _ _)
  isplitl [H8]; · iexact H8
  isplitl [H13]; · iexact H13
  iintro ⟨H8, H13⟩
  iapply (wp_valueLoop c E arg8 arg13 x8 h_S1x1x128x1024 h_S1024x256 g (k0_t10_loop v2 v5) (k0_t10_ok v2 v5 hw3)
    (fun t => k0_off23 v2 v5 t) (fun t => k0_off23_inb v2 v5 hw3 t) (fun t => k0_off24 v2 v5 t) (fun t => k0_off24_inb v2 v5 hw3 t)
    (fun a u vt => (weigh1024 (probs1024 cs m u) vt a.1, sum1024 (probs1024 cs m u) a.2)) (valueFold9 v2 v5 hw3 x8 cs m g (broadcast S128x256 (Scalar.ofBits .f32 0x00000000#32 : F .f32), broadcast S8x256 (Scalar.ofBits .f32 0x00000000#32 : F .f32))) _ _)
  isplitl [H8]; · iexact H8
  isplitl [H13]; · iexact H13
  iintro ⟨H8, H13⟩
  iapply (wp_valueLoop c E arg8 arg13 x8 h_S1x1x128x256 h_S256x256 g (k0_t11_loop v2 v5) (k0_t11_ok v2 v5 hw3)
    (fun t => k0_off25 v2 v5 t) (fun t => k0_off25_inb v2 v5 hw3 t) (fun t => k0_off26 v2 v5 t) (fun t => k0_off26_inb v2 v5 hw3 t)
    (fun a u vt => (weigh256 (probs256 cs m u) vt a.1, sum256 (probs256 cs m u) a.2)) (valueFold10 v2 v5 hw3 x8 cs m g (valueFold9 v2 v5 hw3 x8 cs m g (broadcast S128x256 (Scalar.ofBits .f32 0x00000000#32 : F .f32), broadcast S8x256 (Scalar.ofBits .f32 0x00000000#32 : F .f32)))) _ _)
  isplitl [H8]; · iexact H8
  isplitl [H13]; · iexact H13
  iintro ⟨H8, H13⟩
  iapply (wp_valueLoop_last c E arg8 arg13 x8 h_S1x1x128x256 h_S256x256 g (k0_t12_loop v2 v5) (k0_t12_ok v2 v5 hw3)
    (fun t => k0_off27 v2 v5 t) (fun t => k0_off27_inb v2 v5 hw3 t) (fun t => k0_off28 v2 v5 t) (fun t => k0_off28_inb v2 v5 hw3 t)
    (fun a u vt => (weigh256 (probs256 cs m u) vt a.1, sum256 (probs256 cs m u) a.2)) (valueFold11 v2 v5 hw3 x8 cs m g (valueFold10 v2 v5 hw3 x8 cs m g (valueFold9 v2 v5 hw3 x8 cs m g (broadcast S128x256 (Scalar.ofBits .f32 0x00000000#32 : F .f32), broadcast S8x256 (Scalar.ofBits .f32 0x00000000#32 : F .f32))))) _)
  isplitl [H8]; · iexact H8
  isplitl [H13]; · iexact H13
  iintro ⟨H8, H13⟩
  iapply Hk
  isplitl [H8]; · iexact H8
  iexact H13

theorem wp_head (oq : Fin 3 → Nat) (hq : ∀ a, oq a + S1x256x128.size a ≤ S1x256x1024.size a)
    (pq : (Rect.unit (s := S1x256x1024) oq S1x256x128.size hq).PackedRows (EltTy.packing .bf16))
    (os : Fin 3 → Nat) (hs : ∀ a, os a + S1x1x256.size a ≤ S1x8x256.size a)
    (s : Scratch F × Vec F S1x256x1024 .bf16) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg12 fullShare s.2 ∗ owns (c : Thread nD τ) arg13 fullShare s.1
        ∗ (iprop(owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8 ∗ owns (c : Thread nD τ) arg9 fullShare x9
          ∗ owns (c : Thread nD τ) arg12 fullShare (headFn v2 v5 hw3 v8 hw1 v11 hw2 first len x4 x5 x6 x7 x8 x9 oq hq os hs s).2
          ∗ owns (c : Thread nD τ) arg13 fullShare (headFn v2 v5 hw3 v8 hw1 v11 hw2 first len x4 x5 x6 x7 x8 x9 oq hq os hs s).1) -∗ K ⟨⟩))
      ⊢ wp frame (wpE (defs₀ (F := F)) Variants.none c none) E
          (head arg4 arg5 arg6 arg7 arg8 arg9 arg12 harg12 arg13 v2 v5 hw3 v8 hw1 v11 hw2 first len oq hq pq os hs) K := by
  obtain ⟨g, o⟩ := s
  dsimp only [headFn, headBlock]
  generalize hq' : (shapeCast S256x128 (VecWindow.window (s := S1x256x1024) x4 oq S1x256x128.size hq : Vec F S1x256x128 .fp8e4m3) shapeCasts_S1x256x128_S256x128) = q
  generalize hsc : scoreFn v2 v5 v8 hw1 v11 hw2 first len x6 x7 q g = sc
  generalize hb : valueFn v2 v5 hw3 x8 (queryScale (VecWindow.window (s := S1x8x256) x5 os S1x1x256.size hs)) (rowMax sc.2) sc.1 = b
  generalize hO6 : (owns (c : Thread nD τ) arg6 fullShare x6 : sProp 𝕄) = O6
  generalize hO7 : (owns (c : Thread nD τ) arg7 fullShare x7 : sProp 𝕄) = O7
  generalize hO8 : (owns (c : Thread nD τ) arg8 fullShare x8 : sProp 𝕄) = O8
  generalize hO13 : (owns (c : Thread nD τ) arg13 fullShare g : sProp 𝕄) = O13
  generalize hO13' : (owns (c : Thread nD τ) arg13 fullShare sc.1 : sProp 𝕄) = O13'
  unfold head
  generalize hP : scoreStage (F := F) arg6 arg7 arg13 v2 v5 v8 hw1 v11 hw2 first len = P
  generalize hR : valueStage (F := F) arg8 arg13 v2 v5 hw3 = R
  unfold owns
  iintro ⟨⟨%f4, %hf4, H4⟩, ⟨%f5, %hf5, H5⟩, H6, H7, H8, ⟨%f9, %hf9, H9⟩, ⟨%f12, %hf12, H12⟩, H13, Hk⟩
  subst hf4 hf5 hf9
  simp only at hf12
  subst hf12
  sl_exec
  rw [View.readAt_unit arg4.view f4 hq rfl hq, View.readAt_unit arg5.view f5 hs rfl hs]
  rw [hq', wp_bind]
  rw [← hO6, ← hO7, ← hO13, ← hP]
  iapply (wp_scoreStage v2 v5 v8 hw1 v11 hw2 first len x6 x7 c E arg6 arg7 arg13 q g _)
  isplitl [H6]; · iexact H6
  isplitl [H7]; · iexact H7
  isplitl [H13]; · iexact H13
  rw [hO6, hO7, hsc, hO13']
  iintro ⟨H6, H7, H13⟩
  rw [wp_bind]
  rw [← hO8, ← hO13', ← hR]
  iapply (wp_valueStage v2 v5 hw3 x8 c E arg8 arg13 _ _ sc.1 _)
  isplitl [H8]; · iexact H8
  isplitl [H13]; · iexact H13
  rw [hb, hO8, hO13']
  iintro ⟨H8, H13⟩
  sl_exec
  sl_step
  iapply Hk
  isplitl [H4]
  · iexists f4; isplitr; · ipureintro; rfl
    iexact H4
  isplitl [H5]
  · iexists f5; isplitr; · ipureintro; rfl
    iexact H5
  isplitl [H6]; · iexact H6
  isplitl [H7]; · iexact H7
  isplitl [H8]; · iexact H8
  isplitl [H9]
  · iexists f9; isplitr; · ipureintro; rfl
    iexact H9
  isplitr [H13]
  · iexists _; isplitr
    swap; · iexact H12
    ipureintro
    rw [View.read_writes_cons_put _ _ _ _ _ rfl, View.readAt_full]
    rfl
  iexact H13

theorem wp_heads (s : Scratch F × Vec F S1x256x1024 .bf16) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg12 fullShare s.2 ∗ owns (c : Thread nD τ) arg13 fullShare s.1
        ∗ (iprop(owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8 ∗ owns (c : Thread nD τ) arg9 fullShare x9
          ∗ owns (c : Thread nD τ) arg12 fullShare (headsFn v2 v5 hw3 v8 hw1 v11 hw2 first len x4 x5 x6 x7 x8 x9 s).2
          ∗ owns (c : Thread nD τ) arg13 fullShare (headsFn v2 v5 hw3 v8 hw1 v11 hw2 first len x4 x5 x6 x7 x8 x9 s).1) -∗ K ⟨⟩))
      ⊢ wp frame (wpE (defs₀ (F := F)) Variants.none c none) E
          (heads arg4 arg5 arg6 arg7 arg8 arg9 arg12 harg12 arg13 v2 v5 hw3 v8 hw1 v11 hw2 first len) K := by
  generalize hOut : headsFn v2 v5 hw3 v8 hw1 v11 hw2 first len x4 x5 x6 x7 x8 x9 s = out
  unfold heads
  iintro ⟨H4, H5, H6, H7, H8, H9, H12, H13, Hk⟩
  rw [wp_bind]
  iapply (wp_head v2 v5 hw3 v8 hw1 v11 hw2 first len x4 x5 x6 x7 x8 x9 c E arg4 arg5 arg6 arg7 arg8 arg9 arg12 harg12 arg13 ![0, 0, 0] inb_S1x256x1024_S1x256x128_0_0_0 packedbf16_S1x256x1024_S1x256x128_0_0_0 ![0, 0, 0] inb_S1x8x256_S1x1x256_0_0_0 s _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs1 : headFn v2 v5 hw3 v8 hw1 v11 hw2 first len x4 x5 x6 x7 x8 x9 ![0, 0, 0] inb_S1x256x1024_S1x256x128_0_0_0 ![0, 0, 0] inb_S1x8x256_S1x1x256_0_0_0 s = s1
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 128] inb_S1x256x1024_S1x256x128_0_0_128 packedbf16_S1x256x1024_S1x256x128_0_0_128 ![0, 1, 0] inb_S1x8x256_S1x1x256_0_1_0 s1 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs2 : headFn v2 v5 hw3 v8 hw1 v11 hw2 first len x4 x5 x6 x7 x8 x9 ![0, 0, 128] inb_S1x256x1024_S1x256x128_0_0_128 ![0, 1, 0] inb_S1x8x256_S1x1x256_0_1_0 s1 = s2
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 256] inb_S1x256x1024_S1x256x128_0_0_256 packedbf16_S1x256x1024_S1x256x128_0_0_256 ![0, 2, 0] inb_S1x8x256_S1x1x256_0_2_0 s2 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs3 : headFn v2 v5 hw3 v8 hw1 v11 hw2 first len x4 x5 x6 x7 x8 x9 ![0, 0, 256] inb_S1x256x1024_S1x256x128_0_0_256 ![0, 2, 0] inb_S1x8x256_S1x1x256_0_2_0 s2 = s3
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 384] inb_S1x256x1024_S1x256x128_0_0_384 packedbf16_S1x256x1024_S1x256x128_0_0_384 ![0, 3, 0] inb_S1x8x256_S1x1x256_0_3_0 s3 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs4 : headFn v2 v5 hw3 v8 hw1 v11 hw2 first len x4 x5 x6 x7 x8 x9 ![0, 0, 384] inb_S1x256x1024_S1x256x128_0_0_384 ![0, 3, 0] inb_S1x8x256_S1x1x256_0_3_0 s3 = s4
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 512] inb_S1x256x1024_S1x256x128_0_0_512 packedbf16_S1x256x1024_S1x256x128_0_0_512 ![0, 4, 0] inb_S1x8x256_S1x1x256_0_4_0 s4 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs5 : headFn v2 v5 hw3 v8 hw1 v11 hw2 first len x4 x5 x6 x7 x8 x9 ![0, 0, 512] inb_S1x256x1024_S1x256x128_0_0_512 ![0, 4, 0] inb_S1x8x256_S1x1x256_0_4_0 s4 = s5
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 640] inb_S1x256x1024_S1x256x128_0_0_640 packedbf16_S1x256x1024_S1x256x128_0_0_640 ![0, 5, 0] inb_S1x8x256_S1x1x256_0_5_0 s5 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs6 : headFn v2 v5 hw3 v8 hw1 v11 hw2 first len x4 x5 x6 x7 x8 x9 ![0, 0, 640] inb_S1x256x1024_S1x256x128_0_0_640 ![0, 5, 0] inb_S1x8x256_S1x1x256_0_5_0 s5 = s6
  iintro ⟨H4, H5, H6, H7, H8, H9, H12, H13⟩
  rw [wp_bind]
  iapply (wp_head v2 v5 hw3 v8 hw1 v11 hw2 first len x4 x5 x6 x7 x8 x9 c E arg4 arg5 arg6 arg7 arg8 arg9 arg12 harg12 arg13 ![0, 0, 768] inb_S1x256x1024_S1x256x128_0_0_768 packedbf16_S1x256x1024_S1x256x128_0_0_768 ![0, 6, 0] inb_S1x8x256_S1x1x256_0_6_0 s6 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs7 : headFn v2 v5 hw3 v8 hw1 v11 hw2 first len x4 x5 x6 x7 x8 x9 ![0, 0, 768] inb_S1x256x1024_S1x256x128_0_0_768 ![0, 6, 0] inb_S1x8x256_S1x1x256_0_6_0 s6 = s7
  iintro ⟨H4, H5, H6, H7, H8, H9, H12, H13⟩
  iapply (wp_head v2 v5 hw3 v8 hw1 v11 hw2 first len x4 x5 x6 x7 x8 x9 c E arg4 arg5 arg6 arg7 arg8 arg9 arg12 harg12 arg13 ![0, 0, 896] inb_S1x256x1024_S1x256x128_0_0_896 packedbf16_S1x256x1024_S1x256x128_0_0_896 ![0, 7, 0] inb_S1x8x256_S1x1x256_0_7_0 s7 _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  generalize hs8 : headFn v2 v5 hw3 v8 hw1 v11 hw2 first len x4 x5 x6 x7 x8 x9 ![0, 0, 896] inb_S1x256x1024_S1x256x128_0_0_896 ![0, 7, 0] inb_S1x8x256_S1x1x256_0_7_0 s7 = s8
  iintro ⟨H4, H5, H6, H7, H8, H9, H12, H13⟩
  have e8 : s8 = out := by rw [← hOut]; unfold headsFn; rw [hs1, hs2, hs3, hs4, hs5, hs6, hs7, hs8]
  subst e8
  iapply Hk
  isplitl [H4]; · iexact H4
  isplitl [H5]; · iexact H5
  isplitl [H6]; · iexact H6
  isplitl [H7]; · iexact H7
  isplitl [H8]; · iexact H8
  isplitl [H9]; · iexact H9
  isplitl [H12]; · iexact H12
  iexact H13

end Stages

end Cert.KernelIdeal.Body
-- ==== Proof.Ideal.Body.lean ====
/-
The body's triple: the words of the visibility table, the rows' intervals, then the heads.
-/
module

public import proofs.«01_k».proof.Proof.Ideal.Triple
public import Idealize.ShloMosaic.Lib.Pipeline.FrameBody
public import Idealize.ShloMosaic.Lib.Tactic
public import Idealize.ShloMosaic.Lib.Exec
public import Idealize.ShloMosaic.Lib.VecWindow

@[expose] public section

set_option synthInstance.maxSize 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! ## The body -/

/-- The word of the table at an offset. -/
def word (T : Vec F S3x128x4 .i32) (o : Fin 3 → Nat) (h : ∀ a, o a + S1x1x1.size a ≤ S3x128x4.size a) : BitVec 32 :=
  VecWindow.window (s := S3x128x4) T o S1x1x1.size h (Shape.Idx.first (numel1_S1x1x1.symm ▸ Nat.one_pos))

section Body
variable [Facts]

theorem headsFn_congr {v2 v5 v8 v11 v2' v5' v8' v11' : BitVec 32} {first len first' len' : IVec S1x256 32}
    (e2 : v2 = v2') (e5 : v5 = v5') (e8 : v8 = v8') (e11 : v11 = v11') (ef : first = first') (el : len = len')
    (hc3 : k0_chk3 v2 v5) (hc1 : k0_chk1 v2 v8) (hc2 : k0_chk2 v5 v8 v11)
    (hc3' : k0_chk3 v2' v5') (hc1' : k0_chk1 v2' v8') (hc2' : k0_chk2 v5' v8' v11')
    (x4 : Vec F S1x256x1024 .fp8e4m3) (x5 : Vec F S1x8x256 .f32)
    (x6 : Vec F S1x1x32768x128 .fp8e4m3) (x7 : Vec F S1x1x32768x128 .f32) (x8 : Vec F S1x1x128x32768 .fp8e4m3) (x9 : Vec F S1x1x1x128 .f32)
    (s : Scratch F × Vec F S1x256x1024 .bf16) :
    headsFn v2 v5 hc3 v8 hc1 v11 hc2 first len x4 x5 x6 x7 x8 x9 s
      = headsFn v2' v5' hc3' v8' hc1' v11' hc2' first' len' x4 x5 x6 x7 x8 x9 s := by
  subst e2 e5 e8 e11 ef el; rfl

set_option maxHeartbeats 400000 in
theorem wp_body (c : Dev nD) (E : Set ℕ) (q3 : PosShare TreeShare) (i : grid0.Coords) (arg3 : Memref sig .tc .smem S3x128x4 .i32)
    (arg4 : Memref sig .tc .vmem S1x256x1024 .fp8e4m3) (arg5 : Memref sig .tc .vmem S1x8x256 .f32)
    (arg6 : Memref sig .tc .vmem S1x1x32768x128 .fp8e4m3) (arg7 : Memref sig .tc .vmem S1x1x32768x128 .f32)
    (arg8 : Memref sig .tc .vmem S1x1x128x32768 .fp8e4m3) (arg9 : Memref sig .tc .vmem S1x1x1x128 .f32)
    (arg10 arg11 : Memref sig .tc .vmem S1x1x256 .i32)
    (arg12 : Memref sig .tc .vmem S1x256x1024 .bf16) (harg12 : arg12.IsWhole) (arg13 : Memref sig .tc .vmem S32768x256 .f32)
    (T : Vec F S3x128x4 .i32) (x4 : Vec F S1x256x1024 .fp8e4m3) (x5 : Vec F S1x8x256 .f32)
    (x6 : Vec F S1x1x32768x128 .fp8e4m3) (x7 : Vec F S1x1x32768x128 .f32) (x8 : Vec F S1x1x128x32768 .fp8e4m3) (x9 : Vec F S1x1x1x128 .f32)
    (x10 x11 : Vec F S1x1x256 .i32) (o : Vec F S1x256x1024 .bf16) (g : Scratch F)
    (hc3 : k0_chk3 (word T (k0_off1 i) (k0_off1_inb i)) (word T (k0_off2 i) (k0_off2_inb i)))
    (hc1 : k0_chk1 (word T (k0_off1 i) (k0_off1_inb i)) (word T (k0_off3 i) (k0_off3_inb i)))
    (hc2 : k0_chk2 (word T (k0_off2 i) (k0_off2_inb i)) (word T (k0_off3 i) (k0_off3_inb i)) (word T (k0_off4 i) (k0_off4_inb i)))
    (K : PUnit → sProp 𝕄) :
    iprop(owns (c : Thread nD τ) arg3 q3 T ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare o ∗ owns (c : Thread nD τ) arg13 fullShare g
        ∗ (iprop(owns (c : Thread nD τ) arg3 q3 T ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
          ∗ owns (c : Thread nD τ) arg12 fullShare (headsFn (word T (k0_off1 i) (k0_off1_inb i)) (word T (k0_off2 i) (k0_off2_inb i)) hc3 (word T (k0_off3 i) (k0_off3_inb i)) hc1 (word T (k0_off4 i) (k0_off4_inb i)) hc2 (shapeCast S1x256 x10 shapeCasts_S1x1x256_S1x256) (subi (shapeCast S1x256 x11 shapeCasts_S1x1x256_S1x256) (shapeCast S1x256 x10 shapeCasts_S1x1x256_S1x256)) x4 x5 x6 x7 x8 x9 (g, o)).2
          ∗ owns (c : Thread nD τ) arg13 fullShare (headsFn (word T (k0_off1 i) (k0_off1_inb i)) (word T (k0_off2 i) (k0_off2_inb i)) hc3 (word T (k0_off3 i) (k0_off3_inb i)) hc1 (word T (k0_off4 i) (k0_off4_inb i)) hc2 (shapeCast S1x256 x10 shapeCasts_S1x1x256_S1x256) (subi (shapeCast S1x256 x11 shapeCasts_S1x1x256_S1x256) (shapeCast S1x256 x10 shapeCasts_S1x1x256_S1x256)) x4 x5 x6 x7 x8 x9 (g, o)).1) -∗ K ⟨⟩))
      ⊢ wp frame (wpE (defs₀ (F := F)) Variants.none c none) E
          (body i arg3 arg4 arg5 arg6 arg7 arg8 arg9 arg10 arg11 arg12 harg12 arg13) K := by
  generalize hOut : headsFn (word T (k0_off1 i) (k0_off1_inb i)) (word T (k0_off2 i) (k0_off2_inb i)) hc3 (word T (k0_off3 i) (k0_off3_inb i)) hc1 (word T (k0_off4 i) (k0_off4_inb i)) hc2 (shapeCast S1x256 x10 shapeCasts_S1x1x256_S1x256) (subi (shapeCast S1x256 x11 shapeCasts_S1x1x256_S1x256) (shapeCast S1x256 x10 shapeCasts_S1x1x256_S1x256)) x4 x5 x6 x7 x8 x9 (g, o) = out
  generalize hO4 : (owns (c : Thread nD τ) arg4 fullShare x4 : sProp 𝕄) = O4
  generalize hO5 : (owns (c : Thread nD τ) arg5 fullShare x5 : sProp 𝕄) = O5
  generalize hO6 : (owns (c : Thread nD τ) arg6 fullShare x6 : sProp 𝕄) = O6
  generalize hO7 : (owns (c : Thread nD τ) arg7 fullShare x7 : sProp 𝕄) = O7
  generalize hO8 : (owns (c : Thread nD τ) arg8 fullShare x8 : sProp 𝕄) = O8
  generalize hO9 : (owns (c : Thread nD τ) arg9 fullShare x9 : sProp 𝕄) = O9
  generalize hO13 : (owns (c : Thread nD τ) arg13 fullShare g : sProp 𝕄) = O13
  generalize hO12 : (owns (c : Thread nD τ) arg12 fullShare o : sProp 𝕄) = O12
  generalize hO13' : (owns (c : Thread nD τ) arg13 fullShare out.1 : sProp 𝕄) = O13'
  generalize hO12' : (owns (c : Thread nD τ) arg12 fullShare out.2 : sProp 𝕄) = O12'
  unfold body
  generalize hH : heads (F := F) arg4 arg5 arg6 arg7 arg8 arg9 arg12 harg12 arg13 = HD
  unfold owns
  iintro ⟨⟨%f3, %hf3, H3⟩, H4, H5, H6, H7, H8, H9, ⟨%f10, %hf10, H10⟩, ⟨%f11, %hf11, H11⟩, H12, H13, Hk⟩
  subst hf3 hf10 hf11
  sl_exec
  subst hH
  rw [← hO4]
  rw [← hO5]
  rw [← hO6]
  rw [← hO7]
  rw [← hO8]
  rw [← hO9]
  rw [← hO12]
  rw [← hO13]
  iapply (wp_heads _ _ _ _ _ _ _ _ _ x4 x5 x6 x7 x8 x9 c E arg4 arg5 arg6 arg7 arg8 arg9 arg12 harg12 arg13 (g, o) _)
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  have ef : wp_body.sl.first c arg10 f10 = shapeCast S1x256 (arg10.view.read (Elt F) f10) shapeCasts_S1x1x256_S1x256 := by
    unfold wp_body.sl.first
    rw [View.readAt_full]
  have el : wp_body.sl.len c arg10 arg11 f10 f11 = subi (shapeCast S1x256 (arg11.view.read (Elt F) f11) shapeCasts_S1x1x256_S1x256)
      (shapeCast S1x256 (arg10.view.read (Elt F) f10) shapeCasts_S1x1x256_S1x256) := by
    unfold wp_body.sl.len wp_body.sl.first
    rw [View.readAt_full, View.readAt_full]
  have e : headsFn (F := F) (wp_body.sl.r c i arg3 f3) (wp_body.sl.r_1 c i arg3 f3) hc3 (wp_body.sl.r_2 c i arg3 f3) hc1 (wp_body.sl.r_3 c i arg3 f3) hc2
      (wp_body.sl.first c arg10 f10) (wp_body.sl.len c arg10 arg11 f10 f11) x4 x5 x6 x7 x8 x9 (g, o) = out :=
    (headsFn_congr rfl rfl rfl rfl ef el hc3 hc1 hc2 hc3 hc1 hc2 x4 x5 x6 x7 x8 x9 (g, o)).trans hOut
  rw [hO4, hO5, hO6, hO7, hO8, hO9, e, hO12', hO13']
  iintro ⟨H4, H5, H6, H7, H8, H9, H12, H13⟩
  iapply Hk
  isplitl [H3]
  · iexists f3; isplitr; · ipureintro; rfl
    iexact H3
  isplitl [H4]; · iexact H4
  isplitl [H5]; · iexact H5
  isplitl [H6]; · iexact H6
  isplitl [H7]; · iexact H7
  isplitl [H8]; · iexact H8
  isplitl [H9]; · iexact H9
  isplitl [H10]
  · iexists f10; isplitr; · ipureintro; rfl
    iexact H10
  isplitl [H11]
  · iexists f11; isplitr; · ipureintro; rfl
    iexact H11
  isplitl [H12]; · iexact H12
  iexact H13

end Body

end Cert.KernelIdeal.Body
-- ==== Proof.Ideal.Launch.lean ====
/-
The launch: the host lines leave the visibility table and the intervals, the pipeline runs the body at every
grid point, and every argument array ends as it was.
-/
module

public import proofs.«01_k».proof.Proof.Ideal.Body
public import proofs.«01_k».proof.Proof.Gen.KernelIdeal.Launch
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the host lines leave -/

/-- The host lines before the region, line group by line group. -/
abbrev hostLines : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- The buffers when the region is entered. -/
def V0 (c : Dev nD) : Valuation τ sig (Elt F) := StableHlo.after (hostLines (F := F)).flatten (fun b => m (c, b))
/-- The same read at a TensorCore reference. -/
abbrev V (c : Dev nD) (b : Ref sig .tc) : Buf (Elt F) ((c : Thread nD τ).loc b) := V0 m c (Proc.devRef .tc b)

theorem hostLines_fresh : (hostLines (F := F)).Forall fun ops => ops.Forall fun op => op.fresh = ∅ := by
  simp only [List.Forall]; repeat' constructor

theorem hostLines_sub : (hostLines (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

set_option maxHeartbeats 1600000 in
theorem V_main_arg0 (c : Dev nD) : V m c main_arg0 = m ((c : Thread nD τ).loc main_arg0) := by
  unfold V V0
  exact StableHlo.after_of_forall_not_mem (b := Proc.devRef .tc main_arg0) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg1 (c : Dev nD) : V m c main_arg1 = m ((c : Thread nD τ).loc main_arg1) := by
  unfold V V0
  exact StableHlo.after_of_forall_not_mem (b := Proc.devRef .tc main_arg1) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg2 (c : Dev nD) : V m c main_arg2 = m ((c : Thread nD τ).loc main_arg2) := by
  unfold V V0
  exact StableHlo.after_of_forall_not_mem (b := Proc.devRef .tc main_arg2) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg3 (c : Dev nD) : V m c main_arg3 = m ((c : Thread nD τ).loc main_arg3) := by
  unfold V V0
  exact StableHlo.after_of_forall_not_mem (b := Proc.devRef .tc main_arg3) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg4 (c : Dev nD) : V m c main_arg4 = m ((c : Thread nD τ).loc main_arg4) := by
  unfold V V0
  exact StableHlo.after_of_forall_not_mem (b := Proc.devRef .tc main_arg4) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg5 (c : Dev nD) : V m c main_arg5 = m ((c : Thread nD τ).loc main_arg5) := by
  unfold V V0
  exact StableHlo.after_of_forall_not_mem (b := Proc.devRef .tc main_arg5) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg6 (c : Dev nD) : V m c main_arg6 = m ((c : Thread nD τ).loc main_arg6) := by
  unfold V V0
  exact StableHlo.after_of_forall_not_mem (b := Proc.devRef .tc main_arg6) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

set_option maxHeartbeats 1600000 in
theorem V_main_arg7 (c : Dev nD) : V m c main_arg7 = m ((c : Thread nD τ).loc main_arg7) := by
  unfold V V0
  exact StableHlo.after_of_forall_not_mem (b := Proc.devRef .tc main_arg7) _ _ (List.forall_iff_forall_mem.mp (by
      simp only [hostLines, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-! ## The table -/

/-- The visibility table when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
/-- The table as the body reads it. -/
abbrev table : Vec F S3x128x4 .i32 := tbl m 0

theorem PhiT0_eq (c : Dev nD) : (Pipeline.ΦT pre0 (tbl m) c : sProp 𝕄) = owns (c : Thread nD τ) (Memref.whole main_v58) fullShare.right (table m) := by
  unfold Pipeline.ΦT Pipeline.prefHeld
  rw [show (Finset.univ : Finset (Fin 1)) = {(0 : Fin 1)} from by decide, bigSep_singleton, owns_whole]
  rfl

theorem PhiA0_eq (c : Dev nD) : (Pipeline.ΦA spec0 c : sProp 𝕄)
    = iprop((∃ f : Scratch F, owns (c : Thread nD τ) (Memref.whole cc0_scratch0) fullShare f) ∗ (∃ r, prngReg c r)) := by
  unfold Pipeline.ΦA; rw [scopedRest0_eq]; simp only [owns_whole]; try rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The checks the body makes on the table's words, at every grid point. -/
def Checks (T : Vec F S3x128x4 .i32) : Prop := ∀ i : grid0.Coords,
  k0_chk3 (word T (k0_off1 i) (k0_off1_inb i)) (word T (k0_off2 i) (k0_off2_inb i))
  ∧ k0_chk1 (word T (k0_off1 i) (k0_off1_inb i)) (word T (k0_off3 i) (k0_off3_inb i))
  ∧ k0_chk2 (word T (k0_off2 i) (k0_off2_inb i)) (word T (k0_off3 i) (k0_off3_inb i)) (word T (k0_off4 i) (k0_off4_inb i))

/-- What the body leaves in the scratch and the output block at point `i`, of the table and the input blocks. -/
def outFn (T : Vec F S3x128x4 .i32) (hchk : Checks T) (i : grid0.Coords)
    (x0 : Vec F S1x256x1024 .fp8e4m3) (x1 : Vec F S1x8x256 .f32) (x2 : Vec F S1x1x32768x128 .fp8e4m3) (x3 : Vec F S1x1x32768x128 .f32) (x4 : Vec F S1x1x128x32768 .fp8e4m3) (x5 : Vec F S1x1x1x128 .f32) (x6 : Vec F S1x1x256 .i32) (x7 : Vec F S1x1x256 .i32)
    (s : Scratch F × Vec F S1x256x1024 .bf16) : Scratch F × Vec F S1x256x1024 .bf16 :=
  headsFn (word T (k0_off1 i) (k0_off1_inb i)) (word T (k0_off2 i) (k0_off2_inb i)) (hchk i).1 (word T (k0_off3 i) (k0_off3_inb i)) (hchk i).2.1 (word T (k0_off4 i) (k0_off4_inb i)) (hchk i).2.2
    (shapeCast S1x256 x6 shapeCasts_S1x1x256_S1x256) (subi (shapeCast S1x256 x7 shapeCasts_S1x1x256_S1x256) (shapeCast S1x256 x6 shapeCasts_S1x1x256_S1x256)) x0 x1 x2 x3 x4 x5 s

variable (hchk : Checks (table m))

/-- The same at the program's table and blocks. -/
def outAt (c : Dev nD) (t : Fin (cfgM m).N) (s : Scratch F × Vec F S1x256x1024 .bf16) : Scratch F × Vec F S1x256x1024 .bf16 :=
  outFn (table m) hchk (grid0.coords t) (iblk m c 0 t) (iblk m c 1 t) (iblk m c 2 t) (iblk m c 3 t) (iblk m c 4 t) (iblk m c 5 t) (iblk m c 6 t) (iblk m c 7 t) s

/-! ## The proof data -/

variable (outv : (c : Dev nD) → (t : Fin (cfgM m).N) → Vec F S1x256x1024 .bf16)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv c t
  Φ _ := iprop(Pipeline.ΦA spec0 c ∗ Pipeline.ΦT pre0 (tbl m) c)
  q _ := fullShare
  owed _ := 0

theorem A_eq (c : Dev nD) (w : Fin (cfgM m).W) : (dats m outv 0 c).A w = V m c (Pipeline.arrRef spec0 w) := by
  dsimp only [dats]

theorem after_0 (c : Dev nD) (t : Fin (cfgM m).N) : (dats m outv 0 c).after 0 t = iblk m c 0 t := by dsimp only [dats]; rfl
theorem after_1 (c : Dev nD) (t : Fin (cfgM m).N) : (dats m outv 0 c).after 1 t = iblk m c 1 t := by dsimp only [dats]; rfl
theorem after_2 (c : Dev nD) (t : Fin (cfgM m).N) : (dats m outv 0 c).after 2 t = iblk m c 2 t := by dsimp only [dats]; rfl
theorem after_3 (c : Dev nD) (t : Fin (cfgM m).N) : (dats m outv 0 c).after 3 t = iblk m c 3 t := by dsimp only [dats]; rfl
theorem after_4 (c : Dev nD) (t : Fin (cfgM m).N) : (dats m outv 0 c).after 4 t = iblk m c 4 t := by dsimp only [dats]; rfl
theorem after_5 (c : Dev nD) (t : Fin (cfgM m).N) : (dats m outv 0 c).after 5 t = iblk m c 5 t := by dsimp only [dats]; rfl
theorem after_6 (c : Dev nD) (t : Fin (cfgM m).N) : (dats m outv 0 c).after 6 t = iblk m c 6 t := by dsimp only [dats]; rfl
theorem after_7 (c : Dev nD) (t : Fin (cfgM m).N) : (dats m outv 0 c).after 7 t = iblk m c 7 t := by dsimp only [dats]; rfl
theorem after_8 (c : Dev nD) (t : Fin (cfgM m).N) : (dats m outv 0 c).after 8 t = outv c t := by dsimp only [dats]; rfl
theorem before_0 (c : Dev nD) (t : Fin (cfgM m).N) (d) : (dats m outv 0 c).before 0 t d = iblk m c 0 t :=
  before_0_of m (dats m outv 0 c) (A_eq m outv c 0) (after_0 m outv c) t d
theorem before_1 (c : Dev nD) (t : Fin (cfgM m).N) (d) : (dats m outv 0 c).before 1 t d = iblk m c 1 t :=
  before_1_of m (dats m outv 0 c) (A_eq m outv c 1) (after_1 m outv c) t d
theorem before_2 (c : Dev nD) (t : Fin (cfgM m).N) (d) : (dats m outv 0 c).before 2 t d = iblk m c 2 t :=
  before_2_of m (dats m outv 0 c) (A_eq m outv c 2) (after_2 m outv c) t d
theorem before_3 (c : Dev nD) (t : Fin (cfgM m).N) (d) : (dats m outv 0 c).before 3 t d = iblk m c 3 t :=
  before_3_of m (dats m outv 0 c) (A_eq m outv c 3) (after_3 m outv c) t d
theorem before_4 (c : Dev nD) (t : Fin (cfgM m).N) (d) : (dats m outv 0 c).before 4 t d = iblk m c 4 t :=
  before_4_of m (dats m outv 0 c) (A_eq m outv c 4) (after_4 m outv c) t d
theorem before_5 (c : Dev nD) (t : Fin (cfgM m).N) (d) : (dats m outv 0 c).before 5 t d = iblk m c 5 t :=
  before_5_of m (dats m outv 0 c) (A_eq m outv c 5) (after_5 m outv c) t d
theorem before_6 (c : Dev nD) (t : Fin (cfgM m).N) (d) : (dats m outv 0 c).before 6 t d = iblk m c 6 t :=
  before_6_of m (dats m outv 0 c) (A_eq m outv c 6) (after_6 m outv c) t d
theorem before_7 (c : Dev nD) (t : Fin (cfgM m).N) (d) : (dats m outv 0 c).before 7 t d = iblk m c 7 t :=
  before_7_of m (dats m outv 0 c) (A_eq m outv c 7) (after_7 m outv c) t d

/-! ## The body at a point -/

abbrev st_0 (t : Fin (cfgM m).N) : Memref sig .tc .vmem S1x256x1024 .fp8e4m3 := ((cfgM m).win 0).stage ((cfgM m).slots t 0)
abbrev st_1 (t : Fin (cfgM m).N) : Memref sig .tc .vmem S1x8x256 .f32 := ((cfgM m).win 1).stage ((cfgM m).slots t 1)
abbrev st_2 (t : Fin (cfgM m).N) : Memref sig .tc .vmem S1x1x32768x128 .fp8e4m3 := ((cfgM m).win 2).stage ((cfgM m).slots t 2)
abbrev st_3 (t : Fin (cfgM m).N) : Memref sig .tc .vmem S1x1x32768x128 .f32 := ((cfgM m).win 3).stage ((cfgM m).slots t 3)
abbrev st_4 (t : Fin (cfgM m).N) : Memref sig .tc .vmem S1x1x128x32768 .fp8e4m3 := ((cfgM m).win 4).stage ((cfgM m).slots t 4)
abbrev st_5 (t : Fin (cfgM m).N) : Memref sig .tc .vmem S1x1x1x128 .f32 := ((cfgM m).win 5).stage ((cfgM m).slots t 5)
abbrev st_6 (t : Fin (cfgM m).N) : Memref sig .tc .vmem S1x1x256 .i32 := ((cfgM m).win 6).stage ((cfgM m).slots t 6)
abbrev st_7 (t : Fin (cfgM m).N) : Memref sig .tc .vmem S1x1x256 .i32 := ((cfgM m).win 7).stage ((cfgM m).slots t 7)
abbrev st_8 (t : Fin (cfgM m).N) : Memref sig .tc .vmem S1x256x1024 .bf16 := ((cfgM m).win 8).stage ((cfgM m).slots t 8)
/-- The body as the pipeline calls it at point `t`. -/
def bodyAt (t : Fin (cfgM m).N) : Prog (TpuEff nD τ sig (Elt F) Λ₀ .tc) PUnit :=
  cc0_attention (grid0.coords t) (Memref.whole main_v58) (Memref.isWhole_whole _) (st_0 m t) (hstage0_0 (((cfgM m).slots t 0).cast nbuf0_0)) (st_1 m t) (hstage0_1 (((cfgM m).slots t 1).cast nbuf0_1)) (st_2 m t) (hstage0_2 (((cfgM m).slots t 2).cast nbuf0_2)) (st_3 m t) (hstage0_3 (((cfgM m).slots t 3).cast nbuf0_3)) (st_4 m t) (hstage0_4 (((cfgM m).slots t 4).cast nbuf0_4)) (st_5 m t) (hstage0_5 (((cfgM m).slots t 5).cast nbuf0_5)) (st_6 m t) (hstage0_6 (((cfgM m).slots t 6).cast nbuf0_6)) (st_7 m t) (hstage0_7 (((cfgM m).slots t 7).cast nbuf0_7)) (st_8 m t) (hstage0_8 (((cfgM m).slots t 8).cast nbuf0_8)) (Memref.whole cc0_scratch0) (Memref.isWhole_whole _)

theorem bodyAt_eq (t : Fin (cfgM m).N) : bodyAt m t
    = body (grid0.coords t) (Memref.whole main_v58) (st_0 m t) (st_1 m t) (st_2 m t) (st_3 m t) (st_4 m t) (st_5 m t) (st_6 m t) (st_7 m t) (st_8 m t) (hstage0_8 (((cfgM m).slots t 8).cast nbuf0_8)) (Memref.whole cc0_scratch0) :=
  attention_eq ..

/-- What the body is called with, the output's block at anything, -/
def bodyPre (c : Dev nD) (t : Fin (cfgM m).N) : sProp 𝕄 :=
  iprop((dats m outv 0 c).Φ t.castSucc ∗ (dats m outv 0 c).owesAt () t.castSucc
    ∗ (∃ d, owns (c : Thread nD τ) (st_0 m t) fullShare ((dats m outv 0 c).before 0 t d))
    ∗ (∃ d, owns (c : Thread nD τ) (st_1 m t) fullShare ((dats m outv 0 c).before 1 t d))
    ∗ (∃ d, owns (c : Thread nD τ) (st_2 m t) fullShare ((dats m outv 0 c).before 2 t d))
    ∗ (∃ d, owns (c : Thread nD τ) (st_3 m t) fullShare ((dats m outv 0 c).before 3 t d))
    ∗ (∃ d, owns (c : Thread nD τ) (st_4 m t) fullShare ((dats m outv 0 c).before 4 t d))
    ∗ (∃ d, owns (c : Thread nD τ) (st_5 m t) fullShare ((dats m outv 0 c).before 5 t d))
    ∗ (∃ d, owns (c : Thread nD τ) (st_6 m t) fullShare ((dats m outv 0 c).before 6 t d))
    ∗ (∃ d, owns (c : Thread nD τ) (st_7 m t) fullShare ((dats m outv 0 c).before 7 t d))
    ∗ (∃ X, owns (c : Thread nD τ) (st_8 m t) fullShare X))

/-- and what it returns: the output's block some run of the heads. -/
def bodyPost (c : Dev nD) (t : Fin (cfgM m).N) : sProp 𝕄 :=
  iprop((dats m outv 0 c).Φ t.succ ∗ (dats m outv 0 c).owesAt () t.succ
    ∗ owns (c : Thread nD τ) (st_0 m t) fullShare ((dats m outv 0 c).after 0 t)
    ∗ owns (c : Thread nD τ) (st_1 m t) fullShare ((dats m outv 0 c).after 1 t)
    ∗ owns (c : Thread nD τ) (st_2 m t) fullShare ((dats m outv 0 c).after 2 t)
    ∗ owns (c : Thread nD τ) (st_3 m t) fullShare ((dats m outv 0 c).after 3 t)
    ∗ owns (c : Thread nD τ) (st_4 m t) fullShare ((dats m outv 0 c).after 4 t)
    ∗ owns (c : Thread nD τ) (st_5 m t) fullShare ((dats m outv 0 c).after 5 t)
    ∗ owns (c : Thread nD τ) (st_6 m t) fullShare ((dats m outv 0 c).after 6 t)
    ∗ owns (c : Thread nD τ) (st_7 m t) fullShare ((dats m outv 0 c).after 7 t)
    ∗ (∃ s, owns (c : Thread nD τ) (st_8 m t) fullShare (outAt m hchk c t s).2))

set_option maxHeartbeats 1000000 in
theorem sound_body (c : Dev nD) (t : Fin (cfgM m).N) :
    bodyPre m outv c t ⊢ wp frame (wpE (defs₀ (F := F)) Variants.none c none) Set.univ (bodyAt m t) (fun _ => bodyPost m hchk outv c t) := by
  unfold bodyPre bodyPost
  simp only [before_0, before_1, before_2, before_3, before_4, before_5, before_6, before_7]
  rw [show (dats m outv 0 c).owesAt () t.succ = (dats m outv 0 c).owesAt () t.castSucc from rfl,
    show (dats m outv 0 c).Φ t.succ = iprop(Pipeline.ΦA spec0 c ∗ Pipeline.ΦT pre0 (tbl m) c) from rfl,
    show (dats m outv 0 c).Φ t.castSucc = iprop(Pipeline.ΦA spec0 c ∗ Pipeline.ΦT pre0 (tbl m) c) from rfl,
    after_0, after_1, after_2, after_3, after_4, after_5, after_6, after_7, PhiT0_eq, PhiA0_eq, bodyAt_eq]
  iintro ⟨⟨⟨⟨%g, Hg⟩, Hr⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%X, H8⟩⟩
  iapply (wp_body c Set.univ fullShare.right (grid0.coords t) _ _ _ _ _ _ _ _ _ _ _ _ (table m) (iblk m c 0 t) (iblk m c 1 t) (iblk m c 2 t) (iblk m c 3 t) (iblk m c 4 t) (iblk m c 5 t) (iblk m c 6 t) (iblk m c 7 t) X g (hchk (grid0.coords t)).1 (hchk (grid0.coords t)).2.1 (hchk (grid0.coords t)).2.2 _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hg]; · iexact Hg
  iintro ⟨HT, H0, H1, H2, H3, H4, H5, H6, H7, H8, Hg⟩
  isplitl [Hg Hr HT]
  · isplitl [Hg Hr]
    · isplitl [Hg]
      · iexists _; iexact Hg
      · iexact Hr
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (g, X); iexact H8

theorem defs₀_row (t : Fin (cfgM m).N) :
    defs₀ (F := F) .tc (cfgM m).body ((cfgM m).bodyArgs t ((cfgM m).slots t)) = bodyAt m t := by
  unfold defs₀ bodyAt; rw [Defs.onTc_tc]; rfl

/-- The output window, whose contents the frame leaves unsaid. -/
def fgt : Fin (cfgM m).W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => true

/-- What the frame asks back: the output's block at anything. -/
def bodyPostForget (c : Dev nD) (t : Fin (cfgM m).N) : sProp 𝕄 :=
  iprop((dats m outv 0 c).Φ t.succ ∗ (dats m outv 0 c).owesAt () t.succ
    ∗ owns (c : Thread nD τ) (st_0 m t) fullShare ((dats m outv 0 c).after 0 t)
    ∗ owns (c : Thread nD τ) (st_1 m t) fullShare ((dats m outv 0 c).after 1 t)
    ∗ owns (c : Thread nD τ) (st_2 m t) fullShare ((dats m outv 0 c).after 2 t)
    ∗ owns (c : Thread nD τ) (st_3 m t) fullShare ((dats m outv 0 c).after 3 t)
    ∗ owns (c : Thread nD τ) (st_4 m t) fullShare ((dats m outv 0 c).after 4 t)
    ∗ owns (c : Thread nD τ) (st_5 m t) fullShare ((dats m outv 0 c).after 5 t)
    ∗ owns (c : Thread nD τ) (st_6 m t) fullShare ((dats m outv 0 c).after 6 t)
    ∗ owns (c : Thread nD τ) (st_7 m t) fullShare ((dats m outv 0 c).after 7 t)
    ∗ (∃ X, owns (c : Thread nD τ) (st_8 m t) fullShare X))

/-- What the exact run asks back. -/
def bodyPostExact (c : Dev nD) (t : Fin (cfgM m).N) : sProp 𝕄 :=
  iprop((dats m outv 0 c).Φ t.succ ∗ (dats m outv 0 c).owesAt () t.succ
    ∗ owns (c : Thread nD τ) (st_0 m t) fullShare ((dats m outv 0 c).after 0 t)
    ∗ owns (c : Thread nD τ) (st_1 m t) fullShare ((dats m outv 0 c).after 1 t)
    ∗ owns (c : Thread nD τ) (st_2 m t) fullShare ((dats m outv 0 c).after 2 t)
    ∗ owns (c : Thread nD τ) (st_3 m t) fullShare ((dats m outv 0 c).after 3 t)
    ∗ owns (c : Thread nD τ) (st_4 m t) fullShare ((dats m outv 0 c).after 4 t)
    ∗ owns (c : Thread nD τ) (st_5 m t) fullShare ((dats m outv 0 c).after 5 t)
    ∗ owns (c : Thread nD τ) (st_6 m t) fullShare ((dats m outv 0 c).after 6 t)
    ∗ owns (c : Thread nD τ) (st_7 m t) fullShare ((dats m outv 0 c).after 7 t)
    ∗ owns (c : Thread nD τ) (st_8 m t) fullShare ((dats m outv 0 c).after 8 t))

/-- What the exact run hands the body. -/
def bodyPreExact (c : Dev nD) (t : Fin (cfgM m).N) : sProp 𝕄 :=
  iprop((dats m outv 0 c).Φ t.castSucc ∗ (dats m outv 0 c).owesAt () t.castSucc
    ∗ (∃ d, owns (c : Thread nD τ) (st_0 m t) fullShare ((dats m outv 0 c).before 0 t d))
    ∗ (∃ d, owns (c : Thread nD τ) (st_1 m t) fullShare ((dats m outv 0 c).before 1 t d))
    ∗ (∃ d, owns (c : Thread nD τ) (st_2 m t) fullShare ((dats m outv 0 c).before 2 t d))
    ∗ (∃ d, owns (c : Thread nD τ) (st_3 m t) fullShare ((dats m outv 0 c).before 3 t d))
    ∗ (∃ d, owns (c : Thread nD τ) (st_4 m t) fullShare ((dats m outv 0 c).before 4 t d))
    ∗ (∃ d, owns (c : Thread nD τ) (st_5 m t) fullShare ((dats m outv 0 c).before 5 t d))
    ∗ (∃ d, owns (c : Thread nD τ) (st_6 m t) fullShare ((dats m outv 0 c).before 6 t d))
    ∗ (∃ d, owns (c : Thread nD τ) (st_7 m t) fullShare ((dats m outv 0 c).before 7 t d))
    ∗ (∃ d, owns (c : Thread nD τ) (st_8 m t) fullShare ((dats m outv 0 c).before 8 t d)))

theorem forget_of_post (c : Dev nD) (t : Fin (cfgM m).N) : bodyPost m hchk outv c t ⊢ bodyPostForget m outv c t := by
  unfold bodyPost bodyPostForget
  iintro ⟨HΦ, Ho, H0, H1, H2, H3, H4, H5, H6, H7, ⟨%s, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem exact_of_post (hout : ∀ c t s, (outAt m hchk c t s).2 = outv c t) (c : Dev nD) (t : Fin (cfgM m).N) : bodyPost m hchk outv c t ⊢ bodyPostExact m outv c t := by
  unfold bodyPost bodyPostExact
  simp only [hout, after_8]
  iintro ⟨HΦ, Ho, H0, H1, H2, H3, H4, H5, H6, H7, ⟨%s, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem pre_of_exact (c : Dev nD) (t : Fin (cfgM m).N) : bodyPreExact m outv c t ⊢ bodyPre m outv c t := by
  unfold bodyPre bodyPreExact
  iintro ⟨HΦ, Ho, H0, H1, H2, H3, H4, H5, H6, H7, ⟨%d, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem sound_forget (hchk : Checks (table m)) (c : Dev nD) (t : Fin (cfgM m).N) :
    bodyPre m outv c t ⊢ wp frame (wpE (defs₀ (F := F)) Variants.none c none) Set.univ (bodyAt m t) (fun _ => bodyPostForget m outv c t) :=
  triple_restated (sound_body m hchk outv c t) rfl .rfl fun _ => forget_of_post m hchk outv c t

theorem sound_exact (hout : ∀ c t s, (outAt m hchk c t s).2 = outv c t) (c : Dev nD) (t : Fin (cfgM m).N) :
    bodyPreExact m outv c t ⊢ wp frame (wpE (defs₀ (F := F)) Variants.none c none) Set.univ (bodyAt m t) (fun _ => bodyPostExact m outv c t) :=
  triple_restated (sound_body m hchk outv c t) rfl (pre_of_exact m outv c t) fun _ => exact_of_post m hchk outv hout c t

theorem body_obligation_forget (hchk : Checks (table m)) (c : Dev nD) : BodyObligationLoose (dats m outv 0 c) (defs₀ (F := F)) Variants.none () Set.univ (fgt m) := fun t => by
  rw [bigSep_W0, bigSep_W0, defs₀_row]
  exact triple_restated (sound_forget m outv hchk c t) rfl .rfl fun _ => .rfl

theorem body_obligation (hout : ∀ c t s, (outAt m hchk c t s).2 = outv c t) (c : Dev nD) :
    BodyObligation (dats m outv 0 c) (defs₀ (F := F)) Variants.none () Set.univ := fun t => by
  rw [bigSep_W0, bigSep_W0, defs₀_row]
  exact triple_restated (sound_exact m hchk outv hout c t) rfl .rfl fun _ => .rfl

/-! ## The runs -/

set_option backward.isDefEq.respectTransparency.types false in
set_option maxHeartbeats 1600000 in
/-- The run that says nothing of the output. -/
theorem run_forget (hchk : Checks (table m)) : θ_run defs (onTc (τ := τ) (main (F := F))) (s₀ m ρ)
    (fun r => Pipeline.RDat.FramePost (cfgM m) (fun c => (dats m outv 0 c).toRForget (fgt m)) (V m) r ∧ r.2.sem = fun _ => 0) :=
  Pipeline.θ_run_frameP_forget (Q' := _) pcfgs (fun _ => adm m) (dats m outv) (0 : Fin 1) launch0 defs₀ Variants.none (fgt m) m ρ main
    (hbody := fun c => body_obligation_forget m outv hchk c) (hshare := fun c => (dats m outv 0 c).share_full fun _ => rfl)
    (howed := fun _ _ => rfl) (V := V m) (hmain := hmain m Variants.none) (hA := A_eq m outv) (hpf := V_pre m) (hΦ := fun _ _ => rfl)

set_option backward.isDefEq.respectTransparency.types false in
set_option maxHeartbeats 1600000 in
/-- The run with the output's blocks named. -/
theorem run_exact (hout : ∀ c t s, (outAt m hchk c t s).2 = outv c t) : θ_run defs (onTc (τ := τ) (main (F := F))) (s₀ m ρ)
    (fun r => Pipeline.FramePost (Pipeline.pin pcfgs (fun _ => adm m)) (dats m outv) 0 (V m) r ∧ r.2.sem = fun _ => 0) :=
  Pipeline.θ_run_frameP (Q' := _) pcfgs (fun _ => adm m) (dats m outv) (0 : Fin 1) launch0 defs₀ Variants.none m ρ main
    (hbody := fun c => (body_obligation m hchk outv hout c).loose) (hshare := fun c => (dats m outv 0 c).share_full fun _ => rfl)
    (howed := fun _ _ => rfl) (V := V m) (hmain := hmain m Variants.none) (hA := A_eq m outv) (hpf := V_pre m) (hΦ := fun _ _ => rfl)

set_option maxHeartbeats 1600000 in
/-- THE FRAME, of a memory whose table passes the body's checks. -/
theorem frame (hchk : Checks (table m)) : θ_run defs (onTc (τ := τ) (main (F := F))) ⟨m, fun _ => 0, ρ⟩ (fun r => (∀ c : Dev nD,

r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c => ⟨
    (Pipeline.RDat.FramePost.arr_in h.1 c 0 rfl).trans (V_main_arg0 m c),
    (Pipeline.RDat.FramePost.arr_in h.1 c 1 rfl).trans (V_main_arg1 m c),
    (Pipeline.RDat.FramePost.arr_in h.1 c 2 rfl).trans (V_main_arg2 m c),
    (Pipeline.RDat.FramePost.arr_in h.1 c 3 rfl).trans (V_main_arg3 m c),
    (Pipeline.RDat.FramePost.arr_in h.1 c 4 rfl).trans (V_main_arg4 m c),
    (Pipeline.RDat.FramePost.arr_in h.1 c 5 rfl).trans (V_main_arg5 m c),
    ((h.1 c).2 main_arg6 (Pipeline.mem_restRefs_of main_arg6 (by decide) (by exact (by decide : ∀ w, Pipeline.arrRef spec0 w ≠ main_arg6)))).trans (V_main_arg6 m c),
    ((h.1 c).2 main_arg7 (Pipeline.mem_restRefs_of main_arg7 (by decide) (by exact (by decide : ∀ w, Pipeline.arrRef spec0 w ≠ main_arg7)))).trans (V_main_arg7 m c)⟩, h.2⟩) (run_forget m ρ (fun _ _ _ => (Scalar.ofBits .bf16 0#16 : F .bf16)) hchk)

end Cert.KernelIdeal.Body
-- ==== Proof.Ideal.Lines.lean ====
/-
What the host lines leave: each line's value as a function of the segment numbers and the prefix marks, and the
buffers the kernel reads.
-/
module

public import proofs.«01_k».proof.Proof.Ideal.Launch
public import Idealize.ShloMosaic.Lib.StableHlo.RunRead

@[expose] public section

set_option maxRecDepth 16384

noncomputable section

namespace Cert.KernelIdeal.Body

open Idealize.ShloMosaic Idealize.ShloMosaic.TcCoe Idealize.SL.Sem Idealize.ShloMosaic.StableHlo
open Cert.KernelIdeal Cert.KernelIdeal.Gen

/-! ## The lines, one by one -/

def h_v0 (seg : IVec S3x32768 32) (pre : IVec S3x32768 1) : IVec S8 32 := (iotaInDim S8 32 0)
def h_v1 (seg : IVec S3x32768 32) (pre : IVec S3x32768 1) : IVec S3x1x32768 32 := (broadcastInDim S3x1x32768 ![0, 2] bcast_S3x32768_S3x1x32768_0_2) seg
def h_v2 (seg : IVec S3x32768 32) (pre : IVec S3x32768 1) : IVec S1x8x1 32 := (broadcastInDim S1x8x1 ![1] bcast_S8_S1x8x1_1) (h_v0 seg pre)
def h_v3 (seg : IVec S3x32768 32) (pre : IVec S3x32768 1) : IVec S3x8x32768 32 := (broadcastInDim S3x8x32768 ![0, 1, 2] bcast_S3x1x32768_S3x8x32768_0_1_2) (h_v1 seg pre)
def h_v4 (seg : IVec S3x32768 32) (pre : IVec S3x32768 1) : IVec S3x8x32768 32 := (broadcastInDim S3x8x32768 ![0, 1, 2] bcast_S1x8x1_S3x8x32768_0_1_2) (h_v2 seg pre)
def h_v5 (seg : IVec S3x32768 32) (pre : IVec S3x32768 1) : IVec S3x8x32768 1 := (cmpi .eq) (h_v3 seg pre) (h_v4 seg pre)
def h_v6 (seg : IVec S3x32768 32) (pre : IVec S3x32768 1) : IVec S3x1x32768 32 := (broadcastInDim S3x1x32768 ![0, 2] bcast_S3x32768_S3x1x32768_0_2) seg
def h_v7 (seg : IVec S3x32768 32) (pre : IVec S3x32768 1) : IVec S1x8x1 32 := (broadcastInDim S1x8x1 ![1] bcast_S8_S1x8x1_1) (h_v0 seg pre)
def h_v8 (seg : IVec S3x32768 32) (pre : IVec S3x32768 1) : IVec S3x8x32768 32 := (broadcastInDim S3x8x32768 ![0, 1, 2] bcast_S3x1x32768_S3x8x32768_0_1_2) (h_v6 seg pre)
def h_v9 (seg : IVec S3x32768 32) (pre : IVec S3x32768 1) : IVec S3x8x32768 32 := (broadcastInDim S3x8x32768 ![0, 1, 2] bcast_S1x8x1_S3x8x32768_0_1_2) (h_v7 seg pre)
def h_v10 (seg : IVec S3x32768 32) (pre : IVec S3x32768 1) : IVec S3x8x32768 1 := (cmpi .slt) (h_v8 seg pre) (h_v9 seg pre)
def h_v11 (seg : IVec S3x32768 32) (pre : IVec S3x32768 1) : IVec S3x8x32768 32 := ((extui 32 · natLt_1_32)) (h_v10 seg pre)
def h_c (seg : IVec S3x32768 32) (pre : IVec S3x32768 1) : IVec S_ 32 := (constantI S_ 32 0#32)
def h_v12 (seg : IVec S3x32768 32) (pre : IVec S3x32768 1) : IVec S3x8 32 := ((fun x v => Host.reduce IntOp.addi x v reducesTo_S3x8x32768_S3x8_d2 h_S_)) (h_v11 seg pre) (h_c seg pre)
def h_v13 (seg : IVec S3x32768 32) (pre : IVec S3x32768 1) : IVec S3x1x32768 1 := (broadcastInDim S3x1x32768 ![0, 2] bcast_S3x32768_S3x1x32768_0_2) pre
def h_v14 (seg : IVec S3x32768 32) (pre : IVec S3x32768 1) : IVec S3x8x32768 1 := (broadcastInDim S3x8x32768 ![0, 1, 2] bcast_S3x1x32768_S3x8x32768_0_1_2) (h_v13 seg pre)
def h_v15 (seg : IVec S3x32768 32) (pre : IVec S3x32768 1) : IVec S3x8x32768 1 := (andi) (h_v5 seg pre) (h_v14 seg pre)
def h_v16 (seg : IVec S3x32768 32) (pre : IVec S3x32768 1) : IVec S3x8x32768 32 := ((extui 32 · natLt_1_32)) (h_v15 seg pre)
def h_c_0 (seg : IVec S3x32768 32) (pre : IVec S3x32768 1) : IVec S_ 32 := (constantI S_ 32 0#32)
def h_v17 (seg : IVec S3x32768 32) (pre : IVec S3x32768 1) : IVec S3x8 32 := ((fun x v => Host.reduce IntOp.addi x v reducesTo_S3x8x32768_S3x8_d2 h_S_)) (h_v16 seg pre) (h_c_0 seg pre)
def h_v18 (seg : IVec S3x32768 32) (pre : IVec S3x32768 1) : IVec S3x8 32 := (addi) (h_v12 seg pre) (h_v17 seg pre)
def h_v19 (seg : IVec S3x32768 32) (pre : IVec S3x32768 1) : IVec S3x8x1 32 := (broadcastInDim S3x8x1 ![0, 1] bcast_S3x8_S3x8x1_0_1) (h_v12 seg pre)
def h_c_1 (seg : IVec S3x32768 32) (pre : IVec S3x32768 1) : IVec S_ 32 := (constantI S_ 32 0#32)
def h_call0_v0 (seg : IVec S3x32768 32) (pre : IVec S3x32768 1) : IVec S_ 32 := (h_c_1 seg pre)
def h_call0_v1 (seg : IVec S3x32768 32) (pre : IVec S3x32768 1) : IVec S3x8x32768 32 := (broadcastInDim S3x8x32768 ![0, 1, 2] bcast_S3x8x1_S3x8x32768_0_1_2) (h_v19 seg pre)
def h_call0_v2 (seg : IVec S3x32768 32) (pre : IVec S3x32768 1) : IVec S3x8x32768 32 := (broadcastInDim S3x8x32768 ![] bcast_S_S3x8x32768) (h_call0_v0 seg pre)
def h_v20 (seg : IVec S3x32768 32) (pre : IVec S3x32768 1) : IVec S3x8x32768 32 := select (h_v5 seg pre) (h_call0_v1 seg pre) (h_call0_v2 seg pre)
def h_c_2 (seg : IVec S3x32768 32) (pre : IVec S3x32768 1) : IVec S_ 32 := (constantI S_ 32 0#32)
def h_v21 (seg : IVec S3x32768 32) (pre : IVec S3x32768 1) : IVec S3x32768 32 := ((fun x v => Host.reduce IntOp.addi x v reducesTo_S3x8x32768_S3x32768_d1 h_S_)) (h_v20 seg pre) (h_c_2 seg pre)
def h_v22 (seg : IVec S3x32768 32) (pre : IVec S3x32768 1) : IVec S3x8x1 32 := (broadcastInDim S3x8x1 ![0, 1] bcast_S3x8_S3x8x1_0_1) (h_v18 seg pre)
def h_c_3 (seg : IVec S3x32768 32) (pre : IVec S3x32768 1) : IVec S_ 32 := (constantI S_ 32 1#32)
def h_v23 (seg : IVec S3x32768 32) (pre : IVec S3x32768 1) : IVec S3x8x1 32 := (broadcastInDim S3x8x1 ![] bcast_S_S3x8x1) (h_c_3 seg pre)
def h_v24 (seg : IVec S3x32768 32) (pre : IVec S3x32768 1) : IVec S3x8x1 32 := (subi) (h_v22 seg pre) (h_v23 seg pre)
def h_c_4 (seg : IVec S3x32768 32) (pre : IVec S3x32768 1) : IVec S_ 32 := (constantI S_ 32 0#32)
def h_call1_v0 (seg : IVec S3x32768 32) (pre : IVec S3x32768 1) : IVec S_ 32 := (h_c_4 seg pre)
def h_call1_v1 (seg : IVec S3x32768 32) (pre : IVec S3x32768 1) : IVec S3x8x32768 32 := (broadcastInDim S3x8x32768 ![0, 1, 2] bcast_S3x8x1_S3x8x32768_0_1_2) (h_v24 seg pre)
def h_call1_v2 (seg : IVec S3x32768 32) (pre : IVec S3x32768 1) : IVec S3x8x32768 32 := (broadcastInDim S3x8x32768 ![] bcast_S_S3x8x32768) (h_call1_v0 seg pre)
def h_v25 (seg : IVec S3x32768 32) (pre : IVec S3x32768 1) : IVec S3x8x32768 32 := select (h_v5 seg pre) (h_call1_v1 seg pre) (h_call1_v2 seg pre)
def h_c_5 (seg : IVec S3x32768 32) (pre : IVec S3x32768 1) : IVec S_ 32 := (constantI S_ 32 0#32)
def h_v26 (seg : IVec S3x32768 32) (pre : IVec S3x32768 1) : IVec S3x32768 32 := ((fun x v => Host.reduce IntOp.addi x v reducesTo_S3x8x32768_S3x32768_d1 h_S_)) (h_v25 seg pre) (h_c_5 seg pre)
def h_v27 (seg : IVec S3x32768 32) (pre : IVec S3x32768 1) : IVec S32768 32 := (iotaInDim S32768 32 0)
def h_v28 (seg : IVec S3x32768 32) (pre : IVec S3x32768 1) : IVec S1x32768 32 := (broadcastInDim S1x32768 ![1] bcast_S32768_S1x32768_1) (h_v27 seg pre)
def h_v29 (seg : IVec S3x32768 32) (pre : IVec S3x32768 1) : IVec S3x32768 32 := (broadcastInDim S3x32768 ![0, 1] bcast_S1x32768_S3x32768_0_1) (h_v28 seg pre)
def h_v30 (seg : IVec S3x32768 32) (pre : IVec S3x32768 1) : IVec S3x32768 32 := (maxsi) (h_v29 seg pre) (h_v26 seg pre)
def h_v31 (seg : IVec S3x32768 32) (pre : IVec S3x32768 1) : IVec S3x128x256 32 := shapeCast S3x128x256 (h_v21 seg pre) shapeCasts_S3x32768_S3x128x256
def h_v32 (seg : IVec S3x32768 32) (pre : IVec S3x32768 1) : IVec S3x128x256 32 := shapeCast S3x128x256 (h_v30 seg pre) shapeCasts_S3x32768_S3x128x256
def h_v33 (seg : IVec S3x32768 32) (pre : IVec S3x32768 1) : IVec S3x128x1 32 := ((extractStridedSlice S3x128x1 ![0, 0, 0] · slices_S3x128x256_S3x128x1_0_0_0)) (h_v31 seg pre)
def h_v34 (seg : IVec S3x32768 32) (pre : IVec S3x32768 1) : IVec S3x128 32 := shapeCast S3x128 (h_v33 seg pre) shapeCasts_S3x128x1_S3x128
def h_c_6 (seg : IVec S3x32768 32) (pre : IVec S3x32768 1) : IVec S_ 32 := (constantI S_ 32 256#32)
def h_call2_v0 (seg : IVec S3x32768 32) (pre : IVec S3x32768 1) : IVec S_ 32 := (h_c_6 seg pre)
def h_call2_v1 (seg : IVec S3x32768 32) (pre : IVec S3x32768 1) : IVec S3x128 32 := (broadcastInDim S3x128 ![] bcast_S_S3x128) (h_call2_v0 seg pre)
def h_call2_v2 (seg : IVec S3x32768 32) (pre : IVec S3x32768 1) : IVec S3x128 32 := Host.divsi (h_v34 seg pre) (h_call2_v1 seg pre)
def h_call2_v3 (seg : IVec S3x32768 32) (pre : IVec S3x32768 1) : IVec S3x128 32 := signi (h_v34 seg pre)
def h_call2_v4 (seg : IVec S3x32768 32) (pre : IVec S3x32768 1) : IVec S_ 32 := signi (h_call2_v0 seg pre)
def h_call2_v5 (seg : IVec S3x32768 32) (pre : IVec S3x32768 1) : IVec S3x128 32 := (broadcastInDim S3x128 ![] bcast_S_S3x128) (h_call2_v4 seg pre)
def h_call2_v6 (seg : IVec S3x32768 32) (pre : IVec S3x32768 1) : IVec S3x128 1 := (cmpi .ne) (h_call2_v3 seg pre) (h_call2_v5 seg pre)
def h_call2_v7 (seg : IVec S3x32768 32) (pre : IVec S3x32768 1) : IVec S3x128 32 := (broadcastInDim S3x128 ![] bcast_S_S3x128) (h_call2_v0 seg pre)
def h_call2_v8 (seg : IVec S3x32768 32) (pre : IVec S3x32768 1) : IVec S3x128 32 := Host.remsi (h_v34 seg pre) (h_call2_v7 seg pre)
def h_call2_c (seg : IVec S3x32768 32) (pre : IVec S3x32768 1) : IVec S_ 32 := (constantI S_ 32 0#32)
def h_call2_v9 (seg : IVec S3x32768 32) (pre : IVec S3x32768 1) : IVec S3x128 32 := (broadcastInDim S3x128 ![] bcast_S_S3x128) (h_call2_c seg pre)
def h_call2_v10 (seg : IVec S3x32768 32) (pre : IVec S3x32768 1) : IVec S3x128 1 := (cmpi .ne) (h_call2_v8 seg pre) (h_call2_v9 seg pre)
def h_call2_v11 (seg : IVec S3x32768 32) (pre : IVec S3x32768 1) : IVec S3x128 1 := andi (h_call2_v6 seg pre) (h_call2_v10 seg pre)
def h_call2_c_0 (seg : IVec S3x32768 32) (pre : IVec S3x32768 1) : IVec S_ 32 := (constantI S_ 32 1#32)
def h_call2_v12 (seg : IVec S3x32768 32) (pre : IVec S3x32768 1) : IVec S3x128 32 := (broadcastInDim S3x128 ![] bcast_S_S3x128) (h_call2_c_0 seg pre)
def h_call2_v13 (seg : IVec S3x32768 32) (pre : IVec S3x32768 1) : IVec S3x128 32 := subi (h_call2_v2 seg pre) (h_call2_v12 seg pre)
def h_v35 (seg : IVec S3x32768 32) (pre : IVec S3x32768 1) : IVec S3x128 32 := select (h_call2_v11 seg pre) (h_call2_v13 seg pre) (h_call2_v2 seg pre)
def h_v36 (seg : IVec S3x32768 32) (pre : IVec S3x32768 1) : IVec S3x128x1 32 := ((extractStridedSlice S3x128x1 ![0, 0, 255] · slices_S3x128x256_S3x128x1_0_0_255)) (h_v32 seg pre)
def h_v37 (seg : IVec S3x32768 32) (pre : IVec S3x32768 1) : IVec S3x128 32 := shapeCast S3x128 (h_v36 seg pre) shapeCasts_S3x128x1_S3x128
def h_c_7 (seg : IVec S3x32768 32) (pre : IVec S3x32768 1) : IVec S_ 32 := (constantI S_ 32 256#32)
def h_call3_v0 (seg : IVec S3x32768 32) (pre : IVec S3x32768 1) : IVec S_ 32 := (h_c_7 seg pre)
def h_call3_v1 (seg : IVec S3x32768 32) (pre : IVec S3x32768 1) : IVec S3x128 32 := (broadcastInDim S3x128 ![] bcast_S_S3x128) (h_call3_v0 seg pre)
def h_call3_v2 (seg : IVec S3x32768 32) (pre : IVec S3x32768 1) : IVec S3x128 32 := Host.divsi (h_v37 seg pre) (h_call3_v1 seg pre)
def h_call3_v3 (seg : IVec S3x32768 32) (pre : IVec S3x32768 1) : IVec S3x128 32 := signi (h_v37 seg pre)
def h_call3_v4 (seg : IVec S3x32768 32) (pre : IVec S3x32768 1) : IVec S_ 32 := signi (h_call3_v0 seg pre)
def h_call3_v5 (seg : IVec S3x32768 32) (pre : IVec S3x32768 1) : IVec S3x128 32 := (broadcastInDim S3x128 ![] bcast_S_S3x128) (h_call3_v4 seg pre)
def h_call3_v6 (seg : IVec S3x32768 32) (pre : IVec S3x32768 1) : IVec S3x128 1 := (cmpi .ne) (h_call3_v3 seg pre) (h_call3_v5 seg pre)
def h_call3_v7 (seg : IVec S3x32768 32) (pre : IVec S3x32768 1) : IVec S3x128 32 := (broadcastInDim S3x128 ![] bcast_S_S3x128) (h_call3_v0 seg pre)
def h_call3_v8 (seg : IVec S3x32768 32) (pre : IVec S3x32768 1) : IVec S3x128 32 := Host.remsi (h_v37 seg pre) (h_call3_v7 seg pre)
def h_call3_c (seg : IVec S3x32768 32) (pre : IVec S3x32768 1) : IVec S_ 32 := (constantI S_ 32 0#32)
def h_call3_v9 (seg : IVec S3x32768 32) (pre : IVec S3x32768 1) : IVec S3x128 32 := (broadcastInDim S3x128 ![] bcast_S_S3x128) (h_call3_c seg pre)
def h_call3_v10 (seg : IVec S3x32768 32) (pre : IVec S3x32768 1) : IVec S3x128 1 := (cmpi .ne) (h_call3_v8 seg pre) (h_call3_v9 seg pre)
def h_call3_v11 (seg : IVec S3x32768 32) (pre : IVec S3x32768 1) : IVec S3x128 1 := andi (h_call3_v6 seg pre) (h_call3_v10 seg pre)
def h_call3_c_0 (seg : IVec S3x32768 32) (pre : IVec S3x32768 1) : IVec S_ 32 := (constantI S_ 32 1#32)
def h_call3_v12 (seg : IVec S3x32768 32) (pre : IVec S3x32768 1) : IVec S3x128 32 := (broadcastInDim S3x128 ![] bcast_S_S3x128) (h_call3_c_0 seg pre)
def h_call3_v13 (seg : IVec S3x32768 32) (pre : IVec S3x32768 1) : IVec S3x128 32 := subi (h_call3_v2 seg pre) (h_call3_v12 seg pre)
def h_v38 (seg : IVec S3x32768 32) (pre : IVec S3x32768 1) : IVec S3x128 32 := select (h_call3_v11 seg pre) (h_call3_v13 seg pre) (h_call3_v2 seg pre)
def h_c_8 (seg : IVec S3x32768 32) (pre : IVec S3x32768 1) : IVec S_ 32 := (constantI S_ 32 1#32)
def h_v39 (seg : IVec S3x32768 32) (pre : IVec S3x32768 1) : IVec S3x128 32 := (broadcastInDim S3x128 ![] bcast_S_S3x128) (h_c_8 seg pre)
def h_v40 (seg : IVec S3x32768 32) (pre : IVec S3x32768 1) : IVec S3x128 32 := (addi) (h_v38 seg pre) (h_v39 seg pre)
def h_v41 (seg : IVec S3x32768 32) (pre : IVec S3x32768 1) : IVec S3x128x1 32 := ((extractStridedSlice S3x128x1 ![0, 0, 255] · slices_S3x128x256_S3x128x1_0_0_255)) (h_v31 seg pre)
def h_v42 (seg : IVec S3x32768 32) (pre : IVec S3x32768 1) : IVec S3x128 32 := shapeCast S3x128 (h_v41 seg pre) shapeCasts_S3x128x1_S3x128
def h_c_9 (seg : IVec S3x32768 32) (pre : IVec S3x32768 1) : IVec S_ 32 := (constantI S_ 32 256#32)
def h_v43 (seg : IVec S3x32768 32) (pre : IVec S3x32768 1) : IVec S3x128 32 := (broadcastInDim S3x128 ![] bcast_S_S3x128) (h_c_9 seg pre)
def h_v44 (seg : IVec S3x32768 32) (pre : IVec S3x32768 1) : IVec S3x128 32 := (addi) (h_v42 seg pre) (h_v43 seg pre)
def h_c_10 (seg : IVec S3x32768 32) (pre : IVec S3x32768 1) : IVec S_ 32 := (constantI S_ 32 1#32)
def h_v45 (seg : IVec S3x32768 32) (pre : IVec S3x32768 1) : IVec S3x128 32 := (broadcastInDim S3x128 ![] bcast_S_S3x128) (h_c_10 seg pre)
def h_v46 (seg : IVec S3x32768 32) (pre : IVec S3x32768 1) : IVec S3x128 32 := (subi) (h_v44 seg pre) (h_v45 seg pre)
def h_c_11 (seg : IVec S3x32768 32) (pre : IVec S3x32768 1) : IVec S_ 32 := (constantI S_ 32 256#32)
def h_call4_v0 (seg : IVec S3x32768 32) (pre : IVec S3x32768 1) : IVec S_ 32 := (h_c_11 seg pre)
def h_call4_v1 (seg : IVec S3x32768 32) (pre : IVec S3x32768 1) : IVec S3x128 32 := (broadcastInDim S3x128 ![] bcast_S_S3x128) (h_call4_v0 seg pre)
def h_call4_v2 (seg : IVec S3x32768 32) (pre : IVec S3x32768 1) : IVec S3x128 32 := Host.divsi (h_v46 seg pre) (h_call4_v1 seg pre)
def h_call4_v3 (seg : IVec S3x32768 32) (pre : IVec S3x32768 1) : IVec S3x128 32 := signi (h_v46 seg pre)
def h_call4_v4 (seg : IVec S3x32768 32) (pre : IVec S3x32768 1) : IVec S_ 32 := signi (h_call4_v0 seg pre)
def h_call4_v5 (seg : IVec S3x32768 32) (pre : IVec S3x32768 1) : IVec S3x128 32 := (broadcastInDim S3x128 ![] bcast_S_S3x128) (h_call4_v4 seg pre)
def h_call4_v6 (seg : IVec S3x32768 32) (pre : IVec S3x32768 1) : IVec S3x128 1 := (cmpi .ne) (h_call4_v3 seg pre) (h_call4_v5 seg pre)
def h_call4_v7 (seg : IVec S3x32768 32) (pre : IVec S3x32768 1) : IVec S3x128 32 := (broadcastInDim S3x128 ![] bcast_S_S3x128) (h_call4_v0 seg pre)
def h_call4_v8 (seg : IVec S3x32768 32) (pre : IVec S3x32768 1) : IVec S3x128 32 := Host.remsi (h_v46 seg pre) (h_call4_v7 seg pre)
def h_call4_c (seg : IVec S3x32768 32) (pre : IVec S3x32768 1) : IVec S_ 32 := (constantI S_ 32 0#32)
def h_call4_v9 (seg : IVec S3x32768 32) (pre : IVec S3x32768 1) : IVec S3x128 32 := (broadcastInDim S3x128 ![] bcast_S_S3x128) (h_call4_c seg pre)
def h_call4_v10 (seg : IVec S3x32768 32) (pre : IVec S3x32768 1) : IVec S3x128 1 := (cmpi .ne) (h_call4_v8 seg pre) (h_call4_v9 seg pre)
def h_call4_v11 (seg : IVec S3x32768 32) (pre : IVec S3x32768 1) : IVec S3x128 1 := andi (h_call4_v6 seg pre) (h_call4_v10 seg pre)
def h_call4_c_0 (seg : IVec S3x32768 32) (pre : IVec S3x32768 1) : IVec S_ 32 := (constantI S_ 32 1#32)
def h_call4_v12 (seg : IVec S3x32768 32) (pre : IVec S3x32768 1) : IVec S3x128 32 := (broadcastInDim S3x128 ![] bcast_S_S3x128) (h_call4_c_0 seg pre)
def h_call4_v13 (seg : IVec S3x32768 32) (pre : IVec S3x32768 1) : IVec S3x128 32 := subi (h_call4_v2 seg pre) (h_call4_v12 seg pre)
def h_v47 (seg : IVec S3x32768 32) (pre : IVec S3x32768 1) : IVec S3x128 32 := select (h_call4_v11 seg pre) (h_call4_v13 seg pre) (h_call4_v2 seg pre)
def h_c_12 (seg : IVec S3x32768 32) (pre : IVec S3x32768 1) : IVec S_ 32 := (constantI S_ 32 2147483647#32)
def h_v48 (seg : IVec S3x32768 32) (pre : IVec S3x32768 1) : IVec S3x128 32 := ((fun x v => Host.reduce IntOp.minsi x v reducesTo_S3x128x256_S3x128_d2 h_S_)) (h_v32 seg pre) (h_c_12 seg pre)
def h_c_13 (seg : IVec S3x32768 32) (pre : IVec S3x32768 1) : IVec S_ 32 := (constantI S_ 32 1#32)
def h_v49 (seg : IVec S3x32768 32) (pre : IVec S3x32768 1) : IVec S3x128 32 := (broadcastInDim S3x128 ![] bcast_S_S3x128) (h_c_13 seg pre)
def h_v50 (seg : IVec S3x32768 32) (pre : IVec S3x32768 1) : IVec S3x128 32 := (addi) (h_v48 seg pre) (h_v49 seg pre)
def h_c_14 (seg : IVec S3x32768 32) (pre : IVec S3x32768 1) : IVec S_ 32 := (constantI S_ 32 256#32)
def h_call5_v0 (seg : IVec S3x32768 32) (pre : IVec S3x32768 1) : IVec S_ 32 := (h_c_14 seg pre)
def h_call5_v1 (seg : IVec S3x32768 32) (pre : IVec S3x32768 1) : IVec S3x128 32 := (broadcastInDim S3x128 ![] bcast_S_S3x128) (h_call5_v0 seg pre)
def h_call5_v2 (seg : IVec S3x32768 32) (pre : IVec S3x32768 1) : IVec S3x128 32 := Host.divsi (h_v50 seg pre) (h_call5_v1 seg pre)
def h_call5_v3 (seg : IVec S3x32768 32) (pre : IVec S3x32768 1) : IVec S3x128 32 := signi (h_v50 seg pre)
def h_call5_v4 (seg : IVec S3x32768 32) (pre : IVec S3x32768 1) : IVec S_ 32 := signi (h_call5_v0 seg pre)
def h_call5_v5 (seg : IVec S3x32768 32) (pre : IVec S3x32768 1) : IVec S3x128 32 := (broadcastInDim S3x128 ![] bcast_S_S3x128) (h_call5_v4 seg pre)
def h_call5_v6 (seg : IVec S3x32768 32) (pre : IVec S3x32768 1) : IVec S3x128 1 := (cmpi .ne) (h_call5_v3 seg pre) (h_call5_v5 seg pre)
def h_call5_v7 (seg : IVec S3x32768 32) (pre : IVec S3x32768 1) : IVec S3x128 32 := (broadcastInDim S3x128 ![] bcast_S_S3x128) (h_call5_v0 seg pre)
def h_call5_v8 (seg : IVec S3x32768 32) (pre : IVec S3x32768 1) : IVec S3x128 32 := Host.remsi (h_v50 seg pre) (h_call5_v7 seg pre)
def h_call5_c (seg : IVec S3x32768 32) (pre : IVec S3x32768 1) : IVec S_ 32 := (constantI S_ 32 0#32)
def h_call5_v9 (seg : IVec S3x32768 32) (pre : IVec S3x32768 1) : IVec S3x128 32 := (broadcastInDim S3x128 ![] bcast_S_S3x128) (h_call5_c seg pre)
def h_call5_v10 (seg : IVec S3x32768 32) (pre : IVec S3x32768 1) : IVec S3x128 1 := (cmpi .ne) (h_call5_v8 seg pre) (h_call5_v9 seg pre)
def h_call5_v11 (seg : IVec S3x32768 32) (pre : IVec S3x32768 1) : IVec S3x128 1 := andi (h_call5_v6 seg pre) (h_call5_v10 seg pre)
def h_call5_c_0 (seg : IVec S3x32768 32) (pre : IVec S3x32768 1) : IVec S_ 32 := (constantI S_ 32 1#32)
def h_call5_v12 (seg : IVec S3x32768 32) (pre : IVec S3x32768 1) : IVec S3x128 32 := (broadcastInDim S3x128 ![] bcast_S_S3x128) (h_call5_c_0 seg pre)
def h_call5_v13 (seg : IVec S3x32768 32) (pre : IVec S3x32768 1) : IVec S3x128 32 := subi (h_call5_v2 seg pre) (h_call5_v12 seg pre)
def h_v51 (seg : IVec S3x32768 32) (pre : IVec S3x32768 1) : IVec S3x128 32 := select (h_call5_v11 seg pre) (h_call5_v13 seg pre) (h_call5_v2 seg pre)
def h_v52 (seg : IVec S3x32768 32) (pre : IVec S3x32768 1) : IVec S3x128 32 := (minsi) (h_v47 seg pre) (h_v40 seg pre)
def h_v53 (seg : IVec S3x32768 32) (pre : IVec S3x32768 1) : IVec S3x128 32 := (maxsi) (h_v51 seg pre) (h_v52 seg pre)
def h_v54 (seg : IVec S3x32768 32) (pre : IVec S3x32768 1) : IVec S3x128x1 32 := (broadcastInDim S3x128x1 ![0, 1] bcast_S3x128_S3x128x1_0_1) (h_v35 seg pre)
def h_v55 (seg : IVec S3x32768 32) (pre : IVec S3x32768 1) : IVec S3x128x1 32 := (broadcastInDim S3x128x1 ![0, 1] bcast_S3x128_S3x128x1_0_1) (h_v40 seg pre)
def h_v56 (seg : IVec S3x32768 32) (pre : IVec S3x32768 1) : IVec S3x128x1 32 := (broadcastInDim S3x128x1 ![0, 1] bcast_S3x128_S3x128x1_0_1) (h_v52 seg pre)
def h_v57 (seg : IVec S3x32768 32) (pre : IVec S3x32768 1) : IVec S3x128x1 32 := (broadcastInDim S3x128x1 ![0, 1] bcast_S3x128_S3x128x1_0_1) (h_v53 seg pre)
def h_v58 (seg : IVec S3x32768 32) (pre : IVec S3x32768 1) : IVec S3x128x4 32 := concatenate S3x128x4 2 [⟨S3x128x1, h_v54 seg pre⟩, ⟨S3x128x1, h_v55 seg pre⟩, ⟨S3x128x1, h_v56 seg pre⟩, ⟨S3x128x1, h_v57 seg pre⟩] concatenates_S3x128x1_S3x128x1_S3x128x1_S3x128x1_S3x128x4_d2
def h_v59 (seg : IVec S3x32768 32) (pre : IVec S3x32768 1) : IVec S3x1x32768 32 := (broadcastInDim S3x1x32768 ![0, 2] bcast_S3x32768_S3x1x32768_0_2) (h_v21 seg pre)
def h_v60 (seg : IVec S3x32768 32) (pre : IVec S3x32768 1) : IVec S3x1x32768 32 := (broadcastInDim S3x1x32768 ![0, 2] bcast_S3x32768_S3x1x32768_0_2) (h_v30 seg pre)

variable {F : FTy → Type} [FloatOps F] [Named F]
variable (m : (ℓ : Loc nD τ sig) → Buf (Elt F) ℓ)

/-- The segment numbers and the prefix marks at launch. -/
abbrev segOf (c : Dev nD) : IVec S3x32768 32 := m ((c : Thread nD τ).loc main_arg6)
abbrev preOf (c : Dev nD) : IVec S3x32768 1 := m ((c : Thread nD τ).loc main_arg7)

set_option maxHeartbeats 1000000 in
theorem upto_v54 (c : Dev nD) : (StableHlo.upto (hostLines (F := F)).flatten (fun b => m (c, b)) 144 (Proc.devRef .tc main_v54) : IVec S3x128x1 32) = h_v54 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem upto_v55 (c : Dev nD) : (StableHlo.upto (hostLines (F := F)).flatten (fun b => m (c, b)) 144 (Proc.devRef .tc main_v55) : IVec S3x128x1 32) = h_v55 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem upto_v56 (c : Dev nD) : (StableHlo.upto (hostLines (F := F)).flatten (fun b => m (c, b)) 144 (Proc.devRef .tc main_v56) : IVec S3x128x1 32) = h_v56 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem upto_v57 (c : Dev nD) : (StableHlo.upto (hostLines (F := F)).flatten (fun b => m (c, b)) 144 (Proc.devRef .tc main_v57) : IVec S3x128x1 32) = h_v57 (segOf m c) (preOf m c) := by
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
theorem V_v58 (c : Dev nD) : V m c main_v58 = h_v58 (segOf m c) (preOf m c) := by
  unfold V V0 h_v58
  after_reads_simp
  rw [← upto_v54 m c, ← upto_v55 m c, ← upto_v56 m c, ← upto_v57 m c]
  rfl
set_option maxHeartbeats 1000000 in
theorem V_v59 (c : Dev nD) : V m c main_v59 = h_v59 (segOf m c) (preOf m c) := by
  unfold V V0
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl
set_option maxHeartbeats 1000000 in
theorem V_v60 (c : Dev nD) : V m c main_v60 = h_v60 (segOf m c) (preOf m c) := by
  unfold V V0
  after_reads_simp
  simp -implicitDefEqProofs only [StableHlo.TRef.toBuf, StableHlo.TRef.ofBuf, cast_eq, id_eq]
  simp only [h_v0, h_v1, h_v2, h_v3, h_v4, h_v5, h_v6, h_v7, h_v8, h_v9, h_v10, h_v11, h_c, h_v12, h_v13, h_v14, h_v15, h_v16, h_c_0, h_v17, h_v18, h_v19, h_c_1, h_call0_v0, h_call0_v1, h_call0_v2, h_v20, h_c_2, h_v21, h_v22, h_c_3, h_v23, h_v24, h_c_4, h_call1_v0, h_call1_v1, h_call1_v2, h_v25, h_c_5, h_v26, h_v27, h_v28, h_v29, h_v30, h_v31, h_v32, h_v33, h_v34, h_c_6, h_call2_v0, h_call2_v1, h_call2_v2, h_call2_v3, h_call2_v4, h_call2_v5, h_call2_v6, h_call2_v7, h_call2_v8, h_call2_c, h_call2_v9, h_call2_v10, h_call2_v11, h_call2_c_0, h_call2_v12, h_call2_v13, h_v35, h_v36, h_v37, h_c_7, h_call3_v0, h_call3_v1, h_call3_v2, h_call3_v3, h_call3_v4, h_call3_v5, h_call3_v6, h_call3_v7, h_call3_v8, h_call3_c, h_call3_v9, h_call3_v10, h_call3_v11, h_call3_c_0, h_call3_v12, h_call3_v13, h_v38, h_c_8, h_v39, h_v40, h_v41, h_v42, h_c_9, h_v43, h_v44, h_c_10, h_v45, h_v46, h_c_11, h_call4_v0, h_call4_v1, h_call4_v2, h_call4_v3, h_call4_v4, h_call4_v5, h_call4_v6, h_call4_v7, h_call4_v8, h_call4_c, h_call4_v9, h_call4_v10, h_call4_v11, h_call4_c_0, h_call4_v12, h_call4_v13, h_v47, h_c_12, h_v48, h_c_13, h_v49, h_v50, h_c_14, h_call5_v0, h_call5_v1, h_call5_v2, h_call5_v3, h_call5_v4, h_call5_v5, h_call5_v6, h_call5_v7, h_call5_v8, h_call5_c, h_call5_v9, h_call5_v10, h_call5_v11, h_call5_c_0, h_call5_v12, h_call5_v13, h_v51, h_v52, h_v53, h_v54, h_v55, h_v56, h_v57, h_v58, h_v59, h_v60]
  first | done | rfl

end Cert.KernelIdeal.Body
-- ==== Proof.Ideal.Checks.lean ====
/-
The checks the body makes on the table's words hold when the words are block numbers in order: the loops' bounds,
trip counts and offsets as natural numbers.
-/
module

public import proofs.«01_k».proof.Proof.Ideal.Body

@[expose] public section

noncomputable section

namespace Cert.KernelIdeal.Body

open Idealize.ShloMosaic Cert.KernelIdeal

/-- The loop over single blocks from `a` up to `b`, its bounds as the kernel computes them, -/
@[reducible] def single (a b : BitVec 32) : Scf.Loop 32 := ⟨a, Scalar.addi a (Scalar.muli (Scalar.divsi (Scalar.subi b a) 1#32) 1#32), 1#32⟩
/-- and the loop over what it leaves, which is nothing. -/
@[reducible] def rest (a b : BitVec 32) : Scf.Loop 32 := ⟨Scalar.addi a (Scalar.muli (Scalar.divsi (Scalar.subi b a) 1#32) 1#32), Scalar.addi a (Scalar.subi b a), 1#32⟩

/-- The quotient of a word by four, rounded down, as the kernel computes it. -/
def quarter (v31 : BitVec 32) : BitVec 32 :=
  Scalar.select (Scalar.andi (Scalar.cmpi .ne (Scalar.subi (Scalar.extui (Scalar.cmpi .sgt v31 0#32)) (Scalar.extui (Scalar.cmpi .slt v31 0#32)))
      (Scalar.subi (Scalar.extui (Scalar.cmpi .sgt 4#32 0#32)) (Scalar.extui (Scalar.cmpi .slt 4#32 0#32))))
    (Scalar.cmpi .ne (Scalar.remsi v31 4#32) 0#32)) (Scalar.subi (Scalar.divsi v31 4#32) 1#32) (Scalar.divsi v31 4#32)

theorem divsi_one (x : BitVec 32) : Scalar.divsi x 1#32 = x := by
  unfold Scalar.divsi IntOp.divsi
  rw [if_neg (by unfold IntOp.SDivCorner; rintro (h | ⟨-, h⟩) <;> exact absurd h (by decide))]
  exact BitVec.sdiv_one

theorem add_sub_word (a b : BitVec 32) : a + (b - a) = b := by
  apply BitVec.eq_of_toNat_eq
  simp only [BitVec.toNat_add, BitVec.toNat_sub]
  have := a.isLt; have := b.isLt
  omega

theorem single_eq (a b : BitVec 32) : single a b = ⟨a, b, 1#32⟩ := by
  unfold single
  rw [divsi_one]
  unfold Scalar.addi Scalar.muli Scalar.subi IntOp.addi IntOp.muli IntOp.subi
  rw [BitVec.mul_one, add_sub_word]
theorem rest_eq (a b : BitVec 32) : rest a b = ⟨b, b, 1#32⟩ := by
  unfold rest
  rw [divsi_one]
  unfold Scalar.addi Scalar.muli Scalar.subi IntOp.addi IntOp.muli IntOp.subi
  rw [BitVec.mul_one, add_sub_word]

theorem quarter_ofNat {n : Nat} (h : n ≤ 128) : quarter (BitVec.ofNat 32 n) = BitVec.ofNat 32 (n / 4) := by
  have : ∀ n : Fin 129, quarter (BitVec.ofNat 32 n.val) = BitVec.ofNat 32 (n.val / 4) := by decide
  exact this ⟨n, by omega⟩

theorem toInt_small {n : Nat} (h : n < 2 ^ 31) : (BitVec.ofNat 32 n).toInt = n := by
  rw [BitVec.toInt_eq_toNat_of_lt (by simp only [BitVec.toNat_ofNat]; omega), BitVec.toNat_ofNat, Nat.mod_eq_of_lt (by omega)]

theorem trips_ofNat {a b : Nat} (ha : a ≤ 128) (hb : b ≤ 128) : Scf.trips (BitVec.ofNat 32 a) (BitVec.ofNat 32 b) 1#32 = b - a := by
  unfold Scf.trips
  rw [toInt_small (by omega), toInt_small (by omega), show (1#32).toInt = 1 from by decide, Int.ediv_one]
  omega

theorem ok_ofNat {a b : Nat} (ha : a ≤ 128) (hb : b ≤ 128) : Scf.OK (BitVec.ofNat 32 a) (BitVec.ofNat 32 b) 1#32 := by
  unfold Scf.OK
  rw [trips_ofNat ha hb, toInt_small (n := a) (by omega)]
  refine ⟨by decide, ?_⟩
  rw [show (1#32).toInt = 1 from by decide]
  omega

theorem single_trips {a b : Nat} (ha : a ≤ 128) (hb : b ≤ 128) : (single (BitVec.ofNat 32 a) (BitVec.ofNat 32 b)).trips = b - a := by
  rw [single_eq]; exact trips_ofNat ha hb
theorem single_ok {a b : Nat} (ha : a ≤ 128) (hb : b ≤ 128) : (single (BitVec.ofNat 32 a) (BitVec.ofNat 32 b)).OK := by
  rw [single_eq]; exact ok_ofNat ha hb
theorem rest_trips (a b : BitVec 32) : (rest a b).trips = 0 := by
  rw [rest_eq]
  show Scf.trips b b 1#32 = 0
  unfold Scf.trips
  rw [Int.sub_self, show (1#32).toInt = 1 from by decide]; rfl
theorem no_rest {a b : BitVec 32} (k : Fin (rest a b).trips) : False := by
  exact absurd (k.isLt.trans_eq (rest_trips a b)) (Nat.not_lt_zero _)
theorem rest_ok {a : BitVec 32} {b : Nat} (hb : b ≤ 128) : (rest a (BitVec.ofNat 32 b)).OK := by
  rw [rest_eq]; exact ok_ofNat hb hb

theorem sub_ofNat {a b : Nat} (h : a ≤ b) (hb : b ≤ 128) : Scalar.subi (BitVec.ofNat 32 b) (BitVec.ofNat 32 a) = BitVec.ofNat 32 (b - a) := by
  apply BitVec.eq_of_toNat_eq
  unfold Scalar.subi IntOp.subi
  simp only [BitVec.toNat_sub, BitVec.toNat_ofNat]
  omega
theorem quarter_sub {a b : Nat} (h : a ≤ b) (hb : b ≤ 128) : quarter (Scalar.subi (BitVec.ofNat 32 b) (BitVec.ofNat 32 a)) = BitVec.ofNat 32 ((b - a) / 4) := by
  rw [sub_ofNat h hb, quarter_ofNat (by omega)]
/-- Where the blocks four at a time stop. -/
theorem stop_ofNat {a b : Nat} (h : a ≤ b) (hb : b ≤ 128) :
    Scalar.addi (BitVec.ofNat 32 a) (Scalar.muli (quarter (Scalar.subi (BitVec.ofNat 32 b) (BitVec.ofNat 32 a))) 4#32) = BitVec.ofNat 32 (a + 4 * ((b - a) / 4)) := by
  rw [quarter_sub h hb]
  apply BitVec.eq_of_toNat_eq
  unfold Scalar.addi Scalar.muli IntOp.addi IntOp.muli
  simp only [BitVec.toNat_add, BitVec.toNat_mul, BitVec.toNat_ofNat]
  omega

/-- The row at which block `a + k` begins, as the kernel computes it. -/
theorem row_ofNat {a k : Nat} (h : a + k ≤ 128) : (Scalar.muli (Scf.iv (BitVec.ofNat 32 a) 1#32 k) 256#32).toNat = (a + k) * 256 := by
  unfold Scalar.muli Scf.iv IntOp.muli
  simp only [BitVec.toNat_add, BitVec.toNat_mul, BitVec.toNat_ofNat]
  omega
theorem row4_ofNat {a k : Nat} (h : a + 4 * k ≤ 128) :
    (Scalar.muli (Scalar.addi (BitVec.ofNat 32 a) (Scalar.muli (Scf.iv 0#32 1#32 k) 4#32)) 256#32).toNat = (a + 4 * k) * 256 := by
  unfold Scalar.muli Scalar.addi Scf.iv IntOp.muli IntOp.addi
  simp only [BitVec.toNat_add, BitVec.toNat_mul, BitVec.toNat_ofNat]
  omega

theorem inb_k (n p : Nat) (hp : p = 256 ∨ p = 1024) (h : n + p ≤ 32768) (d : Fin 4 → Nat) (hd : d = ![1, 1, p, 128]) :
    ∀ a, ![0, 0, n, 0] a + d a ≤ S1x1x32768x128.size a := by
  subst hd; intro a; fin_cases a
  · show 0 + 1 ≤ 1; omega
  · show 0 + 1 ≤ 1; omega
  · show n + p ≤ 32768; omega
  · show 0 + 128 ≤ 128; omega
theorem inb_v (n p : Nat) (h : n + p ≤ 32768) (d : Fin 4 → Nat) (hd : d = ![1, 1, 128, p]) :
    ∀ a, ![0, 0, 0, n] a + d a ≤ S1x1x128x32768.size a := by
  subst hd; intro a; fin_cases a
  · show 0 + 1 ≤ 1; omega
  · show 0 + 1 ≤ 1; omega
  · show 0 + 128 ≤ 128; omega
  · show n + p ≤ 32768; omega
theorem inb_s (n p : Nat) (h : n + p ≤ 32768) (d : Fin 2 → Nat) (hd : d = ![p, 256]) :
    ∀ a, ![n, 0] a + d a ≤ S32768x256.size a := by
  subst hd; intro a; fin_cases a
  · show n + p ≤ 32768; omega
  · show 0 + 256 ≤ 256; omega

section One
variable {a b : Nat} (ha : a ≤ 128) (hb : b ≤ 128)
include ha hb
theorem lt_single (k : Fin (single (BitVec.ofNat 32 a) (BitVec.ofNat 32 b)).trips) : a + k.val + 1 ≤ b := by
  have := k.isLt.trans_eq (single_trips ha hb); omega
theorem one_dvd (k : Fin (single (BitVec.ofNat 32 a) (BitVec.ofNat 32 b)).trips) :
    256 ∣ (Scalar.muli (Scf.iv (BitVec.ofNat 32 a) 1#32 k) 256#32).toNat := by
  have := lt_single ha hb k; rw [row_ofNat (by omega)]; exact ⟨_, Nat.mul_comm _ _⟩
theorem one_k (k : Fin (single (BitVec.ofNat 32 a) (BitVec.ofNat 32 b)).trips) :
    ∀ i, ![0, 0, (Scalar.muli (Scf.iv (BitVec.ofNat 32 a) 1#32 k) 256#32).toNat, 0] i + S1x1x256x128.size i ≤ S1x1x32768x128.size i := by
  have := lt_single ha hb k; rw [row_ofNat (by omega)]; exact inb_k _ 256 (.inl rfl) (by omega) _ (by decide)
theorem one_v (k : Fin (single (BitVec.ofNat 32 a) (BitVec.ofNat 32 b)).trips) :
    ∀ i, ![0, 0, 0, (Scalar.muli (Scf.iv (BitVec.ofNat 32 a) 1#32 k) 256#32).toNat] i + S1x1x128x256.size i ≤ S1x1x128x32768.size i := by
  have := lt_single ha hb k; rw [row_ofNat (by omega)]; exact inb_v _ 256 (by omega) _ (by decide)
theorem one_s (k : Fin (single (BitVec.ofNat 32 a) (BitVec.ofNat 32 b)).trips) :
    ∀ i, ![(Scalar.muli (Scf.iv (BitVec.ofNat 32 a) 1#32 k) 256#32).toNat, 0] i + S256x256.size i ≤ S32768x256.size i := by
  have := lt_single ha hb k; rw [row_ofNat (by omega)]; exact inb_s _ 256 (by omega) _ (by decide)
end One

section Four
variable {a b : Nat} (h : a ≤ b) (hb : b ≤ 128)
include h hb
theorem four_trips : (single 0#32 (quarter (Scalar.subi (BitVec.ofNat 32 b) (BitVec.ofNat 32 a)))).trips = (b - a) / 4 := by
  rw [quarter_sub h hb]; exact (single_trips (a := 0) (by omega) (by omega)).trans (Nat.sub_zero _)
theorem lt_four (k : Fin (single 0#32 (quarter (Scalar.subi (BitVec.ofNat 32 b) (BitVec.ofNat 32 a)))).trips) : a + 4 * k.val + 4 ≤ b := by
  have := k.isLt.trans_eq (four_trips h hb); omega
theorem four_ok : (single 0#32 (quarter (Scalar.subi (BitVec.ofNat 32 b) (BitVec.ofNat 32 a)))).OK := by
  rw [quarter_sub h hb]; exact single_ok (a := 0) (by omega) (by omega)
theorem four_rest_ok : (rest 0#32 (quarter (Scalar.subi (BitVec.ofNat 32 b) (BitVec.ofNat 32 a)))).OK := by
  rw [quarter_sub h hb]; exact rest_ok (by omega)
theorem four_dvd (k : Fin (single 0#32 (quarter (Scalar.subi (BitVec.ofNat 32 b) (BitVec.ofNat 32 a)))).trips) :
    256 ∣ (Scalar.muli (Scalar.addi (BitVec.ofNat 32 a) (Scalar.muli (Scf.iv 0#32 1#32 k) 4#32)) 256#32).toNat := by
  have := lt_four h hb k; rw [row4_ofNat (by omega)]; exact ⟨_, Nat.mul_comm _ _⟩
theorem four_k (k : Fin (single 0#32 (quarter (Scalar.subi (BitVec.ofNat 32 b) (BitVec.ofNat 32 a)))).trips) :
    ∀ i, ![0, 0, (Scalar.muli (Scalar.addi (BitVec.ofNat 32 a) (Scalar.muli (Scf.iv 0#32 1#32 k) 4#32)) 256#32).toNat, 0] i + S1x1x1024x128.size i ≤ S1x1x32768x128.size i := by
  have := lt_four h hb k; rw [row4_ofNat (by omega)]; exact inb_k _ 1024 (.inr rfl) (by omega) _ (by decide)
theorem four_v (k : Fin (single 0#32 (quarter (Scalar.subi (BitVec.ofNat 32 b) (BitVec.ofNat 32 a)))).trips) :
    ∀ i, ![0, 0, 0, (Scalar.muli (Scalar.addi (BitVec.ofNat 32 a) (Scalar.muli (Scf.iv 0#32 1#32 k) 4#32)) 256#32).toNat] i + S1x1x128x1024.size i ≤ S1x1x128x32768.size i := by
  have := lt_four h hb k; rw [row4_ofNat (by omega)]; exact inb_v _ 1024 (by omega) _ (by decide)
theorem four_s (k : Fin (single 0#32 (quarter (Scalar.subi (BitVec.ofNat 32 b) (BitVec.ofNat 32 a)))).trips) :
    ∀ i, ![(Scalar.muli (Scalar.addi (BitVec.ofNat 32 a) (Scalar.muli (Scf.iv 0#32 1#32 k) 4#32)) 256#32).toNat, 0] i + S1024x256.size i ≤ S32768x256.size i := by
  have := lt_four h hb k; rw [row4_ofNat (by omega)]; exact inb_s _ 1024 (by omega) _ (by decide)
/-- The single blocks after those four at a time: the same facts, their first block as the kernel computes it. -/
theorem tail_eq (P : BitVec 32 → Prop) (hP : P (BitVec.ofNat 32 (a + 4 * ((b - a) / 4)))) :
    P (Scalar.addi (BitVec.ofNat 32 a) (Scalar.muli (quarter (Scalar.subi (BitVec.ofNat 32 b) (BitVec.ofNat 32 a))) 4#32)) := by
  rw [stop_ofNat h hb]; exact hP
end Four

section Checks
variable {lo hi fl fh : Nat}

set_option maxHeartbeats 2000000 in
theorem k0_chk1_0_of (h1 : lo ≤ 128) (h2 : fl ≤ 128) : k0_chk1_0 (BitVec.ofNat 32 lo) (BitVec.ofNat 32 fl) :=
  ⟨single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim⟩
set_option maxHeartbeats 2000000 in
theorem k0_chk1_1_of (h1 : lo ≤ 128) (h2 : fl ≤ 128) : k0_chk1_1 (BitVec.ofNat 32 lo) (BitVec.ofNat 32 fl) :=
  ⟨single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim,
   single_ok h1 h2,
   one_dvd h1 h2,
   one_k h1 h2,
   one_s h1 h2,
   rest_ok h2,
   fun k => (no_rest k).elim,
   fun k => (no_rest k).elim,
   fun k => (no_rest k).elim⟩
set_option maxHeartbeats 2000000 in
theorem k0_chk2_0_of (h1 : fl ≤ fh) (h2 : fh ≤ 128) (h3 : hi ≤ 128) : k0_chk2_0 (BitVec.ofNat 32 hi) (BitVec.ofNat 32 fl) (BitVec.ofNat 32 fh) :=
  ⟨four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim⟩
set_option maxHeartbeats 2000000 in
theorem k0_chk2_1_of (h1 : fl ≤ fh) (h2 : fh ≤ 128) (h3 : hi ≤ 128) : k0_chk2_1 (BitVec.ofNat 32 hi) (BitVec.ofNat 32 fl) (BitVec.ofNat 32 fh) :=
  ⟨tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim⟩
set_option maxHeartbeats 2000000 in
theorem k0_chk2_2_of (h1 : fl ≤ fh) (h2 : fh ≤ 128) (h3 : hi ≤ 128) : k0_chk2_2 (BitVec.ofNat 32 hi) (BitVec.ofNat 32 fl) (BitVec.ofNat 32 fh) :=
  ⟨single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim⟩
set_option maxHeartbeats 2000000 in
theorem k0_chk2_3_of (h1 : fl ≤ fh) (h2 : fh ≤ 128) (h3 : hi ≤ 128) : k0_chk2_3 (BitVec.ofNat 32 hi) (BitVec.ofNat 32 fl) (BitVec.ofNat 32 fh) :=
  ⟨four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim⟩
set_option maxHeartbeats 2000000 in
theorem k0_chk2_4_of (h1 : fl ≤ fh) (h2 : fh ≤ 128) (h3 : hi ≤ 128) : k0_chk2_4 (BitVec.ofNat 32 hi) (BitVec.ofNat 32 fl) (BitVec.ofNat 32 fh) :=
  ⟨tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim⟩
set_option maxHeartbeats 2000000 in
theorem k0_chk2_5_of (h1 : fl ≤ fh) (h2 : fh ≤ 128) (h3 : hi ≤ 128) : k0_chk2_5 (BitVec.ofNat 32 hi) (BitVec.ofNat 32 fl) (BitVec.ofNat 32 fh) :=
  ⟨single_ok h2 h3,
   one_dvd h2 h3,
   one_k h2 h3,
   one_s h2 h3,
   rest_ok h3,
   fun k => (no_rest k).elim,
   fun k => (no_rest k).elim,
   fun k => (no_rest k).elim,
   four_ok h1 h2,
   four_dvd h1 h2,
   four_k h1 h2,
   four_s h1 h2,
   four_rest_ok h1 h2,
   fun k => (no_rest k).elim,
   fun k => (no_rest k).elim,
   fun k => (no_rest k).elim,
   tail_eq h1 h2 (fun w => (single w (BitVec.ofNat 32 fh)).OK) (single_ok (by omega) h2),
   tail_eq h1 h2 (fun w => ∀ k : Fin (single w (BitVec.ofNat 32 fh)).trips, 256 ∣ (Scalar.muli (Scf.iv w 1#32 k) 256#32).toNat) (one_dvd (by omega) h2),
   tail_eq h1 h2 (fun w => ∀ k : Fin (single w (BitVec.ofNat 32 fh)).trips, ∀ i, ![0, 0, (Scalar.muli (Scf.iv w 1#32 k) 256#32).toNat, 0] i + S1x1x256x128.size i ≤ S1x1x32768x128.size i) (one_k (by omega) h2),
   tail_eq h1 h2 (fun w => ∀ k : Fin (single w (BitVec.ofNat 32 fh)).trips, ∀ i, ![(Scalar.muli (Scf.iv w 1#32 k) 256#32).toNat, 0] i + S256x256.size i ≤ S32768x256.size i) (one_s (by omega) h2),
   rest_ok h2,
   fun k => (no_rest k).elim,
   fun k => (no_rest k).elim,
   fun k => (no_rest k).elim,
   single_ok h2 h3,
   one_dvd h2 h3,
   one_k h2 h3,
   one_s h2 h3,
   rest_ok h3,
   fun k => (no_rest k).elim,
   fun k => (no_rest k).elim,
   fun k => (no_rest k).elim⟩
set_option maxHeartbeats 2000000 in
theorem k0_chk3_0_of (h1 : lo ≤ hi) (h2 : hi ≤ 128) : k0_chk3_0 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩
set_option maxHeartbeats 2000000 in
theorem k0_chk3_1_of (h1 : lo ≤ hi) (h2 : hi ≤ 128) : k0_chk3_1 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩
set_option maxHeartbeats 2000000 in
theorem k0_chk3_2_of (h1 : lo ≤ hi) (h2 : hi ≤ 128) : k0_chk3_2 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩
set_option maxHeartbeats 2000000 in
theorem k0_chk3_3_of (h1 : lo ≤ hi) (h2 : hi ≤ 128) : k0_chk3_3 (BitVec.ofNat 32 lo) (BitVec.ofNat 32 hi) :=
  ⟨four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim,
   four_ok h1 h2,
   four_dvd h1 h2,
   four_s h1 h2,
   four_v h1 h2,
   four_rest_ok h1 h2,
   fun k => (no_rest k).elim,
   fun k => (no_rest k).elim,
   fun k => (no_rest k).elim,
   tail_eq h1 h2 (fun w => (single w (BitVec.ofNat 32 hi)).OK) (single_ok (by omega) h2),
   tail_eq h1 h2 (fun w => ∀ k : Fin (single w (BitVec.ofNat 32 hi)).trips, 256 ∣ (Scalar.muli (Scf.iv w 1#32 k) 256#32).toNat) (one_dvd (by omega) h2),
   tail_eq h1 h2 (fun w => ∀ k : Fin (single w (BitVec.ofNat 32 hi)).trips, ∀ i, ![(Scalar.muli (Scf.iv w 1#32 k) 256#32).toNat, 0] i + S256x256.size i ≤ S32768x256.size i) (one_s (by omega) h2),
   tail_eq h1 h2 (fun w => ∀ k : Fin (single w (BitVec.ofNat 32 hi)).trips, ∀ i, ![0, 0, 0, (Scalar.muli (Scf.iv w 1#32 k) 256#32).toNat] i + S1x1x128x256.size i ≤ S1x1x128x32768.size i) (one_v (by omega) h2),
   rest_ok h2,
   fun k => (no_rest k).elim,
   fun k => (no_rest k).elim,
   fun k => (no_rest k).elim⟩

theorem chk1_of (h1 : lo ≤ 128) (h2 : fl ≤ 128) : k0_chk1 (BitVec.ofNat 32 lo) (BitVec.ofNat 32 fl) := ⟨k0_chk1_0_of h1 h2, k0_chk1_1_of h1 h2⟩
theorem chk2_of (h1 : fl ≤ fh) (h2 : fh ≤ 128) (h3 : hi ≤ 128) : k0_chk2 (BitVec.ofNat 32 hi) (BitVec.ofNat 32 fl) (BitVec.ofNat 32 fh) :=
  ⟨k0_chk2_0_of h1 h2 h3, k0_chk2_1_of h1 h2 h3, k0_chk2_2_of h1 h2 h3, k0_chk2_3_of h1 h2 h3, k0_chk2_4_of h1 h2 h3, k0_chk2_5_of h1 h2 h3⟩
theorem chk3_of (h1 : lo ≤ hi) (h2 : hi ≤ 128) : k0_chk3 (BitVec.ofNat 32 lo) (BitVec.ofNat 32 hi) :=
  ⟨k0_chk3_0_of h1 h2, k0_chk3_1_of h1 h2, k0_chk3_2_of h1 h2, k0_chk3_3_of h1 h2⟩
end Checks

end Cert.KernelIdeal.Body
-- ==== Proof.Ideal.Spans.lean ====
/-
Which keys a query sees, counted: the first and last key of every query and the table's four block numbers, as
natural numbers, and their order when the segment numbers ascend.
-/
module

public import proofs.«01_k».proof.Proof.Ideal.Lines
public import proofs.«01_k».proof.Proof.Ideal.Checks
public import Idealize.ShloMosaic.Lib.Pointwise
public import Idealize.ShloMosaic.Lib.WordSum
public import Idealize.ShloMosaic.Lib.WordCmp
public import Idealize.ShloMosaic.Lib.SortNet.Extract

@[expose] public section

noncomputable section

namespace Cert.KernelIdeal.Body

open Idealize.ShloMosaic Idealize.ShloMosaic.TcCoe Idealize.SL.Sem Idealize.ShloMosaic.StableHlo
open Cert.KernelIdeal Cert.KernelIdeal.Gen

section Words

theorem cmpi_eq_zero {x y : BitVec 32} (h : ¬ x = y) : IntOp.cmpi CmpIPredicate.eq x y = 0#1 := by
  unfold IntOp.cmpi
  show BitVec.ofBool (x == y) = 0#1
  rw [beq_false_of_ne h]; rfl

/-- A fold of additions of ones and zeros is a count. -/
theorem fold_count {n : Nat} (f : Fin n → BitVec 32) (P : Fin n → Prop) [DecidablePred P] (hf : ∀ k, f k = if P k then 1 else 0) :
    (Finset.univ : Finset (Fin n)).fold IntOp.addi 0#32 f = BitVec.ofNat 32 (Finset.univ.filter P).card := by
  show ∑ k, f k = _
  rw [Finset.sum_congr rfl (fun k _ => hf k), Finset.sum_boole]
  rfl

theorem fold_addi_sum {n : Nat} (f : Fin n → BitVec 32) : (Finset.univ : Finset (Fin n)).fold IntOp.addi 0#32 f = ∑ k, f k := rfl

theorem floor256 {n : Nat} (h : n < 2 ^ 31) (x : BitVec 32) (hx : x = BitVec.ofNat 32 n) :
  Scalar.select
      (IntOp.andi
        (IntOp.cmpi CmpIPredicate.ne
          (if x = 0 then (0 : BitVec 32) else if x.msb = true then -1 else 1)
          (if 256#32 = 0 then (0 : BitVec 32) else if (256#32).msb = true then -1 else 1))
        (IntOp.cmpi CmpIPredicate.ne (IntOp.remsi ArithUnit.host x 256#32) 0#32))
      (IntOp.subi (IntOp.divsi ArithUnit.host x 256#32) 1#32)
      (IntOp.divsi ArithUnit.host x 256#32) =
    BitVec.ofNat 32 (n / 256) := by
  rcases Nat.eq_zero_or_pos n with h0 | h0
  · subst h0; subst hx; decide
  have hm : x.msb = false := by
    rw [hx, BitVec.msb_eq_decide, BitVec.toNat_ofNat]; simp only [decide_eq_false_iff_not]; omega
  have hz : ¬ x = 0 := by
    intro e; have := congrArg BitVec.toNat (hx.symm.trans e); simp only [BitVec.toNat_ofNat] at this; simp at this; omega
  rw [if_neg hz, hm]
  have hd : IntOp.divsi ArithUnit.host x 256#32 = BitVec.ofNat 32 (n / 256) := by
    unfold IntOp.divsi
    rw [if_neg (by unfold IntOp.SDivCorner; rintro (h | ⟨-, h⟩) <;> exact absurd h (by decide)), BitVec.sdiv_eq, hm, show (256#32 : BitVec 32).msb = false from by decide]
    apply BitVec.eq_of_toNat_eq
    simp [hx]
    omega
  rw [hd, show IntOp.cmpi CmpIPredicate.ne (if false = true then (-1 : BitVec 32) else 1)
        (if 256#32 = 0 then (0 : BitVec 32) else if (256#32).msb = true then -1 else 1) = 0#1 from by decide]
  have : ∀ y : BitVec 1, IntOp.andi 0#1 y = 0#1 := by decide
  rw [this]
  rfl

theorem minsi_ofNat {a b : Nat} (ha : a < 2 ^ 31) (hb : b < 2 ^ 31) : IntOp.minsi (BitVec.ofNat 32 a) (BitVec.ofNat 32 b) = BitVec.ofNat 32 (min a b) := by
  apply BitVec.eq_of_toInt_eq
  rw [Idealize.ShloMosaic.SortNet.toInt_minsi, toInt_small ha, toInt_small hb, toInt_small (by omega)]; omega
theorem maxsi_ofNat {a b : Nat} (ha : a < 2 ^ 31) (hb : b < 2 ^ 31) : IntOp.maxsi (BitVec.ofNat 32 a) (BitVec.ofNat 32 b) = BitVec.ofNat 32 (max a b) := by
  apply BitVec.eq_of_toInt_eq
  rw [Idealize.ShloMosaic.SortNet.toInt_maxsi, toInt_small ha, toInt_small hb, toInt_small (by omega)]; omega

/-- The smallest of numbers below a bound. -/
theorem fold_minsi {n N : Nat} (hn : 0 < n) (hN : N < 2147483647) (g : Fin n → Nat) (hg : ∀ r, g r ≤ N) (f : Fin n → BitVec 32) (hf : ∀ r, f r = BitVec.ofNat 32 (g r)) :
    ∃ L, (Finset.univ : Finset (Fin n)).fold IntOp.minsi 2147483647#32 f = BitVec.ofNat 32 L ∧ L ≤ N ∧ ∀ r, L ≤ g r := by
  have key : ∀ S : Finset (Fin n), ∃ L, S.fold IntOp.minsi 2147483647#32 f = BitVec.ofNat 32 L ∧ L < 2 ^ 31 ∧ ∀ r ∈ S, L ≤ g r := by
    intro S
    induction S using Finset.cons_induction with
    | empty => exact ⟨2147483647, rfl, by norm_num, fun r h => absurd h (Finset.notMem_empty r)⟩
    | cons a S ha ih =>
      obtain ⟨L, h1, h2, h3⟩ := ih
      refine ⟨min (g a) L, ?_, by omega, ?_⟩
      · have := hg a
        rw [Finset.fold_cons, h1, hf, minsi_ofNat (by omega) h2]
      · intro r hr
        rcases Finset.mem_cons.mp hr with rfl | hr
        · exact min_le_left _ _
        · exact (min_le_right _ _).trans (h3 r hr)
  obtain ⟨L, h1, h2, h3⟩ := key Finset.univ
  exact ⟨L, h1, (h3 ⟨0, hn⟩ (Finset.mem_univ _)).trans (hg _), fun r => h3 r (Finset.mem_univ _)⟩

end Words

variable (seg : IVec S3x32768 32) (pre : IVec S3x32768 1)

/-- How many keys have a lower segment number, -/
def below (b : Fin 3) (j : Nat) : Nat := (Finset.univ.filter fun k : Fin 32768 => (seg (ix2 b k)).toInt < j).card
/-- and how many are marked keys of the segment. -/
def marked (b : Fin 3) (j : Nat) : Nat := (Finset.univ.filter fun k : Fin 32768 => seg (ix2 b k) = BitVec.ofNat 32 j ∧ pre (ix2 b k) = 1#1).card

theorem lift_last (h : S3x8x32768.Reduces [2] S3x8) (b : Fin 3) (j : Fin 8) (k : Fin 32768) : h.lift (ix2 b j) k = ix3 b j k := by
  funext a; fin_cases a <;> rfl
theorem lift_mid (h : S3x8x32768.Reduces [1] S3x32768) (b : Fin 3) (j : Fin 8) (k : Fin 32768) : h.lift (ix2 b k) j = ix3 b j k := by
  funext a; fin_cases a <;> rfl
theorem lift_tile (h : S3x128x256.Reduces [2] S3x128) (b : Fin 3) (j : Fin 128) (k : Fin 256) : h.lift (ix2 b j) k = ix3 b j k := by
  funext a; fin_cases a <;> rfl

theorem start_eq (b : Fin 3) (j : Fin 8) : h_v12 seg pre (ix2 b j) = BitVec.ofNat 32 (below seg b j) := by
  unfold h_v12
  beta_reduce
  rw [Host.reduce_eq_fold_single IntOp.addi _ _ _ (by decide)]
  refine fold_count _ (fun k : Fin 32768 => (seg (ix2 b k)).toInt < (j.val : Int)) fun k => ?_
  refine (congrArg (h_v11 seg pre) (lift_last _ b j k)).trans ?_
  simp only [h_v11, h_v10, h_v8, h_v6, h_v9, h_v7, h_v0]
  pointwise
  have hj := j.isLt
  rw [Idealize.ShloMosaic.WordCmp.cmpi_slt_eq, toInt_small (show j.val < 2 ^ 31 by omega)]
  by_cases h : (seg (ix2 b k)).toInt < (j.val : Int)
  · rw [if_pos h, decide_eq_true h]; rfl
  · rw [if_neg h, decide_eq_false h]; rfl

theorem count_eq (b : Fin 3) (j : Fin 8) : h_v17 seg pre (ix2 b j) = BitVec.ofNat 32 (marked seg pre b j) := by
  unfold h_v17
  beta_reduce
  rw [Host.reduce_eq_fold_single IntOp.addi _ _ _ (by decide)]
  refine fold_count _ (fun k : Fin 32768 => seg (ix2 b k) = BitVec.ofNat 32 j.val ∧ pre (ix2 b k) = 1#1) fun k => ?_
  refine (congrArg (h_v16 seg pre) (lift_last _ b j k)).trans ?_
  simp only [h_v16, h_v15, h_v5, h_v14, h_v13, h_v3, h_v1, h_v4, h_v2, h_v0]
  pointwise
  have hp : pre (ix2 b k) = 0#1 ∨ pre (ix2 b k) = 1#1 := by
    generalize pre (ix2 b k) = p; revert p; decide
  by_cases h : seg (ix2 b k) = BitVec.ofNat 32 j.val
  · rw [h]
    have e : IntOp.cmpi CmpIPredicate.eq (BitVec.ofNat 32 j.val) (BitVec.ofNat 32 j.val) = 1#1 := by unfold IntOp.cmpi; simp
    rw [e]
    rcases hp with hp | hp <;> rw [hp] <;> simp [IntOp.andi]
  · have e : IntOp.cmpi CmpIPredicate.eq (seg (ix2 b k)) (BitVec.ofNat 32 j.val) = 0#1 := cmpi_eq_zero h
    rw [e, if_neg (fun hh => h hh.1)]
    rcases hp with hp | hp <;> rw [hp] <;> simp [IntOp.andi]

theorem pick (s : BitVec 32) (f : Fin 8 → BitVec 32) (j : Fin 8) (hs : s = BitVec.ofNat 32 j.val) :
    ∑ i : Fin 8, Scalar.select (IntOp.cmpi CmpIPredicate.eq s (BitVec.ofNat 32 i.val)) (f i) 0#32 = f j := by
  subst hs
  rw [Finset.sum_eq_single j]
  · unfold IntOp.cmpi Scalar.select; simp
  · intro i _ hi
    have : ¬ BitVec.ofNat 32 j.val = BitVec.ofNat 32 i.val := by
      intro e; apply hi
      have := congrArg BitVec.toNat e
      simp only [BitVec.toNat_ofNat] at this
      have := i.isLt; have := j.isLt
      exact Fin.ext (by omega)
    have e : IntOp.cmpi CmpIPredicate.eq (BitVec.ofNat 32 j.val) (BitVec.ofNat 32 i.val) = 0#1 := cmpi_eq_zero this
    rw [e]; rfl
  · intro h; exact absurd (Finset.mem_univ j) h
theorem pick_none (s : BitVec 32) (f : Fin 8 → BitVec 32) (hs : ∀ j : Fin 8, ¬ s = BitVec.ofNat 32 j.val) :
    ∑ i : Fin 8, Scalar.select (IntOp.cmpi CmpIPredicate.eq s (BitVec.ofNat 32 i.val)) (f i) 0#32 = 0#32 := by
  apply Finset.sum_eq_zero
  intro i _
  have e : IntOp.cmpi CmpIPredicate.eq s (BitVec.ofNat 32 i.val) = 0#1 := cmpi_eq_zero (hs i)
  rw [e]; rfl

theorem first_sum (b : Fin 3) (q : Fin 32768) :
    h_v21 seg pre (ix2 b q) = ∑ i : Fin 8, Scalar.select (IntOp.cmpi CmpIPredicate.eq (seg (ix2 b q)) (BitVec.ofNat 32 i.val)) (BitVec.ofNat 32 (below seg b i)) 0#32 := by
  unfold h_v21
  beta_reduce
  rw [Host.reduce_eq_fold_single IntOp.addi _ _ _ (by decide)]
  refine (fold_addi_sum (n := 8) _).trans (Finset.sum_congr rfl fun i _ => ?_)
  refine (congrArg (h_v20 seg pre) (lift_mid _ b i q)).trans ?_
  simp only [h_v20, h_call0_v1, h_call0_v2, h_v19, h_v5, h_v3, h_v1, h_v4, h_v2, h_v0, h_call0_v0, h_c_1]
  pointwise
  rw [start_eq]
theorem last_sum (b : Fin 3) (q : Fin 32768) :
    h_v26 seg pre (ix2 b q) = ∑ i : Fin 8, Scalar.select (IntOp.cmpi CmpIPredicate.eq (seg (ix2 b q)) (BitVec.ofNat 32 i.val)) (BitVec.ofNat 32 (below seg b i) + BitVec.ofNat 32 (marked seg pre b i) - 1#32) 0#32 := by
  unfold h_v26
  beta_reduce
  rw [Host.reduce_eq_fold_single IntOp.addi _ _ _ (by decide)]
  refine (fold_addi_sum (n := 8) _).trans (Finset.sum_congr rfl fun i _ => ?_)
  refine (congrArg (h_v25 seg pre) (lift_mid _ b i q)).trans ?_
  simp only [h_v25, h_call1_v1, h_call1_v2, h_v24, h_v22, h_v23, h_v18, h_v5, h_v3, h_v1, h_v4, h_v2, h_v0, h_call1_v0, h_c_4, h_c_3]
  pointwise
  rw [start_eq, count_eq]
  rfl

/-- The first key a query sees, -/
def first (b : Fin 3) (q : Fin 32768) : Nat := (h_v21 seg pre (ix2 b q)).toNat
/-- and the last. -/
def last (b : Fin 3) (q : Fin 32768) : Nat := (h_v30 seg pre (ix2 b q)).toNat

theorem first_word (b : Fin 3) (q : Fin 32768) : h_v21 seg pre (ix2 b q) = BitVec.ofNat 32 (first seg pre b q) := by
  unfold first; rw [BitVec.ofNat_toNat]; exact (BitVec.setWidth_eq _).symm
theorem last_word (b : Fin 3) (q : Fin 32768) : h_v30 seg pre (ix2 b q) = BitVec.ofNat 32 (last seg pre b q) := by
  unfold last; rw [BitVec.ofNat_toNat]; exact (BitVec.setWidth_eq _).symm

theorem below_marked (b : Fin 3) (j : Fin 8) : below seg b j + marked seg pre b j ≤ 32768 := by
  unfold below marked
  rw [← Finset.card_union_of_disjoint]
  · exact (Finset.card_le_univ _).trans (by rw [Fintype.card_fin])
  · rw [Finset.disjoint_filter]
    rintro k - h ⟨h', -⟩
    have hj := j.isLt
    rw [h', toInt_small (by omega)] at h
    exact lt_irrefl _ h

theorem first_in (b : Fin 3) (q : Fin 32768) (j : Fin 8) (hj : seg (ix2 b q) = BitVec.ofNat 32 j.val) : first seg pre b q = below seg b j := by
  unfold first
  rw [first_sum, pick _ _ j hj, BitVec.toNat_ofNat, Nat.mod_eq_of_lt]
  have := below_marked seg pre b j; omega
theorem first_out (b : Fin 3) (q : Fin 32768) (hj : ∀ j : Fin 8, ¬ seg (ix2 b q) = BitVec.ofNat 32 j.val) : first seg pre b q = 0 := by
  unfold first
  rw [first_sum, pick_none _ _ hj]; rfl

theorem last_max (b : Fin 3) (q : Fin 32768) : h_v30 seg pre (ix2 b q) = IntOp.maxsi (BitVec.ofNat 32 q.val) (h_v26 seg pre (ix2 b q)) := by
  simp only [h_v30, h_v29, h_v28, h_v27]
  pointwise
theorem pred_ofNat {p : Nat} (hp : 0 < p) : BitVec.ofNat 32 p - 1#32 = BitVec.ofNat 32 (p - 1) := by
  obtain ⟨p, rfl⟩ : ∃ p', p = p' + 1 := ⟨p - 1, by omega⟩
  rw [BitVec.ofNat_add]; simp
theorem last_in (b : Fin 3) (q : Fin 32768) (j : Fin 8) (hj : seg (ix2 b q) = BitVec.ofNat 32 j.val) :
    last seg pre b q = max q.val (below seg b j + marked seg pre b j - 1) := by
  have hb := below_marked seg pre b j
  have hq := q.isLt
  unfold last
  rw [last_max, last_sum, pick _ _ j hj, ← BitVec.ofNat_add]
  generalize below seg b j + marked seg pre b j = p at hb
  rcases Nat.eq_zero_or_pos p with rfl | hp
  · have : IntOp.maxsi (BitVec.ofNat 32 q.val) (BitVec.ofNat 32 0 - 1#32) = BitVec.ofNat 32 q.val := by
      apply BitVec.eq_of_toInt_eq
      rw [Idealize.ShloMosaic.SortNet.toInt_maxsi, toInt_small (by omega), show (BitVec.ofNat 32 0 - 1#32).toInt = -1 from by decide]; omega
    rw [this, BitVec.toNat_ofNat, Nat.mod_eq_of_lt (by omega)]; omega
  · rw [pred_ofNat hp, maxsi_ofNat (by omega) (by omega), BitVec.toNat_ofNat, Nat.mod_eq_of_lt (by omega)]
theorem last_out (b : Fin 3) (q : Fin 32768) (hj : ∀ j : Fin 8, ¬ seg (ix2 b q) = BitVec.ofNat 32 j.val) : last seg pre b q = q.val := by
  have hq := q.isLt
  unfold last
  rw [last_max, last_sum, pick_none _ _ hj, maxsi_ofNat (b := 0) (by omega) (by omega), BitVec.toNat_ofNat, Nat.mod_eq_of_lt (by omega)]; omega

theorem last_ge (b : Fin 3) (q : Fin 32768) : q.val ≤ last seg pre b q := by
  by_cases h : ∃ j : Fin 8, seg (ix2 b q) = BitVec.ofNat 32 j.val
  · obtain ⟨j, hj⟩ := h; rw [last_in seg pre b q j hj]; exact le_max_left _ _
  · rw [last_out seg pre b q (fun j hj => h ⟨j, hj⟩)]
theorem last_lt (b : Fin 3) (q : Fin 32768) : last seg pre b q < 32768 := by
  have hq := q.isLt
  by_cases h : ∃ j : Fin 8, seg (ix2 b q) = BitVec.ofNat 32 j.val
  · obtain ⟨j, hj⟩ := h; have := below_marked seg pre b j; rw [last_in seg pre b q j hj]; omega
  · rw [last_out seg pre b q (fun j hj => h ⟨j, hj⟩)]; exact hq

/-- The segment numbers ascend. -/
def Ascending : Prop := ∀ (b : Fin 3) (k k' : Fin 32768), k ≤ k' → (seg (ix2 b k)).toInt ≤ (seg (ix2 b k')).toInt

theorem first_le (hs : Ascending seg) (b : Fin 3) (q : Fin 32768) : first seg pre b q ≤ q.val := by
  by_cases h : ∃ j : Fin 8, seg (ix2 b q) = BitVec.ofNat 32 j.val
  · obtain ⟨j, hj⟩ := h
    rw [first_in seg pre b q j hj, ← Fin.card_Iio q]
    refine Finset.card_le_card fun k hk => ?_
    rw [Finset.mem_filter] at hk
    rw [Finset.mem_Iio]
    by_contra hc
    have h1 := hs b q k (not_lt.mp hc)
    have hjl := j.isLt
    rw [hj, toInt_small (by omega)] at h1
    have := hk.2
    omega
  · rw [first_out seg pre b q (fun j hj => h ⟨j, hj⟩)]; exact Nat.zero_le _

/-! ## The table's words -/

/-- Row `r` of tile `t`. -/
@[reducible] def row (t : Fin 128) (r : Nat) (h : r < 256 := by omega) : Fin 32768 := ⟨t.val * 256 + r, by have := t.isLt; omega⟩

theorem lo_word (b : Fin 3) (t : Fin 128) (hs : Ascending seg) : h_v58 seg pre (ix3 b t 0) = BitVec.ofNat 32 (first seg pre b (row t 0) / 256) := by
  simp only [h_v58]
  pointwise
  simp only [h_v54]
  pointwise
  simp only [h_v35, h_call2_v11, h_call2_v13, h_call2_v2, h_call2_v6, h_call2_v10, h_call2_v3, h_call2_v5, h_call2_v4, h_call2_v8, h_call2_v9, h_call2_v7, h_call2_v0, h_call2_v1, h_c_6, h_call2_c, h_call2_v12, h_call2_c_0]
  pointwise
  refine floor256 ?_ _ ?_
  · have := first_le seg pre hs b (row t 0); have := (row t 0).isLt; omega
  · simp only [h_v34, h_v33, h_v31]
    pointwise
    exact first_word seg pre b (row t 0)

theorem hi_eq (b : Fin 3) (t : Fin 128) : h_v40 seg pre (ix2 b t) = BitVec.ofNat 32 (last seg pre b (row t 255) / 256 + 1) := by
  simp only [h_v40, h_v39, h_c_8]
  pointwise
  have : h_v38 seg pre (ix2 b t) = BitVec.ofNat 32 (last seg pre b (row t 255) / 256) := by
    simp only [h_v38, h_call3_v11, h_call3_v13, h_call3_v2, h_call3_v6, h_call3_v10, h_call3_v3, h_call3_v5, h_call3_v4, h_call3_v8, h_call3_v9, h_call3_v7, h_call3_v0, h_call3_v1, h_c_7, h_call3_c, h_call3_v12, h_call3_c_0]
    pointwise
    refine floor256 ?_ _ ?_
    · have := last_lt seg pre b (row t 255); omega
    · simp only [h_v37, h_v36, h_v32]
      pointwise
      exact last_word seg pre b (row t 255)
  rw [this, BitVec.ofNat_add]; rfl
theorem hi_word (b : Fin 3) (t : Fin 128) : h_v58 seg pre (ix3 b t 1) = BitVec.ofNat 32 (last seg pre b (row t 255) / 256 + 1) := by
  simp only [h_v58]
  pointwise
  simp only [h_v55]
  pointwise
  exact hi_eq seg pre b t

/-- The first block that every query of the tile sees whole, -/
def fullLo (b : Fin 3) (t : Fin 128) : Nat := min ((first seg pre b (row t 255) + 255) / 256) (last seg pre b (row t 255) / 256 + 1)

theorem full_lo_eq (b : Fin 3) (t : Fin 128) (hs : Ascending seg) : h_v52 seg pre (ix2 b t) = BitVec.ofNat 32 (fullLo seg pre b t) := by
  have h1 := first_le seg pre hs b (row t 255)
  have h2 := (row t 255).isLt
  have h3 := last_lt seg pre b (row t 255)
  simp only [h_v52]
  pointwise
  rw [hi_eq]
  have : h_v47 seg pre (ix2 b t) = BitVec.ofNat 32 ((first seg pre b (row t 255) + 255) / 256) := by
    simp only [h_v47, h_call4_v11, h_call4_v13, h_call4_v2, h_call4_v6, h_call4_v10, h_call4_v3, h_call4_v5, h_call4_v4, h_call4_v8, h_call4_v9, h_call4_v7, h_call4_v0, h_call4_v1, h_c_11, h_call4_c, h_call4_v12, h_call4_c_0]
    pointwise
    refine floor256 ?_ _ ?_
    · omega
    · simp only [h_v46, h_v45, h_v44, h_v43, h_v42, h_v41, h_v31, h_c_10, h_c_9]
      pointwise
      refine (congrArg (fun w => IntOp.subi (IntOp.addi w 256#32) 1#32) (first_word seg pre b (row t 255))).trans ?_
      show BitVec.ofNat 32 _ + 256#32 - 1#32 = _
      rw [← BitVec.ofNat_add, pred_ofNat (by omega)]
      congr 1
  rw [this, minsi_ofNat (by omega) (by omega)]
  rfl
theorem full_lo_word (b : Fin 3) (t : Fin 128) (hs : Ascending seg) : h_v58 seg pre (ix3 b t 2) = BitVec.ofNat 32 (fullLo seg pre b t) := by
  simp only [h_v58]
  pointwise
  simp only [h_v56]
  pointwise
  exact full_lo_eq seg pre b t hs

/-- and the block after the last such. -/
theorem full_hi_word (b : Fin 3) (t : Fin 128) (hs : Ascending seg) :
    ∃ L, h_v58 seg pre (ix3 b t 3) = BitVec.ofNat 32 (max ((L + 1) / 256) (fullLo seg pre b t)) ∧ ∀ r : Fin 256, L ≤ last seg pre b (row t r.val r.isLt) := by
  have hm : ∃ L, h_v48 seg pre (ix2 b t) = BitVec.ofNat 32 L ∧ L ≤ 32767 ∧ ∀ r : Fin 256, L ≤ last seg pre b (row t r.val r.isLt) := by
    unfold h_v48
    beta_reduce
    rw [Host.reduce_eq_fold_single IntOp.minsi _ _ _ (by decide)]
    refine fold_minsi (n := 256) (N := 32767) (by omega) (by omega) (fun r : Fin 256 => last seg pre b (row t r.val r.isLt)) (fun r => ?_) _ fun r => ?_
    · have := last_lt seg pre b (row t r.val r.isLt); omega
    · refine (congrArg (h_v32 seg pre) (lift_tile _ b t r)).trans ?_
      simp only [h_v32]
      pointwise
      exact last_word seg pre b (row t r.val r.isLt)
  obtain ⟨L, h1, h2, h3⟩ := hm
  have h4 := last_lt seg pre b (row t 255)
  refine ⟨L, ?_, h3⟩
  simp only [h_v58]
  pointwise
  simp only [h_v57]
  pointwise
  simp only [h_v53]
  pointwise
  rw [full_lo_eq seg pre b t hs]
  have : h_v51 seg pre (ix2 b t) = BitVec.ofNat 32 ((L + 1) / 256) := by
    simp only [h_v51, h_call5_v11, h_call5_v13, h_call5_v2, h_call5_v6, h_call5_v10, h_call5_v3, h_call5_v5, h_call5_v4, h_call5_v8, h_call5_v9, h_call5_v7, h_call5_v0, h_call5_v1, h_c_14, h_call5_c, h_call5_v12, h_call5_c_0]
    pointwise
    refine floor256 ?_ _ ?_
    · omega
    · simp only [h_v50, h_v49, h_c_13]
      pointwise
      rw [h1, BitVec.ofNat_add]; rfl
  rw [this, maxsi_ofNat (by omega) (by unfold fullLo; omega)]

end Cert.KernelIdeal.Body
-- ==== Proof.Ideal.Order.lean ====
/-
The launch's checks hold when the segment numbers ascend.
-/
module

public import proofs.«01_k».proof.Proof.Ideal.Spans
public import proofs.«01_k».proof.Defs
public import proofs.«01_k».proof.Proof.Gen.Pre_sorted_segments

@[expose] public section

noncomputable section

namespace Cert.KernelIdeal.Body

open Idealize.ShloMosaic Idealize.ShloMosaic.TcCoe Idealize.SL.Sem Idealize.ShloMosaic.StableHlo
open Cert.KernelIdeal Cert.KernelIdeal.Gen

variable {F : FTy → Type} [FloatOps F] [Named F]

theorem word_at (T : Vec F S3x128x4 .i32) (o : Fin 3 → Nat) (h : ∀ a, o a + S1x1x1.size a ≤ S3x128x4.size a) (b : Fin 3) (t : Fin 128) (n : Fin 4)
    (h0 : o 0 = b.val) (h1 : o 1 = t.val) (h2 : o 2 = n.val) : word T o h = T (ix3 b t n) := by
  unfold word VecWindow.window
  refine congrArg T (funext fun a => Fin.ext ?_)
  fin_cases a
  · show o 0 + _ = b.val; rw [h0]; rfl
  · show o 1 + _ = t.val; rw [h1]; rfl
  · show o 2 + _ = n.val; rw [h2]; rfl

/-- The sequence and the tile of a grid point. -/
abbrev seqOf (i : grid0.Coords) : Fin 3 := i 0
abbrev tileOf (i : grid0.Coords) : Fin 128 := i 2

theorem word1 (T : Vec F S3x128x4 .i32) (i : grid0.Coords) : word T (k0_off1 i) (k0_off1_inb i) = T (ix3 (seqOf i) (tileOf i) 0) := by
  have h0 : (i 0).val < 3 := (i 0).isLt
  have h2 : (i 2).val < 128 := (i 2).isLt
  exact word_at T _ _ _ _ _ (Nat.mod_eq_of_lt (by omega)) (Nat.mod_eq_of_lt (by omega)) rfl
theorem word2 (T : Vec F S3x128x4 .i32) (i : grid0.Coords) : word T (k0_off2 i) (k0_off2_inb i) = T (ix3 (seqOf i) (tileOf i) 1) := by
  have h0 : (i 0).val < 3 := (i 0).isLt
  have h2 : (i 2).val < 128 := (i 2).isLt
  exact word_at T _ _ _ _ _ (Nat.mod_eq_of_lt (by omega)) (Nat.mod_eq_of_lt (by omega)) rfl
theorem word3 (T : Vec F S3x128x4 .i32) (i : grid0.Coords) : word T (k0_off3 i) (k0_off3_inb i) = T (ix3 (seqOf i) (tileOf i) 2) := by
  have h0 : (i 0).val < 3 := (i 0).isLt
  have h2 : (i 2).val < 128 := (i 2).isLt
  exact word_at T _ _ _ _ _ (Nat.mod_eq_of_lt (by omega)) (Nat.mod_eq_of_lt (by omega)) rfl
theorem word4 (T : Vec F S3x128x4 .i32) (i : grid0.Coords) : word T (k0_off4 i) (k0_off4_inb i) = T (ix3 (seqOf i) (tileOf i) 3) := by
  have h0 : (i 0).val < 3 := (i 0).isLt
  have h2 : (i 2).val < 128 := (i 2).isLt
  exact word_at T _ _ _ _ _ (Nat.mod_eq_of_lt (by omega)) (Nat.mod_eq_of_lt (by omega)) rfl

/-- The table's words at a tile are four block numbers in order. -/
theorem words_ordered (seg : IVec S3x32768 32) (pre : IVec S3x32768 1) (hs : Ascending seg) (b : Fin 3) (t : Fin 128) :
    ∃ lo hi fl fh : Nat, h_v58 seg pre (ix3 b t 0) = BitVec.ofNat 32 lo ∧ h_v58 seg pre (ix3 b t 1) = BitVec.ofNat 32 hi
      ∧ h_v58 seg pre (ix3 b t 2) = BitVec.ofNat 32 fl ∧ h_v58 seg pre (ix3 b t 3) = BitVec.ofNat 32 fh
      ∧ lo ≤ t.val ∧ t.val < hi ∧ hi ≤ 128 ∧ fl ≤ fh ∧ fh ≤ hi := by
  obtain ⟨L, h3, hL⟩ := full_hi_word seg pre b t hs
  refine ⟨_, _, _, _, lo_word seg pre b t hs, hi_word seg pre b t, full_lo_word seg pre b t hs, h3, ?_, ?_, ?_, le_max_right _ _, ?_⟩
  · have h : first seg pre b (row t 0) ≤ t.val * 256 + 0 := first_le seg pre hs b (row t 0)
    omega
  · have h : t.val * 256 + 255 ≤ last seg pre b (row t 255) := last_ge seg pre b (row t 255)
    omega
  · have h := last_lt seg pre b (row t 255)
    omega
  · have h := hL 255
    have h' : L ≤ last seg pre b (row t 255) := h
    unfold fullLo
    omega

theorem checks_of (m : (ℓ : Loc nD τ sig) → Buf (Elt F) ℓ) (hs : Ascending (segOf m 0)) : Checks (table m) := by
  intro i
  have ht : table m = h_v58 (segOf m 0) (preOf m 0) := V_v58 m 0
  rw [word1, word2, word3, word4, ht]
  obtain ⟨lo, hi, fl, fh, e1, e2, e3, e4, h2, h3, h4, h5, h6⟩ := words_ordered (segOf m 0) (preOf m 0) hs (seqOf i) (tileOf i)
  have ht := (tileOf i).isLt
  rw [e1, e2, e3, e4]
  exact ⟨chk3_of (by omega) h4, chk1_of (by omega) (by omega), chk2_of h5 (by omega) h4⟩

/-- Segment numbers that never fall from one key to the next ascend. -/
theorem ascending_of (seg : IVec S3x32768 32)
    (h : ∀ (b : Fin 3) (k : Nat) (hk : k + 1 < 32768), (seg (ix2 b ⟨k, by omega⟩)).toInt ≤ (seg (ix2 b ⟨k + 1, hk⟩)).toInt) : Ascending seg := by
  intro b k k' hkk
  have key : ∀ n (hn : n < 32768), k.val ≤ n → (seg (ix2 b k)).toInt ≤ (seg (ix2 b ⟨n, hn⟩)).toInt := by
    intro n
    induction n with
    | zero => intro hn hk; rw [show k = ⟨0, hn⟩ from Fin.ext (by simpa using hk)]
    | succ n ih =>
      intro hn hk
      rcases Nat.lt_or_ge k.val (n + 1) with hlt | hge
      · exact (ih (by omega) (by omega)).trans (h b n hn)
      · rw [show k = ⟨n + 1, hn⟩ from Fin.ext (by show k.val = n + 1; omega)]
  exact key k'.val k'.isLt hkk

theorem step_of (seg : IVec S3x32768 32) (h0 : S3x32768.Slices ![0, 1] Pre_sorted_segments.S3x32767) (h1 : S3x32768.Slices ![0, 0] Pre_sorted_segments.S3x32767)
    (h : cmpi CmpIPredicate.sge (extractStridedSlice Pre_sorted_segments.S3x32767 ![0, 1] seg h0) (extractStridedSlice Pre_sorted_segments.S3x32767 ![0, 0] seg h1) = fun _ => 1#1) : Ascending seg := by
  refine ascending_of seg fun b k hk => ?_
  have := congrFun h (ix2 b ⟨k, by omega⟩)
  revert this
  pointwise
  intro this
  rw [WordCmp.cmpi_sge_eq, WordCmp.ofBool_decide_eq_one_iff] at this
  simpa [Nat.add_comm] using this

theorem ascending (m : (ℓ : Loc nD τ sig) → Buf (Elt Ideal) ℓ) (h : Pre_KernelIdeal m) : Ascending (segOf m 0) := by
  have := h 0
  unfold Pre_sorted_segments.fn at this
  exact step_of _ _ _ this

end Cert.KernelIdeal.Body
-- ==== Proof.Value.Steps.lean ====
/-
The pure steps of a head over the reals, read at an index.
-/
module

public import proofs.«01_k».proof.Proof.Ideal.Triple
public import Idealize.ShloMosaic.Lib.Pointwise

@[expose] public section

noncomputable section

namespace Cert.KernelIdeal.Body

open Idealize.ShloMosaic Cert.KernelIdeal Cert.KernelIdeal.Gen

variable [Facts]

theorem bottom : Ideal.ofBits .f32 0xFF800000#32 = ⊥ := by simp [Ideal.ofBits, Ideal.ieee]
theorem scale_named : Named.named (F := Ideal) Cert.KernelIdeal.κ "scale_log2e" (φ := .f32) 0x3E0293EE#32 = (((Real.sqrt 128)⁻¹ * (Real.log 2)⁻¹ : ℝ) : EReal) :=
  IdealRules.named_const.ideal_named_scalar _ _ _ _ rfl

theorem fold_max_le {n : Nat} (f : Fin n → EReal) (z : EReal) : (Finset.univ : Finset (Fin n)).fold max (Ideal.ofBits .f32 0xFF800000#32) f ≤ z ↔ ∀ j, f j ≤ z := by
  rw [bottom, Finset.fold_max_le]; simp

/-- A number below `8 n` by its remainder and its quotient by eight. -/
theorem all_rows {n : Nat} (P : Fin (8 * n) → Prop) : (∀ s : Fin 8, ∀ j : Fin n, P ⟨j.val * 8 + s.val, by omega⟩) ↔ ∀ i, P i := by
  constructor
  · intro h i
    have := h ⟨i.val % 8, by omega⟩ ⟨i.val / 8, by omega⟩
    have e : (⟨i.val / 8 * 8 + i.val % 8, by omega⟩ : Fin (8 * n)) = i := Fin.ext (by show i.val / 8 * 8 + i.val % 8 = i.val; omega)
    rwa [e] at this
  · intro h s j; exact h _

theorem sum_rows {n : Nat} (f : Fin (8 * n) → EReal) : ∑ s : Fin 8, ∑ j : Fin n, f ⟨j.val * 8 + s.val, by omega⟩ = ∑ i, f i := by
  rw [Finset.sum_comm, ← Finset.sum_product', Finset.univ_product_univ]
  refine Fintype.sum_equiv ((Equiv.refl _).trans (finProdFinEquiv.trans (finCongr (Nat.mul_comm n 8)))) _ _ fun x => ?_
  refine congrArg f (Fin.ext ?_)
  simp [finProdFinEquiv]; ring

theorem maxOf256_le (acc : FVec Ideal S8x256 .f32) (u : FVec Ideal S256x256 .f32) (r : Fin 256) (z : EReal) :
    (∀ s : Fin 8, maxOf256 acc u (ix2 s r) ≤ z) ↔ (∀ s : Fin 8, acc (ix2 s r) ≤ z) ∧ ∀ i : Fin 256, u (ix2 i r) ≤ z := by
  have h : ∀ s : Fin 8, maxOf256 acc u (ix2 s r) ≤ z ↔ acc (ix2 s r) ≤ z ∧ ∀ j : Fin 32, u (ix2 ⟨j.val * 8 + s.val, by omega⟩ r) ≤ z := by
    intro s
    unfold maxOf256
    pointwise
    rw [max_le_iff, fold_max_le]
  simp only [h, forall_and]
  rw [show (∀ i : Fin 256, u (ix2 i r) ≤ z) ↔ _ from (all_rows (n := 32) fun i => u (ix2 i r) ≤ z).symm]

theorem scores256_at (q : FVec Ideal S256x128 .fp8e4m3) (k : Vec Ideal S1x1x256x128 .fp8e4m3) (ks : Vec Ideal S1x1x256x128 .f32) (i : Fin 256) (r : Fin 256) :
    scores256 q k ks (ix2 i r) = (∑ d : Fin 128, k (ix4 0 0 i d) * q (ix2 r d)) * ks (ix4 0 0 i ⟨r.val % 128, by omega⟩) := by
  unfold scores256
  pointwise
  refine congrArg _ ?_
  split
  · next h => exact congrArg ks (congrArg (ix4 0 0 i) (Fin.ext (Nat.mod_eq_of_lt h).symm))
  · next h => exact congrArg ks (congrArg (ix4 0 0 i) (Fin.ext (by show r.val - 128 = r.val % 128; have := r.isLt; omega)))

theorem probs256_at (c m : FVec Ideal S1x256 .f32) (u : Vec Ideal S256x256 .f32) (i : Fin 256) (r : Fin 256) :
    probs256 c m u (ix2 i r) = Ideal.exp2 ((u (ix2 i r) - m (ix2 0 r)) * c (ix2 0 r)) := by
  unfold probs256
  pointwise
  rfl

theorem sum256_at (p : FVec Ideal S256x256 .f32) (l : FVec Ideal S8x256 .f32) (r : Fin 256) :
    ∑ s : Fin 8, sum256 p l (ix2 s r) = ∑ s : Fin 8, l (ix2 s r) + ∑ i : Fin 256, p (ix2 i r) := by
  have h : ∀ s : Fin 8, sum256 p l (ix2 s r) = l (ix2 s r) + ∑ j : Fin 32, p (ix2 ⟨j.val * 8 + s.val, by omega⟩ r) := by
    intro s
    unfold sum256
    pointwise
  simp only [h, Finset.sum_add_distrib]
  exact congrArg _ (sum_rows (n := 32) fun i => p (ix2 i r))

theorem weigh256_at (p : FVec Ideal S256x256 .f32) (vt : Vec Ideal S1x1x128x256 .fp8e4m3) (acc : FVec Ideal S128x256 .f32) (d : Fin 128) (r : Fin 256) :
    weigh256 p vt acc (ix2 d r) = acc (ix2 d r) + ∑ i : Fin 256, vt (ix4 0 0 d i) * min (p (ix2 i r) * Ideal.ofBits .f32 0x43800000#32) (Ideal.ofBits .f32 0x43E00000#32) := by
  unfold weigh256
  pointwise

theorem maxOf1024_le (acc : FVec Ideal S8x256 .f32) (u : FVec Ideal S1024x256 .f32) (r : Fin 256) (z : EReal) :
    (∀ s : Fin 8, maxOf1024 acc u (ix2 s r) ≤ z) ↔ (∀ s : Fin 8, acc (ix2 s r) ≤ z) ∧ ∀ i : Fin 1024, u (ix2 i r) ≤ z := by
  have h : ∀ s : Fin 8, maxOf1024 acc u (ix2 s r) ≤ z ↔ acc (ix2 s r) ≤ z ∧ ∀ j : Fin 128, u (ix2 ⟨j.val * 8 + s.val, by omega⟩ r) ≤ z := by
    intro s
    unfold maxOf1024
    pointwise
    rw [max_le_iff, fold_max_le]
  simp only [h, forall_and]
  rw [show (∀ i : Fin 1024, u (ix2 i r) ≤ z) ↔ _ from (all_rows (n := 128) fun i => u (ix2 i r) ≤ z).symm]

theorem scores1024_at (q : FVec Ideal S256x128 .fp8e4m3) (k : Vec Ideal S1x1x1024x128 .fp8e4m3) (ks : Vec Ideal S1x1x1024x128 .f32) (i : Fin 1024) (r : Fin 256) :
    scores1024 q k ks (ix2 i r) = (∑ d : Fin 128, k (ix4 0 0 i d) * q (ix2 r d)) * ks (ix4 0 0 i ⟨r.val % 128, by omega⟩) := by
  unfold scores1024
  pointwise
  refine congrArg _ ?_
  split
  · next h => exact congrArg ks (congrArg (ix4 0 0 i) (Fin.ext (Nat.mod_eq_of_lt h).symm))
  · next h => exact congrArg ks (congrArg (ix4 0 0 i) (Fin.ext (by show r.val - 128 = r.val % 128; have := r.isLt; omega)))

theorem probs1024_at (c m : FVec Ideal S1x256 .f32) (u : Vec Ideal S1024x256 .f32) (i : Fin 1024) (r : Fin 256) :
    probs1024 c m u (ix2 i r) = Ideal.exp2 ((u (ix2 i r) - m (ix2 0 r)) * c (ix2 0 r)) := by
  unfold probs1024
  pointwise
  rfl

theorem sum1024_at (p : FVec Ideal S1024x256 .f32) (l : FVec Ideal S8x256 .f32) (r : Fin 256) :
    ∑ s : Fin 8, sum1024 p l (ix2 s r) = ∑ s : Fin 8, l (ix2 s r) + ∑ i : Fin 1024, p (ix2 i r) := by
  have h : ∀ s : Fin 8, sum1024 p l (ix2 s r) = l (ix2 s r) + ∑ j : Fin 128, p (ix2 ⟨j.val * 8 + s.val, by omega⟩ r) := by
    intro s
    unfold sum1024
    pointwise
  simp only [h, Finset.sum_add_distrib]
  exact congrArg _ (sum_rows (n := 128) fun i => p (ix2 i r))

theorem weigh1024_at (p : FVec Ideal S1024x256 .f32) (vt : Vec Ideal S1x1x128x1024 .fp8e4m3) (acc : FVec Ideal S128x256 .f32) (d : Fin 128) (r : Fin 256) :
    weigh1024 p vt acc (ix2 d r) = acc (ix2 d r) + ∑ i : Fin 1024, vt (ix4 0 0 d i) * min (p (ix2 i r) * Ideal.ofBits .f32 0x43800000#32) (Ideal.ofBits .f32 0x43E00000#32) := by
  unfold weigh1024
  pointwise

theorem masked256_at (first len : IVec S1x256 32) (b : BitVec 32) (s : FVec Ideal S256x256 .f32) (i r : Fin 256) :
    masked256 first len b s (ix2 i r)
      = Scalar.select (IntOp.cmpi .ule (BitVec.ofNat 32 i.val + b * 256#32 - first (ix2 0 r)) (len (ix2 0 r))) (s (ix2 i r)) (⊥ : EReal) := by
  unfold masked256
  pointwise
  rw [bottom]; rfl

theorem queryScale_at (v : Vec Ideal S1x1x256 .f32) (r : Fin 256) :
    queryScale v (ix2 0 r) = v (ix3 0 0 r) * (((Real.sqrt 128)⁻¹ * (Real.log 2)⁻¹ : ℝ) : EReal) := by
  unfold queryScale
  pointwise
  rw [scale_named]

theorem rowMax_le (a : FVec Ideal S8x256 .f32) (r : Fin 256) (z : EReal) : rowMax a (ix2 0 r) ≤ z ↔ ∀ s : Fin 8, a (ix2 s r) ≤ z := by
  unfold rowMax
  pointwise
  rw [fold_max_le]

theorem outBlock_at (b : Carry Ideal) (vs : Vec Ideal S1x1x1x128 .f32) (r : Fin 256) (d : Fin 128) :
    outBlock b vs (ix2 r d) = Ideal.div (b.1 (ix2 d r) * (vs (ix4 0 0 0 d) * Ideal.ofBits .f32 0x3B800000#32)) (∑ s : Fin 8, b.2 (ix2 s r)) := by
  unfold outBlock
  pointwise

end Cert.KernelIdeal.Body
-- ==== Proof.Value.Softmax.lean ====
/-
One row of softmax attention over the extended reals: weights taken in base two over the visited keys only are the
weights in base e over all keys.
-/
module

public import Idealize.ShloMosaic.Lib.Pointwise

@[expose] public section

noncomputable section

namespace Cert.Attention

open Idealize.ShloMosaic

theorem exp2_scaled (y : EReal) (c : ℝ) (hc : 0 < c) : Ideal.exp2 (y * ((c * (Real.log 2)⁻¹ : ℝ) : EReal)) = Ideal.exp (y * (c : EReal)) := by
  have hl : 0 < Real.log 2 := Real.log_pos (by norm_num)
  have hc' : 0 < c * (Real.log 2)⁻¹ := by positivity
  induction y using EReal.rec with
  | bot => rw [EReal.bot_mul_coe_of_pos hc', EReal.bot_mul_coe_of_pos hc]; rfl
  | top => rw [EReal.top_mul_coe_of_pos hc', EReal.top_mul_coe_of_pos hc]; rfl
  | coe y =>
    rw [← EReal.coe_mul, ← EReal.coe_mul]
    show ((Real.rpow 2 _ : ℝ) : EReal) = ((Real.exp _ : ℝ) : EReal)
    refine congrArg _ ?_
    rw [Real.rpow_eq_pow, Real.rpow_def_of_pos (by norm_num)]
    refine congrArg _ ?_
    field_simp

theorem sub_scaled (u m : EReal) (c : ℝ) (hc : 0 < c) : (u - m) * (c : EReal) = u * c - m * c := by
  rw [sub_eq_add_neg, EReal.right_distrib_of_nonneg_of_ne_top (by exact_mod_cast hc.le) (EReal.coe_ne_top c), EReal.neg_mul, ← sub_eq_add_neg]

theorem scaled_le (m z : EReal) (c : ℝ) (hc : 0 < c) : m * (c : EReal) ≤ z ↔ m ≤ z / (c : EReal) :=
  (EReal.le_div_iff_mul_le (by exact_mod_cast hc) (EReal.coe_ne_top c)).symm

theorem bot_sub' (m : EReal) : (⊥ : EReal) - m = ⊥ := by rw [sub_eq_add_neg, EReal.bot_add]

/-- The weight a value code is multiplied by. -/
def weight (p : EReal) : EReal := min (p * Ideal.ofBits .f32 0x43800000#32) (Ideal.ofBits .f32 0x43E00000#32)

theorem weight_zero : weight 0 = 0 := by
  unfold weight
  rw [zero_mul]
  refine min_eq_left ?_
  have : Ideal.ofBits .f32 0x43E00000#32 = ((448 : ℝ) : EReal) := by
    simp [Ideal.ofBits, Ideal.ieee]; rw [← EReal.coe_mul]; norm_num
  rw [this]
  exact_mod_cast (by norm_num : (0 : ℝ) ≤ 448)

section
variable {n : Nat} (vis : Fin n → Prop) [DecidablePred vis] (visited : Finset (Fin n)) (hvis : ∀ k, vis k → k ∈ visited)
  (s K v : Fin n → EReal) (q r : ℝ) (hq : 0 < q) (hr : 0 < r)

/-- A key's score, before the query's scale. -/
def score (k : Fin n) : EReal := if vis k then s k * K k else ⊥
/-- and with it. -/
def scaled (k : Fin n) : EReal := if vis k then s k * ((q * r : ℝ) : EReal) * K k else ⊥

include hq hr in
theorem scaled_eq (k : Fin n) : scaled vis s K q r k = score vis s K k * ((q * r : ℝ) : EReal) := by
  unfold scaled score
  split
  · rw [mul_assoc, mul_assoc, mul_comm (K k)]
  · rw [EReal.bot_mul_coe_of_pos (by positivity)]

include hq hr hvis in
theorem max_eq (m M : EReal) (hm : ∀ z, m ≤ z ↔ ∀ k ∈ visited, score vis s K k ≤ z) (hM : ∀ z, M ≤ z ↔ ∀ k, scaled vis s K q r k ≤ z) :
    M = m * ((q * r : ℝ) : EReal) := by
  refine eq_of_forall_ge_iff fun z => ?_
  rw [hM, scaled_le _ _ _ (by positivity), hm]
  simp only [scaled_eq vis s K q r hq hr, scaled_le _ _ _ (show 0 < q * r by positivity)]
  refine ⟨fun h k _ => h k, fun h k => ?_⟩
  by_cases hk : k ∈ visited
  · exact h k hk
  · have : score vis s K k = ⊥ := if_neg fun hv => hk (hvis k hv)
    rw [this]; exact bot_le

include hq hr hvis in
/-- The row's output is the same. -/
theorem row_eq (m M vs : EReal) (hm : ∀ z, m ≤ z ↔ ∀ k ∈ visited, score vis s K k ≤ z) (hM : ∀ z, M ≤ z ↔ ∀ k, scaled vis s K q r k ≤ z) :
    Ideal.div ((∑ k ∈ visited, v k * weight (Ideal.exp2 ((score vis s K k - m) * ((q : EReal) * ((r * (Real.log 2)⁻¹ : ℝ) : EReal))))) * vs)
        (∑ k ∈ visited, Ideal.exp2 ((score vis s K k - m) * ((q : EReal) * ((r * (Real.log 2)⁻¹ : ℝ) : EReal))))
      = Ideal.div ((∑ k, weight (Ideal.exp (scaled vis s K q r k - M)) * v k) * vs) (∑ k, Ideal.exp (scaled vis s K q r k - M)) := by
  have e : ∀ k, Ideal.exp2 ((score vis s K k - m) * ((q : EReal) * ((r * (Real.log 2)⁻¹ : ℝ) : EReal))) = Ideal.exp (scaled vis s K q r k - M) := by
    intro k
    rw [← EReal.coe_mul, ← mul_assoc, exp2_scaled _ _ (by positivity), sub_scaled _ _ _ (by positivity),
      scaled_eq vis s K q r hq hr, max_eq vis visited hvis s K q r hq hr m M hm hM]
  have z : ∀ k, k ∉ visited → Ideal.exp (scaled vis s K q r k - M) = 0 := by
    intro k hk
    have : scaled vis s K q r k = ⊥ := if_neg fun hv => hk (hvis k hv)
    rw [this, bot_sub']; rfl
  simp only [e]
  rw [← Finset.sum_subset (Finset.subset_univ visited) (fun k _ hk => z k hk),
    ← Finset.sum_subset (Finset.subset_univ visited) (f := fun k => weight (Ideal.exp (scaled vis s K q r k - M)) * v k)
      (fun k _ hk => by rw [z k hk, weight_zero, zero_mul])]
  simp only [mul_comm (v _)]

end

end Cert.Attention
-- ==== Proof.Value.Folds.lean ====
/-
The loops of a head over the reals: the scratch they leave holds the visited keys' scores, the maxima bound exactly
those, and the sums run over exactly those.
-/
module

public import proofs.«01_k».proof.Proof.Value.Steps
public import proofs.«01_k».proof.Proof.Value.Softmax
public import proofs.«01_k».proof.Proof.Ideal.Checks

@[expose] public section

noncomputable section

namespace Cert.KernelIdeal.Body

open Idealize.ShloMosaic Cert.KernelIdeal Cert.KernelIdeal.Gen
open Cert.Attention (weight)

variable [Facts]

/-- The keys from `a` up to `n`. -/
def visited (a n : Nat) : Finset (Fin 32768) := Finset.univ.filter fun k => a ≤ k.val ∧ k.val < n

theorem mem_visited {a n : Nat} {k : Fin 32768} : k ∈ visited a n ↔ a ≤ k.val ∧ k.val < n := by simp [visited]

theorem visited_self (a : Nat) : visited a a = ∅ := by
  ext k; rw [mem_visited]; simp

theorem sum_visited {a n p : Nat} (ha : a ≤ n) (hn : n + p ≤ 32768) (f : Fin 32768 → EReal) :
    ∑ k ∈ visited a (n + p), f k = ∑ k ∈ visited a n, f k + ∑ i : Fin p, f ⟨n + i.val, by omega⟩ := by
  have hd : Disjoint (visited a n) (visited n (n + p)) := by
    rw [Finset.disjoint_left]
    intro k h1 h2
    rw [mem_visited] at h1 h2; omega
  have hu : visited a (n + p) = visited a n ∪ visited n (n + p) := by
    ext k; rw [Finset.mem_union, mem_visited, mem_visited, mem_visited]; omega
  rw [hu, Finset.sum_union hd]
  refine congrArg _ (Finset.sum_bij' (fun k _ => (⟨k.val - n, ?_⟩ : Fin p)) (fun i _ => ⟨n + i.val, by omega⟩) ?_ ?_ ?_ ?_ ?_)
  · next h => rw [mem_visited] at h; omega
  · intro k h; exact Finset.mem_univ _
  · intro i _; rw [mem_visited]; exact ⟨by show n ≤ n + i.val; omega, by show n + i.val < n + p; omega⟩
  · intro k h; rw [mem_visited] at h; exact Fin.ext (by show n + (k.val - n) = k.val; omega)
  · intro i _; exact Fin.ext (by show n + i.val - n = i.val; omega)
  · intro k h; rw [mem_visited] at h; exact congrArg f (Fin.ext (by show k.val = n + (k.val - n); omega))

section Scores
variable (x6 : Vec Ideal S1x1x32768x128 .fp8e4m3) (x7 : Vec Ideal S1x1x32768x128 .f32) (q : FVec Ideal S256x128 .fp8e4m3)
  (first len : IVec S1x256 32)

/-- A key's score for a row. -/
def keyScore (k : Fin 32768) (r : Fin 256) : EReal :=
  (∑ d : Fin 128, x6 (ix4 0 0 k d) * q (ix2 r d)) * x7 (ix4 0 0 k ⟨r.val % 128, by omega⟩)

/-- Whether a row's interval holds a key. -/
def inside (k : Fin 32768) (r : Fin 256) : BitVec 1 := IntOp.cmpi .ule (BitVec.ofNat 32 k.val - first (ix2 0 r)) (len (ix2 0 r))

/-- A key's masked score. -/
def maskedScore (k : Fin 32768) (r : Fin 256) : EReal := Scalar.select (inside first len k r) (keyScore x6 x7 q k r) (⊥ : EReal)

/-- The score loops have been over the keys from `a` up to `n`. -/
def Scored (U : Fin 32768 → Fin 256 → EReal) (a n : Nat) (s : Scratch Ideal × FVec Ideal S8x256 .f32) : Prop :=
  (∀ (k : Fin 32768) (r : Fin 256), k ∈ visited a n → s.1 (ix2 k r) = U k r)
    ∧ ∀ (r : Fin 256) (z : EReal), (∀ i : Fin 8, s.2 (ix2 i r) ≤ z) ↔ ∀ k ∈ visited a n, U k r ≤ z

theorem all_visited {a n p : Nat} (ha : a ≤ n) (hn : n + p ≤ 32768) (P : Fin 32768 → Prop) :
    (∀ k ∈ visited a (n + p), P k) ↔ (∀ k ∈ visited a n, P k) ∧ ∀ i : Fin p, P ⟨n + i.val, by omega⟩ := by
  constructor
  · intro h
    refine ⟨fun k hk => h k ?_, fun i => h _ ?_⟩
    · rw [mem_visited] at hk ⊢; omega
    · rw [mem_visited]; exact ⟨by show a ≤ n + i.val; omega, by show n + i.val < n + p; omega⟩
  · rintro ⟨h1, h2⟩ k hk
    rw [mem_visited] at hk
    by_cases hkn : k.val < n
    · exact h1 k (mem_visited.mpr ⟨hk.1, hkn⟩)
    · have := h2 ⟨k.val - n, by omega⟩
      have e : (⟨n + (k.val - n), by omega⟩ : Fin 32768) = k := Fin.ext (by show n + (k.val - n) = k.val; omega)
      rwa [e] at this

theorem window_k256 {α : Type} (x : S1x1x32768x128.Idx → α) (n : Nat) (h : n + 256 ≤ 32768) (o4 : Fin 4 → Nat) (ho : o4 = ![0, 0, n, 0])
    (h4 : ∀ a, o4 a + S1x1x256x128.size a ≤ S1x1x32768x128.size a) (i : Fin 256) (d : Fin 128) :
    VecWindow.window (s := S1x1x32768x128) x o4 S1x1x256x128.size h4 (ix4 0 0 i d) = x (ix4 0 0 ⟨n + i.val, by omega⟩ d) := by
  subst ho
  refine congrArg x (funext fun a => Fin.ext ?_)
  fin_cases a
  · rfl
  · rfl
  · show n + 1 * i.val = n + i.val; omega
  · show 0 + 1 * d.val = d.val; omega

theorem put_s256 {α : Type} (x : S32768x256.Idx → α) (n : Nat) (h : n + 256 ≤ 32768) (o2 : Fin 2 → Nat) (ho : o2 = ![n, 0]) (w : S256x256.Idx → α)
    (k : Fin 32768) (r : Fin 256) :
    (∀ hk : n ≤ k.val ∧ k.val < n + 256, VecWindow.put (s := S32768x256) x o2 S256x256.size w (ix2 k r) = w (ix2 ⟨k.val - n, by omega⟩ r))
      ∧ (k.val < n → VecWindow.put (s := S32768x256) x o2 S256x256.size w (ix2 k r) = x (ix2 k r)) := by
  subst ho
  constructor
  · intro hk
    have hh : ∀ a, ![n, 0] a ≤ ((ix2 k r : S32768x256.Idx) a).val ∧ ((ix2 k r : S32768x256.Idx) a).val < ![n, 0] a + S256x256.size a := by
      intro a; fin_cases a
      · exact hk
      · exact ⟨Nat.zero_le _, by show r.val < 0 + 256; omega⟩
    refine (dif_pos hh).trans (congrArg w (funext fun a => Fin.ext ?_))
    fin_cases a
    · rfl
    · rfl
  · intro hk
    refine dif_neg fun hh => ?_
    have : n ≤ k.val := (hh 0).1
    omega

theorem scored_step256 {U : Fin 32768 → Fin 256 → EReal} {a n : Nat} (ha : a ≤ n) (hn : n + 256 ≤ 32768)
    (o4 : Fin 4 → Nat) (ho4 : o4 = ![0, 0, n, 0]) (h4 : ∀ a, o4 a + S1x1x256x128.size a ≤ S1x1x32768x128.size a) (o2 : Fin 2 → Nat) (ho2 : o2 = ![n, 0])
    (V : Vec Ideal S1x1x256x128 .fp8e4m3 → Vec Ideal S1x1x256x128 .f32 → Vec Ideal S256x256 .f32)
    (hV : ∀ (i : Fin 256) (r : Fin 256), V (VecWindow.window (s := S1x1x32768x128) x6 o4 S1x1x256x128.size h4) (VecWindow.window (s := S1x1x32768x128) x7 o4 S1x1x256x128.size h4) (ix2 ⟨i.val, i.isLt⟩ r) = U ⟨n + i.val, by omega⟩ r)
    (s : Scratch Ideal × FVec Ideal S8x256 .f32) (h : Scored U a n s) :
    Scored U a (n + 256) (scoreStep x6 x7 (n4 := S1x1x256x128.size) (n2 := S256x256.size) o4 h4 o2 V shapeCasts_S256x256_S256x256 maxOf256 s) := by
  constructor
  · intro k r hk
    rw [mem_visited] at hk
    unfold scoreStep
    dsimp only
    by_cases hkn : k.val < n
    · rw [(put_s256 s.1 n hn o2 ho2 _ k r).2 hkn]
      exact h.1 k r (mem_visited.mpr ⟨hk.1, hkn⟩)
    · refine ((put_s256 s.1 n hn o2 ho2 _ k r).1 ⟨by omega, hk.2⟩).trans ?_
      rw [shapeCast_self]
      refine (hV ⟨k.val - n, by omega⟩ r).trans (congrArg (fun k => U k r) (Fin.ext (by show n + (k.val - n) = k.val; omega)))
  · intro r z
    rw [all_visited ha hn]
    unfold scoreStep
    dsimp only
    refine (maxOf256_le s.2 _ r z).trans (and_congr (h.2 r z) (forall_congr' fun i => ?_))
    rw [← hV i r]

theorem window_k1024 {α : Type} (x : S1x1x32768x128.Idx → α) (n : Nat) (h : n + 1024 ≤ 32768) (o4 : Fin 4 → Nat) (ho : o4 = ![0, 0, n, 0])
    (h4 : ∀ a, o4 a + S1x1x1024x128.size a ≤ S1x1x32768x128.size a) (i : Fin 1024) (d : Fin 128) :
    VecWindow.window (s := S1x1x32768x128) x o4 S1x1x1024x128.size h4 (ix4 0 0 i d) = x (ix4 0 0 ⟨n + i.val, by omega⟩ d) := by
  subst ho
  refine congrArg x (funext fun a => Fin.ext ?_)
  fin_cases a
  · rfl
  · rfl
  · show n + 1 * i.val = n + i.val; omega
  · show 0 + 1 * d.val = d.val; omega

theorem put_s1024 {α : Type} (x : S32768x256.Idx → α) (n : Nat) (h : n + 1024 ≤ 32768) (o2 : Fin 2 → Nat) (ho : o2 = ![n, 0]) (w : S1024x256.Idx → α)
    (k : Fin 32768) (r : Fin 256) :
    (∀ hk : n ≤ k.val ∧ k.val < n + 1024, VecWindow.put (s := S32768x256) x o2 S1024x256.size w (ix2 k r) = w (ix2 ⟨k.val - n, by omega⟩ r))
      ∧ (k.val < n → VecWindow.put (s := S32768x256) x o2 S1024x256.size w (ix2 k r) = x (ix2 k r)) := by
  subst ho
  constructor
  · intro hk
    have hh : ∀ a, ![n, 0] a ≤ ((ix2 k r : S32768x256.Idx) a).val ∧ ((ix2 k r : S32768x256.Idx) a).val < ![n, 0] a + S1024x256.size a := by
      intro a; fin_cases a
      · exact hk
      · exact ⟨Nat.zero_le _, by show r.val < 0 + 256; omega⟩
    refine (dif_pos hh).trans (congrArg w (funext fun a => Fin.ext ?_))
    fin_cases a
    · rfl
    · rfl
  · intro hk
    refine dif_neg fun hh => ?_
    have : n ≤ k.val := (hh 0).1
    omega

theorem scored_step1024 {U : Fin 32768 → Fin 256 → EReal} {a n : Nat} (ha : a ≤ n) (hn : n + 1024 ≤ 32768)
    (o4 : Fin 4 → Nat) (ho4 : o4 = ![0, 0, n, 0]) (h4 : ∀ a, o4 a + S1x1x1024x128.size a ≤ S1x1x32768x128.size a) (o2 : Fin 2 → Nat) (ho2 : o2 = ![n, 0])
    (V : Vec Ideal S1x1x1024x128 .fp8e4m3 → Vec Ideal S1x1x1024x128 .f32 → Vec Ideal S1024x256 .f32)
    (hV : ∀ (i : Fin 1024) (r : Fin 256), V (VecWindow.window (s := S1x1x32768x128) x6 o4 S1x1x1024x128.size h4) (VecWindow.window (s := S1x1x32768x128) x7 o4 S1x1x1024x128.size h4) (ix2 ⟨i.val, i.isLt⟩ r) = U ⟨n + i.val, by omega⟩ r)
    (s : Scratch Ideal × FVec Ideal S8x256 .f32) (h : Scored U a n s) :
    Scored U a (n + 1024) (scoreStep x6 x7 (n4 := S1x1x1024x128.size) (n2 := S1024x256.size) o4 h4 o2 V shapeCasts_S1024x256_S1024x256 maxOf1024 s) := by
  constructor
  · intro k r hk
    rw [mem_visited] at hk
    unfold scoreStep
    dsimp only
    by_cases hkn : k.val < n
    · rw [(put_s1024 s.1 n hn o2 ho2 _ k r).2 hkn]
      exact h.1 k r (mem_visited.mpr ⟨hk.1, hkn⟩)
    · refine ((put_s1024 s.1 n hn o2 ho2 _ k r).1 ⟨by omega, hk.2⟩).trans ?_
      rw [shapeCast_self]
      refine (hV ⟨k.val - n, by omega⟩ r).trans (congrArg (fun k => U k r) (Fin.ext (by show n + (k.val - n) = k.val; omega)))
  · intro r z
    rw [all_visited ha hn]
    unfold scoreStep
    dsimp only
    refine (maxOf1024_le s.2 _ r z).trans (and_congr (h.2 r z) (forall_congr' fun i => ?_))
    rw [← hV i r]

theorem word_block (n b : Nat) : (BitVec.ofNat 32 n + BitVec.ofNat 32 b * 256#32 : BitVec 32) = BitVec.ofNat 32 (b * 256 + n) := by
  apply BitVec.eq_of_toNat_eq
  simp only [BitVec.toNat_add, BitVec.toNat_mul, BitVec.toNat_ofNat]
  omega

theorem iv_ofNat (a k : Nat) : Scf.iv (BitVec.ofNat 32 a) 1#32 k = BitVec.ofNat 32 (a + k) := by
  apply BitVec.eq_of_toNat_eq
  unfold Scf.iv
  simp only [BitVec.toNat_add, BitVec.toNat_mul, BitVec.toNat_ofNat]
  omega

/-- A masked block's scores. -/
theorem masked_block (b : Nat) (hb : b * 256 + 256 ≤ 32768) (o4 : Fin 4 → Nat) (ho : o4 = ![0, 0, b * 256, 0])
    (h4 : ∀ a, o4 a + S1x1x256x128.size a ≤ S1x1x32768x128.size a) (i r : Fin 256) :
    masked256 first len (BitVec.ofNat 32 b) (scores256 q (VecWindow.window (s := S1x1x32768x128) x6 o4 S1x1x256x128.size h4)
      (VecWindow.window (s := S1x1x32768x128) x7 o4 S1x1x256x128.size h4)) (ix2 i r) = maskedScore x6 x7 q first len ⟨b * 256 + i.val, by omega⟩ r := by
  rw [masked256_at, scores256_at, word_block]
  unfold maskedScore keyScore inside
  rw [window_k256 x7 _ hb o4 ho]
  simp only [window_k256 x6 _ hb o4 ho]

variable (lo hi fl fh : Nat) (h1 : lo ≤ fl) (h2 : fl ≤ fh) (h3 : fh ≤ hi) (h4 : hi ≤ 128)
  (full : ∀ (k : Fin 32768) (r : Fin 256), fl * 256 ≤ k.val → k.val < fh * 256 → inside first len k r = 1#1)

/-- The same, after all of them. -/
theorem upto_all {n : ℕ} {S : Type} (step : Fin n → S → S) (s : S) (I : ℕ → S → Prop) (N : ℕ) (hN : n = N) (h0 : I 0 s)
    (hs : ∀ (k : Fin n) (x : S), I k.val x → I (k.val + 1) (step k x)) : I N (upto step s n) := by
  subst hN
  exact upto_induction step s I h0 hs n le_rfl

/-- A block of the full range needs no mask. -/
theorem full_score (full : ∀ (k : Fin 32768) (r : Fin 256), fl * 256 ≤ k.val → k.val < fh * 256 → inside first len k r = 1#1)
    (k : Fin 32768) (r : Fin 256) (ha : fl * 256 ≤ k.val) (hb : k.val < fh * 256) : keyScore x6 x7 q k r = maskedScore x6 x7 q first len k r := by
  unfold maskedScore
  rw [full k r ha hb]; rfl

include h1 h2 h3 h4 in
theorem scored1 (hw1) (s : Scratch Ideal × FVec Ideal S8x256 .f32)
    (h : Scored (maskedScore x6 x7 q first len) (lo * 256) (lo * 256) s) :
    Scored (maskedScore x6 x7 q first len) (lo * 256) (fl * 256) (scoreFold1 (BitVec.ofNat 32 lo) (BitVec.ofNat 32 fl) hw1 first len x6 x7 q s) := by
  have hT : (k0_t1_loop (BitVec.ofNat 32 lo) (BitVec.ofNat 32 fl)).trips = fl - lo := single_trips (by omega) (by omega)
  unfold scoreFold1
  rw [show fl * 256 = (lo + (fl - lo)) * 256 by omega]
  refine upto_all _ s (fun k s => Scored (maskedScore x6 x7 q first len) (lo * 256) ((lo + k) * 256) s) (fl - lo) hT (by simpa using h) (fun t x hx => ?_)
  have ht := t.isLt.trans_eq hT
  have e4 : k0_off5 (BitVec.ofNat 32 lo) (BitVec.ofNat 32 fl) t = ![0, 0, (lo + t.val) * 256, 0] := by
    show ![0, 0, (Scalar.muli (Scf.iv (BitVec.ofNat 32 lo) 1#32 t.val) 256#32).toNat, 0] = _
    rw [row_ofNat (by omega)]
  have e2 : k0_off6 (BitVec.ofNat 32 lo) (BitVec.ofNat 32 fl) t = ![(lo + t.val) * 256, 0] := by
    show ![(Scalar.muli (Scf.iv (BitVec.ofNat 32 lo) 1#32 t.val) 256#32).toNat, 0] = _
    rw [row_ofNat (by omega)]
  have e : (lo + (t.val + 1)) * 256 = (lo + t.val) * 256 + 256 := by omega
  rw [e]
  refine scored_step256 x6 x7 (by omega) (by omega) _ e4 (k0_off5_inb _ _ hw1 t) _ e2 _ (fun i r => ?_) x hx
  dsimp only
  rw [iv_ofNat]
  exact masked_block x6 x7 q first len _ (by omega) _ e4 _ i r

include h1 h2 h3 h4 full in
theorem scored3 (hw2) (s : Scratch Ideal × FVec Ideal S8x256 .f32)
    (h : Scored (maskedScore x6 x7 q first len) (lo * 256) (fl * 256) s) :
    Scored (maskedScore x6 x7 q first len) (lo * 256) ((fl + 4 * ((fh - fl) / 4)) * 256) (scoreFold3 (BitVec.ofNat 32 hi) (BitVec.ofNat 32 fl) (BitVec.ofNat 32 fh) hw2 x6 x7 q s) := by
  have hT : (k0_t3_loop (BitVec.ofNat 32 fl) (BitVec.ofNat 32 fh)).trips = (fh - fl) / 4 := four_trips (by omega) (by omega)
  unfold scoreFold3
  refine upto_all _ s (fun k s => Scored (maskedScore x6 x7 q first len) (lo * 256) ((fl + 4 * k) * 256) s) ((fh - fl) / 4) hT (by simpa using h) (fun t x hx => ?_)
  have ht := t.isLt.trans_eq hT
  have e4 : k0_off9 (BitVec.ofNat 32 fl) (BitVec.ofNat 32 fh) t = ![0, 0, (fl + 4 * t.val) * 256, 0] := by
    show ![0, 0, (Scalar.muli (Scalar.addi (BitVec.ofNat 32 fl) (Scalar.muli (Scf.iv 0#32 1#32 t.val) 4#32)) 256#32).toNat, 0] = _
    rw [row4_ofNat (by omega)]
  have e2 : k0_off10 (BitVec.ofNat 32 fl) (BitVec.ofNat 32 fh) t = ![(fl + 4 * t.val) * 256, 0] := by
    show ![(Scalar.muli (Scalar.addi (BitVec.ofNat 32 fl) (Scalar.muli (Scf.iv 0#32 1#32 t.val) 4#32)) 256#32).toNat, 0] = _
    rw [row4_ofNat (by omega)]
  have e : (fl + 4 * (t.val + 1)) * 256 = (fl + 4 * t.val) * 256 + 1024 := by omega
  rw [e]
  refine scored_step1024 x6 x7 (by omega) (by omega) _ e4 (k0_off9_inb _ _ _ hw2 t) _ e2 _ (fun i r => ?_) x hx
  rw [← full_score x6 x7 q first len fl fh full _ r (by show fl * 256 ≤ (fl + 4 * t.val) * 256 + i.val; omega) (by show (fl + 4 * t.val) * 256 + i.val < fh * 256; omega)]
  refine (scores1024_at _ _ _ i r).trans ?_
  unfold keyScore
  rw [window_k1024 x7 _ (by omega) _ e4]
  simp only [window_k1024 x6 _ (by omega) _ e4]

include h1 h2 h3 h4 full in
theorem scored5 (hw2) (s : Scratch Ideal × FVec Ideal S8x256 .f32)
    (h : Scored (maskedScore x6 x7 q first len) (lo * 256) ((fl + 4 * ((fh - fl) / 4)) * 256) s) :
    Scored (maskedScore x6 x7 q first len) (lo * 256) (fh * 256) (scoreFold5 (BitVec.ofNat 32 hi) (BitVec.ofNat 32 fl) (BitVec.ofNat 32 fh) hw2 x6 x7 q s) := by
  have hs := stop_ofNat h2 (by omega : fh ≤ 128)
  have hT : (k0_t5_loop (BitVec.ofNat 32 fl) (BitVec.ofNat 32 fh)).trips = fh - (fl + 4 * ((fh - fl) / 4)) := by
    show (single (Scalar.addi (BitVec.ofNat 32 fl) (Scalar.muli (quarter (Scalar.subi (BitVec.ofNat 32 fh) (BitVec.ofNat 32 fl))) 4#32)) (BitVec.ofNat 32 fh)).trips = _
    rw [hs]; exact single_trips (by omega) (by omega)
  unfold scoreFold5
  rw [show fh * 256 = (fl + 4 * ((fh - fl) / 4) + (fh - (fl + 4 * ((fh - fl) / 4)))) * 256 by omega]
  refine upto_all _ s (fun k s => Scored (maskedScore x6 x7 q first len) (lo * 256) ((fl + 4 * ((fh - fl) / 4) + k) * 256) s) (fh - (fl + 4 * ((fh - fl) / 4))) hT (by simpa using h) (fun t x hx => ?_)
  have ht := t.isLt.trans_eq hT
  have e4 : k0_off13 (BitVec.ofNat 32 fl) (BitVec.ofNat 32 fh) t = ![0, 0, (fl + 4 * ((fh - fl) / 4) + t.val) * 256, 0] := by
    show ![0, 0, (Scalar.muli (Scf.iv (Scalar.addi (BitVec.ofNat 32 fl) (Scalar.muli (quarter (Scalar.subi (BitVec.ofNat 32 fh) (BitVec.ofNat 32 fl))) 4#32)) 1#32 t.val) 256#32).toNat, 0] = _
    rw [hs, row_ofNat (by omega)]
  have e2 : k0_off14 (BitVec.ofNat 32 fl) (BitVec.ofNat 32 fh) t = ![(fl + 4 * ((fh - fl) / 4) + t.val) * 256, 0] := by
    show ![(Scalar.muli (Scf.iv (Scalar.addi (BitVec.ofNat 32 fl) (Scalar.muli (quarter (Scalar.subi (BitVec.ofNat 32 fh) (BitVec.ofNat 32 fl))) 4#32)) 1#32 t.val) 256#32).toNat, 0] = _
    rw [hs, row_ofNat (by omega)]
  have e : (fl + 4 * ((fh - fl) / 4) + (t.val + 1)) * 256 = (fl + 4 * ((fh - fl) / 4) + t.val) * 256 + 256 := by omega
  rw [e]
  refine scored_step256 x6 x7 (by omega) (by omega) _ e4 (k0_off13_inb _ _ _ hw2 t) _ e2 _ (fun i r => ?_) x hx
  rw [← full_score x6 x7 q first len fl fh full _ r (by show fl * 256 ≤ (fl + 4 * ((fh - fl) / 4) + t.val) * 256 + i.val; omega) (by show (fl + 4 * ((fh - fl) / 4) + t.val) * 256 + i.val < fh * 256; omega)]
  refine (scores256_at _ _ _ i r).trans ?_
  unfold keyScore
  rw [window_k256 x7 _ (by omega) _ e4]
  simp only [window_k256 x6 _ (by omega) _ e4]

include h1 h2 h3 h4 in
theorem scored7 (hw2) (s : Scratch Ideal × FVec Ideal S8x256 .f32)
    (h : Scored (maskedScore x6 x7 q first len) (lo * 256) (fh * 256) s) :
    Scored (maskedScore x6 x7 q first len) (lo * 256) (hi * 256) (scoreFold7 (BitVec.ofNat 32 hi) (BitVec.ofNat 32 fl) (BitVec.ofNat 32 fh) hw2 first len x6 x7 q s) := by
  have hT : (k0_t7_loop (BitVec.ofNat 32 hi) (BitVec.ofNat 32 fh)).trips = hi - fh := single_trips (by omega) (by omega)
  unfold scoreFold7
  rw [show hi * 256 = (fh + (hi - fh)) * 256 by omega]
  refine upto_all _ s (fun k s => Scored (maskedScore x6 x7 q first len) (lo * 256) ((fh + k) * 256) s) (hi - fh) hT (by simpa using h) (fun t x hx => ?_)
  have ht := t.isLt.trans_eq hT
  have e4 : k0_off17 (BitVec.ofNat 32 hi) (BitVec.ofNat 32 fh) t = ![0, 0, (fh + t.val) * 256, 0] := by
    show ![0, 0, (Scalar.muli (Scf.iv (BitVec.ofNat 32 fh) 1#32 t.val) 256#32).toNat, 0] = _
    rw [row_ofNat (by omega)]
  have e2 : k0_off18 (BitVec.ofNat 32 hi) (BitVec.ofNat 32 fh) t = ![(fh + t.val) * 256, 0] := by
    show ![(Scalar.muli (Scf.iv (BitVec.ofNat 32 fh) 1#32 t.val) 256#32).toNat, 0] = _
    rw [row_ofNat (by omega)]
  have e : (fh + (t.val + 1)) * 256 = (fh + t.val) * 256 + 256 := by omega
  rw [e]
  refine scored_step256 x6 x7 (by omega) (by omega) _ e4 (k0_off17_inb _ _ _ hw2 t) _ e2 _ (fun i r => ?_) x hx
  dsimp only
  rw [iv_ofNat]
  exact masked_block x6 x7 q first len _ (by omega) _ e4 _ i r

theorem upto_none {n : ℕ} {S : Type} (step : Fin n → S → S) (s : S) (h : n = 0) : upto step s n = s := by subst h; rfl

include h1 h2 h3 h4 full in
/-- The score stage leaves the visited keys' masked scores, and maxima that bound exactly those. -/
theorem scored (hw1 hw2) (g : Scratch Ideal) :
    Scored (maskedScore x6 x7 q first len) (lo * 256) (hi * 256)
      (scoreFn (BitVec.ofNat 32 lo) (BitVec.ofNat 32 hi) (BitVec.ofNat 32 fl) hw1 (BitVec.ofNat 32 fh) hw2 first len x6 x7 q g) := by
  have h0 : Scored (maskedScore x6 x7 q first len) (lo * 256) (lo * 256) (g, broadcast S8x256 (Scalar.ofBits .f32 0xFF800000#32 : Ideal .f32)) := by
    refine ⟨fun k r hk => ?_, fun r z => ?_⟩
    · rw [visited_self] at hk; exact absurd hk (Finset.notMem_empty _)
    · rw [visited_self]
      refine iff_of_true (fun i => ?_) (fun k hk => absurd hk (Finset.notMem_empty _))
      show Ideal.ofBits .f32 0xFF800000#32 ≤ z
      rw [bottom]; exact bot_le
  unfold scoreFn
  rw [show ∀ s, scoreFold8 (BitVec.ofNat 32 hi) (BitVec.ofNat 32 fl) (BitVec.ofNat 32 fh) hw2 first len x6 x7 q s = s from fun s => upto_none _ s (rest_trips _ _),
    show ∀ s, scoreFold6 (BitVec.ofNat 32 hi) (BitVec.ofNat 32 fl) (BitVec.ofNat 32 fh) hw2 x6 x7 q s = s from fun s => upto_none _ s (rest_trips _ _),
    show ∀ s, scoreFold4 (BitVec.ofNat 32 hi) (BitVec.ofNat 32 fl) (BitVec.ofNat 32 fh) hw2 x6 x7 q s = s from fun s => upto_none _ s (rest_trips _ _),
    show ∀ s, scoreFold2 (BitVec.ofNat 32 lo) (BitVec.ofNat 32 fl) hw1 first len x6 x7 q s = s from fun s => upto_none _ s (rest_trips _ _)]
  exact scored7 x6 x7 q first len lo hi fl fh h1 h2 h3 h4 hw2 _ (scored5 x6 x7 q first len lo hi fl fh h1 h2 h3 h4 full hw2 _
    (scored3 x6 x7 q first len lo hi fl fh h1 h2 h3 h4 full hw2 _ (scored1 x6 x7 q first len lo hi fl fh h1 h2 h3 h4 hw1 _ h0)))

end Scores

section Values
variable (x8 : Vec Ideal S1x1x128x32768 .fp8e4m3) (c m : FVec Ideal S1x256 .f32) (g : Scratch Ideal)

/-- A visited key's weight, from the scratch. -/
def keyProb (k : Fin 32768) (r : Fin 256) : EReal := Ideal.exp2 ((g (ix2 k r) - m (ix2 0 r)) * c (ix2 0 r))

/-- The value loops have been over the keys from `a` up to `n`. -/
def Weighed (a n : Nat) (s : Carry Ideal) : Prop :=
  (∀ (d : Fin 128) (r : Fin 256), s.1 (ix2 d r) = ∑ k ∈ visited a n, x8 (ix4 0 0 d k) * weight (keyProb c m g k r))
    ∧ ∀ r : Fin 256, ∑ i : Fin 8, s.2 (ix2 i r) = ∑ k ∈ visited a n, keyProb c m g k r

theorem weighed_step1024 {a n : Nat} (ha : a ≤ n) (hn : n + 1024 ≤ 32768)
    (o2 : Fin 2 → Nat) (ho2 : o2 = ![n, 0]) (h2 : ∀ a, o2 a + S1024x256.size a ≤ S32768x256.size a)
    (o4 : Fin 4 → Nat) (ho4 : o4 = ![0, 0, 0, n]) (h4 : ∀ a, o4 a + S1x1x128x1024.size a ≤ S1x1x128x32768.size a)
    (s : Carry Ideal) (h : Weighed x8 c m g a n s) :
    Weighed x8 c m g a (n + 1024) (valueStep x8 g (n4 := S1x1x128x1024.size) (n2 := S1024x256.size) o2 h2 o4 h4
      (fun a u vt => (weigh1024 (probs1024 c m u) vt a.1, sum1024 (probs1024 c m u) a.2)) s) := by
  have e1 : ∀ (i : Fin 1024) (r : Fin 256), probs1024 c m (VecWindow.window (s := S32768x256) g o2 S1024x256.size h2) (ix2 i r) = keyProb c m g ⟨n + i.val, by omega⟩ r := by
    intro i r
    rw [probs1024_at]
    subst ho2
    unfold keyProb
    refine congrArg (fun u => Ideal.exp2 ((u - m (ix2 0 r)) * c (ix2 0 r))) (congrArg g (funext fun a => Fin.ext ?_))
    fin_cases a
    · show n + 1 * i.val = n + i.val; omega
    · show 0 + 1 * r.val = r.val; omega
  have e2 : ∀ (d : Fin 128) (i : Fin 1024), VecWindow.window (s := S1x1x128x32768) x8 o4 S1x1x128x1024.size h4 (ix4 0 0 d i) = x8 (ix4 0 0 d ⟨n + i.val, by omega⟩) := by
    intro d i
    subst ho4
    refine congrArg x8 (funext fun a => Fin.ext ?_)
    fin_cases a
    · rfl
    · rfl
    · show 0 + 1 * d.val = d.val; omega
    · show n + 1 * i.val = n + i.val; omega
  constructor
  · intro d r
    rw [sum_visited ha hn, ← h.1 d r]
    refine (weigh1024_at _ _ _ d r).trans (congrArg _ (Finset.sum_congr rfl fun i _ => ?_))
    rw [e1, e2]; rfl
  · intro r
    rw [sum_visited ha hn, ← h.2 r]
    refine (sum1024_at _ _ r).trans (congrArg _ (Finset.sum_congr rfl fun i _ => e1 i r))

theorem weighed_step256 {a n : Nat} (ha : a ≤ n) (hn : n + 256 ≤ 32768)
    (o2 : Fin 2 → Nat) (ho2 : o2 = ![n, 0]) (h2 : ∀ a, o2 a + S256x256.size a ≤ S32768x256.size a)
    (o4 : Fin 4 → Nat) (ho4 : o4 = ![0, 0, 0, n]) (h4 : ∀ a, o4 a + S1x1x128x256.size a ≤ S1x1x128x32768.size a)
    (s : Carry Ideal) (h : Weighed x8 c m g a n s) :
    Weighed x8 c m g a (n + 256) (valueStep x8 g (n4 := S1x1x128x256.size) (n2 := S256x256.size) o2 h2 o4 h4
      (fun a u vt => (weigh256 (probs256 c m u) vt a.1, sum256 (probs256 c m u) a.2)) s) := by
  have e1 : ∀ (i : Fin 256) (r : Fin 256), probs256 c m (VecWindow.window (s := S32768x256) g o2 S256x256.size h2) (ix2 i r) = keyProb c m g ⟨n + i.val, by omega⟩ r := by
    intro i r
    rw [probs256_at]
    subst ho2
    unfold keyProb
    refine congrArg (fun u => Ideal.exp2 ((u - m (ix2 0 r)) * c (ix2 0 r))) (congrArg g (funext fun a => Fin.ext ?_))
    fin_cases a
    · show n + 1 * i.val = n + i.val; omega
    · show 0 + 1 * r.val = r.val; omega
  have e2 : ∀ (d : Fin 128) (i : Fin 256), VecWindow.window (s := S1x1x128x32768) x8 o4 S1x1x128x256.size h4 (ix4 0 0 d i) = x8 (ix4 0 0 d ⟨n + i.val, by omega⟩) := by
    intro d i
    subst ho4
    refine congrArg x8 (funext fun a => Fin.ext ?_)
    fin_cases a
    · rfl
    · rfl
    · show 0 + 1 * d.val = d.val; omega
    · show n + 1 * i.val = n + i.val; omega
  constructor
  · intro d r
    rw [sum_visited ha hn, ← h.1 d r]
    refine (weigh256_at _ _ _ d r).trans (congrArg _ (Finset.sum_congr rfl fun i _ => ?_))
    rw [e1, e2]; rfl
  · intro r
    rw [sum_visited ha hn, ← h.2 r]
    refine (sum256_at _ _ r).trans (congrArg _ (Finset.sum_congr rfl fun i _ => e1 i r))

variable (lo hi : Nat) (h1 : lo ≤ hi) (h2 : hi ≤ 128)

include h1 h2 in
/-- The value stage sums over the visited keys. -/
theorem weighed (hw3) :
    Weighed x8 c m g (lo * 256) (hi * 256) (valueFn (BitVec.ofNat 32 lo) (BitVec.ofNat 32 hi) hw3 x8 c m g) := by
  have h0 : Weighed x8 c m g (lo * 256) (lo * 256) (broadcast S128x256 (Scalar.ofBits .f32 0x00000000#32 : Ideal .f32), broadcast S8x256 (Scalar.ofBits .f32 0x00000000#32 : Ideal .f32)) := by
    have z : Ideal.ofBits .f32 0x00000000#32 = 0 := by simp [Ideal.ofBits, Ideal.ieee]
    refine ⟨fun d r => ?_, fun r => ?_⟩
    · rw [visited_self, Finset.sum_empty]; exact z
    · rw [visited_self, Finset.sum_empty]
      exact Finset.sum_eq_zero fun i _ => z
  have hT : (k0_t9_loop (BitVec.ofNat 32 lo) (BitVec.ofNat 32 hi)).trips = (hi - lo) / 4 := four_trips h1 h2
  have h9 : ∀ s, Weighed x8 c m g (lo * 256) (lo * 256) s →
      Weighed x8 c m g (lo * 256) ((lo + 4 * ((hi - lo) / 4)) * 256) (valueFold9 (BitVec.ofNat 32 lo) (BitVec.ofNat 32 hi) hw3 x8 c m g s) := by
    intro s h
    unfold valueFold9
    refine upto_all _ s (fun k s => Weighed x8 c m g (lo * 256) ((lo + 4 * k) * 256) s) ((hi - lo) / 4) hT (by simpa using h) (fun t x hx => ?_)
    have ht := t.isLt.trans_eq hT
    have e2 : k0_off21 (BitVec.ofNat 32 lo) (BitVec.ofNat 32 hi) t = ![(lo + 4 * t.val) * 256, 0] := by
      show ![(Scalar.muli (Scalar.addi (BitVec.ofNat 32 lo) (Scalar.muli (Scf.iv 0#32 1#32 t.val) 4#32)) 256#32).toNat, 0] = _
      rw [row4_ofNat (by omega)]
    have e4 : k0_off22 (BitVec.ofNat 32 lo) (BitVec.ofNat 32 hi) t = ![0, 0, 0, (lo + 4 * t.val) * 256] := by
      show ![0, 0, 0, (Scalar.muli (Scalar.addi (BitVec.ofNat 32 lo) (Scalar.muli (Scf.iv 0#32 1#32 t.val) 4#32)) 256#32).toNat] = _
      rw [row4_ofNat (by omega)]
    have e : (lo + 4 * (t.val + 1)) * 256 = (lo + 4 * t.val) * 256 + 1024 := by omega
    rw [e]
    exact weighed_step1024 x8 c m g (by omega) (by omega) _ e2 (k0_off21_inb _ _ hw3 t) _ e4 (k0_off22_inb _ _ hw3 t) x hx
  have hs := stop_ofNat h1 h2
  have hT' : (k0_t11_loop (BitVec.ofNat 32 lo) (BitVec.ofNat 32 hi)).trips = hi - (lo + 4 * ((hi - lo) / 4)) := by
    show (single (Scalar.addi (BitVec.ofNat 32 lo) (Scalar.muli (quarter (Scalar.subi (BitVec.ofNat 32 hi) (BitVec.ofNat 32 lo))) 4#32)) (BitVec.ofNat 32 hi)).trips = _
    rw [hs]; exact single_trips (by omega) (by omega)
  have h11 : ∀ s, Weighed x8 c m g (lo * 256) ((lo + 4 * ((hi - lo) / 4)) * 256) s →
      Weighed x8 c m g (lo * 256) (hi * 256) (valueFold11 (BitVec.ofNat 32 lo) (BitVec.ofNat 32 hi) hw3 x8 c m g s) := by
    intro s h
    unfold valueFold11
    rw [show hi * 256 = (lo + 4 * ((hi - lo) / 4) + (hi - (lo + 4 * ((hi - lo) / 4)))) * 256 by omega]
    refine upto_all _ s (fun k s => Weighed x8 c m g (lo * 256) ((lo + 4 * ((hi - lo) / 4) + k) * 256) s) (hi - (lo + 4 * ((hi - lo) / 4))) hT' (by simpa using h) (fun t x hx => ?_)
    have ht := t.isLt.trans_eq hT'
    have e2 : k0_off25 (BitVec.ofNat 32 lo) (BitVec.ofNat 32 hi) t = ![(lo + 4 * ((hi - lo) / 4) + t.val) * 256, 0] := by
      show ![(Scalar.muli (Scf.iv (Scalar.addi (BitVec.ofNat 32 lo) (Scalar.muli (quarter (Scalar.subi (BitVec.ofNat 32 hi) (BitVec.ofNat 32 lo))) 4#32)) 1#32 t.val) 256#32).toNat, 0] = _
      rw [hs, row_ofNat (by omega)]
    have e4 : k0_off26 (BitVec.ofNat 32 lo) (BitVec.ofNat 32 hi) t = ![0, 0, 0, (lo + 4 * ((hi - lo) / 4) + t.val) * 256] := by
      show ![0, 0, 0, (Scalar.muli (Scf.iv (Scalar.addi (BitVec.ofNat 32 lo) (Scalar.muli (quarter (Scalar.subi (BitVec.ofNat 32 hi) (BitVec.ofNat 32 lo))) 4#32)) 1#32 t.val) 256#32).toNat] = _
      rw [hs, row_ofNat (by omega)]
    have e : (lo + 4 * ((hi - lo) / 4) + (t.val + 1)) * 256 = (lo + 4 * ((hi - lo) / 4) + t.val) * 256 + 256 := by omega
    rw [e]
    exact weighed_step256 x8 c m g (by omega) (by omega) _ e2 (k0_off25_inb _ _ hw3 t) _ e4 (k0_off26_inb _ _ hw3 t) x hx
  unfold valueFn
  rw [show ∀ s, valueFold12 (BitVec.ofNat 32 lo) (BitVec.ofNat 32 hi) hw3 x8 c m g s = s from fun s => upto_none _ s (rest_trips _ _),
    show ∀ s, valueFold10 (BitVec.ofNat 32 lo) (BitVec.ofNat 32 hi) hw3 x8 c m g s = s from fun s => upto_none _ s (rest_trips _ _)]
  exact h11 _ (h9 _ h0)

end Values

end Cert.KernelIdeal.Body
-- ==== Proof.Value.Block.lean ====
/-
A head's block over the reals, read at an index.
-/
module

public import proofs.«01_k».proof.Proof.Value.Folds

@[expose] public section

noncomputable section

namespace Cert.KernelIdeal.Body

open Idealize.ShloMosaic Cert.KernelIdeal Cert.KernelIdeal.Gen
open Cert.Attention (weight)

variable [Facts]

/-- A head's query codes. -/
def headQuery (x4 : Vec Ideal S1x256x1024 .fp8e4m3) (h : Fin 8) : FVec Ideal S256x128 .fp8e4m3 :=
  fun i => x4 (ix3 0 (i 0) ⟨h.val * 128 + (i 1).val, by have : (i 1).val < 128 := (i 1).isLt; omega⟩)

variable (x4 : Vec Ideal S1x256x1024 .fp8e4m3) (x5 : Vec Ideal S1x8x256 .f32) (x6 : Vec Ideal S1x1x32768x128 .fp8e4m3) (x7 : Vec Ideal S1x1x32768x128 .f32)
  (x8 : Vec Ideal S1x1x128x32768 .fp8e4m3) (x9 : Vec Ideal S1x1x1x128 .f32)
  (first len : IVec S1x256 32)
  (lo hi fl fh : Nat) (h1 : lo ≤ fl) (h2 : fl ≤ fh) (h3 : fh ≤ hi) (h4 : hi ≤ 128)
  (full : ∀ (k : Fin 32768) (r : Fin 256), fl * 256 ≤ k.val → k.val < fh * 256 → inside first len k r = 1#1)

theorem cast_in (w : FVec Ideal S1x256x128 .fp8e4m3) (a : Fin 256) (b : Fin 128) :
    shapeCast S256x128 w shapeCasts_S1x256x128_S256x128 (ix2 a b) = w (ix3 0 a b) := by pointwise
theorem cast_out (w : FVec Ideal S256x128 .bf16) (a : Fin 256) (b : Fin 128) :
    shapeCast S1x256x128 w shapeCasts_S256x128_S1x256x128 (ix3 0 a b) = w (ix2 a b) := by pointwise

include h1 h2 h3 h4 full in
/-- A row of a head's block: softmax of the visited keys' masked scores, in base two. -/
theorem headBlock_at (hw1 hw2 hw3) (h : Fin 8) (oq : Fin 3 → Nat) (hoq : oq = ![0, 0, 128 * h.val]) (hq : ∀ a, oq a + S1x256x128.size a ≤ S1x256x1024.size a)
    (os : Fin 3 → Nat) (hos : os = ![0, h.val, 0]) (hs : ∀ a, os a + S1x1x256.size a ≤ S1x8x256.size a) (g : Scratch Ideal) (r : Fin 256) (d : Fin 128) :
    ∃ m : EReal, (∀ z, m ≤ z ↔ ∀ k ∈ visited (lo * 256) (hi * 256), maskedScore x6 x7 (headQuery x4 h) first len k r ≤ z)
      ∧ headBlock (BitVec.ofNat 32 lo) (BitVec.ofNat 32 hi) hw3 (BitVec.ofNat 32 fl) hw1 (BitVec.ofNat 32 fh) hw2 first len x4 x5 x6 x7 x8 x9 oq hq os hs g (ix3 0 r d)
        = Ideal.div ((∑ k ∈ visited (lo * 256) (hi * 256), x8 (ix4 0 0 d k)
              * weight (Ideal.exp2 ((maskedScore x6 x7 (headQuery x4 h) first len k r - m) * (x5 (ix3 0 h r) * (((Real.sqrt 128)⁻¹ * (Real.log 2)⁻¹ : ℝ) : EReal)))))
            * (x9 (ix4 0 0 0 d) * Ideal.ofBits .f32 0x3B800000#32))
          (∑ k ∈ visited (lo * 256) (hi * 256), Ideal.exp2 ((maskedScore x6 x7 (headQuery x4 h) first len k r - m) * (x5 (ix3 0 h r) * (((Real.sqrt 128)⁻¹ * (Real.log 2)⁻¹ : ℝ) : EReal)))) := by
  have eq : shapeCast S256x128 (VecWindow.window (s := S1x256x1024) x4 oq S1x256x128.size hq : Vec Ideal S1x256x128 .fp8e4m3) shapeCasts_S1x256x128_S256x128 = headQuery x4 h := by
    subst hoq
    funext i
    obtain ⟨a, b, rfl⟩ : ∃ (a : Fin 256) (b : Fin 128), i = ix2 a b := ⟨i 0, i 1, funext fun x => by fin_cases x <;> rfl⟩
    refine (cast_in _ a b).trans (congrArg x4 (funext fun x => Fin.ext ?_))
    fin_cases x
    · rfl
    · show 0 + 1 * a.val = a.val; omega
    · show 128 * h.val + 1 * b.val = h.val * 128 + b.val; omega
  have es : VecWindow.window (s := S1x8x256) x5 os S1x1x256.size hs (ix3 0 0 r) = x5 (ix3 0 h r) := by
    subst hos
    refine congrArg x5 (funext fun x => Fin.ext ?_)
    fin_cases x
    · rfl
    · show h.val + 1 * 0 = h.val; omega
    · show 0 + 1 * r.val = r.val; omega
  unfold headBlock
  rw [eq]
  have sc := scored x6 x7 (headQuery x4 h) first len lo hi fl fh h1 h2 h3 h4 full hw1 hw2 g
  generalize scoreFn (BitVec.ofNat 32 lo) (BitVec.ofNat 32 hi) (BitVec.ofNat 32 fl) hw1 (BitVec.ofNat 32 fh) hw2 first len x6 x7 (headQuery x4 h) g = S at sc ⊢
  refine ⟨rowMax S.2 (ix2 0 r), fun z => (rowMax_le S.2 r z).trans (sc.2 r z), ?_⟩
  have w := weighed x8 (queryScale (VecWindow.window (s := S1x8x256) x5 os S1x1x256.size hs)) (rowMax S.2) S.1 lo hi (by omega) h4 hw3
  have ep : ∀ k ∈ visited (lo * 256) (hi * 256), keyProb (queryScale (VecWindow.window (s := S1x8x256) x5 os S1x1x256.size hs)) (rowMax S.2) S.1 k r
      = Ideal.exp2 ((maskedScore x6 x7 (headQuery x4 h) first len k r - rowMax S.2 (ix2 0 r)) * (x5 (ix3 0 h r) * (((Real.sqrt 128)⁻¹ * (Real.log 2)⁻¹ : ℝ) : EReal))) := by
    intro k hk
    unfold keyProb
    rw [sc.1 k r hk, queryScale_at, es]
  refine (cast_out _ r d).trans ?_
  rw [outBlock_at, w.1 d r, w.2 r]
  rw [Finset.sum_congr rfl ep, Finset.sum_congr rfl fun k hk => by rw [ep k hk]]

end Cert.KernelIdeal.Body
-- ==== Proof.Value.Heads.lean ====
/-
The eight heads of an output block over the reals: each head's columns hold that head's block.
-/
module

public import proofs.«01_k».proof.Proof.Value.Block

@[expose] public section

noncomputable section

namespace Cert.KernelIdeal.Body

open Idealize.ShloMosaic Cert.KernelIdeal Cert.KernelIdeal.Gen

variable [Facts]

/-- A column of a head, in the block of eight. -/
def headCol (h : Fin 8) (d : Fin 128) : Fin 1024 := ⟨h.val * 128 + d.val, by omega⟩

theorem put_hit (x : Vec Ideal S1x256x1024 .bf16) (h : Fin 8) (off : Fin 3 → Nat) (hoff : off = ![0, 0, 128 * h.val]) (w : FVec Ideal S1x256x128 .bf16) (r : Fin 256) (d : Fin 128) :
    VecWindow.put (s := S1x256x1024) x off S1x256x128.size w (ix3 0 r (headCol h d)) = w (ix3 0 r d) := by
  subst hoff
  have hb : ∀ a : Fin 3, (![0, 0, 128 * h.val] : Fin 3 → Nat) a ≤ ((ix3 0 r (headCol h d) : S1x256x1024.Idx) a).val
      ∧ ((ix3 0 r (headCol h d) : S1x256x1024.Idx) a).val < (![0, 0, 128 * h.val] : Fin 3 → Nat) a + S1x256x128.size a := by
    intro a
    fin_cases a
    · exact ⟨Nat.le_refl _, Nat.zero_lt_one⟩
    · exact ⟨Nat.zero_le _, by show r.val < 0 + 256; omega⟩
    · exact ⟨by show 128 * h.val ≤ h.val * 128 + d.val; omega, by show h.val * 128 + d.val < 128 * h.val + 128; omega⟩
  unfold VecWindow.put
  rw [dif_pos hb]
  refine congrArg w (funext fun a => Fin.ext ?_)
  fin_cases a
  · rfl
  · show r.val - 0 = r.val; omega
  · show h.val * 128 + d.val - 128 * h.val = d.val; omega

theorem put_miss (x : Vec Ideal S1x256x1024 .bf16) (h h' : Fin 8) (hne : h' ≠ h) (off : Fin 3 → Nat) (hoff : off = ![0, 0, 128 * h.val]) (w : FVec Ideal S1x256x128 .bf16) (r : Fin 256) (d : Fin 128) :
    VecWindow.put (s := S1x256x1024) x off S1x256x128.size w (ix3 0 r (headCol h' d)) = x (ix3 0 r (headCol h' d)) := by
  subst hoff
  unfold VecWindow.put
  rw [dif_neg]
  intro hb
  have h2 : 128 * h.val ≤ h'.val * 128 + d.val ∧ h'.val * 128 + d.val < 128 * h.val + 128 := hb 2
  have := Fin.val_ne_of_ne hne
  omega

variable (v2 v5 : BitVec 32) (hw3 : k0_chk3 v2 v5) (v8 : BitVec 32) (hw1 : k0_chk1 v2 v8) (v11 : BitVec 32) (hw2 : k0_chk2 v5 v8 v11) (first len : IVec S1x256 32)
  (x4 : Vec Ideal S1x256x1024 .fp8e4m3) (x5 : Vec Ideal S1x8x256 .f32) (x6 : Vec Ideal S1x1x32768x128 .fp8e4m3) (x7 : Vec Ideal S1x1x32768x128 .f32)
  (x8 : Vec Ideal S1x1x128x32768 .fp8e4m3) (x9 : Vec Ideal S1x1x1x128 .f32)

theorem headFn_hit (h : Fin 8) (oq : Fin 3 → Nat) (hoq : oq = ![0, 0, 128 * h.val]) (hq os hs) (s : Scratch Ideal × Vec Ideal S1x256x1024 .bf16) (r : Fin 256) (d : Fin 128) (A : EReal)
    (hA : ∀ g, headBlock v2 v5 hw3 v8 hw1 v11 hw2 first len x4 x5 x6 x7 x8 x9 oq hq os hs g (ix3 0 r d) = A) :
    (headFn v2 v5 hw3 v8 hw1 v11 hw2 first len x4 x5 x6 x7 x8 x9 oq hq os hs s).2 (ix3 0 r (headCol h d)) = A :=
  (put_hit s.2 h oq hoq _ r d).trans (hA s.1)

theorem headFn_miss (h h' : Fin 8) (hne : h' ≠ h) (oq : Fin 3 → Nat) (hoq : oq = ![0, 0, 128 * h.val]) (hq os hs) (s : Scratch Ideal × Vec Ideal S1x256x1024 .bf16) (r : Fin 256) (d : Fin 128) :
    (headFn v2 v5 hw3 v8 hw1 v11 hw2 first len x4 x5 x6 x7 x8 x9 oq hq os hs s).2 (ix3 0 r (headCol h' d)) = s.2 (ix3 0 r (headCol h' d)) :=
  put_miss s.2 h h' hne oq hoq _ r d

/-- What every pass of a head leaves at an index, the eight in turn leave there. -/
theorem headsFn_at (s : Scratch Ideal × Vec Ideal S1x256x1024 .bf16) (h : Fin 8) (r : Fin 256) (d : Fin 128) (A : EReal)
    (hA : ∀ (oq : Fin 3 → Nat) (hoq : oq = ![0, 0, 128 * h.val]) (hq) (os : Fin 3 → Nat) (hos : os = ![0, h.val, 0]) (hs) (g : Scratch Ideal),
      headBlock v2 v5 hw3 v8 hw1 v11 hw2 first len x4 x5 x6 x7 x8 x9 oq hq os hs g (ix3 0 r d) = A) :
    (headsFn v2 v5 hw3 v8 hw1 v11 hw2 first len x4 x5 x6 x7 x8 x9 s).2 (ix3 0 r (headCol h d)) = A := by
  unfold headsFn
  fin_cases h
  · refine (headFn_miss v2 v5 hw3 v8 hw1 v11 hw2 first len x4 x5 x6 x7 x8 x9 7 0 (by decide) _ rfl _ _ _ _ r d).trans ?_
    refine (headFn_miss v2 v5 hw3 v8 hw1 v11 hw2 first len x4 x5 x6 x7 x8 x9 6 0 (by decide) _ rfl _ _ _ _ r d).trans ?_
    refine (headFn_miss v2 v5 hw3 v8 hw1 v11 hw2 first len x4 x5 x6 x7 x8 x9 5 0 (by decide) _ rfl _ _ _ _ r d).trans ?_
    refine (headFn_miss v2 v5 hw3 v8 hw1 v11 hw2 first len x4 x5 x6 x7 x8 x9 4 0 (by decide) _ rfl _ _ _ _ r d).trans ?_
    refine (headFn_miss v2 v5 hw3 v8 hw1 v11 hw2 first len x4 x5 x6 x7 x8 x9 3 0 (by decide) _ rfl _ _ _ _ r d).trans ?_
    refine (headFn_miss v2 v5 hw3 v8 hw1 v11 hw2 first len x4 x5 x6 x7 x8 x9 2 0 (by decide) _ rfl _ _ _ _ r d).trans ?_
    refine (headFn_miss v2 v5 hw3 v8 hw1 v11 hw2 first len x4 x5 x6 x7 x8 x9 1 0 (by decide) _ rfl _ _ _ _ r d).trans ?_
    exact headFn_hit v2 v5 hw3 v8 hw1 v11 hw2 first len x4 x5 x6 x7 x8 x9 0 _ rfl _ _ _ _ r d A fun g => hA _ rfl _ _ rfl _ g
  · refine (headFn_miss v2 v5 hw3 v8 hw1 v11 hw2 first len x4 x5 x6 x7 x8 x9 7 1 (by decide) _ rfl _ _ _ _ r d).trans ?_
    refine (headFn_miss v2 v5 hw3 v8 hw1 v11 hw2 first len x4 x5 x6 x7 x8 x9 6 1 (by decide) _ rfl _ _ _ _ r d).trans ?_
    refine (headFn_miss v2 v5 hw3 v8 hw1 v11 hw2 first len x4 x5 x6 x7 x8 x9 5 1 (by decide) _ rfl _ _ _ _ r d).trans ?_
    refine (headFn_miss v2 v5 hw3 v8 hw1 v11 hw2 first len x4 x5 x6 x7 x8 x9 4 1 (by decide) _ rfl _ _ _ _ r d).trans ?_
    refine (headFn_miss v2 v5 hw3 v8 hw1 v11 hw2 first len x4 x5 x6 x7 x8 x9 3 1 (by decide) _ rfl _ _ _ _ r d).trans ?_
    refine (headFn_miss v2 v5 hw3 v8 hw1 v11 hw2 first len x4 x5 x6 x7 x8 x9 2 1 (by decide) _ rfl _ _ _ _ r d).trans ?_
    exact headFn_hit v2 v5 hw3 v8 hw1 v11 hw2 first len x4 x5 x6 x7 x8 x9 1 _ rfl _ _ _ _ r d A fun g => hA _ rfl _ _ rfl _ g
  · refine (headFn_miss v2 v5 hw3 v8 hw1 v11 hw2 first len x4 x5 x6 x7 x8 x9 7 2 (by decide) _ rfl _ _ _ _ r d).trans ?_
    refine (headFn_miss v2 v5 hw3 v8 hw1 v11 hw2 first len x4 x5 x6 x7 x8 x9 6 2 (by decide) _ rfl _ _ _ _ r d).trans ?_
    refine (headFn_miss v2 v5 hw3 v8 hw1 v11 hw2 first len x4 x5 x6 x7 x8 x9 5 2 (by decide) _ rfl _ _ _ _ r d).trans ?_
    refine (headFn_miss v2 v5 hw3 v8 hw1 v11 hw2 first len x4 x5 x6 x7 x8 x9 4 2 (by decide) _ rfl _ _ _ _ r d).trans ?_
    refine (headFn_miss v2 v5 hw3 v8 hw1 v11 hw2 first len x4 x5 x6 x7 x8 x9 3 2 (by decide) _ rfl _ _ _ _ r d).trans ?_
    exact headFn_hit v2 v5 hw3 v8 hw1 v11 hw2 first len x4 x5 x6 x7 x8 x9 2 _ rfl _ _ _ _ r d A fun g => hA _ rfl _ _ rfl _ g
  · refine (headFn_miss v2 v5 hw3 v8 hw1 v11 hw2 first len x4 x5 x6 x7 x8 x9 7 3 (by decide) _ rfl _ _ _ _ r d).trans ?_
    refine (headFn_miss v2 v5 hw3 v8 hw1 v11 hw2 first len x4 x5 x6 x7 x8 x9 6 3 (by decide) _ rfl _ _ _ _ r d).trans ?_
    refine (headFn_miss v2 v5 hw3 v8 hw1 v11 hw2 first len x4 x5 x6 x7 x8 x9 5 3 (by decide) _ rfl _ _ _ _ r d).trans ?_
    refine (headFn_miss v2 v5 hw3 v8 hw1 v11 hw2 first len x4 x5 x6 x7 x8 x9 4 3 (by decide) _ rfl _ _ _ _ r d).trans ?_
    exact headFn_hit v2 v5 hw3 v8 hw1 v11 hw2 first len x4 x5 x6 x7 x8 x9 3 _ rfl _ _ _ _ r d A fun g => hA _ rfl _ _ rfl _ g
  · refine (headFn_miss v2 v5 hw3 v8 hw1 v11 hw2 first len x4 x5 x6 x7 x8 x9 7 4 (by decide) _ rfl _ _ _ _ r d).trans ?_
    refine (headFn_miss v2 v5 hw3 v8 hw1 v11 hw2 first len x4 x5 x6 x7 x8 x9 6 4 (by decide) _ rfl _ _ _ _ r d).trans ?_
    refine (headFn_miss v2 v5 hw3 v8 hw1 v11 hw2 first len x4 x5 x6 x7 x8 x9 5 4 (by decide) _ rfl _ _ _ _ r d).trans ?_
    exact headFn_hit v2 v5 hw3 v8 hw1 v11 hw2 first len x4 x5 x6 x7 x8 x9 4 _ rfl _ _ _ _ r d A fun g => hA _ rfl _ _ rfl _ g
  · refine (headFn_miss v2 v5 hw3 v8 hw1 v11 hw2 first len x4 x5 x6 x7 x8 x9 7 5 (by decide) _ rfl _ _ _ _ r d).trans ?_
    refine (headFn_miss v2 v5 hw3 v8 hw1 v11 hw2 first len x4 x5 x6 x7 x8 x9 6 5 (by decide) _ rfl _ _ _ _ r d).trans ?_
    exact headFn_hit v2 v5 hw3 v8 hw1 v11 hw2 first len x4 x5 x6 x7 x8 x9 5 _ rfl _ _ _ _ r d A fun g => hA _ rfl _ _ rfl _ g
  · refine (headFn_miss v2 v5 hw3 v8 hw1 v11 hw2 first len x4 x5 x6 x7 x8 x9 7 6 (by decide) _ rfl _ _ _ _ r d).trans ?_
    exact headFn_hit v2 v5 hw3 v8 hw1 v11 hw2 first len x4 x5 x6 x7 x8 x9 6 _ rfl _ _ _ _ r d A fun g => hA _ rfl _ _ rfl _ g
  · exact headFn_hit v2 v5 hw3 v8 hw1 v11 hw2 first len x4 x5 x6 x7 x8 x9 7 _ rfl _ _ _ _ r d A fun g => hA _ rfl _ _ rfl _ g

end Cert.KernelIdeal.Body
-- ==== Proof.Value.Ref.lean ====
/-
The reference's result, read at an index: one row of softmax attention over the whole sequence.
-/
module

public import proofs.«01_k».proof.Proof.Gen.ReferenceIdeal.Read
public import proofs.«01_k».proof.Proof.Value.Softmax
public import Idealize.ShloMosaic.Lib.Pointwise

@[expose] public section

noncomputable section

namespace Cert.ReferenceIdeal.Row

open Idealize.ShloMosaic Cert.ReferenceIdeal Cert.ReferenceIdeal.Gen Cert.ReferenceIdeal.Read
open Cert.Attention (weight)

variable (x1 : FVec Ideal S3x16x32768 .f32) (x3 : FVec Ideal S3x2x32768x128 .f32) (x5 : FVec Ideal S3x2x1x128 .f32)
  (x6 : IVec S3x32768 32) (x7 : IVec S3x32768 1)
  (r0 : FVec Ideal S3x32768x2048 .f32) (r1 : FVec Ideal S3x2x32768x128 .f32) (r2 : FVec Ideal S3x2x128x32768 .f32)

/-- Whether the query `q` sees the key `k`, as the reference computes it. -/
def mask (b : Fin 3) (q k : Fin 32768) : BitVec 1 :=
  IntOp.andi (IntOp.cmpi .eq (x6 (ix2 b q)) (x6 (ix2 b k))) (IntOp.ori (x7 (ix2 b k)) (IntOp.cmpi .sle (BitVec.ofNat 32 k.val) (BitVec.ofNat 32 q.val)))

/-- A score. -/
def scoreAt (b : Fin 3) (g : Fin 2) (h : Fin 8) (q k : Fin 32768) : EReal :=
  Scalar.select (mask x6 x7 b q k)
    ((∑ d : Fin 128, r1 (ix4 b g k d) * r0 (ix3 b q ⟨g.val * 1024 + h.val * 128 + d.val, by omega⟩))
      * Ideal.div (x1 (ix3 b ⟨g.val * 8 + h.val, by omega⟩ q)) (Ideal.sqrt (Ideal.ofBits .f32 0x43000000#32)) * x3 (ix4 b g k 0)) (⊥ : EReal)

theorem mask_at (b : Fin 3) (q k : Fin 32768) : val_main_v27 (F := Ideal) x6 x7 (ix3 b q k) = mask x6 x7 b q k := by
  unfold val_main_v27 val_main_v26 val_main_v25 val_main_v24 val_main_v23 val_main_v22 val_main_v21 val_main_v20 val_main_v19 val_main_v18 val_main_v17 val_main_v16 val_main_v15 val_main_v14 val_main_v13 val_main_v12 mask
  pointwise

theorem dot_at (b : Fin 3) (g : Fin 2) (h : Fin 8) (q k : Fin 32768) : val_main_v3 (F := Ideal) r0 r1 (ix5 b g h q k)
    = ∑ d : Fin 128, r1 (ix4 b g k d) * r0 (ix3 b q ⟨g.val * 1024 + h.val * 128 + d.val, by omega⟩) := by
  unfold val_main_v3 val_main_v2 val_main_v1
  pointwise

theorem qfac_at (b : Fin 3) (g : Fin 2) (h : Fin 8) (q k : Fin 32768) : val_main_v28 (F := Ideal) x1 (ix5 b g h q k)
    = Ideal.div (x1 (ix3 b ⟨g.val * 8 + h.val, by omega⟩ q)) (Ideal.sqrt (Ideal.ofBits .f32 0x43000000#32)) := by
  unfold val_main_v28 val_main_v8 val_main_v7 val_main_v6 val_main_v5 val_main_v4 val_main_cst
  pointwise

theorem kfac_at (b : Fin 3) (g : Fin 2) (h : Fin 8) (q k : Fin 32768) : val_main_v30 (F := Ideal) x3 (ix5 b g h q k) = x3 (ix4 b g k 0) := by
  unfold val_main_v30 val_main_v11 val_main_v10 val_main_v9
  pointwise

theorem score_at (b : Fin 3) (g : Fin 2) (h : Fin 8) (q k : Fin 32768) : val_main_v35 (F := Ideal) x1 x3 x6 x7 r0 r1 (ix5 b g h q k) = scoreAt x1 x3 x6 x7 r0 r1 b g h q k := by
  unfold val_main_v35 val_main_v34 val_main_v33 val_main_v32 val_main_v31 val_main_v29 val_main_cst_0 scoreAt
  pointwise
  rw [mask_at, dot_at, qfac_at, kfac_at]
  simp [Ideal.ofBits, Ideal.ieee]

theorem max_at (b : Fin 3) (g : Fin 2) (h : Fin 8) (q k : Fin 32768) (z : EReal) : val_main_v38 (F := Ideal) x1 x3 x6 x7 r0 r1 (ix5 b g h q k) ≤ z
    ↔ ∀ k, scoreAt x1 x3 x6 x7 r0 r1 b g h q k ≤ z := by
  unfold val_main_v38 val_main_v37 val_main_v36 val_main_cst_1
  pointwise
  rw [show Ideal.ofBits .f32 0xFF800000#32 = (⊥ : EReal) by simp [Ideal.ofBits, Ideal.ieee], Finset.fold_max_le]
  simp only [score_at]
  simp

/-- The maximum of a row's scores. -/
def maxAt (b : Fin 3) (g : Fin 2) (h : Fin 8) (q : Fin 32768) : EReal := val_main_v38 (F := Ideal) x1 x3 x6 x7 r0 r1 (ix5 b g h q 0)

theorem maxAt_le (b : Fin 3) (g : Fin 2) (h : Fin 8) (q : Fin 32768) (z : EReal) : maxAt x1 x3 x6 x7 r0 r1 b g h q ≤ z
    ↔ ∀ k, scoreAt x1 x3 x6 x7 r0 r1 b g h q k ≤ z := max_at x1 x3 x6 x7 r0 r1 b g h q 0 z

theorem prob_at (b : Fin 3) (g : Fin 2) (h : Fin 8) (q k : Fin 32768) : val_main_v40 (F := Ideal) x1 x3 x6 x7 r0 r1 (ix5 b g h q k)
    = Ideal.exp (scoreAt x1 x3 x6 x7 r0 r1 b g h q k - maxAt x1 x3 x6 x7 r0 r1 b g h q) := by
  have e : val_main_v38 (F := Ideal) x1 x3 x6 x7 r0 r1 (ix5 b g h q k) = maxAt x1 x3 x6 x7 r0 r1 b g h q :=
    eq_of_forall_ge_iff fun z => (max_at x1 x3 x6 x7 r0 r1 b g h q k z).trans (maxAt_le x1 x3 x6 x7 r0 r1 b g h q z).symm
  unfold val_main_v40 val_main_v39
  pointwise
  rw [e, score_at]

/-- The reference's result at an index. -/
theorem result_at (b : Fin 3) (g : Fin 2) (h : Fin 8) (q : Fin 32768) (d : Fin 128) :
    val_main_v57 (F := Ideal) x1 x3 x5 x6 x7 r0 r1 r2 (ix3 b q ⟨g.val * 1024 + h.val * 128 + d.val, by omega⟩)
      = Ideal.div ((∑ k : Fin 32768, weight (Ideal.exp (scoreAt x1 x3 x6 x7 r0 r1 b g h q k - maxAt x1 x3 x6 x7 r0 r1 b g h q)) * r2 (ix4 b g d k))
          * (x5 (ix4 b g 0 d) * Ideal.ofBits .f32 0x3B800000#32))
        (∑ k : Fin 32768, Ideal.exp (scoreAt x1 x3 x6 x7 r0 r1 b g h q k - maxAt x1 x3 x6 x7 r0 r1 b g h q)) := by
  have e1 : val_main_v57 (F := Ideal) x1 x3 x5 x6 x7 r0 r1 r2 (ix3 b q ⟨g.val * 1024 + h.val * 128 + d.val, by omega⟩)
      = val_main_v54 (F := Ideal) x1 x3 x5 x6 x7 r0 r1 r2 (ix5 b g h q d) := by
    unfold val_main_v57 val_main_v56 val_main_v55
    generalize val_main_v54 (F := Ideal) x1 x3 x5 x6 x7 r0 r1 r2 = y
    pointwise
  rw [e1]
  unfold val_main_v54 val_main_v53 val_main_v52 val_main_v51 val_main_v50 val_main_v49 val_main_v48 val_main_v47 val_main_v46 val_main_v45 val_main_v44 val_main_v43 val_main_v42 val_main_v41
    val_main_cst_2 val_main_cst_3 val_main_cst_4 val_main_cst_5
  pointwise
  simp only [prob_at]
  rfl

end Cert.ReferenceIdeal.Row
-- ==== Proof.Value.Visible.lean ====
/-
The keys a query sees: those of its segment that are prefix keys or do not come after it are the keys from the first to
the last of the tables.
-/
module

public import proofs.«01_k».proof.Proof.Ideal.Order
public import proofs.«01_k».proof.Proof.Gen.Pre_well_formed

@[expose] public section

noncomputable section

namespace Cert.KernelIdeal.Body

open Idealize.ShloMosaic Cert.KernelIdeal Cert.KernelIdeal.Gen

/-- The segments' numbers are below eight. -/
def Small (seg : IVec S3x32768 32) : Prop := ∀ i, 0 ≤ (seg i).toInt ∧ (seg i).toInt < 8

/-- A marked key's predecessor in its segment is marked. -/
def Initial (seg : IVec S3x32768 32) (pre : IVec S3x32768 1) : Prop :=
  ∀ (b : Fin 3) (k : Nat) (hk : k + 1 < 32768), pre (ix2 b ⟨k + 1, hk⟩) = 1#1 → seg (ix2 b ⟨k, by omega⟩) = seg (ix2 b ⟨k + 1, hk⟩) → pre (ix2 b ⟨k, by omega⟩) = 1#1

variable (seg : IVec S3x32768 32) (pre : IVec S3x32768 1) (hs : Ascending seg) (hn : Small seg) (hp : Initial seg pre)

/-- Whether a query sees a key. -/
def Sees (b : Fin 3) (q k : Fin 32768) : Prop := seg (ix2 b q) = seg (ix2 b k) ∧ (pre (ix2 b k) = 1#1 ∨ k ≤ q)

theorem mem_initial {n : Nat} (S : Finset (Fin n)) (h : ∀ k ∈ S, ∀ k' ≤ k, k' ∈ S) (k : Fin n) : k ∈ S ↔ k.val < S.card := by
  constructor
  · intro hk
    have := Finset.card_le_card (show Finset.Iic k ⊆ S from fun k' hk' => h k hk k' (Finset.mem_Iic.mp hk'))
    rw [Fin.card_Iic] at this; omega
  · intro hk
    by_contra hn
    have := Finset.card_le_card (show S ⊆ Finset.Iio k from fun k' hk' => Finset.mem_Iio.mpr (lt_of_not_ge fun hle => hn (h k' hk' k hle)))
    rw [Fin.card_Iio] at this; omega

include hn in
/-- A segment number as a natural. -/
theorem number (i) : ∃ j : Fin 8, seg i = BitVec.ofNat 32 j.val ∧ (seg i).toInt = j.val := by
  obtain ⟨h0, h8⟩ := hn i
  refine ⟨⟨(seg i).toInt.toNat, by omega⟩, ?_, ?_⟩
  · apply BitVec.eq_of_toInt_eq
    show _ = (BitVec.ofNat 32 (seg i).toInt.toNat).toInt
    rw [toInt_small (n := (seg i).toInt.toNat) (by omega)]; omega
  · show _ = (((seg i).toInt.toNat : Nat) : Int); omega

include hs in
theorem below_iff (b : Fin 3) (j : Nat) (k : Fin 32768) : k.val < below seg b j ↔ (seg (ix2 b k)).toInt < j := by
  have := mem_initial (Finset.univ.filter fun k : Fin 32768 => (seg (ix2 b k)).toInt < j) (fun k hk k' hle => by
    simp only [Finset.mem_filter, Finset.mem_univ, true_and] at hk ⊢
    exact lt_of_le_of_lt (hs b k' k hle) hk) k
  unfold below
  rw [← this]; simp

include hs hn in
theorem first_le_iff (b : Fin 3) (q k : Fin 32768) : first seg pre b q ≤ k.val ↔ (seg (ix2 b q)).toInt ≤ (seg (ix2 b k)).toInt := by
  obtain ⟨j, hj, hj'⟩ := number seg hn (ix2 b q)
  rw [first_in seg pre b q j hj, ← not_lt, below_iff seg hs b j k, not_lt, hj']

include hs hp in
theorem marked_back (b : Fin 3) (k' : Fin 32768) : ∀ d (h : k'.val + d < 32768), pre (ix2 b ⟨k'.val + d, h⟩) = 1#1 → seg (ix2 b k') = seg (ix2 b ⟨k'.val + d, h⟩) → pre (ix2 b k') = 1#1 := by
  intro d
  induction d with
  | zero => intro h h1 _; exact h1
  | succ d ih =>
    intro h h1 h2
    have e : seg (ix2 b ⟨k'.val + d, by omega⟩) = seg (ix2 b ⟨k'.val + d + 1, h⟩) := by
      apply BitVec.eq_of_toInt_eq
      apply le_antisymm
      · exact hs b _ _ (Fin.mk_le_mk.mpr (by omega))
      · rw [show seg (ix2 b ⟨k'.val + d + 1, h⟩) = seg (ix2 b k') from h2.symm]
        exact hs b _ _ (Fin.le_def.mpr (by show k'.val ≤ k'.val + d; omega))
    exact ih (by omega) (hp b (k'.val + d) h h1 e) (h2.trans e.symm)

include hs hn hp in
theorem le_last_iff (b : Fin 3) (q k : Fin 32768) : k.val ≤ last seg pre b q
    ↔ k ≤ q ∨ (seg (ix2 b k)).toInt < (seg (ix2 b q)).toInt ∨ (seg (ix2 b k) = seg (ix2 b q) ∧ pre (ix2 b k) = 1#1) := by
  obtain ⟨j, hj, hj'⟩ := number seg hn (ix2 b q)
  rw [last_in seg pre b q j hj]
  have hc : below seg b j + marked seg pre b j
      = (Finset.univ.filter fun k : Fin 32768 => (seg (ix2 b k)).toInt < j ∨ (seg (ix2 b k) = BitVec.ofNat 32 j ∧ pre (ix2 b k) = 1#1)).card := by
    unfold below marked
    rw [Finset.filter_or, Finset.card_union_of_disjoint]
    rw [Finset.disjoint_filter]
    intro k _ h1 h2
    rw [h2.1, ← hj, hj'] at h1
    exact lt_irrefl _ h1
  have hm := mem_initial (Finset.univ.filter fun k : Fin 32768 => (seg (ix2 b k)).toInt < j ∨ (seg (ix2 b k) = BitVec.ofNat 32 j ∧ pre (ix2 b k) = 1#1)) (fun k hk k' hle => by
    simp only [Finset.mem_filter, Finset.mem_univ, true_and] at hk ⊢
    rcases hk with hk | ⟨hk1, hk2⟩
    · exact Or.inl (lt_of_le_of_lt (hs b k' k hle) hk)
    · have h3 := hs b k' k hle
      rw [hk1, ← hj, hj'] at h3
      rcases lt_or_eq_of_le h3 with h4 | h4
      · exact Or.inl h4
      · have e : seg (ix2 b k') = seg (ix2 b k) := by
          apply BitVec.eq_of_toInt_eq
          rw [h4, hk1, ← hj, hj']
        refine Or.inr ⟨e.trans hk1, ?_⟩
        have hle' : k'.val ≤ k.val := hle
        have e2 : k = ⟨k'.val + (k.val - k'.val), by have := k.isLt; omega⟩ := Fin.ext (by show k.val = k'.val + (k.val - k'.val); omega)
        exact marked_back seg pre hs hp b k' (k.val - k'.val) (by have := k.isLt; omega) (e2 ▸ hk2) (e2 ▸ e)) k
  rw [← hc] at hm
  simp only [Finset.mem_filter, Finset.mem_univ, true_and] at hm
  rw [hj', hj, hm, Fin.le_def]
  omega

include hs hn hp in
/-- The tables' interval is what the query sees. -/
theorem sees_iff (b : Fin 3) (q k : Fin 32768) : Sees seg pre b q k ↔ first seg pre b q ≤ k.val ∧ k.val ≤ last seg pre b q := by
  rw [first_le_iff seg pre hs hn, le_last_iff seg pre hs hn hp]
  unfold Sees
  constructor
  · rintro ⟨h1, h2⟩
    refine ⟨by rw [h1], ?_⟩
    rcases h2 with h2 | h2
    · exact Or.inr (Or.inr ⟨h1.symm, h2⟩)
    · exact Or.inl h2
  · rintro ⟨h1, h2 | h2 | ⟨h2, h3⟩⟩
    · exact ⟨BitVec.eq_of_toInt_eq (le_antisymm h1 (hs b k q h2)), Or.inr h2⟩
    · omega
    · exact ⟨h2.symm, Or.inl h3⟩

include hs hn in
theorem first_mono (b : Fin 3) (q q' : Fin 32768) (h : q ≤ q') : first seg pre b q ≤ first seg pre b q' := by
  have h1 := first_le seg pre hs b q'
  have h2 : first seg pre b q' < 32768 := by have := q'.isLt; omega
  generalize e : first seg pre b q' = f at h1 h2 ⊢
  have h3 := (first_le_iff seg pre hs hn b q' ⟨f, h2⟩).mp e.le
  exact (first_le_iff seg pre hs hn b q ⟨f, h2⟩).mpr (le_trans (hs b q q' h) h3)

include hs hn hp in
theorem last_mono (b : Fin 3) (q q' : Fin 32768) (h : q ≤ q') : last seg pre b q ≤ last seg pre b q' := by
  have h2 := last_lt seg pre b q
  generalize e : last seg pre b q = f at h2 ⊢
  have h3 := (le_last_iff seg pre hs hn hp b q ⟨f, h2⟩).mp e.ge
  refine (le_last_iff seg pre hs hn hp b q' ⟨f, h2⟩).mpr ?_
  have h4 := hs b q q' h
  rcases h3 with h3 | h3 | ⟨h3, h5⟩
  · exact Or.inl (h3.trans h)
  · exact Or.inr (Or.inl (lt_of_lt_of_le h3 h4))
  · rw [← h3] at h4
    rcases lt_or_eq_of_le h4 with h6 | h6
    · exact Or.inr (Or.inl h6)
    · exact Or.inr (Or.inr ⟨BitVec.eq_of_toInt_eq h6, h5⟩)

include hs hn hp in
/-- The table's words at a tile: what they bound. -/
theorem words (b : Fin 3) (t : Fin 128) :
    ∃ lo hi fl fh : Nat, h_v58 seg pre (ix3 b t 0) = BitVec.ofNat 32 lo ∧ h_v58 seg pre (ix3 b t 1) = BitVec.ofNat 32 hi
      ∧ h_v58 seg pre (ix3 b t 2) = BitVec.ofNat 32 fl ∧ h_v58 seg pre (ix3 b t 3) = BitVec.ofNat 32 fh
      ∧ lo ≤ fl ∧ fl ≤ fh ∧ fh ≤ hi ∧ hi ≤ 128
      ∧ (∀ r : Fin 256, lo * 256 ≤ first seg pre b (row t r.val r.isLt) ∧ last seg pre b (row t r.val r.isLt) < hi * 256)
      ∧ ∀ (r : Fin 256) (k : Nat), fl * 256 ≤ k → k < fh * 256 → first seg pre b (row t r.val r.isLt) ≤ k ∧ k ≤ last seg pre b (row t r.val r.isLt) := by
  obtain ⟨L, h3, hL⟩ := full_hi_word seg pre b t hs
  have f0 : ∀ r : Fin 256, first seg pre b (row t 0) ≤ first seg pre b (row t r.val r.isLt) := fun r =>
    first_mono seg pre hs hn b _ _ (Fin.le_def.mpr (by show t.val * 256 + 0 ≤ t.val * 256 + r.val; omega))
  have f1 : ∀ r : Fin 256, first seg pre b (row t r.val r.isLt) ≤ first seg pre b (row t 255) := fun r =>
    first_mono seg pre hs hn b _ _ (Fin.le_def.mpr (by show t.val * 256 + r.val ≤ t.val * 256 + 255; omega))
  have l1 : ∀ r : Fin 256, last seg pre b (row t r.val r.isLt) ≤ last seg pre b (row t 255) := fun r =>
    last_mono seg pre hs hn hp b _ _ (Fin.le_def.mpr (by show t.val * 256 + r.val ≤ t.val * 256 + 255; omega))
  have e1 : first seg pre b (row t 0) ≤ t.val * 256 + 0 := first_le seg pre hs b (row t 0)
  have e2 : t.val * 256 + 255 ≤ last seg pre b (row t 255) := last_ge seg pre b (row t 255)
  have e3 := last_lt seg pre b (row t 255)
  have e4 := f0 255
  have e5 : L ≤ last seg pre b (row t 255) := hL 255
  have e6 : first seg pre b (row t (255 : Fin 256).val (255 : Fin 256).isLt) = first seg pre b (row t 255) := rfl
  refine ⟨_, _, _, _, lo_word seg pre b t hs, hi_word seg pre b t, full_lo_word seg pre b t hs, h3, ?_, le_max_right _ _, ?_, ?_, ?_, ?_⟩
  · unfold fullLo; omega
  · unfold fullLo; omega
  · omega
  · intro r
    have := f0 r
    have := l1 r
    omega
  · intro r k h1 h2
    have := f1 r
    have := hL r
    unfold fullLo at h1 h2
    omega

end Cert.KernelIdeal.Body
-- ==== Proof.Value.Row.lean ====
/-
One row of an output block over the reals is the reference's row: the visited keys outside the row's interval
weigh nothing, and base two with the scale folded in is base e with the scale outside.
-/
module

public import proofs.«01_k».proof.Proof.Value.Heads
public import proofs.«01_k».proof.Proof.Value.Ref
public import proofs.«01_k».proof.Proof.Value.Visible

@[expose] public section

noncomputable section

namespace Cert.KernelIdeal.Body

open Idealize.ShloMosaic Cert.KernelIdeal Cert.KernelIdeal.Gen
open Cert.Attention (weight score scaled row_eq)
open Cert.ReferenceIdeal.Row (mask scoreAt maxAt maxAt_le result_at)

theorem bit_iff (p : Bool) : BitVec.ofBool p = 1#1 ↔ p = true := by cases p <;> decide

theorem and_iff (x y : BitVec 1) : IntOp.andi x y = 1#1 ↔ x = 1#1 ∧ y = 1#1 := by revert x y; decide
theorem or_iff (x y : BitVec 1) : IntOp.ori x y = 1#1 ↔ x = 1#1 ∨ y = 1#1 := by revert x y; decide

theorem between_iff {f l k : Nat} (hfl : f ≤ l) (hl : l < 32768) (hk : k < 32768) :
    IntOp.cmpi .ule (BitVec.ofNat 32 k - BitVec.ofNat 32 f) (BitVec.ofNat 32 l - BitVec.ofNat 32 f) = 1#1 ↔ f ≤ k ∧ k ≤ l := by
  unfold IntOp.cmpi
  refine (bit_iff _).trans ?_
  show (BitVec.ule _ _) = true ↔ _
  unfold BitVec.ule
  rw [decide_eq_true_iff, BitVec.toNat_sub, BitVec.toNat_sub]
  simp only [BitVec.toNat_ofNat]
  omega

/-- Dividing by the root of 128 is multiplying by its reciprocal. -/
theorem div_root (q : ℝ) : Ideal.div (q : EReal) (Ideal.sqrt (Ideal.ofBits .f32 0x43000000#32)) = ((q * (Real.sqrt 128)⁻¹ : ℝ) : EReal) := by
  have e : Ideal.ofBits .f32 0x43000000#32 = ((128 : ℝ) : EReal) := by
    simp [Ideal.ofBits, Ideal.ieee]
    rw [← EReal.coe_mul]; norm_num
  rw [e, Ideal.sqrt_coe, if_neg (by norm_num), Ideal.div_coe (by positivity), ← EReal.coe_mul, one_div]

variable [Facts]

section Sees

variable (seg : IVec S3x32768 32) (pre : IVec S3x32768 1) (hs : Ascending seg) (hn : Small seg) (hp : Initial seg pre)

theorem mask_iff (b : Fin 3) (q k : Fin 32768) : mask seg pre b q k = 1#1 ↔ Sees seg pre b q k := by
  unfold mask Sees
  rw [and_iff, or_iff]
  refine and_congr ?_ (or_congr Iff.rfl ?_)
  · unfold IntOp.cmpi
    refine (bit_iff _).trans ?_
    show (_ == _) = true ↔ _
    exact beq_iff_eq
  · unfold IntOp.cmpi
    refine (bit_iff _).trans ?_
    show (BitVec.sle _ _) = true ↔ _
    have h1 := q.isLt
    have h2 := k.isLt
    unfold BitVec.sle
    rw [decide_eq_true_iff, toInt_small (n := k.val) (by omega), toInt_small (n := q.val) (by omega), Fin.le_def]
    omega

include hs hn hp in
theorem inside_iff (b : Fin 3) (t : Fin 128) (fst len : IVec S1x256 32) (r : Fin 256)
    (hf : fst (ix2 0 r) = h_v21 seg pre (ix2 b (row t r.val r.isLt)))
    (hl : len (ix2 0 r) = h_v30 seg pre (ix2 b (row t r.val r.isLt)) - h_v21 seg pre (ix2 b (row t r.val r.isLt))) (k : Fin 32768) :
    inside fst len k r = 1#1 ↔ first seg pre b (row t r.val r.isLt) ≤ k.val ∧ k.val ≤ last seg pre b (row t r.val r.isLt) := by
  unfold inside
  rw [hl, hf, first_word, last_word]
  exact between_iff ((first_le seg pre hs b _).trans (last_ge seg pre b _)) (last_lt seg pre b _) k.isLt

end Sees

open Classical in
/-- A row of an output block is the reference's. -/
theorem row_at (a0 : FVec Ideal S3x32768x2048 .fp8e4m3) (a1 : FVec Ideal S3x16x32768 .f32) (a2 : FVec Ideal S3x2x32768x128 .fp8e4m3) (a3 : FVec Ideal S3x2x32768x128 .f32)
    (a4 : FVec Ideal S3x2x128x32768 .fp8e4m3) (a5 : FVec Ideal S3x2x1x128 .f32) (seg : IVec S3x32768 32) (pre : IVec S3x32768 1)
    (r0 : FVec Ideal S3x32768x2048 .f32) (r1 : FVec Ideal S3x2x32768x128 .f32) (r2 : FVec Ideal S3x2x128x32768 .f32)
    (er0 : ∀ i, r0 i = a0 i) (er1 : ∀ i, r1 i = a2 i) (er2 : ∀ i, r2 i = a4 i)
    (hs : Ascending seg) (hn : Small seg) (hp : Initial seg pre)
    (hpos : ∀ i, 0 < a1 i ∧ a1 i < (⊤ : EReal)) (hlane : ∀ b g k l, a3 (ix4 b g k l) = a3 (ix4 b g k 0))
    (b : Fin 3) (g : Fin 2) (t : Fin 128)
    (x4 : Vec Ideal S1x256x1024 .fp8e4m3) (x5 : Vec Ideal S1x8x256 .f32) (x6 : Vec Ideal S1x1x32768x128 .fp8e4m3) (x7 : Vec Ideal S1x1x32768x128 .f32)
    (x8 : Vec Ideal S1x1x128x32768 .fp8e4m3) (x9 : Vec Ideal S1x1x1x128 .f32)
    (e4 : ∀ (r : Fin 256) (c : Fin 1024), x4 (ix3 0 r c) = a0 (ix3 b (row t r.val r.isLt) ⟨g.val * 1024 + c.val, by omega⟩))
    (e5 : ∀ (h : Fin 8) (r : Fin 256), x5 (ix3 0 h r) = a1 (ix3 b ⟨g.val * 8 + h.val, by omega⟩ (row t r.val r.isLt)))
    (e6 : ∀ (k : Fin 32768) (d : Fin 128), x6 (ix4 0 0 k d) = a2 (ix4 b g k d))
    (e7 : ∀ (k : Fin 32768) (d : Fin 128), x7 (ix4 0 0 k d) = a3 (ix4 b g k d))
    (e8 : ∀ (d : Fin 128) (k : Fin 32768), x8 (ix4 0 0 d k) = a4 (ix4 b g d k))
    (e9 : ∀ (d : Fin 128), x9 (ix4 0 0 0 d) = a5 (ix4 b g 0 d))
    (fst len : IVec S1x256 32)
    (hf : ∀ r : Fin 256, fst (ix2 0 r) = h_v21 seg pre (ix2 b (row t r.val r.isLt)))
    (hl : ∀ r : Fin 256, len (ix2 0 r) = h_v30 seg pre (ix2 b (row t r.val r.isLt)) - h_v21 seg pre (ix2 b (row t r.val r.isLt)))
    (v2 v5 : BitVec 32) (hw3 : k0_chk3 v2 v5) (v8 : BitVec 32) (hw1 : k0_chk1 v2 v8) (v11 : BitVec 32) (hw2 : k0_chk2 v5 v8 v11)
    (w0 : v2 = h_v58 seg pre (ix3 b t 0)) (w1 : v5 = h_v58 seg pre (ix3 b t 1)) (w2 : v8 = h_v58 seg pre (ix3 b t 2)) (w3 : v11 = h_v58 seg pre (ix3 b t 3))
    (s : Scratch Ideal × Vec Ideal S1x256x1024 .bf16) (h : Fin 8) (r : Fin 256) (d : Fin 128) :
    (headsFn v2 v5 hw3 v8 hw1 v11 hw2 fst len x4 x5 x6 x7 x8 x9 s).2 (ix3 0 r (headCol h d))
      = Cert.ReferenceIdeal.Read.val_main_v57 (F := Ideal) a1 a3 a5 seg pre r0 r1 r2 (ix3 b (row t r.val r.isLt) ⟨g.val * 1024 + h.val * 128 + d.val, by omega⟩) := by
  obtain ⟨lo, hi, fl, fh, u0, u1, u2, u3, h1, h2, h3, h4, hrow, hfull⟩ := words seg pre hs hn hp b t
  rw [u0] at w0; rw [u1] at w1; rw [u2] at w2; rw [u3] at w3
  subst w0 w1 w2 w3
  have hin := fun (k : Fin 32768) (r : Fin 256) => inside_iff seg pre hs hn hp b t fst len r (hf r) (hl r) k
  have full : ∀ (k : Fin 32768) (r : Fin 256), fl * 256 ≤ k.val → k.val < fh * 256 → inside fst len k r = 1#1 := fun k r hk hk' => (hin k r).mpr (hfull r k.val hk hk')
  refine headsFn_at _ _ hw3 _ hw1 _ hw2 fst len x4 x5 x6 x7 x8 x9 s h r d _ fun oq hoq hq os hos hs' sc => ?_
  obtain ⟨m, hm, e⟩ := headBlock_at x4 x5 x6 x7 x8 x9 fst len lo hi fl fh h1 h2 h3 h4 full hw1 hw2 hw3 h oq hoq hq os hos hs' sc r d
  rw [e, result_at]
  generalize hQ : row t r.val r.isLt = Q at *
  have hy := hpos (ix3 b ⟨g.val * 8 + h.val, by omega⟩ Q)
  obtain ⟨q, hqe⟩ : ∃ q : ℝ, a1 (ix3 b ⟨g.val * 8 + h.val, by omega⟩ Q) = (q : EReal) := ⟨_, (EReal.coe_toReal hy.2.ne (ne_bot_of_gt hy.1)).symm⟩
  have hq0 : 0 < q := by rw [hqe] at hy; exact EReal.coe_pos.mp hy.1
  have hr0 : (0 : ℝ) < (Real.sqrt 128)⁻¹ := by positivity
  let vis : Fin 32768 → Prop := fun k => Sees seg pre b Q k
  let S : Fin 32768 → EReal := fun k => ∑ d : Fin 128, a2 (ix4 b g k d) * a0 (ix3 b Q ⟨g.val * 1024 + h.val * 128 + d.val, by omega⟩)
  let K : Fin 32768 → EReal := fun k => a3 (ix4 b g k 0)
  have hvis : ∀ k, vis k → k ∈ visited (lo * 256) (hi * 256) := by
    intro k hk
    have hk' := (sees_iff seg pre hs hn hp b Q k).mp hk
    have hb := hrow r
    rw [hQ] at hb
    rw [mem_visited]; omega
  have e1 : ∀ k, maskedScore x6 x7 (headQuery x4 h) fst len k r = score vis S K k := by
    intro k
    have hi' : inside fst len k r = 1#1 ↔ vis k := by rw [hin k r, hQ]; exact (sees_iff seg pre hs hn hp b Q k).symm
    have hsum : keyScore x6 x7 (headQuery x4 h) k r = S k * K k := by
      unfold keyScore
      rw [e7, hlane]
      refine congrArg (· * _) (Finset.sum_congr rfl fun d _ => ?_)
      rw [e6]
      refine congrArg (_ * ·) ?_
      refine (e4 r ⟨h.val * 128 + d.val, by omega⟩).trans ?_
      rw [hQ]
      exact congrArg a0 (congrArg (ix3 b Q) (Fin.ext (by show g.val * 1024 + (h.val * 128 + d.val) = g.val * 1024 + h.val * 128 + d.val; omega)))
    unfold maskedScore score
    by_cases hv : vis k
    · rw [if_pos hv, hi'.mpr hv, hsum]; rfl
    · rw [if_neg hv]
      rcases (show ∀ x : BitVec 1, x = 0#1 ∨ x = 1#1 by decide) (inside fst len k r) with hx | hx
      · rw [hx]; rfl
      · exact absurd (hi'.mp hx) hv
  have e2 : ∀ k, scoreAt a1 a3 seg pre r0 r1 b g h Q k = scaled vis S K q (Real.sqrt 128)⁻¹ k := by
    intro k
    have hc : Ideal.div (a1 (ix3 b ⟨g.val * 8 + h.val, by omega⟩ Q)) (Ideal.sqrt (Ideal.ofBits .f32 0x43000000#32)) = ((q * (Real.sqrt 128)⁻¹ : ℝ) : EReal) := by
      rw [hqe]; exact div_root q
    unfold scoreAt scaled
    by_cases hv : vis k
    · rw [if_pos hv, (mask_iff seg pre b Q k).mpr hv, hc]
      simp only [er0, er1]
      rfl
    · rw [if_neg hv]
      rcases (show ∀ x : BitVec 1, x = 0#1 ∨ x = 1#1 by decide) (mask seg pre b Q k) with hx | hx
      · rw [hx]; rfl
      · exact absurd ((mask_iff seg pre b Q k).mp hx) hv
  simp only [e1] at hm ⊢
  have hM : ∀ z, maxAt a1 a3 seg pre r0 r1 b g h Q ≤ z ↔ ∀ k, scaled vis S K q (Real.sqrt 128)⁻¹ k ≤ z := fun z => by
    rw [maxAt_le]; simp only [e2]
  rw [e5, hQ, hqe, e9]
  simp only [e2, e8, er2]
  exact row_eq vis (visited (lo * 256) (hi * 256)) hvis S K (fun k => a4 (ix4 b g d k)) q (Real.sqrt 128)⁻¹ hq0 hr0 m _ _ hm hM

end Cert.KernelIdeal.Body
-- ==== Proof.Value.Blocks.lean ====
/-
The windows' blocks at a grid point, read at an index of the argument arrays.
-/
module

public import proofs.«01_k».proof.Proof.Ideal.Order
public import Idealize.ShloMosaic.Lib.Pointwise
public import Idealize.ShloMosaic.Lib.Pipeline.ValueKit.Geometry

@[expose] public section

noncomputable section

namespace Cert.KernelIdeal.Body

open Idealize.ShloMosaic Idealize.ShloMosaic.TcCoe Cert.KernelIdeal Cert.KernelIdeal.Gen

variable {F : FTy → Type} [FloatOps F] [Named F]
variable (m : (ℓ : Loc nD τ sig) → Buf (Elt F) ℓ)

/-- The group of heads a grid point is at. -/
abbrev groupOf (i : grid0.Coords) : Fin 2 := i 1

theorem small0 (i : grid0.Coords) : (i 0).val % 4294967296 = (i 0).val := Nat.mod_eq_of_lt (lt_trans (show (i 0).val < 3 from (i 0).isLt) (by decide))
theorem small1 (i : grid0.Coords) : (i 1).val % 4294967296 = (i 1).val := Nat.mod_eq_of_lt (lt_trans (show (i 1).val < 2 from (i 1).isLt) (by decide))
theorem small2 (i : grid0.Coords) : (i 2).val % 4294967296 = (i 2).val := Nat.mod_eq_of_lt (lt_trans (show (i 2).val < 128 from (i 2).isLt) (by decide))

theorem iblk_0 (c : Dev nD) (t : Fin (cfgM m).N) (r : Fin 256) (cc : Fin 1024) : iblk m c 0 t (ix3 0 r cc)
    = m ((c : Thread nD τ).loc main_arg0) (ix3 (seqOf (grid0.coords t)) (row (tileOf (grid0.coords t)) r.val r.isLt) ⟨(groupOf (grid0.coords t)).val * 1024 + cc.val, by have := (groupOf (grid0.coords t)).isLt; omega⟩) := by
  refine (congrFun (V_main_arg0 m c) _).trans (congrArg (m ((c : Thread nD τ).loc main_arg0)) (funext fun a => Fin.ext ?_))
  fin_cases a
  · show (grid0.coords t 0).val % 4294967296 * 1 + 1 * 0 = (grid0.coords t 0).val
    rw [small0]; omega
  · show (grid0.coords t 2).val % 4294967296 * 256 + 1 * r.val = (grid0.coords t 2).val * 256 + r.val
    rw [small2]; omega
  · show (grid0.coords t 1).val % 4294967296 * 1024 + 1 * cc.val = (grid0.coords t 1).val * 1024 + cc.val
    rw [small1]; omega

theorem iblk_1 (c : Dev nD) (t : Fin (cfgM m).N) (h : Fin 8) (r : Fin 256) : iblk m c 1 t (ix3 0 h r)
    = m ((c : Thread nD τ).loc main_arg1) (ix3 (seqOf (grid0.coords t)) ⟨(groupOf (grid0.coords t)).val * 8 + h.val, by have := (groupOf (grid0.coords t)).isLt; omega⟩ (row (tileOf (grid0.coords t)) r.val r.isLt)) := by
  refine (congrFun (V_main_arg1 m c) _).trans (congrArg (m ((c : Thread nD τ).loc main_arg1)) (funext fun a => Fin.ext ?_))
  fin_cases a
  · show (grid0.coords t 0).val % 4294967296 * 1 + 1 * 0 = (grid0.coords t 0).val
    rw [small0]; omega
  · show (grid0.coords t 1).val % 4294967296 * 8 + 1 * h.val = (grid0.coords t 1).val * 8 + h.val
    rw [small1]; omega
  · show (grid0.coords t 2).val % 4294967296 * 256 + 1 * r.val = (grid0.coords t 2).val * 256 + r.val
    rw [small2]; omega

theorem iblk_2 (c : Dev nD) (t : Fin (cfgM m).N) (k : Fin 32768) (d : Fin 128) : iblk m c 2 t (ix4 0 0 k d)
    = m ((c : Thread nD τ).loc main_arg2) (ix4 (seqOf (grid0.coords t)) (groupOf (grid0.coords t)) k d) := by
  refine (congrFun (V_main_arg2 m c) _).trans (congrArg (m ((c : Thread nD τ).loc main_arg2)) (funext fun a => Fin.ext ?_))
  fin_cases a
  · show (grid0.coords t 0).val % 4294967296 * 1 + 1 * 0 = (grid0.coords t 0).val
    rw [small0]; omega
  · show (grid0.coords t 1).val % 4294967296 * 1 + 1 * 0 = (grid0.coords t 1).val
    rw [small1]; omega
  · show 0 * 32768 + 1 * k.val = k.val
    omega
  · show 0 * 128 + 1 * d.val = d.val
    omega

theorem iblk_3 (c : Dev nD) (t : Fin (cfgM m).N) (k : Fin 32768) (d : Fin 128) : iblk m c 3 t (ix4 0 0 k d)
    = m ((c : Thread nD τ).loc main_arg3) (ix4 (seqOf (grid0.coords t)) (groupOf (grid0.coords t)) k d) := by
  refine (congrFun (V_main_arg3 m c) _).trans (congrArg (m ((c : Thread nD τ).loc main_arg3)) (funext fun a => Fin.ext ?_))
  fin_cases a
  · show (grid0.coords t 0).val % 4294967296 * 1 + 1 * 0 = (grid0.coords t 0).val
    rw [small0]; omega
  · show (grid0.coords t 1).val % 4294967296 * 1 + 1 * 0 = (grid0.coords t 1).val
    rw [small1]; omega
  · show 0 * 32768 + 1 * k.val = k.val
    omega
  · show 0 * 128 + 1 * d.val = d.val
    omega

theorem iblk_4 (c : Dev nD) (t : Fin (cfgM m).N) (d : Fin 128) (k : Fin 32768) : iblk m c 4 t (ix4 0 0 d k)
    = m ((c : Thread nD τ).loc main_arg4) (ix4 (seqOf (grid0.coords t)) (groupOf (grid0.coords t)) d k) := by
  refine (congrFun (V_main_arg4 m c) _).trans (congrArg (m ((c : Thread nD τ).loc main_arg4)) (funext fun a => Fin.ext ?_))
  fin_cases a
  · show (grid0.coords t 0).val % 4294967296 * 1 + 1 * 0 = (grid0.coords t 0).val
    rw [small0]; omega
  · show (grid0.coords t 1).val % 4294967296 * 1 + 1 * 0 = (grid0.coords t 1).val
    rw [small1]; omega
  · show 0 * 128 + 1 * d.val = d.val
    omega
  · show 0 * 32768 + 1 * k.val = k.val
    omega

theorem iblk_5 (c : Dev nD) (t : Fin (cfgM m).N) (d : Fin 128) : iblk m c 5 t (ix4 0 0 0 d)
    = m ((c : Thread nD τ).loc main_arg5) (ix4 (seqOf (grid0.coords t)) (groupOf (grid0.coords t)) 0 d) := by
  refine (congrFun (V_main_arg5 m c) _).trans (congrArg (m ((c : Thread nD τ).loc main_arg5)) (funext fun a => Fin.ext ?_))
  fin_cases a
  · show (grid0.coords t 0).val % 4294967296 * 1 + 1 * 0 = (grid0.coords t 0).val
    rw [small0]; omega
  · show (grid0.coords t 1).val % 4294967296 * 1 + 1 * 0 = (grid0.coords t 1).val
    rw [small1]; omega
  · show 0 * 1 + 1 * 0 = 0
    omega
  · show 0 * 128 + 1 * d.val = d.val
    omega

theorem wide_59 (seg : IVec S3x32768 32) (pre : IVec S3x32768 1) (b : Fin 3) (q : Fin 32768) : h_v59 seg pre (ix3 b 0 q) = h_v21 seg pre (ix2 b q) := by
  unfold h_v59
  generalize h_v21 seg pre = y
  pointwise
theorem iblk_6 (c : Dev nD) (t : Fin (cfgM m).N) (r : Fin 256) : iblk m c 6 t (ix3 0 0 r)
    = h_v21 (segOf m c) (preOf m c) (ix2 (seqOf (grid0.coords t)) (row (tileOf (grid0.coords t)) r.val r.isLt)) := by
  refine (congrFun (V_v59 m c) _).trans ((congrArg (h_v59 (segOf m c) (preOf m c)) (funext fun a => Fin.ext ?_)).trans (wide_59 _ _ (seqOf (grid0.coords t)) (row (tileOf (grid0.coords t)) r.val r.isLt)))
  fin_cases a
  · show (grid0.coords t 0).val % 4294967296 * 1 + 1 * 0 = (grid0.coords t 0).val
    rw [small0]; omega
  · show 0 * 1 + 1 * 0 = 0
    omega
  · show (grid0.coords t 2).val % 4294967296 * 256 + 1 * r.val = (grid0.coords t 2).val * 256 + r.val
    rw [small2]; omega

theorem wide_60 (seg : IVec S3x32768 32) (pre : IVec S3x32768 1) (b : Fin 3) (q : Fin 32768) : h_v60 seg pre (ix3 b 0 q) = h_v30 seg pre (ix2 b q) := by
  unfold h_v60
  generalize h_v30 seg pre = y
  pointwise
theorem iblk_7 (c : Dev nD) (t : Fin (cfgM m).N) (r : Fin 256) : iblk m c 7 t (ix3 0 0 r)
    = h_v30 (segOf m c) (preOf m c) (ix2 (seqOf (grid0.coords t)) (row (tileOf (grid0.coords t)) r.val r.isLt)) := by
  refine (congrFun (V_v60 m c) _).trans ((congrArg (h_v60 (segOf m c) (preOf m c)) (funext fun a => Fin.ext ?_)).trans (wide_60 _ _ (seqOf (grid0.coords t)) (row (tileOf (grid0.coords t)) r.val r.isLt)))
  fin_cases a
  · show (grid0.coords t 0).val % 4294967296 * 1 + 1 * 0 = (grid0.coords t 0).val
    rw [small0]; omega
  · show 0 * 1 + 1 * 0 = 0
    omega
  · show (grid0.coords t 2).val % 4294967296 * 256 + 1 * r.val = (grid0.coords t 2).val * 256 + r.val
    rw [small2]; omega

end Cert.KernelIdeal.Body
-- ==== Proof.Value.Cover.lean ====
/-
The output blocks tile the result array.
-/
module

public import proofs.«01_k».proof.Proof.Ideal.Order
public import Idealize.ShloMosaic.Lib.Pipeline.Covers
public import Idealize.ShloMosaic.Lib.Pipeline.ValueKit.Geometry

@[expose] public section

noncomputable section

namespace Cert.KernelIdeal.Body

open Idealize.ShloMosaic Idealize.ShloMosaic.TcCoe Cert.KernelIdeal Cert.KernelIdeal.Gen

variable {F : FTy → Type} [FloatOps F] [Named F]
variable (m : (ℓ : Loc nD τ sig) → Buf (Elt F) ℓ)

/-- The grid point of a sequence, a group of heads and a tile. -/
def pointOf (b : Fin 3) (g : Fin 2) (t : Fin 128) : Fin grid0.N :=
  ⟨(b.val * 2 + g.val) * 128 + t.val, by have : grid0.N = 768 := by decide +kernel
                                         omega⟩

theorem coords_point : ∀ (b : Fin 3) (g : Fin 2) (t : Fin 128),
    (grid0.coords (pointOf b g t) 0).val = b.val ∧ (grid0.coords (pointOf b g t) 1).val = g.val ∧ (grid0.coords (pointOf b g t) 2).val = t.val := by
  decide +kernel

theorem covers : ((cfgM m).win 8).Covers := by
  refine ⟨fun a => ?_, fun β => ?_⟩
  · fin_cases a
    · exact Nat.zero_lt_one
    · exact (by decide : 0 < 256)
    · exact (by decide : 0 < 1024)
  · have l0 : (β (0 : Fin 3)).val < 3 := lt_of_lt_of_eq (β (0 : Fin 3)).isLt (show (3 + 1 - 1) / 1 = 3 by norm_num)
    have l1 : (β (1 : Fin 3)).val < 128 := lt_of_lt_of_eq (β (1 : Fin 3)).isLt (show (32768 + 256 - 1) / 256 = 128 by norm_num)
    have l2 : (β (2 : Fin 3)).val < 2 := lt_of_lt_of_eq (β (2 : Fin 3)).isLt (show (2048 + 1024 - 1) / 1024 = 2 by norm_num)
    obtain ⟨t, _, hf, ht⟩ := Pipeline.Window.exists_flush_same_index ((cfgM m).win 8) rfl (pointOf ⟨_, l0⟩ ⟨_, l2⟩ ⟨_, l1⟩)
    obtain ⟨c0, c1, c2⟩ := coords_point ⟨_, l0⟩ ⟨_, l2⟩ ⟨_, l1⟩
    refine ⟨t, hf, fun a => ⟨?_, Or.inl rfl⟩⟩
    rw [ht]
    fin_cases a
    · show (grid0.coords (pointOf ⟨_, l0⟩ ⟨_, l2⟩ ⟨_, l1⟩) 0).val % 4294967296 = _
      rw [c0]
      exact Nat.mod_eq_of_lt (by omega)
    · show (grid0.coords (pointOf ⟨_, l0⟩ ⟨_, l2⟩ ⟨_, l1⟩) 2).val % 4294967296 = _
      rw [c2]
      exact Nat.mod_eq_of_lt (by omega)
    · show (grid0.coords (pointOf ⟨_, l0⟩ ⟨_, l2⟩ ⟨_, l1⟩) 1).val % 4294967296 = _
      rw [c1]
      exact Nat.mod_eq_of_lt (by omega)

end Cert.KernelIdeal.Body
-- ==== Proof.Value.Array.lean ====
/-
The result array from the blocks the grid points write.
-/
module

public import proofs.«01_k».proof.Proof.Value.Cover

@[expose] public section

noncomputable section

namespace Cert.KernelIdeal.Body

open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (ρ : Dev nD → PrngReg)

/-- Where a grid point's block puts its row and column. -/
abbrev placed (i : grid0.Coords) (r : Fin 256) (cc : Fin 1024) : S3x32768x2048.Idx :=
  ix3 (seqOf i) (row (tileOf i) r.val r.isLt) ⟨(i 1).val * 1024 + cc.val, by have : (i 1).val < 2 := (i 1).isLt; omega⟩

theorem word_small {n N : Nat} (h : n < N) (hN : N ≤ 4294967296) : (BitVec.ofNat 32 n).toNat = n :=
  Nat.mod_eq_of_lt (lt_of_lt_of_le h hN)

theorem map8 (i : grid0.Coords) : cc0_transform_8 i = ![(i 0).val, (i 2).val, (i 1).val] := by
  unfold cc0_transform_8
  dsimp only
  rw [word_small (show (i 0).val < 3 from (i 0).isLt) (by decide), word_small (show (i 2).val < 128 from (i 2).isLt) (by decide), word_small (show (i 1).val < 2 from (i 1).isLt) (by decide)]

theorem placed_eq (t : Fin (cfgM m).N) (y : S1x256x1024.Idx) :
    (((cfgM m).win 8).blk t).view.emb y = placed (grid0.coords t) (y 1) (y 2) := by
  have e := map8 (grid0.coords t)
  refine funext fun a => Fin.ext ?_
  have hv : ∀ a : Fin 3, ((((cfgM m).win 8).blk t).view.emb y a).val = cc0_transform_8 (grid0.coords t) a * S1x256x1024.size a + 1 * (y a).val := fun a => rfl
  refine (hv a).trans ?_
  rw [e]
  revert a
  refine fun (a : Fin 3) => ?_
  fin_cases a
  · have hy : (y (0 : Fin 3)).val < 1 := (y (0 : Fin 3)).isLt
    show (grid0.coords t 0).val * 1 + 1 * (y (0 : Fin 3)).val = (grid0.coords t 0).val
    omega
  · show (grid0.coords t 2).val * 256 + 1 * (y (1 : Fin 3)).val = (grid0.coords t 2).val * 256 + (y (1 : Fin 3)).val
    omega
  · show (grid0.coords t 1).val * 1024 + 1 * (y (2 : Fin 3)).val = (grid0.coords t 1).val * 1024 + (y (2 : Fin 3)).val
    omega

variable (outv : (c : Dev nD) → (t : Fin (cfgM m).N) → Vec F S1x256x1024 .bf16) (G : (c : Dev nD) → Vec F S3x32768x2048 .bf16)

theorem array_of (hG : ∀ c t (j : S1x256x1024.Idx), outv c t j = G c (placed (grid0.coords t) (j 1) (j 2))) (c : Dev nD) :
    (dats m outv 0 c).arrAt 8 (cfgM m).N = G c := by
  refine (dats m outv 0 c).arrAt_eq_of_covers 8 _ (covers m) fun t hf y => ?_
  rw [after_8]
  exact (hG c t y).trans (congrArg (G c) (placed_eq m t y).symm)

set_option maxHeartbeats 3200000 in
/-- Every run of the kernel ends with its result array at `G`, when every grid point writes its block of it, the arguments unchanged. -/
theorem run_of (hchk : Checks (table m)) (hout : ∀ c t s, (outAt m hchk c t s).2 = outv c t) (hG : ∀ c t (j : S1x256x1024.Idx), outv c t j = G c (placed (grid0.coords t) (j 1) (j 2))) :
    θ_run defs (onTc (τ := τ) (main (F := F))) ⟨m, fun _ => 0, ρ⟩ fun r => ∀ c : Dev nD,
      r.2.mem ((c.tc : Thread nD τ).loc main_v61) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have a0 := fun c => (dats m outv 0 c).arrAt_in 0 rfl (cfgM m).N
  have a1 := fun c => (dats m outv 0 c).arrAt_in 1 rfl (cfgM m).N
  have a2 := fun c => (dats m outv 0 c).arrAt_in 2 rfl (cfgM m).N
  have a3 := fun c => (dats m outv 0 c).arrAt_in 3 rfl (cfgM m).N
  have a4 := fun c => (dats m outv 0 c).arrAt_in 4 rfl (cfgM m).N
  have a5 := fun c => (dats m outv 0 c).arrAt_in 5 rfl (cfgM m).N
  refine (θ_run defs _ _).mono (fun r (h : _ ∧ _) c => ⟨((h.1 c).1 8).trans (array_of m outv G hG c),
    ((h.1 c).1 0).trans ((a0 c).trans (V_main_arg0 m c)),
    ((h.1 c).1 1).trans ((a1 c).trans (V_main_arg1 m c)),
    ((h.1 c).1 2).trans ((a2 c).trans (V_main_arg2 m c)),
    ((h.1 c).1 3).trans ((a3 c).trans (V_main_arg3 m c)),
    ((h.1 c).1 4).trans ((a4 c).trans (V_main_arg4 m c)),
    ((h.1 c).1 5).trans ((a5 c).trans (V_main_arg5 m c)),
    ((h.1 c).2 main_arg6 (Pipeline.mem_restRefs_of main_arg6 (by decide) (by exact (by decide : ∀ w, Pipeline.arrRef spec0 w ≠ main_arg6)))).trans (V_main_arg6 m c),
    ((h.1 c).2 main_arg7 (Pipeline.mem_restRefs_of main_arg7 (by decide) (by exact (by decide : ∀ w, Pipeline.arrRef spec0 w ≠ main_arg7)))).trans (V_main_arg7 m c)⟩)
    (run_exact m ρ hchk outv hout)

end Cert.KernelIdeal.Body
-- ==== Proof.Value.Fits.lean ====
/-
What the arguments satisfy when `well_formed` holds of them.
-/
module

public import proofs.«01_k».proof.Pre_well_formed
public import proofs.«01_k».proof.Proof.Value.Visible

@[expose] public section

noncomputable section

namespace Cert.KernelIdeal.Body

open Idealize.ShloMosaic Idealize.ShloMosaic.TcCoe Idealize.SL.Sem Cert.KernelIdeal Cert.KernelIdeal.Gen

/-- What the scales, the segment numbers and the marks must satisfy. -/
structure Fits (a1 : FVec Ideal S3x16x32768 .f32) (a3 : FVec Ideal S3x2x32768x128 .f32) (seg : IVec S3x32768 32) (pre : IVec S3x32768 1) : Prop where
  sorted : Ascending seg
  small : Small seg
  initial : Initial seg pre
  scale : ∀ i, 0 < a1 i ∧ a1 i < (⊤ : EReal)
  lanes : ∀ b g k l, a3 (ix4 b g k l) = a3 (ix4 b g k 0)

theorem and_one {x y : BitVec 1} (h : x &&& y = 1#1) : x = 1#1 ∧ y = 1#1 := by revert x y; decide
theorem mark_one {x y : BitVec 1} {p : Bool} (h : ((~~~ x) ||| y) ||| BitVec.ofBool p = 1#1) (hx : x = 1#1) (hp : p = false) : y = 1#1 := by
  subst hx; subst hp; revert y; decide

theorem of_bit {p : Prop} [Decidable p] (h : BitVec.ofBool (decide p) = 1#1) : p := by
  by_cases hp : p
  · exact hp
  · simp [hp] at h

theorem top_eq : Ideal.ofBits .f32 0x7F800000#32 = ⊤ := by simp [Ideal.ofBits, Ideal.ieee]
theorem zero_eq : Ideal.ofBits .f32 0x00000000#32 = 0 := by simp [Ideal.ofBits, Ideal.ieee]

section
variable (a1 : FVec Ideal S3x16x32768 .f32) (a3 : FVec Ideal S3x2x32768x128 .f32) (seg : IVec S3x32768 32) (pre : IVec S3x32768 1)

theorem small_of (hb) (h : andi (cmpi CmpIPredicate.sge seg (broadcastInDim S3x32768 ![] hb (constantI Pre_well_formed.S_ 32 0#32)))
    (cmpi CmpIPredicate.slt seg (broadcastInDim S3x32768 ![] hb (constantI Pre_well_formed.S_ 32 8#32))) = fun _ => 1#1) : Small seg := by
  intro i
  have h := and_one (congrFun h i)
  have h0 : IntOp.cmpi CmpIPredicate.sge (seg i) 0#32 = 1#1 := h.1
  have h8 : IntOp.cmpi CmpIPredicate.slt (seg i) 8#32 = 1#1 := h.2
  rw [WordCmp.cmpi_sge_eq, WordCmp.ofBool_decide_eq_one_iff] at h0
  rw [WordCmp.cmpi_slt_eq, WordCmp.ofBool_decide_eq_one_iff] at h8
  exact ⟨h0, h8⟩

theorem initial_of (h1 h0) (h : ori (ori (noti (extractStridedSlice Pre_well_formed.S3x32767 ![0, 1] pre h1)) (extractStridedSlice Pre_well_formed.S3x32767 ![0, 0] pre h0))
    (cmpi CmpIPredicate.ne (extractStridedSlice Pre_well_formed.S3x32767 ![0, 1] seg h1) (extractStridedSlice Pre_well_formed.S3x32767 ![0, 0] seg h0)) = fun _ => 1#1) : Initial seg pre := by
  intro b k hk hm hsame
  have h := congrFun h (ix2 b ⟨k, by omega⟩)
  have e1 : ∀ {ε : Type} (x : S3x32768.Idx → ε), extractStridedSlice Pre_well_formed.S3x32767 ![0, 1] x h1 (ix2 b ⟨k, by omega⟩) = x (ix2 b ⟨k + 1, hk⟩) := by
    intro ε x
    refine congrArg x (funext fun a => Fin.ext ?_)
    revert a
    refine fun (a : Fin 2) => ?_
    fin_cases a
    · exact Nat.zero_add _
    · exact Nat.add_comm _ _
  have e0 : ∀ {ε : Type} (x : S3x32768.Idx → ε), extractStridedSlice Pre_well_formed.S3x32767 ![0, 0] x h0 (ix2 b ⟨k, by omega⟩) = x (ix2 b ⟨k, by omega⟩) := by
    intro ε x
    refine congrArg x (funext fun a => Fin.ext ?_)
    revert a
    refine fun (a : Fin 2) => ?_
    fin_cases a <;> exact Nat.zero_add _
  have h : ((~~~ (extractStridedSlice Pre_well_formed.S3x32767 ![0, 1] pre h1 (ix2 b ⟨k, by omega⟩))) ||| extractStridedSlice Pre_well_formed.S3x32767 ![0, 0] pre h0 (ix2 b ⟨k, by omega⟩))
    ||| IntOp.cmpi CmpIPredicate.ne (extractStridedSlice Pre_well_formed.S3x32767 ![0, 1] seg h1 (ix2 b ⟨k, by omega⟩)) (extractStridedSlice Pre_well_formed.S3x32767 ![0, 0] seg h0 (ix2 b ⟨k, by omega⟩)) = 1#1 := h
  rw [e1 pre, e0 pre, e1 seg, e0 seg, hsame] at h
  exact mark_one (p := (seg (ix2 b ⟨k + 1, hk⟩)) != (seg (ix2 b ⟨k + 1, hk⟩))) h hm (by simp)

theorem scale_of (hb) (h : andi (cmpf CmpFPredicate.ogt a1 (broadcastInDim S3x16x32768 ![] hb (constant Pre_well_formed.S_ .f32 0x00000000#32)))
    (cmpf CmpFPredicate.olt a1 (broadcastInDim S3x16x32768 ![] hb (constant Pre_well_formed.S_ .f32 0x7F800000#32))) = fun _ => 1#1) :
    ∀ i, 0 < a1 i ∧ a1 i < (⊤ : EReal) := by
  intro i
  have h := and_one (congrFun h i)
  have h0 : Ideal.cmp CmpFPredicate.ogt (a1 i) (Ideal.ofBits .f32 0x00000000#32) = 1#1 := h.1
  have h8 : Ideal.cmp CmpFPredicate.olt (a1 i) (Ideal.ofBits .f32 0x7F800000#32) = 1#1 := h.2
  rw [zero_eq] at h0
  rw [top_eq] at h8
  unfold Ideal.cmp at h0 h8
  exact ⟨of_bit h0, of_bit h8⟩

theorem lanes_of (hl hb) (h : cmpf CmpFPredicate.oeq a3 (broadcastInDim S3x2x32768x128 ![0, 1, 2, 3] hb (extractStridedSlice Pre_well_formed.S3x2x32768x1 ![0, 0, 0, 0] a3 hl)) = fun _ => 1#1) :
    ∀ b g k l, a3 (ix4 b g k l) = a3 (ix4 b g k 0) := by
  intro b g k l
  have h := congrFun h (ix4 b g k l)
  have e : broadcastInDim S3x2x32768x128 ![0, 1, 2, 3] hb (extractStridedSlice Pre_well_formed.S3x2x32768x1 ![0, 0, 0, 0] a3 hl) (ix4 b g k l) = a3 (ix4 b g k 0) := by pointwise
  have h : Ideal.cmp CmpFPredicate.oeq (a3 (ix4 b g k l)) (broadcastInDim S3x2x32768x128 ![0, 1, 2, 3] hb (extractStridedSlice Pre_well_formed.S3x2x32768x1 ![0, 0, 0, 0] a3 hl) (ix4 b g k l)) = 1#1 := h
  rw [e] at h
  unfold Ideal.cmp at h
  exact of_bit h

end

theorem fits_of_fn [Pre_well_formed.Facts] (a0 : FVec Ideal S3x32768x2048 .fp8e4m3) (a1 : FVec Ideal S3x16x32768 .f32) (a2 : FVec Ideal S3x2x32768x128 .fp8e4m3) (a3 : FVec Ideal S3x2x32768x128 .f32)
    (a4 : FVec Ideal S3x2x128x32768 .fp8e4m3) (a5 : FVec Ideal S3x2x1x128 .f32) (seg : IVec S3x32768 32) (pre : IVec S3x32768 1)
    (h : (Pre_well_formed.fn (F := Ideal) a0 a1 a2 a3 a4 a5 seg pre).1 = (fun _ => 1#1)
      ∧ (Pre_well_formed.fn (F := Ideal) a0 a1 a2 a3 a4 a5 seg pre).2.1 = (fun _ => 1#1)
      ∧ (Pre_well_formed.fn (F := Ideal) a0 a1 a2 a3 a4 a5 seg pre).2.2.1 = (fun _ => 1#1)
      ∧ (Pre_well_formed.fn (F := Ideal) a0 a1 a2 a3 a4 a5 seg pre).2.2.2.1 = (fun _ => 1#1)
      ∧ (Pre_well_formed.fn (F := Ideal) a0 a1 a2 a3 a4 a5 seg pre).2.2.2.2 = (fun _ => 1#1)) : Fits a1 a3 seg pre := by
  unfold Pre_well_formed.fn Pre_well_formed.fn_part1 at h
  exact ⟨step_of _ _ _ h.1, small_of _ _ h.2.1, initial_of _ _ _ _ h.2.2.1, scale_of _ _ h.2.2.2.1, lanes_of _ _ _ h.2.2.2.2⟩

end Cert.KernelIdeal.Body
-- ==== Proof.Value.Result.lean ====
/-
The kernel's result array over the reals: attention, at every index.
-/
module

public import proofs.«01_k».proof.Proof.Value.Row
public import proofs.«01_k».proof.Proof.Value.Blocks
public import proofs.«01_k».proof.Proof.Value.Array
public import proofs.«01_k».proof.Proof.Value.Fits

@[expose] public section

noncomputable section

namespace Cert.KernelIdeal.Body

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Attention of the argument arrays. -/
def attention (c : Dev nD) : S3x32768x2048.Idx → EReal :=
  Cert.ReferenceIdeal.Read.val_main_v57 (F := Ideal) (m ((c : Thread nD τ).loc main_arg1)) (m ((c : Thread nD τ).loc main_arg3)) (m ((c : Thread nD τ).loc main_arg5))
    (m ((c : Thread nD τ).loc main_arg6)) (m ((c : Thread nD τ).loc main_arg7)) (fun i => m ((c : Thread nD τ).loc main_arg0) i) (fun i => m ((c : Thread nD τ).loc main_arg2) i) (fun i => m ((c : Thread nD τ).loc main_arg4) i)

/-- The block of it that a grid point writes. -/
def attentionBlock (c : Dev nD) (t : Fin (cfgM m).N) : Vec Ideal S1x256x1024 .bf16 := fun j => attention m c (placed (grid0.coords t) (j 1) (j 2))

theorem flat_row (x : IVec S1x1x256 32) (r : Fin 256) : shapeCast S1x256 x shapeCasts_S1x1x256_S1x256 (ix2 0 r) = x (ix3 0 0 r) := by pointwise

theorem flat_len (x y : IVec S1x1x256 32) (r : Fin 256) : subi (shapeCast S1x256 y shapeCasts_S1x1x256_S1x256) (shapeCast S1x256 x shapeCasts_S1x1x256_S1x256) (ix2 0 r)
    = y (ix3 0 0 r) - x (ix3 0 0 r) := by
  pointwise
  rfl

theorem table_eq (c : Dev nD) : table m = h_v58 (segOf m c) (preOf m c) := by
  obtain rfl : c = 0 := Subsingleton.elim _ _
  exact V_v58 m 0

theorem block_eq (hchk : Checks (table m)) (c : Dev nD) (hm : Fits (m ((c : Thread nD τ).loc main_arg1)) (m ((c : Thread nD τ).loc main_arg3)) (segOf m c) (preOf m c)) (t : Fin (cfgM m).N) (s : Scratch Ideal × Vec Ideal S1x256x1024 .bf16) :
    (outAt m hchk c t s).2 = attentionBlock m c t := by
  funext j
  obtain ⟨r, h, d, rfl⟩ : ∃ (r : Fin 256) (h : Fin 8) (d : Fin 128), j = ix3 0 r (headCol h d) := by
    have h2 : (j 2).val < 1024 := (j 2).isLt
    refine ⟨j 1, ⟨(j 2).val / 128, by omega⟩, ⟨(j 2).val % 128, by omega⟩, funext fun a => ?_⟩
    fin_cases a
    · exact Subsingleton.elim (α := Fin 1) _ _
    · rfl
    · exact Fin.ext (by show (j 2).val = (j 2).val / 128 * 128 + (j 2).val % 128; omega)
  have e := table_eq m c
  unfold outAt outFn attentionBlock attention
  refine (row_at (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (segOf m c) (preOf m c)
    (fun i => m ((c : Thread nD τ).loc main_arg0) i) (fun i => m ((c : Thread nD τ).loc main_arg2) i) (fun i => m ((c : Thread nD τ).loc main_arg4) i)
    (fun _ => rfl) (fun _ => rfl) (fun _ => rfl) hm.sorted hm.small hm.initial hm.scale hm.lanes
    (seqOf (grid0.coords t)) (groupOf (grid0.coords t)) (tileOf (grid0.coords t))
    (iblk m c 0 t) (iblk m c 1 t) (iblk m c 2 t) (iblk m c 3 t) (iblk m c 4 t) (iblk m c 5 t)
    (iblk_0 m c t) (iblk_1 m c t) (iblk_2 m c t) (iblk_3 m c t) (iblk_4 m c t) (iblk_5 m c t) _ _
    (fun r => (flat_row _ r).trans (iblk_6 m c t r)) (fun r => (flat_len _ _ r).trans (congrArg₂ (· - ·) (iblk_7 m c t r) (iblk_6 m c t r)))
    _ _ _ _ _ _ _ ((word1 _ _).trans (congrFun e _)) ((word2 _ _).trans (congrFun e _)) ((word3 _ _).trans (congrFun e _)) ((word4 _ _).trans (congrFun e _))
    s h r d).trans ?_
  refine congrArg (Cert.ReferenceIdeal.Read.val_main_v57 (F := Ideal) _ _ _ _ _ _ _ _) (congrArg (ix3 _ _) (Fin.ext ?_))
  show (groupOf (grid0.coords t)).val * 1024 + h.val * 128 + d.val = (groupOf (grid0.coords t)).val * 1024 + (h.val * 128 + d.val)
  omega

/-- Every run of the kernel ends with its result array at `attention`, the arguments unchanged. -/
theorem run (hm : ∀ c : Dev nD, Fits (m ((c : Thread nD τ).loc main_arg1)) (m ((c : Thread nD τ).loc main_arg3)) (segOf m c) (preOf m c)) :
    θ_run defs (onTc (τ := τ) (main (F := Ideal))) ⟨m, fun _ => 0, ρ⟩ fun r => ∀ c : Dev nD,
      r.2.mem ((c.tc : Thread nD τ).loc main_v61) = attention m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hchk : Checks (table m) := checks_of m (hm 0).sorted
  exact run_of m ρ (attentionBlock m) (attention m) hchk (fun c t s => block_eq m hchk c (hm c) t s) fun c t j => rfl

end Cert.KernelIdeal.Body
-- ==== Proof.Value.Widened.lean ====
/-
The reference's run, read: the widened codes are the codes, and its result array is the staged term of the arguments.
-/
module

public import proofs.«01_k».proof.Proof.Gen.ReferenceIdeal.Read
public import proofs.«01_k».proof.Proof.Gen.ReferenceIdeal.Run
public import Idealize.ShloMosaic.Lib.Pipeline.ValueKit.Geometry
public import Idealize.ShloMosaic.Lib.Pointwise

@[expose] public section

noncomputable section

namespace Cert.ReferenceIdeal.Row

open Idealize.ShloMosaic Idealize.ShloMosaic.TcCoe Idealize.SL.Sem Cert.ReferenceIdeal Cert.ReferenceIdeal.Gen

variable (m : (ℓ : Loc nD τ sig) → Buf (Elt Ideal) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The codes, as the region finds them. -/
abbrev code0 (c : Dev nD) : S3x32768x2048.Idx → EReal := fun i => m ((c : Thread nD τ).loc main_arg0) i
abbrev code1 (c : Dev nD) : S3x2x32768x128.Idx → EReal := fun i => m ((c : Thread nD τ).loc main_arg2) i
abbrev code2 (c : Dev nD) : S3x2x128x32768.Idx → EReal := fun i => m ((c : Thread nD τ).loc main_arg4) i

theorem widened_0 (c : Dev nD) : Value.reg_main_v0_0 m c = code0 m c := by
  unfold Value.reg_main_v0_0
  refine (Gen.dats m 0 c).arrAt_eq_of_covers 3 _ (by decide +kernel) fun t hf y => ?_
  rw [after0_3]
  unfold out0_3
  rw [View.canon_unit_zero hz3, View.ld_unit_zero hz3]
  rfl

theorem widened_1 (c : Dev nD) : Value.reg_main_v0_1 m c = code1 m c := by
  unfold Value.reg_main_v0_1
  refine (Gen.dats m 0 c).arrAt_eq_of_covers 4 _ (by decide +kernel) fun t hf y => ?_
  rw [after0_4]
  unfold out0_4
  rw [View.canon_unit_zero hz4, View.ld_unit_zero hz4]
  rfl

theorem widened_2 (c : Dev nD) : Value.reg_main_v0_2 m c = code2 m c := by
  unfold Value.reg_main_v0_2
  refine (Gen.dats m 0 c).arrAt_eq_of_covers 5 _ (by decide +kernel) fun t hf y => ?_
  rw [after0_5]
  unfold out0_5
  rw [View.canon_unit_zero hz4, View.ld_unit_zero hz4]
  rfl

/-- The reference's result. -/
def result (c : Dev nD) : S3x32768x2048.Idx → EReal :=
  Read.val_main_v57 (F := Ideal) (m ((c : Thread nD τ).loc main_arg1)) (m ((c : Thread nD τ).loc main_arg3)) (m ((c : Thread nD τ).loc main_arg5))
    (m ((c : Thread nD τ).loc main_arg6)) (m ((c : Thread nD τ).loc main_arg7)) (code0 m c) (code1 m c) (code2 m c)

theorem result_of_exit (c : Dev nD) (x : S3x32768x2048.Idx → EReal)
    (h : x = Read.val_main_v57 (F := Ideal) (Value.exitV m c (Proc.devRef .tc main_arg1)) (Value.exitV m c (Proc.devRef .tc main_arg3)) (Value.exitV m c (Proc.devRef .tc main_arg5))
      (Value.exitV m c (Proc.devRef .tc main_arg6)) (Value.exitV m c (Proc.devRef .tc main_arg7)) (Value.exitV m c (Proc.devRef .tc main_v0_0)) (Value.exitV m c (Proc.devRef .tc main_v0_1)) (Value.exitV m c (Proc.devRef .tc main_v0_2))) :
    x = result m c := by
  rw [h, Value.exit_main_arg1, Value.exit_main_arg3, Value.exit_main_arg5, Value.exit_main_arg6, Value.exit_main_arg7,
    Value.exit_main_v0_0, Value.exit_main_v0_1, Value.exit_main_v0_2, widened_0, widened_1, widened_2]
  rfl

/-- Every run of the reference ends with its result array at `result`, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_of_exit m c _ (Read.val_main_v57_eq (F := Ideal) (Value.exitV m c))), (h c).2⟩) (Value.run m ρ)

end Cert.ReferenceIdeal.Row
-- ==== Proof.Value.Algebraic.lean ====
/-
The attention launch over the reals is the reference's attention.
-/
module

public import proofs.«01_k».proof.Defs
public import proofs.«01_k».proof.Proof.Gen.Pre_well_formed
public import proofs.«01_k».proof.Proof.Value.Result
public import proofs.«01_k».proof.Proof.Value.Widened

@[expose] public section

noncomputable section

namespace Cert.Proof

open Idealize.ShloMosaic Idealize.ShloMosaic.TcCoe Idealize.SL.Sem Cert.KernelIdeal Cert.KernelIdeal.Gen

theorem fits (m : (ℓ : Loc nD τ sig) → Buf (Elt Ideal) ℓ) (h : Cert.Pre_KernelIdeal_well_formed m) (c : Dev nD) :
    Body.Fits (m ((c : Thread nD τ).loc main_arg1)) (m ((c : Thread nD τ).loc main_arg3)) (Body.segOf m c) (Body.preOf m c) :=
  Body.fits_of_fn _ _ _ _ _ _ _ _ (h c)

/-- The program over the reals, of well formed arguments. -/
theorem runs_well_formed : Cert.quiescent_KernelIdeal_pre_well_formed := fun m g h =>
  Body.frame m g (Body.checks_of m (fits m h 0).sorted)

theorem value_congr {a1 b1 : FVec Ideal S3x16x32768 .f32} {a3 b3 : FVec Ideal S3x2x32768x128 .f32} {a5 b5 : FVec Ideal S3x2x1x128 .f32} {s s' : IVec S3x32768 32} {p p' : IVec S3x32768 1}
    {q q' : FVec Ideal S3x32768x2048 .f32} {k k' : FVec Ideal S3x2x32768x128 .f32} {v v' : FVec Ideal S3x2x128x32768 .f32}
    (e1 : a1 = b1) (e3 : a3 = b3) (e5 : a5 = b5) (es : s = s') (ep : p = p') (eq : q = q') (ek : k = k') (ev : v = v') :
    Cert.ReferenceIdeal.Read.val_main_v57 (F := Ideal) a1 a3 a5 s p q k v = Cert.ReferenceIdeal.Read.val_main_v57 (F := Ideal) b1 b3 b5 s' p' q' k' v' := by
  subst e1 e3 e5 es ep eq ek ev
  rfl

/-- From arguments that agree, the program's result array and the reference's are equal, element by element, over the reals. -/
theorem algebraic : Cert.algebraic_KernelIdeal_ReferenceIdeal_pre_well_formed := by
  intro m g m' g' h agree
  refine ⟨fun c => Body.attention m c, Body.run m g fun c => fits m h c, ?_⟩
  refine (θ_run _ _ _).mono (fun _ hr c => ⟨(hr c).1.trans ?_, (hr c).2⟩) (Cert.ReferenceIdeal.Row.run m' g')
  obtain ⟨e0, e1, e2, e3, e4, e5, e6, e7⟩ := agree c
  unfold Cert.ReferenceIdeal.Row.result Body.attention
  exact value_congr e1 e3 e5 e6 e7 (funext fun i => congrFun e0 i) (funext fun i => congrFun e2 i) (funext fun i => congrFun e4 i)

end Cert.Proof
-- ==== Proof.lean ====
/-
The attention launch and the host lines that build its tables: the program runs and changes no argument at both
readings of its numbers, the reference runs, the one named constant stands for the number it names, and over the reals
the launch's result is the reference's, element by element.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_sorted_segments
public import proofs.«01_k».proof.Proof.Gen.Pre_well_formed
public import proofs.«01_k».proof.Proof.Bits.Order
public import proofs.«01_k».proof.Proof.Ideal.Order
public import proofs.«01_k».proof.Proof.Value.Algebraic

@[expose] public section

noncomputable section

namespace Cert.Proof

open Idealize.ShloMosaic Idealize.SL.Sem

/-- The program as it runs. -/
theorem runs : Cert.quiescent_Kernel := fun m g h =>
  Cert.Kernel.Body.frame m g (Cert.Kernel.Body.checks_of m (Cert.Kernel.Body.ascending m h))

/-- The program over the reals. -/
theorem runs_ideal : Cert.quiescent_KernelIdeal := fun m g h =>
  Cert.KernelIdeal.Body.frame m g (Cert.KernelIdeal.Body.checks_of m (Cert.KernelIdeal.Body.ascending m h))

/-- The reference over the reals. -/
theorem reference_runs : Cert.quiescent_ReferenceIdeal := fun m g _ => Cert.ReferenceIdeal.Gen.frame m g

/-- The reference over the reals, of well formed arguments. -/
theorem reference_runs_well_formed : Cert.quiescent_ReferenceIdeal_pre_well_formed := fun m g _ => Cert.ReferenceIdeal.Gen.frame m g

/-- The literal named `scale_log2e` is the float of the number it names. -/
theorem preserves : Cert.preserves_Kernel_KernelIdeal :=
  IdealRules.named_const.statement Cert.KernelIdeal.κ "scale_log2e" .f32 0x3E0293EE#32 (((Real.sqrt 128)⁻¹ * (Real.log 2)⁻¹ : ℝ) : EReal) rfl

theorem claim : Cert.Claim :=
  ⟨Cert.Kernel.Gen.facts, Cert.KernelIdeal.Gen.facts, Cert.ReferenceIdeal.Gen.facts, Cert.Pre_sorted_segments.Gen.facts, Cert.Pre_well_formed.Gen.facts,
    runs, runs_ideal, runs_well_formed, reference_runs, reference_runs_well_formed, preserves, algebraic⟩

end Cert.Proof

end
